-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInReferenceIdeal (m : (ℓ : Loc Cert.WgradInReferenceIdeal.nD Cert.WgradInReferenceIdeal.τ Cert.WgradInReferenceIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutReferenceIdeal (m : (ℓ : Loc Cert.WgradOutReferenceIdeal.nD Cert.WgradOutReferenceIdeal.τ Cert.WgradOutReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_InEvenGrad (m : (ℓ : Loc Cert.InEvenGrad.nD Cert.InEvenGrad.τ Cert.InEvenGrad.sig) → Buf (Elt Bits) ℓ) : Prop :=
  True

def Pre_InEvenGradIdeal (m : (ℓ : Loc Cert.InEvenGradIdeal.nD Cert.InEvenGradIdeal.τ Cert.InEvenGradIdeal.sig) → Buf (Elt Ideal) ℓ) : Prop :=
  True

def Pre_InEvenGradReferenceIdeal (m : (ℓ : Loc Cert.InEvenGradReferenceIdeal.nD Cert.InEvenGradReferenceIdeal.τ Cert.InEvenGradReferenceIdeal.sig) → Buf (Elt Ideal) ℓ) : Prop :=
  True

def Pre_InOddGrad (m : (ℓ : Loc Cert.InOddGrad.nD Cert.InOddGrad.τ Cert.InOddGrad.sig) → Buf (Elt Bits) ℓ) : Prop :=
  True

def Pre_InOddGradIdeal (m : (ℓ : Loc Cert.InOddGradIdeal.nD Cert.InOddGradIdeal.τ Cert.InOddGradIdeal.sig) → Buf (Elt Ideal) ℓ) : Prop :=
  True

def Pre_InOddGradReferenceIdeal (m : (ℓ : Loc Cert.InOddGradReferenceIdeal.nD Cert.InOddGradReferenceIdeal.τ Cert.InOddGradReferenceIdeal.sig) → Buf (Elt Ideal) ℓ) : Prop :=
  True

def Pre_InEvenWgrad (m : (ℓ : Loc Cert.InEvenWgrad.nD Cert.InEvenWgrad.τ Cert.InEvenWgrad.sig) → Buf (Elt Bits) ℓ) : Prop :=
  True

def Pre_InEvenWgradIdeal (m : (ℓ : Loc Cert.InEvenWgradIdeal.nD Cert.InEvenWgradIdeal.τ Cert.InEvenWgradIdeal.sig) → Buf (Elt Ideal) ℓ) : Prop :=
  True

def Pre_InEvenWgradReferenceIdeal (m : (ℓ : Loc Cert.InEvenWgradReferenceIdeal.nD Cert.InEvenWgradReferenceIdeal.τ Cert.InEvenWgradReferenceIdeal.sig) → Buf (Elt Ideal) ℓ) : Prop :=
  True

def Pre_InOddWgrad (m : (ℓ : Loc Cert.InOddWgrad.nD Cert.InOddWgrad.τ Cert.InOddWgrad.sig) → Buf (Elt Bits) ℓ) : Prop :=
  True

def Pre_InOddWgradIdeal (m : (ℓ : Loc Cert.InOddWgradIdeal.nD Cert.InOddWgradIdeal.τ Cert.InOddWgradIdeal.sig) → Buf (Elt Ideal) ℓ) : Prop :=
  True

def Pre_InOddWgradReferenceIdeal (m : (ℓ : Loc Cert.InOddWgradReferenceIdeal.nD Cert.InOddWgradReferenceIdeal.τ Cert.InOddWgradReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradReferenceIdeal (m : (ℓ : Loc Cert.OutWgradReferenceIdeal.nD Cert.OutWgradReferenceIdeal.τ Cert.OutWgradReferenceIdeal.sig) → Buf (Elt Ideal) ℓ) : Prop :=
  True

def Pre_AttGrad (m : (ℓ : Loc Cert.AttGrad.nD Cert.AttGrad.τ Cert.AttGrad.sig) → Buf (Elt Bits) ℓ) : Prop :=
  True

def Pre_AttGradIdeal (m : (ℓ : Loc Cert.AttGradIdeal.nD Cert.AttGradIdeal.τ Cert.AttGradIdeal.sig) → Buf (Elt Ideal) ℓ) : Prop :=
  True

def Pre_AttGradIdeal_att_finite [hPre_att_finite : Cert.Pre_att_finite.Facts] (m : (ℓ : Loc Cert.AttGradIdeal.nD Cert.AttGradIdeal.τ Cert.AttGradIdeal.sig) → Buf (Elt Ideal) ℓ) : Prop :=
  ∀ c : Dev Cert.AttGradIdeal.nD,
    (Cert.Pre_att_finite.fn (F := Ideal) (m ((c.tc : Thread Cert.AttGradIdeal.nD Cert.AttGradIdeal.τ).loc Cert.AttGradIdeal.main_arg0)) (m ((c.tc : Thread Cert.AttGradIdeal.nD Cert.AttGradIdeal.τ).loc Cert.AttGradIdeal.main_arg1)) (m ((c.tc : Thread Cert.AttGradIdeal.nD Cert.AttGradIdeal.τ).loc Cert.AttGradIdeal.main_arg2)) (m ((c.tc : Thread Cert.AttGradIdeal.nD Cert.AttGradIdeal.τ).loc Cert.AttGradIdeal.main_arg3))) = (fun _ => 1#1)

def Pre_AttGradReferenceIdeal (m : (ℓ : Loc Cert.AttGradReferenceIdeal.nD Cert.AttGradReferenceIdeal.τ Cert.AttGradReferenceIdeal.sig) → Buf (Elt Ideal) ℓ) : Prop :=
  True

def Pre_AttGradReferenceIdeal_att_finite [hPre_att_finite : Cert.Pre_att_finite.Facts] (m : (ℓ : Loc Cert.AttGradReferenceIdeal.nD Cert.AttGradReferenceIdeal.τ Cert.AttGradReferenceIdeal.sig) → Buf (Elt Ideal) ℓ) : Prop :=
  ∀ c : Dev Cert.AttGradReferenceIdeal.nD,
    (Cert.Pre_att_finite.fn (F := Ideal) (m ((c.tc : Thread Cert.AttGradReferenceIdeal.nD Cert.AttGradReferenceIdeal.τ).loc Cert.AttGradReferenceIdeal.main_arg0)) (m ((c.tc : Thread Cert.AttGradReferenceIdeal.nD Cert.AttGradReferenceIdeal.τ).loc Cert.AttGradReferenceIdeal.main_arg1)) (m ((c.tc : Thread Cert.AttGradReferenceIdeal.nD Cert.AttGradReferenceIdeal.τ).loc Cert.AttGradReferenceIdeal.main_arg2)) (m ((c.tc : Thread Cert.AttGradReferenceIdeal.nD Cert.AttGradReferenceIdeal.τ).loc Cert.AttGradReferenceIdeal.main_arg3))) = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_att_fwd_finite [hPre_att_fwd_finite : Cert.Pre_att_fwd_finite.Facts] (m : (ℓ : Loc Cert.AttIdeal.nD Cert.AttIdeal.τ Cert.AttIdeal.sig) → Buf (Elt Ideal) ℓ) : Prop :=
  ∀ c : Dev Cert.AttIdeal.nD,
    (Cert.Pre_att_fwd_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_att_fwd_finite [hPre_att_fwd_finite : Cert.Pre_att_fwd_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_att_fwd_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2))) = (fun _ => 1#1)

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInReferenceIdeal (m : (ℓ : Loc Cert.AdamEvenInReferenceIdeal.nD Cert.AdamEvenInReferenceIdeal.τ Cert.AdamEvenInReferenceIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInReferenceIdeal (m : (ℓ : Loc Cert.AdamOddInReferenceIdeal.nD Cert.AdamOddInReferenceIdeal.τ Cert.AdamOddInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModReferenceIdeal (m : (ℓ : Loc Cert.AdamModReferenceIdeal.nD Cert.AdamModReferenceIdeal.τ Cert.AdamModReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ r.2.sem = fun _ => 0)

def quiescent_WgradInReferenceIdeal [hWgradInReferenceIdeal : Cert.WgradInReferenceIdeal.Facts] : Prop :=
  ∀ (m : (ℓ : Loc Cert.WgradInReferenceIdeal.nD Cert.WgradInReferenceIdeal.τ Cert.WgradInReferenceIdeal.sig) → Buf (Elt Ideal) ℓ) (g : Dev Cert.WgradInReferenceIdeal.nD → PrngReg), Pre_WgradInReferenceIdeal m →
    θ_run (Cert.WgradInReferenceIdeal.defs (F := Ideal)) (onTc (τ := Cert.WgradInReferenceIdeal.τ) (Cert.WgradInReferenceIdeal.main (F := Ideal))) ⟨m, fun _ => 0, g⟩ (fun r => (∀ c : Dev Cert.WgradInReferenceIdeal.nD,
      r.2.mem ((c.tc : Thread Cert.WgradInReferenceIdeal.nD Cert.WgradInReferenceIdeal.τ).loc Cert.WgradInReferenceIdeal.main_arg0) = m ((c.tc : Thread Cert.WgradInReferenceIdeal.nD Cert.WgradInReferenceIdeal.τ).loc Cert.WgradInReferenceIdeal.main_arg0)
      ∧ r.2.mem ((c.tc : Thread Cert.WgradInReferenceIdeal.nD Cert.WgradInReferenceIdeal.τ).loc Cert.WgradInReferenceIdeal.main_arg1) = m ((c.tc : Thread Cert.WgradInReferenceIdeal.nD Cert.WgradInReferenceIdeal.τ).loc Cert.WgradInReferenceIdeal.main_arg1)
      ∧ r.2.mem ((c.tc : Thread Cert.WgradInReferenceIdeal.nD Cert.WgradInReferenceIdeal.τ).loc Cert.WgradInReferenceIdeal.main_arg2) = m ((c.tc : Thread Cert.WgradInReferenceIdeal.nD Cert.WgradInReferenceIdeal.τ).loc Cert.WgradInReferenceIdeal.main_arg2))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1)
      ∧ r.2.mem ((c.tc : Thread Cert.WgradOut.nD Cert.WgradOut.τ).loc Cert.WgradOut.main_arg2) = m ((c.tc : Thread Cert.WgradOut.nD Cert.WgradOut.τ).loc Cert.WgradOut.main_arg2))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
      ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ r.2.sem = fun _ => 0)

def quiescent_WgradOutReferenceIdeal [hWgradOutReferenceIdeal : Cert.WgradOutReferenceIdeal.Facts] : Prop :=
  ∀ (m : (ℓ : Loc Cert.WgradOutReferenceIdeal.nD Cert.WgradOutReferenceIdeal.τ Cert.WgradOutReferenceIdeal.sig) → Buf (Elt Ideal) ℓ) (g : Dev Cert.WgradOutReferenceIdeal.nD → PrngReg), Pre_WgradOutReferenceIdeal m →
    θ_run (Cert.WgradOutReferenceIdeal.defs (F := Ideal)) (onTc (τ := Cert.WgradOutReferenceIdeal.τ) (Cert.WgradOutReferenceIdeal.main (F := Ideal))) ⟨m, fun _ => 0, g⟩ (fun r => (∀ c : Dev Cert.WgradOutReferenceIdeal.nD,
      r.2.mem ((c.tc : Thread Cert.WgradOutReferenceIdeal.nD Cert.WgradOutReferenceIdeal.τ).loc Cert.WgradOutReferenceIdeal.main_arg0) = m ((c.tc : Thread Cert.WgradOutReferenceIdeal.nD Cert.WgradOutReferenceIdeal.τ).loc Cert.WgradOutReferenceIdeal.main_arg0)
      ∧ r.2.mem ((c.tc : Thread Cert.WgradOutReferenceIdeal.nD Cert.WgradOutReferenceIdeal.τ).loc Cert.WgradOutReferenceIdeal.main_arg1) = m ((c.tc : Thread Cert.WgradOutReferenceIdeal.nD Cert.WgradOutReferenceIdeal.τ).loc Cert.WgradOutReferenceIdeal.main_arg1)
      ∧ r.2.mem ((c.tc : Thread Cert.WgradOutReferenceIdeal.nD Cert.WgradOutReferenceIdeal.τ).loc Cert.WgradOutReferenceIdeal.main_arg2) = m ((c.tc : Thread Cert.WgradOutReferenceIdeal.nD Cert.WgradOutReferenceIdeal.τ).loc Cert.WgradOutReferenceIdeal.main_arg2))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_InEvenGrad [hInEvenGrad : Cert.InEvenGrad.Facts] : Prop :=
  ∀ (m : (ℓ : Loc Cert.InEvenGrad.nD Cert.InEvenGrad.τ Cert.InEvenGrad.sig) → Buf (Elt Bits) ℓ) (g : Dev Cert.InEvenGrad.nD → PrngReg), Pre_InEvenGrad m →
    θ_run (Cert.InEvenGrad.defs (F := Bits)) (onTc (τ := Cert.InEvenGrad.τ) (Cert.InEvenGrad.main (F := Bits))) ⟨m, fun _ => 0, g⟩ (fun r => (∀ c : Dev Cert.InEvenGrad.nD,
      r.2.mem ((c.tc : Thread Cert.InEvenGrad.nD Cert.InEvenGrad.τ).loc Cert.InEvenGrad.main_arg0) = m ((c.tc : Thread Cert.InEvenGrad.nD Cert.InEvenGrad.τ).loc Cert.InEvenGrad.main_arg0)
      ∧ r.2.mem ((c.tc : Thread Cert.InEvenGrad.nD Cert.InEvenGrad.τ).loc Cert.InEvenGrad.main_arg1) = m ((c.tc : Thread Cert.InEvenGrad.nD Cert.InEvenGrad.τ).loc Cert.InEvenGrad.main_arg1)
      ∧ r.2.mem ((c.tc : Thread Cert.InEvenGrad.nD Cert.InEvenGrad.τ).loc Cert.InEvenGrad.main_arg2) = m ((c.tc : Thread Cert.InEvenGrad.nD Cert.InEvenGrad.τ).loc Cert.InEvenGrad.main_arg2))
      ∧ r.2.sem = fun _ => 0)

def quiescent_InEvenGradIdeal [hInEvenGradIdeal : Cert.InEvenGradIdeal.Facts] : Prop :=
  ∀ (m : (ℓ : Loc Cert.InEvenGradIdeal.nD Cert.InEvenGradIdeal.τ Cert.InEvenGradIdeal.sig) → Buf (Elt Ideal) ℓ) (g : Dev Cert.InEvenGradIdeal.nD → PrngReg), Pre_InEvenGradIdeal m →
    θ_run (Cert.InEvenGradIdeal.defs (F := Ideal)) (onTc (τ := Cert.InEvenGradIdeal.τ) (Cert.InEvenGradIdeal.main (F := Ideal))) ⟨m, fun _ => 0, g⟩ (fun r => (∀ c : Dev Cert.InEvenGradIdeal.nD,
      r.2.mem ((c.tc : Thread Cert.InEvenGradIdeal.nD Cert.InEvenGradIdeal.τ).loc Cert.InEvenGradIdeal.main_arg0) = m ((c.tc : Thread Cert.InEvenGradIdeal.nD Cert.InEvenGradIdeal.τ).loc Cert.InEvenGradIdeal.main_arg0)
      ∧ r.2.mem ((c.tc : Thread Cert.InEvenGradIdeal.nD Cert.InEvenGradIdeal.τ).loc Cert.InEvenGradIdeal.main_arg1) = m ((c.tc : Thread Cert.InEvenGradIdeal.nD Cert.InEvenGradIdeal.τ).loc Cert.InEvenGradIdeal.main_arg1)
      ∧ r.2.mem ((c.tc : Thread Cert.InEvenGradIdeal.nD Cert.InEvenGradIdeal.τ).loc Cert.InEvenGradIdeal.main_arg2) = m ((c.tc : Thread Cert.InEvenGradIdeal.nD Cert.InEvenGradIdeal.τ).loc Cert.InEvenGradIdeal.main_arg2))
      ∧ r.2.sem = fun _ => 0)

def quiescent_InEvenGradReferenceIdeal [hInEvenGradReferenceIdeal : Cert.InEvenGradReferenceIdeal.Facts] : Prop :=
  ∀ (m : (ℓ : Loc Cert.InEvenGradReferenceIdeal.nD Cert.InEvenGradReferenceIdeal.τ Cert.InEvenGradReferenceIdeal.sig) → Buf (Elt Ideal) ℓ) (g : Dev Cert.InEvenGradReferenceIdeal.nD → PrngReg), Pre_InEvenGradReferenceIdeal m →
    θ_run (Cert.InEvenGradReferenceIdeal.defs (F := Ideal)) (onTc (τ := Cert.InEvenGradReferenceIdeal.τ) (Cert.InEvenGradReferenceIdeal.main (F := Ideal))) ⟨m, fun _ => 0, g⟩ (fun r => (∀ c : Dev Cert.InEvenGradReferenceIdeal.nD,
      r.2.mem ((c.tc : Thread Cert.InEvenGradReferenceIdeal.nD Cert.InEvenGradReferenceIdeal.τ).loc Cert.InEvenGradReferenceIdeal.main_arg0) = m ((c.tc : Thread Cert.InEvenGradReferenceIdeal.nD Cert.InEvenGradReferenceIdeal.τ).loc Cert.InEvenGradReferenceIdeal.main_arg0)
      ∧ r.2.mem ((c.tc : Thread Cert.InEvenGradReferenceIdeal.nD Cert.InEvenGradReferenceIdeal.τ).loc Cert.InEvenGradReferenceIdeal.main_arg1) = m ((c.tc : Thread Cert.InEvenGradReferenceIdeal.nD Cert.InEvenGradReferenceIdeal.τ).loc Cert.InEvenGradReferenceIdeal.main_arg1)
      ∧ r.2.mem ((c.tc : Thread Cert.InEvenGradReferenceIdeal.nD Cert.InEvenGradReferenceIdeal.τ).loc Cert.InEvenGradReferenceIdeal.main_arg2) = m ((c.tc : Thread Cert.InEvenGradReferenceIdeal.nD Cert.InEvenGradReferenceIdeal.τ).loc Cert.InEvenGradReferenceIdeal.main_arg2))
      ∧ r.2.sem = fun _ => 0)

def quiescent_InOddGrad [hInOddGrad : Cert.InOddGrad.Facts] : Prop :=
  ∀ (m : (ℓ : Loc Cert.InOddGrad.nD Cert.InOddGrad.τ Cert.InOddGrad.sig) → Buf (Elt Bits) ℓ) (g : Dev Cert.InOddGrad.nD → PrngReg), Pre_InOddGrad m →
    θ_run (Cert.InOddGrad.defs (F := Bits)) (onTc (τ := Cert.InOddGrad.τ) (Cert.InOddGrad.main (F := Bits))) ⟨m, fun _ => 0, g⟩ (fun r => (∀ c : Dev Cert.InOddGrad.nD,
      r.2.mem ((c.tc : Thread Cert.InOddGrad.nD Cert.InOddGrad.τ).loc Cert.InOddGrad.main_arg0) = m ((c.tc : Thread Cert.InOddGrad.nD Cert.InOddGrad.τ).loc Cert.InOddGrad.main_arg0)
      ∧ r.2.mem ((c.tc : Thread Cert.InOddGrad.nD Cert.InOddGrad.τ).loc Cert.InOddGrad.main_arg1) = m ((c.tc : Thread Cert.InOddGrad.nD Cert.InOddGrad.τ).loc Cert.InOddGrad.main_arg1)
      ∧ r.2.mem ((c.tc : Thread Cert.InOddGrad.nD Cert.InOddGrad.τ).loc Cert.InOddGrad.main_arg2) = m ((c.tc : Thread Cert.InOddGrad.nD Cert.InOddGrad.τ).loc Cert.InOddGrad.main_arg2))
      ∧ r.2.sem = fun _ => 0)

def quiescent_InOddGradIdeal [hInOddGradIdeal : Cert.InOddGradIdeal.Facts] : Prop :=
  ∀ (m : (ℓ : Loc Cert.InOddGradIdeal.nD Cert.InOddGradIdeal.τ Cert.InOddGradIdeal.sig) → Buf (Elt Ideal) ℓ) (g : Dev Cert.InOddGradIdeal.nD → PrngReg), Pre_InOddGradIdeal m →
    θ_run (Cert.InOddGradIdeal.defs (F := Ideal)) (onTc (τ := Cert.InOddGradIdeal.τ) (Cert.InOddGradIdeal.main (F := Ideal))) ⟨m, fun _ => 0, g⟩ (fun r => (∀ c : Dev Cert.InOddGradIdeal.nD,
      r.2.mem ((c.tc : Thread Cert.InOddGradIdeal.nD Cert.InOddGradIdeal.τ).loc Cert.InOddGradIdeal.main_arg0) = m ((c.tc : Thread Cert.InOddGradIdeal.nD Cert.InOddGradIdeal.τ).loc Cert.InOddGradIdeal.main_arg0)
      ∧ r.2.mem ((c.tc : Thread Cert.InOddGradIdeal.nD Cert.InOddGradIdeal.τ).loc Cert.InOddGradIdeal.main_arg1) = m ((c.tc : Thread Cert.InOddGradIdeal.nD Cert.InOddGradIdeal.τ).loc Cert.InOddGradIdeal.main_arg1)
      ∧ r.2.mem ((c.tc : Thread Cert.InOddGradIdeal.nD Cert.InOddGradIdeal.τ).loc Cert.InOddGradIdeal.main_arg2) = m ((c.tc : Thread Cert.InOddGradIdeal.nD Cert.InOddGradIdeal.τ).loc Cert.InOddGradIdeal.main_arg2))
      ∧ r.2.sem = fun _ => 0)

def quiescent_InOddGradReferenceIdeal [hInOddGradReferenceIdeal : Cert.InOddGradReferenceIdeal.Facts] : Prop :=
  ∀ (m : (ℓ : Loc Cert.InOddGradReferenceIdeal.nD Cert.InOddGradReferenceIdeal.τ Cert.InOddGradReferenceIdeal.sig) → Buf (Elt Ideal) ℓ) (g : Dev Cert.InOddGradReferenceIdeal.nD → PrngReg), Pre_InOddGradReferenceIdeal m →
    θ_run (Cert.InOddGradReferenceIdeal.defs (F := Ideal)) (onTc (τ := Cert.InOddGradReferenceIdeal.τ) (Cert.InOddGradReferenceIdeal.main (F := Ideal))) ⟨m, fun _ => 0, g⟩ (fun r => (∀ c : Dev Cert.InOddGradReferenceIdeal.nD,
      r.2.mem ((c.tc : Thread Cert.InOddGradReferenceIdeal.nD Cert.InOddGradReferenceIdeal.τ).loc Cert.InOddGradReferenceIdeal.main_arg0) = m ((c.tc : Thread Cert.InOddGradReferenceIdeal.nD Cert.InOddGradReferenceIdeal.τ).loc Cert.InOddGradReferenceIdeal.main_arg0)
      ∧ r.2.mem ((c.tc : Thread Cert.InOddGradReferenceIdeal.nD Cert.InOddGradReferenceIdeal.τ).loc Cert.InOddGradReferenceIdeal.main_arg1) = m ((c.tc : Thread Cert.InOddGradReferenceIdeal.nD Cert.InOddGradReferenceIdeal.τ).loc Cert.InOddGradReferenceIdeal.main_arg1)
      ∧ r.2.mem ((c.tc : Thread Cert.InOddGradReferenceIdeal.nD Cert.InOddGradReferenceIdeal.τ).loc Cert.InOddGradReferenceIdeal.main_arg2) = m ((c.tc : Thread Cert.InOddGradReferenceIdeal.nD Cert.InOddGradReferenceIdeal.τ).loc Cert.InOddGradReferenceIdeal.main_arg2))
      ∧ r.2.sem = fun _ => 0)

def quiescent_InEvenWgrad [hInEvenWgrad : Cert.InEvenWgrad.Facts] : Prop :=
  ∀ (m : (ℓ : Loc Cert.InEvenWgrad.nD Cert.InEvenWgrad.τ Cert.InEvenWgrad.sig) → Buf (Elt Bits) ℓ) (g : Dev Cert.InEvenWgrad.nD → PrngReg), Pre_InEvenWgrad m →
    θ_run (Cert.InEvenWgrad.defs (F := Bits)) (onTc (τ := Cert.InEvenWgrad.τ) (Cert.InEvenWgrad.main (F := Bits))) ⟨m, fun _ => 0, g⟩ (fun r => (∀ c : Dev Cert.InEvenWgrad.nD,
      r.2.mem ((c.tc : Thread Cert.InEvenWgrad.nD Cert.InEvenWgrad.τ).loc Cert.InEvenWgrad.main_arg0) = m ((c.tc : Thread Cert.InEvenWgrad.nD Cert.InEvenWgrad.τ).loc Cert.InEvenWgrad.main_arg0)
      ∧ r.2.mem ((c.tc : Thread Cert.InEvenWgrad.nD Cert.InEvenWgrad.τ).loc Cert.InEvenWgrad.main_arg1) = m ((c.tc : Thread Cert.InEvenWgrad.nD Cert.InEvenWgrad.τ).loc Cert.InEvenWgrad.main_arg1)
      ∧ r.2.mem ((c.tc : Thread Cert.InEvenWgrad.nD Cert.InEvenWgrad.τ).loc Cert.InEvenWgrad.main_arg2) = m ((c.tc : Thread Cert.InEvenWgrad.nD Cert.InEvenWgrad.τ).loc Cert.InEvenWgrad.main_arg2))
      ∧ r.2.sem = fun _ => 0)

def quiescent_InEvenWgradIdeal [hInEvenWgradIdeal : Cert.InEvenWgradIdeal.Facts] : Prop :=
  ∀ (m : (ℓ : Loc Cert.InEvenWgradIdeal.nD Cert.InEvenWgradIdeal.τ Cert.InEvenWgradIdeal.sig) → Buf (Elt Ideal) ℓ) (g : Dev Cert.InEvenWgradIdeal.nD → PrngReg), Pre_InEvenWgradIdeal m →
    θ_run (Cert.InEvenWgradIdeal.defs (F := Ideal)) (onTc (τ := Cert.InEvenWgradIdeal.τ) (Cert.InEvenWgradIdeal.main (F := Ideal))) ⟨m, fun _ => 0, g⟩ (fun r => (∀ c : Dev Cert.InEvenWgradIdeal.nD,
      r.2.mem ((c.tc : Thread Cert.InEvenWgradIdeal.nD Cert.InEvenWgradIdeal.τ).loc Cert.InEvenWgradIdeal.main_arg0) = m ((c.tc : Thread Cert.InEvenWgradIdeal.nD Cert.InEvenWgradIdeal.τ).loc Cert.InEvenWgradIdeal.main_arg0)
      ∧ r.2.mem ((c.tc : Thread Cert.InEvenWgradIdeal.nD Cert.InEvenWgradIdeal.τ).loc Cert.InEvenWgradIdeal.main_arg1) = m ((c.tc : Thread Cert.InEvenWgradIdeal.nD Cert.InEvenWgradIdeal.τ).loc Cert.InEvenWgradIdeal.main_arg1)
      ∧ r.2.mem ((c.tc : Thread Cert.InEvenWgradIdeal.nD Cert.InEvenWgradIdeal.τ).loc Cert.InEvenWgradIdeal.main_arg2) = m ((c.tc : Thread Cert.InEvenWgradIdeal.nD Cert.InEvenWgradIdeal.τ).loc Cert.InEvenWgradIdeal.main_arg2))
      ∧ r.2.sem = fun _ => 0)

def quiescent_InEvenWgradReferenceIdeal [hInEvenWgradReferenceIdeal : Cert.InEvenWgradReferenceIdeal.Facts] : Prop :=
  ∀ (m : (ℓ : Loc Cert.InEvenWgradReferenceIdeal.nD Cert.InEvenWgradReferenceIdeal.τ Cert.InEvenWgradReferenceIdeal.sig) → Buf (Elt Ideal) ℓ) (g : Dev Cert.InEvenWgradReferenceIdeal.nD → PrngReg), Pre_InEvenWgradReferenceIdeal m →
    θ_run (Cert.InEvenWgradReferenceIdeal.defs (F := Ideal)) (onTc (τ := Cert.InEvenWgradReferenceIdeal.τ) (Cert.InEvenWgradReferenceIdeal.main (F := Ideal))) ⟨m, fun _ => 0, g⟩ (fun r => (∀ c : Dev Cert.InEvenWgradReferenceIdeal.nD,
      r.2.mem ((c.tc : Thread Cert.InEvenWgradReferenceIdeal.nD Cert.InEvenWgradReferenceIdeal.τ).loc Cert.InEvenWgradReferenceIdeal.main_arg0) = m ((c.tc : Thread Cert.InEvenWgradReferenceIdeal.nD Cert.InEvenWgradReferenceIdeal.τ).loc Cert.InEvenWgradReferenceIdeal.main_arg0)
      ∧ r.2.mem ((c.tc : Thread Cert.InEvenWgradReferenceIdeal.nD Cert.InEvenWgradReferenceIdeal.τ).loc Cert.InEvenWgradReferenceIdeal.main_arg1) = m ((c.tc : Thread Cert.InEvenWgradReferenceIdeal.nD Cert.InEvenWgradReferenceIdeal.τ).loc Cert.InEvenWgradReferenceIdeal.main_arg1)
      ∧ r.2.mem ((c.tc : Thread Cert.InEvenWgradReferenceIdeal.nD Cert.InEvenWgradReferenceIdeal.τ).loc Cert.InEvenWgradReferenceIdeal.main_arg2) = m ((c.tc : Thread Cert.InEvenWgradReferenceIdeal.nD Cert.InEvenWgradReferenceIdeal.τ).loc Cert.InEvenWgradReferenceIdeal.main_arg2))
      ∧ r.2.sem = fun _ => 0)

def quiescent_InOddWgrad [hInOddWgrad : Cert.InOddWgrad.Facts] : Prop :=
  ∀ (m : (ℓ : Loc Cert.InOddWgrad.nD Cert.InOddWgrad.τ Cert.InOddWgrad.sig) → Buf (Elt Bits) ℓ) (g : Dev Cert.InOddWgrad.nD → PrngReg), Pre_InOddWgrad m →
    θ_run (Cert.InOddWgrad.defs (F := Bits)) (onTc (τ := Cert.InOddWgrad.τ) (Cert.InOddWgrad.main (F := Bits))) ⟨m, fun _ => 0, g⟩ (fun r => (∀ c : Dev Cert.InOddWgrad.nD,
      r.2.mem ((c.tc : Thread Cert.InOddWgrad.nD Cert.InOddWgrad.τ).loc Cert.InOddWgrad.main_arg0) = m ((c.tc : Thread Cert.InOddWgrad.nD Cert.InOddWgrad.τ).loc Cert.InOddWgrad.main_arg0)
      ∧ r.2.mem ((c.tc : Thread Cert.InOddWgrad.nD Cert.InOddWgrad.τ).loc Cert.InOddWgrad.main_arg1) = m ((c.tc : Thread Cert.InOddWgrad.nD Cert.InOddWgrad.τ).loc Cert.InOddWgrad.main_arg1)
      ∧ r.2.mem ((c.tc : Thread Cert.InOddWgrad.nD Cert.InOddWgrad.τ).loc Cert.InOddWgrad.main_arg2) = m ((c.tc : Thread Cert.InOddWgrad.nD Cert.InOddWgrad.τ).loc Cert.InOddWgrad.main_arg2))
      ∧ r.2.sem = fun _ => 0)

def quiescent_InOddWgradIdeal [hInOddWgradIdeal : Cert.InOddWgradIdeal.Facts] : Prop :=
  ∀ (m : (ℓ : Loc Cert.InOddWgradIdeal.nD Cert.InOddWgradIdeal.τ Cert.InOddWgradIdeal.sig) → Buf (Elt Ideal) ℓ) (g : Dev Cert.InOddWgradIdeal.nD → PrngReg), Pre_InOddWgradIdeal m →
    θ_run (Cert.InOddWgradIdeal.defs (F := Ideal)) (onTc (τ := Cert.InOddWgradIdeal.τ) (Cert.InOddWgradIdeal.main (F := Ideal))) ⟨m, fun _ => 0, g⟩ (fun r => (∀ c : Dev Cert.InOddWgradIdeal.nD,
      r.2.mem ((c.tc : Thread Cert.InOddWgradIdeal.nD Cert.InOddWgradIdeal.τ).loc Cert.InOddWgradIdeal.main_arg0) = m ((c.tc : Thread Cert.InOddWgradIdeal.nD Cert.InOddWgradIdeal.τ).loc Cert.InOddWgradIdeal.main_arg0)
      ∧ r.2.mem ((c.tc : Thread Cert.InOddWgradIdeal.nD Cert.InOddWgradIdeal.τ).loc Cert.InOddWgradIdeal.main_arg1) = m ((c.tc : Thread Cert.InOddWgradIdeal.nD Cert.InOddWgradIdeal.τ).loc Cert.InOddWgradIdeal.main_arg1)
      ∧ r.2.mem ((c.tc : Thread Cert.InOddWgradIdeal.nD Cert.InOddWgradIdeal.τ).loc Cert.InOddWgradIdeal.main_arg2) = m ((c.tc : Thread Cert.InOddWgradIdeal.nD Cert.InOddWgradIdeal.τ).loc Cert.InOddWgradIdeal.main_arg2))
      ∧ r.2.sem = fun _ => 0)

def quiescent_InOddWgradReferenceIdeal [hInOddWgradReferenceIdeal : Cert.InOddWgradReferenceIdeal.Facts] : Prop :=
  ∀ (m : (ℓ : Loc Cert.InOddWgradReferenceIdeal.nD Cert.InOddWgradReferenceIdeal.τ Cert.InOddWgradReferenceIdeal.sig) → Buf (Elt Ideal) ℓ) (g : Dev Cert.InOddWgradReferenceIdeal.nD → PrngReg), Pre_InOddWgradReferenceIdeal m →
    θ_run (Cert.InOddWgradReferenceIdeal.defs (F := Ideal)) (onTc (τ := Cert.InOddWgradReferenceIdeal.τ) (Cert.InOddWgradReferenceIdeal.main (F := Ideal))) ⟨m, fun _ => 0, g⟩ (fun r => (∀ c : Dev Cert.InOddWgradReferenceIdeal.nD,
      r.2.mem ((c.tc : Thread Cert.InOddWgradReferenceIdeal.nD Cert.InOddWgradReferenceIdeal.τ).loc Cert.InOddWgradReferenceIdeal.main_arg0) = m ((c.tc : Thread Cert.InOddWgradReferenceIdeal.nD Cert.InOddWgradReferenceIdeal.τ).loc Cert.InOddWgradReferenceIdeal.main_arg0)
      ∧ r.2.mem ((c.tc : Thread Cert.InOddWgradReferenceIdeal.nD Cert.InOddWgradReferenceIdeal.τ).loc Cert.InOddWgradReferenceIdeal.main_arg1) = m ((c.tc : Thread Cert.InOddWgradReferenceIdeal.nD Cert.InOddWgradReferenceIdeal.τ).loc Cert.InOddWgradReferenceIdeal.main_arg1)
      ∧ r.2.mem ((c.tc : Thread Cert.InOddWgradReferenceIdeal.nD Cert.InOddWgradReferenceIdeal.τ).loc Cert.InOddWgradReferenceIdeal.main_arg2) = m ((c.tc : Thread Cert.InOddWgradReferenceIdeal.nD Cert.InOddWgradReferenceIdeal.τ).loc Cert.InOddWgradReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1)
      ∧ r.2.mem ((c.tc : Thread Cert.OutGradReferenceIdeal.nD Cert.OutGradReferenceIdeal.τ).loc Cert.OutGradReferenceIdeal.main_arg2) = m ((c.tc : Thread Cert.OutGradReferenceIdeal.nD Cert.OutGradReferenceIdeal.τ).loc Cert.OutGradReferenceIdeal.main_arg2))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ r.2.sem = fun _ => 0)

def quiescent_OutWgradReferenceIdeal [hOutWgradReferenceIdeal : Cert.OutWgradReferenceIdeal.Facts] : Prop :=
  ∀ (m : (ℓ : Loc Cert.OutWgradReferenceIdeal.nD Cert.OutWgradReferenceIdeal.τ Cert.OutWgradReferenceIdeal.sig) → Buf (Elt Ideal) ℓ) (g : Dev Cert.OutWgradReferenceIdeal.nD → PrngReg), Pre_OutWgradReferenceIdeal m →
    θ_run (Cert.OutWgradReferenceIdeal.defs (F := Ideal)) (onTc (τ := Cert.OutWgradReferenceIdeal.τ) (Cert.OutWgradReferenceIdeal.main (F := Ideal))) ⟨m, fun _ => 0, g⟩ (fun r => (∀ c : Dev Cert.OutWgradReferenceIdeal.nD,
      r.2.mem ((c.tc : Thread Cert.OutWgradReferenceIdeal.nD Cert.OutWgradReferenceIdeal.τ).loc Cert.OutWgradReferenceIdeal.main_arg0) = m ((c.tc : Thread Cert.OutWgradReferenceIdeal.nD Cert.OutWgradReferenceIdeal.τ).loc Cert.OutWgradReferenceIdeal.main_arg0)
      ∧ r.2.mem ((c.tc : Thread Cert.OutWgradReferenceIdeal.nD Cert.OutWgradReferenceIdeal.τ).loc Cert.OutWgradReferenceIdeal.main_arg1) = m ((c.tc : Thread Cert.OutWgradReferenceIdeal.nD Cert.OutWgradReferenceIdeal.τ).loc Cert.OutWgradReferenceIdeal.main_arg1)
      ∧ r.2.mem ((c.tc : Thread Cert.OutWgradReferenceIdeal.nD Cert.OutWgradReferenceIdeal.τ).loc Cert.OutWgradReferenceIdeal.main_arg2) = m ((c.tc : Thread Cert.OutWgradReferenceIdeal.nD Cert.OutWgradReferenceIdeal.τ).loc Cert.OutWgradReferenceIdeal.main_arg2))
      ∧ r.2.sem = fun _ => 0)

def quiescent_AttGrad [hAttGrad : Cert.AttGrad.Facts] : Prop :=
  ∀ (m : (ℓ : Loc Cert.AttGrad.nD Cert.AttGrad.τ Cert.AttGrad.sig) → Buf (Elt Bits) ℓ) (g : Dev Cert.AttGrad.nD → PrngReg), Pre_AttGrad m →
    θ_run (Cert.AttGrad.defs (F := Bits)) (onTc (τ := Cert.AttGrad.τ) (Cert.AttGrad.main (F := Bits))) ⟨m, fun _ => 0, g⟩ (fun r => (∀ c : Dev Cert.AttGrad.nD,
      r.2.mem ((c.tc : Thread Cert.AttGrad.nD Cert.AttGrad.τ).loc Cert.AttGrad.main_arg0) = m ((c.tc : Thread Cert.AttGrad.nD Cert.AttGrad.τ).loc Cert.AttGrad.main_arg0)
      ∧ r.2.mem ((c.tc : Thread Cert.AttGrad.nD Cert.AttGrad.τ).loc Cert.AttGrad.main_arg1) = m ((c.tc : Thread Cert.AttGrad.nD Cert.AttGrad.τ).loc Cert.AttGrad.main_arg1)
      ∧ r.2.mem ((c.tc : Thread Cert.AttGrad.nD Cert.AttGrad.τ).loc Cert.AttGrad.main_arg2) = m ((c.tc : Thread Cert.AttGrad.nD Cert.AttGrad.τ).loc Cert.AttGrad.main_arg2)
      ∧ r.2.mem ((c.tc : Thread Cert.AttGrad.nD Cert.AttGrad.τ).loc Cert.AttGrad.main_arg3) = m ((c.tc : Thread Cert.AttGrad.nD Cert.AttGrad.τ).loc Cert.AttGrad.main_arg3))
      ∧ r.2.sem = fun _ => 0)

def quiescent_AttGradIdeal [hAttGradIdeal : Cert.AttGradIdeal.Facts] : Prop :=
  ∀ (m : (ℓ : Loc Cert.AttGradIdeal.nD Cert.AttGradIdeal.τ Cert.AttGradIdeal.sig) → Buf (Elt Ideal) ℓ) (g : Dev Cert.AttGradIdeal.nD → PrngReg), Pre_AttGradIdeal m →
    θ_run (Cert.AttGradIdeal.defs (F := Ideal)) (onTc (τ := Cert.AttGradIdeal.τ) (Cert.AttGradIdeal.main (F := Ideal))) ⟨m, fun _ => 0, g⟩ (fun r => (∀ c : Dev Cert.AttGradIdeal.nD,
      r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
      ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
      ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2)
      ∧ r.2.mem ((c.tc : Thread Cert.AttGradIdeal.nD Cert.AttGradIdeal.τ).loc Cert.AttGradIdeal.main_arg3) = m ((c.tc : Thread Cert.AttGradIdeal.nD Cert.AttGradIdeal.τ).loc Cert.AttGradIdeal.main_arg3))
      ∧ r.2.sem = fun _ => 0)

def quiescent_AttGradIdeal_pre_att_finite [hAttGradIdeal : Cert.AttGradIdeal.Facts] [hPre_att_finite : Cert.Pre_att_finite.Facts] : Prop :=
  ∀ (m : (ℓ : Loc Cert.AttGradIdeal.nD Cert.AttGradIdeal.τ Cert.AttGradIdeal.sig) → Buf (Elt Ideal) ℓ) (g : Dev Cert.AttGradIdeal.nD → PrngReg), Pre_AttGradIdeal_att_finite m →
    θ_run (Cert.AttGradIdeal.defs (F := Ideal)) (onTc (τ := Cert.AttGradIdeal.τ) (Cert.AttGradIdeal.main (F := Ideal))) ⟨m, fun _ => 0, g⟩ (fun r => (∀ c : Dev Cert.AttGradIdeal.nD,
      r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
      ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
      ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2)
      ∧ r.2.mem ((c.tc : Thread Cert.AttGradIdeal.nD Cert.AttGradIdeal.τ).loc Cert.AttGradIdeal.main_arg3) = m ((c.tc : Thread Cert.AttGradIdeal.nD Cert.AttGradIdeal.τ).loc Cert.AttGradIdeal.main_arg3))
      ∧ r.2.sem = fun _ => 0)

def quiescent_AttGradReferenceIdeal [hAttGradReferenceIdeal : Cert.AttGradReferenceIdeal.Facts] : Prop :=
  ∀ (m : (ℓ : Loc Cert.AttGradReferenceIdeal.nD Cert.AttGradReferenceIdeal.τ Cert.AttGradReferenceIdeal.sig) → Buf (Elt Ideal) ℓ) (g : Dev Cert.AttGradReferenceIdeal.nD → PrngReg), Pre_AttGradReferenceIdeal m →
    θ_run (Cert.AttGradReferenceIdeal.defs (F := Ideal)) (onTc (τ := Cert.AttGradReferenceIdeal.τ) (Cert.AttGradReferenceIdeal.main (F := Ideal))) ⟨m, fun _ => 0, g⟩ (fun r => (∀ c : Dev Cert.AttGradReferenceIdeal.nD,
      r.2.mem ((c.tc : Thread Cert.AttGradReferenceIdeal.nD Cert.AttGradReferenceIdeal.τ).loc Cert.AttGradReferenceIdeal.main_arg0) = m ((c.tc : Thread Cert.AttGradReferenceIdeal.nD Cert.AttGradReferenceIdeal.τ).loc Cert.AttGradReferenceIdeal.main_arg0)
      ∧ r.2.mem ((c.tc : Thread Cert.AttGradReferenceIdeal.nD Cert.AttGradReferenceIdeal.τ).loc Cert.AttGradReferenceIdeal.main_arg1) = m ((c.tc : Thread Cert.AttGradReferenceIdeal.nD Cert.AttGradReferenceIdeal.τ).loc Cert.AttGradReferenceIdeal.main_arg1)
      ∧ r.2.mem ((c.tc : Thread Cert.AttGradReferenceIdeal.nD Cert.AttGradReferenceIdeal.τ).loc Cert.AttGradReferenceIdeal.main_arg2) = m ((c.tc : Thread Cert.AttGradReferenceIdeal.nD Cert.AttGradReferenceIdeal.τ).loc Cert.AttGradReferenceIdeal.main_arg2)
      ∧ r.2.mem ((c.tc : Thread Cert.AttGradReferenceIdeal.nD Cert.AttGradReferenceIdeal.τ).loc Cert.AttGradReferenceIdeal.main_arg3) = m ((c.tc : Thread Cert.AttGradReferenceIdeal.nD Cert.AttGradReferenceIdeal.τ).loc Cert.AttGradReferenceIdeal.main_arg3))
      ∧ r.2.sem = fun _ => 0)

def quiescent_AttGradReferenceIdeal_pre_att_finite [hAttGradReferenceIdeal : Cert.AttGradReferenceIdeal.Facts] [hPre_att_finite : Cert.Pre_att_finite.Facts] : Prop :=
  ∀ (m : (ℓ : Loc Cert.AttGradReferenceIdeal.nD Cert.AttGradReferenceIdeal.τ Cert.AttGradReferenceIdeal.sig) → Buf (Elt Ideal) ℓ) (g : Dev Cert.AttGradReferenceIdeal.nD → PrngReg), Pre_AttGradReferenceIdeal_att_finite m →
    θ_run (Cert.AttGradReferenceIdeal.defs (F := Ideal)) (onTc (τ := Cert.AttGradReferenceIdeal.τ) (Cert.AttGradReferenceIdeal.main (F := Ideal))) ⟨m, fun _ => 0, g⟩ (fun r => (∀ c : Dev Cert.AttGradReferenceIdeal.nD,
      r.2.mem ((c.tc : Thread Cert.AttGradReferenceIdeal.nD Cert.AttGradReferenceIdeal.τ).loc Cert.AttGradReferenceIdeal.main_arg0) = m ((c.tc : Thread Cert.AttGradReferenceIdeal.nD Cert.AttGradReferenceIdeal.τ).loc Cert.AttGradReferenceIdeal.main_arg0)
      ∧ r.2.mem ((c.tc : Thread Cert.AttGradReferenceIdeal.nD Cert.AttGradReferenceIdeal.τ).loc Cert.AttGradReferenceIdeal.main_arg1) = m ((c.tc : Thread Cert.AttGradReferenceIdeal.nD Cert.AttGradReferenceIdeal.τ).loc Cert.AttGradReferenceIdeal.main_arg1)
      ∧ r.2.mem ((c.tc : Thread Cert.AttGradReferenceIdeal.nD Cert.AttGradReferenceIdeal.τ).loc Cert.AttGradReferenceIdeal.main_arg2) = m ((c.tc : Thread Cert.AttGradReferenceIdeal.nD Cert.AttGradReferenceIdeal.τ).loc Cert.AttGradReferenceIdeal.main_arg2)
      ∧ r.2.mem ((c.tc : Thread Cert.AttGradReferenceIdeal.nD Cert.AttGradReferenceIdeal.τ).loc Cert.AttGradReferenceIdeal.main_arg3) = m ((c.tc : Thread Cert.AttGradReferenceIdeal.nD Cert.AttGradReferenceIdeal.τ).loc Cert.AttGradReferenceIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_att_fwd_finite [hAttIdeal : Cert.AttIdeal.Facts] [hPre_att_fwd_finite : Cert.Pre_att_fwd_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_att_fwd_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2))
      ∧ r.2.sem = fun _ => 0)

def quiescent_AttReferenceIdeal_pre_att_fwd_finite [hAttReferenceIdeal : Cert.AttReferenceIdeal.Facts] [hPre_att_fwd_finite : Cert.Pre_att_fwd_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_att_fwd_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3)
      ∧ r.2.mem ((c.tc : Thread Cert.AdamEvenIn.nD Cert.AdamEvenIn.τ).loc Cert.AdamEvenIn.main_arg4) = m ((c.tc : Thread Cert.AdamEvenIn.nD Cert.AdamEvenIn.τ).loc Cert.AdamEvenIn.main_arg4))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3)
      ∧ r.2.mem ((c.tc : Thread Cert.AdamEvenInIdeal.nD Cert.AdamEvenInIdeal.τ).loc Cert.AdamEvenInIdeal.main_arg4) = m ((c.tc : Thread Cert.AdamEvenInIdeal.nD Cert.AdamEvenInIdeal.τ).loc Cert.AdamEvenInIdeal.main_arg4))
      ∧ r.2.sem = fun _ => 0)

def quiescent_AdamEvenInReferenceIdeal [hAdamEvenInReferenceIdeal : Cert.AdamEvenInReferenceIdeal.Facts] : Prop :=
  ∀ (m : (ℓ : Loc Cert.AdamEvenInReferenceIdeal.nD Cert.AdamEvenInReferenceIdeal.τ Cert.AdamEvenInReferenceIdeal.sig) → Buf (Elt Ideal) ℓ) (g : Dev Cert.AdamEvenInReferenceIdeal.nD → PrngReg), Pre_AdamEvenInReferenceIdeal m →
    θ_run (Cert.AdamEvenInReferenceIdeal.defs (F := Ideal)) (onTc (τ := Cert.AdamEvenInReferenceIdeal.τ) (Cert.AdamEvenInReferenceIdeal.main (F := Ideal))) ⟨m, fun _ => 0, g⟩ (fun r => (∀ c : Dev Cert.AdamEvenInReferenceIdeal.nD,
      r.2.mem ((c.tc : Thread Cert.AdamEvenInReferenceIdeal.nD Cert.AdamEvenInReferenceIdeal.τ).loc Cert.AdamEvenInReferenceIdeal.main_arg0) = m ((c.tc : Thread Cert.AdamEvenInReferenceIdeal.nD Cert.AdamEvenInReferenceIdeal.τ).loc Cert.AdamEvenInReferenceIdeal.main_arg0)
      ∧ r.2.mem ((c.tc : Thread Cert.AdamEvenInReferenceIdeal.nD Cert.AdamEvenInReferenceIdeal.τ).loc Cert.AdamEvenInReferenceIdeal.main_arg1) = m ((c.tc : Thread Cert.AdamEvenInReferenceIdeal.nD Cert.AdamEvenInReferenceIdeal.τ).loc Cert.AdamEvenInReferenceIdeal.main_arg1)
      ∧ r.2.mem ((c.tc : Thread Cert.AdamEvenInReferenceIdeal.nD Cert.AdamEvenInReferenceIdeal.τ).loc Cert.AdamEvenInReferenceIdeal.main_arg2) = m ((c.tc : Thread Cert.AdamEvenInReferenceIdeal.nD Cert.AdamEvenInReferenceIdeal.τ).loc Cert.AdamEvenInReferenceIdeal.main_arg2)
      ∧ r.2.mem ((c.tc : Thread Cert.AdamEvenInReferenceIdeal.nD Cert.AdamEvenInReferenceIdeal.τ).loc Cert.AdamEvenInReferenceIdeal.main_arg3) = m ((c.tc : Thread Cert.AdamEvenInReferenceIdeal.nD Cert.AdamEvenInReferenceIdeal.τ).loc Cert.AdamEvenInReferenceIdeal.main_arg3)
      ∧ r.2.mem ((c.tc : Thread Cert.AdamEvenInReferenceIdeal.nD Cert.AdamEvenInReferenceIdeal.τ).loc Cert.AdamEvenInReferenceIdeal.main_arg4) = m ((c.tc : Thread Cert.AdamEvenInReferenceIdeal.nD Cert.AdamEvenInReferenceIdeal.τ).loc Cert.AdamEvenInReferenceIdeal.main_arg4))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3)
      ∧ r.2.mem ((c.tc : Thread Cert.AdamOddIn.nD Cert.AdamOddIn.τ).loc Cert.AdamOddIn.main_arg4) = m ((c.tc : Thread Cert.AdamOddIn.nD Cert.AdamOddIn.τ).loc Cert.AdamOddIn.main_arg4))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3)
      ∧ r.2.mem ((c.tc : Thread Cert.AdamOddInIdeal.nD Cert.AdamOddInIdeal.τ).loc Cert.AdamOddInIdeal.main_arg4) = m ((c.tc : Thread Cert.AdamOddInIdeal.nD Cert.AdamOddInIdeal.τ).loc Cert.AdamOddInIdeal.main_arg4))
      ∧ r.2.sem = fun _ => 0)

def quiescent_AdamOddInReferenceIdeal [hAdamOddInReferenceIdeal : Cert.AdamOddInReferenceIdeal.Facts] : Prop :=
  ∀ (m : (ℓ : Loc Cert.AdamOddInReferenceIdeal.nD Cert.AdamOddInReferenceIdeal.τ Cert.AdamOddInReferenceIdeal.sig) → Buf (Elt Ideal) ℓ) (g : Dev Cert.AdamOddInReferenceIdeal.nD → PrngReg), Pre_AdamOddInReferenceIdeal m →
    θ_run (Cert.AdamOddInReferenceIdeal.defs (F := Ideal)) (onTc (τ := Cert.AdamOddInReferenceIdeal.τ) (Cert.AdamOddInReferenceIdeal.main (F := Ideal))) ⟨m, fun _ => 0, g⟩ (fun r => (∀ c : Dev Cert.AdamOddInReferenceIdeal.nD,
      r.2.mem ((c.tc : Thread Cert.AdamOddInReferenceIdeal.nD Cert.AdamOddInReferenceIdeal.τ).loc Cert.AdamOddInReferenceIdeal.main_arg0) = m ((c.tc : Thread Cert.AdamOddInReferenceIdeal.nD Cert.AdamOddInReferenceIdeal.τ).loc Cert.AdamOddInReferenceIdeal.main_arg0)
      ∧ r.2.mem ((c.tc : Thread Cert.AdamOddInReferenceIdeal.nD Cert.AdamOddInReferenceIdeal.τ).loc Cert.AdamOddInReferenceIdeal.main_arg1) = m ((c.tc : Thread Cert.AdamOddInReferenceIdeal.nD Cert.AdamOddInReferenceIdeal.τ).loc Cert.AdamOddInReferenceIdeal.main_arg1)
      ∧ r.2.mem ((c.tc : Thread Cert.AdamOddInReferenceIdeal.nD Cert.AdamOddInReferenceIdeal.τ).loc Cert.AdamOddInReferenceIdeal.main_arg2) = m ((c.tc : Thread Cert.AdamOddInReferenceIdeal.nD Cert.AdamOddInReferenceIdeal.τ).loc Cert.AdamOddInReferenceIdeal.main_arg2)
      ∧ r.2.mem ((c.tc : Thread Cert.AdamOddInReferenceIdeal.nD Cert.AdamOddInReferenceIdeal.τ).loc Cert.AdamOddInReferenceIdeal.main_arg3) = m ((c.tc : Thread Cert.AdamOddInReferenceIdeal.nD Cert.AdamOddInReferenceIdeal.τ).loc Cert.AdamOddInReferenceIdeal.main_arg3)
      ∧ r.2.mem ((c.tc : Thread Cert.AdamOddInReferenceIdeal.nD Cert.AdamOddInReferenceIdeal.τ).loc Cert.AdamOddInReferenceIdeal.main_arg4) = m ((c.tc : Thread Cert.AdamOddInReferenceIdeal.nD Cert.AdamOddInReferenceIdeal.τ).loc Cert.AdamOddInReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModReferenceIdeal [hAdamModReferenceIdeal : Cert.AdamModReferenceIdeal.Facts] : Prop :=
  ∀ (m : (ℓ : Loc Cert.AdamModReferenceIdeal.nD Cert.AdamModReferenceIdeal.τ Cert.AdamModReferenceIdeal.sig) → Buf (Elt Ideal) ℓ) (g : Dev Cert.AdamModReferenceIdeal.nD → PrngReg), Pre_AdamModReferenceIdeal m →
    θ_run (Cert.AdamModReferenceIdeal.defs (F := Ideal)) (onTc (τ := Cert.AdamModReferenceIdeal.τ) (Cert.AdamModReferenceIdeal.main (F := Ideal))) ⟨m, fun _ => 0, g⟩ (fun r => (∀ c : Dev Cert.AdamModReferenceIdeal.nD,
      r.2.mem ((c.tc : Thread Cert.AdamModReferenceIdeal.nD Cert.AdamModReferenceIdeal.τ).loc Cert.AdamModReferenceIdeal.main_arg0) = m ((c.tc : Thread Cert.AdamModReferenceIdeal.nD Cert.AdamModReferenceIdeal.τ).loc Cert.AdamModReferenceIdeal.main_arg0)
      ∧ r.2.mem ((c.tc : Thread Cert.AdamModReferenceIdeal.nD Cert.AdamModReferenceIdeal.τ).loc Cert.AdamModReferenceIdeal.main_arg1) = m ((c.tc : Thread Cert.AdamModReferenceIdeal.nD Cert.AdamModReferenceIdeal.τ).loc Cert.AdamModReferenceIdeal.main_arg1)
      ∧ r.2.mem ((c.tc : Thread Cert.AdamModReferenceIdeal.nD Cert.AdamModReferenceIdeal.τ).loc Cert.AdamModReferenceIdeal.main_arg2) = m ((c.tc : Thread Cert.AdamModReferenceIdeal.nD Cert.AdamModReferenceIdeal.τ).loc Cert.AdamModReferenceIdeal.main_arg2)
      ∧ r.2.mem ((c.tc : Thread Cert.AdamModReferenceIdeal.nD Cert.AdamModReferenceIdeal.τ).loc Cert.AdamModReferenceIdeal.main_arg3) = m ((c.tc : Thread Cert.AdamModReferenceIdeal.nD Cert.AdamModReferenceIdeal.τ).loc Cert.AdamModReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)) →
    ∃ (v0 : (c : Dev Cert.ForwardIdeal.nD) → Buf (Elt Ideal) ((c.tc : Thread Cert.ForwardIdeal.nD Cert.ForwardIdeal.τ).loc Cert.ForwardIdeal.main_v5_0)) (v1 : (c : Dev Cert.ForwardIdeal.nD) → Buf (Elt Ideal) ((c.tc : Thread Cert.ForwardIdeal.nD Cert.ForwardIdeal.τ).loc Cert.ForwardIdeal.main_v5_1)) (v2 : (c : Dev Cert.ForwardIdeal.nD) → Buf (Elt Ideal) ((c.tc : Thread Cert.ForwardIdeal.nD Cert.ForwardIdeal.τ).loc Cert.ForwardIdeal.main_v5_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v5_0) = v0 c
          ∧ r.2.mem ((c.tc : Thread Cert.ForwardIdeal.nD Cert.ForwardIdeal.τ).loc Cert.ForwardIdeal.main_v5_1) = v1 c
          ∧ r.2.mem ((c.tc : Thread Cert.ForwardIdeal.nD Cert.ForwardIdeal.τ).loc Cert.ForwardIdeal.main_v5_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v8) = v0 c
          ∧ r.2.mem ((c.tc : Thread Cert.ForwardReferenceIdeal.nD Cert.ForwardReferenceIdeal.τ).loc Cert.ForwardReferenceIdeal.main_v12) = v1 c
          ∧ r.2.mem ((c.tc : Thread Cert.ForwardReferenceIdeal.nD Cert.ForwardReferenceIdeal.τ).loc Cert.ForwardReferenceIdeal.main_v16) = v2 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3))

def preserves_WgradIn_WgradInIdeal : Prop :=
  True

def algebraic_WgradInIdeal_WgradInReferenceIdeal [hWgradInIdeal : Cert.WgradInIdeal.Facts] [hWgradInReferenceIdeal : Cert.WgradInReferenceIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInReferenceIdeal.nD Cert.WgradInReferenceIdeal.τ Cert.WgradInReferenceIdeal.sig) → Buf (Elt Ideal) ℓ) (g' : Dev Cert.WgradInReferenceIdeal.nD → PrngReg), Pre_WgradInIdeal m →
    (∀ c : Dev Cert.WgradInIdeal.nD,
      m' ((c.tc : Thread Cert.WgradInReferenceIdeal.nD Cert.WgradInReferenceIdeal.τ).loc Cert.WgradInReferenceIdeal.main_arg0) = m ((c.tc : Thread Cert.WgradInIdeal.nD Cert.WgradInIdeal.τ).loc Cert.WgradInIdeal.main_arg0)
      ∧ m' ((c.tc : Thread Cert.WgradInReferenceIdeal.nD Cert.WgradInReferenceIdeal.τ).loc Cert.WgradInReferenceIdeal.main_arg1) = m ((c.tc : Thread Cert.WgradInIdeal.nD Cert.WgradInIdeal.τ).loc Cert.WgradInIdeal.main_arg1)
      ∧ m' ((c.tc : Thread Cert.WgradInReferenceIdeal.nD Cert.WgradInReferenceIdeal.τ).loc Cert.WgradInReferenceIdeal.main_arg2) = m ((c.tc : Thread Cert.WgradInIdeal.nD Cert.WgradInIdeal.τ).loc Cert.WgradInIdeal.main_arg2)) →
    ∃ (v0 : (c : Dev Cert.WgradInIdeal.nD) → Buf (Elt Ideal) ((c.tc : Thread Cert.WgradInIdeal.nD Cert.WgradInIdeal.τ).loc Cert.WgradInIdeal.main_v3)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v3) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ θ_run (Cert.WgradInReferenceIdeal.defs (F := Ideal)) (onTc (τ := Cert.WgradInReferenceIdeal.τ) (Cert.WgradInReferenceIdeal.main (F := Ideal))) ⟨m', fun _ => 0, g'⟩ (fun r => ∀ c : Dev Cert.WgradInReferenceIdeal.nD,
          r.2.mem ((c.tc : Thread Cert.WgradInReferenceIdeal.nD Cert.WgradInReferenceIdeal.τ).loc Cert.WgradInReferenceIdeal.main_v8) = v0 c
          ∧ r.2.mem ((c.tc : Thread Cert.WgradInReferenceIdeal.nD Cert.WgradInReferenceIdeal.τ).loc Cert.WgradInReferenceIdeal.main_arg0) = m' ((c.tc : Thread Cert.WgradInReferenceIdeal.nD Cert.WgradInReferenceIdeal.τ).loc Cert.WgradInReferenceIdeal.main_arg0)
          ∧ r.2.mem ((c.tc : Thread Cert.WgradInReferenceIdeal.nD Cert.WgradInReferenceIdeal.τ).loc Cert.WgradInReferenceIdeal.main_arg1) = m' ((c.tc : Thread Cert.WgradInReferenceIdeal.nD Cert.WgradInReferenceIdeal.τ).loc Cert.WgradInReferenceIdeal.main_arg1)
          ∧ r.2.mem ((c.tc : Thread Cert.WgradInReferenceIdeal.nD Cert.WgradInReferenceIdeal.τ).loc Cert.WgradInReferenceIdeal.main_arg2) = m' ((c.tc : Thread Cert.WgradInReferenceIdeal.nD Cert.WgradInReferenceIdeal.τ).loc Cert.WgradInReferenceIdeal.main_arg2))

def preserves_WgradOut_WgradOutIdeal : Prop :=
  True

def algebraic_WgradOutIdeal_WgradOutReferenceIdeal [hWgradOutIdeal : Cert.WgradOutIdeal.Facts] [hWgradOutReferenceIdeal : Cert.WgradOutReferenceIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutReferenceIdeal.nD Cert.WgradOutReferenceIdeal.τ Cert.WgradOutReferenceIdeal.sig) → Buf (Elt Ideal) ℓ) (g' : Dev Cert.WgradOutReferenceIdeal.nD → PrngReg), Pre_WgradOutIdeal m →
    (∀ c : Dev Cert.WgradOutIdeal.nD,
      m' ((c.tc : Thread Cert.WgradOutReferenceIdeal.nD Cert.WgradOutReferenceIdeal.τ).loc Cert.WgradOutReferenceIdeal.main_arg0) = m ((c.tc : Thread Cert.WgradOutIdeal.nD Cert.WgradOutIdeal.τ).loc Cert.WgradOutIdeal.main_arg0)
      ∧ m' ((c.tc : Thread Cert.WgradOutReferenceIdeal.nD Cert.WgradOutReferenceIdeal.τ).loc Cert.WgradOutReferenceIdeal.main_arg1) = m ((c.tc : Thread Cert.WgradOutIdeal.nD Cert.WgradOutIdeal.τ).loc Cert.WgradOutIdeal.main_arg1)
      ∧ m' ((c.tc : Thread Cert.WgradOutReferenceIdeal.nD Cert.WgradOutReferenceIdeal.τ).loc Cert.WgradOutReferenceIdeal.main_arg2) = m ((c.tc : Thread Cert.WgradOutIdeal.nD Cert.WgradOutIdeal.τ).loc Cert.WgradOutIdeal.main_arg2)) →
    ∃ (v0 : (c : Dev Cert.WgradOutIdeal.nD) → Buf (Elt Ideal) ((c.tc : Thread Cert.WgradOutIdeal.nD Cert.WgradOutIdeal.τ).loc Cert.WgradOutIdeal.main_v2)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v2) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
          ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ θ_run (Cert.WgradOutReferenceIdeal.defs (F := Ideal)) (onTc (τ := Cert.WgradOutReferenceIdeal.τ) (Cert.WgradOutReferenceIdeal.main (F := Ideal))) ⟨m', fun _ => 0, g'⟩ (fun r => ∀ c : Dev Cert.WgradOutReferenceIdeal.nD,
          r.2.mem ((c.tc : Thread Cert.WgradOutReferenceIdeal.nD Cert.WgradOutReferenceIdeal.τ).loc Cert.WgradOutReferenceIdeal.main_v7) = v0 c
          ∧ r.2.mem ((c.tc : Thread Cert.WgradOutReferenceIdeal.nD Cert.WgradOutReferenceIdeal.τ).loc Cert.WgradOutReferenceIdeal.main_arg0) = m' ((c.tc : Thread Cert.WgradOutReferenceIdeal.nD Cert.WgradOutReferenceIdeal.τ).loc Cert.WgradOutReferenceIdeal.main_arg0)
          ∧ r.2.mem ((c.tc : Thread Cert.WgradOutReferenceIdeal.nD Cert.WgradOutReferenceIdeal.τ).loc Cert.WgradOutReferenceIdeal.main_arg1) = m' ((c.tc : Thread Cert.WgradOutReferenceIdeal.nD Cert.WgradOutReferenceIdeal.τ).loc Cert.WgradOutReferenceIdeal.main_arg1)
          ∧ r.2.mem ((c.tc : Thread Cert.WgradOutReferenceIdeal.nD Cert.WgradOutReferenceIdeal.τ).loc Cert.WgradOutReferenceIdeal.main_arg2) = m' ((c.tc : Thread Cert.WgradOutReferenceIdeal.nD Cert.WgradOutReferenceIdeal.τ).loc Cert.WgradOutReferenceIdeal.main_arg2))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v2) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v2) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_InEvenGrad_InEvenGradIdeal : Prop :=
  True

def algebraic_InEvenGradIdeal_InEvenGradReferenceIdeal [hInEvenGradIdeal : Cert.InEvenGradIdeal.Facts] [hInEvenGradReferenceIdeal : Cert.InEvenGradReferenceIdeal.Facts] : Prop :=
  ∀ (m : (ℓ : Loc Cert.InEvenGradIdeal.nD Cert.InEvenGradIdeal.τ Cert.InEvenGradIdeal.sig) → Buf (Elt Ideal) ℓ) (g : Dev Cert.InEvenGradIdeal.nD → PrngReg)
    (m' : (ℓ : Loc Cert.InEvenGradReferenceIdeal.nD Cert.InEvenGradReferenceIdeal.τ Cert.InEvenGradReferenceIdeal.sig) → Buf (Elt Ideal) ℓ) (g' : Dev Cert.InEvenGradReferenceIdeal.nD → PrngReg), Pre_InEvenGradIdeal m →
    (∀ c : Dev Cert.InEvenGradIdeal.nD,
      m' ((c.tc : Thread Cert.InEvenGradReferenceIdeal.nD Cert.InEvenGradReferenceIdeal.τ).loc Cert.InEvenGradReferenceIdeal.main_arg0) = m ((c.tc : Thread Cert.InEvenGradIdeal.nD Cert.InEvenGradIdeal.τ).loc Cert.InEvenGradIdeal.main_arg0)
      ∧ m' ((c.tc : Thread Cert.InEvenGradReferenceIdeal.nD Cert.InEvenGradReferenceIdeal.τ).loc Cert.InEvenGradReferenceIdeal.main_arg1) = m ((c.tc : Thread Cert.InEvenGradIdeal.nD Cert.InEvenGradIdeal.τ).loc Cert.InEvenGradIdeal.main_arg1)
      ∧ m' ((c.tc : Thread Cert.InEvenGradReferenceIdeal.nD Cert.InEvenGradReferenceIdeal.τ).loc Cert.InEvenGradReferenceIdeal.main_arg2) = m ((c.tc : Thread Cert.InEvenGradIdeal.nD Cert.InEvenGradIdeal.τ).loc Cert.InEvenGradIdeal.main_arg2)) →
    ∃ (v0 : (c : Dev Cert.InEvenGradIdeal.nD) → Buf (Elt Ideal) ((c.tc : Thread Cert.InEvenGradIdeal.nD Cert.InEvenGradIdeal.τ).loc Cert.InEvenGradIdeal.main_v2)),
      θ_run (Cert.InEvenGradIdeal.defs (F := Ideal)) (onTc (τ := Cert.InEvenGradIdeal.τ) (Cert.InEvenGradIdeal.main (F := Ideal))) ⟨m, fun _ => 0, g⟩ (fun r => ∀ c : Dev Cert.InEvenGradIdeal.nD,
          r.2.mem ((c.tc : Thread Cert.InEvenGradIdeal.nD Cert.InEvenGradIdeal.τ).loc Cert.InEvenGradIdeal.main_v2) = v0 c
          ∧ r.2.mem ((c.tc : Thread Cert.InEvenGradIdeal.nD Cert.InEvenGradIdeal.τ).loc Cert.InEvenGradIdeal.main_arg0) = m ((c.tc : Thread Cert.InEvenGradIdeal.nD Cert.InEvenGradIdeal.τ).loc Cert.InEvenGradIdeal.main_arg0)
          ∧ r.2.mem ((c.tc : Thread Cert.InEvenGradIdeal.nD Cert.InEvenGradIdeal.τ).loc Cert.InEvenGradIdeal.main_arg1) = m ((c.tc : Thread Cert.InEvenGradIdeal.nD Cert.InEvenGradIdeal.τ).loc Cert.InEvenGradIdeal.main_arg1)
          ∧ r.2.mem ((c.tc : Thread Cert.InEvenGradIdeal.nD Cert.InEvenGradIdeal.τ).loc Cert.InEvenGradIdeal.main_arg2) = m ((c.tc : Thread Cert.InEvenGradIdeal.nD Cert.InEvenGradIdeal.τ).loc Cert.InEvenGradIdeal.main_arg2))
      ∧ θ_run (Cert.InEvenGradReferenceIdeal.defs (F := Ideal)) (onTc (τ := Cert.InEvenGradReferenceIdeal.τ) (Cert.InEvenGradReferenceIdeal.main (F := Ideal))) ⟨m', fun _ => 0, g'⟩ (fun r => ∀ c : Dev Cert.InEvenGradReferenceIdeal.nD,
          r.2.mem ((c.tc : Thread Cert.InEvenGradReferenceIdeal.nD Cert.InEvenGradReferenceIdeal.τ).loc Cert.InEvenGradReferenceIdeal.main_v3) = v0 c
          ∧ r.2.mem ((c.tc : Thread Cert.InEvenGradReferenceIdeal.nD Cert.InEvenGradReferenceIdeal.τ).loc Cert.InEvenGradReferenceIdeal.main_arg0) = m' ((c.tc : Thread Cert.InEvenGradReferenceIdeal.nD Cert.InEvenGradReferenceIdeal.τ).loc Cert.InEvenGradReferenceIdeal.main_arg0)
          ∧ r.2.mem ((c.tc : Thread Cert.InEvenGradReferenceIdeal.nD Cert.InEvenGradReferenceIdeal.τ).loc Cert.InEvenGradReferenceIdeal.main_arg1) = m' ((c.tc : Thread Cert.InEvenGradReferenceIdeal.nD Cert.InEvenGradReferenceIdeal.τ).loc Cert.InEvenGradReferenceIdeal.main_arg1)
          ∧ r.2.mem ((c.tc : Thread Cert.InEvenGradReferenceIdeal.nD Cert.InEvenGradReferenceIdeal.τ).loc Cert.InEvenGradReferenceIdeal.main_arg2) = m' ((c.tc : Thread Cert.InEvenGradReferenceIdeal.nD Cert.InEvenGradReferenceIdeal.τ).loc Cert.InEvenGradReferenceIdeal.main_arg2))

def preserves_InOddGrad_InOddGradIdeal : Prop :=
  True

def algebraic_InOddGradIdeal_InOddGradReferenceIdeal [hInOddGradIdeal : Cert.InOddGradIdeal.Facts] [hInOddGradReferenceIdeal : Cert.InOddGradReferenceIdeal.Facts] : Prop :=
  ∀ (m : (ℓ : Loc Cert.InOddGradIdeal.nD Cert.InOddGradIdeal.τ Cert.InOddGradIdeal.sig) → Buf (Elt Ideal) ℓ) (g : Dev Cert.InOddGradIdeal.nD → PrngReg)
    (m' : (ℓ : Loc Cert.InOddGradReferenceIdeal.nD Cert.InOddGradReferenceIdeal.τ Cert.InOddGradReferenceIdeal.sig) → Buf (Elt Ideal) ℓ) (g' : Dev Cert.InOddGradReferenceIdeal.nD → PrngReg), Pre_InOddGradIdeal m →
    (∀ c : Dev Cert.InOddGradIdeal.nD,
      m' ((c.tc : Thread Cert.InOddGradReferenceIdeal.nD Cert.InOddGradReferenceIdeal.τ).loc Cert.InOddGradReferenceIdeal.main_arg0) = m ((c.tc : Thread Cert.InOddGradIdeal.nD Cert.InOddGradIdeal.τ).loc Cert.InOddGradIdeal.main_arg0)
      ∧ m' ((c.tc : Thread Cert.InOddGradReferenceIdeal.nD Cert.InOddGradReferenceIdeal.τ).loc Cert.InOddGradReferenceIdeal.main_arg1) = m ((c.tc : Thread Cert.InOddGradIdeal.nD Cert.InOddGradIdeal.τ).loc Cert.InOddGradIdeal.main_arg1)
      ∧ m' ((c.tc : Thread Cert.InOddGradReferenceIdeal.nD Cert.InOddGradReferenceIdeal.τ).loc Cert.InOddGradReferenceIdeal.main_arg2) = m ((c.tc : Thread Cert.InOddGradIdeal.nD Cert.InOddGradIdeal.τ).loc Cert.InOddGradIdeal.main_arg2)) →
    ∃ (v0 : (c : Dev Cert.InOddGradIdeal.nD) → Buf (Elt Ideal) ((c.tc : Thread Cert.InOddGradIdeal.nD Cert.InOddGradIdeal.τ).loc Cert.InOddGradIdeal.main_v2)),
      θ_run (Cert.InOddGradIdeal.defs (F := Ideal)) (onTc (τ := Cert.InOddGradIdeal.τ) (Cert.InOddGradIdeal.main (F := Ideal))) ⟨m, fun _ => 0, g⟩ (fun r => ∀ c : Dev Cert.InOddGradIdeal.nD,
          r.2.mem ((c.tc : Thread Cert.InOddGradIdeal.nD Cert.InOddGradIdeal.τ).loc Cert.InOddGradIdeal.main_v2) = v0 c
          ∧ r.2.mem ((c.tc : Thread Cert.InOddGradIdeal.nD Cert.InOddGradIdeal.τ).loc Cert.InOddGradIdeal.main_arg0) = m ((c.tc : Thread Cert.InOddGradIdeal.nD Cert.InOddGradIdeal.τ).loc Cert.InOddGradIdeal.main_arg0)
          ∧ r.2.mem ((c.tc : Thread Cert.InOddGradIdeal.nD Cert.InOddGradIdeal.τ).loc Cert.InOddGradIdeal.main_arg1) = m ((c.tc : Thread Cert.InOddGradIdeal.nD Cert.InOddGradIdeal.τ).loc Cert.InOddGradIdeal.main_arg1)
          ∧ r.2.mem ((c.tc : Thread Cert.InOddGradIdeal.nD Cert.InOddGradIdeal.τ).loc Cert.InOddGradIdeal.main_arg2) = m ((c.tc : Thread Cert.InOddGradIdeal.nD Cert.InOddGradIdeal.τ).loc Cert.InOddGradIdeal.main_arg2))
      ∧ θ_run (Cert.InOddGradReferenceIdeal.defs (F := Ideal)) (onTc (τ := Cert.InOddGradReferenceIdeal.τ) (Cert.InOddGradReferenceIdeal.main (F := Ideal))) ⟨m', fun _ => 0, g'⟩ (fun r => ∀ c : Dev Cert.InOddGradReferenceIdeal.nD,
          r.2.mem ((c.tc : Thread Cert.InOddGradReferenceIdeal.nD Cert.InOddGradReferenceIdeal.τ).loc Cert.InOddGradReferenceIdeal.main_v3) = v0 c
          ∧ r.2.mem ((c.tc : Thread Cert.InOddGradReferenceIdeal.nD Cert.InOddGradReferenceIdeal.τ).loc Cert.InOddGradReferenceIdeal.main_arg0) = m' ((c.tc : Thread Cert.InOddGradReferenceIdeal.nD Cert.InOddGradReferenceIdeal.τ).loc Cert.InOddGradReferenceIdeal.main_arg0)
          ∧ r.2.mem ((c.tc : Thread Cert.InOddGradReferenceIdeal.nD Cert.InOddGradReferenceIdeal.τ).loc Cert.InOddGradReferenceIdeal.main_arg1) = m' ((c.tc : Thread Cert.InOddGradReferenceIdeal.nD Cert.InOddGradReferenceIdeal.τ).loc Cert.InOddGradReferenceIdeal.main_arg1)
          ∧ r.2.mem ((c.tc : Thread Cert.InOddGradReferenceIdeal.nD Cert.InOddGradReferenceIdeal.τ).loc Cert.InOddGradReferenceIdeal.main_arg2) = m' ((c.tc : Thread Cert.InOddGradReferenceIdeal.nD Cert.InOddGradReferenceIdeal.τ).loc Cert.InOddGradReferenceIdeal.main_arg2))

def preserves_InEvenWgrad_InEvenWgradIdeal : Prop :=
  True

def algebraic_InEvenWgradIdeal_InEvenWgradReferenceIdeal [hInEvenWgradIdeal : Cert.InEvenWgradIdeal.Facts] [hInEvenWgradReferenceIdeal : Cert.InEvenWgradReferenceIdeal.Facts] : Prop :=
  ∀ (m : (ℓ : Loc Cert.InEvenWgradIdeal.nD Cert.InEvenWgradIdeal.τ Cert.InEvenWgradIdeal.sig) → Buf (Elt Ideal) ℓ) (g : Dev Cert.InEvenWgradIdeal.nD → PrngReg)
    (m' : (ℓ : Loc Cert.InEvenWgradReferenceIdeal.nD Cert.InEvenWgradReferenceIdeal.τ Cert.InEvenWgradReferenceIdeal.sig) → Buf (Elt Ideal) ℓ) (g' : Dev Cert.InEvenWgradReferenceIdeal.nD → PrngReg), Pre_InEvenWgradIdeal m →
    (∀ c : Dev Cert.InEvenWgradIdeal.nD,
      m' ((c.tc : Thread Cert.InEvenWgradReferenceIdeal.nD Cert.InEvenWgradReferenceIdeal.τ).loc Cert.InEvenWgradReferenceIdeal.main_arg0) = m ((c.tc : Thread Cert.InEvenWgradIdeal.nD Cert.InEvenWgradIdeal.τ).loc Cert.InEvenWgradIdeal.main_arg0)
      ∧ m' ((c.tc : Thread Cert.InEvenWgradReferenceIdeal.nD Cert.InEvenWgradReferenceIdeal.τ).loc Cert.InEvenWgradReferenceIdeal.main_arg1) = m ((c.tc : Thread Cert.InEvenWgradIdeal.nD Cert.InEvenWgradIdeal.τ).loc Cert.InEvenWgradIdeal.main_arg1)
      ∧ m' ((c.tc : Thread Cert.InEvenWgradReferenceIdeal.nD Cert.InEvenWgradReferenceIdeal.τ).loc Cert.InEvenWgradReferenceIdeal.main_arg2) = m ((c.tc : Thread Cert.InEvenWgradIdeal.nD Cert.InEvenWgradIdeal.τ).loc Cert.InEvenWgradIdeal.main_arg2)) →
    ∃ (v0 : (c : Dev Cert.InEvenWgradIdeal.nD) → Buf (Elt Ideal) ((c.tc : Thread Cert.InEvenWgradIdeal.nD Cert.InEvenWgradIdeal.τ).loc Cert.InEvenWgradIdeal.main_v1)),
      θ_run (Cert.InEvenWgradIdeal.defs (F := Ideal)) (onTc (τ := Cert.InEvenWgradIdeal.τ) (Cert.InEvenWgradIdeal.main (F := Ideal))) ⟨m, fun _ => 0, g⟩ (fun r => ∀ c : Dev Cert.InEvenWgradIdeal.nD,
          r.2.mem ((c.tc : Thread Cert.InEvenWgradIdeal.nD Cert.InEvenWgradIdeal.τ).loc Cert.InEvenWgradIdeal.main_v1) = v0 c
          ∧ r.2.mem ((c.tc : Thread Cert.InEvenWgradIdeal.nD Cert.InEvenWgradIdeal.τ).loc Cert.InEvenWgradIdeal.main_arg0) = m ((c.tc : Thread Cert.InEvenWgradIdeal.nD Cert.InEvenWgradIdeal.τ).loc Cert.InEvenWgradIdeal.main_arg0)
          ∧ r.2.mem ((c.tc : Thread Cert.InEvenWgradIdeal.nD Cert.InEvenWgradIdeal.τ).loc Cert.InEvenWgradIdeal.main_arg1) = m ((c.tc : Thread Cert.InEvenWgradIdeal.nD Cert.InEvenWgradIdeal.τ).loc Cert.InEvenWgradIdeal.main_arg1)
          ∧ r.2.mem ((c.tc : Thread Cert.InEvenWgradIdeal.nD Cert.InEvenWgradIdeal.τ).loc Cert.InEvenWgradIdeal.main_arg2) = m ((c.tc : Thread Cert.InEvenWgradIdeal.nD Cert.InEvenWgradIdeal.τ).loc Cert.InEvenWgradIdeal.main_arg2))
      ∧ θ_run (Cert.InEvenWgradReferenceIdeal.defs (F := Ideal)) (onTc (τ := Cert.InEvenWgradReferenceIdeal.τ) (Cert.InEvenWgradReferenceIdeal.main (F := Ideal))) ⟨m', fun _ => 0, g'⟩ (fun r => ∀ c : Dev Cert.InEvenWgradReferenceIdeal.nD,
          r.2.mem ((c.tc : Thread Cert.InEvenWgradReferenceIdeal.nD Cert.InEvenWgradReferenceIdeal.τ).loc Cert.InEvenWgradReferenceIdeal.main_v7) = v0 c
          ∧ r.2.mem ((c.tc : Thread Cert.InEvenWgradReferenceIdeal.nD Cert.InEvenWgradReferenceIdeal.τ).loc Cert.InEvenWgradReferenceIdeal.main_arg0) = m' ((c.tc : Thread Cert.InEvenWgradReferenceIdeal.nD Cert.InEvenWgradReferenceIdeal.τ).loc Cert.InEvenWgradReferenceIdeal.main_arg0)
          ∧ r.2.mem ((c.tc : Thread Cert.InEvenWgradReferenceIdeal.nD Cert.InEvenWgradReferenceIdeal.τ).loc Cert.InEvenWgradReferenceIdeal.main_arg1) = m' ((c.tc : Thread Cert.InEvenWgradReferenceIdeal.nD Cert.InEvenWgradReferenceIdeal.τ).loc Cert.InEvenWgradReferenceIdeal.main_arg1)
          ∧ r.2.mem ((c.tc : Thread Cert.InEvenWgradReferenceIdeal.nD Cert.InEvenWgradReferenceIdeal.τ).loc Cert.InEvenWgradReferenceIdeal.main_arg2) = m' ((c.tc : Thread Cert.InEvenWgradReferenceIdeal.nD Cert.InEvenWgradReferenceIdeal.τ).loc Cert.InEvenWgradReferenceIdeal.main_arg2))

def preserves_InOddWgrad_InOddWgradIdeal : Prop :=
  True

def algebraic_InOddWgradIdeal_InOddWgradReferenceIdeal [hInOddWgradIdeal : Cert.InOddWgradIdeal.Facts] [hInOddWgradReferenceIdeal : Cert.InOddWgradReferenceIdeal.Facts] : Prop :=
  ∀ (m : (ℓ : Loc Cert.InOddWgradIdeal.nD Cert.InOddWgradIdeal.τ Cert.InOddWgradIdeal.sig) → Buf (Elt Ideal) ℓ) (g : Dev Cert.InOddWgradIdeal.nD → PrngReg)
    (m' : (ℓ : Loc Cert.InOddWgradReferenceIdeal.nD Cert.InOddWgradReferenceIdeal.τ Cert.InOddWgradReferenceIdeal.sig) → Buf (Elt Ideal) ℓ) (g' : Dev Cert.InOddWgradReferenceIdeal.nD → PrngReg), Pre_InOddWgradIdeal m →
    (∀ c : Dev Cert.InOddWgradIdeal.nD,
      m' ((c.tc : Thread Cert.InOddWgradReferenceIdeal.nD Cert.InOddWgradReferenceIdeal.τ).loc Cert.InOddWgradReferenceIdeal.main_arg0) = m ((c.tc : Thread Cert.InOddWgradIdeal.nD Cert.InOddWgradIdeal.τ).loc Cert.InOddWgradIdeal.main_arg0)
      ∧ m' ((c.tc : Thread Cert.InOddWgradReferenceIdeal.nD Cert.InOddWgradReferenceIdeal.τ).loc Cert.InOddWgradReferenceIdeal.main_arg1) = m ((c.tc : Thread Cert.InOddWgradIdeal.nD Cert.InOddWgradIdeal.τ).loc Cert.InOddWgradIdeal.main_arg1)
      ∧ m' ((c.tc : Thread Cert.InOddWgradReferenceIdeal.nD Cert.InOddWgradReferenceIdeal.τ).loc Cert.InOddWgradReferenceIdeal.main_arg2) = m ((c.tc : Thread Cert.InOddWgradIdeal.nD Cert.InOddWgradIdeal.τ).loc Cert.InOddWgradIdeal.main_arg2)) →
    ∃ (v0 : (c : Dev Cert.InOddWgradIdeal.nD) → Buf (Elt Ideal) ((c.tc : Thread Cert.InOddWgradIdeal.nD Cert.InOddWgradIdeal.τ).loc Cert.InOddWgradIdeal.main_v1)),
      θ_run (Cert.InOddWgradIdeal.defs (F := Ideal)) (onTc (τ := Cert.InOddWgradIdeal.τ) (Cert.InOddWgradIdeal.main (F := Ideal))) ⟨m, fun _ => 0, g⟩ (fun r => ∀ c : Dev Cert.InOddWgradIdeal.nD,
          r.2.mem ((c.tc : Thread Cert.InOddWgradIdeal.nD Cert.InOddWgradIdeal.τ).loc Cert.InOddWgradIdeal.main_v1) = v0 c
          ∧ r.2.mem ((c.tc : Thread Cert.InOddWgradIdeal.nD Cert.InOddWgradIdeal.τ).loc Cert.InOddWgradIdeal.main_arg0) = m ((c.tc : Thread Cert.InOddWgradIdeal.nD Cert.InOddWgradIdeal.τ).loc Cert.InOddWgradIdeal.main_arg0)
          ∧ r.2.mem ((c.tc : Thread Cert.InOddWgradIdeal.nD Cert.InOddWgradIdeal.τ).loc Cert.InOddWgradIdeal.main_arg1) = m ((c.tc : Thread Cert.InOddWgradIdeal.nD Cert.InOddWgradIdeal.τ).loc Cert.InOddWgradIdeal.main_arg1)
          ∧ r.2.mem ((c.tc : Thread Cert.InOddWgradIdeal.nD Cert.InOddWgradIdeal.τ).loc Cert.InOddWgradIdeal.main_arg2) = m ((c.tc : Thread Cert.InOddWgradIdeal.nD Cert.InOddWgradIdeal.τ).loc Cert.InOddWgradIdeal.main_arg2))
      ∧ θ_run (Cert.InOddWgradReferenceIdeal.defs (F := Ideal)) (onTc (τ := Cert.InOddWgradReferenceIdeal.τ) (Cert.InOddWgradReferenceIdeal.main (F := Ideal))) ⟨m', fun _ => 0, g'⟩ (fun r => ∀ c : Dev Cert.InOddWgradReferenceIdeal.nD,
          r.2.mem ((c.tc : Thread Cert.InOddWgradReferenceIdeal.nD Cert.InOddWgradReferenceIdeal.τ).loc Cert.InOddWgradReferenceIdeal.main_v7) = v0 c
          ∧ r.2.mem ((c.tc : Thread Cert.InOddWgradReferenceIdeal.nD Cert.InOddWgradReferenceIdeal.τ).loc Cert.InOddWgradReferenceIdeal.main_arg0) = m' ((c.tc : Thread Cert.InOddWgradReferenceIdeal.nD Cert.InOddWgradReferenceIdeal.τ).loc Cert.InOddWgradReferenceIdeal.main_arg0)
          ∧ r.2.mem ((c.tc : Thread Cert.InOddWgradReferenceIdeal.nD Cert.InOddWgradReferenceIdeal.τ).loc Cert.InOddWgradReferenceIdeal.main_arg1) = m' ((c.tc : Thread Cert.InOddWgradReferenceIdeal.nD Cert.InOddWgradReferenceIdeal.τ).loc Cert.InOddWgradReferenceIdeal.main_arg1)
          ∧ r.2.mem ((c.tc : Thread Cert.InOddWgradReferenceIdeal.nD Cert.InOddWgradReferenceIdeal.τ).loc Cert.InOddWgradReferenceIdeal.main_arg2) = m' ((c.tc : Thread Cert.InOddWgradReferenceIdeal.nD Cert.InOddWgradReferenceIdeal.τ).loc Cert.InOddWgradReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)
      ∧ m' ((c.tc : Thread Cert.OutGradReferenceIdeal.nD Cert.OutGradReferenceIdeal.τ).loc Cert.OutGradReferenceIdeal.main_arg2) = m ((c.tc : Thread Cert.OutGradIdeal.nD Cert.OutGradIdeal.τ).loc Cert.OutGradIdeal.main_arg2)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v4) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1)
          ∧ r.2.mem ((c.tc : Thread Cert.OutGradReferenceIdeal.nD Cert.OutGradReferenceIdeal.τ).loc Cert.OutGradReferenceIdeal.main_arg2) = m' ((c.tc : Thread Cert.OutGradReferenceIdeal.nD Cert.OutGradReferenceIdeal.τ).loc Cert.OutGradReferenceIdeal.main_arg2))

def preserves_OutWgrad_OutWgradIdeal : Prop :=
  True

def algebraic_OutWgradIdeal_OutWgradReferenceIdeal [hOutWgradIdeal : Cert.OutWgradIdeal.Facts] [hOutWgradReferenceIdeal : Cert.OutWgradReferenceIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradReferenceIdeal.nD Cert.OutWgradReferenceIdeal.τ Cert.OutWgradReferenceIdeal.sig) → Buf (Elt Ideal) ℓ) (g' : Dev Cert.OutWgradReferenceIdeal.nD → PrngReg), Pre_OutWgradIdeal m →
    (∀ c : Dev Cert.OutWgradIdeal.nD,
      m' ((c.tc : Thread Cert.OutWgradReferenceIdeal.nD Cert.OutWgradReferenceIdeal.τ).loc Cert.OutWgradReferenceIdeal.main_arg0) = m ((c.tc : Thread Cert.OutWgradIdeal.nD Cert.OutWgradIdeal.τ).loc Cert.OutWgradIdeal.main_arg0)
      ∧ m' ((c.tc : Thread Cert.OutWgradReferenceIdeal.nD Cert.OutWgradReferenceIdeal.τ).loc Cert.OutWgradReferenceIdeal.main_arg1) = m ((c.tc : Thread Cert.OutWgradIdeal.nD Cert.OutWgradIdeal.τ).loc Cert.OutWgradIdeal.main_arg1)
      ∧ m' ((c.tc : Thread Cert.OutWgradReferenceIdeal.nD Cert.OutWgradReferenceIdeal.τ).loc Cert.OutWgradReferenceIdeal.main_arg2) = m ((c.tc : Thread Cert.OutWgradIdeal.nD Cert.OutWgradIdeal.τ).loc Cert.OutWgradIdeal.main_arg2)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ θ_run (Cert.OutWgradReferenceIdeal.defs (F := Ideal)) (onTc (τ := Cert.OutWgradReferenceIdeal.τ) (Cert.OutWgradReferenceIdeal.main (F := Ideal))) ⟨m', fun _ => 0, g'⟩ (fun r => ∀ c : Dev Cert.OutWgradReferenceIdeal.nD,
          r.2.mem ((c.tc : Thread Cert.OutWgradReferenceIdeal.nD Cert.OutWgradReferenceIdeal.τ).loc Cert.OutWgradReferenceIdeal.main_v7) = v0 c
          ∧ r.2.mem ((c.tc : Thread Cert.OutWgradReferenceIdeal.nD Cert.OutWgradReferenceIdeal.τ).loc Cert.OutWgradReferenceIdeal.main_arg0) = m' ((c.tc : Thread Cert.OutWgradReferenceIdeal.nD Cert.OutWgradReferenceIdeal.τ).loc Cert.OutWgradReferenceIdeal.main_arg0)
          ∧ r.2.mem ((c.tc : Thread Cert.OutWgradReferenceIdeal.nD Cert.OutWgradReferenceIdeal.τ).loc Cert.OutWgradReferenceIdeal.main_arg1) = m' ((c.tc : Thread Cert.OutWgradReferenceIdeal.nD Cert.OutWgradReferenceIdeal.τ).loc Cert.OutWgradReferenceIdeal.main_arg1)
          ∧ r.2.mem ((c.tc : Thread Cert.OutWgradReferenceIdeal.nD Cert.OutWgradReferenceIdeal.τ).loc Cert.OutWgradReferenceIdeal.main_arg2) = m' ((c.tc : Thread Cert.OutWgradReferenceIdeal.nD Cert.OutWgradReferenceIdeal.τ).loc Cert.OutWgradReferenceIdeal.main_arg2))

def preserves_AttGrad_AttGradIdeal : Prop :=
  IdealRules.named_const.Statement Cert.AttGradIdeal.κ "ln2" .f32 0x3F317218#32 ((Real.log 2 : ℝ) : EReal)
  ∧ IdealRules.named_const.Statement Cert.AttGradIdeal.κ "scale" .f32 0x3DB504F3#32 (((Real.sqrt 128)⁻¹ : ℝ) : EReal)

def algebraic_AttGradIdeal_AttGradReferenceIdeal_pre_att_finite [hAttGradIdeal : Cert.AttGradIdeal.Facts] [hAttGradReferenceIdeal : Cert.AttGradReferenceIdeal.Facts] [hPre_att_finite : Cert.Pre_att_finite.Facts] : Prop :=
  ∀ (m : (ℓ : Loc Cert.AttGradIdeal.nD Cert.AttGradIdeal.τ Cert.AttGradIdeal.sig) → Buf (Elt Ideal) ℓ) (g : Dev Cert.AttGradIdeal.nD → PrngReg)
    (m' : (ℓ : Loc Cert.AttGradReferenceIdeal.nD Cert.AttGradReferenceIdeal.τ Cert.AttGradReferenceIdeal.sig) → Buf (Elt Ideal) ℓ) (g' : Dev Cert.AttGradReferenceIdeal.nD → PrngReg), Pre_AttGradIdeal_att_finite m →
    (∀ c : Dev Cert.AttGradIdeal.nD,
      m' ((c.tc : Thread Cert.AttGradReferenceIdeal.nD Cert.AttGradReferenceIdeal.τ).loc Cert.AttGradReferenceIdeal.main_arg0) = m ((c.tc : Thread Cert.AttGradIdeal.nD Cert.AttGradIdeal.τ).loc Cert.AttGradIdeal.main_arg0)
      ∧ m' ((c.tc : Thread Cert.AttGradReferenceIdeal.nD Cert.AttGradReferenceIdeal.τ).loc Cert.AttGradReferenceIdeal.main_arg1) = m ((c.tc : Thread Cert.AttGradIdeal.nD Cert.AttGradIdeal.τ).loc Cert.AttGradIdeal.main_arg1)
      ∧ m' ((c.tc : Thread Cert.AttGradReferenceIdeal.nD Cert.AttGradReferenceIdeal.τ).loc Cert.AttGradReferenceIdeal.main_arg2) = m ((c.tc : Thread Cert.AttGradIdeal.nD Cert.AttGradIdeal.τ).loc Cert.AttGradIdeal.main_arg2)
      ∧ m' ((c.tc : Thread Cert.AttGradReferenceIdeal.nD Cert.AttGradReferenceIdeal.τ).loc Cert.AttGradReferenceIdeal.main_arg3) = m ((c.tc : Thread Cert.AttGradIdeal.nD Cert.AttGradIdeal.τ).loc Cert.AttGradIdeal.main_arg3)) →
    ∃ (v0 : (c : Dev Cert.AttGradIdeal.nD) → Buf (Elt Ideal) ((c.tc : Thread Cert.AttGradIdeal.nD Cert.AttGradIdeal.τ).loc Cert.AttGradIdeal.main_v47_0)) (v1 : (c : Dev Cert.AttGradIdeal.nD) → Buf (Elt Ideal) ((c.tc : Thread Cert.AttGradIdeal.nD Cert.AttGradIdeal.τ).loc Cert.AttGradIdeal.main_v47_1)) (v2 : (c : Dev Cert.AttGradIdeal.nD) → Buf (Elt Ideal) ((c.tc : Thread Cert.AttGradIdeal.nD Cert.AttGradIdeal.τ).loc Cert.AttGradIdeal.main_v47_2)),
      θ_run (Cert.AttGradIdeal.defs (F := Ideal)) (onTc (τ := Cert.AttGradIdeal.τ) (Cert.AttGradIdeal.main (F := Ideal))) ⟨m, fun _ => 0, g⟩ (fun r => ∀ c : Dev Cert.AttGradIdeal.nD,
          r.2.mem ((c.tc : Thread Cert.AttGradIdeal.nD Cert.AttGradIdeal.τ).loc Cert.AttGradIdeal.main_v47_0) = v0 c
          ∧ r.2.mem ((c.tc : Thread Cert.AttGradIdeal.nD Cert.AttGradIdeal.τ).loc Cert.AttGradIdeal.main_v47_1) = v1 c
          ∧ r.2.mem ((c.tc : Thread Cert.AttGradIdeal.nD Cert.AttGradIdeal.τ).loc Cert.AttGradIdeal.main_v47_2) = v2 c
          ∧ r.2.mem ((c.tc : Thread Cert.AttGradIdeal.nD Cert.AttGradIdeal.τ).loc Cert.AttGradIdeal.main_arg0) = m ((c.tc : Thread Cert.AttGradIdeal.nD Cert.AttGradIdeal.τ).loc Cert.AttGradIdeal.main_arg0)
          ∧ r.2.mem ((c.tc : Thread Cert.AttGradIdeal.nD Cert.AttGradIdeal.τ).loc Cert.AttGradIdeal.main_arg1) = m ((c.tc : Thread Cert.AttGradIdeal.nD Cert.AttGradIdeal.τ).loc Cert.AttGradIdeal.main_arg1)
          ∧ r.2.mem ((c.tc : Thread Cert.AttGradIdeal.nD Cert.AttGradIdeal.τ).loc Cert.AttGradIdeal.main_arg2) = m ((c.tc : Thread Cert.AttGradIdeal.nD Cert.AttGradIdeal.τ).loc Cert.AttGradIdeal.main_arg2)
          ∧ r.2.mem ((c.tc : Thread Cert.AttGradIdeal.nD Cert.AttGradIdeal.τ).loc Cert.AttGradIdeal.main_arg3) = m ((c.tc : Thread Cert.AttGradIdeal.nD Cert.AttGradIdeal.τ).loc Cert.AttGradIdeal.main_arg3))
      ∧ θ_run (Cert.AttGradReferenceIdeal.defs (F := Ideal)) (onTc (τ := Cert.AttGradReferenceIdeal.τ) (Cert.AttGradReferenceIdeal.main (F := Ideal))) ⟨m', fun _ => 0, g'⟩ (fun r => ∀ c : Dev Cert.AttGradReferenceIdeal.nD,
          r.2.mem ((c.tc : Thread Cert.AttGradReferenceIdeal.nD Cert.AttGradReferenceIdeal.τ).loc Cert.AttGradReferenceIdeal.main_v75) = v0 c
          ∧ r.2.mem ((c.tc : Thread Cert.AttGradReferenceIdeal.nD Cert.AttGradReferenceIdeal.τ).loc Cert.AttGradReferenceIdeal.main_v73) = v1 c
          ∧ r.2.mem ((c.tc : Thread Cert.AttGradReferenceIdeal.nD Cert.AttGradReferenceIdeal.τ).loc Cert.AttGradReferenceIdeal.main_v55) = v2 c
          ∧ r.2.mem ((c.tc : Thread Cert.AttGradReferenceIdeal.nD Cert.AttGradReferenceIdeal.τ).loc Cert.AttGradReferenceIdeal.main_arg0) = m' ((c.tc : Thread Cert.AttGradReferenceIdeal.nD Cert.AttGradReferenceIdeal.τ).loc Cert.AttGradReferenceIdeal.main_arg0)
          ∧ r.2.mem ((c.tc : Thread Cert.AttGradReferenceIdeal.nD Cert.AttGradReferenceIdeal.τ).loc Cert.AttGradReferenceIdeal.main_arg1) = m' ((c.tc : Thread Cert.AttGradReferenceIdeal.nD Cert.AttGradReferenceIdeal.τ).loc Cert.AttGradReferenceIdeal.main_arg1)
          ∧ r.2.mem ((c.tc : Thread Cert.AttGradReferenceIdeal.nD Cert.AttGradReferenceIdeal.τ).loc Cert.AttGradReferenceIdeal.main_arg2) = m' ((c.tc : Thread Cert.AttGradReferenceIdeal.nD Cert.AttGradReferenceIdeal.τ).loc Cert.AttGradReferenceIdeal.main_arg2)
          ∧ r.2.mem ((c.tc : Thread Cert.AttGradReferenceIdeal.nD Cert.AttGradReferenceIdeal.τ).loc Cert.AttGradReferenceIdeal.main_arg3) = m' ((c.tc : Thread Cert.AttGradReferenceIdeal.nD Cert.AttGradReferenceIdeal.τ).loc Cert.AttGradReferenceIdeal.main_arg3))

def preserves_Att_AttIdeal : Prop :=
  IdealRules.named_const.Statement Cert.AttIdeal.κ "ln2" .f32 0x3F317218#32 ((Real.log 2 : ℝ) : EReal)

def algebraic_AttIdeal_AttReferenceIdeal_pre_att_fwd_finite [hAttIdeal : Cert.AttIdeal.Facts] [hAttReferenceIdeal : Cert.AttReferenceIdeal.Facts] [hPre_att_fwd_finite : Cert.Pre_att_fwd_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttIdeal_att_fwd_finite m →
    (∀ c : Dev Cert.AttIdeal.nD,
      m' ((c.tc : Thread Cert.AttReferenceIdeal.nD Cert.AttReferenceIdeal.τ).loc Cert.AttReferenceIdeal.main_arg0) = m ((c.tc : Thread Cert.AttIdeal.nD Cert.AttIdeal.τ).loc Cert.AttIdeal.main_arg0)
      ∧ m' ((c.tc : Thread Cert.AttReferenceIdeal.nD Cert.AttReferenceIdeal.τ).loc Cert.AttReferenceIdeal.main_arg1) = m ((c.tc : Thread Cert.AttIdeal.nD Cert.AttIdeal.τ).loc Cert.AttIdeal.main_arg1)
      ∧ m' ((c.tc : Thread Cert.AttReferenceIdeal.nD Cert.AttReferenceIdeal.τ).loc Cert.AttReferenceIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v11_0)) (v1 : (c : Dev Cert.AttIdeal.nD) → Buf (Elt Ideal) ((c.tc : Thread Cert.AttIdeal.nD Cert.AttIdeal.τ).loc Cert.AttIdeal.main_v11_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v11_0) = v0 c
          ∧ r.2.mem ((c.tc : Thread Cert.AttIdeal.nD Cert.AttIdeal.τ).loc Cert.AttIdeal.main_v11_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v48) = v0 c
          ∧ r.2.mem ((c.tc : Thread Cert.AttReferenceIdeal.nD Cert.AttReferenceIdeal.τ).loc Cert.AttReferenceIdeal.main_v50) = v1 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2))

def preserves_AdamEvenIn_AdamEvenInIdeal : Prop :=
  True

def algebraic_AdamEvenInIdeal_AdamEvenInReferenceIdeal [hAdamEvenInIdeal : Cert.AdamEvenInIdeal.Facts] [hAdamEvenInReferenceIdeal : Cert.AdamEvenInReferenceIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInReferenceIdeal.nD Cert.AdamEvenInReferenceIdeal.τ Cert.AdamEvenInReferenceIdeal.sig) → Buf (Elt Ideal) ℓ) (g' : Dev Cert.AdamEvenInReferenceIdeal.nD → PrngReg), Pre_AdamEvenInIdeal m →
    (∀ c : Dev Cert.AdamEvenInIdeal.nD,
      m' ((c.tc : Thread Cert.AdamEvenInReferenceIdeal.nD Cert.AdamEvenInReferenceIdeal.τ).loc Cert.AdamEvenInReferenceIdeal.main_arg0) = m ((c.tc : Thread Cert.AdamEvenInIdeal.nD Cert.AdamEvenInIdeal.τ).loc Cert.AdamEvenInIdeal.main_arg0)
      ∧ m' ((c.tc : Thread Cert.AdamEvenInReferenceIdeal.nD Cert.AdamEvenInReferenceIdeal.τ).loc Cert.AdamEvenInReferenceIdeal.main_arg1) = m ((c.tc : Thread Cert.AdamEvenInIdeal.nD Cert.AdamEvenInIdeal.τ).loc Cert.AdamEvenInIdeal.main_arg1)
      ∧ m' ((c.tc : Thread Cert.AdamEvenInReferenceIdeal.nD Cert.AdamEvenInReferenceIdeal.τ).loc Cert.AdamEvenInReferenceIdeal.main_arg2) = m ((c.tc : Thread Cert.AdamEvenInIdeal.nD Cert.AdamEvenInIdeal.τ).loc Cert.AdamEvenInIdeal.main_arg2)
      ∧ m' ((c.tc : Thread Cert.AdamEvenInReferenceIdeal.nD Cert.AdamEvenInReferenceIdeal.τ).loc Cert.AdamEvenInReferenceIdeal.main_arg3) = m ((c.tc : Thread Cert.AdamEvenInIdeal.nD Cert.AdamEvenInIdeal.τ).loc Cert.AdamEvenInIdeal.main_arg3)
      ∧ m' ((c.tc : Thread Cert.AdamEvenInReferenceIdeal.nD Cert.AdamEvenInReferenceIdeal.τ).loc Cert.AdamEvenInReferenceIdeal.main_arg4) = m ((c.tc : Thread Cert.AdamEvenInIdeal.nD Cert.AdamEvenInIdeal.τ).loc Cert.AdamEvenInIdeal.main_arg4)) →
    ∃ (v0 : (c : Dev Cert.AdamEvenInIdeal.nD) → Buf (Elt Ideal) ((c.tc : Thread Cert.AdamEvenInIdeal.nD Cert.AdamEvenInIdeal.τ).loc Cert.AdamEvenInIdeal.main_v0_0)) (v1 : (c : Dev Cert.AdamEvenInIdeal.nD) → Buf (Elt Ideal) ((c.tc : Thread Cert.AdamEvenInIdeal.nD Cert.AdamEvenInIdeal.τ).loc Cert.AdamEvenInIdeal.main_v0_1)) (v2 : (c : Dev Cert.AdamEvenInIdeal.nD) → Buf (Elt Ideal) ((c.tc : Thread Cert.AdamEvenInIdeal.nD Cert.AdamEvenInIdeal.τ).loc Cert.AdamEvenInIdeal.main_v0_2)) (v3 : (c : Dev Cert.AdamEvenInIdeal.nD) → Buf (Elt Ideal) ((c.tc : Thread Cert.AdamEvenInIdeal.nD Cert.AdamEvenInIdeal.τ).loc Cert.AdamEvenInIdeal.main_v0_3)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v0_0) = v0 c
          ∧ r.2.mem ((c.tc : Thread Cert.AdamEvenInIdeal.nD Cert.AdamEvenInIdeal.τ).loc Cert.AdamEvenInIdeal.main_v0_1) = v1 c
          ∧ r.2.mem ((c.tc : Thread Cert.AdamEvenInIdeal.nD Cert.AdamEvenInIdeal.τ).loc Cert.AdamEvenInIdeal.main_v0_2) = v2 c
          ∧ r.2.mem ((c.tc : Thread Cert.AdamEvenInIdeal.nD Cert.AdamEvenInIdeal.τ).loc Cert.AdamEvenInIdeal.main_v0_3) = v3 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3)
          ∧ r.2.mem ((c.tc : Thread Cert.AdamEvenInIdeal.nD Cert.AdamEvenInIdeal.τ).loc Cert.AdamEvenInIdeal.main_arg4) = m ((c.tc : Thread Cert.AdamEvenInIdeal.nD Cert.AdamEvenInIdeal.τ).loc Cert.AdamEvenInIdeal.main_arg4))
      ∧ θ_run (Cert.AdamEvenInReferenceIdeal.defs (F := Ideal)) (onTc (τ := Cert.AdamEvenInReferenceIdeal.τ) (Cert.AdamEvenInReferenceIdeal.main (F := Ideal))) ⟨m', fun _ => 0, g'⟩ (fun r => ∀ c : Dev Cert.AdamEvenInReferenceIdeal.nD,
          r.2.mem ((c.tc : Thread Cert.AdamEvenInReferenceIdeal.nD Cert.AdamEvenInReferenceIdeal.τ).loc Cert.AdamEvenInReferenceIdeal.main_v3) = v0 c
          ∧ r.2.mem ((c.tc : Thread Cert.AdamEvenInReferenceIdeal.nD Cert.AdamEvenInReferenceIdeal.τ).loc Cert.AdamEvenInReferenceIdeal.main_v27) = v1 c
          ∧ r.2.mem ((c.tc : Thread Cert.AdamEvenInReferenceIdeal.nD Cert.AdamEvenInReferenceIdeal.τ).loc Cert.AdamEvenInReferenceIdeal.main_v8) = v2 c
          ∧ r.2.mem ((c.tc : Thread Cert.AdamEvenInReferenceIdeal.nD Cert.AdamEvenInReferenceIdeal.τ).loc Cert.AdamEvenInReferenceIdeal.main_v14) = v3 c
          ∧ r.2.mem ((c.tc : Thread Cert.AdamEvenInReferenceIdeal.nD Cert.AdamEvenInReferenceIdeal.τ).loc Cert.AdamEvenInReferenceIdeal.main_arg0) = m' ((c.tc : Thread Cert.AdamEvenInReferenceIdeal.nD Cert.AdamEvenInReferenceIdeal.τ).loc Cert.AdamEvenInReferenceIdeal.main_arg0)
          ∧ r.2.mem ((c.tc : Thread Cert.AdamEvenInReferenceIdeal.nD Cert.AdamEvenInReferenceIdeal.τ).loc Cert.AdamEvenInReferenceIdeal.main_arg1) = m' ((c.tc : Thread Cert.AdamEvenInReferenceIdeal.nD Cert.AdamEvenInReferenceIdeal.τ).loc Cert.AdamEvenInReferenceIdeal.main_arg1)
          ∧ r.2.mem ((c.tc : Thread Cert.AdamEvenInReferenceIdeal.nD Cert.AdamEvenInReferenceIdeal.τ).loc Cert.AdamEvenInReferenceIdeal.main_arg2) = m' ((c.tc : Thread Cert.AdamEvenInReferenceIdeal.nD Cert.AdamEvenInReferenceIdeal.τ).loc Cert.AdamEvenInReferenceIdeal.main_arg2)
          ∧ r.2.mem ((c.tc : Thread Cert.AdamEvenInReferenceIdeal.nD Cert.AdamEvenInReferenceIdeal.τ).loc Cert.AdamEvenInReferenceIdeal.main_arg3) = m' ((c.tc : Thread Cert.AdamEvenInReferenceIdeal.nD Cert.AdamEvenInReferenceIdeal.τ).loc Cert.AdamEvenInReferenceIdeal.main_arg3)
          ∧ r.2.mem ((c.tc : Thread Cert.AdamEvenInReferenceIdeal.nD Cert.AdamEvenInReferenceIdeal.τ).loc Cert.AdamEvenInReferenceIdeal.main_arg4) = m' ((c.tc : Thread Cert.AdamEvenInReferenceIdeal.nD Cert.AdamEvenInReferenceIdeal.τ).loc Cert.AdamEvenInReferenceIdeal.main_arg4))

def preserves_AdamOddIn_AdamOddInIdeal : Prop :=
  True

def algebraic_AdamOddInIdeal_AdamOddInReferenceIdeal [hAdamOddInIdeal : Cert.AdamOddInIdeal.Facts] [hAdamOddInReferenceIdeal : Cert.AdamOddInReferenceIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInReferenceIdeal.nD Cert.AdamOddInReferenceIdeal.τ Cert.AdamOddInReferenceIdeal.sig) → Buf (Elt Ideal) ℓ) (g' : Dev Cert.AdamOddInReferenceIdeal.nD → PrngReg), Pre_AdamOddInIdeal m →
    (∀ c : Dev Cert.AdamOddInIdeal.nD,
      m' ((c.tc : Thread Cert.AdamOddInReferenceIdeal.nD Cert.AdamOddInReferenceIdeal.τ).loc Cert.AdamOddInReferenceIdeal.main_arg0) = m ((c.tc : Thread Cert.AdamOddInIdeal.nD Cert.AdamOddInIdeal.τ).loc Cert.AdamOddInIdeal.main_arg0)
      ∧ m' ((c.tc : Thread Cert.AdamOddInReferenceIdeal.nD Cert.AdamOddInReferenceIdeal.τ).loc Cert.AdamOddInReferenceIdeal.main_arg1) = m ((c.tc : Thread Cert.AdamOddInIdeal.nD Cert.AdamOddInIdeal.τ).loc Cert.AdamOddInIdeal.main_arg1)
      ∧ m' ((c.tc : Thread Cert.AdamOddInReferenceIdeal.nD Cert.AdamOddInReferenceIdeal.τ).loc Cert.AdamOddInReferenceIdeal.main_arg2) = m ((c.tc : Thread Cert.AdamOddInIdeal.nD Cert.AdamOddInIdeal.τ).loc Cert.AdamOddInIdeal.main_arg2)
      ∧ m' ((c.tc : Thread Cert.AdamOddInReferenceIdeal.nD Cert.AdamOddInReferenceIdeal.τ).loc Cert.AdamOddInReferenceIdeal.main_arg3) = m ((c.tc : Thread Cert.AdamOddInIdeal.nD Cert.AdamOddInIdeal.τ).loc Cert.AdamOddInIdeal.main_arg3)
      ∧ m' ((c.tc : Thread Cert.AdamOddInReferenceIdeal.nD Cert.AdamOddInReferenceIdeal.τ).loc Cert.AdamOddInReferenceIdeal.main_arg4) = m ((c.tc : Thread Cert.AdamOddInIdeal.nD Cert.AdamOddInIdeal.τ).loc Cert.AdamOddInIdeal.main_arg4)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)) (v3 : (c : Dev Cert.AdamOddInIdeal.nD) → Buf (Elt Ideal) ((c.tc : Thread Cert.AdamOddInIdeal.nD Cert.AdamOddInIdeal.τ).loc Cert.AdamOddInIdeal.main_v0_3)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_v0_3) = v3 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3)
          ∧ r.2.mem ((c.tc : Thread Cert.AdamOddInIdeal.nD Cert.AdamOddInIdeal.τ).loc Cert.AdamOddInIdeal.main_arg4) = m ((c.tc : Thread Cert.AdamOddInIdeal.nD Cert.AdamOddInIdeal.τ).loc Cert.AdamOddInIdeal.main_arg4))
      ∧ θ_run (Cert.AdamOddInReferenceIdeal.defs (F := Ideal)) (onTc (τ := Cert.AdamOddInReferenceIdeal.τ) (Cert.AdamOddInReferenceIdeal.main (F := Ideal))) ⟨m', fun _ => 0, g'⟩ (fun r => ∀ c : Dev Cert.AdamOddInReferenceIdeal.nD,
          r.2.mem ((c.tc : Thread Cert.AdamOddInReferenceIdeal.nD Cert.AdamOddInReferenceIdeal.τ).loc Cert.AdamOddInReferenceIdeal.main_v3) = v0 c
          ∧ r.2.mem ((c.tc : Thread Cert.AdamOddInReferenceIdeal.nD Cert.AdamOddInReferenceIdeal.τ).loc Cert.AdamOddInReferenceIdeal.main_v27) = v1 c
          ∧ r.2.mem ((c.tc : Thread Cert.AdamOddInReferenceIdeal.nD Cert.AdamOddInReferenceIdeal.τ).loc Cert.AdamOddInReferenceIdeal.main_v8) = v2 c
          ∧ r.2.mem ((c.tc : Thread Cert.AdamOddInReferenceIdeal.nD Cert.AdamOddInReferenceIdeal.τ).loc Cert.AdamOddInReferenceIdeal.main_v14) = v3 c
          ∧ r.2.mem ((c.tc : Thread Cert.AdamOddInReferenceIdeal.nD Cert.AdamOddInReferenceIdeal.τ).loc Cert.AdamOddInReferenceIdeal.main_arg0) = m' ((c.tc : Thread Cert.AdamOddInReferenceIdeal.nD Cert.AdamOddInReferenceIdeal.τ).loc Cert.AdamOddInReferenceIdeal.main_arg0)
          ∧ r.2.mem ((c.tc : Thread Cert.AdamOddInReferenceIdeal.nD Cert.AdamOddInReferenceIdeal.τ).loc Cert.AdamOddInReferenceIdeal.main_arg1) = m' ((c.tc : Thread Cert.AdamOddInReferenceIdeal.nD Cert.AdamOddInReferenceIdeal.τ).loc Cert.AdamOddInReferenceIdeal.main_arg1)
          ∧ r.2.mem ((c.tc : Thread Cert.AdamOddInReferenceIdeal.nD Cert.AdamOddInReferenceIdeal.τ).loc Cert.AdamOddInReferenceIdeal.main_arg2) = m' ((c.tc : Thread Cert.AdamOddInReferenceIdeal.nD Cert.AdamOddInReferenceIdeal.τ).loc Cert.AdamOddInReferenceIdeal.main_arg2)
          ∧ r.2.mem ((c.tc : Thread Cert.AdamOddInReferenceIdeal.nD Cert.AdamOddInReferenceIdeal.τ).loc Cert.AdamOddInReferenceIdeal.main_arg3) = m' ((c.tc : Thread Cert.AdamOddInReferenceIdeal.nD Cert.AdamOddInReferenceIdeal.τ).loc Cert.AdamOddInReferenceIdeal.main_arg3)
          ∧ r.2.mem ((c.tc : Thread Cert.AdamOddInReferenceIdeal.nD Cert.AdamOddInReferenceIdeal.τ).loc Cert.AdamOddInReferenceIdeal.main_arg4) = m' ((c.tc : Thread Cert.AdamOddInReferenceIdeal.nD Cert.AdamOddInReferenceIdeal.τ).loc Cert.AdamOddInReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v3) = v0 c
          ∧ r.2.mem ((c.tc : Thread Cert.AdamOutReferenceIdeal.nD Cert.AdamOutReferenceIdeal.τ).loc Cert.AdamOutReferenceIdeal.main_v27) = v1 c
          ∧ r.2.mem ((c.tc : Thread Cert.AdamOutReferenceIdeal.nD Cert.AdamOutReferenceIdeal.τ).loc Cert.AdamOutReferenceIdeal.main_v8) = v2 c
          ∧ r.2.mem ((c.tc : Thread Cert.AdamOutReferenceIdeal.nD Cert.AdamOutReferenceIdeal.τ).loc Cert.AdamOutReferenceIdeal.main_v14) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamMod_AdamModIdeal : Prop :=
  True

def algebraic_AdamModIdeal_AdamModReferenceIdeal [hAdamModIdeal : Cert.AdamModIdeal.Facts] [hAdamModReferenceIdeal : Cert.AdamModReferenceIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModReferenceIdeal.nD Cert.AdamModReferenceIdeal.τ Cert.AdamModReferenceIdeal.sig) → Buf (Elt Ideal) ℓ) (g' : Dev Cert.AdamModReferenceIdeal.nD → PrngReg), Pre_AdamModIdeal m →
    (∀ c : Dev Cert.AdamModIdeal.nD,
      m' ((c.tc : Thread Cert.AdamModReferenceIdeal.nD Cert.AdamModReferenceIdeal.τ).loc Cert.AdamModReferenceIdeal.main_arg0) = m ((c.tc : Thread Cert.AdamModIdeal.nD Cert.AdamModIdeal.τ).loc Cert.AdamModIdeal.main_arg0)
      ∧ m' ((c.tc : Thread Cert.AdamModReferenceIdeal.nD Cert.AdamModReferenceIdeal.τ).loc Cert.AdamModReferenceIdeal.main_arg1) = m ((c.tc : Thread Cert.AdamModIdeal.nD Cert.AdamModIdeal.τ).loc Cert.AdamModIdeal.main_arg1)
      ∧ m' ((c.tc : Thread Cert.AdamModReferenceIdeal.nD Cert.AdamModReferenceIdeal.τ).loc Cert.AdamModReferenceIdeal.main_arg2) = m ((c.tc : Thread Cert.AdamModIdeal.nD Cert.AdamModIdeal.τ).loc Cert.AdamModIdeal.main_arg2)
      ∧ m' ((c.tc : Thread Cert.AdamModReferenceIdeal.nD Cert.AdamModReferenceIdeal.τ).loc Cert.AdamModReferenceIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModReferenceIdeal.defs (F := Ideal)) (onTc (τ := Cert.AdamModReferenceIdeal.τ) (Cert.AdamModReferenceIdeal.main (F := Ideal))) ⟨m', fun _ => 0, g'⟩ (fun r => ∀ c : Dev Cert.AdamModReferenceIdeal.nD,
          r.2.mem ((c.tc : Thread Cert.AdamModReferenceIdeal.nD Cert.AdamModReferenceIdeal.τ).loc Cert.AdamModReferenceIdeal.main_v0) = v0 c
          ∧ r.2.mem ((c.tc : Thread Cert.AdamModReferenceIdeal.nD Cert.AdamModReferenceIdeal.τ).loc Cert.AdamModReferenceIdeal.main_v24) = v1 c
          ∧ r.2.mem ((c.tc : Thread Cert.AdamModReferenceIdeal.nD Cert.AdamModReferenceIdeal.τ).loc Cert.AdamModReferenceIdeal.main_v5) = v2 c
          ∧ r.2.mem ((c.tc : Thread Cert.AdamModReferenceIdeal.nD Cert.AdamModReferenceIdeal.τ).loc Cert.AdamModReferenceIdeal.main_v11) = v3 c
          ∧ r.2.mem ((c.tc : Thread Cert.AdamModReferenceIdeal.nD Cert.AdamModReferenceIdeal.τ).loc Cert.AdamModReferenceIdeal.main_arg0) = m' ((c.tc : Thread Cert.AdamModReferenceIdeal.nD Cert.AdamModReferenceIdeal.τ).loc Cert.AdamModReferenceIdeal.main_arg0)
          ∧ r.2.mem ((c.tc : Thread Cert.AdamModReferenceIdeal.nD Cert.AdamModReferenceIdeal.τ).loc Cert.AdamModReferenceIdeal.main_arg1) = m' ((c.tc : Thread Cert.AdamModReferenceIdeal.nD Cert.AdamModReferenceIdeal.τ).loc Cert.AdamModReferenceIdeal.main_arg1)
          ∧ r.2.mem ((c.tc : Thread Cert.AdamModReferenceIdeal.nD Cert.AdamModReferenceIdeal.τ).loc Cert.AdamModReferenceIdeal.main_arg2) = m' ((c.tc : Thread Cert.AdamModReferenceIdeal.nD Cert.AdamModReferenceIdeal.τ).loc Cert.AdamModReferenceIdeal.main_arg2)
          ∧ r.2.mem ((c.tc : Thread Cert.AdamModReferenceIdeal.nD Cert.AdamModReferenceIdeal.τ).loc Cert.AdamModReferenceIdeal.main_arg3) = m' ((c.tc : Thread Cert.AdamModReferenceIdeal.nD Cert.AdamModReferenceIdeal.τ).loc Cert.AdamModReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hWgradIn : Cert.WgradIn.Facts) (hWgradInIdeal : Cert.WgradInIdeal.Facts) (hWgradInReferenceIdeal : Cert.WgradInReferenceIdeal.Facts) (hWgradOut : Cert.WgradOut.Facts) (hWgradOutIdeal : Cert.WgradOutIdeal.Facts) (hWgradOutReferenceIdeal : Cert.WgradOutReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hInEvenGrad : Cert.InEvenGrad.Facts) (hInEvenGradIdeal : Cert.InEvenGradIdeal.Facts) (hInEvenGradReferenceIdeal : Cert.InEvenGradReferenceIdeal.Facts) (hInOddGrad : Cert.InOddGrad.Facts) (hInOddGradIdeal : Cert.InOddGradIdeal.Facts) (hInOddGradReferenceIdeal : Cert.InOddGradReferenceIdeal.Facts) (hInEvenWgrad : Cert.InEvenWgrad.Facts) (hInEvenWgradIdeal : Cert.InEvenWgradIdeal.Facts) (hInEvenWgradReferenceIdeal : Cert.InEvenWgradReferenceIdeal.Facts) (hInOddWgrad : Cert.InOddWgrad.Facts) (hInOddWgradIdeal : Cert.InOddWgradIdeal.Facts) (hInOddWgradReferenceIdeal : Cert.InOddWgradReferenceIdeal.Facts) (hOut : Cert.Out.Facts) (hOutIdeal : Cert.OutIdeal.Facts) (hOutReferenceIdeal : Cert.OutReferenceIdeal.Facts) (hOutGrad : Cert.OutGrad.Facts) (hOutGradIdeal : Cert.OutGradIdeal.Facts) (hOutGradReferenceIdeal : Cert.OutGradReferenceIdeal.Facts) (hOutWgrad : Cert.OutWgrad.Facts) (hOutWgradIdeal : Cert.OutWgradIdeal.Facts) (hOutWgradReferenceIdeal : Cert.OutWgradReferenceIdeal.Facts) (hAttGrad : Cert.AttGrad.Facts) (hAttGradIdeal : Cert.AttGradIdeal.Facts) (hAttGradReferenceIdeal : Cert.AttGradReferenceIdeal.Facts) (hAtt : Cert.Att.Facts) (hAttIdeal : Cert.AttIdeal.Facts) (hAttReferenceIdeal : Cert.AttReferenceIdeal.Facts) (hAdamEvenIn : Cert.AdamEvenIn.Facts) (hAdamEvenInIdeal : Cert.AdamEvenInIdeal.Facts) (hAdamEvenInReferenceIdeal : Cert.AdamEvenInReferenceIdeal.Facts) (hAdamOddIn : Cert.AdamOddIn.Facts) (hAdamOddInIdeal : Cert.AdamOddInIdeal.Facts) (hAdamOddInReferenceIdeal : Cert.AdamOddInReferenceIdeal.Facts) (hAdamOut : Cert.AdamOut.Facts) (hAdamOutIdeal : Cert.AdamOutIdeal.Facts) (hAdamOutReferenceIdeal : Cert.AdamOutReferenceIdeal.Facts) (hAdamMod : Cert.AdamMod.Facts) (hAdamModIdeal : Cert.AdamModIdeal.Facts) (hAdamModReferenceIdeal : Cert.AdamModReferenceIdeal.Facts) (hAdamSmall : Cert.AdamSmall.Facts) (hAdamSmallIdeal : Cert.AdamSmallIdeal.Facts) (hAdamSmallReferenceIdeal : Cert.AdamSmallReferenceIdeal.Facts) (hPre_finite : Cert.Pre_finite.Facts) (hPre_att_finite : Cert.Pre_att_finite.Facts) (hPre_att_fwd_finite : Cert.Pre_att_fwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardReferenceIdeal (hForwardReferenceIdeal := hForwardReferenceIdeal)
    ∧ quiescent_WgradIn (hWgradIn := hWgradIn)
    ∧ quiescent_WgradInIdeal (hWgradInIdeal := hWgradInIdeal)
    ∧ quiescent_WgradInReferenceIdeal (hWgradInReferenceIdeal := hWgradInReferenceIdeal)
    ∧ quiescent_WgradOut (hWgradOut := hWgradOut)
    ∧ quiescent_WgradOutIdeal (hWgradOutIdeal := hWgradOutIdeal)
    ∧ quiescent_WgradOutReferenceIdeal (hWgradOutReferenceIdeal := hWgradOutReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_InEvenGrad (hInEvenGrad := hInEvenGrad)
    ∧ quiescent_InEvenGradIdeal (hInEvenGradIdeal := hInEvenGradIdeal)
    ∧ quiescent_InEvenGradReferenceIdeal (hInEvenGradReferenceIdeal := hInEvenGradReferenceIdeal)
    ∧ quiescent_InOddGrad (hInOddGrad := hInOddGrad)
    ∧ quiescent_InOddGradIdeal (hInOddGradIdeal := hInOddGradIdeal)
    ∧ quiescent_InOddGradReferenceIdeal (hInOddGradReferenceIdeal := hInOddGradReferenceIdeal)
    ∧ quiescent_InEvenWgrad (hInEvenWgrad := hInEvenWgrad)
    ∧ quiescent_InEvenWgradIdeal (hInEvenWgradIdeal := hInEvenWgradIdeal)
    ∧ quiescent_InEvenWgradReferenceIdeal (hInEvenWgradReferenceIdeal := hInEvenWgradReferenceIdeal)
    ∧ quiescent_InOddWgrad (hInOddWgrad := hInOddWgrad)
    ∧ quiescent_InOddWgradIdeal (hInOddWgradIdeal := hInOddWgradIdeal)
    ∧ quiescent_InOddWgradReferenceIdeal (hInOddWgradReferenceIdeal := hInOddWgradReferenceIdeal)
    ∧ quiescent_Out (hOut := hOut)
    ∧ quiescent_OutIdeal (hOutIdeal := hOutIdeal)
    ∧ quiescent_OutReferenceIdeal (hOutReferenceIdeal := hOutReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_OutWgrad (hOutWgrad := hOutWgrad)
    ∧ quiescent_OutWgradIdeal (hOutWgradIdeal := hOutWgradIdeal)
    ∧ quiescent_OutWgradReferenceIdeal (hOutWgradReferenceIdeal := hOutWgradReferenceIdeal)
    ∧ quiescent_AttGrad (hAttGrad := hAttGrad)
    ∧ quiescent_AttGradIdeal (hAttGradIdeal := hAttGradIdeal)
    ∧ quiescent_AttGradIdeal_pre_att_finite (hAttGradIdeal := hAttGradIdeal) (hPre_att_finite := hPre_att_finite)
    ∧ quiescent_AttGradReferenceIdeal (hAttGradReferenceIdeal := hAttGradReferenceIdeal)
    ∧ quiescent_AttGradReferenceIdeal_pre_att_finite (hAttGradReferenceIdeal := hAttGradReferenceIdeal) (hPre_att_finite := hPre_att_finite)
    ∧ quiescent_Att (hAtt := hAtt)
    ∧ quiescent_AttIdeal (hAttIdeal := hAttIdeal)
    ∧ quiescent_AttIdeal_pre_att_fwd_finite (hAttIdeal := hAttIdeal) (hPre_att_fwd_finite := hPre_att_fwd_finite)
    ∧ quiescent_AttReferenceIdeal (hAttReferenceIdeal := hAttReferenceIdeal)
    ∧ quiescent_AttReferenceIdeal_pre_att_fwd_finite (hAttReferenceIdeal := hAttReferenceIdeal) (hPre_att_fwd_finite := hPre_att_fwd_finite)
    ∧ quiescent_AdamEvenIn (hAdamEvenIn := hAdamEvenIn)
    ∧ quiescent_AdamEvenInIdeal (hAdamEvenInIdeal := hAdamEvenInIdeal)
    ∧ quiescent_AdamEvenInReferenceIdeal (hAdamEvenInReferenceIdeal := hAdamEvenInReferenceIdeal)
    ∧ quiescent_AdamOddIn (hAdamOddIn := hAdamOddIn)
    ∧ quiescent_AdamOddInIdeal (hAdamOddInIdeal := hAdamOddInIdeal)
    ∧ quiescent_AdamOddInReferenceIdeal (hAdamOddInReferenceIdeal := hAdamOddInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamMod (hAdamMod := hAdamMod)
    ∧ quiescent_AdamModIdeal (hAdamModIdeal := hAdamModIdeal)
    ∧ quiescent_AdamModReferenceIdeal (hAdamModReferenceIdeal := hAdamModReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal (hForwardIdeal := hForwardIdeal) (hForwardReferenceIdeal := hForwardReferenceIdeal)
    ∧ preserves_WgradIn_WgradInIdeal
    ∧ algebraic_WgradInIdeal_WgradInReferenceIdeal (hWgradInIdeal := hWgradInIdeal) (hWgradInReferenceIdeal := hWgradInReferenceIdeal)
    ∧ preserves_WgradOut_WgradOutIdeal
    ∧ algebraic_WgradOutIdeal_WgradOutReferenceIdeal (hWgradOutIdeal := hWgradOutIdeal) (hWgradOutReferenceIdeal := hWgradOutReferenceIdeal)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_InEvenGrad_InEvenGradIdeal
    ∧ algebraic_InEvenGradIdeal_InEvenGradReferenceIdeal (hInEvenGradIdeal := hInEvenGradIdeal) (hInEvenGradReferenceIdeal := hInEvenGradReferenceIdeal)
    ∧ preserves_InOddGrad_InOddGradIdeal
    ∧ algebraic_InOddGradIdeal_InOddGradReferenceIdeal (hInOddGradIdeal := hInOddGradIdeal) (hInOddGradReferenceIdeal := hInOddGradReferenceIdeal)
    ∧ preserves_InEvenWgrad_InEvenWgradIdeal
    ∧ algebraic_InEvenWgradIdeal_InEvenWgradReferenceIdeal (hInEvenWgradIdeal := hInEvenWgradIdeal) (hInEvenWgradReferenceIdeal := hInEvenWgradReferenceIdeal)
    ∧ preserves_InOddWgrad_InOddWgradIdeal
    ∧ algebraic_InOddWgradIdeal_InOddWgradReferenceIdeal (hInOddWgradIdeal := hInOddWgradIdeal) (hInOddWgradReferenceIdeal := hInOddWgradReferenceIdeal)
    ∧ preserves_Out_OutIdeal
    ∧ algebraic_OutIdeal_OutReferenceIdeal (hOutIdeal := hOutIdeal) (hOutReferenceIdeal := hOutReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_OutWgrad_OutWgradIdeal
    ∧ algebraic_OutWgradIdeal_OutWgradReferenceIdeal (hOutWgradIdeal := hOutWgradIdeal) (hOutWgradReferenceIdeal := hOutWgradReferenceIdeal)
    ∧ preserves_AttGrad_AttGradIdeal
    ∧ algebraic_AttGradIdeal_AttGradReferenceIdeal_pre_att_finite (hAttGradIdeal := hAttGradIdeal) (hAttGradReferenceIdeal := hAttGradReferenceIdeal) (hPre_att_finite := hPre_att_finite)
    ∧ preserves_Att_AttIdeal
    ∧ algebraic_AttIdeal_AttReferenceIdeal_pre_att_fwd_finite (hAttIdeal := hAttIdeal) (hAttReferenceIdeal := hAttReferenceIdeal) (hPre_att_fwd_finite := hPre_att_fwd_finite)
    ∧ preserves_AdamEvenIn_AdamEvenInIdeal
    ∧ algebraic_AdamEvenInIdeal_AdamEvenInReferenceIdeal (hAdamEvenInIdeal := hAdamEvenInIdeal) (hAdamEvenInReferenceIdeal := hAdamEvenInReferenceIdeal)
    ∧ preserves_AdamOddIn_AdamOddInIdeal
    ∧ algebraic_AdamOddInIdeal_AdamOddInReferenceIdeal (hAdamOddInIdeal := hAdamOddInIdeal) (hAdamOddInReferenceIdeal := hAdamOddInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamMod_AdamModIdeal
    ∧ algebraic_AdamModIdeal_AdamModReferenceIdeal (hAdamModIdeal := hAdamModIdeal) (hAdamModReferenceIdeal := hAdamModReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== Pre_att_finite.lean ====
abbrev S8448x1536 : Shape := ⟨2, ![8448, 1536]⟩
abbrev S8448x512 : Shape := ⟨2, ![8448, 512]⟩
abbrev S8448x2048 : Shape := ⟨2, ![8448, 2048]⟩
abbrev S_ : Shape := ⟨0, ![]⟩

class Facts : Prop where
  bitsLt_bf16_f32 : FTy.bits .bf16 < FTy.bits .f32
  bcast_S_S8448x1536 : S_.BroadcastsInDim S8448x1536 (![] : Fin 0 → Fin S8448x1536.rank)
  reducesTo_S8448x1536_S_d0_1 : S8448x1536.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_
  bcast_S_S8448x2048 : S_.BroadcastsInDim S8448x2048 (![] : Fin 0 → Fin S8448x2048.rank)
  reducesTo_S8448x2048_S_d0_1 : S8448x2048.ReducesTo [0, 1] S_

variable [Facts]

def fn_part1 {F : FTy → Type} [FloatOps F] (main_v16 : IVec S_ 1) (main_v17 : FVec F S8448x2048 .f32) : IVec S_ 1 :=
  let main_cst_4 : FVec F S_ .f32 := constant S_ .f32 0x7F800000#32
  let main_v18 : FVec F S8448x2048 .f32 := broadcastInDim S8448x2048 ![] bcast_S_S8448x2048 main_cst_4
  let main_v19 : IVec S8448x2048 1 := cmpf .olt main_v17 main_v18
  let main_c_5 : IVec S_ 1 := constantI S_ 1 1#1
  let main_v20 : IVec S_ 1 := (fun x v => Host.reduce IntOp.andi x v reducesTo_S8448x2048_S_d0_1 h_S_) main_v19 main_c_5
  let main_v21 : IVec S_ 1 := andi main_v16 main_v20
  main_v21

def fn {F : FTy → Type} [FloatOps F] (main_arg0 : FVec F S8448x1536 .bf16) (main_arg1 : FVec F S8448x512 .bf16) (main_arg2 : FVec F S8448x512 .bf16) (main_arg3 : FVec F S8448x2048 .f32) : IVec S_ 1 :=
  let main_v0 : FVec F S8448x1536 .f32 := (extf .f32 · bitsLt_bf16_f32) main_arg0
  let main_v1 : FVec F S8448x1536 .f32 := Host.absf main_v0
  let main_cst : FVec F S_ .f32 := constant S_ .f32 0x7F800000#32
  let main_v2 : FVec F S8448x1536 .f32 := broadcastInDim S8448x1536 ![] bcast_S_S8448x1536 main_cst
  let main_v3 : IVec S8448x1536 1 := cmpf .olt main_v1 main_v2
  let main_c : IVec S_ 1 := constantI S_ 1 1#1
  let main_v4 : IVec S_ 1 := (fun x v => Host.reduce IntOp.andi x v reducesTo_S8448x1536_S_d0_1 h_S_) main_v3 main_c
  let main_v5 : FVec F S8448x512 .f32 := (extf .f32 · bitsLt_bf16_f32) main_arg1
  let main_v6 : FVec F S8448x512 .f32 := Host.absf main_v5
  let main_cst_0 : FVec F S_ .f32 := constant S_ .f32 0x7F800000#32
  let main_v7 : FVec F S8448x512 .f32 := broadcastInDim S8448x512 ![] bcast_S_S8448x512 main_cst_0
  let main_v8 : IVec S8448x512 1 := cmpf .olt main_v6 main_v7
  let main_c_1 : IVec S_ 1 := constantI S_ 1 1#1
  let main_v9 : IVec S_ 1 := (fun x v => Host.reduce IntOp.andi x v reducesTo_S8448x512_S_d0_1 h_S_) main_v8 main_c_1
  let main_v10 : IVec S_ 1 := andi main_v4 main_v9
  let main_v11 : FVec F S8448x512 .f32 := (extf .f32 · bitsLt_bf16_f32) main_arg2
  let main_v12 : FVec F S8448x512 .f32 := Host.absf main_v11
  let main_cst_2 : FVec F S_ .f32 := constant S_ .f32 0x7F800000#32
  let main_v13 : FVec F S8448x512 .f32 := broadcastInDim S8448x512 ![] bcast_S_S8448x512 main_cst_2
  let main_v14 : IVec S8448x512 1 := cmpf .olt main_v12 main_v13
  let main_c_3 : IVec S_ 1 := constantI S_ 1 1#1
  let main_v15 : IVec S_ 1 := (fun x v => Host.reduce IntOp.andi x v reducesTo_S8448x512_S_d0_1 h_S_) main_v14 main_c_3
  let main_v16 : IVec S_ 1 := andi main_v10 main_v15
  let main_v17 : FVec F S8448x2048 .f32 := Host.absf main_arg3
  fn_part1 (F := F) main_v16 main_v17
-- ==== Pre_att_fwd_finite.lean ====
abbrev S8448x1536 : Shape := ⟨2, ![8448, 1536]⟩
abbrev S8448x512 : Shape := ⟨2, ![8448, 512]⟩
abbrev S_ : Shape := ⟨0, ![]⟩

class Facts : Prop where
  bitsLt_bf16_f32 : FTy.bits .bf16 < FTy.bits .f32
  bcast_S_S8448x1536 : S_.BroadcastsInDim S8448x1536 (![] : Fin 0 → Fin S8448x1536.rank)
  reducesTo_S8448x1536_S_d0_1 : S8448x1536.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_

variable [Facts]

def fn {F : FTy → Type} [FloatOps F] (main_arg0 : FVec F S8448x1536 .bf16) (main_arg1 : FVec F S8448x512 .bf16) (main_arg2 : FVec F S8448x512 .bf16) : IVec S_ 1 :=
  let main_v0 : FVec F S8448x1536 .f32 := (extf .f32 · bitsLt_bf16_f32) main_arg0
  let main_v1 : FVec F S8448x1536 .f32 := Host.absf main_v0
  let main_cst : FVec F S_ .f32 := constant S_ .f32 0x7F800000#32
  let main_v2 : FVec F S8448x1536 .f32 := broadcastInDim S8448x1536 ![] bcast_S_S8448x1536 main_cst
  let main_v3 : IVec S8448x1536 1 := cmpf .olt main_v1 main_v2
  let main_c : IVec S_ 1 := constantI S_ 1 1#1
  let main_v4 : IVec S_ 1 := (fun x v => Host.reduce IntOp.andi x v reducesTo_S8448x1536_S_d0_1 h_S_) main_v3 main_c
  let main_v5 : FVec F S8448x512 .f32 := (extf .f32 · bitsLt_bf16_f32) main_arg1
  let main_v6 : FVec F S8448x512 .f32 := Host.absf main_v5
  let main_cst_0 : FVec F S_ .f32 := constant S_ .f32 0x7F800000#32
  let main_v7 : FVec F S8448x512 .f32 := broadcastInDim S8448x512 ![] bcast_S_S8448x512 main_cst_0
  let main_v8 : IVec S8448x512 1 := cmpf .olt main_v6 main_v7
  let main_c_1 : IVec S_ 1 := constantI S_ 1 1#1
  let main_v9 : IVec S_ 1 := (fun x v => Host.reduce IntOp.andi x v reducesTo_S8448x512_S_d0_1 h_S_) main_v8 main_c_1
  let main_v10 : IVec S_ 1 := andi main_v4 main_v9
  main_v10
-- ==== Pre_finite.lean ====
abbrev S8448x2048 : Shape := ⟨2, ![8448, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S8448x2048 .bf16) (main_v16 : IVec S_ 1) (main_v17 : FVec F S5632x2048 .f32) : IVec S_ 1 :=
  let main_v18 : FVec F S5632x2048 .f32 := Host.absf main_v17
  let main_cst_4 : FVec F S_ .f32 := constant S_ .f32 0x7F800000#32
  let main_v19 : FVec F S5632x2048 .f32 := broadcastInDim S5632x2048 ![] bcast_S_S5632x2048 main_cst_4
  let main_v20 : IVec S5632x2048 1 := cmpf .olt main_v18 main_v19
  let main_c_5 : IVec S_ 1 := constantI S_ 1 1#1
  let main_v21 : IVec S_ 1 := (fun x v => Host.reduce IntOp.andi x v reducesTo_S5632x2048_S_d0_1 h_S_) main_v20 main_c_5
  let main_v22 : IVec S_ 1 := andi main_v16 main_v21
  let main_v23 : FVec F S8448x2048 .f32 := (extf .f32 · bitsLt_bf16_f32) main_arg4
  let main_v24 : FVec F S8448x2048 .f32 := Host.absf main_v23
  let main_cst_6 : FVec F S_ .f32 := constant S_ .f32 0x7F800000#32
  let main_v25 : FVec F S8448x2048 .f32 := broadcastInDim S8448x2048 ![] bcast_S_S8448x2048 main_cst_6
  let main_v26 : IVec S8448x2048 1 := cmpf .olt main_v24 main_v25
  let main_c_7 : IVec S_ 1 := constantI S_ 1 1#1
  let main_v27 : IVec S_ 1 := (fun x v => Host.reduce IntOp.andi x v reducesTo_S8448x2048_S_d0_1 h_S_) main_v26 main_c_7
  let main_v28 : IVec S_ 1 := andi main_v22 main_v27
  main_v28

def fn {F : FTy → Type} [FloatOps F] (main_arg0 : FVec F S8448x2048 .bf16) (main_arg1 : FVec F S2048x5632 .bf16) (main_arg2 : FVec F S2048x5632 .bf16) (main_arg3 : FVec F S5632x2048 .bf16) (main_arg4 : FVec F S8448x2048 .bf16) : IVec S_ 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_c : IVec S_ 1 := constantI S_ 1 1#1
  let main_v4 : IVec S_ 1 := (fun x v => Host.reduce IntOp.andi x v reducesTo_S8448x2048_S_d0_1 h_S_) main_v3 main_c
  let main_v5 : FVec F S2048x5632 .f32 := (extf .f32 · bitsLt_bf16_f32) main_arg1
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v4 main_v9
  let main_v11 : FVec F S2048x5632 .f32 := (extf .f32 · bitsLt_bf16_f32) main_arg2
  let main_v12 : FVec F S2048x5632 .f32 := Host.absf main_v11
  let main_cst_2 : FVec F S_ .f32 := constant S_ .f32 0x7F800000#32
  let main_v13 : FVec F S2048x5632 .f32 := broadcastInDim S2048x5632 ![] bcast_S_S2048x5632 main_cst_2
  let main_v14 : IVec S2048x5632 1 := cmpf .olt main_v12 main_v13
  let main_c_3 : IVec S_ 1 := constantI S_ 1 1#1
  let main_v15 : IVec S_ 1 := (fun x v => Host.reduce IntOp.andi x v reducesTo_S2048x5632_S_d0_1 h_S_) main_v14 main_c_3
  let main_v16 : IVec S_ 1 := andi main_v10 main_v15
  let main_v17 : FVec F S5632x2048 .f32 := (extf .f32 · bitsLt_bf16_f32) main_arg3
  fn_part1 (F := F) main_arg4 main_v16 main_v17
-- ==== Kernel.lean ====
abbrev S8448x2048 : Shape := ⟨2, ![8448, 2048]⟩
abbrev S2048x5632 : Shape := ⟨2, ![2048, 5632]⟩
abbrev S5632x2048 : Shape := ⟨2, ![5632, 2048]⟩
abbrev S8448x5632 : Shape := ⟨2, ![8448, 5632]⟩
abbrev S8448x8x704 : Shape := ⟨3, ![8448, 8, 704]⟩
abbrev S8x8448x704 : Shape := ⟨3, ![8, 8448, 704]⟩
abbrev S2048x8x704 : Shape := ⟨3, ![2048, 8, 704]⟩
abbrev S8x2048x704 : Shape := ⟨3, ![8, 2048, 704]⟩
abbrev S8x704x2048 : Shape := ⟨3, ![8, 704, 2048]⟩
abbrev S528x2048 : Shape := ⟨2, ![528, 2048]⟩
abbrev S1x528x704 : Shape := ⟨3, ![1, 528, 704]⟩
abbrev S1x2048x704 : Shape := ⟨3, ![1, 2048, 704]⟩
abbrev S1x704x2048 : Shape := ⟨3, ![1, 704, 2048]⟩
abbrev S528x704 : Shape := ⟨2, ![528, 704]⟩
abbrev S704x2048 : Shape := ⟨2, ![704, 2048]⟩
abbrev S2048x704 : Shape := ⟨2, ![2048, 704]⟩

abbrev nBuf : Space → Nat
  | .hbm => 26
  | .vmem => 20
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8448x2048, .bf16⟩
  | .hbm, ⟨5, _⟩ => ⟨S8448x2048, .f32⟩
  | .hbm, ⟨6, _⟩ => ⟨S2048x5632, .f32⟩
  | .hbm, ⟨7, _⟩ => ⟨S8448x5632, .f32⟩
  | .hbm, ⟨8, _⟩ => ⟨S8448x8x704, .f32⟩
  | .hbm, ⟨9, _⟩ => ⟨S8x8448x704, .f32⟩
  | .hbm, ⟨10, _⟩ => ⟨S8x8448x704, .bf16⟩
  | .hbm, ⟨11, _⟩ => ⟨S8448x2048, .f32⟩
  | .hbm, ⟨12, _⟩ => ⟨S2048x5632, .f32⟩
  | .hbm, ⟨13, _⟩ => ⟨S8448x5632, .f32⟩
  | .hbm, ⟨14, _⟩ => ⟨S8448x8x704, .f32⟩
  | .hbm, ⟨15, _⟩ => ⟨S8x8448x704, .f32⟩
  | .hbm, ⟨16, _⟩ => ⟨S8x8448x704, .bf16⟩
  | .hbm, ⟨17, _⟩ => ⟨S2048x8x704, .bf16⟩
  | .hbm, ⟨18, _⟩ => ⟨S8x2048x704, .bf16⟩
  | .hbm, ⟨19, _⟩ => ⟨S2048x8x704, .bf16⟩
  | .hbm, ⟨20, _⟩ => ⟨S8x2048x704, .bf16⟩
  | .hbm, ⟨21, _⟩ => ⟨S8x704x2048, .bf16⟩
  | .hbm, ⟨22, _⟩ => ⟨S8448x2048, .f32⟩
  | .hbm, ⟨23, _⟩ => ⟨S8x8448x704, .bf16⟩
  | .hbm, ⟨24, _⟩ => ⟨S8x8448x704, .bf16⟩
  | .hbm, ⟨25, _⟩ => ⟨S8x8448x704, .bf16⟩
  | .local _ .vmem, ⟨0, _⟩ => ⟨S528x2048, .bf16⟩
  | .local _ .vmem, ⟨1, _⟩ => ⟨S528x2048, .bf16⟩
  | .local _ .vmem, ⟨2, _⟩ => ⟨S1x528x704, .bf16⟩
  | .local _ .vmem, ⟨3, _⟩ => ⟨S1x528x704, .bf16⟩
  | .local _ .vmem, ⟨4, _⟩ => ⟨S1x528x704, .bf16⟩
  | .local _ .vmem, ⟨5, _⟩ => ⟨S1x528x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x2048, .bf16⟩
  | .local _ .vmem, ⟨11, _⟩ => ⟨S1x704x2048, .bf16⟩
  | .local _ .vmem, ⟨12, _⟩ => ⟨S528x2048, .f32⟩
  | .local _ .vmem, ⟨13, _⟩ => ⟨S528x2048, .f32⟩
  | .local _ .vmem, ⟨14, _⟩ => ⟨S1x528x704, .bf16⟩
  | .local _ .vmem, ⟨15, _⟩ => ⟨S1x528x704, .bf16⟩
  | .local _ .vmem, ⟨16, _⟩ => ⟨S1x528x704, .bf16⟩
  | .local _ .vmem, ⟨17, _⟩ => ⟨S1x528x704, .bf16⟩
  | .local _ .vmem, ⟨18, _⟩ => ⟨S1x528x704, .bf16⟩
  | .local _ .vmem, ⟨19, _⟩ => ⟨S1x528x704, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v43 : BitVec 1 := Scalar.cmpi .eq arg1 c0_i32
  let v44 : BitVec 32 := Scalar.extui v43
  let c0_i32_29 : BitVec 32 := 0#32
  let v45 : BitVec 1 := Scalar.cmpi .ne v44 c0_i32_29
  v45

def k0_cond2 (i : grid0.Coords) : BitVec 1 :=
  let arg1 : BitVec 32 := BitVec.ofNat 32 (i 1).val
  let c0_i32_30 : BitVec 32 := 0#32
  let v46 : BitVec 1 := Scalar.cmpi .sgt arg1 c0_i32_30
  let v47 : BitVec 32 := Scalar.extui v46
  let c0_i32_31 : BitVec 32 := 0#32
  let v48 : BitVec 1 := Scalar.cmpi .ne v47 c0_i32_31
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x528x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x528x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x528x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x528x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x528x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8448x2048 : Shape := ⟨2, ![8448, 2048]⟩
abbrev S2048x5632 : Shape := ⟨2, ![2048, 5632]⟩
abbrev S5632x2048 : Shape := ⟨2, ![5632, 2048]⟩
abbrev S8448x5632 : Shape := ⟨2, ![8448, 5632]⟩
abbrev S_ : Shape := ⟨0, ![]⟩
abbrev S8448x8x704 : Shape := ⟨3, ![8448, 8, 704]⟩
abbrev S8x8448x704 : Shape := ⟨3, ![8, 8448, 704]⟩

abbrev nBuf : Space → Nat
  | .hbm => 70
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8448x2048, .bf16⟩
  | .hbm, ⟨5, _⟩ => ⟨S8448x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8448x2048, .f32⟩
  | .hbm, ⟨10, _⟩ => ⟨S8448x5632, .f32⟩
  | .hbm, ⟨11, _⟩ => ⟨S8448x5632, .f32⟩
  | .hbm, ⟨12, _⟩ => ⟨S8448x5632, .f32⟩
  | .hbm, ⟨13, _⟩ => ⟨S_, .f32⟩
  | .hbm, ⟨14, _⟩ => ⟨S8448x5632, .f32⟩
  | .hbm, ⟨15, _⟩ => ⟨S8448x5632, .f32⟩
  | .hbm, ⟨16, _⟩ => ⟨S_, .f32⟩
  | .hbm, ⟨17, _⟩ => ⟨S8448x5632, .f32⟩
  | .hbm, ⟨18, _⟩ => ⟨S8448x5632, .f32⟩
  | .hbm, ⟨19, _⟩ => ⟨S_, .f32⟩
  | .hbm, ⟨20, _⟩ => ⟨S8448x5632, .f32⟩
  | .hbm, ⟨21, _⟩ => ⟨S8448x5632, .f32⟩
  | .hbm, ⟨22, _⟩ => ⟨S8448x5632, .f32⟩
  | .hbm, ⟨23, _⟩ => ⟨S8448x5632, .f32⟩
  | .hbm, ⟨24, _⟩ => ⟨S8448x5632, .f32⟩
  | .hbm, ⟨25, _⟩ => ⟨S8448x5632, .f32⟩
  | .hbm, ⟨26, _⟩ => ⟨S8448x2048, .f32⟩
  | .hbm, ⟨27, _⟩ => ⟨S8448x5632, .f32⟩
  | .hbm, ⟨28, _⟩ => ⟨S8448x5632, .f32⟩
  | .hbm, ⟨29, _⟩ => ⟨S8448x5632, .f32⟩
  | .hbm, ⟨30, _⟩ => ⟨S8448x2048, .f32⟩
  | .hbm, ⟨31, _⟩ => ⟨S8448x5632, .f32⟩
  | .hbm, ⟨32, _⟩ => ⟨S8448x5632, .f32⟩
  | .hbm, ⟨33, _⟩ => ⟨S8448x5632, .f32⟩
  | .hbm, ⟨34, _⟩ => ⟨S8448x5632, .f32⟩
  | .hbm, ⟨35, _⟩ => ⟨S8448x2048, .f32⟩
  | .hbm, ⟨36, _⟩ => ⟨S8448x2048, .f32⟩
  | .hbm, ⟨37, _⟩ => ⟨S8448x5632, .f32⟩
  | .hbm, ⟨38, _⟩ => ⟨S8448x5632, .f32⟩
  | .hbm, ⟨39, _⟩ => ⟨S8448x5632, .f32⟩
  | .hbm, ⟨40, _⟩ => ⟨S8448x5632, .f32⟩
  | .hbm, ⟨41, _⟩ => ⟨S_, .f32⟩
  | .hbm, ⟨42, _⟩ => ⟨S8448x5632, .f32⟩
  | .hbm, ⟨43, _⟩ => ⟨S8448x5632, .f32⟩
  | .hbm, ⟨44, _⟩ => ⟨S_, .f32⟩
  | .hbm, ⟨45, _⟩ => ⟨S8448x5632, .f32⟩
  | .hbm, ⟨46, _⟩ => ⟨S8448x5632, .f32⟩
  | .hbm, ⟨47, _⟩ => ⟨S_, .f32⟩
  | .hbm, ⟨48, _⟩ => ⟨S8448x5632, .f32⟩
  | .hbm, ⟨49, _⟩ => ⟨S8448x5632, .f32⟩
  | .hbm, ⟨50, _⟩ => ⟨S8448x5632, .f32⟩
  | .hbm, ⟨51, _⟩ => ⟨S8448x5632, .f32⟩
  | .hbm, ⟨52, _⟩ => ⟨S8448x5632, .f32⟩
  | .hbm, ⟨53, _⟩ => ⟨S2048x5632, .f32⟩
  | .hbm, ⟨54, _⟩ => ⟨S8448x5632, .f32⟩
  | .hbm, ⟨55, _⟩ => ⟨S8448x5632, .f32⟩
  | .hbm, ⟨56, _⟩ => ⟨S8448x5632, .f32⟩
  | .hbm, ⟨57, _⟩ => ⟨S8448x5632, .f32⟩
  | .hbm, ⟨58, _⟩ => ⟨S8448x5632, .f32⟩
  | .hbm, ⟨59, _⟩ => ⟨S8448x5632, .f32⟩
  | .hbm, ⟨60, _⟩ => ⟨S8448x5632, .f32⟩
  | .hbm, ⟨61, _⟩ => ⟨S8448x8x704, .f32⟩
  | .hbm, ⟨62, _⟩ => ⟨S8x8448x704, .f32⟩
  | .hbm, ⟨63, _⟩ => ⟨S8x8448x704, .bf16⟩
  | .hbm, ⟨64, _⟩ => ⟨S8448x8x704, .f32⟩
  | .hbm, ⟨65, _⟩ => ⟨S8x8448x704, .f32⟩
  | .hbm, ⟨66, _⟩ => ⟨S8x8448x704, .bf16⟩
  | .hbm, ⟨67, _⟩ => ⟨S8448x8x704, .f32⟩
  | .hbm, ⟨68, _⟩ => ⟨S8x8448x704, .f32⟩
  | .hbm, ⟨69, _⟩ => ⟨S8x8448x704, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_v19_2 : Ref sig .tc := ⟨.hbm, 46, rfl⟩
abbrev main_call2_cst_1 : Ref sig .tc := ⟨.hbm, 47, rfl⟩
abbrev main_call2_v6 : Ref sig .tc := ⟨.hbm, 48, rfl⟩
abbrev main_call2_v7 : Ref sig .tc := ⟨.hbm, 49, rfl⟩
abbrev main_v19_1 : Ref sig .tc := ⟨.hbm, 50, rfl⟩
abbrev main_v19_0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩

abbrev nD : Nat := 1
abbrev τ : Topo := Topo.v7x

variable {F : FTy → Type} [FloatOps F]
-- ==== Forward.lean ====
abbrev S8448x2048 : Shape := ⟨2, ![8448, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S8x8448x704 : Shape := ⟨3, ![8, 8448, 704]⟩
abbrev S768x2048 : Shape := ⟨2, ![768, 2048]⟩
abbrev S1x2048x704 : Shape := ⟨3, ![1, 2048, 704]⟩
abbrev S1x704x2048 : Shape := ⟨3, ![1, 704, 2048]⟩
abbrev S1x768x704 : Shape := ⟨3, ![1, 768, 704]⟩
abbrev S2048x704 : Shape := ⟨2, ![2048, 704]⟩
abbrev S768x704 : Shape := ⟨2, ![768, 704]⟩
abbrev S704x2048 : Shape := ⟨2, ![704, 2048]⟩

abbrev nBuf : Space → Nat
  | .hbm => 12
  | .vmem => 14
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S2048x8x704, .bf16⟩
  | .hbm, ⟨5, _⟩ => ⟨S8x2048x704, .bf16⟩
  | .hbm, ⟨6, _⟩ => ⟨S2048x8x704, .bf16⟩
  | .hbm, ⟨7, _⟩ => ⟨S8x2048x704, .bf16⟩
  | .hbm, ⟨8, _⟩ => ⟨S8x704x2048, .bf16⟩
  | .hbm, ⟨9, _⟩ => ⟨S8448x2048, .f32⟩
  | .hbm, ⟨10, _⟩ => ⟨S8x8448x704, .bf16⟩
  | .hbm, ⟨11, _⟩ => ⟨S8x8448x704, .bf16⟩
  | .local _ .vmem, ⟨0, _⟩ => ⟨S768x2048, .bf16⟩
  | .local _ .vmem, ⟨1, _⟩ => ⟨S768x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S768x2048, .f32⟩
  | .local _ .vmem, ⟨9, _⟩ => ⟨S768x2048, .f32⟩
  | .local _ .vmem, ⟨10, _⟩ => ⟨S1x768x704, .bf16⟩
  | .local _ .vmem, ⟨11, _⟩ => ⟨S1x768x704, .bf16⟩
  | .local _ .vmem, ⟨12, _⟩ => ⟨S1x768x704, .bf16⟩
  | .local _ .vmem, ⟨13, _⟩ => ⟨S1x768x704, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_18 : BitVec 32 := 0#32
  let v26 : BitVec 1 := Scalar.cmpi .ne v25 c0_i32_18
  v26

def k0_cond2 (i : grid0.Coords) : BitVec 1 :=
  let arg1 : BitVec 32 := BitVec.ofNat 32 (i 1).val
  let c0_i32_19 : BitVec 32 := 0#32
  let v27 : BitVec 1 := Scalar.cmpi .sgt arg1 c0_i32_19
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ForwardReferenceIdeal.lean ====
abbrev S8448x2048 : Shape := ⟨2, ![8448, 2048]⟩
abbrev S2048x5632 : Shape := ⟨2, ![2048, 5632]⟩
abbrev S5632x2048 : Shape := ⟨2, ![5632, 2048]⟩
abbrev S8448x5632 : Shape := ⟨2, ![8448, 5632]⟩
abbrev S_ : Shape := ⟨0, ![]⟩
abbrev S8448x8x704 : Shape := ⟨3, ![8448, 8, 704]⟩
abbrev S8x8448x704 : Shape := ⟨3, ![8, 8448, 704]⟩

abbrev nBuf : Space → Nat
  | .hbm => 29
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8448x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8448x5632, .f32⟩
  | .hbm, ⟨9, _⟩ => ⟨S8448x5632, .f32⟩
  | .hbm, ⟨10, _⟩ => ⟨S8448x5632, .f32⟩
  | .hbm, ⟨11, _⟩ => ⟨S_, .f32⟩
  | .hbm, ⟨12, _⟩ => ⟨S8448x5632, .f32⟩
  | .hbm, ⟨13, _⟩ => ⟨S8448x5632, .f32⟩
  | .hbm, ⟨14, _⟩ => ⟨S_, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S8448x5632, .f32⟩
  | .hbm, ⟨20, _⟩ => ⟨S8448x2048, .f32⟩
  | .hbm, ⟨21, _⟩ => ⟨S8448x5632, .f32⟩
  | .hbm, ⟨22, _⟩ => ⟨S8448x8x704, .f32⟩
  | .hbm, ⟨23, _⟩ => ⟨S8x8448x704, .f32⟩
  | .hbm, ⟨24, _⟩ => ⟨S8x8448x704, .bf16⟩
  | .hbm, ⟨25, _⟩ => ⟨S8448x5632, .f32⟩
  | .hbm, ⟨26, _⟩ => ⟨S8448x8x704, .f32⟩
  | .hbm, ⟨27, _⟩ => ⟨S8x8448x704, .f32⟩
  | .hbm, ⟨28, _⟩ => ⟨S8x8448x704, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== WgradIn.lean ====
abbrev S8448x2048 : Shape := ⟨2, ![8448, 2048]⟩
abbrev S2048x5632 : Shape := ⟨2, ![2048, 5632]⟩
abbrev S8448x5632 : Shape := ⟨2, ![8448, 5632]⟩
abbrev S2048x8448 : Shape := ⟨2, ![2048, 8448]⟩
abbrev S8448x8x704 : Shape := ⟨3, ![8448, 8, 704]⟩
abbrev S8x8448x704 : Shape := ⟨3, ![8, 8448, 704]⟩
abbrev S8x2048x704 : Shape := ⟨3, ![8, 2048, 704]⟩
abbrev S2048x1408 : Shape := ⟨2, ![2048, 1408]⟩
abbrev S1x1408x704 : Shape := ⟨3, ![1, 1408, 704]⟩
abbrev S1x2048x704 : Shape := ⟨3, ![1, 2048, 704]⟩
abbrev S2048x704 : Shape := ⟨2, ![2048, 704]⟩
abbrev S1408x704 : Shape := ⟨2, ![1408, 704]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x5632, .bf16⟩
  | .hbm, ⟨3, _⟩ => ⟨S2048x8448, .bf16⟩
  | .hbm, ⟨4, _⟩ => ⟨S8448x8x704, .bf16⟩
  | .hbm, ⟨5, _⟩ => ⟨S8x8448x704, .bf16⟩
  | .hbm, ⟨6, _⟩ => ⟨S8x2048x704, .bf16⟩
  | .local _ .vmem, ⟨0, _⟩ => ⟨S2048x1408, .bf16⟩
  | .local _ .vmem, ⟨1, _⟩ => ⟨S2048x1408, .bf16⟩
  | .local _ .vmem, ⟨2, _⟩ => ⟨S1x1408x704, .bf16⟩
  | .local _ .vmem, ⟨3, _⟩ => ⟨S1x1408x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradInReferenceIdeal.lean ====
abbrev S8448x2048 : Shape := ⟨2, ![8448, 2048]⟩
abbrev S2048x5632 : Shape := ⟨2, ![2048, 5632]⟩
abbrev S8448x5632 : Shape := ⟨2, ![8448, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x5632, .bf16⟩
  | .hbm, ⟨3, _⟩ => ⟨S8448x2048, .f32⟩
  | .hbm, ⟨4, _⟩ => ⟨S2048x5632, .f32⟩
  | .hbm, ⟨5, _⟩ => ⟨S8448x5632, .f32⟩
  | .hbm, ⟨6, _⟩ => ⟨S8448x5632, .f32⟩
  | .hbm, ⟨7, _⟩ => ⟨S5632x2048, .f32⟩
  | .hbm, ⟨8, _⟩ => ⟨S2048x5632, .f32⟩
  | .hbm, ⟨9, _⟩ => ⟨S2048x8x704, .f32⟩
  | .hbm, ⟨10, _⟩ => ⟨S8x2048x704, .f32⟩
  | .hbm, ⟨11, _⟩ => ⟨S8x2048x704, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WgradOut.lean ====
abbrev S8448x5632 : Shape := ⟨2, ![8448, 5632]⟩
abbrev S5632x2048 : Shape := ⟨2, ![5632, 2048]⟩
abbrev S8448x2048 : Shape := ⟨2, ![8448, 2048]⟩
abbrev S8448x8x704 : Shape := ⟨3, ![8448, 8, 704]⟩
abbrev S8x8448x704 : Shape := ⟨3, ![8, 8448, 704]⟩
abbrev S8x704x2048 : Shape := ⟨3, ![8, 704, 2048]⟩
abbrev S1x1408x704 : Shape := ⟨3, ![1, 1408, 704]⟩
abbrev S1408x2048 : Shape := ⟨2, ![1408, 2048]⟩
abbrev S1x704x2048 : Shape := ⟨3, ![1, 704, 2048]⟩
abbrev S704x2048 : Shape := ⟨2, ![704, 2048]⟩
abbrev S1408x704 : Shape := ⟨2, ![1408, 704]⟩

abbrev nBuf : Space → Nat
  | .hbm => 6
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .bf16⟩
  | .hbm, ⟨3, _⟩ => ⟨S8448x8x704, .bf16⟩
  | .hbm, ⟨4, _⟩ => ⟨S8x8448x704, .bf16⟩
  | .hbm, ⟨5, _⟩ => ⟨S8x704x2048, .bf16⟩
  | .local _ .vmem, ⟨0, _⟩ => ⟨S1x1408x704, .bf16⟩
  | .local _ .vmem, ⟨1, _⟩ => ⟨S1x1408x704, .bf16⟩
  | .local _ .vmem, ⟨2, _⟩ => ⟨S1408x2048, .bf16⟩
  | .local _ .vmem, ⟨3, _⟩ => ⟨S1408x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg1 : BitVec 32 := BitVec.ofNat 32 (i 1).val
  let c5_i32 : BitVec 32 := 5#32
  let v10 : BitVec 1 := Scalar.cmpi .eq arg1 c5_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1408x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradOutReferenceIdeal.lean ====
abbrev S8448x5632 : Shape := ⟨2, ![8448, 5632]⟩
abbrev S5632x2048 : Shape := ⟨2, ![5632, 2048]⟩
abbrev S8448x2048 : Shape := ⟨2, ![8448, 2048]⟩
abbrev S2048x5632 : Shape := ⟨2, ![2048, 5632]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .bf16⟩
  | .hbm, ⟨3, _⟩ => ⟨S8448x5632, .f32⟩
  | .hbm, ⟨4, _⟩ => ⟨S5632x2048, .f32⟩
  | .hbm, ⟨5, _⟩ => ⟨S8448x2048, .f32⟩
  | .hbm, ⟨6, _⟩ => ⟨S8448x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S8x704x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InEven.lean ====
abbrev S8448x2048 : Shape := ⟨2, ![8448, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S8448x6144 : Shape := ⟨2, ![8448, 6144]⟩
abbrev S1408x2048 : Shape := ⟨2, ![1408, 2048]⟩
abbrev S1x2048x768 : Shape := ⟨3, ![1, 2048, 768]⟩
abbrev S1408x768 : Shape := ⟨2, ![1408, 768]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S2048x8x768, .bf16⟩
  | .hbm, ⟨3, _⟩ => ⟨S8x2048x768, .bf16⟩
  | .hbm, ⟨4, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1408x768, .f32⟩
  | .local _ .vmem, ⟨5, _⟩ => ⟨S1408x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenIdeal.lean ====
abbrev S8448x2048 : Shape := ⟨2, ![8448, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S8448x6144 : Shape := ⟨2, ![8448, 6144]⟩
abbrev S1408x2048 : Shape := ⟨2, ![1408, 2048]⟩
abbrev S1x2048x768 : Shape := ⟨3, ![1, 2048, 768]⟩
abbrev S1408x768 : Shape := ⟨2, ![1408, 768]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S2048x8x768, .bf16⟩
  | .hbm, ⟨3, _⟩ => ⟨S8x2048x768, .bf16⟩
  | .hbm, ⟨4, _⟩ => ⟨S8448x6144, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1408x768, .f32⟩
  | .local _ .vmem, ⟨5, _⟩ => ⟨S1408x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenReferenceIdeal.lean ====
abbrev S8448x2048 : Shape := ⟨2, ![8448, 2048]⟩
abbrev S2048x6144 : Shape := ⟨2, ![2048, 6144]⟩
abbrev S8448x6144 : Shape := ⟨2, ![8448, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x2048, .f32⟩
  | .hbm, ⟨3, _⟩ => ⟨S2048x6144, .f32⟩
  | .hbm, ⟨4, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InOdd.lean ====
abbrev S8448x2048 : Shape := ⟨2, ![8448, 2048]⟩
abbrev S2048x3072 : Shape := ⟨2, ![2048, 3072]⟩
abbrev S2048x8x384 : Shape := ⟨3, ![2048, 8, 384]⟩
abbrev S8x2048x384 : Shape := ⟨3, ![8, 2048, 384]⟩
abbrev S8448x3072 : Shape := ⟨2, ![8448, 3072]⟩
abbrev S1408x2048 : Shape := ⟨2, ![1408, 2048]⟩
abbrev S1x2048x384 : Shape := ⟨3, ![1, 2048, 384]⟩
abbrev S1408x384 : Shape := ⟨2, ![1408, 384]⟩
abbrev S2048x384 : Shape := ⟨2, ![2048, 384]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x3072, .bf16⟩
  | .hbm, ⟨2, _⟩ => ⟨S2048x8x384, .bf16⟩
  | .hbm, ⟨3, _⟩ => ⟨S8x2048x384, .bf16⟩
  | .hbm, ⟨4, _⟩ => ⟨S8448x3072, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x384, .bf16⟩
  | .local _ .vmem, ⟨3, _⟩ => ⟨S1x2048x384, .bf16⟩
  | .local _ .vmem, ⟨4, _⟩ => ⟨S1408x384, .f32⟩
  | .local _ .vmem, ⟨5, _⟩ => ⟨S1408x384, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddReferenceIdeal.lean ====
abbrev S8448x2048 : Shape := ⟨2, ![8448, 2048]⟩
abbrev S2048x3072 : Shape := ⟨2, ![2048, 3072]⟩
abbrev S8448x3072 : Shape := ⟨2, ![8448, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x3072, .bf16⟩
  | .hbm, ⟨2, _⟩ => ⟨S8448x2048, .f32⟩
  | .hbm, ⟨3, _⟩ => ⟨S2048x3072, .f32⟩
  | .hbm, ⟨4, _⟩ => ⟨S8448x3072, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InEvenGrad.lean ====
abbrev S8448x2048 : Shape := ⟨2, ![8448, 2048]⟩
abbrev S2048x6144 : Shape := ⟨2, ![2048, 6144]⟩
abbrev S8448x6144 : Shape := ⟨2, ![8448, 6144]⟩
abbrev S2048x8x768 : Shape := ⟨3, ![2048, 8, 768]⟩
abbrev S8x2048x768 : Shape := ⟨3, ![8, 2048, 768]⟩
abbrev S1408x768 : Shape := ⟨2, ![1408, 768]⟩
abbrev S1x2048x768 : Shape := ⟨3, ![1, 2048, 768]⟩
abbrev S1408x2048 : Shape := ⟨2, ![1408, 2048]⟩
abbrev S2048x768 : Shape := ⟨2, ![2048, 768]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .hbm, ⟨3, _⟩ => ⟨S2048x8x768, .bf16⟩
  | .hbm, ⟨4, _⟩ => ⟨S8x2048x768, .bf16⟩
  | .hbm, ⟨5, _⟩ => ⟨S8448x2048, .f32⟩
  | .local _ .vmem, ⟨0, _⟩ => ⟨S1408x768, .f32⟩
  | .local _ .vmem, ⟨1, _⟩ => ⟨S1408x768, .f32⟩
  | .local _ .vmem, ⟨2, _⟩ => ⟨S1x2048x768, .bf16⟩
  | .local _ .vmem, ⟨3, _⟩ => ⟨S1x2048x768, .bf16⟩
  | .local _ .vmem, ⟨4, _⟩ => ⟨S1408x2048, .f32⟩
  | .local _ .vmem, ⟨5, _⟩ => ⟨S1408x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InEvenGradIdeal.lean ====
abbrev S8448x2048 : Shape := ⟨2, ![8448, 2048]⟩
abbrev S2048x6144 : Shape := ⟨2, ![2048, 6144]⟩
abbrev S8448x6144 : Shape := ⟨2, ![8448, 6144]⟩
abbrev S2048x8x768 : Shape := ⟨3, ![2048, 8, 768]⟩
abbrev S8x2048x768 : Shape := ⟨3, ![8, 2048, 768]⟩
abbrev S1408x768 : Shape := ⟨2, ![1408, 768]⟩
abbrev S1x2048x768 : Shape := ⟨3, ![1, 2048, 768]⟩
abbrev S1408x2048 : Shape := ⟨2, ![1408, 2048]⟩
abbrev S2048x768 : Shape := ⟨2, ![2048, 768]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .hbm, ⟨3, _⟩ => ⟨S2048x8x768, .bf16⟩
  | .hbm, ⟨4, _⟩ => ⟨S8x2048x768, .bf16⟩
  | .hbm, ⟨5, _⟩ => ⟨S8448x2048, .f32⟩
  | .local _ .vmem, ⟨0, _⟩ => ⟨S1408x768, .f32⟩
  | .local _ .vmem, ⟨1, _⟩ => ⟨S1408x768, .f32⟩
  | .local _ .vmem, ⟨2, _⟩ => ⟨S1x2048x768, .bf16⟩
  | .local _ .vmem, ⟨3, _⟩ => ⟨S1x2048x768, .bf16⟩
  | .local _ .vmem, ⟨4, _⟩ => ⟨S1408x2048, .f32⟩
  | .local _ .vmem, ⟨5, _⟩ => ⟨S1408x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InEvenGradReferenceIdeal.lean ====
abbrev S8448x2048 : Shape := ⟨2, ![8448, 2048]⟩
abbrev S2048x6144 : Shape := ⟨2, ![2048, 6144]⟩
abbrev S8448x6144 : Shape := ⟨2, ![8448, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .hbm, ⟨3, _⟩ => ⟨S8448x2048, .f32⟩
  | .hbm, ⟨4, _⟩ => ⟨S2048x6144, .f32⟩
  | .hbm, ⟨5, _⟩ => ⟨S8448x6144, .f32⟩
  | .hbm, ⟨6, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InOddGrad.lean ====
abbrev S8448x2048 : Shape := ⟨2, ![8448, 2048]⟩
abbrev S2048x3072 : Shape := ⟨2, ![2048, 3072]⟩
abbrev S8448x3072 : Shape := ⟨2, ![8448, 3072]⟩
abbrev S2048x8x384 : Shape := ⟨3, ![2048, 8, 384]⟩
abbrev S8x2048x384 : Shape := ⟨3, ![8, 2048, 384]⟩
abbrev S1408x384 : Shape := ⟨2, ![1408, 384]⟩
abbrev S1x2048x384 : Shape := ⟨3, ![1, 2048, 384]⟩
abbrev S1408x2048 : Shape := ⟨2, ![1408, 2048]⟩
abbrev S2048x384 : Shape := ⟨2, ![2048, 384]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x3072, .bf16⟩
  | .hbm, ⟨2, _⟩ => ⟨S8448x3072, .f32⟩
  | .hbm, ⟨3, _⟩ => ⟨S2048x8x384, .bf16⟩
  | .hbm, ⟨4, _⟩ => ⟨S8x2048x384, .bf16⟩
  | .hbm, ⟨5, _⟩ => ⟨S8448x2048, .f32⟩
  | .local _ .vmem, ⟨0, _⟩ => ⟨S1408x384, .f32⟩
  | .local _ .vmem, ⟨1, _⟩ => ⟨S1408x384, .f32⟩
  | .local _ .vmem, ⟨2, _⟩ => ⟨S1x2048x384, .bf16⟩
  | .local _ .vmem, ⟨3, _⟩ => ⟨S1x2048x384, .bf16⟩
  | .local _ .vmem, ⟨4, _⟩ => ⟨S1408x2048, .f32⟩
  | .local _ .vmem, ⟨5, _⟩ => ⟨S1408x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InOddGradReferenceIdeal.lean ====
abbrev S8448x2048 : Shape := ⟨2, ![8448, 2048]⟩
abbrev S2048x3072 : Shape := ⟨2, ![2048, 3072]⟩
abbrev S8448x3072 : Shape := ⟨2, ![8448, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x3072, .bf16⟩
  | .hbm, ⟨2, _⟩ => ⟨S8448x3072, .f32⟩
  | .hbm, ⟨3, _⟩ => ⟨S8448x2048, .f32⟩
  | .hbm, ⟨4, _⟩ => ⟨S2048x3072, .f32⟩
  | .hbm, ⟨5, _⟩ => ⟨S8448x3072, .f32⟩
  | .hbm, ⟨6, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InEvenWgrad.lean ====
abbrev S8448x2048 : Shape := ⟨2, ![8448, 2048]⟩
abbrev S2048x6144 : Shape := ⟨2, ![2048, 6144]⟩
abbrev S8448x6144 : Shape := ⟨2, ![8448, 6144]⟩
abbrev S2048x8448 : Shape := ⟨2, ![2048, 8448]⟩
abbrev S8x2048x768 : Shape := ⟨3, ![8, 2048, 768]⟩
abbrev S2048x1408 : Shape := ⟨2, ![2048, 1408]⟩
abbrev S1408x768 : Shape := ⟨2, ![1408, 768]⟩
abbrev S1x2048x768 : Shape := ⟨3, ![1, 2048, 768]⟩
abbrev S2048x768 : Shape := ⟨2, ![2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .hbm, ⟨3, _⟩ => ⟨S2048x8448, .bf16⟩
  | .hbm, ⟨4, _⟩ => ⟨S8x2048x768, .bf16⟩
  | .local _ .vmem, ⟨0, _⟩ => ⟨S2048x1408, .bf16⟩
  | .local _ .vmem, ⟨1, _⟩ => ⟨S2048x1408, .bf16⟩
  | .local _ .vmem, ⟨2, _⟩ => ⟨S1408x768, .f32⟩
  | .local _ .vmem, ⟨3, _⟩ => ⟨S1408x768, .f32⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InEvenWgradIdeal.lean ====
abbrev S8448x2048 : Shape := ⟨2, ![8448, 2048]⟩
abbrev S2048x6144 : Shape := ⟨2, ![2048, 6144]⟩
abbrev S8448x6144 : Shape := ⟨2, ![8448, 6144]⟩
abbrev S2048x8448 : Shape := ⟨2, ![2048, 8448]⟩
abbrev S8x2048x768 : Shape := ⟨3, ![8, 2048, 768]⟩
abbrev S2048x1408 : Shape := ⟨2, ![2048, 1408]⟩
abbrev S1408x768 : Shape := ⟨2, ![1408, 768]⟩
abbrev S1x2048x768 : Shape := ⟨3, ![1, 2048, 768]⟩
abbrev S2048x768 : Shape := ⟨2, ![2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .hbm, ⟨3, _⟩ => ⟨S2048x8448, .bf16⟩
  | .hbm, ⟨4, _⟩ => ⟨S8x2048x768, .bf16⟩
  | .local _ .vmem, ⟨0, _⟩ => ⟨S2048x1408, .bf16⟩
  | .local _ .vmem, ⟨1, _⟩ => ⟨S2048x1408, .bf16⟩
  | .local _ .vmem, ⟨2, _⟩ => ⟨S1408x768, .f32⟩
  | .local _ .vmem, ⟨3, _⟩ => ⟨S1408x768, .f32⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InEvenWgradReferenceIdeal.lean ====
abbrev S8448x2048 : Shape := ⟨2, ![8448, 2048]⟩
abbrev S2048x6144 : Shape := ⟨2, ![2048, 6144]⟩
abbrev S8448x6144 : Shape := ⟨2, ![8448, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .hbm, ⟨3, _⟩ => ⟨S8448x2048, .f32⟩
  | .hbm, ⟨4, _⟩ => ⟨S2048x6144, .f32⟩
  | .hbm, ⟨5, _⟩ => ⟨S8448x6144, .f32⟩
  | .hbm, ⟨6, _⟩ => ⟨S6144x2048, .f32⟩
  | .hbm, ⟨7, _⟩ => ⟨S2048x6144, .f32⟩
  | .hbm, ⟨8, _⟩ => ⟨S2048x8x768, .f32⟩
  | .hbm, ⟨9, _⟩ => ⟨S8x2048x768, .f32⟩
  | .hbm, ⟨10, _⟩ => ⟨S8x2048x768, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InOddWgrad.lean ====
abbrev S8448x2048 : Shape := ⟨2, ![8448, 2048]⟩
abbrev S2048x3072 : Shape := ⟨2, ![2048, 3072]⟩
abbrev S8448x3072 : Shape := ⟨2, ![8448, 3072]⟩
abbrev S2048x8448 : Shape := ⟨2, ![2048, 8448]⟩
abbrev S8x2048x384 : Shape := ⟨3, ![8, 2048, 384]⟩
abbrev S2048x1408 : Shape := ⟨2, ![2048, 1408]⟩
abbrev S1408x384 : Shape := ⟨2, ![1408, 384]⟩
abbrev S1x2048x384 : Shape := ⟨3, ![1, 2048, 384]⟩
abbrev S2048x384 : Shape := ⟨2, ![2048, 384]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x3072, .bf16⟩
  | .hbm, ⟨2, _⟩ => ⟨S8448x3072, .f32⟩
  | .hbm, ⟨3, _⟩ => ⟨S2048x8448, .bf16⟩
  | .hbm, ⟨4, _⟩ => ⟨S8x2048x384, .bf16⟩
  | .local _ .vmem, ⟨0, _⟩ => ⟨S2048x1408, .bf16⟩
  | .local _ .vmem, ⟨1, _⟩ => ⟨S2048x1408, .bf16⟩
  | .local _ .vmem, ⟨2, _⟩ => ⟨S1408x384, .f32⟩
  | .local _ .vmem, ⟨3, _⟩ => ⟨S1408x384, .f32⟩
  | .local _ .vmem, ⟨4, _⟩ => ⟨S1x2048x384, .bf16⟩
  | .local _ .vmem, ⟨5, _⟩ => ⟨S1x2048x384, .bf16⟩
  | .local _ .vmem, ⟨6, _⟩ => ⟨S2048x384, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InOddWgradReferenceIdeal.lean ====
abbrev S8448x2048 : Shape := ⟨2, ![8448, 2048]⟩
abbrev S2048x3072 : Shape := ⟨2, ![2048, 3072]⟩
abbrev S8448x3072 : Shape := ⟨2, ![8448, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x3072, .bf16⟩
  | .hbm, ⟨2, _⟩ => ⟨S8448x3072, .f32⟩
  | .hbm, ⟨3, _⟩ => ⟨S8448x2048, .f32⟩
  | .hbm, ⟨4, _⟩ => ⟨S2048x3072, .f32⟩
  | .hbm, ⟨5, _⟩ => ⟨S8448x3072, .f32⟩
  | .hbm, ⟨6, _⟩ => ⟨S3072x2048, .f32⟩
  | .hbm, ⟨7, _⟩ => ⟨S2048x3072, .f32⟩
  | .hbm, ⟨8, _⟩ => ⟨S2048x8x384, .f32⟩
  | .hbm, ⟨9, _⟩ => ⟨S8x2048x384, .f32⟩
  | .hbm, ⟨10, _⟩ => ⟨S8x2048x384, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S8448x2048 : Shape := ⟨2, ![8448, 2048]⟩
abbrev S2048x2048 : Shape := ⟨2, ![2048, 2048]⟩
abbrev S768x2048 : Shape := ⟨2, ![768, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutReferenceIdeal.lean ====
abbrev S8448x2048 : Shape := ⟨2, ![8448, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2048x2048, .f32⟩
  | .hbm, ⟨4, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutGrad.lean ====
abbrev S8448x2048 : Shape := ⟨2, ![8448, 2048]⟩
abbrev S2048x2048 : Shape := ⟨2, ![2048, 2048]⟩
abbrev S768x2048 : Shape := ⟨2, ![768, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .bf16⟩
  | .hbm, ⟨3, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutGradReferenceIdeal.lean ====
abbrev S8448x2048 : Shape := ⟨2, ![8448, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .bf16⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWgrad.lean ====
abbrev S8448x2048 : Shape := ⟨2, ![8448, 2048]⟩
abbrev S2048x2048 : Shape := ⟨2, ![2048, 2048]⟩
abbrev S8x256x2048 : Shape := ⟨3, ![8, 256, 2048]⟩
abbrev S1408x256 : Shape := ⟨2, ![1408, 256]⟩
abbrev S1408x2048 : Shape := ⟨2, ![1408, 2048]⟩
abbrev S1x256x2048 : Shape := ⟨3, ![1, 256, 2048]⟩
abbrev S256x2048 : Shape := ⟨2, ![256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .bf16⟩
  | .hbm, ⟨3, _⟩ => ⟨S8x256x2048, .bf16⟩
  | .local _ .vmem, ⟨0, _⟩ => ⟨S1408x256, .bf16⟩
  | .local _ .vmem, ⟨1, _⟩ => ⟨S1408x256, .bf16⟩
  | .local _ .vmem, ⟨2, _⟩ => ⟨S1408x2048, .bf16⟩
  | .local _ .vmem, ⟨3, _⟩ => ⟨S1408x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def k0_cond3 (i : grid0.Coords) : BitVec 1 :=
  let arg1 : BitVec 32 := BitVec.ofNat 32 (i 1).val
  let c5_i32 : BitVec 32 := 5#32
  let v9 : BitVec 1 := Scalar.cmpi .eq arg1 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutWgradReferenceIdeal.lean ====
abbrev S8448x2048 : Shape := ⟨2, ![8448, 2048]⟩
abbrev S2048x2048 : Shape := ⟨2, ![2048, 2048]⟩
abbrev S8x256x2048 : Shape := ⟨3, ![8, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .bf16⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | .hbm, ⟨10, _⟩ => ⟨S8x256x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttGrad.lean ====
abbrev S8448x1536 : Shape := ⟨2, ![8448, 1536]⟩
abbrev S8448x512 : Shape := ⟨2, ![8448, 512]⟩
abbrev S8448x2048 : Shape := ⟨2, ![8448, 2048]⟩
abbrev S8448x4x3x128 : Shape := ⟨4, ![8448, 4, 3, 128]⟩
abbrev S4x3x8448x128 : Shape := ⟨4, ![4, 3, 8448, 128]⟩
abbrev S8448x4x128 : Shape := ⟨3, ![8448, 4, 128]⟩
abbrev S4x8448x128 : Shape := ⟨3, ![4, 8448, 128]⟩
abbrev S4x3x8448x8448 : Shape := ⟨4, ![4, 3, 8448, 8448]⟩
abbrev S_ : Shape := ⟨0, ![]⟩
abbrev S4x3x8448 : Shape := ⟨3, ![4, 3, 8448]⟩
abbrev S4x3x8448x1 : Shape := ⟨4, ![4, 3, 8448, 1]⟩
abbrev S8448x4x256 : Shape := ⟨3, ![8448, 4, 256]⟩
abbrev S8448x1024 : Shape := ⟨2, ![8448, 1024]⟩
abbrev S12x8448x1 : Shape := ⟨3, ![12, 8448, 1]⟩
abbrev S12x8448x128 : Shape := ⟨3, ![12, 8448, 128]⟩
abbrev S256x384 : Shape := ⟨2, ![256, 384]⟩
abbrev S768x128 : Shape := ⟨2, ![768, 128]⟩
abbrev S768x256 : Shape := ⟨2, ![768, 256]⟩
abbrev S256x128 : Shape := ⟨2, ![256, 128]⟩
abbrev S3x256x128 : Shape := ⟨3, ![3, 256, 128]⟩
abbrev S33x768x128 : Shape := ⟨3, ![33, 768, 128]⟩
abbrev S1x256x128 : Shape := ⟨3, ![1, 256, 128]⟩
abbrev S768x768 : Shape := ⟨2, ![768, 768]⟩
abbrev S1x768x128 : Shape := ⟨3, ![1, 768, 128]⟩

abbrev nBuf : Space → Nat
  | .hbm => 62
  | .vmem => 23
  | .smem => 0
  | _ => 0

abbrev bufTy : (tb : Table) → Fin (tcTables nBuf tb) → BufTy
  | .hbm, ⟨0, _⟩ => ⟨S8448x1536, .bf16⟩
  | .hbm, ⟨1, _⟩ => ⟨S8448x512, .bf16⟩
  | .hbm, ⟨2, _⟩ => ⟨S8448x512, .bf16⟩
  | .hbm, ⟨3, _⟩ => ⟨S8448x2048, .f32⟩
  | .hbm, ⟨4, _⟩ => ⟨S8448x1536, .f32⟩
  | .hbm, ⟨5, _⟩ => ⟨S8448x512, .f32⟩
  | .hbm, ⟨6, _⟩ => ⟨S8448x512, .f32⟩
  | .hbm, ⟨7, _⟩ => ⟨S8448x4x3x128, .f32⟩
  | .hbm, ⟨8, _⟩ => ⟨S4x3x8448x128, .f32⟩
  | .hbm, ⟨9, _⟩ => ⟨S8448x4x128, .f32⟩
  | .hbm, ⟨10, _⟩ => ⟨S4x8448x128, .f32⟩
  | .hbm, ⟨11, _⟩ => ⟨S4x3x8448x8448, .f32⟩
  | .hbm, ⟨12, _⟩ => ⟨S_, .f32⟩
  | .hbm, ⟨13, _⟩ => ⟨S_, .f32⟩
  | .hbm, ⟨14, _⟩ => ⟨S4x3x8448x8448, .f32⟩
  | .hbm, ⟨15, _⟩ => ⟨S4x3x8448x8448, .f32⟩
  | .hbm, ⟨16, _⟩ => ⟨S_, .f32⟩
  | .hbm, ⟨17, _⟩ => ⟨S4x3x8448, .f32⟩
  | .hbm, ⟨18, _⟩ => ⟨S4x3x8448x1, .f32⟩
  | .hbm, ⟨19, _⟩ => ⟨S4x3x8448x8448, .f32⟩
  | .hbm, ⟨20, _⟩ => ⟨S4x3x8448x8448, .f32⟩
  | .hbm, ⟨21, _⟩ => ⟨S4x3x8448x8448, .f32⟩
  | .hbm, ⟨22, _⟩ => ⟨S_, .f32⟩
  | .hbm, ⟨23, _⟩ => ⟨S4x3x8448, .f32⟩
  | .hbm, ⟨24, _⟩ => ⟨S4x3x8448, .f32⟩
  | .hbm, ⟨25, _⟩ => ⟨S4x3x8448, .f32⟩
  | .hbm, ⟨26, _⟩ => ⟨S_, .f32⟩
  | .hbm, ⟨27, _⟩ => ⟨S_, .f32⟩
  | .hbm, ⟨28, _⟩ => ⟨S4x3x8448, .f32⟩
  | .hbm, ⟨29, _⟩ => ⟨S4x3x8448, .f32⟩
  | .hbm, ⟨30, _⟩ => ⟨S4x3x8448x1, .f32⟩
  | .hbm, ⟨31, _⟩ => ⟨S4x3x8448x8448, .f32⟩
  | .hbm, ⟨32, _⟩ => ⟨S4x3x8448x8448, .f32⟩
  | .hbm, ⟨33, _⟩ => ⟨S8448x4x128, .f32⟩
  | .hbm, ⟨34, _⟩ => ⟨S4x8448x128, .f32⟩
  | .hbm, ⟨35, _⟩ => ⟨S4x3x8448x128, .f32⟩
  | .hbm, ⟨36, _⟩ => ⟨S8448x1536, .f32⟩
  | .hbm, ⟨37, _⟩ => ⟨S8448x4x3x128, .f32⟩
  | .hbm, ⟨38, _⟩ => ⟨S4x3x8448x128, .f32⟩
  | .hbm, ⟨39, _⟩ => ⟨S4x3x8448x128, .f32⟩
  | .hbm, ⟨40, _⟩ => ⟨S_, .f32⟩
  | .hbm, ⟨41, _⟩ => ⟨S4x3x8448, .f32⟩
  | .hbm, ⟨42, _⟩ => ⟨S8448x4x128, .bf16⟩
  | .hbm, ⟨43, _⟩ => ⟨S_, .bf16⟩
  | .hbm, ⟨44, _⟩ => ⟨S8448x4x128, .bf16⟩
  | .hbm, ⟨45, _⟩ => ⟨S8448x4x256, .bf16⟩
  | .hbm, ⟨46, _⟩ => ⟨S8448x1024, .bf16⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8448x1536, .f32⟩
  | .hbm, ⟨53, _⟩ => ⟨S8448x1536, .f32⟩
  | .hbm, ⟨54, _⟩ => ⟨S8448x1536, .bf16⟩
  | .hbm, ⟨55, _⟩ => ⟨S12x8448x1, .f32⟩
  | .hbm, ⟨56, _⟩ => ⟨S12x8448x128, .f32⟩
  | .hbm, ⟨57, _⟩ => ⟨S12x8448x1, .f32⟩
  | .hbm, ⟨58, _⟩ => ⟨S12x8448x128, .f32⟩
  | .hbm, ⟨59, _⟩ => ⟨S8448x1536, .f32⟩
  | .hbm, ⟨60, _⟩ => ⟨S8448x512, .f32⟩
  | .hbm, ⟨61, _⟩ => ⟨S8448x512, .f32⟩
  | .local _ .vmem, ⟨0, _⟩ => ⟨S256x384, .bf16⟩
  | .local _ .vmem, ⟨1, _⟩ => ⟨S256x384, .bf16⟩
  | .local _ .vmem, ⟨2, _⟩ => ⟨S768x128, .bf16⟩
  | .local _ .vmem, ⟨3, _⟩ => ⟨S768x128, .bf16⟩
  | .local _ .vmem, ⟨4, _⟩ => ⟨S768x256, .bf16⟩
  | .local _ .vmem, ⟨5, _⟩ => ⟨S768x256, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S3x256x128, .f32⟩
  | .local _ .vmem, ⟨13, _⟩ => ⟨S3x256x128, .f32⟩
  | .local _ .vmem, ⟨14, _⟩ => ⟨S3x256x128, .f32⟩
  | .local _ .vmem, ⟨15, _⟩ => ⟨S3x256x128, .f32⟩
  | .local _ .vmem, ⟨16, _⟩ => ⟨S256x384, .f32⟩
  | .local _ .vmem, ⟨17, _⟩ => ⟨S256x384, .f32⟩
  | .local _ .vmem, ⟨18, _⟩ => ⟨S768x128, .f32⟩
  | .local _ .vmem, ⟨19, _⟩ => ⟨S768x128, .f32⟩
  | .local _ .vmem, ⟨20, _⟩ => ⟨S768x128, .f32⟩
  | .local _ .vmem, ⟨21, _⟩ => ⟨S768x128, .f32⟩
  | .local _ .vmem, ⟨22, _⟩ => ⟨S33x768x128, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 11, 33], ![false, false, false]⟩

def k0_cond4 (i : grid0.Coords) : BitVec 1 :=
  let arg1 : BitVec 32 := BitVec.ofNat 32 (i 1).val
  let c0_i32_37 : BitVec 32 := 0#32
  let v53 : BitVec 1 := Scalar.cmpi .eq arg1 c0_i32_37
  let v54 : BitVec 32 := Scalar.extui v53
  let c0_i32_38 : BitVec 32 := 0#32
  let v55 : BitVec 1 := Scalar.cmpi .ne v54 c0_i32_38
  v55

def k0_off1 (i : grid0.Coords) : Fin 3 → Nat :=
  let arg2 : BitVec 32 := BitVec.ofNat 32 (i 2).val
  let v62 : Index := Scalar.indexCast arg2
  let c0_42 : Index := 0#32
  let c0_43 : Index := 0#32
  ![v62.toNat, 0, 0]
def k0_cond5 (i : grid0.Coords) : BitVec 1 :=
  let arg1 : BitVec 32 := BitVec.ofNat 32 (i 1).val
  let c0_i32_39 : BitVec 32 := 0#32
  let v56 : BitVec 1 := Scalar.cmpi .sgt arg1 c0_i32_39
  let v57 : BitVec 32 := Scalar.extui v56
  let c0_i32_40 : BitVec 32 := 0#32
  let v58 : BitVec 1 := Scalar.cmpi .ne v57 c0_i32_40
  v58

def k0_off2 (i : grid0.Coords) : Fin 3 → Nat :=
  let arg2 : BitVec 32 := BitVec.ofNat 32 (i 2).val
  let v62 : Index := Scalar.indexCast arg2
  let c0_42 : Index := 0#32
  let c0_43 : Index := 0#32
  ![v62.toNat, 0, 0]
def k0_cond6 (i : grid0.Coords) : BitVec 1 :=
  let arg1 : BitVec 32 := BitVec.ofNat 32 (i 1).val
  let c10_i32 : BitVec 32 := 10#32
  let v59 : BitVec 1 := Scalar.cmpi .eq arg1 c10_i32
  let v60 : BitVec 32 := Scalar.extui v59
  let c0_i32_41 : BitVec 32 := 0#32
  let v61 : BitVec 1 := Scalar.cmpi .ne v60 c0_i32_41
  v61

def k0_off3 (i : grid0.Coords) : Fin 3 → Nat :=
  let arg2 : BitVec 32 := BitVec.ofNat 32 (i 2).val
  let v62 : Index := Scalar.indexCast arg2
  let c0_42 : Index := 0#32
  let c0_43 : Index := 0#32
  ![v62.toNat, 0, 0]
def k0_cond1 (i : grid0.Coords) : BitVec 1 :=
  let arg2 : BitVec 32 := BitVec.ofNat 32 (i 2).val
  let c0_i32 : BitVec 32 := 0#32
  let v44 : BitVec 1 := Scalar.cmpi .eq arg2 c0_i32
  let v45 : BitVec 32 := Scalar.extui v44
  let c0_i32_33 : BitVec 32 := 0#32
  let v46 : BitVec 1 := Scalar.cmpi .ne v45 c0_i32_33
  v46

def k0_cond2 (i : grid0.Coords) : BitVec 1 :=
  let arg2 : BitVec 32 := BitVec.ofNat 32 (i 2).val
  let c0_i32_34 : BitVec 32 := 0#32
  let v47 : BitVec 1 := Scalar.cmpi .sgt arg2 c0_i32_34
  let v48 : BitVec 32 := Scalar.extui v47
  let c0_i32_35 : BitVec 32 := 0#32
  let v49 : BitVec 1 := Scalar.cmpi .ne v48 c0_i32_35
  v49

def k0_cond3 (i : grid0.Coords) : BitVec 1 :=
  let arg2 : BitVec 32 := BitVec.ofNat 32 (i 2).val
  let c32_i32 : BitVec 32 := 32#32
  let v50 : BitVec 1 := Scalar.cmpi .eq arg2 c32_i32
  let v51 : BitVec 32 := Scalar.extui v50
  let c0_i32_36 : BitVec 32 := 0#32
  let v52 : BitVec 1 := Scalar.cmpi .ne v51 c0_i32_36
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c4_i32 : BitVec 32 := 4#32
  let v1 : BitVec 32 := Scalar.addi c4_i32 v0
  let c0_i32 : BitVec 32 := 0#32
  let v2 : BitVec 32 := Scalar.addi v1 c0_i32
  let c0_i32_0 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c4_i32 : BitVec 32 := 4#32
  let v1 : BitVec 32 := Scalar.addi c4_i32 v0
  let c1_i32 : BitVec 32 := 1#32
  let v2 : BitVec 32 := Scalar.addi v1 c1_i32
  let c0_i32 : BitVec 32 := 0#32
  ![arg2.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c4_i32 : BitVec 32 := 4#32
  let v1 : BitVec 32 := Scalar.addi c4_i32 v0
  let c2_i32 : BitVec 32 := 2#32
  let v2 : BitVec 32 := Scalar.addi v1 c2_i32
  let c0_i32 : BitVec 32 := 0#32
  ![arg2.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 1 := Scalar.cmpi .eq arg1 c10_i32
  let c0_i32 : BitVec 32 := 0#32
  let v1 : BitVec 32 := Scalar.select v0 arg2 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S3x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S3x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S768x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== AttGradIdeal.lean ====
variable {F : FTy → Type} [FloatOps F] [Named F]
def κ : String → Option EReal := fun
  | "ln2" => some ((Real.log 2 : ℝ) : EReal)
  | "scale" => some (((Real.sqrt 128)⁻¹ : ℝ) : EReal)
  | _ => none
-- ==== AttGradReferenceIdeal.lean ====
abbrev S8448x1536 : Shape := ⟨2, ![8448, 1536]⟩
abbrev S8448x512 : Shape := ⟨2, ![8448, 512]⟩
abbrev S8448x2048 : Shape := ⟨2, ![8448, 2048]⟩
abbrev S8448x4x3x128 : Shape := ⟨4, ![8448, 4, 3, 128]⟩
abbrev S4x3x8448x128 : Shape := ⟨4, ![4, 3, 8448, 128]⟩
abbrev S8448x4x128 : Shape := ⟨3, ![8448, 4, 128]⟩
abbrev S4x8448x128 : Shape := ⟨3, ![4, 8448, 128]⟩
abbrev S4x3x8448x8448 : Shape := ⟨4, ![4, 3, 8448, 8448]⟩
abbrev S_ : Shape := ⟨0, ![]⟩
abbrev S4x3x8448 : Shape := ⟨3, ![4, 3, 8448]⟩
abbrev S4x3x8448x1 : Shape := ⟨4, ![4, 3, 8448, 1]⟩
abbrev S4x128x8448 : Shape := ⟨3, ![4, 128, 8448]⟩

abbrev nBuf : Space → Nat
  | .hbm => 93
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S8448x512, .bf16⟩
  | .hbm, ⟨2, _⟩ => ⟨S8448x512, .bf16⟩
  | .hbm, ⟨3, _⟩ => ⟨S8448x2048, .f32⟩
  | .hbm, ⟨4, _⟩ => ⟨S8448x1536, .f32⟩
  | .hbm, ⟨5, _⟩ => ⟨S8448x512, .f32⟩
  | .hbm, ⟨6, _⟩ => ⟨S8448x512, .f32⟩
  | .hbm, ⟨7, _⟩ => ⟨S8448x4x3x128, .f32⟩
  | .hbm, ⟨8, _⟩ => ⟨S4x3x8448x128, .f32⟩
  | .hbm, ⟨9, _⟩ => ⟨S8448x4x128, .f32⟩
  | .hbm, ⟨10, _⟩ => ⟨S4x8448x128, .f32⟩
  | .hbm, ⟨11, _⟩ => ⟨S4x3x8448x8448, .f32⟩
  | .hbm, ⟨12, _⟩ => ⟨S_, .f32⟩
  | .hbm, ⟨13, _⟩ => ⟨S_, .f32⟩
  | .hbm, ⟨14, _⟩ => ⟨S4x3x8448x8448, .f32⟩
  | .hbm, ⟨15, _⟩ => ⟨S4x3x8448x8448, .f32⟩
  | .hbm, ⟨16, _⟩ => ⟨S_, .f32⟩
  | .hbm, ⟨17, _⟩ => ⟨S4x3x8448, .f32⟩
  | .hbm, ⟨18, _⟩ => ⟨S4x3x8448x1, .f32⟩
  | .hbm, ⟨19, _⟩ => ⟨S4x3x8448x8448, .f32⟩
  | .hbm, ⟨20, _⟩ => ⟨S4x3x8448x8448, .i1⟩
  | .hbm, ⟨21, _⟩ => ⟨S4x3x8448x8448, .f32⟩
  | .hbm, ⟨22, _⟩ => ⟨S_, .f32⟩
  | .hbm, ⟨23, _⟩ => ⟨S4x3x8448, .f32⟩
  | .hbm, ⟨24, _⟩ => ⟨S_, .f32⟩
  | .hbm, ⟨25, _⟩ => ⟨S4x3x8448, .f32⟩
  | .hbm, ⟨26, _⟩ => ⟨S4x3x8448, .f32⟩
  | .hbm, ⟨27, _⟩ => ⟨S_, .f32⟩
  | .hbm, ⟨28, _⟩ => ⟨S4x3x8448, .f32⟩
  | .hbm, ⟨29, _⟩ => ⟨S4x3x8448, .i1⟩
  | .hbm, ⟨30, _⟩ => ⟨S_, .f32⟩
  | .hbm, ⟨31, _⟩ => ⟨S4x3x8448, .f32⟩
  | .hbm, ⟨32, _⟩ => ⟨S4x3x8448, .i1⟩
  | .hbm, ⟨33, _⟩ => ⟨S_, .f32⟩
  | .hbm, ⟨34, _⟩ => ⟨S4x3x8448, .f32⟩
  | .hbm, ⟨35, _⟩ => ⟨S_, .f32⟩
  | .hbm, ⟨36, _⟩ => ⟨S4x3x8448, .f32⟩
  | .hbm, ⟨37, _⟩ => ⟨S_, .f32⟩
  | .hbm, ⟨38, _⟩ => ⟨S4x3x8448, .f32⟩
  | .hbm, ⟨39, _⟩ => ⟨S4x3x8448, .f32⟩
  | .hbm, ⟨40, _⟩ => ⟨S4x3x8448, .f32⟩
  | .hbm, ⟨41, _⟩ => ⟨S4x3x8448x1, .f32⟩
  | .hbm, ⟨42, _⟩ => ⟨S4x3x8448x8448, .f32⟩
  | .hbm, ⟨43, _⟩ => ⟨S4x3x8448x8448, .f32⟩
  | .hbm, ⟨44, _⟩ => ⟨S4x3x8448x8448, .f32⟩
  | .hbm, ⟨45, _⟩ => ⟨S_, .f32⟩
  | .hbm, ⟨46, _⟩ => ⟨S4x3x8448, .f32⟩
  | .hbm, ⟨47, _⟩ => ⟨S4x3x8448x1, .f32⟩
  | .hbm, ⟨48, _⟩ => ⟨S4x3x8448x8448, .f32⟩
  | .hbm, ⟨49, _⟩ => ⟨S4x3x8448x8448, .f32⟩
  | .hbm, ⟨50, _⟩ => ⟨S4x3x8448x1, .f32⟩
  | .hbm, ⟨51, _⟩ => ⟨S_, .f32⟩
  | .hbm, ⟨52, _⟩ => ⟨S4x3x8448x1, .f32⟩
  | .hbm, ⟨53, _⟩ => ⟨S4x3x8448x1, .f32⟩
  | .hbm, ⟨54, _⟩ => ⟨S8448x4x128, .f32⟩
  | .hbm, ⟨55, _⟩ => ⟨S4x8448x128, .f32⟩
  | .hbm, ⟨56, _⟩ => ⟨S4x3x8448x8448, .bf16⟩
  | .hbm, ⟨57, _⟩ => ⟨S4x3x8448x8448, .f32⟩
  | .hbm, ⟨58, _⟩ => ⟨S4x3x8448x128, .f32⟩
  | .hbm, ⟨59, _⟩ => ⟨S8448x4x3x128, .f32⟩
  | .hbm, ⟨60, _⟩ => ⟨S8448x1536, .f32⟩
  | .hbm, ⟨61, _⟩ => ⟨S8448x1536, .f32⟩
  | .hbm, ⟨62, _⟩ => ⟨S8448x4x3x128, .f32⟩
  | .hbm, ⟨63, _⟩ => ⟨S4x3x8448x128, .f32⟩
  | .hbm, ⟨64, _⟩ => ⟨S4x128x8448, .f32⟩
  | .hbm, ⟨65, _⟩ => ⟨S4x8448x128, .f32⟩
  | .hbm, ⟨66, _⟩ => ⟨S4x3x8448x8448, .f32⟩
  | .hbm, ⟨67, _⟩ => ⟨S4x3x8448x8448, .bf16⟩
  | .hbm, ⟨68, _⟩ => ⟨S4x3x8448x8448, .f32⟩
  | .hbm, ⟨69, _⟩ => ⟨S8448x4x128, .f32⟩
  | .hbm, ⟨70, _⟩ => ⟨S8448x512, .f32⟩
  | .hbm, ⟨71, _⟩ => ⟨S4x3x8448x8448, .f32⟩
  | .hbm, ⟨72, _⟩ => ⟨S4x3x8448x8448, .f32⟩
  | .hbm, ⟨73, _⟩ => ⟨S4x3x8448x8448, .f32⟩
  | .hbm, ⟨74, _⟩ => ⟨S_, .f32⟩
  | .hbm, ⟨75, _⟩ => ⟨S4x3x8448, .f32⟩
  | .hbm, ⟨76, _⟩ => ⟨S4x3x8448x1, .f32⟩
  | .hbm, ⟨77, _⟩ => ⟨S4x3x8448x1, .f32⟩
  | .hbm, ⟨78, _⟩ => ⟨S4x3x8448x8448, .f32⟩
  | .hbm, ⟨79, _⟩ => ⟨S4x3x8448x8448, .f32⟩
  | .hbm, ⟨80, _⟩ => ⟨S_, .f32⟩
  | .hbm, ⟨81, _⟩ => ⟨S4x3x8448, .f32⟩
  | .hbm, ⟨82, _⟩ => ⟨S4x3x8448x8448, .f32⟩
  | .hbm, ⟨83, _⟩ => ⟨S4x3x8448x8448, .f32⟩
  | .hbm, ⟨84, _⟩ => ⟨S4x3x8448x8448, .f32⟩
  | .hbm, ⟨85, _⟩ => ⟨S4x3x8448x8448, .f32⟩
  | .hbm, ⟨86, _⟩ => ⟨S4x3x8448x8448, .f32⟩
  | .hbm, ⟨87, _⟩ => ⟨S4x8448x128, .f32⟩
  | .hbm, ⟨88, _⟩ => ⟨S4x3x8448x128, .f32⟩
  | .hbm, ⟨89, _⟩ => ⟨S8448x4x128, .f32⟩
  | .hbm, ⟨90, _⟩ => ⟨S8448x512, .f32⟩
  | .hbm, ⟨91, _⟩ => ⟨S8448x4x3x128, .f32⟩
  | .hbm, ⟨92, _⟩ => ⟨S8448x1536, .f32⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Att.lean ====
abbrev S8448x1536 : Shape := ⟨2, ![8448, 1536]⟩
abbrev S8448x512 : Shape := ⟨2, ![8448, 512]⟩
abbrev S8448x4x128 : Shape := ⟨3, ![8448, 4, 128]⟩
abbrev S_ : Shape := ⟨0, ![]⟩
abbrev S8448x4x256 : Shape := ⟨3, ![8448, 4, 256]⟩
abbrev S8448x1024 : Shape := ⟨2, ![8448, 1024]⟩
abbrev S12x8448x128 : Shape := ⟨3, ![12, 8448, 128]⟩
abbrev S768x384 : Shape := ⟨2, ![768, 384]⟩
abbrev S768x128 : Shape := ⟨2, ![768, 128]⟩
abbrev S768x256 : Shape := ⟨2, ![768, 256]⟩
abbrev S3x768x128 : Shape := ⟨3, ![3, 768, 128]⟩
abbrev S2304x128 : Shape := ⟨2, ![2304, 128]⟩
abbrev S2304x256 : Shape := ⟨2, ![2304, 256]⟩
abbrev S2304x768 : Shape := ⟨2, ![2304, 768]⟩
abbrev S2304 : Shape := ⟨1, ![2304]⟩
abbrev S2304x1 : Shape := ⟨2, ![2304, 1]⟩
abbrev S1x768x128 : Shape := ⟨3, ![1, 768, 128]⟩

abbrev nBuf : Space → Nat
  | .hbm => 19
  | .vmem => 12
  | .smem => 0
  | _ => 0

abbrev bufTy : (tb : Table) → Fin (tcTables nBuf tb) → BufTy
  | .hbm, ⟨0, _⟩ => ⟨S8448x1536, .bf16⟩
  | .hbm, ⟨1, _⟩ => ⟨S8448x512, .bf16⟩
  | .hbm, ⟨2, _⟩ => ⟨S8448x512, .bf16⟩
  | .hbm, ⟨3, _⟩ => ⟨S8448x4x128, .bf16⟩
  | .hbm, ⟨4, _⟩ => ⟨S_, .bf16⟩
  | .hbm, ⟨5, _⟩ => ⟨S8448x4x128, .bf16⟩
  | .hbm, ⟨6, _⟩ => ⟨S8448x4x256, .bf16⟩
  | .hbm, ⟨7, _⟩ => ⟨S8448x1024, .bf16⟩
  | .hbm, ⟨8, _⟩ => ⟨S8448x1536, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8448x1536, .f32⟩
  | .hbm, ⟨15, _⟩ => ⟨S8448x1536, .f32⟩
  | .hbm, ⟨16, _⟩ => ⟨S8448x1536, .bf16⟩
  | .hbm, ⟨17, _⟩ => ⟨S8448x1536, .bf16⟩
  | .hbm, ⟨18, _⟩ => ⟨S12x8448x128, .f32⟩
  | .local _ .vmem, ⟨0, _⟩ => ⟨S768x384, .bf16⟩
  | .local _ .vmem, ⟨1, _⟩ => ⟨S768x384, .bf16⟩
  | .local _ .vmem, ⟨2, _⟩ => ⟨S768x128, .bf16⟩
  | .local _ .vmem, ⟨3, _⟩ => ⟨S768x128, .bf16⟩
  | .local _ .vmem, ⟨4, _⟩ => ⟨S768x256, .bf16⟩
  | .local _ .vmem, ⟨5, _⟩ => ⟨S768x256, .bf16⟩
  | .local _ .vmem, ⟨6, _⟩ => ⟨S768x384, .bf16⟩
  | .local _ .vmem, ⟨7, _⟩ => ⟨S768x384, .bf16⟩
  | .local _ .vmem, ⟨8, _⟩ => ⟨S3x768x128, .f32⟩
  | .local _ .vmem, ⟨9, _⟩ => ⟨S3x768x128, .f32⟩
  | .local _ .vmem, ⟨10, _⟩ => ⟨S2304x128, .f32⟩
  | .local _ .vmem, ⟨11, _⟩ => ⟨S2304x256, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 11], ![false, false, false]⟩

def k0_cond2 (i : grid0.Coords) : BitVec 1 :=
  let arg2 : BitVec 32 := BitVec.ofNat 32 (i 2).val
  let c10_i32 : BitVec 32 := 10#32
  let v36 : BitVec 1 := Scalar.cmpi .eq arg2 c10_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S768x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S3x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttIdeal.lean ====
variable {F : FTy → Type} [FloatOps F] [Named F]
def κ : String → Option EReal := fun
  | "ln2" => some ((Real.log 2 : ℝ) : EReal)
  | _ => none
-- ==== AttReferenceIdeal.lean ====
abbrev S8448x1536 : Shape := ⟨2, ![8448, 1536]⟩
abbrev S8448x512 : Shape := ⟨2, ![8448, 512]⟩
abbrev S8448x4x3x128 : Shape := ⟨4, ![8448, 4, 3, 128]⟩
abbrev S4x3x8448x128 : Shape := ⟨4, ![4, 3, 8448, 128]⟩
abbrev S8448x4x128 : Shape := ⟨3, ![8448, 4, 128]⟩
abbrev S4x8448x128 : Shape := ⟨3, ![4, 8448, 128]⟩
abbrev S4x3x8448x8448 : Shape := ⟨4, ![4, 3, 8448, 8448]⟩
abbrev S_ : Shape := ⟨0, ![]⟩
abbrev S4x3x8448 : Shape := ⟨3, ![4, 3, 8448]⟩
abbrev S4x3x8448x1 : Shape := ⟨4, ![4, 3, 8448, 1]⟩
abbrev S12x8448x1 : Shape := ⟨3, ![12, 8448, 1]⟩
abbrev S12x8448x128 : Shape := ⟨3, ![12, 8448, 128]⟩

abbrev nBuf : Space → Nat
  | .hbm => 62
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S8448x512, .bf16⟩
  | .hbm, ⟨2, _⟩ => ⟨S8448x512, .bf16⟩
  | .hbm, ⟨3, _⟩ => ⟨S8448x1536, .f32⟩
  | .hbm, ⟨4, _⟩ => ⟨S8448x512, .f32⟩
  | .hbm, ⟨5, _⟩ => ⟨S8448x512, .f32⟩
  | .hbm, ⟨6, _⟩ => ⟨S8448x4x3x128, .f32⟩
  | .hbm, ⟨7, _⟩ => ⟨S4x3x8448x128, .f32⟩
  | .hbm, ⟨8, _⟩ => ⟨S8448x4x128, .f32⟩
  | .hbm, ⟨9, _⟩ => ⟨S4x8448x128, .f32⟩
  | .hbm, ⟨10, _⟩ => ⟨S4x3x8448x8448, .f32⟩
  | .hbm, ⟨11, _⟩ => ⟨S_, .f32⟩
  | .hbm, ⟨12, _⟩ => ⟨S_, .f32⟩
  | .hbm, ⟨13, _⟩ => ⟨S4x3x8448x8448, .f32⟩
  | .hbm, ⟨14, _⟩ => ⟨S4x3x8448x8448, .f32⟩
  | .hbm, ⟨15, _⟩ => ⟨S_, .f32⟩
  | .hbm, ⟨16, _⟩ => ⟨S4x3x8448, .f32⟩
  | .hbm, ⟨17, _⟩ => ⟨S4x3x8448x1, .f32⟩
  | .hbm, ⟨18, _⟩ => ⟨S4x3x8448x8448, .f32⟩
  | .hbm, ⟨19, _⟩ => ⟨S4x3x8448x8448, .f32⟩
  | .hbm, ⟨20, _⟩ => ⟨S4x3x8448x8448, .f32⟩
  | .hbm, ⟨21, _⟩ => ⟨S_, .f32⟩
  | .hbm, ⟨22, _⟩ => ⟨S4x3x8448, .f32⟩
  | .hbm, ⟨23, _⟩ => ⟨S4x3x8448, .f32⟩
  | .hbm, ⟨24, _⟩ => ⟨S4x3x8448, .f32⟩
  | .hbm, ⟨25, _⟩ => ⟨S_, .f32⟩
  | .hbm, ⟨26, _⟩ => ⟨S_, .f32⟩
  | .hbm, ⟨27, _⟩ => ⟨S4x3x8448, .f32⟩
  | .hbm, ⟨28, _⟩ => ⟨S4x3x8448, .f32⟩
  | .hbm, ⟨29, _⟩ => ⟨S8448x4x3x128, .f32⟩
  | .hbm, ⟨30, _⟩ => ⟨S4x3x8448x128, .f32⟩
  | .hbm, ⟨31, _⟩ => ⟨S8448x4x128, .f32⟩
  | .hbm, ⟨32, _⟩ => ⟨S4x8448x128, .f32⟩
  | .hbm, ⟨33, _⟩ => ⟨S4x3x8448x8448, .f32⟩
  | .hbm, ⟨34, _⟩ => ⟨S_, .f32⟩
  | .hbm, ⟨35, _⟩ => ⟨S_, .f32⟩
  | .hbm, ⟨36, _⟩ => ⟨S4x3x8448x8448, .f32⟩
  | .hbm, ⟨37, _⟩ => ⟨S4x3x8448x8448, .f32⟩
  | .hbm, ⟨38, _⟩ => ⟨S_, .f32⟩
  | .hbm, ⟨39, _⟩ => ⟨S4x3x8448, .f32⟩
  | .hbm, ⟨40, _⟩ => ⟨S_, .f32⟩
  | .hbm, ⟨41, _⟩ => ⟨S4x3x8448, .f32⟩
  | .hbm, ⟨42, _⟩ => ⟨S4x3x8448, .f32⟩
  | .hbm, ⟨43, _⟩ => ⟨S4x3x8448x1, .f32⟩
  | .hbm, ⟨44, _⟩ => ⟨S4x3x8448x8448, .f32⟩
  | .hbm, ⟨45, _⟩ => ⟨S4x3x8448x8448, .f32⟩
  | .hbm, ⟨46, _⟩ => ⟨S4x3x8448x8448, .f32⟩
  | .hbm, ⟨47, _⟩ => ⟨S_, .f32⟩
  | .hbm, ⟨48, _⟩ => ⟨S4x3x8448, .f32⟩
  | .hbm, ⟨49, _⟩ => ⟨S4x3x8448x1, .f32⟩
  | .hbm, ⟨50, _⟩ => ⟨S4x3x8448x8448, .f32⟩
  | .hbm, ⟨51, _⟩ => ⟨S4x3x8448x8448, .f32⟩
  | .hbm, ⟨52, _⟩ => ⟨S8448x4x128, .f32⟩
  | .hbm, ⟨53, _⟩ => ⟨S4x8448x128, .f32⟩
  | .hbm, ⟨54, _⟩ => ⟨S4x3x8448x8448, .bf16⟩
  | .hbm, ⟨55, _⟩ => ⟨S4x3x8448x8448, .f32⟩
  | .hbm, ⟨56, _⟩ => ⟨S4x3x8448x128, .f32⟩
  | .hbm, ⟨57, _⟩ => ⟨S8448x4x3x128, .f32⟩
  | .hbm, ⟨58, _⟩ => ⟨S8448x1536, .f32⟩
  | .hbm, ⟨59, _⟩ => ⟨S8448x1536, .bf16⟩
  | .hbm, ⟨60, _⟩ => ⟨S12x8448x1, .f32⟩
  | .hbm, ⟨61, _⟩ => ⟨S12x8448x128, .f32⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== AdamEvenIn.lean ====
abbrev S8x2048x768 : Shape := ⟨3, ![8, 2048, 768]⟩
abbrev S2048x768 : Shape := ⟨2, ![2048, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x768, .bf16⟩
  | .hbm, ⟨1, _⟩ => ⟨S2048x768, .bf16⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamEvenInIdeal.lean ====
abbrev S8x2048x768 : Shape := ⟨3, ![8, 2048, 768]⟩
abbrev S2048x768 : Shape := ⟨2, ![2048, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x768, .bf16⟩
  | .hbm, ⟨1, _⟩ => ⟨S2048x768, .bf16⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamEvenInReferenceIdeal.lean ====
abbrev S8x2048x768 : Shape := ⟨3, ![8, 2048, 768]⟩
abbrev S2048x768 : Shape := ⟨2, ![2048, 768]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S2048x768, .bf16⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S8x2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S_, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S_, .f32⟩
  | .hbm, ⟨41, _⟩ => ⟨S2048x768, .f32⟩
  | .hbm, ⟨42, _⟩ => ⟨S2048x768, .f32⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamOddIn.lean ====
abbrev S8x2048x384 : Shape := ⟨3, ![8, 2048, 384]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S8x256x384, .bf16⟩
  | .local _ .vmem, ⟨1, _⟩ => ⟨S8x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .bf16⟩
  | .local _ .vmem, ⟨9, _⟩ => ⟨S256x384, .bf16⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOddInIdeal.lean ====
abbrev S8x2048x384 : Shape := ⟨3, ![8, 2048, 384]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S8x256x384, .bf16⟩
  | .local _ .vmem, ⟨1, _⟩ => ⟨S8x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .bf16⟩
  | .local _ .vmem, ⟨9, _⟩ => ⟨S256x384, .bf16⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOddInReferenceIdeal.lean ====
abbrev S8x2048x384 : Shape := ⟨3, ![8, 2048, 384]⟩
abbrev S2048x384 : Shape := ⟨2, ![2048, 384]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S8x2048x384, .f32⟩
  | .hbm, ⟨6, _⟩ => ⟨S_, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S_, .f32⟩
  | .hbm, ⟨11, _⟩ => ⟨S2048x384, .f32⟩
  | .hbm, ⟨12, _⟩ => ⟨S2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S_, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S_, .f32⟩
  | .hbm, ⟨29, _⟩ => ⟨S2048x384, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S_, .f32⟩
  | .hbm, ⟨41, _⟩ => ⟨S2048x384, .f32⟩
  | .hbm, ⟨42, _⟩ => ⟨S2048x384, .f32⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamMod.lean ====
abbrev S1x4096x2304 : Shape := ⟨3, ![1, 4096, 2304]⟩
abbrev S4096x2304 : Shape := ⟨2, ![4096, 2304]⟩
abbrev S1x256x2304 : Shape := ⟨3, ![1, 256, 2304]⟩
abbrev S256x2304 : Shape := ⟨2, ![256, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x2304, .f32⟩
  | .hbm, ⟨1, _⟩ => ⟨S4096x2304, .f32⟩
  | .hbm, ⟨2, _⟩ => ⟨S4096x2304, .f32⟩
  | .hbm, ⟨3, _⟩ => ⟨S4096x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .local _ .vmem, ⟨0, _⟩ => ⟨S1x256x2304, .f32⟩
  | .local _ .vmem, ⟨1, _⟩ => ⟨S1x256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S1x4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModIdeal.lean ====
abbrev S1x4096x2304 : Shape := ⟨3, ![1, 4096, 2304]⟩
abbrev S4096x2304 : Shape := ⟨2, ![4096, 2304]⟩
abbrev S1x256x2304 : Shape := ⟨3, ![1, 256, 2304]⟩
abbrev S256x2304 : Shape := ⟨2, ![256, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x2304, .f32⟩
  | .hbm, ⟨1, _⟩ => ⟨S4096x2304, .f32⟩
  | .hbm, ⟨2, _⟩ => ⟨S4096x2304, .f32⟩
  | .hbm, ⟨3, _⟩ => ⟨S4096x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .local _ .vmem, ⟨0, _⟩ => ⟨S1x256x2304, .f32⟩
  | .local _ .vmem, ⟨1, _⟩ => ⟨S1x256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S1x4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModReferenceIdeal.lean ====
abbrev S1x4096x2304 : Shape := ⟨3, ![1, 4096, 2304]⟩
abbrev S4096x2304 : Shape := ⟨2, ![4096, 2304]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x2304, .f32⟩
  | .hbm, ⟨1, _⟩ => ⟨S4096x2304, .f32⟩
  | .hbm, ⟨2, _⟩ => ⟨S4096x2304, .f32⟩
  | .hbm, ⟨3, _⟩ => ⟨S4096x2304, .f32⟩
  | .hbm, ⟨4, _⟩ => ⟨S_, .f32⟩
  | .hbm, ⟨5, _⟩ => ⟨S4096x2304, .f32⟩
  | .hbm, ⟨6, _⟩ => ⟨S_, .f32⟩
  | .hbm, ⟨7, _⟩ => ⟨S4096x2304, .f32⟩
  | .hbm, ⟨8, _⟩ => ⟨S4096x2304, .f32⟩
  | .hbm, ⟨9, _⟩ => ⟨S_, .f32⟩
  | .hbm, ⟨10, _⟩ => ⟨S4096x2304, .f32⟩
  | .hbm, ⟨11, _⟩ => ⟨S4096x2304, .f32⟩
  | .hbm, ⟨12, _⟩ => ⟨S4096x2304, .f32⟩
  | .hbm, ⟨13, _⟩ => ⟨S_, .f32⟩
  | .hbm, ⟨14, _⟩ => ⟨S4096x2304, .f32⟩
  | .hbm, ⟨15, _⟩ => ⟨S4096x2304, .f32⟩
  | .hbm, ⟨16, _⟩ => ⟨S4096x2304, .f32⟩
  | .hbm, ⟨17, _⟩ => ⟨S_, .f32⟩
  | .hbm, ⟨18, _⟩ => ⟨S4096x2304, .f32⟩
  | .hbm, ⟨19, _⟩ => ⟨S4096x2304, .f32⟩
  | .hbm, ⟨20, _⟩ => ⟨S4096x2304, .f32⟩
  | .hbm, ⟨21, _⟩ => ⟨S_, .f32⟩
  | .hbm, ⟨22, _⟩ => ⟨S4096x2304, .f32⟩
  | .hbm, ⟨23, _⟩ => ⟨S4096x2304, .f32⟩
  | .hbm, ⟨24, _⟩ => ⟨S_, .f32⟩
  | .hbm, ⟨25, _⟩ => ⟨S4096x2304, .f32⟩
  | .hbm, ⟨26, _⟩ => ⟨S4096x2304, .f32⟩
  | .hbm, ⟨27, _⟩ => ⟨S4096x2304, .f32⟩
  | .hbm, ⟨28, _⟩ => ⟨S_, .f32⟩
  | .hbm, ⟨29, _⟩ => ⟨S4096x2304, .f32⟩
  | .hbm, ⟨30, _⟩ => ⟨S4096x2304, .f32⟩
  | .hbm, ⟨31, _⟩ => ⟨S4096x2304, .f32⟩
  | .hbm, ⟨32, _⟩ => ⟨S_, .f32⟩
  | .hbm, ⟨33, _⟩ => ⟨S4096x2304, .f32⟩
  | .hbm, ⟨34, _⟩ => ⟨S4096x2304, .f32⟩
  | .hbm, ⟨35, _⟩ => ⟨S4096x2304, .f32⟩
  | .hbm, ⟨36, _⟩ => ⟨S_, .f32⟩
  | .hbm, ⟨37, _⟩ => ⟨S4096x2304, .f32⟩
  | .hbm, ⟨38, _⟩ => ⟨S4096x2304, .f32⟩
  | _, _ => ⟨S1x4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S1x720x1024 : Shape := ⟨3, ![1, 720, 1024]⟩
abbrev S720x1024 : Shape := ⟨2, ![720, 1024]⟩
abbrev S1x240x1024 : Shape := ⟨3, ![1, 240, 1024]⟩
abbrev S240x1024 : Shape := ⟨2, ![240, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x720x1024, .f32⟩
  | .hbm, ⟨1, _⟩ => ⟨S720x1024, .f32⟩
  | .hbm, ⟨2, _⟩ => ⟨S720x1024, .f32⟩
  | .hbm, ⟨3, _⟩ => ⟨S720x1024, .f32⟩
  | .hbm, ⟨4, _⟩ => ⟨S720x1024, .f32⟩
  | .hbm, ⟨5, _⟩ => ⟨S720x1024, .f32⟩
  | .hbm, ⟨6, _⟩ => ⟨S720x1024, .f32⟩
  | .hbm, ⟨7, _⟩ => ⟨S720x1024, .f32⟩
  | .local _ .vmem, ⟨0, _⟩ => ⟨S1x240x1024, .f32⟩
  | .local _ .vmem, ⟨1, _⟩ => ⟨S1x240x1024, .f32⟩
  | .local _ .vmem, ⟨2, _⟩ => ⟨S240x1024, .f32⟩
  | .local _ .vmem, ⟨3, _⟩ => ⟨S240x1024, .f32⟩
  | .local _ .vmem, ⟨4, _⟩ => ⟨S240x1024, .f32⟩
  | .local _ .vmem, ⟨5, _⟩ => ⟨S240x1024, .f32⟩
  | .local _ .vmem, ⟨6, _⟩ => ⟨S240x1024, .f32⟩
  | .local _ .vmem, ⟨7, _⟩ => ⟨S240x1024, .f32⟩
  | .local _ .vmem, ⟨8, _⟩ => ⟨S240x1024, .f32⟩
  | .local _ .vmem, ⟨9, _⟩ => ⟨S240x1024, .f32⟩
  | .local _ .vmem, ⟨10, _⟩ => ⟨S240x1024, .f32⟩
  | .local _ .vmem, ⟨11, _⟩ => ⟨S240x1024, .f32⟩
  | .local _ .vmem, ⟨12, _⟩ => ⟨S240x1024, .f32⟩
  | .local _ .vmem, ⟨13, _⟩ => ⟨S240x1024, .f32⟩
  | .local _ .vmem, ⟨14, _⟩ => ⟨S240x1024, .f32⟩
  | .local _ .vmem, ⟨15, _⟩ => ⟨S240x1024, .f32⟩
  | _, _ => ⟨S1x720x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x240x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S240x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S240x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S240x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S240x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S240x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S240x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S240x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S1x720x1024 : Shape := ⟨3, ![1, 720, 1024]⟩
abbrev S720x1024 : Shape := ⟨2, ![720, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x720x1024, .f32⟩
  | .hbm, ⟨1, _⟩ => ⟨S720x1024, .f32⟩
  | .hbm, ⟨2, _⟩ => ⟨S720x1024, .f32⟩
  | .hbm, ⟨3, _⟩ => ⟨S720x1024, .f32⟩
  | .hbm, ⟨4, _⟩ => ⟨S_, .f32⟩
  | .hbm, ⟨5, _⟩ => ⟨S720x1024, .f32⟩
  | .hbm, ⟨6, _⟩ => ⟨S_, .f32⟩
  | .hbm, ⟨7, _⟩ => ⟨S720x1024, .f32⟩
  | .hbm, ⟨8, _⟩ => ⟨S720x1024, .f32⟩
  | .hbm, ⟨9, _⟩ => ⟨S_, .f32⟩
  | .hbm, ⟨10, _⟩ => ⟨S720x1024, .f32⟩
  | .hbm, ⟨11, _⟩ => ⟨S720x1024, .f32⟩
  | .hbm, ⟨12, _⟩ => ⟨S720x1024, .f32⟩
  | .hbm, ⟨13, _⟩ => ⟨S_, .f32⟩
  | .hbm, ⟨14, _⟩ => ⟨S720x1024, .f32⟩
  | .hbm, ⟨15, _⟩ => ⟨S720x1024, .f32⟩
  | .hbm, ⟨16, _⟩ => ⟨S720x1024, .f32⟩
  | .hbm, ⟨17, _⟩ => ⟨S_, .f32⟩
  | .hbm, ⟨18, _⟩ => ⟨S720x1024, .f32⟩
  | .hbm, ⟨19, _⟩ => ⟨S720x1024, .f32⟩
  | .hbm, ⟨20, _⟩ => ⟨S720x1024, .f32⟩
  | .hbm, ⟨21, _⟩ => ⟨S_, .f32⟩
  | .hbm, ⟨22, _⟩ => ⟨S720x1024, .f32⟩
  | .hbm, ⟨23, _⟩ => ⟨S720x1024, .f32⟩
  | .hbm, ⟨24, _⟩ => ⟨S_, .f32⟩
  | .hbm, ⟨25, _⟩ => ⟨S720x1024, .f32⟩
  | .hbm, ⟨26, _⟩ => ⟨S720x1024, .f32⟩
  | .hbm, ⟨27, _⟩ => ⟨S720x1024, .f32⟩
  | .hbm, ⟨28, _⟩ => ⟨S_, .f32⟩
  | .hbm, ⟨29, _⟩ => ⟨S720x1024, .f32⟩
  | .hbm, ⟨30, _⟩ => ⟨S720x1024, .f32⟩
  | .hbm, ⟨31, _⟩ => ⟨S720x1024, .f32⟩
  | .hbm, ⟨32, _⟩ => ⟨S_, .f32⟩
  | .hbm, ⟨33, _⟩ => ⟨S720x1024, .f32⟩
  | .hbm, ⟨34, _⟩ => ⟨S720x1024, .f32⟩
  | .hbm, ⟨35, _⟩ => ⟨S720x1024, .f32⟩
  | .hbm, ⟨36, _⟩ => ⟨S_, .f32⟩
  | .hbm, ⟨37, _⟩ => ⟨S720x1024, .f32⟩
  | .hbm, ⟨38, _⟩ => ⟨S720x1024, .f32⟩
  | _, _ => ⟨S1x720x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.AttRaw.lean ====
module

public import proofs.«01_k».proof.Proof.Gen.AttGrad.Launch
public import proofs.«01_k».proof.Proof.Gen.AttGrad.Skeleton
public import proofs.«01_k».proof.Proof.Gen.AttGrad.Frame
public import proofs.«01_k».proof.Proof.Gen.AttGrad.Points
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.Claim
public import Idealize.ShloMosaic.Lib.WordCmp

/-! # The launch of the attention backward kernel as it is compiled

Of the kernel in the machine's own arithmetic only the frame is stated: it ends, its arguments are left as
they were and no counter is left standing.  So its outputs and its scratch are held at whatever is in them. -/

@[expose] public section

set_option maxRecDepth 16384

noncomputable section

namespace Cert.AttGrad.Hand

open Cert.AttGrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem condsQ (i : grid0.Coords) :
    (k0_cond1 i = 1#1 ∧ ¬ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ k0_cond2 i = 1#1 ∧ k0_cond3 i = 1#1) := by
  unfold k0_cond1 k0_cond2 k0_cond3
  generalize i 2 = n
  revert n
  decide +kernel

theorem condsK (i : grid0.Coords) :
    (k0_cond4 i = 1#1 ∧ ¬ k0_cond5 i = 1#1 ∧ ¬ k0_cond6 i = 1#1) ∨ (¬ k0_cond4 i = 1#1 ∧ k0_cond5 i = 1#1 ∧ ¬ k0_cond6 i = 1#1)
      ∨ (¬ k0_cond4 i = 1#1 ∧ k0_cond5 i = 1#1 ∧ k0_cond6 i = 1#1) := by
  unfold k0_cond4 k0_cond5 k0_cond6
  generalize i 1 = n
  revert n
  decide +kernel

set_option maxHeartbeats 40000000 in
theorem run_point (c : Dev nD) (i : grid0.Coords)
    (arg3 : Memref sig .tc .vmem S256x384 .bf16) (harg3 : arg3.IsWhole) (arg4 : Memref sig .tc .vmem S768x128 .bf16) (harg4 : arg4.IsWhole)
    (arg5 : Memref sig .tc .vmem S768x256 .bf16) (harg5 : arg5.IsWhole) (arg6 : Memref sig .tc .vmem S256x128 .f32) (harg6 : arg6.IsWhole)
    (arg7 : Memref sig .tc .vmem S256x128 .f32) (harg7 : arg7.IsWhole) (arg8 : Memref sig .tc .vmem S256x128 .f32) (harg8 : arg8.IsWhole)
    (arg9 : Memref sig .tc .vmem S3x256x128 .f32) (harg9 : arg9.IsWhole) (arg10 : Memref sig .tc .vmem S3x256x128 .f32) (harg10 : arg10.IsWhole)
    (arg11 : Memref sig .tc .vmem S256x384 .f32) (harg11 : arg11.IsWhole) (arg12 : Memref sig .tc .vmem S768x128 .f32) (harg12 : arg12.IsWhole)
    (arg13 : Memref sig .tc .vmem S768x128 .f32) (harg13 : arg13.IsWhole) (arg14 : Memref sig .tc .vmem S33x768x128 .f32) (harg14 : arg14.IsWhole)
    (x3 : Vec F S256x384 .bf16) (x4 : Vec F S768x128 .bf16) (x5 : Vec F S768x256 .bf16) (x6 x7 x8 : Vec F S256x128 .f32)
    (x9 x10 : Vec F S3x256x128 .f32) (E : Set ℕ) (K : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ owns (c : Thread nD τ) arg10 fullShare x10
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)) -∗ K ⟨⟩))
      ⊢ wp frame (wpE (defs₀ (F := F)) Variants.none c none) E
        (cc0_att_bwd i arg3 harg3 arg4 harg4 arg5 harg5 arg6 harg6 arg7 harg7 arg8 harg8 arg9 harg9 arg10 harg10 arg11 harg11 arg12 harg12 arg13 harg13 arg14 harg14) K := by
  simp only [cc0_att_bwd_eq_skeleton]; unfold cc0_att_bwd_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, Hk⟩
  set_option sl_exec.stopBefore "k0_part2" in sl_exec
  simp only [k0_part2_eq_skeleton]
  rcases condsQ i with ⟨h1, h2, h3⟩ | ⟨h1, h2, h3⟩ | ⟨h1, h2, h3⟩ <;> rcases condsK i with ⟨h4, h5, h6⟩ | ⟨h4, h5, h6⟩ | ⟨h4, h5, h6⟩ <;>
  ( sl_exec (disch := first | sl_exact h1 | sl_exact h2 | sl_exact h3 | sl_exact h4 | sl_exact h5 | sl_exact h6)
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]; · iexists _; isplitr; · ipureintro; exact hf10
                     iexact H10
    isplitl [H11]; · iexists _; iexists _; isplitr; swap; · iexact H11
                     ipureintro; rfl
    isplitl [H12]; · iexists _; iexists _; isplitr; swap; · iexact H12
                     ipureintro; rfl
    isplitl [H13]; · iexists _; iexists _; isplitr; swap; · iexact H13
                     ipureintro; rfl
    iexists _; iexists _; isplitr; swap; · iexact H14
    ipureintro; rfl )

variable (m : (ℓ : Loc nD τ sig) → Buf (Elt F) ℓ) (ρ : Dev nD → PrngReg)

abbrev scM0_0 : Memref sig .tc .vmem S33x768x128 .f32 := Memref.whole cc0_scratch0

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The outputs, of which nothing is kept. -/
def forgets0 : Fin cfg0.W → Bool := fun w => decide (8 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl]
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl]
  rw [after0_0, after0_1, after0_2, after0_3, after0_4, after0_5, after0_6, after0_7, PhiA0_eq]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (run_point c (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨((h.1 c).2 main_arg0 (Pipeline.mem_restRefs_of main_arg0 (by decide) (by decide))).trans (V_main_arg0 m c),
        (Pipeline.RDat.FramePost.arr_in h.1 c 1 rfl).trans ((A_eq m c 1).trans (V_main_arg1 m c)),
        ((h.1 c).2 main_arg2 (Pipeline.mem_restRefs_of main_arg2 (by decide) (by decide))).trans (V_main_arg2 m c),
        (Pipeline.RDat.FramePost.arr_in h.1 c 5 rfl).trans ((A_eq m c 5).trans (V_main_arg3 m c))⟩, h.2⟩) (run_main_quiescent m ρ)

end Cert.AttGrad.Hand
end
-- ==== Proof.AttRun.lean ====
module

public import proofs.«01_k».proof.Proof.Gen.AttGradIdeal.Launch
public import proofs.«01_k».proof.Proof.Gen.AttGradIdeal.Skeleton
public import proofs.«01_k».proof.Proof.Gen.AttGradIdeal.Frame
public import Idealize.ShloMosaic.Lib.Pipeline.FrameBody
public import Idealize.ShloMosaic.Lib.VecWindow
public import Idealize.ShloMosaic.Lib.WholeRead
public import Idealize.ShloMosaic.Lib.ValueIdxCore
public import Idealize.ShloMosaic.Lib.Ring
public import Idealize.ShloMosaic.Lib.Tactic
public import Idealize.ShloMosaic.Lib.WordCmp

/-! # One grid point of the attention backward kernel

What the body leaves in its three outputs and in the scratch that carries the gradient of `q`, as
functions of the eight blocks it reads. -/

@[expose] public section

set_option maxRecDepth 16384

noncomputable section

namespace Cert.AttGradIdeal.Hand

open Cert.AttGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.View (ld)
open Idealize.ShloMosaic.ValueIdx (ix2 ix3)

variable {F : FTy → Type} [FloatOps F] [Named F]

/-- The eight blocks a point reads: queries of a group's three heads side by side, keys, values beside
ones, the cotangent's three heads, and the two row statistics. -/
structure Blocks (F : FTy → Type) where
  q : Vec F S256x384 .bf16
  k : Vec F S768x128 .bf16
  v : Vec F S768x256 .bf16
  g0 : Vec F S256x128 .f32
  g1 : Vec F S256x128 .f32
  g2 : Vec F S256x128 .f32
  lse : Vec F S3x256x128 .f32
  del : Vec F S3x256x128 .f32

/-- The part of a block a load of unit steps reads. -/
abbrev piece {s : Shape} {e : EltTy} (x : Vec F s e) (off size : Fin s.rank → ℕ)
    (h : ∀ a, off a + size a ≤ s.size a) : Vec F (Rect.unit (s := s) off size h).shape e :=
  ld x (Rect.unit (s := s) off size h)

def rowsQ (B : Blocks F) : FVec F S768x128 .bf16 :=
  k0_pay5 (piece B.q ![0, 0] S256x128.size inb_S256x384_S256x128_0_0)
    (piece B.q ![0, 128] S256x128.size inb_S256x384_S256x128_0_128)
    (piece B.q ![0, 256] S256x128.size inb_S256x384_S256x128_0_256)

def rowsG (B : Blocks F) : FVec F S768x128 .f32 :=
  k0_pay6 (piece B.g0 ![0, 0] S256x128.size inb_S256x128_S256x128_0_0)
    (piece B.g1 ![0, 0] S256x128.size inb_S256x128_S256x128_0_0)
    (piece B.g2 ![0, 0] S256x128.size inb_S256x128_S256x128_0_0)

def rowsL (B : Blocks F) : FVec F S768x128 .f32 :=
  k0_pay7 (piece B.lse ![0, 0, 0] S1x256x128.size inb_S3x256x128_S1x256x128_0_0_0)
    (piece B.lse ![1, 0, 0] S1x256x128.size inb_S3x256x128_S1x256x128_1_0_0)
    (piece B.lse ![2, 0, 0] S1x256x128.size inb_S3x256x128_S1x256x128_2_0_0)

def rowsD (B : Blocks F) : FVec F S768x128 .f32 :=
  k0_pay8 (piece B.del ![0, 0, 0] S1x256x128.size inb_S3x256x128_S1x256x128_0_0_0)
    (piece B.del ![1, 0, 0] S1x256x128.size inb_S3x256x128_S1x256x128_1_0_0)
    (piece B.del ![2, 0, 0] S1x256x128.size inb_S3x256x128_S1x256x128_2_0_0)

def keys (B : Blocks F) : Vec F S768x128 .bf16 := piece B.k ![0, 0] S768x128.size inb_S768x128_S768x128_0_0
def vals (B : Blocks F) : Vec F S768x128 .bf16 := piece B.v ![0, 0] S768x128.size inb_S768x256_S768x128_0_0

/-- The gradient of the keys after a point, `y` being there before. -/
def dkStep (i : grid0.Coords) (B : Blocks F) (y : Vec F S768x128 .f32) : Vec F S768x128 .f32 :=
  let z := if k0_cond1 i = 1#1 then k0_pay12 (rowsQ B) (rowsG B) (rowsL B) (rowsD B) (keys B) (vals B)
    else k0_pay14 (rowsQ B) (rowsG B) (rowsL B) (rowsD B) (keys B) (vals B) y
  if k0_cond3 i = 1#1 then k0_pay16 z else z

/-- The gradient of the values after a point, `y` being there before. -/
def dvStep (i : grid0.Coords) (B : Blocks F) (y : Vec F S768x128 .f32) : Vec F S768x128 .f32 :=
  if k0_cond1 i = 1#1 then k0_pay11 (rowsQ B) (rowsG B) (rowsL B) (keys B)
  else k0_pay15 (rowsQ B) (rowsG B) (rowsL B) (keys B) y

/-- One block of the scratch. -/
def sliceOf (X : Vec F S33x768x128 .f32) (n : Fin 33) : Vec F S1x768x128 .f32 :=
  fun y => X (ix3 n (y 1) (y 2))

/-- The block of the scratch a point leaves, `w` being there before. -/
def dqStep (i : grid0.Coords) (B : Blocks F) (w : Vec F S1x768x128 .f32) : Vec F S1x768x128 .f32 :=
  if k0_cond4 i = 1#1 then k0_pay17 (rowsQ B) (rowsG B) (rowsL B) (rowsD B) (keys B) (vals B)
  else k0_pay18 (rowsQ B) (rowsG B) (rowsL B) (rowsD B) (keys B) (vals B) w

def putSlice (X : Vec F S33x768x128 .f32) (n : Fin 33) (w : Vec F S1x768x128 .f32) : Vec F S33x768x128 .f32 :=
  fun y => if (y 0).val = n.val then w (ix3 0 (y 1) (y 2)) else X y

/-- What leaves for the gradient of `q` from a finished block of the scratch. -/
def dqOut (w : Vec F S1x768x128 .f32) : Vec F S256x384 .f32 := fun y =>
  if h0 : (y 1).val < 128 then k0_pay2 w (ix2 (y 0) ⟨(y 1).val, h0⟩)
  else if h1 : (y 1).val < 256 then k0_pay3 w (ix2 (y 0) ⟨(y 1).val - 128, by omega⟩)
  else k0_pay4 w (ix2 (y 0) ⟨(y 1).val - 256, by have : (y 1).val < 384 := (y 1).isLt; omega⟩)

/-- The conditions on the query block, in the three ways they can stand. -/
theorem condsQ (i : grid0.Coords) :
    (k0_cond1 i = 1#1 ∧ ¬ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ k0_cond2 i = 1#1 ∧ k0_cond3 i = 1#1) := by
  unfold k0_cond1 k0_cond2 k0_cond3
  generalize i 2 = n
  revert n
  decide +kernel

/-- The conditions on the key block, in the three ways they can stand. -/
theorem condsK (i : grid0.Coords) :
    (k0_cond4 i = 1#1 ∧ ¬ k0_cond5 i = 1#1 ∧ ¬ k0_cond6 i = 1#1) ∨ (¬ k0_cond4 i = 1#1 ∧ k0_cond5 i = 1#1 ∧ ¬ k0_cond6 i = 1#1)
      ∨ (¬ k0_cond4 i = 1#1 ∧ k0_cond5 i = 1#1 ∧ k0_cond6 i = 1#1) := by
  unfold k0_cond4 k0_cond5 k0_cond6
  generalize i 1 = n
  revert n
  decide +kernel

theorem off_eq (i : grid0.Coords) : k0_off2 i = ![(i 2).val, 0, 0] := by
  unfold k0_off2
  generalize i 2 = n
  revert n
  decide +kernel

section Reads

variable {sp : Space} {s : Shape} {e : EltTy} {m : Memref sig .tc sp s e}

/-- A load through a whole memref at contents that read `X` reads a piece of `X`. -/
theorem readAt_piece (h : m.IsWhole) (X : Vec F s e) {off size : Fin s.rank → ℕ} (inb : ∀ a, off a + size a ≤ s.size a) :
    View.readAt (Elt F) m.view (Rect.unit off size inb).toLoadRect (h.unread X) = piece X off size inb :=
  funext fun x => h.readAt_unread X _ x

end Reads

/-- The block of the scratch a point loads. -/
theorem piece_slice (X : Vec F S33x768x128 .f32) (i : grid0.Coords) (inb) :
    piece X (k0_off2 i) S1x768x128.size inb = sliceOf X (i 2) := by
  funext y
  refine congrArg X (funext fun a => Fin.ext ?_)
  have e : ∀ a, k0_off2 i a = (![(i 2).val, 0, 0] : Fin 3 → ℕ) a := fun a => congrFun (off_eq i) a
  have y0 : (y 0).val = 0 := by have : (y 0).val < 1 := (y 0).isLt; omega
  show k0_off2 i a + 1 * (y a).val = _
  rw [e a]
  match a with
  | ⟨0, _⟩ => show (i 2).val + 1 * (y 0).val = (i 2).val; omega
  | ⟨1, _⟩ => show 0 + 1 * (y 1).val = (y 1).val; omega
  | ⟨2, _⟩ => show 0 + 1 * (y 2).val = (y 2).val; omega

/-- The scratch after a point's store. -/
theorem read_slice {m : Memref sig .tc .vmem S33x768x128 .f32} (h : m.IsWhole) (X : Vec F S33x768x128 .f32) (i : grid0.Coords) (inb)
    (w : Vec F S1x768x128 .f32) :
    View.read (Elt F) m.view (m.view.writes (Elt F) (h.unread X) [⟨Rect.unit (s := S33x768x128) (k0_off2 i) S1x768x128.size inb, w⟩])
      = putSlice X (i 2) w := by
  funext y
  unfold putSlice
  split_ifs with hy
  · refine View.read_writes_cons_unit_of_mem _ _ inb w [] y (ix3 0 (y 1) (y 2)) (off_eq i) fun a => ?_
    match a with
    | ⟨0, _⟩ => show (y 0).val = (i 2).val + 0; omega
    | ⟨1, _⟩ => show (y 1).val = 0 + (y 1).val; omega
    | ⟨2, _⟩ => show (y 2).val = 0 + (y 2).val; omega
  · rw [View.read_writes_cons_unit_of_not_mem _ _ inb w [] y (off_eq i) 0 (by
      show (y 0).val < (i 2).val ∨ (i 2).val + 1 ≤ (y 0).val
      omega)]
    rw [View.writes_nil, h.read_unread]

/-- A load of the block just stored reads what was stored. -/
theorem readCov_slice (m : Memref sig .tc .vmem S33x768x128 .f32) (i : grid0.Coords) (inb inb') (w : Vec F S1x768x128 .f32) :
    m.view.readCov (Val := Elt F) [⟨Rect.unit (s := S33x768x128) (k0_off2 i) S1x768x128.size inb, w⟩]
      (Rect.unit (s := S33x768x128) (k0_off3 i) S1x768x128.size inb').toLoadRect = w := by
  funext y
  exact View.read_writes_cons_unit_of_mem _ _ inb w [] _ y (rfl : k0_off2 i = k0_off3 i) fun a => by
    exact congrArg (k0_off3 i a + ·) (Nat.one_mul (y a).val)

theorem piece_whole (y : Vec F S768x128 .f32) : piece y ![0, 0] S768x128.size inb_S768x128_S768x128_0_0 = y :=
  View.ld_unit_zero (funext fun a => by fin_cases a <;> rfl) _ _

/-- What the three stores of a finished block leave. -/
theorem read_out {m : Memref sig .tc .vmem S256x384 .f32} (f : m.view.ty.Contents (Elt F)) (w : Vec F S1x768x128 .f32) :
    View.read (Elt F) m.view (m.view.writes (Elt F) f
      [⟨Rect.unit (s := S256x384) ![0, 256] S256x128.size inb_S256x384_S256x128_0_256, k0_pay4 w⟩,
       ⟨Rect.unit (s := S256x384) ![0, 128] S256x128.size inb_S256x384_S256x128_0_128, k0_pay3 w⟩,
       ⟨Rect.unit (s := S256x384) ![0, 0] S256x128.size inb_S256x384_S256x128_0_0, k0_pay2 w⟩]) = dqOut w := by
  funext y
  have hy : (y 1).val < 384 := (y 1).isLt
  unfold dqOut
  split_ifs with h0 h1
  · rw [View.read_writes_cons_unit_of_not_mem _ _ _ _ _ y rfl 1 (Or.inl (show (y 1).val < 256 by omega)),
      View.read_writes_cons_unit_of_not_mem _ _ _ _ _ y rfl 1 (Or.inl (show (y 1).val < 128 by omega))]
    refine View.read_writes_cons_unit_of_mem _ _ _ _ _ y (ix2 (y 0) ⟨(y 1).val, h0⟩) rfl fun a => ?_
    match a with
    | ⟨0, _⟩ => show (y 0).val = 0 + (y 0).val; omega
    | ⟨1, _⟩ => show (y 1).val = 0 + (y 1).val; omega
  · rw [View.read_writes_cons_unit_of_not_mem _ _ _ _ _ y rfl 1 (Or.inl (show (y 1).val < 256 by omega))]
    refine View.read_writes_cons_unit_of_mem _ _ _ _ _ y (ix2 (y 0) ⟨(y 1).val - 128, by omega⟩) rfl fun a => ?_
    match a with
    | ⟨0, _⟩ => show (y 0).val = 0 + (y 0).val; omega
    | ⟨1, _⟩ => show (y 1).val = 128 + ((y 1).val - 128); omega
  · refine View.read_writes_cons_unit_of_mem _ _ _ _ _ y (ix2 (y 0) ⟨(y 1).val - 256, by omega⟩) rfl fun a => ?_
    match a with
    | ⟨0, _⟩ => show (y 0).val = 0 + (y 0).val; omega
    | ⟨1, _⟩ => show (y 1).val = 256 + ((y 1).val - 256); omega

set_option maxHeartbeats 40000000 in
theorem run_point (c : Dev nD) (i : grid0.Coords)
    (arg3 : Memref sig .tc .vmem S256x384 .bf16) (harg3 : arg3.IsWhole) (arg4 : Memref sig .tc .vmem S768x128 .bf16) (harg4 : arg4.IsWhole)
    (arg5 : Memref sig .tc .vmem S768x256 .bf16) (harg5 : arg5.IsWhole) (arg6 : Memref sig .tc .vmem S256x128 .f32) (harg6 : arg6.IsWhole)
    (arg7 : Memref sig .tc .vmem S256x128 .f32) (harg7 : arg7.IsWhole) (arg8 : Memref sig .tc .vmem S256x128 .f32) (harg8 : arg8.IsWhole)
    (arg9 : Memref sig .tc .vmem S3x256x128 .f32) (harg9 : arg9.IsWhole) (arg10 : Memref sig .tc .vmem S3x256x128 .f32) (harg10 : arg10.IsWhole)
    (arg11 : Memref sig .tc .vmem S256x384 .f32) (harg11 : arg11.IsWhole) (arg12 : Memref sig .tc .vmem S768x128 .f32) (harg12 : arg12.IsWhole)
    (arg13 : Memref sig .tc .vmem S768x128 .f32) (harg13 : arg13.IsWhole) (arg14 : Memref sig .tc .vmem S33x768x128 .f32) (harg14 : arg14.IsWhole)
    (B : Blocks F) (y11 : Vec F S256x384 .f32) (y12 y13 : Vec F S768x128 .f32) (X : Vec F S33x768x128 .f32) (E : Set ℕ) (K : PUnit → sProp (MT nD τ sig Unit (Elt F) ℕ (UR sig nD τ) ℕ)) :
    iprop(owns (c : Thread nD τ) arg3 fullShare B.q ∗ owns (c : Thread nD τ) arg4 fullShare B.k ∗ owns (c : Thread nD τ) arg5 fullShare B.v
        ∗ owns (c : Thread nD τ) arg6 fullShare B.g0 ∗ owns (c : Thread nD τ) arg7 fullShare B.g1 ∗ owns (c : Thread nD τ) arg8 fullShare B.g2
        ∗ owns (c : Thread nD τ) arg9 fullShare B.lse ∗ owns (c : Thread nD τ) arg10 fullShare B.del
        ∗ owns (c : Thread nD τ) arg11 fullShare y11
        ∗ owns (c : Thread nD τ) arg12 fullShare y12 ∗ owns (c : Thread nD τ) arg13 fullShare y13 ∗ owns (c : Thread nD τ) arg14 fullShare X
        ∗ (iprop(owns (c : Thread nD τ) arg3 fullShare B.q ∗ owns (c : Thread nD τ) arg4 fullShare B.k ∗ owns (c : Thread nD τ) arg5 fullShare B.v
            ∗ owns (c : Thread nD τ) arg6 fullShare B.g0 ∗ owns (c : Thread nD τ) arg7 fullShare B.g1 ∗ owns (c : Thread nD τ) arg8 fullShare B.g2
            ∗ owns (c : Thread nD τ) arg9 fullShare B.lse ∗ owns (c : Thread nD τ) arg10 fullShare B.del
            ∗ owns (c : Thread nD τ) arg11 fullShare (if k0_cond6 i = 1#1 then dqOut (dqStep i B (sliceOf X (i 2))) else y11)
            ∗ owns (c : Thread nD τ) arg12 fullShare (dkStep i B y12) ∗ owns (c : Thread nD τ) arg13 fullShare (dvStep i B y13)
            ∗ owns (c : Thread nD τ) arg14 fullShare (putSlice X (i 2) (dqStep i B (sliceOf X (i 2))))) -∗ K ⟨⟩))
      ⊢ wp frame (wpE (defs₀ (F := F)) Variants.none c none) E
        (cc0_att_bwd i arg3 harg3 arg4 harg4 arg5 harg5 arg6 harg6 arg7 harg7 arg8 harg8 arg9 harg9 arg10 harg10 arg11 harg11 arg12 harg12 arg13 harg13 arg14 harg14) K := by
  simp only [cc0_att_bwd_eq_skeleton]; unfold cc0_att_bwd_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  obtain rfl := harg11.eq_unread hf11
  obtain rfl := harg12.eq_unread hf12; obtain rfl := harg13.eq_unread hf13; obtain rfl := harg14.eq_unread hf14
  set_option sl_exec.stopBefore "k0_part2" in sl_exec
  rw [show run_point.sl.r c arg3 harg3 B = rowsQ B by
      unfold run_point.sl.r rowsQ; simp only [readAt_piece],
    show run_point.sl.r_1 c arg6 harg6 arg7 harg7 arg8 harg8 B = rowsG B by
      unfold run_point.sl.r_1 rowsG; simp only [readAt_piece],
    show run_point.sl.r_2 c arg9 harg9 B = rowsL B by
      unfold run_point.sl.r_2 rowsL; simp only [readAt_piece],
    show run_point.sl.r_3 c arg10 harg10 B = rowsD B by
      unfold run_point.sl.r_3 rowsD; simp only [readAt_piece]]
  simp only [k0_part2_eq_skeleton]
  rcases condsQ i with ⟨h1, h2, h3⟩ | ⟨h1, h2, h3⟩ | ⟨h1, h2, h3⟩ <;> rcases condsK i with ⟨h4, h5, h6⟩ | ⟨h4, h5, h6⟩ | ⟨h4, h5, h6⟩ <;>
  ( sl_exec (disch := first | sl_exact h1 | sl_exact h2 | sl_exact h3 | sl_exact h4 | sl_exact h5 | sl_exact h6)
    sl_step
    iapply Hk
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexists _; isplitr; · ipureintro; exact harg8.read_unread _
                    iexact H8
    isplitl [H9]; · iexists _; isplitr; · ipureintro; exact harg9.read_unread _
                    iexact H9
    isplitl [H10]; · iexists _; isplitr; · ipureintro; exact harg10.read_unread _
                     iexact H10
    isplitl [H11]
    · iexists _; isplitr; swap; · iexact H11
      ipureintro
      first
        | (rw [if_neg h6]; exact harg11.read_unread _)
        | (rw [if_pos h6]
           refine (read_out _ _).trans (congrArg dqOut ?_)
           refine (readCov_slice arg14 i _ _ _).trans ?_
           unfold dqStep
           rw [if_neg h4]
           simp only [readAt_piece]
           exact congrArg (k0_pay18 (rowsQ B) (rowsG B) (rowsL B) (rowsD B) (keys B) (vals B)) (piece_slice X i _))
    isplitl [H12]
    · iexists _; isplitr; swap; · iexact H12
      ipureintro
      refine (View.read_writes_full _ _ _ _ _).trans ?_
      unfold dkStep
      first
        | (rw [if_neg h3]; try dsimp only
           first | rw [if_pos h1] | rw [if_neg h1]
           simp only [readAt_piece]; try rw [piece_whole y12]
           rfl)
        | (rw [if_pos h3]; try dsimp only
           rw [if_neg h1]
           refine congrArg k0_pay16 ?_
           refine (View.readCov_full _ _ _ _ _).trans ?_
           simp only [readAt_piece]; try rw [piece_whole y12]
           rfl)
    isplitl [H13]
    · iexists _; isplitr; swap; · iexact H13
      ipureintro
      refine (View.read_writes_full _ _ _ _ _).trans ?_
      unfold dvStep
      first | rw [if_pos h1] | rw [if_neg h1]
      simp only [readAt_piece]; try rw [piece_whole y13]
      rfl
    iexists _; isplitr; swap; · iexact H14
    ipureintro
    refine (read_slice harg14 X i _ _).trans (congrArg (putSlice X (i 2)) ?_)
    unfold dqStep
    first
      | (rw [if_pos h4]; simp only [readAt_piece]; rfl)
      | (rw [if_neg h4]; simp only [readAt_piece]
         exact congrArg (k0_pay18 (rowsQ B) (rowsG B) (rowsL B) (rowsD B) (keys B) (vals B)) (piece_slice X i _)) )

end Cert.AttGradIdeal.Hand
end
-- ==== Proof.AttFrame.lean ====
module

public import proofs.«01_k».proof.Proof.AttRun
public import proofs.«01_k».proof.Proof.Gen.AttGradIdeal.Points
public import Idealize.ShloMosaic.Lib.Claim

/-! # The launch of the attention backward kernel over the idealised operations

The grid runs over the four groups, the eleven key blocks and the thirty-three query blocks, in that
order, the last fastest.  The gradients of the keys and values of a block gather over the query blocks
in their own output buffers; the gradient of a query block gathers over the key blocks in a slice of
the scratch and leaves at the last key block. -/

@[expose] public section

set_option maxRecDepth 16384

noncomputable section

namespace Cert.AttGradIdeal.Hand

open Cert.AttGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F] [Named F]

/-! ## Where a point is -/

theorem lt_N (t : Fin cfg0.N) : t.val < 1452 := lt_of_lt_of_eq t.isLt (show cfg0.N = 1452 from N_0)

theorem coord0 (t : Fin cfg0.N) : (grid0.coords t 0).val = t.val / 363 % 4 := Pipeline.Grid.coords_val t 0 (by decide) rfl
theorem coord1 (t : Fin cfg0.N) : (grid0.coords t 1).val = t.val / 33 % 11 := Pipeline.Grid.coords_val t 1 (by decide) rfl
theorem coord2 (t : Fin cfg0.N) : (grid0.coords t 2).val = t.val % 33 := by
  have h : (grid0.coords t 2).val = t.val / 1 % 33 := Pipeline.Grid.coords_val t 2 (by decide) rfl
  rwa [Nat.div_one] at h

theorem cond1_iff (i : grid0.Coords) : k0_cond1 i = 1#1 ↔ (i 2).val = 0 := by
  unfold k0_cond1; generalize i 2 = n; revert n; decide +kernel
theorem cond3_iff (i : grid0.Coords) : k0_cond3 i = 1#1 ↔ (i 2).val = 32 := by
  unfold k0_cond3; generalize i 2 = n; revert n; decide +kernel
theorem cond4_iff (i : grid0.Coords) : k0_cond4 i = 1#1 ↔ (i 1).val = 0 := by
  unfold k0_cond4; generalize i 1 = n; revert n; decide +kernel
theorem cond6_iff (i : grid0.Coords) : k0_cond6 i = 1#1 ↔ (i 1).val = 10 := by
  unfold k0_cond6; generalize i 1 = n; revert n; decide +kernel

/-- The gradient of `q` is written back at the points of the last key block. -/
theorem flush8 : ∀ t : Fin cfg0.N, (cfg0.win 8).flush t = true ↔ t.val / 33 % 11 = 10 :=
  (by decide +kernel : ∀ t : Fin grid0.N, win0_8.flush t = true ↔ t.val / 33 % 11 = 10)

theorem idle8 (i : grid0.Coords) : cfg0.idle 8 i = !(k0_cond6 i == 1#1) := rfl

theorem idle9 (i : grid0.Coords) : cfg0.idle 9 i = false := by
  show (!(k0_cond1 i == 1#1) && !(k0_cond2 i == 1#1) && !(k0_cond3 i == 1#1)) = false
  rcases condsQ i with ⟨h, -, -⟩ | ⟨-, h, -⟩ | ⟨-, h, -⟩ <;> rw [h] <;> simp

theorem idle10 (i : grid0.Coords) : cfg0.idle 10 i = false := by
  show (!(k0_cond1 i == 1#1) && !(k0_cond2 i == 1#1)) = false
  rcases condsQ i with ⟨h, -, -⟩ | ⟨-, h, -⟩ | ⟨-, h, -⟩ <;> rw [h] <;> simp

variable (m : (ℓ : Loc nD τ sig) → Buf (Elt F) ℓ) (ρ : Dev nD → PrngReg)

/-! ## What the outputs and the scratch hold after each point -/

/-- The blocks a point reads. -/
def blocksAt (c : Dev nD) (t : Fin cfg0.N) : Blocks F where
  q := iblk m c 0 t
  k := iblk m c 1 t
  v := iblk m c 2 t
  g0 := iblk m c 3 t
  g1 := iblk m c 4 t
  g2 := iblk m c 5 t
  lse := iblk m c 6 t
  del := iblk m c 7 t

def dkAt (c : Dev nD) : (n : ℕ) → n < cfg0.N → Vec F S768x128 .f32
  | 0, h => dkStep (grid0.coords ⟨0, h⟩) (blocksAt m c ⟨0, h⟩) (rowsG (blocksAt m c ⟨0, h⟩))
  | n + 1, h => dkStep (grid0.coords ⟨n + 1, h⟩) (blocksAt m c ⟨n + 1, h⟩) (dkAt c n (Nat.lt_of_succ_lt h))

def dvAt (c : Dev nD) : (n : ℕ) → n < cfg0.N → Vec F S768x128 .f32
  | 0, h => dvStep (grid0.coords ⟨0, h⟩) (blocksAt m c ⟨0, h⟩) (rowsG (blocksAt m c ⟨0, h⟩))
  | n + 1, h => dvStep (grid0.coords ⟨n + 1, h⟩) (blocksAt m c ⟨n + 1, h⟩) (dvAt c n (Nat.lt_of_succ_lt h))

/-- The slice of the scratch a point leaves: the one before it is of the key block before. -/
def dqAt (c : Dev nD) (n : ℕ) (h : n < cfg0.N) : Vec F S1x768x128 .f32 :=
  dqStep (grid0.coords ⟨n, h⟩) (blocksAt m c ⟨n, h⟩)
    (if hn : 33 ≤ n then dqAt c (n - 33) (Nat.lt_of_le_of_lt (Nat.sub_le _ _) h) else fun y => rowsG (blocksAt m c ⟨n, h⟩) (ix2 (y 1) (y 2)))
termination_by n

theorem dkStep_first (i : grid0.Coords) (h : (i 2).val = 0) (B : Blocks F) (y y' : Vec F S768x128 .f32) : dkStep i B y = dkStep i B y' := by
  unfold dkStep; rw [if_pos ((cond1_iff i).mpr h), if_pos ((cond1_iff i).mpr h)]

theorem dvStep_first (i : grid0.Coords) (h : (i 2).val = 0) (B : Blocks F) (y y' : Vec F S768x128 .f32) : dvStep i B y = dvStep i B y' := by
  unfold dvStep; rw [if_pos ((cond1_iff i).mpr h), if_pos ((cond1_iff i).mpr h)]

theorem dqStep_first (i : grid0.Coords) (h : (i 1).val = 0) (B : Blocks F) (w w' : Vec F S1x768x128 .f32) : dqStep i B w = dqStep i B w' := by
  unfold dqStep; rw [if_pos ((cond4_iff i).mpr h), if_pos ((cond4_iff i).mpr h)]

theorem dk_step (c : Dev nD) (t : Fin cfg0.N) (y : Vec F S768x128 .f32)
    (hy : (h : t.val % 33 ≠ 0) → y = dkAt m c (t.val - 1) (Nat.lt_of_le_of_lt (Nat.sub_le _ _) t.isLt)) :
    dkStep (grid0.coords t) (blocksAt m c t) y = dkAt m c t.val t.isLt := by
  obtain ⟨n, hn⟩ := t
  by_cases h0 : n % 33 = 0
  · cases n with
    | zero => exact dkStep_first _ (coord2 ⟨0, hn⟩) _ _ _
    | succ n => exact dkStep_first _ ((coord2 ⟨n + 1, hn⟩).trans h0) _ _ _
  · cases n with
    | zero => exact absurd rfl h0
    | succ n => exact congrArg (dkStep (grid0.coords ⟨n + 1, hn⟩) (blocksAt m c ⟨n + 1, hn⟩)) (hy h0)

theorem dv_step (c : Dev nD) (t : Fin cfg0.N) (y : Vec F S768x128 .f32)
    (hy : (h : t.val % 33 ≠ 0) → y = dvAt m c (t.val - 1) (Nat.lt_of_le_of_lt (Nat.sub_le _ _) t.isLt)) :
    dvStep (grid0.coords t) (blocksAt m c t) y = dvAt m c t.val t.isLt := by
  obtain ⟨n, hn⟩ := t
  by_cases h0 : n % 33 = 0
  · cases n with
    | zero => exact dvStep_first _ (coord2 ⟨0, hn⟩) _ _ _
    | succ n => exact dvStep_first _ ((coord2 ⟨n + 1, hn⟩).trans h0) _ _ _
  · cases n with
    | zero => exact absurd rfl h0
    | succ n => exact congrArg (dvStep (grid0.coords ⟨n + 1, hn⟩) (blocksAt m c ⟨n + 1, hn⟩)) (hy h0)

theorem dq_step (c : Dev nD) (t : Fin cfg0.N) (w : Vec F S1x768x128 .f32)
    (hw : (h : 33 ≤ t.val) → w = dqAt m c (t.val - 33) (Nat.lt_of_le_of_lt (Nat.sub_le _ _) t.isLt)) :
    dqStep (grid0.coords t) (blocksAt m c t) w = dqAt m c t.val t.isLt := by
  rw [dqAt]
  by_cases h : 33 ≤ t.val
  · rw [dif_pos h, hw h]
  · refine dqStep_first _ ((coord1 t).trans ?_) _ _ _
    rw [Nat.div_eq_of_lt (by omega)]

/-- After `n` points the scratch holds, for each query block, what the last point on it left. -/
def good (c : Dev nD) (n : ℕ) (X : Vec F S33x768x128 .f32) : Prop :=
  ∀ (u : ℕ) (hu : u < cfg0.N), u < n → n ≤ u + 33 → sliceOf X ⟨u % 33, Nat.mod_lt _ (by decide)⟩ = dqAt m c u hu

theorem slice_put_same (X : Vec F S33x768x128 .f32) (n : Fin 33) (w : Vec F S1x768x128 .f32) : sliceOf (putSlice X n w) n = w := by
  funext y
  unfold sliceOf putSlice
  refine (if_pos rfl).trans ?_
  refine congrArg w (funext fun a => Fin.ext ?_)
  have y0 : (y 0).val = 0 := by have : (y 0).val < 1 := (y 0).isLt; omega
  match a with
  | ⟨0, _⟩ => exact y0.symm
  | ⟨1, _⟩ => rfl
  | ⟨2, _⟩ => rfl

theorem slice_put_other (X : Vec F S33x768x128 .f32) (n n' : Fin 33) (h : n'.val ≠ n.val) (w : Vec F S1x768x128 .f32) :
    sliceOf (putSlice X n w) n' = sliceOf X n' := by
  funext y
  unfold sliceOf putSlice
  exact if_neg h

theorem good_slice (c : Dev nD) (t : Fin cfg0.N) (X : Vec F S33x768x128 .f32) (hX : good m c t.val X) (h : 33 ≤ t.val) :
    sliceOf X (grid0.coords t 2) = dqAt m c (t.val - 33) (Nat.lt_of_le_of_lt (Nat.sub_le _ _) t.isLt) := by
  rw [← hX (t.val - 33) _ (by omega) (by omega)]
  refine congrArg (sliceOf X) (Fin.ext ?_)
  rw [coord2]
  show t.val % 33 = (t.val - 33) % 33
  omega

theorem good_succ (c : Dev nD) (t : Fin cfg0.N) (X : Vec F S33x768x128 .f32) (hX : good m c t.val X) :
    good m c (t.val + 1) (putSlice X (grid0.coords t 2) (dqAt m c t.val t.isLt)) := by
  intro u hu h1 h2
  by_cases e : u = t.val
  · subst e
    rw [show (⟨t.val % 33, Nat.mod_lt _ (by decide)⟩ : Fin 33) = grid0.coords t 2 from Fin.ext (coord2 t).symm]
    exact slice_put_same _ _ _
  · refine (slice_put_other X _ _ ?_ _).trans (hX u hu (by omega) (by omega))
    show u % 33 ≠ (grid0.coords t 2).val
    rw [coord2]
    omega

/-! ## The proof data -/

abbrev scM0_0 : Memref sig .tc .vmem S33x768x128 .f32 := Memref.whole cc0_scratch0

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- The invariant before point `n`: the scratch as the points before left it. -/
def PhiS (c : Dev nD) (n : ℕ) : sProp (MT nD τ sig Unit (Elt F) ℕ (UR sig nD τ) ℕ) :=
  iprop(iprop((∃ X, ⌜good m c n X⌝ ∗ owns (c : Thread nD τ) scM0_0 fullShare X)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (dqAt m c t.val t.isLt)
    | ⟨9, _⟩ => dkAt m c t.val t.isLt
    | ⟨10, _⟩ => dvAt m c t.val t.isLt
  Φ t := PhiS m c t.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqOut (dqAt m c t.val t.isLt) := by dsimp only [dats]
theorem after0_9 (c : Dev nD) (t : Fin cfg0.N) : (dats m 0 c).after 9 t = dkAt m c t.val t.isLt := by dsimp only [dats]
theorem after0_10 (c : Dev nD) (t : Fin cfg0.N) : (dats m 0 c).after 10 t = dvAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem before0_9 (c : Dev nD) (t : Fin cfg0.N) (d) (h : t.val % 33 ≠ 0) :
    (dats m 0 c).before 9 t d = dkAt m c (t.val - 1) (Nat.lt_of_le_of_lt (Nat.sub_le _ _) t.isLt) := by
  have hf : (cfg0.win 9).flush ⟨t.val - 1, Nat.lt_of_le_of_lt (Nat.sub_le _ _) t.isLt⟩ = false :=
    Bool.eq_false_iff.mpr fun e => by have := (flush0_9 _).mp e; dsimp only at this; omega
  exact ((dats m 0 c).before_out_kept 9 rfl t (by omega) hf idle9 (fun _ _ => rfl) d).trans (after0_9 m c _)

theorem before0_10 (c : Dev nD) (t : Fin cfg0.N) (d) (h : t.val % 33 ≠ 0) :
    (dats m 0 c).before 10 t d = dvAt m c (t.val - 1) (Nat.lt_of_le_of_lt (Nat.sub_le _ _) t.isLt) := by
  have hf : (cfg0.win 10).flush ⟨t.val - 1, Nat.lt_of_le_of_lt (Nat.sub_le _ _) t.isLt⟩ = false :=
    Bool.eq_false_iff.mpr fun e => by have := (flush0_10 _).mp e; dsimp only at this; omega
  exact ((dats m 0 c).before_out_kept 10 rfl t (by omega) hf idle10 (fun _ _ => rfl) d).trans (after0_10 m c _)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t ∗ (dats m 0 c).leavesExact 10 t)

/-- What is left in the window of the gradient of `q`, whichever key block the point is on. -/
theorem leaves8 (c : Dev nD) (t : Fin cfg0.N) (d : Vec F S256x384 .f32) (X : Vec F S33x768x128 .f32) (hX : good m c t.val X) :
    owns (c : Thread nD τ) (st0_8 t) fullShare
        (if k0_cond6 (grid0.coords t) = 1#1 then dqOut (dqStep (grid0.coords t) (blocksAt m c t) (sliceOf X (grid0.coords t 2)))
          else (dats m 0 c).before 8 t d)
      ⊢ (dats m 0 c).leavesExact 8 t := by
  by_cases h : k0_cond6 (grid0.coords t) = 1#1
  · rw [if_pos h, leaves_live m c 8 t (by rw [idle8, show k0_cond6 (cfg0.grid.coords t) = 1#1 from h]; rfl), after0_8,
      dq_step m c t _ (good_slice m c t X hX)]
  · rw [if_neg h, (dats m 0 c).leavesExact_idle 8 t
      (by rw [idle8, show (k0_cond6 (cfg0.grid.coords t) == 1#1) = false from beq_eq_false_iff_ne.mpr h]; rfl)
      (Bool.eq_false_iff.mpr fun e => h ((cond6_iff _).mpr ((coord1 t).trans ((flush8 t).mp e))))]
    iintro H
    iexists d
    iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl, leaves_live m c 9 t (idle9 _), leaves_live m c 10 t (idle10 _)]
  rw [after0_0, after0_1, after0_2, after0_3, after0_4, after0_5, after0_6, after0_7, after0_9, after0_10]
  unfold PhiS
  iintro ⟨⟨⟨%X, %hX, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_point c (grid0.coords t) _ _ _ _ _ _ _ _ _ _ _ _ _ _ _ _ _ _ _ _ _ _ _ _ (blocksAt m c t)
    ((dats m 0 c).before 8 t d8) ((dats m 0 c).before 9 t d9) ((dats m 0 c).before 10 t d10) X Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  rw [dk_step m c t _ (before0_9 m c t d9), dv_step m c t _ (before0_10 m c t d10)]
  iintro ⟨H0, H1, H2, H3, H4, H5, H6, H7, H8, H9, H10, HS⟩
  isplitl [HS Hr]
  · isplitl [HS]
    · iexists _
      isplitr; swap; · iexact HS
      ipureintro
      rw [dq_step m c t _ (good_slice m c t X hX)]
      exact good_succ m c t X hX
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m c t d8 X hX); iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, H⟩, Hr⟩
  isplitl [H]
  · iexists d
    isplitr; swap; · iexact H
    ipureintro
    intro u _ h _
    exact absurd h (Nat.not_lt_zero u)
  iexact Hr

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%d, %_, H⟩, Hr⟩
  isplitl [H]
  · iexists d; iexact H
  iexact Hr

/-! ## The run and the frame -/

set_option backward.isDefEq.respectTransparency.types false in
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttGradIdeal.Hand
end
-- ==== Proof.FfnSpec.lean ====
/-
  The SwiGLU feed-forward block over the extended reals, as plain functions of its arrays: the two hidden products, the
  gate, and the gradient's pieces, together with the three facts about them that are not a rearrangement of one sum:
  finite inputs have finite hidden products, the gate's derivative distributes over them, and a sum over the 5632 hidden
  columns is the sum over 8 blocks of 704.
-/
module

public import Idealize.ShloMosaic.Lib.MatmulPlain
public import Idealize.ShloMosaic.Lib.ValueIdx
public import Idealize.ShloMosaic.Lib.ValueLayout
public import Idealize.ShloMosaic.Lib.StackMember

@[expose] public section

set_option maxRecDepth 16384

noncomputable section

namespace Ffn

open Idealize.ShloMosaic Idealize.ShloMosaic.ValueIdx

/-- A rank-two array of extended reals. -/
abbrev Mat (a b : ℕ) : Type := (⟨2, ![a, b]⟩ : Shape).Idx → EReal

/-- Column `j` of block `b` among the 5632 hidden columns. -/
def col (b : Fin 8) (j : Fin 704) : Fin 5632 := ⟨704 * b.val + j.val, by have := b.isLt; have := j.isLt; omega⟩

/-- The product `x · w` at row `r`, column `f`. -/
def mm {a n c : ℕ} (x : Mat a n) (w : Mat n c) (r : Fin a) (f : Fin c) : EReal := ∑ k : Fin n, x (ix2 r k) * w (ix2 k f)

/-- The host's product of two matrices is that sum. -/
theorem hostprod {a n c : ℕ} {φ : FTy} (x : FVec Ideal ⟨2, ![a, n]⟩ φ) (w : FVec Ideal ⟨2, ![n, c]⟩ φ) (r : Fin a) (f : Fin c) :
    Host.dotGeneral (DotDims.plain a n c) none x w (ix2 r f) = mm x w r f :=
  StackMember.dotGeneral_plain_apply none x w r f

/-- The product `x · wᵀ` at row `r`, column `f`. -/
def mmT {a n c : ℕ} (x : Mat a n) (w : Mat c n) (r : Fin a) (f : Fin c) : EReal := ∑ k : Fin n, x (ix2 r k) * w (ix2 f k)

/-- The gate's derivative in the form the backward pass multiplies out: `σ · (1 + g · (1 - σ))`. -/
def dsilu (g : EReal) : EReal := Ideal.logistic g * (1 + g * (1 - Ideal.logistic g))

/-- `a = silu(g) · u`. -/
def act (g u : EReal) : EReal := g * Ideal.logistic g * u

/-- The gradient at `u`: `da · silu(g)`. -/
def dup (g d : EReal) : EReal := d * (g * Ideal.logistic g)

/-- The gradient at `g`: `(da · u) · silu'(g)`. -/
def dgate (g u d : EReal) : EReal := d * u * dsilu g

section Block
variable (h : Mat 8448 2048) (wg wu : Mat 2048 5632) (wd : Mat 5632 2048) (dy : Mat 8448 2048)

/-- The activation array. -/
def A (r : Fin 8448) (f : Fin 5632) : EReal := act (mm h wg r f) (mm h wu r f)
/-- The gradient of the up product. -/
def DU (r : Fin 8448) (f : Fin 5632) : EReal := dup (mm h wg r f) (mmT dy wd r f)
/-- The gradient of the gate product. -/
def DG (r : Fin 8448) (f : Fin 5632) : EReal := dgate (mm h wg r f) (mm h wu r f) (mmT dy wd r f)
/-- Block `b`'s share of the input's gradient. -/
def DHb (b : Fin 8) (r : Fin 8448) (d : Fin 2048) : EReal :=
  (∑ j : Fin 704, DG h wg wu wd dy r (col b j) * wg (ix2 d (col b j)))
    + ∑ j : Fin 704, DU h wg wd dy r (col b j) * wu (ix2 d (col b j))
/-- The gradient of the input: all eight blocks. -/
def DH (r : Fin 8448) (d : Fin 2048) : EReal := ∑ b : Fin 8, DHb h wg wu wd dy b r d
end Block

/-! ## Real values -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (hf : ∀ i, IsReal (f i)) : IsReal (∑ i ∈ s, f i) := by
  choose g hg using hf
  refine ⟨∑ i ∈ s, g i, ?_⟩
  simp only [hg]
  induction s using Finset.cons_induction with
  | empty => simp
  | cons a s ha ih => rw [Finset.sum_cons, Finset.sum_cons, ih, EReal.coe_add]

theorem isReal_mm {a n c : ℕ} (x : Mat a n) (w : Mat n c) (hx : ∀ i, IsReal (x i)) (hw : ∀ i, IsReal (w i)) (r : Fin a)
    (f : Fin c) : IsReal (mm x w r f) := IsReal.sum _ _ fun _ => (hx _).mul (hw _)

theorem isReal_mmT {a n c : ℕ} (x : Mat a n) (w : Mat c n) (hx : ∀ i, IsReal (x i)) (hw : ∀ i, IsReal (w i)) (r : Fin a)
    (f : Fin c) : IsReal (mmT x w r f) := IsReal.sum _ _ fun _ => (hx _).mul (hw _)

/-- A magnitude below infinity is a real number's. -/
theorem isReal_of_abs_lt_top {x : EReal} (h : max x (-x) < ⊤) : IsReal x := by
  induction x with
  | bot => simp at h
  | top => simp at h
  | coe r => exact ⟨r, rfl⟩

/-- The derivative of the gate, multiplied out: at real operands `(d·u)·σ·(1 + g(1-σ))` is what differentiating
    `g · σ(g)` as a product gives, `(d·u)·σ + g·(d·u)·(σ(1-σ))`. -/
theorem dgate_eq {g u d : EReal} (hg : IsReal g) (hu : IsReal u) (hd : IsReal d) :
    dgate g u d = d * u * Ideal.logistic g + g * (d * u) * (Ideal.logistic g * (1 - Ideal.logistic g)) := by
  obtain ⟨g, rfl⟩ := hg
  obtain ⟨u, rfl⟩ := hu
  obtain ⟨d, rfl⟩ := hd
  unfold dgate dsilu
  rw [Ideal.logistic_coe]
  generalize (1 + Real.exp (-g))⁻¹ = s
  norm_cast
  ring

/-- A sum over the hidden columns, block by block. -/
theorem sum_col {M : Type} [AddCommMonoid M] (f : Fin 5632 → M) : ∑ k : Fin 5632, f k = ∑ b : Fin 8, ∑ j : Fin 704, f (col b j) := by
  rw [← Fintype.sum_prod_type' (fun b j => f (col b j)), ← Equiv.sum_comp (finProdFinEquiv (m := 8) (n := 704)) f]
  refine Finset.sum_congr rfl fun p _ => congrArg f (Fin.ext ?_)
  show p.2.val + 704 * p.1.val = 704 * p.1.val + p.2.val
  omega

/-- The input's gradient as the two whole products added. -/
theorem DH_eq (h : Mat 8448 2048) (wg wu : Mat 2048 5632) (wd : Mat 5632 2048) (dy : Mat 8448 2048) (r : Fin 8448) (d : Fin 2048) :
    DH h wg wu wd dy r d
      = (∑ f : Fin 5632, DU h wg wd dy r f * wu (ix2 d f)) + ∑ f : Fin 5632, DG h wg wu wd dy r f * wg (ix2 d f) := by
  unfold DH DHb
  rw [sum_col, sum_col, Finset.sum_add_distrib, add_comm]

/-! ## Splitting the hidden axis into blocks -/

/-- Reshaping `[n, 5632]` to `[n, 8, 704]` and moving the block axis first reads column `704 b + j`. -/
theorem split_apply {α : Type} {n : ℕ} (x : (⟨2, ![n, 5632]⟩ : Shape).Idx → α)
    (hc : (⟨2, ![n, 5632]⟩ : Shape).ShapeCasts ⟨3, ![n, 8, 704]⟩)
    (ht : (⟨3, ![n, 8, 704]⟩ : Shape).Transposes [1, 0, 2] ⟨3, ![8, n, 704]⟩) (b : Fin 8) (r : Fin n) (j : Fin 704) :
    transpose ⟨3, ![8, n, 704]⟩ [1, 0, 2] (shapeCast ⟨3, ![n, 8, 704]⟩ x hc) ht (ix3 b r j) = x (ix2 r (col b j)) :=
  (transpose_apply _ _ ht _ (ix3 r b j) fun c => match c with | ⟨0, _⟩ => rfl | ⟨1, _⟩ => rfl | ⟨2, _⟩ => rfl).trans
    (shapeCast_apply x hc _ _ (by
      rw [Shape.rowMajor_val_three, Shape.rowMajor_val_two]
      show r.val * 5632 + (704 * b.val + j.val) = (r.val * 8 + b.val) * 704 + j.val
      omega))

/-- Reshaping `[5632, n]` to `[8, 704, n]` reads row `704 b + j`. -/
theorem split_rows_apply {α : Type} {n : ℕ} (x : (⟨2, ![5632, n]⟩ : Shape).Idx → α)
    (hc : (⟨2, ![5632, n]⟩ : Shape).ShapeCasts ⟨3, ![8, 704, n]⟩) (b : Fin 8) (j : Fin 704) (r : Fin n) :
    shapeCast ⟨3, ![8, 704, n]⟩ x hc (ix3 b j r) = x (ix2 (col b j) r) :=
  shapeCast_apply x hc _ _ (by
    rw [Shape.rowMajor_val_three, Shape.rowMajor_val_two]
    show (704 * b.val + j.val) * n + r.val = (b.val * 704 + j.val) * n + r.val
    rw [Nat.mul_comm 704])

end Ffn

end
-- ==== Proof.AttSpec.lean ====
/-
  The gradients of grouped-query attention as plain functions of real numbers: scores, softmax weights, and the three
  gradients; with the facts about them that are not a rearrangement of one sum. A softmax row may be shifted by any
  number; its derivative may be taken through the quotient or as `p (dp − Σ p dp)`; a power of two of a score divided by
  `log 2` is the exponential of the score; and a sum over all rows is the sum over the blocks the kernel visits.
-/
module

public import proofs.«01_k».proof.Proof.FfnSpec
public import Mathlib.Analysis.SpecialFunctions.Pow.Real

@[expose] public section

set_option maxRecDepth 16384

noncomputable section

namespace Att

open Idealize.ShloMosaic Idealize.ShloMosaic.ValueIdx
open Ffn (Mat IsReal)

/-- A sum of real numbers, read among the extended reals. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A quotient of real numbers, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The largest of finitely many real numbers, `−∞` thrown in, is a real number if there is one. -/
theorem fold_max_real {n : ℕ} [NeZero n] (f : Fin n → ℝ) : IsReal (Finset.univ.fold max (⊥ : EReal) fun k => (f k : EReal)) := by
  have h : (Finset.univ.fold max (⊥ : EReal) fun k => (f k : EReal)) = Finset.univ.sup fun k => (f k : EReal) := rfl
  rw [h]
  obtain ⟨k, -, hk⟩ := Finset.exists_mem_eq_sup Finset.univ ⟨(0 : Fin n), Finset.mem_univ _⟩ fun k => (f k : EReal)
  exact ⟨f k, hk⟩

/-! ## Heads and groups -/

/-- Queries (and their cotangents): group, head of the group, row, column. -/
abbrev Heads : Type := Fin 4 → Fin 3 → Fin 8448 → Fin 128 → ℝ
/-- Keys and values: group, row, column. -/
abbrev Group : Type := Fin 4 → Fin 8448 → Fin 128 → ℝ

section Gradients
variable (q : Heads) (k v : Group) (g : Heads)

/-- The score of key row `s` for query row `i`. -/
def sc (a : Fin 4) (h : Fin 3) (i s : Fin 8448) : ℝ := (∑ d, q a h i d * k a s d) / √128
/-- The softmax weight. -/
def P (a : Fin 4) (h : Fin 3) (i s : Fin 8448) : ℝ := Real.exp (sc q k a h i s) / ∑ s', Real.exp (sc q k a h i s')
/-- The cotangent of the weight. -/
def dP (a : Fin 4) (h : Fin 3) (i s : Fin 8448) : ℝ := ∑ d, g a h i d * v a s d
/-- A row's mean of the weights' cotangents. -/
def D (a : Fin 4) (h : Fin 3) (i : Fin 8448) : ℝ := ∑ s, P q k a h i s * dP v g a h i s
/-- The cotangent of the score. -/
def DS (a : Fin 4) (h : Fin 3) (i s : Fin 8448) : ℝ := P q k a h i s * (dP v g a h i s - D q k v g a h i)
/-- The gradient of the values. -/
def DV (a : Fin 4) (s : Fin 8448) (d : Fin 128) : ℝ := ∑ h, ∑ i, P q k a h i s * g a h i d
/-- The gradient of the keys. -/
def DK (a : Fin 4) (s : Fin 8448) (d : Fin 128) : ℝ := ∑ h, ∑ i, DS q k v g a h i s / √128 * q a h i d
/-- The gradient of the queries. -/
def DQ (a : Fin 4) (h : Fin 3) (i : Fin 8448) (d : Fin 128) : ℝ := ∑ s, DS q k v g a h i s / √128 * k a s d
end Gradients

/-! ## One row of weights -/

theorem sqrt_pos : (0 : ℝ) < √128 := Real.sqrt_pos.mpr (by norm_num)
theorem sqrt_ne : (√128 : ℝ) ≠ 0 := sqrt_pos.ne'
theorem log_two_ne : Real.log 2 ≠ 0 := (Real.log_pos (by norm_num)).ne'

section Row
variable (s : Fin 8448 → ℝ) (m : ℝ)

theorem total_pos : 0 < ∑ j, Real.exp (s j - m) :=
  Finset.sum_pos (fun _ _ => Real.exp_pos _) ⟨(0 : Fin 8448), Finset.mem_univ _⟩

/-- Shifting every score of a row leaves the weights. -/
theorem softmax_shift (j : Fin 8448) : Real.exp (s j - m) / ∑ j', Real.exp (s j' - m) = Real.exp (s j) / ∑ j', Real.exp (s j') := by
  simp only [Real.exp_sub]
  rw [← Finset.sum_div]
  exact div_div_div_cancel_right₀ (Real.exp_pos m).ne' _ _

/-- A power of two of a score over `log 2`, less the row's `(m + log l) / log 2`, is the weight. -/
theorem weight_two (x : ℝ) (j : Fin 8448) (hx : x = s j / Real.log 2) :
    Real.rpow 2 (x - (m + Real.log (∑ j', Real.exp (s j' - m))) / Real.log 2) = Real.exp (s j) / ∑ j', Real.exp (s j') := by
  rw [← softmax_shift s m j]
  rw [Real.rpow_eq_pow, Real.rpow_def_of_pos (by norm_num), hx, ← sub_div, mul_div_cancel₀ _ log_two_ne,
    show s j - (m + Real.log (∑ j', Real.exp (s j' - m))) = (s j - m) - Real.log (∑ j', Real.exp (s j' - m)) by ring,
    Real.exp_sub, Real.exp_log (total_pos s m)]

/-- The derivative through the quotient, gathered. -/
theorem quotient_rule (dp : Fin 8448 → ℝ) (j : Fin 8448) :
    (dp j / (∑ j', Real.exp (s j' - m))
        + -(∑ j', dp j' * (1 / ((∑ i, Real.exp (s i - m)) * ∑ i, Real.exp (s i - m))) * Real.exp (s j' - m))) * Real.exp (s j - m)
      = Real.exp (s j) / (∑ j', Real.exp (s j')) * (dp j - ∑ j', Real.exp (s j') / (∑ i, Real.exp (s i)) * dp j') := by
  simp only [← softmax_shift s m]
  have hl := (total_pos s m).ne'
  generalize (∑ j', Real.exp (s j' - m)) = l at hl ⊢
  have e : ∑ j', dp j' * (1 / (l * l)) * Real.exp (s j' - m) = (∑ j', Real.exp (s j' - m) / l * dp j') / l := by
    rw [Finset.sum_div]
    refine Finset.sum_congr rfl fun j' _ => ?_
    field_simp
  rw [e]
  field_simp
  ring
end Row

/-! ## The host's and the kernel's forms -/

section Forms
variable (q : Heads) (k v : Group) (g : Heads)

/-- The mean of the weights' cotangents is the product of the output with its cotangent. -/
theorem D_eq (a : Fin 4) (h : Fin 3) (i : Fin 8448) :
    ∑ d, (∑ s, P q k a h i s * v a s d) * g a h i d = D q k v g a h i := by
  unfold D dP
  simp only [Finset.sum_mul, Finset.mul_sum]
  rw [Finset.sum_comm]
  refine Finset.sum_congr rfl fun s _ => Finset.sum_congr rfl fun d _ => ?_
  ring

/-- The scores the kernel forms, its queries divided by `√128 · log 2`. -/
theorem sc_two (a : Fin 4) (h : Fin 3) (i s : Fin 8448) :
    ∑ d, q a h i d / (√128 * Real.log 2) * k a s d = sc q k a h i s / Real.log 2 := by
  unfold sc
  rw [div_div, Finset.sum_div]
  refine Finset.sum_congr rfl fun d _ => ?_
  ring

/-- A row's statistic: the logarithm to base two of its total, at any shift `m`. -/
def lse2 (m : ℝ) (a : Fin 4) (h : Fin 3) (i : Fin 8448) : ℝ :=
  (m + Real.log (∑ s, Real.exp (sc q k a h i s - m))) / Real.log 2

theorem P_two (m : ℝ) (a : Fin 4) (h : Fin 3) (i s : Fin 8448) :
    Real.rpow 2 ((∑ d, q a h i d / (√128 * Real.log 2) * k a s d) - lse2 q k m a h i) = P q k a h i s :=
  weight_two (sc q k a h i) m _ s (sc_two q k a h i s)
end Forms

/-! ## Rows in the blocks the kernel visits -/

/-- The head of row `r` of a block of stacked heads. -/
def hd (r : Fin 768) : Fin 3 := ⟨r.val / 256, by omega⟩
/-- The query row of row `r` of query block `n`. -/
def qrow (n : ℕ) (r : Fin 768) : Fin 8448 := ⟨(256 * n + r.val % 256) % 8448, Nat.mod_lt _ (by decide)⟩
/-- The key row of row `s` of key block `n`. -/
def krow (n : ℕ) (s : Fin 768) : Fin 8448 := ⟨(768 * n + s.val) % 8448, Nat.mod_lt _ (by decide)⟩

theorem sum_krow {M : Type*} [AddCommMonoid M] (f : Fin 8448 → M) : ∑ n ∈ Finset.range 11, ∑ s, f (krow n s) = ∑ s, f s := by
  rw [Finset.sum_range (n := 11) fun n => ∑ s, f (krow n s), ← Fintype.sum_prod_type' (fun (n : Fin 11) s => f (krow n.val s)),
    ← Equiv.sum_comp (finProdFinEquiv (m := 11) (n := 768)) f]
  refine Finset.sum_congr rfl fun p _ => congrArg f (Fin.ext ?_)
  show (768 * p.1.val + p.2.val) % 8448 = p.2.val + 768 * p.1.val
  have := p.1.isLt
  have := p.2.isLt
  omega

theorem sum_qrow (f : Fin 3 → Fin 8448 → ℝ) : ∑ n ∈ Finset.range 33, ∑ r, f (hd r) (qrow n r) = ∑ h, ∑ i, f h i := by
  have e1 : ∀ n : ℕ, ∑ r, f (hd r) (qrow n r) = ∑ h : Fin 3, ∑ j : Fin 256, f h ⟨(256 * n + j.val) % 8448, Nat.mod_lt _ (by decide)⟩ := by
    intro n
    rw [← Fintype.sum_prod_type' (fun (h : Fin 3) (j : Fin 256) => f h ⟨(256 * n + j.val) % 8448, Nat.mod_lt _ (by decide)⟩),
      ← Equiv.sum_comp (finProdFinEquiv (m := 3) (n := 256)) fun r : Fin 768 => f (hd r) (qrow n r)]
    refine Finset.sum_congr rfl fun p _ => congrArg₂ f (Fin.ext ?_) (Fin.ext ?_)
    · show (p.2.val + 256 * p.1.val) / 256 = p.1.val
      have := p.2.isLt
      omega
    · show (256 * n + (p.2.val + 256 * p.1.val) % 256) % 8448 = (256 * n + p.2.val) % 8448
      have := p.2.isLt
      have : (p.2.val + 256 * p.1.val) % 256 = p.2.val := by omega
      rw [this]
  simp only [e1]
  rw [Finset.sum_comm]
  refine Finset.sum_congr rfl fun h _ => ?_
  rw [Finset.sum_range (n := 33) fun n => ∑ j : Fin 256, f h ⟨(256 * n + j.val) % 8448, Nat.mod_lt _ (by decide)⟩,
    ← Fintype.sum_prod_type' (fun (n : Fin 33) (j : Fin 256) => f h ⟨(256 * n.val + j.val) % 8448, Nat.mod_lt _ (by decide)⟩),
    ← Equiv.sum_comp (finProdFinEquiv (m := 33) (n := 256)) (f h)]
  refine Finset.sum_congr rfl fun p _ => congrArg (f h) (Fin.ext ?_)
  show (256 * p.1.val + p.2.val) % 8448 = p.2.val + 256 * p.1.val
  have := p.1.isLt
  have := p.2.isLt
  omega

/-! ## The arrays' columns -/

/-- The column of group `a`, head `h`, at `d` among the queries' 1536. -/
def qcol (a : Fin 4) (h : Fin 3) (d : Fin 128) : Fin 1536 := ⟨384 * a.val + 128 * h.val + d.val, by omega⟩
/-- The column of group `a` at `d` among the keys' 512. -/
def kcol (a : Fin 4) (d : Fin 128) : Fin 512 := ⟨128 * a.val + d.val, by omega⟩
/-- The column of group `a`, head `h`, at `d` among the cotangent's 2048. -/
def gcol (a : Fin 4) (h : Fin 3) (d : Fin 128) : Fin 2048 := ⟨512 + (384 * a.val + 128 * h.val + d.val), by omega⟩

def heads (x : Mat 8448 1536) : Heads := fun a h i d => (x (ix2 i (qcol a h d))).toReal
def group (x : Mat 8448 512) : Group := fun a i d => (x (ix2 i (kcol a d))).toReal
def cots (x : Mat 8448 2048) : Heads := fun a h i d => (x (ix2 i (gcol a h d))).toReal

section Arrays
variable (x0 : Mat 8448 1536) (x1 x2 : Mat 8448 512) (x3 : Mat 8448 2048)

/-- The gradient of the queries, as an array. -/
def GQ : Mat 8448 1536 := fun y =>
  (DQ (heads x0) (group x1) (group x2) (cots x3)
    ⟨(y 1).val / 384, by have : (y 1).val < 1536 := (y 1).isLt; omega⟩ ⟨(y 1).val / 128 % 3, by omega⟩ (y 0) ⟨(y 1).val % 128, by omega⟩ : ℝ)
/-- The gradient of the keys, as an array. -/
def GK : Mat 8448 512 := fun y =>
  (DK (heads x0) (group x1) (group x2) (cots x3)
    ⟨(y 1).val / 128, by have : (y 1).val < 512 := (y 1).isLt; omega⟩ (y 0) ⟨(y 1).val % 128, by omega⟩ : ℝ)
/-- The gradient of the values, as an array. -/
def GV : Mat 8448 512 := fun y =>
  (DV (heads x0) (group x1) (cots x3)
    ⟨(y 1).val / 128, by have : (y 1).val < 512 := (y 1).isLt; omega⟩ (y 0) ⟨(y 1).val % 128, by omega⟩ : ℝ)
end Arrays

theorem coe_toReal {x : EReal} (h : IsReal x) : ((x.toReal : ℝ) : EReal) = x := by
  obtain ⟨r, rfl⟩ := h
  rfl

end Att

end
-- ==== Proof.FfnBlocks.lean ====
/-
  Facts shared by the two weight gradients of the SwiGLU block: a product over the rows of two arrays, and a sum over
  the 8448 rows taken in six blocks of 1408.
-/
module

public import proofs.«01_k».proof.Proof.FfnSpec

@[expose] public section

set_option maxRecDepth 16384

noncomputable section

namespace Ffn

open Idealize.ShloMosaic Idealize.ShloMosaic.ValueIdx

/-- Row `p` of block `k` among the 8448 rows. -/
def rowB (k : Fin 6) (p : Fin 1408) : Fin 8448 := ⟨1408 * k.val + p.val, by have := k.isLt; have := p.isLt; omega⟩

/-- The product `xᵀ · y` at `(r, f)`: a sum over the rows of both. -/
def tmm {n a c : ℕ} (x : Mat n a) (y : Mat n c) (r : Fin a) (f : Fin c) : EReal := ∑ k : Fin n, x (ix2 k r) * y (ix2 k f)

/-- The rows of one block. -/
def tmmB {a c : ℕ} (x : Mat 8448 a) (y : Mat 8448 c) (k : Fin 6) (r : Fin a) (f : Fin c) : EReal :=
  ∑ p : Fin 1408, x (ix2 (rowB k p) r) * y (ix2 (rowB k p) f)

/-- The rows of one block, for any natural block number (none past the sixth). -/
def tmmN {a c : ℕ} (x : Mat 8448 a) (y : Mat 8448 c) (r : Fin a) (f : Fin c) (k : ℕ) : EReal :=
  if hk : k < 6 then tmmB x y ⟨k, hk⟩ r f else 0

/-- A sum over all rows is the sum over the six blocks. -/
theorem sum_rowB {M : Type} [AddCommMonoid M] (f : Fin 8448 → M) : ∑ r : Fin 8448, f r = ∑ k : Fin 6, ∑ p : Fin 1408, f (rowB k p) := by
  rw [← Fintype.sum_prod_type' (fun k p => f (rowB k p)), ← Equiv.sum_comp (finProdFinEquiv (m := 6) (n := 1408)) f]
  refine Finset.sum_congr rfl fun q _ => congrArg f (Fin.ext ?_)
  show q.2.val + 1408 * q.1.val = 1408 * q.1.val + q.2.val
  omega

/-- All six blocks together are the whole product. -/
theorem sum_tmmN {a c : ℕ} (x : Mat 8448 a) (y : Mat 8448 c) (r : Fin a) (f : Fin c) :
    ∑ k ∈ Finset.range 6, tmmN x y r f k = tmm x y r f := by
  unfold tmm
  rw [sum_rowB, Finset.sum_range]
  exact Finset.sum_congr rfl fun k _ => dif_pos k.isLt

/-! ## The product of a transposed left operand -/

/-- `[K, M]ᵀ · [K, N]`: both operands give up their first axis. -/
def firstAxes (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

/-- The kernel's product over both first axes, read at `(r, f)`. -/
theorem matmul_firstAxes_apply {M K N : ℕ} {φ₁ φ₂ : FTy} (wf : DotDims.WF ⟨2, ![K, M]⟩ ⟨2, ![K, N]⟩ ⟨2, ![M, N]⟩ [0] [0] [1] [1] [] [])
    (prec : Option ContractPrecision) (x : FVec Ideal ⟨2, ![K, M]⟩ φ₁) (y : FVec Ideal ⟨2, ![K, N]⟩ φ₂)
    (acc : FVec Ideal ⟨2, ![M, N]⟩ .f32) (r : Fin M) (f : Fin N) :
    FloatOps.matmul (firstAxes M K N wf) prec x y acc (ix2 r f) = acc (ix2 r f) + ∑ k : Fin K, x (ix2 k r) * y (ix2 k f) := by
  have hr : (firstAxes M K N wf).contr.rank = 1 := rfl
  have hs : (firstAxes M K N wf).contr.size ⟨0, by rw [hr]; exact Nat.one_pos⟩ = K := rfl
  rw [Ideal.matmul_apply, ← Equiv.sum_comp (contrEquiv1 _ K hr hs).symm]
  refine congrArg (acc (ix2 r f) + ·) (Finset.sum_congr rfl fun k _ => ?_)
  have hk := contrEquiv1_symm_val _ K hr hs k
  have el : (firstAxes M K N wf).lhsIdx (ix2 r f) ((contrEquiv1 _ K hr hs).symm k) = ix2 k r := by
    funext a; apply Fin.ext
    match a with
    | ⟨0, _⟩ => exact hk
    | ⟨1, _⟩ => rfl
  have er : (firstAxes M K N wf).rhsIdx (ix2 r f) ((contrEquiv1 _ K hr hs).symm k) = ix2 k f := by
    funext a; apply Fin.ext
    match a with
    | ⟨0, _⟩ => exact hk
    | ⟨1, _⟩ => rfl
  rw [el, er]

end Ffn

end
-- ==== Proof.AttPay.lean ====
/-
  The attention backward kernel's values over real blocks: the weights, the scores' cotangents, and the three products
  of one point, as the real numbers of `AttSpec`; then what a point leaves when the points before it left partial sums.
-/
module

public import proofs.«01_k».proof.Proof.AttSpec
public import proofs.«01_k».proof.Proof.AttRun
public import proofs.«01_k».proof.Proof.FfnBlocks
public import Idealize.ShloMosaic.Lib.IdealHost
public import Idealize.ShloMosaic.Lib.Pointwise

@[expose] public section

set_option maxRecDepth 16384

noncomputable section

namespace Att.Pay

open Cert.AttGradIdeal Cert.AttGradIdeal.Gen Cert.AttGradIdeal.Hand Idealize.ShloMosaic.ValueIdx
open Idealize.ShloMosaic hiding ix1 ix2 ix3 ix4 eq_ix1 eq_ix2 eq_ix3 eq_ix4 mulf_apply addf_apply subf_apply
open Ffn (matmul_firstAxes_apply)

attribute [local instance] Cert.AttGradIdeal.Gen.facts

theorem ln2_eq : (Named.named κ "ln2" 0x3F317218#32 : Ideal .f32) = ((Real.log 2 : ℝ) : EReal) := rfl
theorem scale_eq : (Named.named κ "scale" 0x3DB504F3#32 : Ideal .f32) = (((√128)⁻¹ : ℝ) : EReal) := rfl

/-- Six copies side by side of an array constant along its rows. -/
theorem six_at (L : FVec Ideal S768x128 .f32) (x : Ideal .f32) (r s : Fin 768) (h : ∀ d : Fin 128, L (ix2 r d) = x) :
    concatenate S768x768 1 [⟨S768x128, L⟩, ⟨S768x128, L⟩, ⟨S768x128, L⟩, ⟨S768x128, L⟩, ⟨S768x128, L⟩, ⟨S768x128, L⟩]
      concatenates_S768x128_S768x128_S768x128_S768x128_S768x128_S768x128_S768x768_d1 (ix2 r s) = x := by
  have hL : ∀ y : S768x128.Idx, (y 0).val = r.val → L y = x := fun y hy => by
    rw [eq_ix2 y, show y 0 = r from Fin.ext hy]; exact h _
  simp only [pointwise]
  split_ifs <;> first | exact hL _ rfl | (rename_i hz; exact absurd hz (by decide))

section Point
variable (q k v g : Fin 768 → Fin 128 → ℝ) (l e : Fin 768 → ℝ)
variable (Q : FVec Ideal S768x128 .bf16) (G L D : FVec Ideal S768x128 .f32) (K W : Vec Ideal S768x128 .bf16)
variable (hQ : ∀ r d, Q (ix2 r d) = (q r d : EReal)) (hG : ∀ r d, G (ix2 r d) = (g r d : EReal))
variable (hL : ∀ r d, L (ix2 r d) = (l r : EReal)) (hD : ∀ r d, D (ix2 r d) = (e r : EReal))
variable (hK : ∀ s d, K (ix2 s d) = (k s d : EReal)) (hW : ∀ s d, W (ix2 s d) = (v s d : EReal))

/-- A row's weights. -/
def wt (r s : Fin 768) : ℝ := Real.rpow 2 ((∑ d, q r d * k s d) - l r)

/-- A row's scores' cotangents. -/
def ds (r s : Fin 768) : ℝ := wt q k l r s * ((∑ d, g r d * v s d) - e r)

include hQ hL hK in
theorem pay9_at (r s : Fin 768) : k0_pay9 Q L K (ix2 r s) = (wt q k l r s : EReal) := by
  have e1 : FloatOps.matmul dot_S768x128_S768x128_S768x768_1_1_0_0_n_n none (φ₂ := .bf16) Q K (constant S768x768 .f32 0x00000000#32) (ix2 r s)
      = ((∑ d, q r d * k s d : ℝ) : EReal) := by
    refine (Ideal.matmul_transposedRhs_apply (M := 768) (K := 128) (N := 768) (φ₁ := .bf16) (φ₂ := .bf16) none Q K _ r s).trans ?_
    rw [constant_apply, Ideal.ofBits_zero_f32, zero_add, coe_sum]
    exact Finset.sum_congr rfl fun d _ => by rw [hQ, hK, EReal.coe_mul]
  have e2 := six_at L _ r s (hL r)
  unfold k0_pay9 wt
  rw [exp2_apply, subf_apply, e2]
  show Ideal.exp2 (FloatOps.matmul (F := Ideal) dot_S768x128_S768x128_S768x768_1_1_0_0_n_n none (φ₂ := .bf16) Q K (constant S768x768 .f32 0x00000000#32) (ix2 r s) - (l r : EReal)) = _
  rw [e1, ← EReal.coe_sub, Ideal.exp2_coe]

include hQ hG hL hD hK hW in
theorem pay10_at (r s : Fin 768) : k0_pay10 Q G L D K W (ix2 r s) = (ds q k v g l e r s : EReal) := by
  have e1 : FloatOps.matmul dot_S768x128_S768x128_S768x768_1_1_0_0_n_n none (φ₂ := .bf16) (truncf .bf16 G bitsLt_bf16_f32 : FVec Ideal S768x128 .bf16) (W : FVec Ideal S768x128 .bf16)
      (constant S768x768 .f32 0x00000000#32) (ix2 r s) = ((∑ d, g r d * v s d : ℝ) : EReal) := by
    refine (Ideal.matmul_transposedRhs_apply (M := 768) (K := 128) (N := 768) (φ₁ := .bf16) (φ₂ := .bf16) none _ W _ r s).trans ?_
    rw [constant_apply, Ideal.ofBits_zero_f32, zero_add, coe_sum]
    exact Finset.sum_congr rfl fun d _ => by
      rw [show (truncf .bf16 G bitsLt_bf16_f32 : FVec Ideal S768x128 .bf16) (ix2 r d) = G (ix2 r d) from rfl, hG, hW, EReal.coe_mul]
  have e2 := six_at D _ r s (hD r)
  unfold k0_pay10 ds
  rw [shapeCast_self]
  rw [mulf_apply, subf_apply, e2, pay9_at q k l Q L K hQ hL hK]
  show (wt q k l r s : EReal) * (FloatOps.matmul (F := Ideal) dot_S768x128_S768x128_S768x768_1_1_0_0_n_n none (φ₂ := .bf16) (truncf .bf16 G bitsLt_bf16_f32 : FVec Ideal S768x128 .bf16) (W : FVec Ideal S768x128 .bf16)
      (constant S768x768 .f32 0x00000000#32) (ix2 r s) - (e r : EReal)) = _
  rw [e1, ← EReal.coe_sub, ← EReal.coe_mul]

include hQ hG hL hK in
theorem pay11_at (s : Fin 768) (d : Fin 128) : k0_pay11 Q G L K (ix2 s d) = ((∑ r, wt q k l r s * g r d : ℝ) : EReal) := by
  unfold k0_pay11
  refine (matmul_firstAxes_apply (M := 768) (K := 768) (N := 128) (φ₁ := .bf16) (φ₂ := .bf16) facts.dot_S768x768_S768x128_S768x128_0_0_1_1_n_n_wf none
    (truncf .bf16 (k0_pay9 Q L K) bitsLt_bf16_f32 : FVec Ideal S768x768 .bf16) (truncf .bf16 G bitsLt_bf16_f32 : FVec Ideal S768x128 .bf16) _ s d).trans ?_
  rw [constant_apply, Ideal.ofBits_zero_f32, zero_add, coe_sum]
  refine Finset.sum_congr rfl fun r _ => ?_
  show k0_pay9 Q L K (ix2 r s) * G (ix2 r d) = _
  rw [pay9_at q k l Q L K hQ hL hK, hG, EReal.coe_mul]

include hQ hG hL hD hK hW in
theorem pay12_at (s : Fin 768) (d : Fin 128) : k0_pay12 Q G L D K W (ix2 s d) = ((∑ r, ds q k v g l e r s * q r d : ℝ) : EReal) := by
  unfold k0_pay12
  refine (matmul_firstAxes_apply (M := 768) (K := 768) (N := 128) (φ₁ := .bf16) (φ₂ := .bf16) facts.dot_S768x768_S768x128_S768x128_0_0_1_1_n_n_wf none
    (truncf .bf16 (k0_pay10 Q G L D K W) bitsLt_bf16_f32 : FVec Ideal S768x768 .bf16) Q _ s d).trans ?_
  rw [constant_apply, Ideal.ofBits_zero_f32, zero_add, coe_sum]
  refine Finset.sum_congr rfl fun r _ => ?_
  show k0_pay10 Q G L D K W (ix2 r s) * Q (ix2 r d) = _
  rw [pay10_at q k v g l e Q G L D K W hQ hG hL hD hK hW, hQ, EReal.coe_mul]

include hQ hG hL hD hK hW in
theorem pay13_at (r : Fin 768) (d : Fin 128) : k0_pay13 Q G L D K W (ix2 r d) = ((∑ s, ds q k v g l e r s * k s d : ℝ) : EReal) := by
  unfold k0_pay13
  refine (Ideal.matmul_plain_apply (M := 768) (K := 768) (N := 128) (φ₁ := .bf16) (φ₂ := .bf16) none
    (truncf .bf16 (k0_pay10 Q G L D K W) bitsLt_bf16_f32 : FVec Ideal S768x768 .bf16) K _ r d).trans ?_
  rw [constant_apply, Ideal.ofBits_zero_f32, zero_add, coe_sum]
  refine Finset.sum_congr rfl fun s _ => ?_
  show k0_pay10 Q G L D K W (ix2 r s) * K (ix2 s d) = _
  rw [pay10_at q k v g l e Q G L D K W hQ hG hL hD hK hW, hK, EReal.coe_mul]
end Point

/-! ## A point of group `a`, key block `ki`, query block `qi` -/

section Steps
variable (q : Heads) (k v : Group) (g : Heads) (M : Fin 4 → Fin 3 → Fin 8448 → ℝ) (a : Fin 4)

/-- The blocks of a point read real numbers: scaled queries, the cotangent, the row statistics, keys and values. -/
structure Reads (ki qi : ℕ) (B : Blocks Ideal) : Prop where
  hQ : ∀ r d, rowsQ B (ix2 r d) = ((q a (hd r) (qrow qi r) d / (√128 * Real.log 2) : ℝ) : EReal)
  hG : ∀ r d, rowsG B (ix2 r d) = (g a (hd r) (qrow qi r) d : EReal)
  hL : ∀ r (d : Fin 128), rowsL B (ix2 r d) = (lse2 q k (M a (hd r) (qrow qi r)) a (hd r) (qrow qi r) : EReal)
  hD : ∀ r (d : Fin 128), rowsD B (ix2 r d) = (D q k v g a (hd r) (qrow qi r) : EReal)
  hK : ∀ s d, keys B (ix2 s d) = (k a (krow ki s) d : EReal)
  hV : ∀ s d, vals B (ix2 s d) = (v a (krow ki s) d : EReal)

/-- What query block `qi` adds to the values' gradient. -/
def dvTerm (ki qi : ℕ) (s : Fin 768) (d : Fin 128) : ℝ := ∑ r, P q k a (hd r) (qrow qi r) (krow ki s) * g a (hd r) (qrow qi r) d
/-- What query block `qi` adds to the keys' gradient, over `log 2`. -/
def dkTerm (ki qi : ℕ) (s : Fin 768) (d : Fin 128) : ℝ :=
  ∑ r, DS q k v g a (hd r) (qrow qi r) (krow ki s) * (q a (hd r) (qrow qi r) d / (√128 * Real.log 2))
/-- What key block `ki` adds to the queries' gradient, times `√128`. -/
def dqTerm (qi ki : ℕ) (r : Fin 768) (d : Fin 128) : ℝ := ∑ s, DS q k v g a (hd r) (qrow qi r) (krow ki s) * k a (krow ki s) d

variable {q k v g M a} {ki qi : ℕ} {B : Blocks Ideal}

theorem wt_eq (r s : Fin 768) :
    wt (fun r d => q a (hd r) (qrow qi r) d / (√128 * Real.log 2)) (fun s d => k a (krow ki s) d)
      (fun r => lse2 q k (M a (hd r) (qrow qi r)) a (hd r) (qrow qi r)) r s = P q k a (hd r) (qrow qi r) (krow ki s) :=
  P_two q k _ a (hd r) (qrow qi r) (krow ki s)

theorem dv_point (H : Reads q k v g M a ki qi B) (s : Fin 768) (d : Fin 128) :
    k0_pay11 (rowsQ B) (rowsG B) (rowsL B) (keys B) (ix2 s d) = (dvTerm q k g a ki qi s d : EReal) := by
  refine (pay11_at _ _ _ _ _ _ _ _ H.hQ H.hG H.hL H.hK s d).trans (congrArg Real.toEReal (Finset.sum_congr rfl fun r _ => ?_))
  rw [wt_eq]

theorem dk_point (H : Reads q k v g M a ki qi B) (s : Fin 768) (d : Fin 128) :
    k0_pay12 (rowsQ B) (rowsG B) (rowsL B) (rowsD B) (keys B) (vals B) (ix2 s d) = (dkTerm q k v g a ki qi s d : EReal) := by
  refine (pay12_at _ _ _ _ _ _ _ _ _ _ _ _ H.hQ H.hG H.hL H.hD H.hK H.hV s d).trans (congrArg Real.toEReal (Finset.sum_congr rfl fun r _ => ?_))
  unfold ds
  rw [wt_eq]
  rfl

theorem dq_point (H : Reads q k v g M a ki qi B) (r : Fin 768) (d : Fin 128) :
    k0_pay13 (rowsQ B) (rowsG B) (rowsL B) (rowsD B) (keys B) (vals B) (ix2 r d) = (dqTerm q k v g a qi ki r d : EReal) := by
  refine (pay13_at _ _ _ _ _ _ _ _ _ _ _ _ H.hQ H.hG H.hL H.hD H.hK H.hV r d).trans (congrArg Real.toEReal (Finset.sum_congr rfl fun s _ => ?_))
  unfold ds
  rw [wt_eq]
  rfl

/-- The values' gradient after a point. -/
theorem dvStep_at (H : Reads q k v g M a ki qi B) (i : grid0.Coords) (y : Vec Ideal S768x128 .f32) (hc : k0_cond1 i = 1#1 ↔ qi = 0)
    (hy : qi ≠ 0 → ∀ s d, y (ix2 s d) = ((∑ n ∈ Finset.range qi, dvTerm q k g a ki n s d : ℝ) : EReal)) (s : Fin 768) (d : Fin 128) :
    dvStep i B y (ix2 s d) = ((∑ n ∈ Finset.range (qi + 1), dvTerm q k g a ki n s d : ℝ) : EReal) := by
  unfold dvStep
  rw [Finset.sum_range_succ]
  by_cases h : qi = 0
  · rw [if_pos (hc.mpr h), dv_point H]
    subst h
    rw [Finset.sum_range_zero, zero_add]
  · rw [if_neg fun e => h (hc.mp e)]
    unfold k0_pay15
    rw [shapeCast_self, addf_apply, dv_point H, hy h, EReal.coe_add]

/-- The keys' gradient after a point, the last one multiplying by `log 2`. -/
theorem dkStep_at (H : Reads q k v g M a ki qi B) (i : grid0.Coords) (y : Vec Ideal S768x128 .f32) (hc : k0_cond1 i = 1#1 ↔ qi = 0)
    (hc3 : k0_cond3 i = 1#1 ↔ qi = 32)
    (hy : qi ≠ 0 → ∀ s d, y (ix2 s d) = ((∑ n ∈ Finset.range qi, dkTerm q k v g a ki n s d : ℝ) : EReal)) (s : Fin 768) (d : Fin 128) :
    dkStep i B y (ix2 s d)
      = (((∑ n ∈ Finset.range (qi + 1), dkTerm q k v g a ki n s d) * (if qi = 32 then Real.log 2 else 1) : ℝ) : EReal) := by
  have hz : (if k0_cond1 i = 1#1 then k0_pay12 (rowsQ B) (rowsG B) (rowsL B) (rowsD B) (keys B) (vals B)
      else k0_pay14 (rowsQ B) (rowsG B) (rowsL B) (rowsD B) (keys B) (vals B) y) (ix2 s d)
      = ((∑ n ∈ Finset.range (qi + 1), dkTerm q k v g a ki n s d : ℝ) : EReal) := by
    rw [Finset.sum_range_succ]
    by_cases h : qi = 0
    · rw [if_pos (hc.mpr h), dk_point H]
      subst h
      rw [Finset.sum_range_zero, zero_add]
    · rw [if_neg fun e => h (hc.mp e)]
      unfold k0_pay14
      rw [shapeCast_self, addf_apply, dk_point H, hy h, EReal.coe_add]
  unfold dkStep
  by_cases h : qi = 32
  · rw [if_pos h, if_pos (hc3.mpr h)]
    unfold k0_pay16
    rw [shapeCast_self, mulf_apply, hz, broadcast_apply, ln2_eq, EReal.coe_mul]
  · rw [if_neg h, if_neg fun e => h (hc3.mp e), mul_one]
    exact hz

/-- The queries' gradient after a point. -/
theorem dqStep_at (H : Reads q k v g M a ki qi B) (i : grid0.Coords) (w : Vec Ideal S1x768x128 .f32) (hc : k0_cond4 i = 1#1 ↔ ki = 0)
    (hw : ki ≠ 0 → ∀ r d, w (ix3 0 r d) = ((∑ n ∈ Finset.range ki, dqTerm q k v g a qi n r d : ℝ) : EReal)) (r : Fin 768) (d : Fin 128) :
    dqStep i B w (ix3 0 r d) = ((∑ n ∈ Finset.range (ki + 1), dqTerm q k v g a qi n r d : ℝ) : EReal) := by
  unfold dqStep
  rw [Finset.sum_range_succ]
  by_cases h : ki = 0
  · rw [if_pos (hc.mpr h)]
    unfold k0_pay17
    refine (shapeCast_ab_1ab_apply _ _ 0 r d).trans ?_
    rw [dq_point H]
    subst h
    rw [Finset.sum_range_zero, zero_add]
  · rw [if_neg fun e => h (hc.mp e)]
    unfold k0_pay18
    refine (shapeCast_ab_1ab_apply _ _ 0 r d).trans ?_
    rw [addf_apply, dq_point H]
    refine (congrArg (fun x => FloatOps.addf (F := Ideal) (φ := .f32) x _) ((shapeCast_1ab_ab_apply w _ r d).trans (hw h r d))).trans ?_
    rw [EReal.coe_add]
    rfl

/-- What leaves for the queries' gradient: the three heads side by side, scaled. -/
theorem dqOut_at (w : Vec Ideal S1x768x128 .f32) (x : Fin 768 → Fin 128 → ℝ) (hw : ∀ r d, w (ix3 0 r d) = (x r d : EReal))
    (i : Fin 256) (j : Fin 384) :
    dqOut w (ix2 i j) = ((x ⟨256 * (j.val / 128) + i.val, by omega⟩ ⟨j.val % 128, by omega⟩ * (√128)⁻¹ : ℝ) : EReal) := by
  have h1 : ∀ r d, k0_pay1 w (ix2 r d) = (x r d : EReal) := fun r d => (shapeCast_1ab_ab_apply w _ r d).trans (hw r d)
  have hj := j.isLt
  have hi := i.isLt
  unfold dqOut
  split_ifs with c0 c1
  all_goals
    first | unfold k0_pay2 | unfold k0_pay3 | unfold k0_pay4
    rw [mulf_apply, broadcast_apply, scale_eq, EReal.coe_mul]
    refine congrArg (· * (((√128)⁻¹ : ℝ) : EReal)) ?_
    rw [← h1]
    refine extractStridedSlice_apply _ _ _ _ _ fun b => ?_
  · replace c0 : j.val < 128 := c0
    match b with
    | ⟨0, _⟩ => show 256 * (j.val / 128) + i.val = 0 + i.val; omega
    | ⟨1, _⟩ => show j.val % 128 = 0 + j.val; omega
  · replace c0 : ¬ j.val < 128 := c0
    replace c1 : j.val < 256 := c1
    match b with
    | ⟨0, _⟩ => show 256 * (j.val / 128) + i.val = 256 + i.val; omega
    | ⟨1, _⟩ => show j.val % 128 = 0 + (j.val - 128); omega
  · replace c1 : ¬ j.val < 256 := c1
    match b with
    | ⟨0, _⟩ => show 256 * (j.val / 128) + i.val = 512 + i.val; omega
    | ⟨1, _⟩ => show j.val % 128 = 0 + (j.val - 256); omega
end Steps

end Att.Pay

end
-- ==== Proof.AttRef.lean ====
/-
  The attention reference read over real inputs: each stage of its two passes as a real number, and its three results as
  the gradients of `AttSpec`.
-/
module

public import proofs.«01_k».proof.Proof.AttSpec
public import proofs.«01_k».proof.Proof.Gen.AttGradReferenceIdeal.Read
public import Idealize.ShloMosaic.Lib.TwoAxisContraction
public import Idealize.ShloMosaic.Lib.IdealHost
public import Idealize.ShloMosaic.Lib.Pointwise

@[expose] public section

set_option maxRecDepth 16384

noncomputable section

namespace Att.Ref

open Cert.AttGradReferenceIdeal Cert.AttGradReferenceIdeal.Gen Cert.AttGradReferenceIdeal.Read Idealize.ShloMosaic.ValueIdx
open Idealize.ShloMosaic hiding ix1 ix2 ix3 ix4 eq_ix1 eq_ix2 eq_ix3 eq_ix4
open Ffn (Mat IsReal)

variable (x0 : Mat 8448 1536) (x1 x2 : Mat 8448 512) (x3 : Mat 8448 2048)

/-- The two spellings of an index by its four coordinates agree. -/
theorem index_four {n0 n1 n2 n3 : ℕ} (a : Fin n0) (b : Fin n1) (c : Fin n2) (d : Fin n3) : Idealize.ShloMosaic.ix4 a b c d = ix4 a b c d :=
  funext fun e => match e with | ⟨0, _⟩ => rfl | ⟨1, _⟩ => rfl | ⟨2, _⟩ => rfl | ⟨3, _⟩ => rfl

/-! ## The arrays by heads -/

section Heads
variable (h0 : ∀ y, IsReal (x0 y)) (h1 : ∀ y, IsReal (x1 y)) (h2 : ∀ y, IsReal (x2 y)) (h3 : ∀ y, IsReal (x3 y))

include h0 in
theorem v4_at (a : Fin 4) (h : Fin 3) (i : Fin 8448) (d : Fin 128) :
    val_main_v4 (F := Ideal) x0 (ix4 a h i d) = (heads x0 a h i d : EReal) := by
  rw [val_main_v4_apply, val_main_v3_apply, val_main_v0_apply]
  refine Eq.trans ?_ (coe_toReal (h0 _)).symm
  show x0 _ = x0 _
  refine congrArg x0 (funext fun b => Fin.ext ?_)
  match b with
  | ⟨0, _⟩ => show (((i.val * 4 + a.val) * 3 + h.val) * 128 + d.val) / 1536 = i.val; omega
  | ⟨1, _⟩ => show (((i.val * 4 + a.val) * 3 + h.val) * 128 + d.val) % 1536 = 384 * a.val + 128 * h.val + d.val; omega

include h1 in
theorem v6_at (a : Fin 4) (i : Fin 8448) (d : Fin 128) : val_main_v6 (F := Ideal) x1 (ix3 a i d) = (group x1 a i d : EReal) := by
  rw [val_main_v6_apply, val_main_v5_apply, val_main_v1_apply]
  refine Eq.trans ?_ (coe_toReal (h1 _)).symm
  show x1 _ = x1 _
  refine congrArg x1 (funext fun b => Fin.ext ?_)
  match b with
  | ⟨0, _⟩ => show ((i.val * 4 + a.val) * 128 + d.val) / 512 = i.val; omega
  | ⟨1, _⟩ => show ((i.val * 4 + a.val) * 128 + d.val) % 512 = 128 * a.val + d.val; omega

include h2 in
theorem v40_at (a : Fin 4) (i : Fin 8448) (d : Fin 128) : val_main_v40 (F := Ideal) x2 (ix3 a i d) = (group x2 a i d : EReal) := by
  rw [val_main_v40_apply, val_main_v39_apply, val_main_v2_apply]
  refine Eq.trans ?_ (coe_toReal (h2 _)).symm
  show x2 _ = x2 _
  refine congrArg x2 (funext fun b => Fin.ext ?_)
  match b with
  | ⟨0, _⟩ => show ((i.val * 4 + a.val) * 128 + d.val) / 512 = i.val; omega
  | ⟨1, _⟩ => show ((i.val * 4 + a.val) * 128 + d.val) % 512 = 128 * a.val + d.val; omega

include h3 in
theorem v48_at (a : Fin 4) (h : Fin 3) (i : Fin 8448) (d : Fin 128) :
    val_main_v48 (F := Ideal) x3 (ix4 a h i d) = (cots x3 a h i d : EReal) := by
  rw [val_main_v48_apply, val_main_v47_apply, val_main_v46_apply]
  refine Eq.trans ?_ (coe_toReal (h3 _)).symm
  refine congrArg x3 (funext fun b => Fin.ext ?_)
  match b with
  | ⟨0, _⟩ => show (((i.val * 4 + a.val) * 3 + h.val) * 128 + d.val) / 1536 = i.val; omega
  | ⟨1, _⟩ =>
    show 512 + (((i.val * 4 + a.val) * 3 + h.val) * 128 + d.val) % 1536 = 512 + (384 * a.val + 128 * h.val + d.val)
    omega
end Heads

/-! ## Scores and weights -/

/-- The word for 128 is the number. -/
theorem word_128 : Ideal.ofBits .f32 0x43000000#32 = ((128 : ℝ) : EReal) := by
  unfold Ideal.ofBits Ideal.ieee
  norm_num [BitVec.extractLsb', Nat.shiftRight_eq_div_pow]

theorem word_neg_inf : Ideal.ofBits .f32 0xFF800000#32 = (⊥ : EReal) := by
  unfold Ideal.ofBits Ideal.ieee
  norm_num [BitVec.extractLsb', Nat.shiftRight_eq_div_pow]

theorem word_one : Ideal.ofBits .f32 0x3F800000#32 = ((1 : ℝ) : EReal) := by
  unfold Ideal.ofBits Ideal.ieee
  norm_num [BitVec.extractLsb', Nat.shiftRight_eq_div_pow]

theorem v8_at (y : S_.Idx) : val_main_v8 (F := Ideal) y = ((√128 : ℝ) : EReal) := by
  rw [val_main_v8_apply, val_main_cst_apply, Ideal.ofBits_def, word_128, Ideal.hostUnary_sqrt_def, Ideal.sqrt_coe, if_neg (by norm_num)]

variable (h0 : ∀ y, IsReal (x0 y)) (h1 : ∀ y, IsReal (x1 y)) (h2 : ∀ y, IsReal (x2 y)) (h3 : ∀ y, IsReal (x3 y))

include h0 h1 in
theorem v10_at (a : Fin 4) (h : Fin 3) (i s : Fin 8448) :
    val_main_v10 (F := Ideal) x0 x1 (ix4 a h i s) = (sc (heads x0) (group x1) a h i s : EReal) := by
  rw [val_main_v10_apply, val_main_v9_apply, v8_at, val_main_v7_apply, Ideal.hostDivf_def]
  have e : ∀ d : Fin 128, val_main_v4 (F := Ideal) x0 (lidx_main_v7 (ix4 a h i s) d) * val_main_v6 (F := Ideal) x1 (ridx_main_v7 (ix4 a h i s) d)
      = ((heads x0 a h i d * group x1 a s d : ℝ) : EReal) := fun d => by
    rw [EReal.coe_mul, ← v4_at x0 h0, ← v6_at x1 h1]
    exact congrArg₂ (· * ·)
      (congrArg (val_main_v4 (F := Ideal) x0) (funext fun b => match b with | ⟨0, _⟩ => rfl | ⟨1, _⟩ => rfl | ⟨2, _⟩ => rfl | ⟨3, _⟩ => rfl))
      (congrArg (val_main_v6 (F := Ideal) x1) (funext fun b => match b with | ⟨0, _⟩ => rfl | ⟨1, _⟩ => rfl | ⟨2, _⟩ => rfl))
  rw [Finset.sum_congr rfl fun d _ => e d, ← coe_sum, div_coe_coe _ sqrt_ne]
  rfl

include h0 h1 in
theorem v11_real (a : Fin 4) (h : Fin 3) (i : Fin 8448) : IsReal (val_main_v11 (F := Ideal) x0 x1 (ix3 a h i)) := by
  have e : val_main_v11 (F := Ideal) x0 x1 (ix3 a h i)
      = Finset.univ.fold max (⊥ : EReal) fun s : Fin 8448 => (sc (heads x0) (group x1) a h i s : EReal) := by
    simp only [← v10_at x0 x1 h0 h1]
    unfold val_main_v11
    generalize val_main_v10 (F := Ideal) x0 x1 = y
    have hb : val_main_cst_0 (F := Ideal) (Shape.Idx.first h_S_) = ⊥ := word_neg_inf
    rw [← hb]
    simp only [pointwise, index_four]
  rw [e]
  exact fold_max_real _

/-- The largest score of a row. -/
def top (a : Fin 4) (h : Fin 3) (i : Fin 8448) : ℝ := (val_main_v11 (F := Ideal) x0 x1 (ix3 a h i)).toReal

include h0 h1 in
theorem v11_at (a : Fin 4) (h : Fin 3) (i : Fin 8448) : val_main_v11 (F := Ideal) x0 x1 (ix3 a h i) = (top x0 x1 a h i : EReal) :=
  (coe_toReal (v11_real x0 x1 h0 h1 a h i)).symm

include h0 h1 in
theorem v31_at (a : Fin 4) (h : Fin 3) (i s : Fin 8448) :
    val_main_v31 (F := Ideal) x0 x1 (ix4 a h i s) = (Real.exp (sc (heads x0) (group x1) a h i s - top x0 x1 a h i) : EReal) := by
  have e : val_main_v29 (F := Ideal) x0 x1 (ix4 a h i s) = (top x0 x1 a h i : EReal) := by
    rw [val_main_v29_apply, val_main_v28_apply, val_main_v18_apply, val_main_v17_apply, val_main_cst_2_apply, Ideal.ofBits_def, word_neg_inf,
      Ideal.maximumf_def, max_eq_right bot_le, ← v11_at x0 x1 h0 h1]
    exact congrArg (val_main_v11 (F := Ideal) x0 x1) (funext fun b => match b with | ⟨0, _⟩ => rfl | ⟨1, _⟩ => rfl | ⟨2, _⟩ => rfl)
  rw [val_main_v31_apply, val_main_v30_apply, e, v10_at x0 x1 h0 h1, Ideal.subf_def, ← EReal.coe_sub, Ideal.hostUnary_exp_def, Ideal.exp_coe]

/-- A row's total. -/
def tot (a : Fin 4) (h : Fin 3) (i : Fin 8448) : ℝ := ∑ s, Real.exp (sc (heads x0) (group x1) a h i s - top x0 x1 a h i)

theorem tot_ne (a : Fin 4) (h : Fin 3) (i : Fin 8448) : tot x0 x1 a h i ≠ 0 := (total_pos _ _).ne'

include h0 h1 in
theorem v32_at (a : Fin 4) (h : Fin 3) (i : Fin 8448) : val_main_v32 (F := Ideal) x0 x1 (ix3 a h i) = (tot x0 x1 a h i : EReal) := by
  rw [val_main_v32_apply, val_main_cst_8_apply, Ideal.ofBits_def, Ideal.ofBits_zero_f32, zero_add]
  unfold tot
  rw [coe_sum]
  refine Finset.sum_congr rfl fun s _ => ?_
  rw [← v31_at x0 x1 h0 h1]
  exact congrArg (val_main_v31 (F := Ideal) x0 x1) (funext fun b => match b with | ⟨0, _⟩ => rfl | ⟨1, _⟩ => rfl | ⟨2, _⟩ => rfl | ⟨3, _⟩ => rfl)

include h0 h1 in
theorem v33_at (a : Fin 4) (h : Fin 3) (i : Fin 8448) (u : Fin 1) :
    val_main_v33 (F := Ideal) x0 x1 (ix4 a h i u) = (tot x0 x1 a h i : EReal) := by
  rw [val_main_v33_apply, ← v32_at x0 x1 h0 h1]
  exact congrArg (val_main_v32 (F := Ideal) x0 x1) (funext fun b => match b with | ⟨0, _⟩ => rfl | ⟨1, _⟩ => rfl | ⟨2, _⟩ => rfl)

include h0 h1 in
theorem v42_at (a : Fin 4) (h : Fin 3) (i s : Fin 8448) :
    val_main_v42 (F := Ideal) x0 x1 (ix4 a h i s) = (P (heads x0) (group x1) a h i s : EReal) := by
  have e : val_main_v34 (F := Ideal) x0 x1 (ix4 a h i s) = (tot x0 x1 a h i : EReal) := by
    rw [val_main_v34_apply, ← v33_at x0 x1 h0 h1 a h i 0]
    exact congrArg (val_main_v33 (F := Ideal) x0 x1) (funext fun b => match b with | ⟨0, _⟩ => rfl | ⟨1, _⟩ => rfl | ⟨2, _⟩ => rfl | ⟨3, _⟩ => rfl)
  rw [val_main_v42_apply, val_main_v41_apply, val_main_v35_apply, e, v31_at x0 x1 h0 h1, Ideal.extf_def, Ideal.truncf_def, Ideal.hostDivf_def,
    div_coe_coe _ (tot_ne x0 x1 a h i)]
  exact congrArg _ (softmax_shift (sc (heads x0) (group x1) a h i) (top x0 x1 a h i) s)

/-! ## The backward pass -/

include h2 h3 in
theorem v53_at (a : Fin 4) (h : Fin 3) (i s : Fin 8448) :
    val_main_v53 (F := Ideal) x2 x3 (ix4 a h i s) = (dP (group x2) (cots x3) a h i s : EReal) := by
  rw [val_main_v53_apply, val_main_v52_apply, val_main_v51_apply, Ideal.extf_def, Ideal.truncf_def]
  unfold dP
  rw [coe_sum]
  refine Finset.sum_congr rfl fun d _ => ?_
  rw [EReal.coe_mul, ← v48_at x3 h3, ← v40_at x2 h2]
  exact congrArg₂ (· * ·)
    (congrArg (val_main_v48 (F := Ideal) x3) (funext fun b => match b with | ⟨0, _⟩ => rfl | ⟨1, _⟩ => rfl | ⟨2, _⟩ => rfl | ⟨3, _⟩ => rfl))
    (congrArg (val_main_v40 (F := Ideal) x2) (funext fun b => match b with | ⟨0, _⟩ => rfl | ⟨1, _⟩ => rfl | ⟨2, _⟩ => rfl))

include h0 h1 h2 h3 in
theorem v58_at (a : Fin 4) (h : Fin 3) (i s : Fin 8448) :
    val_main_v58 (F := Ideal) x0 x1 x2 x3 (ix4 a h i s)
      = (dP (group x2) (cots x3) a h i s * (1 / (tot x0 x1 a h i * tot x0 x1 a h i))
          * Real.exp (sc (heads x0) (group x1) a h i s - top x0 x1 a h i) : ℝ) := by
  have e : val_main_v56 (F := Ideal) x0 x1 (ix4 a h i s) = ((1 / (tot x0 x1 a h i * tot x0 x1 a h i) : ℝ) : EReal) := by
    have e33 : val_main_v33 (F := Ideal) x0 x1 (idx_main_v56 (ix4 a h i s)) = (tot x0 x1 a h i : EReal) := by
      rw [← v33_at x0 x1 h0 h1 a h i 0]
      exact congrArg (val_main_v33 (F := Ideal) x0 x1) (funext fun b => match b with | ⟨0, _⟩ => rfl | ⟨1, _⟩ => rfl | ⟨2, _⟩ => rfl | ⟨3, _⟩ => rfl)
    rw [val_main_v56_apply, val_main_v38_apply, val_main_v37_apply, val_main_cst_9_apply, val_main_v36_apply, e33, Ideal.ofBits_def, word_one,
      Ideal.mulf_def, Ideal.hostDivf_def, ← EReal.coe_mul, div_coe_coe _ (mul_ne_zero (tot_ne x0 x1 a h i) (tot_ne x0 x1 a h i))]
  rw [val_main_v58_apply, val_main_v57_apply, e, v53_at x2 x3 h2 h3, v31_at x0 x1 h0 h1, Ideal.mulf_def, Ideal.mulf_def, ← EReal.coe_mul, ← EReal.coe_mul]

include h0 h1 h2 h3 in
theorem v61_at (a : Fin 4) (h : Fin 3) (i : Fin 8448) (u : Fin 1) :
    val_main_v61 (F := Ideal) x0 x1 x2 x3 (ix4 a h i u)
      = (-(∑ s, dP (group x2) (cots x3) a h i s * (1 / (tot x0 x1 a h i * tot x0 x1 a h i))
          * Real.exp (sc (heads x0) (group x1) a h i s - top x0 x1 a h i)) : ℝ) := by
  rw [val_main_v61_apply, Ideal.hostNegf_def, Ideal.negf_def, EReal.coe_neg, val_main_v60_apply, val_main_v59_apply, val_main_cst_10_apply,
    Ideal.ofBits_def, Ideal.ofBits_zero_f32, zero_add, coe_sum]
  refine congrArg (- ·) (Finset.sum_congr rfl fun s _ => ?_)
  rw [← v58_at x0 x1 x2 x3 h0 h1 h2 h3]
  refine congrArg (val_main_v58 (F := Ideal) x0 x1 x2 x3) (funext fun b => Fin.ext ?_)
  have hu := u.isLt
  match b with
  | ⟨0, _⟩ => show (((a.val * 3 + h.val) * 8448 + i.val) * 1 + u.val) / 25344 = a.val; omega
  | ⟨1, _⟩ => show (((a.val * 3 + h.val) * 8448 + i.val) * 1 + u.val) / 8448 % 3 = h.val; omega
  | ⟨2, _⟩ => show (((a.val * 3 + h.val) * 8448 + i.val) * 1 + u.val) % 8448 = i.val; omega
  | ⟨3, _⟩ => rfl

include h0 h1 h2 h3 in
theorem v69_at (a : Fin 4) (h : Fin 3) (i s : Fin 8448) :
    val_main_v69 (F := Ideal) x0 x1 x2 x3 (ix4 a h i s)
      = (DS (heads x0) (group x1) (group x2) (cots x3) a h i s / √128 : ℝ) := by
  have e62 : val_main_v62 (F := Ideal) x0 x1 (ix4 a h i s) = (tot x0 x1 a h i : EReal) := by
    rw [val_main_v62_apply, ← v33_at x0 x1 h0 h1 a h i 0]
    exact congrArg (val_main_v33 (F := Ideal) x0 x1) (funext fun b => match b with | ⟨0, _⟩ => rfl | ⟨1, _⟩ => rfl | ⟨2, _⟩ => rfl | ⟨3, _⟩ => rfl)
  have e65 : val_main_v65 (F := Ideal) x0 x1 x2 x3 (ix4 a h i s) = val_main_v61 (F := Ideal) x0 x1 x2 x3 (ix4 a h i 0) := by
    rw [val_main_v65_apply, val_main_v64_apply, val_main_cst_11_apply, Ideal.ofBits_def, Ideal.ofBits_zero_f32, zero_add, Fin.sum_univ_one]
    exact congrArg (val_main_v61 (F := Ideal) x0 x1 x2 x3) (funext fun b => match b with | ⟨0, _⟩ => rfl | ⟨1, _⟩ => rfl | ⟨2, _⟩ => rfl | ⟨3, _⟩ => rfl)
  rw [val_main_v69_apply, val_main_v68_apply, v8_at, val_main_v67_apply, val_main_v66_apply, val_main_v63_apply, e62, e65,
    v61_at x0 x1 x2 x3 h0 h1 h2 h3, v53_at x2 x3 h2 h3, v31_at x0 x1 h0 h1, Ideal.hostDivf_def, Ideal.hostDivf_def, Ideal.mulf_def, Ideal.addf_def,
    div_coe_coe _ (tot_ne x0 x1 a h i), ← EReal.coe_add, ← EReal.coe_mul, div_coe_coe _ sqrt_ne]
  exact congrArg (fun x : ℝ => ((x / √128 : ℝ) : EReal))
    (quotient_rule (sc (heads x0) (group x1) a h i) (top x0 x1 a h i) (dP (group x2) (cots x3) a h i) s)

/-! ## The results -/

include h0 h1 h3 in
theorem v49_at (a : Fin 4) (d : Fin 128) (s : Fin 8448) :
    val_main_v49 (F := Ideal) x0 x1 x3 (ix3 a d s) = (DV (heads x0) (group x1) (cots x3) a s d : EReal) := by
  have e : val_main_v49 (F := Ideal) x0 x1 x3 (ix3 a d s)
      = ∑ h : Fin 3, ∑ i : Fin 8448, val_main_v48 (F := Ideal) x3 (ix4 a h i d) * val_main_v42 (F := Ideal) x0 x1 (ix4 a h i s) := by
    unfold val_main_v49
    generalize val_main_v48 (F := Ideal) x3 = y0
    generalize val_main_v42 (F := Ideal) x0 x1 = y1
    simp only [Host.dotGeneral, pointwise, index_four, zero_add]
  rw [e]
  unfold DV
  simp only [coe_sum]
  refine Finset.sum_congr rfl fun h _ => Finset.sum_congr rfl fun i _ => ?_
  rw [v48_at x3 h3, v42_at x0 x1 h0 h1, ← EReal.coe_mul, mul_comm]

include h0 h1 h2 h3 in
theorem v70_at (a : Fin 4) (s : Fin 8448) (d : Fin 128) :
    val_main_v70 (F := Ideal) x0 x1 x2 x3 (ix3 a s d) = (DK (heads x0) (group x1) (group x2) (cots x3) a s d : EReal) := by
  have e : val_main_v70 (F := Ideal) x0 x1 x2 x3 (ix3 a s d)
      = ∑ h : Fin 3, ∑ i : Fin 8448, val_main_v69 (F := Ideal) x0 x1 x2 x3 (ix4 a h i s) * val_main_v4 (F := Ideal) x0 (ix4 a h i d) := by
    unfold val_main_v70
    generalize val_main_v69 (F := Ideal) x0 x1 x2 x3 = y0
    generalize val_main_v4 (F := Ideal) x0 = y1
    simp only [Host.dotGeneral, pointwise, index_four, zero_add]
  rw [e]
  unfold DK
  simp only [coe_sum]
  refine Finset.sum_congr rfl fun h _ => Finset.sum_congr rfl fun i _ => ?_
  rw [v69_at x0 x1 x2 x3 h0 h1 h2 h3, v4_at x0 h0, ← EReal.coe_mul]

include h0 h1 h2 h3 in
theorem v71_at (a : Fin 4) (h : Fin 3) (i : Fin 8448) (d : Fin 128) :
    val_main_v71 (F := Ideal) x0 x1 x2 x3 (ix4 a h i d) = (DQ (heads x0) (group x1) (group x2) (cots x3) a h i d : EReal) := by
  rw [val_main_v71_apply]
  unfold DQ
  rw [coe_sum]
  refine Finset.sum_congr rfl fun s _ => ?_
  rw [EReal.coe_mul, ← v69_at x0 x1 x2 x3 h0 h1 h2 h3, ← v6_at x1 h1]
  exact congrArg₂ (· * ·)
    (congrArg (val_main_v69 (F := Ideal) x0 x1 x2 x3) (funext fun b => match b with | ⟨0, _⟩ => rfl | ⟨1, _⟩ => rfl | ⟨2, _⟩ => rfl | ⟨3, _⟩ => rfl))
    (congrArg (val_main_v6 (F := Ideal) x1) (funext fun b => match b with | ⟨0, _⟩ => rfl | ⟨1, _⟩ => rfl | ⟨2, _⟩ => rfl))

include h0 h1 h2 h3 in
/-- The reference's gradient of the queries. -/
theorem queries : val_main_v75 (F := Ideal) x0 x1 x2 x3 = GQ x0 x1 x2 x3 := by
  funext y
  obtain ⟨i, j, rfl⟩ : ∃ i j, y = ix2 i j := ⟨y 0, y 1, eq_ix2 y⟩
  rw [val_main_v75_apply, val_main_v74_apply]
  unfold GQ
  rw [← v71_at x0 x1 x2 x3 h0 h1 h2 h3]
  refine congrArg (val_main_v71 (F := Ideal) x0 x1 x2 x3) (funext fun b => Fin.ext ?_)
  have hj := j.isLt
  match b with
  | ⟨0, _⟩ => show (i.val * 1536 + j.val) / 384 % 4 = j.val / 384; omega
  | ⟨1, _⟩ => show (i.val * 1536 + j.val) / 128 % 3 = j.val / 128 % 3; omega
  | ⟨2, _⟩ => show (i.val * 1536 + j.val) / 1536 = i.val; omega
  | ⟨3, _⟩ => show (i.val * 1536 + j.val) % 128 = j.val % 128; omega

include h0 h1 h2 h3 in
/-- The reference's gradient of the keys. -/
theorem keys : val_main_v73 (F := Ideal) x0 x1 x2 x3 = GK x0 x1 x2 x3 := by
  funext y
  obtain ⟨i, j, rfl⟩ : ∃ i j, y = ix2 i j := ⟨y 0, y 1, eq_ix2 y⟩
  rw [val_main_v73_apply, val_main_v72_apply]
  unfold GK
  rw [← v70_at x0 x1 x2 x3 h0 h1 h2 h3]
  refine congrArg (val_main_v70 (F := Ideal) x0 x1 x2 x3) (funext fun b => Fin.ext ?_)
  have hj := j.isLt
  match b with
  | ⟨0, _⟩ => show (i.val * 512 + j.val) / 128 % 4 = j.val / 128; omega
  | ⟨1, _⟩ => show (i.val * 512 + j.val) / 512 = i.val; omega
  | ⟨2, _⟩ => show (i.val * 512 + j.val) % 128 = j.val % 128; omega

include h0 h1 h3 in
/-- The reference's gradient of the values. -/
theorem values : val_main_v55 (F := Ideal) x0 x1 x3 = GV x0 x1 x3 := by
  funext y
  obtain ⟨i, j, rfl⟩ : ∃ i j, y = ix2 i j := ⟨y 0, y 1, eq_ix2 y⟩
  rw [val_main_v55_apply, val_main_v54_apply, val_main_v50_apply]
  unfold GV
  rw [← v49_at x0 x1 x3 h0 h1 h3]
  refine congrArg (val_main_v49 (F := Ideal) x0 x1 x3) (funext fun b => Fin.ext ?_)
  have hj := j.isLt
  match b with
  | ⟨0, _⟩ => show (i.val * 512 + j.val) / 128 % 4 = j.val / 128; omega
  | ⟨1, _⟩ => show (i.val * 512 + j.val) % 128 = j.val % 128; omega
  | ⟨2, _⟩ => show (i.val * 512 + j.val) / 512 = i.val; omega

end Att.Ref

end
-- ==== Proof.AttHost.lean ====
/-
  What the host prepares for the attention backward kernel, over real inputs: the scaled queries, the values beside
  ones, and the two row statistics; then what a grid point's blocks read of them.
-/
module

public import proofs.«01_k».proof.Proof.AttPay
public import proofs.«01_k».proof.Proof.AttFrame
public import proofs.«01_k».proof.Proof.AttRef

@[expose] public section

set_option maxRecDepth 16384

noncomputable section

namespace Att.Host

open Cert.AttGradIdeal Cert.AttGradIdeal.Gen Cert.AttGradIdeal.Hand Idealize.ShloMosaic.ValueIdx
open Idealize.ShloMosaic.TcCoe
open Idealize.ShloMosaic hiding ix1 ix2 ix3 ix4 eq_ix1 eq_ix2 eq_ix3 eq_ix4 mulf_apply addf_apply subf_apply constant_apply
open Ffn (Mat IsReal)
open Att.Ref (top tot index_four)

attribute [local instance] Cert.AttGradIdeal.Gen.facts

/-! ## The row statistics, as functions of the scores and their largest -/

/-- Exponentials of shifted scores. -/
def shifted (y : FVec Ideal S4x3x8448x8448 .f32) (t : FVec Ideal S4x3x8448 .f32) : FVec Ideal S4x3x8448x8448 .f32 :=
  Host.exp (subf y (broadcastInDim S4x3x8448x8448 ![0, 1, 2, 3] bcast_S4x3x8448x1_S4x3x8448x8448_0_1_2_3
    (broadcastInDim S4x3x8448x1 ![0, 1, 2] bcast_S4x3x8448_S4x3x8448x1_0_1_2 t)))

/-- Their totals. -/
def totals (e : FVec Ideal S4x3x8448x8448 .f32) : FVec Ideal S4x3x8448 .f32 :=
  Host.reduceAdd e (constant S_ .f32 0x00000000#32) reducesTo_S4x3x8448x8448_S4x3x8448_d3 h_S_

/-- The logarithms to base two. -/
def logs (t z : FVec Ideal S4x3x8448 .f32) : FVec Ideal S4x3x8448 .f32 :=
  Host.divf (addf t (Host.log z)) (broadcastInDim S4x3x8448 ![] bcast_S_S4x3x8448 (Host.log (constant S_ .f32 0x40000000#32)))

/-- The outputs. -/
def outs (e : FVec Ideal S4x3x8448x8448 .f32) (z : FVec Ideal S4x3x8448 .f32) (v : FVec Ideal S4x8448x128 .f32) : FVec Ideal S4x3x8448x128 .f32 :=
  Host.dotGeneral dot_S4x3x8448x8448_S4x8448x128_S4x3x8448x128_3_1_12_2_0_0 none
    (Host.divf e (broadcastInDim S4x3x8448x8448 ![0, 1, 2, 3] bcast_S4x3x8448x1_S4x3x8448x8448_0_1_2_3
      (broadcastInDim S4x3x8448x1 ![0, 1, 2] bcast_S4x3x8448_S4x3x8448x1_0_1_2 z))) v

/-- The outputs' products with their cotangents. -/
def means (o g : FVec Ideal S4x3x8448x128 .f32) : FVec Ideal S4x3x8448 .f32 :=
  Host.reduceAdd (mulf o g) (constant S_ .f32 0x00000000#32) reducesTo_S4x3x8448x128_S4x3x8448_d3 h_S_

theorem word_2 : Ideal.ofBits .f32 0x40000000#32 = ((2 : ℝ) : EReal) := by
  unfold Ideal.ofBits Ideal.ieee
  norm_num [BitVec.extractLsb', Nat.shiftRight_eq_div_pow]

theorem log_word (y : S_.Idx) : Host.log (F := Ideal) (constant S_ .f32 0x40000000#32) y = ((Real.log 2 : ℝ) : EReal) := by
  show FloatOps.hostUnary .log (Ideal.ofBits .f32 0x40000000#32 : Ideal .f32) = _
  rw [word_2, Ideal.hostUnary_log_def, Ideal.log_coe, if_neg (by norm_num)]

theorem sqrt_word (y : S_.Idx) : Host.sqrt (F := Ideal) (constant S_ .f32 0x43000000#32) y = ((√128 : ℝ) : EReal) :=
  Att.Ref.v8_at y

/-- A row statistic repeated along its row. -/
theorem rep_at (t : FVec Ideal S4x3x8448 .f32) (a : Fin 4) (h : Fin 3) (i s : Fin 8448) :
    broadcastInDim S4x3x8448x8448 ![0, 1, 2, 3] bcast_S4x3x8448x1_S4x3x8448x8448_0_1_2_3
      (broadcastInDim S4x3x8448x1 ![0, 1, 2] bcast_S4x3x8448_S4x3x8448x1_0_1_2 t) (ix4 a h i s) = t (ix3 a h i) :=
  (broadcastInDim_apply _ _ _ (ix4 a h i s) (ix4 a h i 0) fun b => match b with | ⟨0, _⟩ => rfl | ⟨1, _⟩ => rfl | ⟨2, _⟩ => rfl | ⟨3, _⟩ => rfl).trans
    (broadcastInDim_apply _ _ t _ (ix3 a h i) fun b => match b with | ⟨0, _⟩ => rfl | ⟨1, _⟩ => rfl | ⟨2, _⟩ => rfl)

section Stats
variable (y : FVec Ideal S4x3x8448x8448 .f32) (t : FVec Ideal S4x3x8448 .f32) (v : FVec Ideal S4x8448x128 .f32) (o : FVec Ideal S4x3x8448x128 .f32)
variable (q : Heads) (k w : Group) (g : Heads) (M : Fin 4 → Fin 3 → Fin 8448 → ℝ)
variable (hy : ∀ a h i s, y (ix4 a h i s) = (sc q k a h i s : EReal)) (ht : ∀ a h i, t (ix3 a h i) = (M a h i : EReal))
variable (hv : ∀ a s d, v (ix3 a s d) = (w a s d : EReal)) (ho : ∀ a h i d, o (ix4 a h i d) = (g a h i d : EReal))

/-- A row's total. -/
def total (a : Fin 4) (h : Fin 3) (i : Fin 8448) : ℝ := ∑ s, Real.exp (sc q k a h i s - M a h i)

theorem total_gt (a : Fin 4) (h : Fin 3) (i : Fin 8448) : 0 < total q k M a h i := total_pos (sc q k a h i) (M a h i)

include hy ht in
theorem shifted_at (a : Fin 4) (h : Fin 3) (i s : Fin 8448) :
    shifted y t (ix4 a h i s) = (Real.exp (sc q k a h i s - M a h i) : EReal) := by
  unfold shifted
  show FloatOps.hostUnary .exp (FloatOps.subf (y (ix4 a h i s)) _) = _
  rw [rep_at, hy, ht, Ideal.subf_def, ← EReal.coe_sub, Ideal.hostUnary_exp_def, Ideal.exp_coe]

include hy ht in
theorem totals_at (a : Fin 4) (h : Fin 3) (i : Fin 8448) : totals (shifted y t) (ix3 a h i) = (total q k M a h i : EReal) := by
  have e : totals (shifted y t) (ix3 a h i) = ∑ s, shifted y t (ix4 a h i s) := by
    unfold totals
    generalize shifted y t = x
    simp only [pointwise, index_four, zero_add]
  rw [e]
  unfold total
  rw [coe_sum]
  exact Finset.sum_congr rfl fun s _ => shifted_at y t q k M hy ht a h i s

include hy ht in
theorem logs_at (a : Fin 4) (h : Fin 3) (i : Fin 8448) :
    logs t (totals (shifted y t)) (ix3 a h i) = (lse2 q k (M a h i) a h i : EReal) := by
  unfold logs
  show FloatOps.hostDivf (FloatOps.addf (t (ix3 a h i)) (FloatOps.hostUnary .log (totals (shifted y t) (ix3 a h i))))
    (broadcastInDim S4x3x8448 ![] bcast_S_S4x3x8448 (Host.log (constant S_ .f32 0x40000000#32)) (ix3 a h i)) = _
  rw [broadcastInDim_apply _ _ _ _ (fun b => b.elim0) (fun b => b.elim0), log_word, ht, totals_at y t q k M hy ht, Ideal.hostUnary_log_def, Ideal.log_coe,
    if_neg (not_le.mpr (total_gt q k M a h i)), Ideal.addf_def, ← EReal.coe_add, Ideal.hostDivf_def, div_coe_coe _ log_two_ne]
  rfl

include hy ht in
theorem weights_at (a : Fin 4) (h : Fin 3) (i s : Fin 8448) :
    Host.divf (shifted y t) (broadcastInDim S4x3x8448x8448 ![0, 1, 2, 3] bcast_S4x3x8448x1_S4x3x8448x8448_0_1_2_3
      (broadcastInDim S4x3x8448x1 ![0, 1, 2] bcast_S4x3x8448_S4x3x8448x1_0_1_2 (totals (shifted y t)))) (ix4 a h i s)
      = (P q k a h i s : EReal) := by
  show FloatOps.hostDivf (shifted y t (ix4 a h i s)) _ = _
  rw [rep_at, shifted_at y t q k M hy ht, totals_at y t q k M hy ht, Ideal.hostDivf_def, div_coe_coe _ (total_gt q k M a h i).ne']
  exact congrArg Real.toEReal (softmax_shift (sc q k a h i) (M a h i) s)

include hy ht in
theorem outs_mul (a : Fin 4) (h : Fin 3) (i : Fin 8448) (d : Fin 128) :
    outs (shifted y t) (totals (shifted y t)) v (ix4 a h i d) = ∑ s, (P q k a h i s : EReal) * v (ix3 a s d) := by
  have hw := weights_at y t q k M hy ht a h i
  unfold outs
  generalize Host.divf (shifted y t) _ = x at hw ⊢
  have e : Host.dotGeneral dot_S4x3x8448x8448_S4x8448x128_S4x3x8448x128_3_1_12_2_0_0 none x v (ix4 a h i d)
      = ∑ s, x (ix4 a h i s) * v (ix3 a s d) := by
    let n := dot_S4x3x8448x8448_S4x8448x128_S4x3x8448x128_3_1_12_2_0_0
    simp only [Host.dotGeneral]
    rw [Ideal.dotGeneral_apply, ← Equiv.sum_comp (contrEquiv1 n 8448 rfl rfl).symm]
    refine Finset.sum_congr rfl fun s _ => ?_
    have hs := contrEquiv1_symm_val n 8448 rfl rfl s
    refine congrArg₂ (· * ·) (congrArg x (funext fun b => Fin.ext ?_)) (congrArg v (funext fun b => Fin.ext ?_))
    · match b with
      | ⟨0, _⟩ => exact Cert.AttGradReferenceIdeal.Read.lhs_main_v71_0 _ _
      | ⟨1, _⟩ => exact Cert.AttGradReferenceIdeal.Read.lhs_main_v71_1 _ _
      | ⟨2, _⟩ => exact Cert.AttGradReferenceIdeal.Read.lhs_main_v71_2 _ _
      | ⟨3, _⟩ => exact (Cert.AttGradReferenceIdeal.Read.lhs_main_v71_3 _ _).trans hs
    · match b with
      | ⟨0, _⟩ => exact Cert.AttGradReferenceIdeal.Read.rhs_main_v71_0 _ _
      | ⟨1, _⟩ => exact (Cert.AttGradReferenceIdeal.Read.rhs_main_v71_1 _ _).trans hs
      | ⟨2, _⟩ => exact Cert.AttGradReferenceIdeal.Read.rhs_main_v71_2 _ _
  rw [e]
  exact Finset.sum_congr rfl fun s _ => by rw [hw]

include hy ht hv in
theorem outs_at (a : Fin 4) (h : Fin 3) (i : Fin 8448) (d : Fin 128) :
    outs (shifted y t) (totals (shifted y t)) v (ix4 a h i d) = ((∑ s, P q k a h i s * w a s d : ℝ) : EReal) := by
  rw [outs_mul y t v q k M hy ht, coe_sum]
  exact Finset.sum_congr rfl fun s _ => by rw [hv, EReal.coe_mul]

include hy ht hv ho in
theorem means_at (a : Fin 4) (h : Fin 3) (i : Fin 8448) :
    means (outs (shifted y t) (totals (shifted y t)) v) o (ix3 a h i) = (D q k w g a h i : EReal) := by
  have e : means (outs (shifted y t) (totals (shifted y t)) v) o (ix3 a h i)
      = ∑ d, outs (shifted y t) (totals (shifted y t)) v (ix4 a h i d) * o (ix4 a h i d) := by
    unfold means
    generalize outs (shifted y t) (totals (shifted y t)) v = x
    simp only [pointwise, index_four, zero_add]
  rw [e, ← D_eq, coe_sum]
  exact Finset.sum_congr rfl fun d _ => by rw [outs_at y t v q k w M hy ht hv, ho, EReal.coe_mul]
end Stats

/-! ## The queries and the values as the kernels take them -/

/-- Queries divided by `√128 · log 2`. -/
abbrev scaled (x : Mat 8448 1536) : FVec Ideal S8448x1536 .bf16 :=
  truncf .bf16 (Host.divf (extf .f32 (x : FVec Ideal S8448x1536 .bf16) bitsLt_bf16_f32)
    (broadcastInDim S8448x1536 ![] bcast_S_S8448x1536 (mulf (Host.sqrt (constant S_ .f32 0x43000000#32)) (Host.log (constant S_ .f32 0x40000000#32)))))
      bitsLt_bf16_f32

theorem scaled_at (x : Mat 8448 1536) (hx : ∀ y, IsReal (x y)) (a : Fin 4) (h : Fin 3) (i : Fin 8448) (d : Fin 128) :
    scaled x (ix2 i (qcol a h d)) = ((heads x a h i d / (√128 * Real.log 2) : ℝ) : EReal) := by
  show FloatOps.hostDivf (F := Ideal) (φ := .f32) (x (ix2 i (qcol a h d))) (broadcastInDim S8448x1536 ![] bcast_S_S8448x1536
    (mulf (Host.sqrt (constant S_ .f32 0x43000000#32)) (Host.log (constant S_ .f32 0x40000000#32))) (ix2 i (qcol a h d))) = _
  rw [broadcastInDim_apply _ _ _ _ (fun b => b.elim0) (fun b => b.elim0), mulf_apply, sqrt_word, log_word, Ideal.hostDivf_def, ← EReal.coe_mul,
    ← coe_toReal (hx _), div_coe_coe _ (mul_ne_zero sqrt_ne log_two_ne)]
  rfl

/-- The values of each key head, with as many columns of ones beside them. -/
abbrev beside (x : Mat 8448 512) : FVec Ideal S8448x1024 .bf16 :=
  shapeCast S8448x1024 (concatenate S8448x4x256 2
    [⟨S8448x4x128, (shapeCast S8448x4x128 (x : FVec Ideal S8448x512 .bf16) shapeCasts_S8448x512_S8448x4x128 : FVec Ideal S8448x4x128 .bf16)⟩,
     ⟨S8448x4x128, (broadcastInDim S8448x4x128 ![] bcast_S_S8448x4x128 (constant S_ .bf16 0x3F80#16) : FVec Ideal S8448x4x128 .bf16)⟩]
    concatenates_S8448x4x128_S8448x4x128_S8448x4x256_d2) shapeCasts_S8448x4x256_S8448x1024

theorem word_one : Ideal.ofBits .bf16 0x3F80#16 = 1 := by
  unfold Ideal.ofBits Ideal.ieee
  norm_num [BitVec.extractLsb', Nat.shiftRight_eq_div_pow]

/-- A column of them: a value, or a one. -/
theorem beside_at (x : Mat 8448 512) (a : Fin 4) (i : Fin 8448) (e : Fin 256) :
    beside x (ix2 i (⟨256 * a.val + e.val, by omega⟩ : Fin 1024)) = if h : e.val < 128 then x (ix2 i (kcol a ⟨e.val, h⟩)) else 1 := by
  refine (shapeCast_apply _ _ _ (ix3 i a e) (by
    rw [Shape.rowMajor_val_three, Shape.rowMajor_val_two]
    show (i.val * 4 + a.val) * 256 + e.val = i.val * 1024 + (256 * a.val + e.val)
    omega)).trans ?_
  have c : ∀ (y z : FVec Ideal S8448x4x128 .bf16), (∀ j, z j = 1) → concatenate S8448x4x256 2 [⟨S8448x4x128, y⟩, ⟨S8448x4x128, z⟩]
      concatenates_S8448x4x128_S8448x4x128_S8448x4x256_d2 (ix3 i a e) = if h : e.val < 128 then y (ix3 i a ⟨e.val, h⟩) else 1 := fun y z hz => by
    have hy : ∀ z : S8448x4x128.Idx, ∀ h : e.val < 128, (z 0).val = i.val → (z 1).val = a.val → (z 2).val = e.val → y z = y (ix3 i a ⟨e.val, h⟩) :=
      fun z h z0 z1 z2 => congrArg y (funext fun b => Fin.ext (match b with | ⟨0, _⟩ => z0 | ⟨1, _⟩ => z1 | ⟨2, _⟩ => z2))
    simp only [pointwise]
    by_cases h : e.val < 128
    · exact ((dif_pos h).trans (hy _ h rfl rfl rfl)).trans (dif_pos h).symm
    · exact ((dif_neg h).trans (hz _)).trans (dif_neg h).symm
  refine (c _ _ fun j => (broadcastInDim_apply _ _ _ j (fun b => b.elim0) (fun b => b.elim0)).trans word_one).trans ?_
  refine dite_congr rfl (fun h => ?_) fun _ => rfl
  exact shapeCast_apply _ _ _ (ix2 i (kcol a ⟨e.val, h⟩)) (by
    rw [Shape.rowMajor_val_three, Shape.rowMajor_val_two]
    show i.val * 512 + (128 * a.val + e.val) = (i.val * 4 + a.val) * 128 + e.val
    omega)

/-! ## The arrays the host leaves -/

section Arrays
variable (m : (ℓ : Loc nD τ sig) → Buf (Elt Ideal) ℓ) (c : Dev nD)

abbrev q0 : Mat 8448 1536 := m ((c : Thread nD τ).loc main_arg0)
abbrev k0 : Mat 8448 512 := m ((c : Thread nD τ).loc main_arg1)
abbrev v0 : Mat 8448 512 := m ((c : Thread nD τ).loc main_arg2)
abbrev g0 : Mat 8448 2048 := m ((c : Thread nD τ).loc main_arg3)

/-- The scores, which the reference forms in the same way. -/
abbrev scores : FVec Ideal S4x3x8448x8448 .f32 := Cert.AttGradReferenceIdeal.Read.val_main_v10 (F := Ideal) (q0 m c) (k0 m c)
abbrev tops : FVec Ideal S4x3x8448 .f32 := Cert.AttGradReferenceIdeal.Read.val_main_v11 (F := Ideal) (q0 m c) (k0 m c)

theorem V44_eq : V m c main_v44 = (broadcastInDim S12x8448x128 ![0, 1, 2] bcast_S12x8448x1_S12x8448x128_0_1_2
    (shapeCast S12x8448x1 (logs (tops m c) (totals (shifted (scores m c) (tops m c)))) shapeCasts_S4x3x8448_S12x8448x1) : FVec Ideal S12x8448x128 .f32) := by
  unfold V
  after_results
  all_goals rfl

theorem V46_eq : V m c main_v46 = (broadcastInDim S12x8448x128 ![0, 1, 2] bcast_S12x8448x1_S12x8448x128_0_1_2
    (shapeCast S12x8448x1 (means (outs (shifted (scores m c) (tops m c)) (totals (shifted (scores m c) (tops m c)))
        (Cert.AttGradReferenceIdeal.Read.val_main_v40 (F := Ideal) (v0 m c)))
      (Cert.AttGradReferenceIdeal.Read.val_main_v48 (F := Ideal) (g0 m c))) shapeCasts_S4x3x8448_S12x8448x1) : FVec Ideal S12x8448x128 .f32) := by
  unfold V
  after_results
  all_goals rfl

theorem V42_eq : V m c main_v42 = scaled (q0 m c) := by
  unfold V
  after_results
  all_goals rfl

theorem V36_eq : V m c main_v36 = beside (v0 m c) := by
  unfold V
  after_results
  all_goals rfl

/-- The head's place among the twelve. -/
def place (a : Fin 4) (h : Fin 3) : Fin 12 := ⟨3 * a.val + h.val, by omega⟩

/-- A row statistic as the kernel takes it, repeated along 128 columns. -/
theorem stat_at (x : FVec Ideal S4x3x8448 .f32) (a : Fin 4) (h : Fin 3) (i : Fin 8448) (d : Fin 128) :
    broadcastInDim S12x8448x128 ![0, 1, 2] bcast_S12x8448x1_S12x8448x128_0_1_2 (shapeCast S12x8448x1 x shapeCasts_S4x3x8448_S12x8448x1)
      (ix3 (place a h) i d) = x (ix3 a h i) :=
  (broadcastInDim_apply _ _ _ _ (ix3 (place a h) i 0) fun b => match b with | ⟨0, _⟩ => rfl | ⟨1, _⟩ => rfl | ⟨2, _⟩ => rfl).trans
    (shapeCast_apply x _ _ (ix3 a h i) (by
      rw [Shape.rowMajor_val_three, Shape.rowMajor_val_three]
      show (a.val * 3 + h.val) * 8448 + i.val = ((3 * a.val + h.val) * 8448 + i.val) * 1 + 0
      omega))

variable (h0 : ∀ y, IsReal (q0 m c y)) (h1 : ∀ y, IsReal (k0 m c y)) (h2 : ∀ y, IsReal (v0 m c y)) (h3 : ∀ y, IsReal (g0 m c y))

abbrev hq : Heads := heads (q0 m c)
abbrev hk : Group := group (k0 m c)
abbrev hv : Group := group (v0 m c)
abbrev hg : Heads := cots (g0 m c)
abbrev hM : Fin 4 → Fin 3 → Fin 8448 → ℝ := top (q0 m c) (k0 m c)

include h0 h1 in
theorem V44_at (a : Fin 4) (h : Fin 3) (i : Fin 8448) (d : Fin 128) :
    V m c main_v44 (ix3 (place a h) i d) = (lse2 (hq m c) (hk m c) (hM m c a h i) a h i : EReal) := by
  rw [V44_eq]
  exact (stat_at _ a h i d).trans (logs_at (scores m c) (tops m c) (hq m c) (hk m c) (hM m c) (Att.Ref.v10_at _ _ h0 h1) (Att.Ref.v11_at _ _ h0 h1) a h i)

include h0 h1 h2 h3 in
theorem V46_at (a : Fin 4) (h : Fin 3) (i : Fin 8448) (d : Fin 128) :
    V m c main_v46 (ix3 (place a h) i d) = (D (hq m c) (hk m c) (hv m c) (hg m c) a h i : EReal) := by
  rw [V46_eq]
  exact (stat_at _ a h i d).trans (means_at (scores m c) (tops m c) _ _ (hq m c) (hk m c) (hv m c) (hg m c) (hM m c)
    (Att.Ref.v10_at _ _ h0 h1) (Att.Ref.v11_at _ _ h0 h1) (Att.Ref.v40_at _ h2) (Att.Ref.v48_at _ h3) a h i)

include h0 in
theorem V42_at (a : Fin 4) (h : Fin 3) (i : Fin 8448) (d : Fin 128) :
    V m c main_v42 (ix2 i (qcol a h d)) = ((hq m c a h i d / (√128 * Real.log 2) : ℝ) : EReal) := by
  rw [V42_eq]
  exact scaled_at _ h0 a h i d

include h2 in
theorem V36_at (a : Fin 4) (i : Fin 8448) (d : Fin 128) :
    V m c main_v36 (ix2 i (⟨256 * a.val + d.val, by omega⟩ : Fin 1024)) = (hv m c a i d : EReal) := by
  rw [V36_eq]
  exact ((beside_at _ a i ⟨d.val, by omega⟩).trans (dif_pos d.isLt)).trans (coe_toReal (h2 _)).symm

end Arrays

end Att.Host

end
-- ==== Proof.AttBlocks.lean ====
/-
  What a grid point's eight blocks read, over real inputs: rows of one group's queries, cotangents and row
  statistics, and a block of the group's keys and values.
-/
module

public import proofs.«01_k».proof.Proof.AttHost

@[expose] public section

set_option maxRecDepth 16384

noncomputable section

namespace Att.Blocks

open Cert.AttGradIdeal Cert.AttGradIdeal.Gen Cert.AttGradIdeal.Hand Idealize.ShloMosaic.ValueIdx
open Idealize.ShloMosaic.TcCoe
open Idealize.ShloMosaic hiding ix1 ix2 ix3 ix4 eq_ix1 eq_ix2 eq_ix3 eq_ix4 mulf_apply addf_apply subf_apply constant_apply
open Ffn (Mat IsReal)
open Att.Host Att.Pay

attribute [local instance] Cert.AttGradIdeal.Gen.facts

/-! ## Pieces, and three blocks of rows under each other -/

theorem piece_apply {s : Shape} {e : EltTy} (x : Vec Ideal s e) (off size : Fin s.rank → ℕ) (h) (y) (k : s.Idx)
    (hk : ∀ b, (k b).val = off b + 1 * (y b).val) : piece x off size h y = x k :=
  congrArg x (funext fun b => Fin.ext (hk b).symm)

theorem three_at {φ : FTy} (f : Fin 768 → Fin 128 → EReal) (X0 X1 X2 : FVec Ideal S256x128 φ)
    (h0 : ∀ (r : Fin 768) (p : Fin 256) d, r.val = p.val → X0 (ix2 p d) = f r d)
    (h1 : ∀ (r : Fin 768) (p : Fin 256) d, r.val = 256 + p.val → X1 (ix2 p d) = f r d)
    (h2 : ∀ (r : Fin 768) (p : Fin 256) d, r.val = 512 + p.val → X2 (ix2 p d) = f r d) (r : Fin 768) (d : Fin 128) :
    concatenate S768x128 0 [⟨S256x128, X0⟩, ⟨S256x128, X1⟩, ⟨S256x128, X2⟩] concatenates_S256x128_S256x128_S256x128_S768x128_d0 (ix2 r d)
      = f r d := by
  have g : ∀ (X : FVec Ideal S256x128 φ) (n : ℕ) (_ : ∀ (r : Fin 768) (p : Fin 256) d, r.val = n + p.val → X (ix2 p d) = f r d)
      (y : S256x128.Idx), r.val = n + (y 0).val → d.val = (y 1).val → X y = f r d := fun X n hX y y0 y1 =>
    (congrArg X (eq_ix2 y)).trans ((hX r (y 0) (y 1) y0).trans (congrArg (f r) (Fin.ext y1.symm)))
  have g0 := g X0 0 fun r p d e => h0 r p d (e.trans (Nat.zero_add _))
  have g1 := g X1 256 h1
  have g2 := g X2 512 h2
  have hr := r.isLt
  simp only [pointwise]
  split_ifs
  · exact g0 _ (by show r.val = 0 + r.val; omega) rfl
  · rename_i z
    exact absurd trivial z
  · rename_i a b _
    refine g1 _ ?_ ?_
    · have : ¬ r.val < 256 := a
      show r.val = 256 + (r.val - 256)
      omega
    · show d.val = if (1 : Fin 2).val = (0 : Fin 2).val then r.val - 256 else d.val
      exact (if_neg (by decide)).symm
  · rename_i z
    exact absurd trivial z
  · rename_i a b _
    refine g2 _ ?_ ?_
    · have : ¬ r.val < 256 := a
      have : ¬ r.val - 256 < 256 := b
      show r.val = 512 + (r.val - 256 - 256)
      omega
    · show d.val = if (1 : Fin 2).val = (0 : Fin 2).val then r.val - 256 - 256 else d.val
      exact (if_neg (by decide)).symm
  · rename_i z
    exact absurd trivial z

/-- The three heads' queries, side by side in a block, under each other. -/
theorem columns_at (X : Vec Ideal S256x384 .bf16) (f : Fin 768 → Fin 128 → EReal)
    (hX : ∀ (r : Fin 768) (p : Fin 256) (d : Fin 128) (j : Fin 384), r.val % 256 = p.val → j.val = 128 * (r.val / 256) + d.val →
      X (ix2 p j) = f r d) (r : Fin 768) (d : Fin 128) :
    k0_pay5 (piece X ![0, 0] S256x128.size inb_S256x384_S256x128_0_0)
      (piece X ![0, 128] S256x128.size inb_S256x384_S256x128_0_128)
      (piece X ![0, 256] S256x128.size inb_S256x384_S256x128_0_256) (ix2 r d) = f r d := by
  unfold k0_pay5
  dsimp only
  rw [shapeCast_self, shapeCast_self, shapeCast_self]
  refine three_at f _ _ _ ?_ ?_ ?_ r d
  · intro r p d e
    refine (piece_apply X _ _ _ _ (ix2 p (⟨d.val, by omega⟩ : Fin 384)) fun b => ?_).trans
      (hX r p d _ (by omega) (by show d.val = _; omega))
    match b with
    | ⟨0, _⟩ => show p.val = 0 + 1 * p.val; omega
    | ⟨1, _⟩ => show d.val = 0 + 1 * d.val; omega
  · intro r p d e
    refine (piece_apply X _ _ _ _ (ix2 p (⟨128 + d.val, by omega⟩ : Fin 384)) fun b => ?_).trans
      (hX r p d _ (by omega) (by show 128 + d.val = _; omega))
    match b with
    | ⟨0, _⟩ => show p.val = 0 + 1 * p.val; omega
    | ⟨1, _⟩ => show 128 + d.val = 128 + 1 * d.val; omega
  · intro r p d e
    refine (piece_apply X _ _ _ _ (ix2 p (⟨256 + d.val, by omega⟩ : Fin 384)) fun b => ?_).trans
      (hX r p d _ (by omega) (by show 256 + d.val = _; omega))
    match b with
    | ⟨0, _⟩ => show p.val = 0 + 1 * p.val; omega
    | ⟨1, _⟩ => show 256 + d.val = 256 + 1 * d.val; omega

theorem keys_piece (X : Vec Ideal S768x128 .bf16) (s : Fin 768) (d : Fin 128) :
    piece X ![0, 0] S768x128.size inb_S768x128_S768x128_0_0 (ix2 s d) = X (ix2 s d) :=
  piece_apply X _ _ _ _ (ix2 s d) fun b => by
    match b with
    | ⟨0, _⟩ => show s.val = 0 + 1 * s.val; omega
    | ⟨1, _⟩ => show d.val = 0 + 1 * d.val; omega

theorem vals_piece (X : Vec Ideal S768x256 .bf16) (s : Fin 768) (d : Fin 128) :
    piece X ![0, 0] S768x128.size inb_S768x256_S768x128_0_0 (ix2 s d) = X (ix2 s (⟨d.val, by omega⟩ : Fin 256)) :=
  piece_apply X _ _ _ _ (ix2 s (⟨d.val, by omega⟩ : Fin 256)) fun b => by
    match b with
    | ⟨0, _⟩ => show s.val = 0 + 1 * s.val; omega
    | ⟨1, _⟩ => show d.val = 0 + 1 * d.val; omega

theorem deltas_eq (x y z : Vec Ideal S1x256x128 .f32) : k0_pay8 x y z = k0_pay7 x y z := by
  unfold k0_pay8 k0_pay7
  rfl

/-! ## The blocks of a point -/

section Point
variable (m : (ℓ : Loc nD τ sig) → Buf (Elt Ideal) ℓ) (c : Dev nD) (t : Fin cfg0.N)

/-- The group of point `n`. -/
def grp (n : ℕ) : Fin 4 := ⟨n / 363 % 4, Nat.mod_lt _ (by decide)⟩

theorem iblk0_at (p : Fin 256) (j : Fin 384) (i : Fin 8448) (e : Fin 1536) (hi : i.val = 256 * (t.val % 33) + p.val)
    (he : e.val = 384 * (t.val / 363) + j.val) : iblk m c 0 t (ix2 p j) = V m c main_v42 (ix2 i e) := by
  have hx : win0_0.index t 0 = t.val % 33 ∧ win0_0.index t 1 = t.val / 363 :=
    (by decide +kernel : ∀ t : Fin grid0.N, win0_0.index t 0 = t.val % 33 ∧ win0_0.index t 1 = t.val / 363) t
  unfold iblk
  rw [View.read_apply]
  show V m c main_v42 _ = _
  refine congrArg (V m c main_v42) (funext fun b => Fin.ext ?_)
  match b with
  | ⟨0, _⟩ => show win0_0.index t 0 * 256 + 1 * p.val = i.val; rw [hx.1]; omega
  | ⟨1, _⟩ => show win0_0.index t 1 * 384 + 1 * j.val = e.val; rw [hx.2]; omega

theorem iblk1_at (p : Fin 768) (j : Fin 128) (i : Fin 8448) (e : Fin 512) (hi : i.val = 768 * (t.val / 33 % 11) + p.val)
    (he : e.val = 128 * (t.val / 363) + j.val) : iblk m c 1 t (ix2 p j) = k0 m c (ix2 i e) := by
  have hx : win0_1.index t 0 = t.val / 33 % 11 ∧ win0_1.index t 1 = t.val / 363 :=
    (by decide +kernel : ∀ t : Fin grid0.N, win0_1.index t 0 = t.val / 33 % 11 ∧ win0_1.index t 1 = t.val / 363) t
  unfold iblk
  rw [View.read_apply]
  show V m c main_arg1 _ = _
  rw [V_main_arg1]
  refine congrArg (k0 m c) (funext fun b => Fin.ext ?_)
  match b with
  | ⟨0, _⟩ => show win0_1.index t 0 * 768 + 1 * p.val = i.val; rw [hx.1]; omega
  | ⟨1, _⟩ => show win0_1.index t 1 * 128 + 1 * j.val = e.val; rw [hx.2]; omega

theorem iblk2_at (p : Fin 768) (j : Fin 256) (i : Fin 8448) (e : Fin 1024) (hi : i.val = 768 * (t.val / 33 % 11) + p.val)
    (he : e.val = 256 * (t.val / 363) + j.val) : iblk m c 2 t (ix2 p j) = V m c main_v36 (ix2 i e) := by
  have hx : win0_2.index t 0 = t.val / 33 % 11 ∧ win0_2.index t 1 = t.val / 363 :=
    (by decide +kernel : ∀ t : Fin grid0.N, win0_2.index t 0 = t.val / 33 % 11 ∧ win0_2.index t 1 = t.val / 363) t
  unfold iblk
  rw [View.read_apply]
  show V m c main_v36 _ = _
  refine congrArg (V m c main_v36) (funext fun b => Fin.ext ?_)
  match b with
  | ⟨0, _⟩ => show win0_2.index t 0 * 768 + 1 * p.val = i.val; rw [hx.1]; omega
  | ⟨1, _⟩ => show win0_2.index t 1 * 256 + 1 * j.val = e.val; rw [hx.2]; omega

theorem iblk3_at (p : Fin 256) (j : Fin 128) (i : Fin 8448) (e : Fin 2048) (hi : i.val = 256 * (t.val % 33) + p.val)
    (he : e.val = 512 + (384 * (t.val / 363) + j.val)) : iblk m c 3 t (ix2 p j) = g0 m c (ix2 i e) := by
  have hx : win0_3.index t 0 = t.val % 33 ∧ win0_3.index t 1 = 4 + 3 * (t.val / 363) :=
    (by decide +kernel : ∀ t : Fin grid0.N, win0_3.index t 0 = t.val % 33 ∧ win0_3.index t 1 = 4 + 3 * (t.val / 363)) t
  unfold iblk
  rw [View.read_apply]
  show V m c main_arg3 _ = _
  rw [V_main_arg3]
  refine congrArg (g0 m c) (funext fun b => Fin.ext ?_)
  match b with
  | ⟨0, _⟩ => show win0_3.index t 0 * 256 + 1 * p.val = i.val; rw [hx.1]; omega
  | ⟨1, _⟩ => show win0_3.index t 1 * 128 + 1 * j.val = e.val; rw [hx.2]; omega

theorem iblk4_at (p : Fin 256) (j : Fin 128) (i : Fin 8448) (e : Fin 2048) (hi : i.val = 256 * (t.val % 33) + p.val)
    (he : e.val = 640 + (384 * (t.val / 363) + j.val)) : iblk m c 4 t (ix2 p j) = g0 m c (ix2 i e) := by
  have hx : win0_4.index t 0 = t.val % 33 ∧ win0_4.index t 1 = 5 + 3 * (t.val / 363) :=
    (by decide +kernel : ∀ t : Fin grid0.N, win0_4.index t 0 = t.val % 33 ∧ win0_4.index t 1 = 5 + 3 * (t.val / 363)) t
  unfold iblk
  rw [View.read_apply]
  show V m c main_arg3 _ = _
  rw [V_main_arg3]
  refine congrArg (g0 m c) (funext fun b => Fin.ext ?_)
  match b with
  | ⟨0, _⟩ => show win0_4.index t 0 * 256 + 1 * p.val = i.val; rw [hx.1]; omega
  | ⟨1, _⟩ => show win0_4.index t 1 * 128 + 1 * j.val = e.val; rw [hx.2]; omega

theorem iblk5_at (p : Fin 256) (j : Fin 128) (i : Fin 8448) (e : Fin 2048) (hi : i.val = 256 * (t.val % 33) + p.val)
    (he : e.val = 768 + (384 * (t.val / 363) + j.val)) : iblk m c 5 t (ix2 p j) = g0 m c (ix2 i e) := by
  have hx : win0_5.index t 0 = t.val % 33 ∧ win0_5.index t 1 = 6 + 3 * (t.val / 363) :=
    (by decide +kernel : ∀ t : Fin grid0.N, win0_5.index t 0 = t.val % 33 ∧ win0_5.index t 1 = 6 + 3 * (t.val / 363)) t
  unfold iblk
  rw [View.read_apply]
  show V m c main_arg3 _ = _
  rw [V_main_arg3]
  refine congrArg (g0 m c) (funext fun b => Fin.ext ?_)
  match b with
  | ⟨0, _⟩ => show win0_5.index t 0 * 256 + 1 * p.val = i.val; rw [hx.1]; omega
  | ⟨1, _⟩ => show win0_5.index t 1 * 128 + 1 * j.val = e.val; rw [hx.2]; omega

theorem iblk6_at (h : Fin 3) (p : Fin 256) (j : Fin 128) (n : Fin 12) (i : Fin 8448) (hn : n.val = 3 * (t.val / 363) + h.val)
    (hi : i.val = 256 * (t.val % 33) + p.val) : iblk m c 6 t (ix3 h p j) = V m c main_v44 (ix3 n i j) := by
  have hx : win0_6.index t 0 = t.val / 363 ∧ win0_6.index t 1 = t.val % 33 ∧ win0_6.index t 2 = 0 :=
    (by decide +kernel : ∀ t : Fin grid0.N, win0_6.index t 0 = t.val / 363 ∧ win0_6.index t 1 = t.val % 33 ∧ win0_6.index t 2 = 0) t
  unfold iblk
  rw [View.read_apply]
  show V m c main_v44 _ = _
  refine congrArg (V m c main_v44) (funext fun b => Fin.ext ?_)
  match b with
  | ⟨0, _⟩ => show win0_6.index t 0 * 3 + 1 * h.val = n.val; rw [hx.1]; omega
  | ⟨1, _⟩ => show win0_6.index t 1 * 256 + 1 * p.val = i.val; rw [hx.2.1]; omega
  | ⟨2, _⟩ => show win0_6.index t 2 * 128 + 1 * j.val = j.val; rw [hx.2.2]; omega

theorem iblk7_at (h : Fin 3) (p : Fin 256) (j : Fin 128) (n : Fin 12) (i : Fin 8448) (hn : n.val = 3 * (t.val / 363) + h.val)
    (hi : i.val = 256 * (t.val % 33) + p.val) : iblk m c 7 t (ix3 h p j) = V m c main_v46 (ix3 n i j) := by
  have hx : win0_7.index t 0 = t.val / 363 ∧ win0_7.index t 1 = t.val % 33 ∧ win0_7.index t 2 = 0 :=
    (by decide +kernel : ∀ t : Fin grid0.N, win0_7.index t 0 = t.val / 363 ∧ win0_7.index t 1 = t.val % 33 ∧ win0_7.index t 2 = 0) t
  unfold iblk
  rw [View.read_apply]
  show V m c main_v46 _ = _
  refine congrArg (V m c main_v46) (funext fun b => Fin.ext ?_)
  match b with
  | ⟨0, _⟩ => show win0_7.index t 0 * 3 + 1 * h.val = n.val; rw [hx.1]; omega
  | ⟨1, _⟩ => show win0_7.index t 1 * 256 + 1 * p.val = i.val; rw [hx.2.1]; omega
  | ⟨2, _⟩ => show win0_7.index t 2 * 128 + 1 * j.val = j.val; rw [hx.2.2]; omega

/-! ## The six operands of the body -/

variable (h0 : ∀ y, IsReal (q0 m c y)) (h1 : ∀ y, IsReal (k0 m c y)) (h2 : ∀ y, IsReal (v0 m c y)) (h3 : ∀ y, IsReal (g0 m c y))

theorem row_val (r : Fin 768) (n : ℕ) (hn : n < 33) : (qrow n r).val = 256 * n + r.val % 256 := by
  show (256 * n + r.val % 256) % 8448 = _
  omega

theorem grp_val : (grp t.val).val = t.val / 363 := by
  have := lt_N t
  show t.val / 363 % 4 = _
  omega

include h0 in
theorem q_read (r : Fin 768) (p : Fin 256) (d : Fin 128) (j : Fin 384) (hp : r.val % 256 = p.val) (hj : j.val = 128 * (r.val / 256) + d.val) :
    iblk m c 0 t (ix2 p j) = ((hq m c (grp t.val) (hd r) (qrow (t.val % 33) r) d / (√128 * Real.log 2) : ℝ) : EReal) := by
  rw [← V42_at m c h0]
  refine iblk0_at m c t p j _ _ ?_ ?_
  · rw [row_val r _ (Nat.mod_lt _ (by decide)), hp]
  · show 384 * (grp t.val).val + 128 * (r.val / 256) + d.val = _
    rw [grp_val]
    omega

include h0 in
theorem rowsQ_at (r : Fin 768) (d : Fin 128) :
    rowsQ (blocksAt m c t) (ix2 r d) = ((hq m c (grp t.val) (hd r) (qrow (t.val % 33) r) d / (√128 * Real.log 2) : ℝ) : EReal) := by
  exact columns_at (iblk m c 0 t) (fun r d => ((hq m c (grp t.val) (hd r) (qrow (t.val % 33) r) d / (√128 * Real.log 2) : ℝ) : EReal))
    (q_read m c t h0) r d

theorem piece_whole (X : Vec Ideal S256x128 .f32) (p : Fin 256) (d : Fin 128) :
    piece X ![0, 0] S256x128.size inb_S256x128_S256x128_0_0 (ix2 p d) = X (ix2 p d) :=
  piece_apply X _ _ _ _ (ix2 p d) fun b => by
    match b with
    | ⟨0, _⟩ => show p.val = 0 + 1 * p.val; omega
    | ⟨1, _⟩ => show d.val = 0 + 1 * d.val; omega

include h3 in
theorem g_real (r : Fin 768) (d : Fin 128) (i : Fin 8448) (e : Fin 2048) (hi : i.val = 256 * (t.val % 33) + r.val % 256)
    (he : e.val = 512 + (384 * (t.val / 363) + 128 * (r.val / 256) + d.val)) :
    g0 m c (ix2 i e) = (hg m c (grp t.val) (hd r) (qrow (t.val % 33) r) d : EReal) := by
  rw [show i = qrow (t.val % 33) r from Fin.ext (by rw [row_val r _ (Nat.mod_lt _ (by decide)), hi]),
    show e = gcol (grp t.val) (hd r) d from Fin.ext (by
      rw [he]
      show _ = 512 + (384 * (grp t.val).val + 128 * (r.val / 256) + d.val)
      rw [grp_val])]
  exact (coe_toReal (h3 _)).symm

include h3 in
theorem rowsG_at (r : Fin 768) (d : Fin 128) :
    rowsG (blocksAt m c t) (ix2 r d) = (hg m c (grp t.val) (hd r) (qrow (t.val % 33) r) d : EReal) := by
  have hN := lt_N t
  unfold rowsG k0_pay6
  dsimp only
  refine three_at (fun r d => (hg m c (grp t.val) (hd r) (qrow (t.val % 33) r) d : EReal)) _ _ _ ?_ ?_ ?_ r d
  · intro r p d e
    refine (piece_whole _ p d).trans ((iblk3_at m c t p d (⟨256 * (t.val % 33) + p.val, by omega⟩ : Fin 8448)
      (⟨512 + (384 * (t.val / 363) + d.val), by omega⟩ : Fin 2048) rfl rfl).trans (g_real m c t h3 r d _ _ ?_ ?_))
    · show 256 * (t.val % 33) + p.val = _; omega
    · show 512 + (384 * (t.val / 363) + d.val) = _; omega
  · intro r p d e
    refine (piece_whole _ p d).trans ((iblk4_at m c t p d (⟨256 * (t.val % 33) + p.val, by omega⟩ : Fin 8448)
      (⟨640 + (384 * (t.val / 363) + d.val), by omega⟩ : Fin 2048) rfl rfl).trans (g_real m c t h3 r d _ _ ?_ ?_))
    · show 256 * (t.val % 33) + p.val = _; omega
    · show 640 + (384 * (t.val / 363) + d.val) = _; omega
  · intro r p d e
    refine (piece_whole _ p d).trans ((iblk5_at m c t p d (⟨256 * (t.val % 33) + p.val, by omega⟩ : Fin 8448)
      (⟨768 + (384 * (t.val / 363) + d.val), by omega⟩ : Fin 2048) rfl rfl).trans (g_real m c t h3 r d _ _ ?_ ?_))
    · show 256 * (t.val % 33) + p.val = _; omega
    · show 768 + (384 * (t.val / 363) + d.val) = _; omega

/-- Three heads' blocks of a row statistic under each other. -/
theorem stats_at (X : Vec Ideal S3x256x128 .f32) (f : Fin 3 → Fin 8448 → ℝ) (n : ℕ) (hn : n < 33)
    (hX : ∀ (h : Fin 3) (p : Fin 256) (d : Fin 128) (i : Fin 8448), i.val = 256 * n + p.val → X (ix3 h p d) = (f h i : EReal))
    (r : Fin 768) (d : Fin 128) :
    k0_pay7 (piece X ![0, 0, 0] S1x256x128.size inb_S3x256x128_S1x256x128_0_0_0)
      (piece X ![1, 0, 0] S1x256x128.size inb_S3x256x128_S1x256x128_1_0_0)
      (piece X ![2, 0, 0] S1x256x128.size inb_S3x256x128_S1x256x128_2_0_0) (ix2 r d) = (f (hd r) (qrow n r) : EReal) := by
  have g : ∀ (h : Fin 3) (r : Fin 768) (p : Fin 256) (d : Fin 128), r.val = 256 * h.val + p.val →
      X (ix3 h p d) = (f (hd r) (qrow n r) : EReal) := fun h r p d e => by
    rw [hX h p d (qrow n r) (by rw [row_val r n hn]; omega), show h = hd r from Fin.ext (by show h.val = r.val / 256; omega)]
  unfold k0_pay7
  dsimp only
  refine three_at (fun r _ => (f (hd r) (qrow n r) : EReal)) _ _ _ ?_ ?_ ?_ r d
  · intro r p d e
    refine (shapeCast_1ab_ab_apply _ _ p d).trans ((piece_apply X _ _ _ _ (ix3 (0 : Fin 3) p d) fun b => ?_).trans (g 0 r p d (by show r.val = 256 * 0 + p.val; omega)))
    match b with
    | ⟨0, _⟩ => rfl
    | ⟨1, _⟩ => show p.val = 0 + 1 * p.val; omega
    | ⟨2, _⟩ => show d.val = 0 + 1 * d.val; omega
  · intro r p d e
    refine (shapeCast_1ab_ab_apply _ _ p d).trans ((piece_apply X _ _ _ _ (ix3 (1 : Fin 3) p d) fun b => ?_).trans (g 1 r p d (by show r.val = 256 * 1 + p.val; omega)))
    match b with
    | ⟨0, _⟩ => rfl
    | ⟨1, _⟩ => show p.val = 0 + 1 * p.val; omega
    | ⟨2, _⟩ => show d.val = 0 + 1 * d.val; omega
  · intro r p d e
    refine (shapeCast_1ab_ab_apply _ _ p d).trans ((piece_apply X _ _ _ _ (ix3 (2 : Fin 3) p d) fun b => ?_).trans (g 2 r p d (by show r.val = 256 * 2 + p.val; omega)))
    match b with
    | ⟨0, _⟩ => rfl
    | ⟨1, _⟩ => show p.val = 0 + 1 * p.val; omega
    | ⟨2, _⟩ => show d.val = 0 + 1 * d.val; omega

include h0 h1 in
theorem rowsL_at (r : Fin 768) (d : Fin 128) :
    rowsL (blocksAt m c t) (ix2 r d)
      = (lse2 (hq m c) (hk m c) (hM m c (grp t.val) (hd r) (qrow (t.val % 33) r)) (grp t.val) (hd r) (qrow (t.val % 33) r) : EReal) := by
  unfold rowsL
  refine stats_at (iblk m c 6 t) (fun h i => lse2 (hq m c) (hk m c) (hM m c (grp t.val) h i) (grp t.val) h i) (t.val % 33)
    (Nat.mod_lt _ (by decide)) (fun h p d i hi => ?_) r d
  rw [← V44_at m c h0 h1 (grp t.val) h i d]
  refine iblk6_at m c t h p d _ i ?_ hi
  show 3 * (grp t.val).val + h.val = _
  rw [grp_val]

include h0 h1 h2 h3 in
theorem rowsD_at (r : Fin 768) (d : Fin 128) :
    rowsD (blocksAt m c t) (ix2 r d)
      = (D (hq m c) (hk m c) (hv m c) (hg m c) (grp t.val) (hd r) (qrow (t.val % 33) r) : EReal) := by
  unfold rowsD
  rw [deltas_eq]
  refine stats_at (iblk m c 7 t) (fun h i => D (hq m c) (hk m c) (hv m c) (hg m c) (grp t.val) h i) (t.val % 33)
    (Nat.mod_lt _ (by decide)) (fun h p d i hi => ?_) r d
  rw [← V46_at m c h0 h1 h2 h3 (grp t.val) h i d]
  refine iblk7_at m c t h p d _ i ?_ hi
  show 3 * (grp t.val).val + h.val = _
  rw [grp_val]

theorem krow_val (n : ℕ) (hn : n < 11) (s : Fin 768) : (krow n s).val = 768 * n + s.val := by
  show (768 * n + s.val) % 8448 = _
  omega

include h1 in
theorem keys_at (s : Fin 768) (d : Fin 128) :
    keys (blocksAt m c t) (ix2 s d) = (hk m c (grp t.val) (krow (t.val / 33 % 11) s) d : EReal) := by
  unfold keys
  refine (keys_piece (iblk m c 1 t) s d).trans ((iblk1_at m c t s d (krow (t.val / 33 % 11) s) (kcol (grp t.val) d)
    (krow_val _ (Nat.mod_lt _ (by decide)) s) ?_).trans (coe_toReal (h1 _)).symm)
  show 128 * (grp t.val).val + d.val = _
  rw [grp_val]

include h2 in
theorem vals_at (s : Fin 768) (d : Fin 128) :
    vals (blocksAt m c t) (ix2 s d) = (hv m c (grp t.val) (krow (t.val / 33 % 11) s) d : EReal) := by
  unfold vals
  rw [← V36_at m c h2]
  refine (vals_piece (iblk m c 2 t) s d).trans (iblk2_at m c t s _ (krow (t.val / 33 % 11) s) _
    (krow_val _ (Nat.mod_lt _ (by decide)) s) ?_)
  show 256 * (grp t.val).val + d.val = 256 * (t.val / 363) + d.val
  rw [grp_val]

include h0 h1 h2 h3 in
/-- What a point's blocks read. -/
theorem reads : Reads (hq m c) (hk m c) (hv m c) (hg m c) (hM m c) (grp t.val) (t.val / 33 % 11) (t.val % 33) (blocksAt m c t) :=
  ⟨rowsQ_at m c t h0, rowsG_at m c t h3, rowsL_at m c t h0 h1, rowsD_at m c t h0 h1 h2 h3, keys_at m c t h1, vals_at m c t h2⟩

end Point

end Att.Blocks

end
-- ==== Proof.AttKernel.lean ====
/-
  The attention backward kernel over real inputs: the partial sums its outputs and its scratch hold after each
  point, and the three result arrays whole.
-/
module

public import proofs.«01_k».proof.Proof.AttBlocks

@[expose] public section

set_option maxRecDepth 16384

noncomputable section

namespace Att.Kernel

open Cert.AttGradIdeal Cert.AttGradIdeal.Gen Cert.AttGradIdeal.Hand Idealize.ShloMosaic.ValueIdx
open Idealize.ShloMosaic.TcCoe
open Idealize.ShloMosaic hiding ix1 ix2 ix3 ix4 eq_ix1 eq_ix2 eq_ix3 eq_ix4 mulf_apply addf_apply subf_apply constant_apply
open Idealize.ShloMosaic.Pipeline (Dat)
open Ffn (Mat IsReal)
open Att.Host Att.Pay Att.Blocks

attribute [local instance] Cert.AttGradIdeal.Gen.facts

/-! ## Whole sums -/

section Sums
variable (q : Heads) (k v : Group) (g : Heads) (a : Fin 4)

theorem dv_total (ki : ℕ) (s : Fin 768) (d : Fin 128) :
    ∑ n ∈ Finset.range 33, dvTerm q k g a ki n s d = DV q k g a (krow ki s) d :=
  sum_qrow fun h i => P q k a h i (krow ki s) * g a h i d

theorem dk_total (ki : ℕ) (s : Fin 768) (d : Fin 128) :
    (∑ n ∈ Finset.range 33, dkTerm q k v g a ki n s d) * Real.log 2 = DK q k v g a (krow ki s) d := by
  rw [show ∑ n ∈ Finset.range 33, dkTerm q k v g a ki n s d = _ from
    sum_qrow fun h i => DS q k v g a h i (krow ki s) * (q a h i d / (√128 * Real.log 2)), Finset.sum_mul]
  refine Finset.sum_congr rfl fun h _ => ?_
  rw [Finset.sum_mul]
  refine Finset.sum_congr rfl fun i _ => ?_
  have := sqrt_ne
  have := log_two_ne
  field_simp

theorem dq_total (qi : ℕ) (r : Fin 768) (d : Fin 128) :
    (∑ n ∈ Finset.range 11, dqTerm q k v g a qi n r d) * (√128)⁻¹ = DQ q k v g a (hd r) (qrow qi r) d := by
  rw [show ∑ n ∈ Finset.range 11, dqTerm q k v g a qi n r d = _ from
    sum_krow fun s => DS q k v g a (hd r) (qrow qi r) s * k a s d, Finset.sum_mul]
  refine Finset.sum_congr rfl fun s _ => ?_
  have := sqrt_ne
  field_simp
end Sums

/-! ## After each point -/

section Run
variable (m : (ℓ : Loc nD τ sig) → Buf (Elt Ideal) ℓ) (c : Dev nD)
variable (h0 : ∀ y, IsReal (q0 m c y)) (h1 : ∀ y, IsReal (k0 m c y)) (h2 : ∀ y, IsReal (v0 m c y)) (h3 : ∀ y, IsReal (g0 m c y))

include h0 h1 h2 h3

theorem dv_at (n : ℕ) (hn : n < cfg0.N) (s : Fin 768) (d : Fin 128) :
    dvAt m c n hn (ix2 s d)
      = ((∑ j ∈ Finset.range (n % 33 + 1), dvTerm (hq m c) (hk m c) (hg m c) (grp n) (n / 33 % 11) j s d : ℝ) : EReal) := by
  induction n using Nat.strong_induction_on generalizing s d with
  | _ n ih =>
    rw [← dv_step m c ⟨n, hn⟩ (dvAt m c (n - 1) (Nat.lt_of_le_of_lt (Nat.sub_le _ _) hn)) fun _ => rfl]
    refine dvStep_at (reads m c ⟨n, hn⟩ h0 h1 h2 h3) _ _ ((cond1_iff _).trans (by rw [coord2])) (fun hz s d => ?_) s d
    have hz' : n % 33 ≠ 0 := hz
    rw [ih (n - 1) (by omega) _ s d, show grp (n - 1) = grp n from Fin.ext (by show (n - 1) / 363 % 4 = n / 363 % 4; omega),
      show (n - 1) / 33 % 11 = n / 33 % 11 by omega, show (n - 1) % 33 + 1 = n % 33 by omega]

theorem dk_at (n : ℕ) (hn : n < cfg0.N) (s : Fin 768) (d : Fin 128) :
    dkAt m c n hn (ix2 s d)
      = (((∑ j ∈ Finset.range (n % 33 + 1), dkTerm (hq m c) (hk m c) (hv m c) (hg m c) (grp n) (n / 33 % 11) j s d)
          * (if n % 33 = 32 then Real.log 2 else 1) : ℝ) : EReal) := by
  induction n using Nat.strong_induction_on generalizing s d with
  | _ n ih =>
    rw [← dk_step m c ⟨n, hn⟩ (dkAt m c (n - 1) (Nat.lt_of_le_of_lt (Nat.sub_le _ _) hn)) fun _ => rfl]
    refine dkStep_at (reads m c ⟨n, hn⟩ h0 h1 h2 h3) _ _ ((cond1_iff _).trans (by rw [coord2])) ((cond3_iff _).trans (by rw [coord2]))
      (fun hz s d => ?_) s d
    have hz' : n % 33 ≠ 0 := hz
    rw [ih (n - 1) (by omega) _ s d, if_neg (by omega), mul_one,
      show grp (n - 1) = grp n from Fin.ext (by show (n - 1) / 363 % 4 = n / 363 % 4; omega),
      show (n - 1) / 33 % 11 = n / 33 % 11 by omega, show (n - 1) % 33 + 1 = n % 33 by omega]

theorem dq_at (n : ℕ) (hn : n < cfg0.N) (r : Fin 768) (d : Fin 128) :
    dqAt m c n hn (ix3 0 r d)
      = ((∑ j ∈ Finset.range (n / 33 % 11 + 1), dqTerm (hq m c) (hk m c) (hv m c) (hg m c) (grp n) (n % 33) j r d : ℝ) : EReal) := by
  induction n using Nat.strong_induction_on generalizing r d with
  | _ n ih =>
    rw [← dq_step m c ⟨n, hn⟩ (dqAt m c (n - 33) (Nat.lt_of_le_of_lt (Nat.sub_le _ _) hn)) fun _ => rfl]
    refine dqStep_at (reads m c ⟨n, hn⟩ h0 h1 h2 h3) _ _ ((cond4_iff _).trans (by rw [coord1])) (fun hz r d => ?_) r d
    have hz' : n / 33 % 11 ≠ 0 := hz
    rw [ih (n - 33) (by omega) _ r d, show grp (n - 33) = grp n from Fin.ext (by show (n - 33) / 363 % 4 = n / 363 % 4; omega),
      show (n - 33) % 33 = n % 33 by omega, show (n - 33) / 33 % 11 + 1 = n / 33 % 11 by omega]

/-! ## What is written back -/

theorem dv_last (t : Fin cfg0.N) (ht : t.val % 33 = 32) (s : Fin 768) (d : Fin 128) :
    dvAt m c t.val t.isLt (ix2 s d) = (DV (hq m c) (hk m c) (hg m c) (grp t.val) (krow (t.val / 33 % 11) s) d : EReal) := by
  rw [dv_at m c h0 h1 h2 h3, ht, dv_total]

theorem dk_last (t : Fin cfg0.N) (ht : t.val % 33 = 32) (s : Fin 768) (d : Fin 128) :
    dkAt m c t.val t.isLt (ix2 s d) = (DK (hq m c) (hk m c) (hv m c) (hg m c) (grp t.val) (krow (t.val / 33 % 11) s) d : EReal) := by
  rw [dk_at m c h0 h1 h2 h3, if_pos ht, ht, dk_total]

theorem dq_last (t : Fin cfg0.N) (ht : t.val / 33 % 11 = 10) (i : Fin 256) (j : Fin 384) (r : Fin 768)
    (hr : r.val = 256 * (j.val / 128) + i.val) (d : Fin 128) (hd' : d.val = j.val % 128) :
    dqOut (dqAt m c t.val t.isLt) (ix2 i j)
      = (DQ (hq m c) (hk m c) (hv m c) (hg m c) (grp t.val) (hd r) (qrow (t.val % 33) r) d : EReal) := by
  rw [dqOut_at _ _ (fun r d => dq_at m c h0 h1 h2 h3 t.val t.isLt r d), ht]
  rw [show (⟨256 * (j.val / 128) + i.val, by omega⟩ : Fin 768) = r from Fin.ext hr.symm,
    show (⟨j.val % 128, by omega⟩ : Fin 128) = d from Fin.ext hd'.symm, dq_total]

end Run

end Att.Kernel

end
-- ==== Proof.AttArrays.lean ====
/-
  The attention backward kernel's three result arrays over real inputs: the gradients of the queries, the keys and
  the values, whole.
-/
module

public import proofs.«01_k».proof.Proof.AttKernel

@[expose] public section

set_option maxRecDepth 16384

noncomputable section

namespace Att.Arrays

open Cert.AttGradIdeal Cert.AttGradIdeal.Gen Cert.AttGradIdeal.Hand Idealize.ShloMosaic.ValueIdx
open Idealize.ShloMosaic.TcCoe
open Idealize.ShloMosaic hiding ix1 ix2 ix3 ix4 eq_ix1 eq_ix2 eq_ix3 eq_ix4 mulf_apply addf_apply subf_apply constant_apply
open Idealize.ShloMosaic.Pipeline (Dat)
open Ffn (Mat IsReal)
open Att.Host Att.Pay Att.Blocks Att.Kernel

attribute [local instance] Cert.AttGradIdeal.Gen.facts

variable (m : (ℓ : Loc nD τ sig) → Buf (Elt Ideal) ℓ) (c : Dev nD)
variable (h0 : ∀ y, IsReal (q0 m c y)) (h1 : ∀ y, IsReal (k0 m c y)) (h2 : ∀ y, IsReal (v0 m c y)) (h3 : ∀ y, IsReal (g0 m c y))

/-- The three results. -/
def G8 : S8448x1536.Idx → EReal := GQ (q0 m c) (k0 m c) (v0 m c) (g0 m c)
def G9 : S8448x512.Idx → EReal := GK (q0 m c) (k0 m c) (v0 m c) (g0 m c)
def G10 : S8448x512.Idx → EReal := GV (q0 m c) (k0 m c) (g0 m c)

/-! ## The values -/

theorem index10 : ∀ t : Fin grid0.N, win0_10.index t 0 = t.val / 33 % 11 ∧ win0_10.index t 1 = t.val / 363 := by
  decide +kernel

theorem xsize10 : ∀ t : Fin grid0.N, win0_10.xsize (grid0.coords t) 0 = 768 ∧ win0_10.xsize (grid0.coords t) 1 = 128 := by
  decide +kernel

include h0 h1 h2 h3 in
theorem flushed10_eq (t : Fin cfg0.N) (hf : (cfg0.win 10).flush t = true) :
    (dats m 0 c).flushed 10 t = ((cfg0.win 10).blk t).view.read (Elt Ideal) (G10 m c) := by
  have hi := index10 t
  have hN := lt_N t
  have e : (dats m 0 c).flushed 10 t = (cfg0.win 10).cut (grid0.coords t) (dvAt m c t.val t.isLt) := by
    show (cfg0.win 10).cut (grid0.coords t) ((dats m 0 c).after 10 t) = _
    rw [after0_10]
  rw [e]
  funext i
  rw [View.read_apply]
  have b0 : (i 0).val < 768 := lt_of_lt_of_eq (i 0).isLt (xsize10 t).1
  have b1 : (i 1).val < 128 := lt_of_lt_of_eq (i 1).isLt (xsize10 t).2
  refine Eq.trans (b := dvAt m c t.val t.isLt (ix2 (⟨(i 0).val, b0⟩ : Fin 768) (⟨(i 1).val, b1⟩ : Fin 128)))
    (congrArg _ (funext fun a => Fin.ext (by match a with | ⟨0, _⟩ => rfl | ⟨1, _⟩ => rfl))) ?_
  rw [dv_last m c h0 h1 h2 h3 t ((flush0_10 t).mp hf)]
  have r1 : ∀ u : Fin 512, u.val = 128 * (t.val / 363) + (i 1).val → (grp t.val).val = u.val / 128 ∧ (i 1).val = u.val % 128 := fun u hu => by
    rw [grp_val]; omega
  have r0 : ∀ u : Fin 8448, u.val = 768 * (t.val / 33 % 11) + (i 0).val → krow (t.val / 33 % 11) (⟨(i 0).val, b0⟩ : Fin 768) = u := fun u hu =>
    Fin.ext ((krow_val _ (Nat.mod_lt _ (by decide)) _).trans hu.symm)
  have g : ∀ z : S8448x512.Idx, (z 0).val = 768 * (t.val / 33 % 11) + (i 0).val → (z 1).val = 128 * (t.val / 363) + (i 1).val →
      ((DV (hq m c) (hk m c) (hg m c) (grp t.val) (krow (t.val / 33 % 11) (⟨(i 0).val, b0⟩ : Fin 768)) (⟨(i 1).val, b1⟩ : Fin 128) : ℝ) : EReal)
        = G10 m c z := fun z z0 z1 => by
    obtain ⟨u1, u2⟩ := r1 (z 1) z1
    rw [r0 (z 0) z0, show grp t.val = (⟨(z 1).val / 128, by have : (z 1).val < 512 := (z 1).isLt; omega⟩ : Fin 4) from Fin.ext u1,
      show (⟨(i 1).val, b1⟩ : Fin 128) = ⟨(z 1).val % 128, by omega⟩ from Fin.ext u2]
    rfl
  refine g _ ?_ ?_
  · show win0_10.index t 0 * 768 + 1 * (i 0).val = _; rw [hi.1]; omega
  · show win0_10.index t 1 * 128 + 1 * (i 1).val = _; rw [hi.2]; omega

include h0 h1 h2 h3 in
theorem final10 : (dats m 0 c).arrAt 10 cfg0.N = G10 m c :=
  (dats m 0 c).arrAt_eq_of_cover 10 (G10 m c) (flushed10_eq m c h0 h1 h2 h3) fun i => by
    have b0 : (i 0 : Nat) < 8448 := (i 0).isLt
    have b1 : (i 1 : Nat) < 512 := (i 1).isLt
    have hN : cfg0.N = 1452 := N_0
    obtain ⟨t, ht⟩ : ∃ t : Fin cfg0.N, t.val = 363 * ((i 1 : Nat) / 128) + 33 * ((i 0 : Nat) / 768) + 32 :=
      ⟨⟨363 * ((i 1 : Nat) / 128) + 33 * ((i 0 : Nat) / 768) + 32, by omega⟩, rfl⟩
    refine ⟨t, (flush0_10 t).mpr (by omega), ?_⟩
    obtain ⟨a0, a1⟩ := index10 t
    obtain ⟨c0, c1⟩ := xsize10 t
    show i ∈ ((View.whole main_v47_2).slice (win0_10.rect t)).set
    rw [View.set_slice_whole, Rect.mem_set_unit]
    intro a
    match a with
    | ⟨0, _⟩ => show win0_10.index t 0 * 768 ≤ (i 0 : Nat) ∧ (i 0 : Nat) < win0_10.index t 0 * 768 + win0_10.xsize (grid0.coords t) 0
                rw [a0, c0]; omega
    | ⟨1, _⟩ => show win0_10.index t 1 * 128 ≤ (i 1 : Nat) ∧ (i 1 : Nat) < win0_10.index t 1 * 128 + win0_10.xsize (grid0.coords t) 1
                rw [a1, c1]; omega

/-! ## The keys -/

theorem index9 : ∀ t : Fin grid0.N, win0_9.index t 0 = t.val / 33 % 11 ∧ win0_9.index t 1 = t.val / 363 := by
  decide +kernel

theorem xsize9 : ∀ t : Fin grid0.N, win0_9.xsize (grid0.coords t) 0 = 768 ∧ win0_9.xsize (grid0.coords t) 1 = 128 := by
  decide +kernel

include h0 h1 h2 h3 in
theorem flushed9_eq (t : Fin cfg0.N) (hf : (cfg0.win 9).flush t = true) :
    (dats m 0 c).flushed 9 t = ((cfg0.win 9).blk t).view.read (Elt Ideal) (G9 m c) := by
  have hi := index9 t
  have hN := lt_N t
  have e : (dats m 0 c).flushed 9 t = (cfg0.win 9).cut (grid0.coords t) (dkAt m c t.val t.isLt) := by
    show (cfg0.win 9).cut (grid0.coords t) ((dats m 0 c).after 9 t) = _
    rw [after0_9]
  rw [e]
  funext i
  rw [View.read_apply]
  have b0 : (i 0).val < 768 := lt_of_lt_of_eq (i 0).isLt (xsize9 t).1
  have b1 : (i 1).val < 128 := lt_of_lt_of_eq (i 1).isLt (xsize9 t).2
  refine Eq.trans (b := dkAt m c t.val t.isLt (ix2 (⟨(i 0).val, b0⟩ : Fin 768) (⟨(i 1).val, b1⟩ : Fin 128)))
    (congrArg _ (funext fun a => Fin.ext (by match a with | ⟨0, _⟩ => rfl | ⟨1, _⟩ => rfl))) ?_
  rw [dk_last m c h0 h1 h2 h3 t ((flush0_9 t).mp hf)]
  have r1 : ∀ u : Fin 512, u.val = 128 * (t.val / 363) + (i 1).val → (grp t.val).val = u.val / 128 ∧ (i 1).val = u.val % 128 := fun u hu => by
    rw [grp_val]; omega
  have r0 : ∀ u : Fin 8448, u.val = 768 * (t.val / 33 % 11) + (i 0).val → krow (t.val / 33 % 11) (⟨(i 0).val, b0⟩ : Fin 768) = u := fun u hu =>
    Fin.ext ((krow_val _ (Nat.mod_lt _ (by decide)) _).trans hu.symm)
  have g : ∀ z : S8448x512.Idx, (z 0).val = 768 * (t.val / 33 % 11) + (i 0).val → (z 1).val = 128 * (t.val / 363) + (i 1).val →
      ((DK (hq m c) (hk m c) (hv m c) (hg m c) (grp t.val) (krow (t.val / 33 % 11) (⟨(i 0).val, b0⟩ : Fin 768)) (⟨(i 1).val, b1⟩ : Fin 128) : ℝ) : EReal)
        = G9 m c z := fun z z0 z1 => by
    obtain ⟨u1, u2⟩ := r1 (z 1) z1
    rw [r0 (z 0) z0, show grp t.val = (⟨(z 1).val / 128, by have : (z 1).val < 512 := (z 1).isLt; omega⟩ : Fin 4) from Fin.ext u1,
      show (⟨(i 1).val, b1⟩ : Fin 128) = ⟨(z 1).val % 128, by omega⟩ from Fin.ext u2]
    rfl
  refine g _ ?_ ?_
  · show win0_9.index t 0 * 768 + 1 * (i 0).val = _; rw [hi.1]; omega
  · show win0_9.index t 1 * 128 + 1 * (i 1).val = _; rw [hi.2]; omega

include h0 h1 h2 h3 in
theorem final9 : (dats m 0 c).arrAt 9 cfg0.N = G9 m c :=
  (dats m 0 c).arrAt_eq_of_cover 9 (G9 m c) (flushed9_eq m c h0 h1 h2 h3) fun i => by
    have b0 : (i 0 : Nat) < 8448 := (i 0).isLt
    have b1 : (i 1 : Nat) < 512 := (i 1).isLt
    have hN : cfg0.N = 1452 := N_0
    obtain ⟨t, ht⟩ : ∃ t : Fin cfg0.N, t.val = 363 * ((i 1 : Nat) / 128) + 33 * ((i 0 : Nat) / 768) + 32 :=
      ⟨⟨363 * ((i 1 : Nat) / 128) + 33 * ((i 0 : Nat) / 768) + 32, by omega⟩, rfl⟩
    refine ⟨t, (flush0_9 t).mpr (by omega), ?_⟩
    obtain ⟨a0, a1⟩ := index9 t
    obtain ⟨c0, c1⟩ := xsize9 t
    show i ∈ ((View.whole main_v47_1).slice (win0_9.rect t)).set
    rw [View.set_slice_whole, Rect.mem_set_unit]
    intro a
    match a with
    | ⟨0, _⟩ => show win0_9.index t 0 * 768 ≤ (i 0 : Nat) ∧ (i 0 : Nat) < win0_9.index t 0 * 768 + win0_9.xsize (grid0.coords t) 0
                rw [a0, c0]; omega
    | ⟨1, _⟩ => show win0_9.index t 1 * 128 ≤ (i 1 : Nat) ∧ (i 1 : Nat) < win0_9.index t 1 * 128 + win0_9.xsize (grid0.coords t) 1
                rw [a1, c1]; omega

/-! ## The queries -/

theorem index8 : ∀ t : Fin grid0.N, t.val / 33 % 11 = 10 → win0_8.index t 0 = t.val % 33 ∧ win0_8.index t 1 = t.val / 363 := by
  decide +kernel

theorem xsize8 : ∀ t : Fin grid0.N, win0_8.xsize (grid0.coords t) 0 = 256 ∧ win0_8.xsize (grid0.coords t) 1 = 384 := by
  decide +kernel

include h0 h1 h2 h3 in
theorem flushed8_eq (t : Fin cfg0.N) (hf : (cfg0.win 8).flush t = true) :
    (dats m 0 c).flushed 8 t = ((cfg0.win 8).blk t).view.read (Elt Ideal) (G8 m c) := by
  have ht : t.val / 33 % 11 = 10 := (flush8 t).mp hf
  have hi := index8 t ht
  have hN := lt_N t
  have e : (dats m 0 c).flushed 8 t = (cfg0.win 8).cut (grid0.coords t) (dqOut (dqAt m c t.val t.isLt)) := by
    show (cfg0.win 8).cut (grid0.coords t) ((dats m 0 c).after 8 t) = _
    rw [after0_8]
  rw [e]
  funext i
  rw [View.read_apply]
  have b0 : (i 0).val < 256 := lt_of_lt_of_eq (i 0).isLt (xsize8 t).1
  have b1 : (i 1).val < 384 := lt_of_lt_of_eq (i 1).isLt (xsize8 t).2
  refine Eq.trans (b := dqOut (dqAt m c t.val t.isLt) (ix2 (⟨(i 0).val, b0⟩ : Fin 256) (⟨(i 1).val, b1⟩ : Fin 384)))
    (congrArg _ (funext fun a => Fin.ext (by match a with | ⟨0, _⟩ => rfl | ⟨1, _⟩ => rfl))) ?_
  rw [dq_last m c h0 h1 h2 h3 t ht (⟨(i 0).val, b0⟩ : Fin 256) (⟨(i 1).val, b1⟩ : Fin 384) (⟨256 * ((i 1).val / 128) + (i 0).val, by omega⟩ : Fin 768) rfl (⟨(i 1).val % 128, by omega⟩ : Fin 128) rfl]
  have g : ∀ z : S8448x1536.Idx, (z 0).val = 256 * (t.val % 33) + (i 0).val → (z 1).val = 384 * (t.val / 363) + (i 1).val →
      ((DQ (hq m c) (hk m c) (hv m c) (hg m c) (grp t.val) (hd (⟨256 * ((i 1).val / 128) + (i 0).val, by omega⟩ : Fin 768))
        (qrow (t.val % 33) (⟨256 * ((i 1).val / 128) + (i 0).val, by omega⟩ : Fin 768)) (⟨(i 1).val % 128, by omega⟩ : Fin 128) : ℝ) : EReal)
        = G8 m c z := fun z z0 z1 => by
    have hz1 : (z 1).val < 1536 := (z 1).isLt
    rw [show grp t.val = (⟨(z 1).val / 384, by omega⟩ : Fin 4) from Fin.ext (by rw [grp_val]; show _ = (z 1).val / 384; omega),
      show hd (⟨256 * ((i 1).val / 128) + (i 0).val, by omega⟩ : Fin 768) = (⟨(z 1).val / 128 % 3, by omega⟩ : Fin 3) from
        Fin.ext (by show (256 * ((i 1).val / 128) + (i 0).val) / 256 = (z 1).val / 128 % 3; omega),
      show qrow (t.val % 33) (⟨256 * ((i 1).val / 128) + (i 0).val, by omega⟩ : Fin 768) = z 0 from
        Fin.ext ((row_val _ _ (Nat.mod_lt _ (by decide))).trans (by
          rw [z0]
          show 256 * (t.val % 33) + (256 * ((i 1).val / 128) + (i 0).val) % 256 = _
          omega)),
      show (⟨(i 1).val % 128, by omega⟩ : Fin 128) = ⟨(z 1).val % 128, by omega⟩ from Fin.ext (by show (i 1).val % 128 = (z 1).val % 128; omega)]
    rfl
  refine g _ ?_ ?_
  · show win0_8.index t 0 * 256 + 1 * (i 0).val = _; rw [hi.1]; omega
  · show win0_8.index t 1 * 384 + 1 * (i 1).val = _; rw [hi.2]; omega

include h0 h1 h2 h3 in
theorem final8 : (dats m 0 c).arrAt 8 cfg0.N = G8 m c :=
  (dats m 0 c).arrAt_eq_of_cover 8 (G8 m c) (flushed8_eq m c h0 h1 h2 h3) fun i => by
    have b0 : (i 0 : Nat) < 8448 := (i 0).isLt
    have b1 : (i 1 : Nat) < 1536 := (i 1).isLt
    have hN : cfg0.N = 1452 := N_0
    obtain ⟨t, ht⟩ : ∃ t : Fin cfg0.N, t.val = 363 * ((i 1 : Nat) / 384) + 330 + (i 0 : Nat) / 256 :=
      ⟨⟨363 * ((i 1 : Nat) / 384) + 330 + (i 0 : Nat) / 256, by omega⟩, rfl⟩
    have hl : t.val / 33 % 11 = 10 := by omega
    refine ⟨t, (flush8 t).mpr hl, ?_⟩
    obtain ⟨a0, a1⟩ := index8 t hl
    obtain ⟨c0, c1⟩ := xsize8 t
    show i ∈ ((View.whole main_v47_0).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + win0_8.xsize (grid0.coords t) 0
                rw [a0, c0]; omega
    | ⟨1, _⟩ => show win0_8.index t 1 * 384 ≤ (i 1 : Nat) ∧ (i 1 : Nat) < win0_8.index t 1 * 384 + win0_8.xsize (grid0.coords t) 1
                rw [a1, c1]; omega

end Att.Arrays

end
-- ==== Proof.FfnFinite.lean ====
/-
  The precondition read back: when `finite` holds of the five arguments, every element of each is a real number.
-/
module

public import proofs.«01_k».proof.Defs
public import proofs.«01_k».proof.Proof.Gen.Pre_finite
public import proofs.«01_k».proof.Proof.FfnSpec
public import Idealize.ShloMosaic.Lib.ReduceAll

@[expose] public section

noncomputable section

namespace Ffn

open Idealize.ShloMosaic

/-- The word of positive infinity is the top of the extended reals. -/
theorem ofBits_inf : Ideal.ofBits .f32 0x7F800000#32 = (⊤ : EReal) := by simp [Ideal.ofBits, Ideal.ieee]

theorem i1_ofBool {b : Bool} (h : BitVec.ofBool b = 1#1) : b = true := by
  cases b
  · exact absurd h (by decide)
  · rfl

instance : Subsingleton Cert.Pre_finite.S_.Idx := ⟨fun a b => funext fun k => k.elim0⟩

/-- An array whose magnitudes all compare below infinity holds real numbers only. -/
theorem isReal_of_all {s : Shape} {axes : List (Fin s.rank)} (x : FVec Ideal s .f32)
    (hb : Cert.Pre_finite.S_.BroadcastsInDim s (![] : Fin 0 → Fin s.rank)) (h : s.ReducesTo axes Cert.Pre_finite.S_)
    (hu : 0 < Cert.Pre_finite.S_.numel) (init : IVec Cert.Pre_finite.S_ 1) (j : Cert.Pre_finite.S_.Idx)
    (e : Host.reduce IntOp.andi (cmpf .olt (Host.absf x) (broadcastInDim s ![] hb (constant Cert.Pre_finite.S_ .f32 0x7F800000#32))) init h hu j = 1#1)
    (i : s.Idx) : IsReal (x i) := by
  have h1 := Host.reduce_andi_all _ _ h hu j e i
  have h2 : Ideal.cmp .olt (max (x i : EReal) (-(x i : EReal))) (Ideal.ofBits .f32 0x7F800000#32) = 1#1 := h1
  rw [ofBits_inf] at h2
  exact isReal_of_abs_lt_top (of_decide_eq_true (i1_ofBool h2))

theorem and_one {a b : IVec Cert.Pre_finite.S_ 1} {j : Cert.Pre_finite.S_.Idx} (h : andi a b j = 1#1) : a j = 1#1 ∧ b j = 1#1 :=
  IntOp.andi_eq_one.1 h

open Cert.Pre_finite in
theorem finite_args (x0 : FVec Ideal S8448x2048 .bf16) (x1 x2 : FVec Ideal S2048x5632 .bf16) (x3 : FVec Ideal S5632x2048 .bf16)
    (x4 : FVec Ideal S8448x2048 .bf16) (j : S_.Idx) (h : Cert.Pre_finite.fn (F := Ideal) x0 x1 x2 x3 x4 j = 1#1) :
    (∀ i, IsReal (x0 i)) ∧ (∀ i, IsReal (x1 i)) ∧ (∀ i, IsReal (x2 i)) ∧ (∀ i, IsReal (x3 i)) ∧ ∀ i, IsReal (x4 i) := by
  unfold Cert.Pre_finite.fn Cert.Pre_finite.fn_part1 at h
  dsimp only at h
  obtain ⟨h, e4⟩ := and_one h
  obtain ⟨h, e3⟩ := and_one h
  obtain ⟨h, e2⟩ := and_one h
  obtain ⟨e0, e1⟩ := and_one h
  exact ⟨isReal_of_all _ _ _ _ _ j e0, isReal_of_all _ _ _ _ _ j e1, isReal_of_all _ _ _ _ _ j e2,
    isReal_of_all _ _ _ _ _ j e3, isReal_of_all _ _ _ _ _ j e4⟩

end Ffn

end
-- ==== Proof.AttFinite.lean ====
/-
  The attention precondition read back: when `att_finite` holds of the four arguments, every element of each is a
  real number.
-/
module

public import proofs.«01_k».proof.Defs
public import proofs.«01_k».proof.Proof.Gen.Pre_att_finite
public import proofs.«01_k».proof.Proof.FfnFinite

@[expose] public section

noncomputable section

namespace Att

open Idealize.ShloMosaic Ffn

open Cert.Pre_att_finite in
theorem finite_args (x0 : FVec Ideal S8448x1536 .bf16) (x1 x2 : FVec Ideal S8448x512 .bf16) (x3 : FVec Ideal S8448x2048 .f32)
    (j : S_.Idx) (h : Cert.Pre_att_finite.fn (F := Ideal) x0 x1 x2 x3 j = 1#1) :
    (∀ i, IsReal (x0 i)) ∧ (∀ i, IsReal (x1 i)) ∧ (∀ i, IsReal (x2 i)) ∧ ∀ i, IsReal (x3 i) := by
  unfold Cert.Pre_att_finite.fn Cert.Pre_att_finite.fn_part1 at h
  dsimp only at h
  obtain ⟨h, e3⟩ := and_one h
  obtain ⟨h, e2⟩ := and_one h
  obtain ⟨e0, e1⟩ := and_one h
  exact ⟨isReal_of_all _ _ _ _ _ j e0, isReal_of_all _ _ _ _ _ j e1, isReal_of_all _ _ _ _ _ j e2,
    isReal_of_all _ _ _ _ _ j e3⟩

end Att

end
-- ==== Proof.AttClaim.lean ====
/-
  The attention gradient: the kernel's three results are the reference's, over the extended reals, when the arguments
  are finite.
-/
module

public import proofs.«01_k».proof.Defs
public import proofs.«01_k».proof.Proof.Gen.AttGrad
public import proofs.«01_k».proof.Proof.AttArrays
public import proofs.«01_k».proof.Proof.AttFinite
public import proofs.«01_k».proof.Proof.AttRef
public import proofs.«01_k».proof.Proof.Gen.AttGradReferenceIdeal.Run
public import Idealize.ShloMosaic.Lib.Claim
public import Idealize.ShloMosaic.Adequacy

@[expose] public section

noncomputable section

namespace Att

open Idealize.ShloMosaic Idealize.ShloMosaic.TcCoe Idealize.SL.Sem
open Att.Arrays

attribute [local instance] Cert.AttGrad.Gen.facts Cert.AttGradIdeal.Gen.facts Cert.AttGradReferenceIdeal.Gen.facts
  Cert.Pre_att_finite.Gen.facts

/-- The kernel leaves the three gradients and its arguments as they were. -/
theorem kernel (m : (ℓ : Loc Cert.AttGradIdeal.nD Cert.AttGradIdeal.τ Cert.AttGradIdeal.sig) → Buf (Elt Ideal) ℓ)
    (g : Dev Cert.AttGradIdeal.nD → PrngReg)
    (hfin : ∀ c, (∀ y, Ffn.IsReal (Host.q0 m c y)) ∧ (∀ y, Ffn.IsReal (Host.k0 m c y)) ∧ (∀ y, Ffn.IsReal (Host.v0 m c y))
      ∧ ∀ y, Ffn.IsReal (Host.g0 m c y)) :
    θ_run (Cert.AttGradIdeal.defs (F := Ideal)) (onTc (τ := Cert.AttGradIdeal.τ) (Cert.AttGradIdeal.main (F := Ideal)))
      ⟨m, fun _ => 0, g⟩ (fun r => ∀ c : Dev Cert.AttGradIdeal.nD,
        r.2.mem ((c.tc : Thread Cert.AttGradIdeal.nD Cert.AttGradIdeal.τ).loc Cert.AttGradIdeal.main_v47_0) = G8 m c
        ∧ r.2.mem ((c.tc : Thread Cert.AttGradIdeal.nD Cert.AttGradIdeal.τ).loc Cert.AttGradIdeal.main_v47_1) = G9 m c
        ∧ r.2.mem ((c.tc : Thread Cert.AttGradIdeal.nD Cert.AttGradIdeal.τ).loc Cert.AttGradIdeal.main_v47_2) = G10 m c) :=
  (θ_run _ _ _).mono (fun r h c => by
    obtain ⟨f0, f1, f2, f3⟩ := hfin c
    exact ⟨((h c).1 8).trans (final8 m c f0 f1 f2 f3), ((h c).1 9).trans (final9 m c f0 f1 f2 f3),
      ((h c).1 10).trans (final10 m c f0 f1 f2 f3)⟩) (Cert.AttGradIdeal.Hand.run_main m g)

theorem algebraic : Cert.algebraic_AttGradIdeal_AttGradReferenceIdeal_pre_att_finite := by
  intro m g m' g' hpre harg
  have hfin := fun c => finite_args _ _ _ _ (fun k => k.elim0) (congrFun (hpre c) _)
  refine ⟨fun c => G8 m c, fun c => G9 m c, fun c => G10 m c, ?_, ?_⟩
  · refine (θ_run _ _ _).mono (fun r h c => ?_) (θ_run_and (kernel m g hfin) (Cert.AttGradIdeal.Gen.frame_of m g
      (Cert.AttGradIdeal.Hand.dats m) (Cert.AttGradIdeal.Hand.A_eq m) (Cert.AttGradIdeal.Hand.run_main m g)))
    obtain ⟨⟨a0, a1, a2⟩, ha⟩ := And.intro (h.1 c) (h.2 c)
    exact ⟨a0, a1, a2, ha⟩
  · refine (θ_run _ _ _).mono (fun r h c => ?_) (Cert.AttGradReferenceIdeal.Value.run (F := Ideal) m' g')
    obtain ⟨h0, h1, h2, ha⟩ := h c
    obtain ⟨f0, f1, f2, f3⟩ := hfin c
    obtain ⟨e0, e1, e2, e3⟩ := harg c
    refine ⟨(h0.trans ?_).trans (Ref.queries _ _ _ _ f0 f1 f2 f3), (h1.trans ?_).trans (Ref.keys _ _ _ _ f0 f1 f2 f3),
      (h2.trans ?_).trans (Ref.values _ _ _ f0 f1 f3), ha⟩
    · exact (Cert.AttGradReferenceIdeal.Read.val_main_v75_eq m' c).trans (by rw [e0, e1, e2, e3])
    · exact (Cert.AttGradReferenceIdeal.Read.val_main_v73_eq m' c).trans (by rw [e0, e1, e2, e3])
    · exact (Cert.AttGradReferenceIdeal.Read.val_main_v55_eq _ _ _).trans (by rw [e0, e1, e3])

end Att

end
-- ==== Proof.AttFwdSpec.lean ====
/-
  One row of the attention forward pass: the sum over the key blocks seen so far, each key weighted by a power of two
  shifted by a running number. Changing the shift rescales the sum; the quotient of two such sums is the softmax mean;
  and the shift plus the logarithm to base two of the total is the row's statistic, whatever the shift is. The keys'
  scores are real; what is averaged may be infinite.
-/
module

public import proofs.«01_k».proof.Proof.AttSpec

@[expose] public section

noncomputable section

namespace Att.Fwd

open Idealize.ShloMosaic Idealize.ShloMosaic.ValueIdx
open Ffn (Mat IsReal)
open Att

/-- A power of two. -/
def two (x : ℝ) : ℝ := Real.rpow 2 x

theorem two_pos (x : ℝ) : 0 < two x := Real.rpow_pos_of_pos (by norm_num) x

theorem two_mul_two (x y : ℝ) : two x * two y = two (x + y) := (Real.rpow_add (by norm_num) x y).symm

/-- A power of two of a quotient by `log 2` is an exponential. -/
theorem two_div (x μ : ℝ) : two (x / Real.log 2 - μ) = Real.exp (x - μ * Real.log 2) := by
  unfold two
  rw [Real.rpow_eq_pow, Real.rpow_def_of_pos (by norm_num)]
  congr 1
  field_simp [log_two_ne]

/-- A nonnegative real factor passes into a sum of extended reals. -/
theorem mul_sum {ι : Type*} (c : ℝ) (hc : 0 ≤ c) (s : Finset ι) (f : ι → EReal) :
    (c : EReal) * ∑ i ∈ s, f i = ∑ i ∈ s, (c : EReal) * f i := by
  induction s using Finset.cons_induction with
  | empty => simp
  | cons a s ha ih =>
    rw [Finset.sum_cons, Finset.sum_cons, ← ih,
      EReal.left_distrib_of_nonneg_of_ne_top (EReal.coe_nonneg.mpr hc) (EReal.coe_ne_top c)]

section Row
variable (S : Fin 8448 → ℝ) (v : Fin 8448 → EReal)

/-- What key block `j` adds. -/
def block (μ : ℝ) (j : ℕ) : EReal := ∑ s : Fin 768, (two (S (krow j s) - μ) : EReal) * v (krow j s)

/-- What the first `n` key blocks add up to. -/
def part (μ : ℝ) (n : ℕ) : EReal := ∑ j ∈ Finset.range n, block S v μ j

theorem part_shift (μ μ' : ℝ) (n : ℕ) : (two (μ - μ') : EReal) * part S v μ n = part S v μ' n := by
  unfold part block
  rw [mul_sum _ (two_pos _).le]
  refine Finset.sum_congr rfl fun j _ => ?_
  rw [mul_sum _ (two_pos _).le]
  refine Finset.sum_congr rfl fun s _ => ?_
  rw [← mul_assoc, ← EReal.coe_mul, two_mul_two, show μ - μ' + (S (krow j s) - μ) = S (krow j s) - μ' by ring]

/-- The sum after one more block, the earlier ones rescaled. -/
theorem part_step (μ μ' : ℝ) (n : ℕ) : (two (μ - μ') : EReal) * part S v μ n + block S v μ' n = part S v μ' (n + 1) := by
  rw [part_shift]
  exact (Finset.sum_range_succ _ _).symm

/-- The sum after the first block, nothing before it. -/
theorem part_one (μ : ℝ) : block S v μ 0 = part S v μ 1 := (Finset.sum_range_one _).symm

theorem part_all (μ : ℝ) : part S v μ 11 = ∑ s, (two (S s - μ) : EReal) * v s :=
  sum_krow fun s => (two (S s - μ) : EReal) * v s

theorem part_ones (μ : ℝ) : part S (fun _ => 1) μ 11 = ((∑ s, two (S s - μ) : ℝ) : EReal) := by
  rw [part_all, coe_sum]
  exact Finset.sum_congr rfl fun s _ => mul_one _

end Row

section Scores
variable (q : Heads) (k : Group) (a : Fin 4) (h : Fin 3) (i : Fin 8448) (v : Fin 8448 → EReal)

/-- The scores the kernel forms. -/
def sc2 (s : Fin 8448) : ℝ := sc q k a h i s / Real.log 2

theorem total_two (μ : ℝ) : ∑ s, two (sc2 q k a h i s - μ) = ∑ s, Real.exp (sc q k a h i s - μ * Real.log 2) :=
  Finset.sum_congr rfl fun _ _ => two_div _ _

/-- The quotient of the two sums is the softmax mean. -/
theorem mean_eq (μ : ℝ) :
    Ideal.div (part (sc2 q k a h i) v μ 11) (part (sc2 q k a h i) (fun _ => 1) μ 11) = ∑ s, (P q k a h i s : EReal) * v s := by
  have hl := total_pos (sc q k a h i) (μ * Real.log 2)
  rw [part_ones, total_two, part_all, Ideal.div_coe hl.ne', mul_comm, mul_sum _ (one_div_pos.mpr hl).le]
  refine Finset.sum_congr rfl fun s _ => ?_
  rw [← mul_assoc, ← EReal.coe_mul]
  refine congrArg (fun x : ℝ => (x : EReal) * v s) ?_
  unfold P
  rw [← softmax_shift (sc q k a h i) (μ * Real.log 2) s]
  unfold sc2
  rw [two_div, one_div_mul_eq_div]

/-- A row's statistic does not depend on the shift. -/
theorem lse2_shift (m m' : ℝ) : lse2 q k m a h i = lse2 q k m' a h i := by
  have e : ∀ m : ℝ, m + Real.log (∑ s, Real.exp (sc q k a h i s - m)) = Real.log (∑ s, Real.exp (sc q k a h i s - 0)) := fun m => by
    have hs : ∑ s, Real.exp (sc q k a h i s - 0) = Real.exp m * ∑ s, Real.exp (sc q k a h i s - m) := by
      rw [Finset.mul_sum]
      exact Finset.sum_congr rfl fun s _ => by rw [← Real.exp_add]; congr 1; ring
    rw [hs, Real.log_mul (Real.exp_pos m).ne' (total_pos (sc q k a h i) m).ne', Real.log_exp]
  unfold lse2
  rw [e m, e m']

/-- The statistic the kernel leaves, at its own shift, is the row's statistic at any. -/
theorem stat_eq (μ m : ℝ) :
    (μ : EReal) + Ideal.div (Ideal.log (part (sc2 q k a h i) (fun _ => 1) μ 11)) ((Real.log 2 : ℝ) : EReal) = (lse2 q k m a h i : EReal) := by
  have hl := total_pos (sc q k a h i) (μ * Real.log 2)
  rw [part_ones, total_two, Ideal.log_coe, if_neg (not_le.mpr hl), div_coe_coe _ log_two_ne, ← EReal.coe_add,
    lse2_shift q k a h i m (μ * Real.log 2)]
  refine congrArg Real.toEReal ?_
  unfold lse2
  rw [add_div, mul_div_cancel_right₀ _ log_two_ne]

end Scores

/-! ## The two results -/

section Results
variable (x0 : Mat 8448 1536) (x1 x2 : Mat 8448 512)

/-- The output of head `h` of group `a` at row `i`, column `d`. -/
def mean (a : Fin 4) (h : Fin 3) (i : Fin 8448) (d : Fin 128) : EReal :=
  ∑ s, (P (heads x0) (group x1) a h i s : EReal) * x2 (ix2 s (kcol a d))

/-- The outputs, the heads side by side. -/
def outG : Mat 8448 1536 := fun y =>
  mean x0 x1 x2 ⟨(y 1).val / 384, by have : (y 1).val < 1536 := (y 1).isLt; omega⟩ ⟨(y 1).val / 128 % 3, by omega⟩ (y 0) ⟨(y 1).val % 128, by omega⟩

/-- The row statistics, one plane for each head, every column the same. -/
def statG : (⟨3, ![12, 8448, 128]⟩ : Shape).Idx → EReal := fun y =>
  (lse2 (heads x0) (group x1) 0 ⟨(y 0).val / 3, by have : (y 0).val < 12 := (y 0).isLt; omega⟩ ⟨(y 0).val % 3, by omega⟩ (y 1) : EReal)

end Results

end Att.Fwd

end
-- ==== Proof.AttFwdPay.lean ====
/-
  The attention forward kernel's values over the extended reals: one row's scores against a block of keys, the running
  number it subtracts, and the running sum; then what a point leaves when the points before it left a partial sum.
  The queries and keys are real; the values may be infinite.
-/
module

public import proofs.«01_k».proof.Proof.AttFwdSpec
public import proofs.«01_k».proof.Proof.Gen.AttIdeal.Skeleton
public import Idealize.ShloMosaic.Lib.IdealHost
public import Idealize.ShloMosaic.Lib.ValueLayoutCasts
public import Idealize.ShloMosaic.Lib.Pipeline.Value
public import Idealize.ShloMosaic.Lib.Pointwise

@[expose] public section

set_option maxRecDepth 16384

noncomputable section

namespace Att.Fwd

open Cert.AttIdeal Cert.AttIdeal.Gen Idealize.ShloMosaic.ValueIdx
open Idealize.ShloMosaic hiding ix1 ix2 ix3 ix4 eq_ix1 eq_ix2 eq_ix3 eq_ix4 mulf_apply addf_apply subf_apply divf_apply maximumf_apply constant_apply
open Ffn (Mat IsReal)

attribute [local instance] Cert.AttIdeal.Gen.facts

theorem ln2_eq : (Named.named κ "ln2" 0x3F317218#32 : Ideal .f32) = ((Real.log 2 : ℝ) : EReal) := rfl

/-- Six copies side by side of an array constant along its rows. -/
theorem six_at (L : FVec Ideal S2304x128 .f32) (x : Ideal .f32) (r : Fin 2304) (s : Fin 768) (h : ∀ d : Fin 128, L (ix2 r d) = x) :
    concatenate S2304x768 1 [⟨S2304x128, L⟩, ⟨S2304x128, L⟩, ⟨S2304x128, L⟩, ⟨S2304x128, L⟩, ⟨S2304x128, L⟩, ⟨S2304x128, L⟩]
      concatenates_S2304x128_S2304x128_S2304x128_S2304x128_S2304x128_S2304x128_S2304x768_d1 (ix2 r s) = x := by
  have hL : ∀ y : S2304x128.Idx, (y 0).val = r.val → L y = x := fun y hy => by
    rw [eq_ix2 y, show y 0 = r from Fin.ext hy]; exact h _
  simp only [pointwise]
  split_ifs <;> first | exact hL _ rfl | (rename_i hz; exact absurd hz (by decide))

/-- Two copies side by side of an array constant along its rows. -/
theorem two_at (L : FVec Ideal S2304x128 .f32) (x : Ideal .f32) (r : Fin 2304) (e : Fin 256) (h : ∀ d : Fin 128, L (ix2 r d) = x) :
    concatenate S2304x256 1 [⟨S2304x128, L⟩, ⟨S2304x128, L⟩] concatenates_S2304x128_S2304x128_S2304x256_d1 (ix2 r e) = x := by
  have hL : ∀ y : S2304x128.Idx, (y 0).val = r.val → L y = x := fun y hy => by
    rw [eq_ix2 y, show y 0 = r from Fin.ext hy]; exact h _
  simp only [pointwise]
  split_ifs <;> first | exact hL _ rfl | (rename_i hz; exact absurd hz (by decide))

/-- The three heads' blocks of queries, one under another. -/
def stack (X Y Z : Vec Ideal S768x128 .bf16) : FVec Ideal S2304x128 .bf16 :=
  concatenate S2304x128 0 [⟨S768x128, X⟩, ⟨S768x128, Y⟩, ⟨S768x128, Z⟩] concatenates_S768x128_S768x128_S768x128_S2304x128_d0

theorem stack_at (f : Fin 2304 → Fin 128 → EReal) (X Y Z : Vec Ideal S768x128 .bf16)
    (hX : ∀ (r : Fin 768) d, X (ix2 r d) = f ⟨r.val, by omega⟩ d) (hY : ∀ (r : Fin 768) d, Y (ix2 r d) = f ⟨768 + r.val, by omega⟩ d)
    (hZ : ∀ (r : Fin 768) d, Z (ix2 r d) = f ⟨1536 + r.val, by omega⟩ d) (r : Fin 2304) (d : Fin 128) :
    stack X Y Z (ix2 r d) = f r d := by
  have key : ∀ (W : Vec Ideal S768x128 .bf16) (n : ℕ) (hn : n ≤ 1536), (∀ (r : Fin 768) d, W (ix2 r d) = f ⟨n + r.val, by omega⟩ d) →
      ∀ y : S768x128.Idx, n + (y 0).val = r.val → (y 1).val = d.val → W y = f r d := fun W n hn hW y h0 h1 => by
    exact (congrArg W (eq_ix2 y)).trans ((hW (y 0) (y 1)).trans (congrArg₂ f (Fin.ext h0) (Fin.ext h1)))
  have hr := r.isLt
  unfold stack
  simp only [pointwise]
  split_ifs
  all_goals first
    | exact absurd trivial (by assumption)
    | exact key X 0 (by omega) (fun r d => (hX r d).trans (congrArg (f · d) (Fin.ext (by simp)))) _ (Nat.zero_add _) rfl
    | (refine key Y 768 (by omega) hY _ ?_ rfl
       have c : ¬ r.val < 768 := by assumption
       show 768 + (r.val - 768) = r.val
       omega)
    | (refine key Z 1536 (by omega) hZ _ ?_ rfl
       have c : ¬ r.val < 768 := by assumption
       have e : ¬ r.val - 768 < 768 := by assumption
       show 1536 + (r.val - 768 - 768) = r.val
       omega)

section Point
variable (q : Fin 2304 → Fin 128 → ℝ) (k : Fin 768 → Fin 128 → ℝ)
variable (X Y Z K : Vec Ideal S768x128 .bf16) (W : Vec Ideal S768x256 .bf16) (mm : Vec Ideal S2304x128 .f32) (aa : Vec Ideal S2304x256 .f32)
variable (hQ : ∀ r d, stack X Y Z (ix2 r d) = (q r d : EReal)) (hK : ∀ s d, K (ix2 s d) = (k s d : EReal))

include hQ hK in
theorem pay12_at (r : Fin 2304) (s : Fin 768) : k0_pay12 X Y Z K (ix2 r s) = ((∑ d, q r d * k s d : ℝ) : EReal) := by
  unfold k0_pay12
  show matmul _ none (stack (shapeCast S768x128 X _) (shapeCast S768x128 Y _) (shapeCast S768x128 Z _)) K _ (ix2 r s) = _
  rw [shapeCast_self, shapeCast_self, shapeCast_self]
  refine (Ideal.matmul_transposedRhs_apply (M := 2304) (K := 128) (N := 768) (φ₁ := .bf16) (φ₂ := .bf16) none (stack X Y Z) K _ r s).trans ?_
  rw [constant_apply, Ideal.ofBits_zero_f32, zero_add, coe_sum]
  exact Finset.sum_congr rfl fun d _ => by rw [hQ, hK, EReal.coe_mul]

include hQ hK in
/-- The number a row subtracts is real, once it has met a block of keys. -/
theorem pay13_at (r : Fin 2304) (c : EReal) (hc : c = ⊥ ∨ IsReal c) (hm : ∀ d : Fin 128, mm (ix2 r d) = c) :
    ∃ μ : ℝ, ∀ d : Fin 128, k0_pay13 X Y Z K mm (ix2 r d) = (μ : EReal) := by
  obtain ⟨x, hx⟩ := fold_max_real fun s : Fin 768 => ∑ d, q r d * k s d
  have e1 : multiReduction .maximumf [1] S2304 (k0_pay12 X Y Z K) 0xFF800000#32 reduces_S2304x768_S2304 (.inl rfl) rfl (ix1 r) = (x : EReal) := by
    refine (Ideal.multiReduction_maximumf_single _ _ _ _ _ _).trans (Eq.trans ?_ hx)
    show Finset.univ.fold max (⊥ : EReal) (fun s : Fin 768 => k0_pay12 X Y Z K _) = _
    refine congrArg (fun f => Finset.univ.fold max (⊥ : EReal) f) (funext fun s : Fin 768 => ?_)
    refine Eq.trans ?_ (pay12_at q k X Y Z K hQ hK r s)
    refine congrArg (k0_pay12 X Y Z K) (funext fun a => ?_)
    match a with
    | ⟨0, _⟩ => rfl
    | ⟨1, _⟩ => rfl
  have e2 : ∀ d : Fin 128, k0_pay13 X Y Z K mm (ix2 r d) = max c (x : EReal) := fun d => by
    unfold k0_pay13
    rw [maximumf_apply, hm]
    refine congrArg (max c) ?_
    rw [broadcastTo_apply _ _ _ (ix2 r (0 : Fin 1)) fun a => by match a with | ⟨0, _⟩ => rfl | ⟨1, _⟩ => rfl, shapeCast_a_a1_apply]
    exact e1
  rcases hc with rfl | ⟨y, rfl⟩
  · exact ⟨x, fun d => (e2 d).trans (max_eq_right bot_le)⟩
  · rcases le_total (y : EReal) (x : EReal) with h | h
    · exact ⟨x, fun d => (e2 d).trans (max_eq_right h)⟩
    · exact ⟨y, fun d => (e2 d).trans (max_eq_left h)⟩

include hQ hK in
theorem pay14_at (r : Fin 2304) (e : Fin 256) (c : EReal) (hm : ∀ d : Fin 128, mm (ix2 r d) = c) (μ : ℝ)
    (hμ : ∀ d : Fin 128, k0_pay13 X Y Z K mm (ix2 r d) = (μ : EReal)) :
    k0_pay14 X Y Z K mm aa W (ix2 r e)
      = Ideal.exp2 (c - μ) * aa (ix2 r e) + ∑ s, (two ((∑ d, q r d * k s d) - μ) : EReal) * W (ix2 s e) := by
  unfold k0_pay14
  rw [shapeCast_self, shapeCast_self, addf_apply, mulf_apply]
  refine congrArg₂ (HAdd.hAdd (α := EReal) (β := EReal) (γ := EReal)) (congrArg (· * aa (ix2 r e)) ?_) ?_
  · refine two_at _ _ r e fun d => ?_
    rw [exp2_apply, subf_apply, hm, hμ]
    rfl
  · refine (Ideal.matmul_plain_apply (M := 2304) (K := 768) (N := 256) (φ₁ := .bf16) (φ₂ := .bf16) none
      (truncf .bf16 _ bitsLt_bf16_f32 : FVec Ideal S2304x768 .bf16) W _ r e).trans ?_
    rw [constant_apply, Ideal.ofBits_zero_f32, zero_add]
    refine Finset.sum_congr rfl fun s _ => congrArg (· * W (ix2 s e)) ?_
    rw [truncf_apply, exp2_apply, subf_apply, six_at _ _ r s hμ, pay12_at q k X Y Z K hQ hK]
    exact (congrArg Ideal.exp2 (EReal.coe_sub _ _).symm).trans (Ideal.exp2_coe _)

end Point

/-! ## The blocks written back -/

/-- The means of head `n`, from the running sum. -/
theorem pay2_at (aa : Vec Ideal S2304x256 .f32) (r : Fin 2304) (d : Fin 128) :
    k0_pay2 aa (ix2 r d) = Ideal.div (aa (ix2 r ⟨d.val, by omega⟩)) (aa (ix2 r ⟨128 + d.val, by omega⟩)) := by
  unfold k0_pay2
  rw [divf_apply]
  refine congrArg₂ Ideal.div (extractStridedSlice_apply _ _ _ _ _ fun b => ?_) (extractStridedSlice_apply _ _ _ _ _ fun b => ?_)
  · match b with
    | ⟨0, _⟩ => exact (Nat.zero_add _).symm
    | ⟨1, _⟩ => exact (Nat.zero_add _).symm
  · match b with
    | ⟨0, _⟩ => exact (Nat.zero_add _).symm
    | ⟨1, _⟩ => rfl

theorem pay3_at (aa : Vec Ideal S2304x256 .f32) (mm : Vec Ideal S2304x128 .f32) (r : Fin 2304) (d : Fin 128) :
    k0_pay3 aa mm (ix2 r d)
      = mm (ix2 r d) + Ideal.div (Ideal.log (aa (ix2 r ⟨128 + d.val, by omega⟩))) ((Real.log 2 : ℝ) : EReal) := by
  unfold k0_pay3
  rw [addf_apply, divf_apply, broadcast_apply, ln2_eq, log_apply]
  refine congrArg (fun x => mm (ix2 r d) + Ideal.div (Ideal.log x) ((Real.log 2 : ℝ) : EReal)) (extractStridedSlice_apply _ _ _ _ _ fun b => ?_)
  match b with
  | ⟨0, _⟩ => exact (Nat.zero_add _).symm
  | ⟨1, _⟩ => rfl

theorem pay10_at (y : S2304x128.Idx) : k0_pay10 (F := Ideal) y = (⊥ : EReal) := by
  unfold k0_pay10
  rw [shapeCast_self]
  rfl

theorem pay11_at (y : S2304x256.Idx) : k0_pay11 (F := Ideal) y = (0 : EReal) := by
  unfold k0_pay11
  rw [shapeCast_self]
  exact Ideal.ofBits_zero_f32

end Att.Fwd

end
-- ==== Proof.AttFwdRun.lean ====
/-
  What one point of the attention forward kernel leaves: the running number and the running sum, after the first key
  block of a block of queries and after the later ones, and the two blocks written back after the last.
-/
module

public import proofs.«01_k».proof.Proof.Gen.AttIdeal.Value
public import Idealize.ShloMosaic.Lib.ValueIdx
public import Idealize.ShloMosaic.Lib.WritesUnit
public import Idealize.ShloMosaic.Lib.VecWindow
public import Idealize.ShloMosaic.Lib.Tactic

@[expose] public section

set_option maxRecDepth 16384

noncomputable section

namespace Att.Fwd

open Cert.AttIdeal Cert.AttIdeal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- The three heads' queries of a block. -/
def head0 (x0 : Vec Ideal S768x384 .bf16) : Vec Ideal S768x128 .bf16 :=
  View.ld x0 (Rect.unit (s := S768x384) ![0, 0] S768x128.size inb_S768x384_S768x128_0_0)
def head1 (x0 : Vec Ideal S768x384 .bf16) : Vec Ideal S768x128 .bf16 :=
  View.ld x0 (Rect.unit (s := S768x384) ![0, 128] S768x128.size inb_S768x384_S768x128_0_128)
def head2 (x0 : Vec Ideal S768x384 .bf16) : Vec Ideal S768x128 .bf16 :=
  View.ld x0 (Rect.unit (s := S768x384) ![0, 256] S768x128.size inb_S768x384_S768x128_0_256)

/-- The running number after a point. -/
def numNext (x0 : Vec Ideal S768x384 .bf16) (x1 : Vec Ideal S768x128 .bf16) (mm : Vec Ideal S2304x128 .f32) : Vec Ideal S2304x128 .f32 :=
  k0_pay13 (head0 x0) (head1 x0) (head2 x0) x1 mm

/-- The running sum after a point. -/
def sumNext (x0 : Vec Ideal S768x384 .bf16) (x1 : Vec Ideal S768x128 .bf16) (x2 : Vec Ideal S768x256 .bf16) (mm : Vec Ideal S2304x128 .f32)
    (aa : Vec Ideal S2304x256 .f32) : Vec Ideal S2304x256 .f32 :=
  k0_pay14 (head0 x0) (head1 x0) (head2 x0) x1 mm aa x2

/-- The block of means: the three heads side by side. -/
def meanOut (aa : Vec Ideal S2304x256 .f32) : Vec Ideal S768x384 .bf16 := fun y =>
  if h0 : (y 1).val < 128 then k0_pay4 aa (ValueIdx.ix2 (y 0) ⟨(y 1).val, h0⟩)
  else if h1 : (y 1).val < 256 then k0_pay6 aa (ValueIdx.ix2 (y 0) ⟨(y 1).val - 128, by omega⟩)
  else k0_pay8 aa (ValueIdx.ix2 (y 0) ⟨(y 1).val - 256, by have : (y 1).val < 384 := (y 1).isLt; omega⟩)

/-- The block of row statistics: the three heads one after another. -/
def statOut (aa : Vec Ideal S2304x256 .f32) (mm : Vec Ideal S2304x128 .f32) : Vec Ideal S3x768x128 .f32 := fun y =>
  if (y 0).val = 0 then k0_pay5 aa mm (ValueIdx.ix3 (0 : Fin 1) (y 1) (y 2))
  else if (y 0).val = 1 then k0_pay7 aa mm (ValueIdx.ix3 (0 : Fin 1) (y 1) (y 2))
  else k0_pay9 aa mm (ValueIdx.ix3 (0 : Fin 1) (y 1) (y 2))

theorem read_means {v : View sig .tc .vmem S768x384 .bf16} (f : v.ty.Contents (Elt Ideal)) (w : Vec Ideal S2304x256 .f32) :
    View.read (Elt Ideal) v (v.writes (Elt Ideal) f
      [⟨Rect.unit (s := S768x384) ![0, 256] S768x128.size inb_S768x384_S768x128_0_256, k0_pay8 w⟩,
       ⟨Rect.unit (s := S768x384) ![0, 128] S768x128.size inb_S768x384_S768x128_0_128, k0_pay6 w⟩,
       ⟨Rect.unit (s := S768x384) ![0, 0] S768x128.size inb_S768x384_S768x128_0_0, k0_pay4 w⟩]) = meanOut w := by
  funext y
  have hy : (y 1).val < 384 := (y 1).isLt
  unfold meanOut
  split_ifs with h0 h1
  · rw [View.read_writes_cons_unit_of_not_mem _ _ _ _ _ y rfl 1 (Or.inl (show (y 1).val < 256 by omega)),
      View.read_writes_cons_unit_of_not_mem _ _ _ _ _ y rfl 1 (Or.inl (show (y 1).val < 128 by omega))]
    refine View.read_writes_cons_unit_of_mem _ _ _ _ _ y (ValueIdx.ix2 (y 0) ⟨(y 1).val, h0⟩) rfl fun a => ?_
    match a with
    | ⟨0, _⟩ => show (y 0).val = 0 + (y 0).val; omega
    | ⟨1, _⟩ => show (y 1).val = 0 + (y 1).val; omega
  · rw [View.read_writes_cons_unit_of_not_mem _ _ _ _ _ y rfl 1 (Or.inl (show (y 1).val < 256 by omega))]
    refine View.read_writes_cons_unit_of_mem _ _ _ _ _ y (ValueIdx.ix2 (y 0) ⟨(y 1).val - 128, by omega⟩) rfl fun a => ?_
    match a with
    | ⟨0, _⟩ => show (y 0).val = 0 + (y 0).val; omega
    | ⟨1, _⟩ => show (y 1).val = 128 + ((y 1).val - 128); omega
  · refine View.read_writes_cons_unit_of_mem _ _ _ _ _ y (ValueIdx.ix2 (y 0) ⟨(y 1).val - 256, by omega⟩) rfl fun a => ?_
    match a with
    | ⟨0, _⟩ => show (y 0).val = 0 + (y 0).val; omega
    | ⟨1, _⟩ => show (y 1).val = 256 + ((y 1).val - 256); omega

theorem read_stats {v : View sig .tc .vmem S3x768x128 .f32} (f : v.ty.Contents (Elt Ideal)) (w : Vec Ideal S2304x256 .f32)
    (u : Vec Ideal S2304x128 .f32) :
    View.read (Elt Ideal) v (v.writes (Elt Ideal) f
      [⟨Rect.unit (s := S3x768x128) ![2, 0, 0] S1x768x128.size inb_S3x768x128_S1x768x128_2_0_0, k0_pay9 w u⟩,
       ⟨Rect.unit (s := S3x768x128) ![1, 0, 0] S1x768x128.size inb_S3x768x128_S1x768x128_1_0_0, k0_pay7 w u⟩,
       ⟨Rect.unit (s := S3x768x128) ![0, 0, 0] S1x768x128.size inb_S3x768x128_S1x768x128_0_0_0, k0_pay5 w u⟩]) = statOut w u := by
  funext y
  have hy : (y 0).val < 3 := (y 0).isLt
  unfold statOut
  split_ifs with h0 h1
  · rw [View.read_writes_cons_unit_of_not_mem _ _ _ _ _ y rfl 0 (Or.inl (show (y 0).val < 2 by omega)),
      View.read_writes_cons_unit_of_not_mem _ _ _ _ _ y rfl 0 (Or.inl (show (y 0).val < 1 by omega))]
    refine View.read_writes_cons_unit_of_mem _ _ _ _ _ y (ValueIdx.ix3 (0 : Fin 1) (y 1) (y 2)) rfl fun a => ?_
    match a with
    | ⟨0, _⟩ => show (y 0).val = 0 + 0; omega
    | ⟨1, _⟩ => show (y 1).val = 0 + (y 1).val; omega
    | ⟨2, _⟩ => show (y 2).val = 0 + (y 2).val; omega
  · rw [View.read_writes_cons_unit_of_not_mem _ _ _ _ _ y rfl 0 (Or.inl (show (y 0).val < 2 by omega))]
    refine View.read_writes_cons_unit_of_mem _ _ _ _ _ y (ValueIdx.ix3 (0 : Fin 1) (y 1) (y 2)) rfl fun a => ?_
    match a with
    | ⟨0, _⟩ => show (y 0).val = 1 + 0; omega
    | ⟨1, _⟩ => show (y 1).val = 0 + (y 1).val; omega
    | ⟨2, _⟩ => show (y 2).val = 0 + (y 2).val; omega
  · refine View.read_writes_cons_unit_of_mem _ _ _ _ _ y (ValueIdx.ix3 (0 : Fin 1) (y 1) (y 2)) rfl fun a => ?_
    match a with
    | ⟨0, _⟩ => show (y 0).val = 2 + 0; omega
    | ⟨1, _⟩ => show (y 1).val = 0 + (y 1).val; omega
    | ⟨2, _⟩ => show (y 2).val = 0 + (y 2).val; omega

section Cases
variable (c : Dev nD) (i : grid0.Coords)
  (a3 : Memref sig .tc .vmem S768x384 .bf16) (h3 : a3.IsWhole) (a4 : Memref sig .tc .vmem S768x128 .bf16) (h4 : a4.IsWhole)
  (a5 : Memref sig .tc .vmem S768x256 .bf16) (h5 : a5.IsWhole) (a6 : Memref sig .tc .vmem S768x384 .bf16) (h6 : a6.IsWhole)
  (a7 : Memref sig .tc .vmem S3x768x128 .f32) (h7 : a7.IsWhole) (a8 : Memref sig .tc .vmem S2304x128 .f32) (h8 : a8.IsWhole)
  (a9 : Memref sig .tc .vmem S2304x256 .f32) (h9 : a9.IsWhole)
  (x0 : Vec Ideal S768x384 .bf16) (x1 : Vec Ideal S768x128 .bf16) (x2 : Vec Ideal S768x256 .bf16)
  (mm : Vec Ideal S2304x128 .f32) (aa : Vec Ideal S2304x256 .f32)

theorem num_A (hc : cond0_0 i) (hd : ¬cond0_1 i) :
    sout0_A_0 c i a3 h3 a4 h4 a5 h5 a6 h6 a7 h7 a8 h8 a9 h9 hc hd x0 x1 x2 = numNext x0 x1 (k0_pay10 (F := Ideal)) := by
  unfold sout0_A_0
  rw [View.read_writes_eq_canon _ _ _ (scover0_A_0 c i a3 h3 a4 h4 a5 h5 a6 h6 a7 h7 a8 h8 a9 h9 hc hd x0 x1 x2)]
  unfold kernelRun0_A
  dsimp only
  sl_unfold_words
  rw [View.canon_cons_unit_zero hz2]
  unfold k0_pay1 numNext
  simp only [View.readAt_eq_ld, h3.read_unread, h4.read_unread, View.ld_unit_zero (S := S768x128) hz2, shapeCast_self,
    View.readCov_unit_zero (S := S2304x128) _ hz2]
  rfl

theorem sum_A (hc : cond0_0 i) (hd : ¬cond0_1 i) :
    sout0_A_1 c i a3 h3 a4 h4 a5 h5 a6 h6 a7 h7 a8 h8 a9 h9 hc hd x0 x1 x2 = sumNext x0 x1 x2 (k0_pay10 (F := Ideal)) (k0_pay11 (F := Ideal)) := by
  unfold sout0_A_1
  rw [View.read_writes_eq_canon _ _ _ (scover0_A_1 c i a3 h3 a4 h4 a5 h5 a6 h6 a7 h7 a8 h8 a9 h9 hc hd x0 x1 x2)]
  unfold kernelRun0_A
  dsimp only
  sl_unfold_words
  rw [View.canon_cons_unit_zero hz2]
  unfold sumNext
  simp only [View.readAt_eq_ld, h3.read_unread, h4.read_unread, h5.read_unread, View.ld_unit_zero (S := S768x128) hz2,
    View.ld_unit_zero (S := S768x256) hz2, View.readCov_unit_zero (S := S2304x128) _ hz2, View.readCov_unit_zero (S := S2304x256) _ hz2]
  rfl

theorem num_B (hc : ¬cond0_0 i) (hd : ¬cond0_1 i) :
    sout0_B_0 c i a3 h3 a4 h4 a5 h5 a6 h6 a7 h7 a8 h8 a9 h9 hc hd x0 x1 x2 mm aa = numNext x0 x1 mm := by
  unfold sout0_B_0
  rw [View.read_writes_eq_canon _ _ _ (scover0_B_0 c i a3 h3 a4 h4 a5 h5 a6 h6 a7 h7 a8 h8 a9 h9 hc hd x0 x1 x2 mm aa)]
  unfold kernelRun0_B
  dsimp only
  sl_unfold_words
  rw [View.canon_unit_zero hz2]
  unfold k0_pay1 numNext
  simp only [View.readAt_eq_ld, h3.read_unread, h4.read_unread, h8.read_unread, View.ld_unit_zero (S := S768x128) hz2,
    View.ld_unit_zero (S := S2304x128) hz2, shapeCast_self]
  rfl

theorem sum_B (hc : ¬cond0_0 i) (hd : ¬cond0_1 i) :
    sout0_B_1 c i a3 h3 a4 h4 a5 h5 a6 h6 a7 h7 a8 h8 a9 h9 hc hd x0 x1 x2 mm aa = sumNext x0 x1 x2 mm aa := by
  unfold sout0_B_1
  rw [View.read_writes_eq_canon _ _ _ (scover0_B_1 c i a3 h3 a4 h4 a5 h5 a6 h6 a7 h7 a8 h8 a9 h9 hc hd x0 x1 x2 mm aa)]
  unfold kernelRun0_B
  dsimp only
  sl_unfold_words
  rw [View.canon_unit_zero hz2]
  unfold sumNext
  simp only [View.readAt_eq_ld, h3.read_unread, h4.read_unread, h5.read_unread, h8.read_unread, h9.read_unread,
    View.ld_unit_zero (S := S768x128) hz2, View.ld_unit_zero (S := S768x256) hz2, View.ld_unit_zero (S := S2304x128) hz2,
    View.ld_unit_zero (S := S2304x256) hz2]
  rfl

theorem num_C (hc : ¬cond0_0 i) (hd : cond0_1 i) :
    sout0_C_0 c i a3 h3 a4 h4 a5 h5 a6 h6 a7 h7 a8 h8 a9 h9 hc hd x0 x1 x2 mm aa = numNext x0 x1 mm := by
  unfold sout0_C_0
  rw [View.read_writes_eq_canon _ _ _ (scover0_C_0 c i a3 h3 a4 h4 a5 h5 a6 h6 a7 h7 a8 h8 a9 h9 hc hd x0 x1 x2 mm aa)]
  unfold kernelRun0_C
  dsimp only
  sl_unfold_words
  rw [View.canon_unit_zero hz2]
  unfold k0_pay1 numNext
  simp only [View.readAt_eq_ld, h3.read_unread, h4.read_unread, h8.read_unread, View.ld_unit_zero (S := S768x128) hz2,
    View.ld_unit_zero (S := S2304x128) hz2, shapeCast_self]
  rfl

theorem sum_C (hc : ¬cond0_0 i) (hd : cond0_1 i) :
    sout0_C_1 c i a3 h3 a4 h4 a5 h5 a6 h6 a7 h7 a8 h8 a9 h9 hc hd x0 x1 x2 mm aa = sumNext x0 x1 x2 mm aa := by
  unfold sout0_C_1
  rw [View.read_writes_eq_canon _ _ _ (scover0_C_1 c i a3 h3 a4 h4 a5 h5 a6 h6 a7 h7 a8 h8 a9 h9 hc hd x0 x1 x2 mm aa)]
  unfold kernelRun0_C
  dsimp only
  sl_unfold_words
  rw [View.canon_unit_zero hz2]
  unfold sumNext
  simp only [View.readAt_eq_ld, h3.read_unread, h4.read_unread, h5.read_unread, h8.read_unread, h9.read_unread,
    View.ld_unit_zero (S := S768x128) hz2, View.ld_unit_zero (S := S768x256) hz2, View.ld_unit_zero (S := S2304x128) hz2,
    View.ld_unit_zero (S := S2304x256) hz2]
  rfl

set_option maxHeartbeats 1000000 in
theorem mean_C (hc : ¬cond0_0 i) (hd : cond0_1 i) :
    out0_C_3 c i a3 h3 a4 h4 a5 h5 a6 h6 a7 h7 a8 h8 a9 h9 hc hd x0 x1 x2 mm aa = meanOut (sumNext x0 x1 x2 mm aa) := by
  unfold out0_C_3 kernelRun0_C
  dsimp only
  sl_unfold_words
  refine (read_means _ _).trans (congrArg meanOut ?_)
  unfold sumNext
  simp only [View.readAt_eq_ld, h3.read_unread, h4.read_unread, h5.read_unread, h8.read_unread, h9.read_unread,
    View.ld_unit_zero (S := S768x128) hz2, View.ld_unit_zero (S := S768x256) hz2, View.ld_unit_zero (S := S2304x128) hz2,
    View.ld_unit_zero (S := S2304x256) hz2, View.readCov_unit_zero (S := S2304x256) _ hz2]
  rfl

set_option maxHeartbeats 1000000 in
theorem stat_C (hc : ¬cond0_0 i) (hd : cond0_1 i) :
    out0_C_4 c i a3 h3 a4 h4 a5 h5 a6 h6 a7 h7 a8 h8 a9 h9 hc hd x0 x1 x2 mm aa = statOut (sumNext x0 x1 x2 mm aa) (numNext x0 x1 mm) := by
  unfold out0_C_4 kernelRun0_C
  dsimp only
  sl_unfold_words
  refine (read_stats _ _ _).trans (congrArg₂ statOut ?_ ?_)
  · unfold sumNext
    simp only [View.readAt_eq_ld, h3.read_unread, h4.read_unread, h5.read_unread, h8.read_unread, h9.read_unread,
      View.ld_unit_zero (S := S768x128) hz2, View.ld_unit_zero (S := S768x256) hz2, View.ld_unit_zero (S := S2304x128) hz2,
      View.ld_unit_zero (S := S2304x256) hz2, View.readCov_unit_zero (S := S2304x256) _ hz2]
    rfl
  · unfold k0_pay1 numNext
    simp only [View.readAt_eq_ld, h3.read_unread, h4.read_unread, h8.read_unread, View.ld_unit_zero (S := S768x128) hz2,
      View.ld_unit_zero (S := S2304x128) hz2, shapeCast_self, View.readCov_unit_zero (S := S2304x128) _ hz2]
    rfl
end Cases

end Att.Fwd

end
-- ==== Proof.AttFwdPoint.lean ====
/-
  One point of the attention forward kernel over the blocks it reads, row by row: if the points before it left a real
  number and the sum over their keys at that number, so does it, with one key block more; and after the last key block
  what it writes back are the means and the row statistics.
-/
module

public import proofs.«01_k».proof.Proof.AttFwdPay
public import proofs.«01_k».proof.Proof.AttFwdRun

@[expose] public section

set_option maxRecDepth 16384

noncomputable section

namespace Att.Fwd

open Cert.AttIdeal Cert.AttIdeal.Gen Idealize.ShloMosaic.ValueIdx
open Idealize.ShloMosaic hiding ix1 ix2 ix3 ix4 eq_ix1 eq_ix2 eq_ix3 eq_ix4 mulf_apply addf_apply subf_apply divf_apply maximumf_apply constant_apply
open Ffn (Mat IsReal)

attribute [local instance] Cert.AttIdeal.Gen.facts

/-- The head and the row of a block's stacked row. -/
def hd3 (r : Fin 2304) : Fin 3 := ⟨r.val / 768, by omega⟩
def row3 (b : Fin 11) (r : Fin 2304) : Fin 8448 := ⟨768 * b.val + r.val % 768, by omega⟩

/-- What column `e` of the running sum averages: the values, then ones. -/
def colv (w : Mat 8448 512) (a : Fin 4) (e : Fin 256) (s : Fin 8448) : EReal :=
  if h : e.val < 128 then w (ix2 s (kcol a ⟨e.val, h⟩)) else 1

section Rows
variable (q : Heads) (k : Group) (w : Mat 8448 512) (a : Fin 4) (b : Fin 11)

/-- The blocks a point reads: the scaled queries of the three heads, a block of keys, and values beside ones. -/
structure Reads (n : ℕ) (x0 : Vec Ideal S768x384 .bf16) (x1 : Vec Ideal S768x128 .bf16) (x2 : Vec Ideal S768x256 .bf16) : Prop where
  hQ : ∀ r d, stack (head0 x0) (head1 x0) (head2 x0) (ix2 r d) = ((q a (hd3 r) (row3 b r) d / (√128 * Real.log 2) : ℝ) : EReal)
  hK : ∀ s d, x1 (ix2 s d) = (k a (krow n s) d : EReal)
  hV : ∀ s e, x2 (ix2 s e) = colv w a e (krow n s)

/-- What the points up to key block `n` leave: in each row a real number, and the sum over their keys at that number. -/
def Left (n : ℕ) (mm : Vec Ideal S2304x128 .f32) (aa : Vec Ideal S2304x256 .f32) : Prop :=
  ∀ r, ∃ μ : ℝ, (∀ d : Fin 128, mm (ix2 r d) = (μ : EReal))
    ∧ ∀ e, aa (ix2 r e) = part (sc2 q k a (hd3 r) (row3 b r)) (colv w a e) μ n

variable {q k w a b} {n : ℕ} {x0 : Vec Ideal S768x384 .bf16} {x1 : Vec Ideal S768x128 .bf16} {x2 : Vec Ideal S768x256 .bf16}

theorem block_eq (H : Reads q k w a b n x0 x1 x2) (r : Fin 2304) (e : Fin 256) (μ : ℝ) :
    ∑ s, (two ((∑ d, q a (hd3 r) (row3 b r) d / (√128 * Real.log 2) * k a (krow n s) d) - μ) : EReal) * x2 (ix2 s e)
      = block (sc2 q k a (hd3 r) (row3 b r)) (colv w a e) μ n := by
  unfold block
  refine Finset.sum_congr rfl fun s _ => ?_
  rw [H.hV]
  refine congrArg (fun x : ℝ => (two (x - μ) : EReal) * colv w a e (krow n s)) ?_
  exact sc_two q k a (hd3 r) (row3 b r) (krow n s)

/-- The first point of a block of queries. -/
theorem left_one (H : Reads q k w a b 0 x0 x1 x2) :
    Left q k w a b 1 (numNext x0 x1 (k0_pay10 (F := Ideal))) (sumNext x0 x1 x2 (k0_pay10 (F := Ideal)) (k0_pay11 (F := Ideal))) := fun r => by
  obtain ⟨μ, hμ⟩ := pay13_at _ _ (head0 x0) (head1 x0) (head2 x0) x1 (k0_pay10 (F := Ideal)) H.hQ H.hK r ⊥ (Or.inl rfl) fun d => pay10_at _
  refine ⟨μ, hμ, fun e => ?_⟩
  unfold sumNext
  rw [pay14_at _ _ _ _ _ x1 x2 _ _ H.hQ H.hK r e ⊥ (fun d => pay10_at _) μ hμ, pay11_at, mul_zero, zero_add, block_eq H, part_one]

/-- A later point. -/
theorem left_next (H : Reads q k w a b n x0 x1 x2) {mm : Vec Ideal S2304x128 .f32} {aa : Vec Ideal S2304x256 .f32}
    (h : Left q k w a b n mm aa) : Left q k w a b (n + 1) (numNext x0 x1 mm) (sumNext x0 x1 x2 mm aa) := fun r => by
  obtain ⟨ν, hν, ha⟩ := h r
  obtain ⟨μ, hμ⟩ := pay13_at _ _ (head0 x0) (head1 x0) (head2 x0) x1 mm H.hQ H.hK r (ν : EReal) (Or.inr ⟨ν, rfl⟩) hν
  refine ⟨μ, hμ, fun e => ?_⟩
  unfold sumNext
  rw [pay14_at _ _ _ _ _ x1 x2 mm aa H.hQ H.hK r e ν hν μ hμ, block_eq H, ha, ← part_step _ _ ν μ n, ← EReal.coe_sub]
  exact congrArg (· * _ + _) (Ideal.exp2_coe _)

/-! ## What is written back -/

variable {mm : Vec Ideal S2304x128 .f32} {aa : Vec Ideal S2304x256 .f32}

theorem colv_ones (d : Fin 128) : colv w a ⟨128 + d.val, by omega⟩ = fun _ => 1 :=
  funext fun _ => dif_neg (by show ¬ 128 + d.val < 128; omega)

theorem mean_row (h : Left q k w a b 11 mm aa) (r : Fin 2304) (d : Fin 128) :
    k0_pay2 aa (ix2 r d) = ∑ s, (P q k a (hd3 r) (row3 b r) s : EReal) * w (ix2 s (kcol a d)) := by
  obtain ⟨μ, -, ha⟩ := h r
  rw [pay2_at, ha, ha, colv_ones, mean_eq]
  exact Finset.sum_congr rfl fun s _ => congrArg (_ * ·) (dif_pos d.isLt)

theorem stat_row (h : Left q k w a b 11 mm aa) (r : Fin 2304) (d : Fin 128) :
    k0_pay3 aa mm (ix2 r d) = (lse2 q k 0 a (hd3 r) (row3 b r) : EReal) := by
  obtain ⟨μ, hm, ha⟩ := h r
  rw [pay3_at, ha, hm, colv_ones, stat_eq]

theorem meanOut_at (i : Fin 768) (j : Fin 384) :
    meanOut aa (ix2 i j) = k0_pay2 aa (ix2 ⟨768 * (j.val / 128) + i.val, by omega⟩ ⟨j.val % 128, by omega⟩) := by
  have hj := j.isLt
  have hi := i.isLt
  unfold meanOut
  split_ifs with c0 c1
  all_goals
    first | unfold k0_pay4 | unfold k0_pay6 | unfold k0_pay8
    refine (ValueIdx.truncf_apply _ bitsLt_bf16_f32 _).trans (extractStridedSlice_apply _ _ _ _ _ fun b => ?_)
  · replace c0 : j.val < 128 := c0
    match b with
    | ⟨0, _⟩ => show 768 * (j.val / 128) + i.val = 0 + i.val; omega
    | ⟨1, _⟩ => show j.val % 128 = 0 + j.val; omega
  · replace c0 : ¬ j.val < 128 := c0
    replace c1 : j.val < 256 := c1
    match b with
    | ⟨0, _⟩ => show 768 * (j.val / 128) + i.val = 768 + i.val; omega
    | ⟨1, _⟩ => show j.val % 128 = 0 + (j.val - 128); omega
  · replace c1 : ¬ j.val < 256 := c1
    match b with
    | ⟨0, _⟩ => show 768 * (j.val / 128) + i.val = 1536 + i.val; omega
    | ⟨1, _⟩ => show j.val % 128 = 0 + (j.val - 256); omega

theorem statOut_at (h : Fin 3) (i : Fin 768) (d : Fin 128) :
    statOut aa mm (ix3 h i d) = k0_pay3 aa mm (ix2 ⟨768 * h.val + i.val, by omega⟩ d) := by
  have hh := h.isLt
  have hi := i.isLt
  unfold statOut
  split_ifs with c0 c1
  all_goals
    first | unfold k0_pay5 | unfold k0_pay7 | unfold k0_pay9
    refine (shapeCast_ab_1ab_apply _ _ 0 i d).trans (extractStridedSlice_apply _ _ _ _ _ fun b => ?_)
  · replace c0 : h.val = 0 := c0
    match b with
    | ⟨0, _⟩ => show 768 * h.val + i.val = 0 + i.val; omega
    | ⟨1, _⟩ => show d.val = 0 + d.val; omega
  · replace c1 : h.val = 1 := c1
    match b with
    | ⟨0, _⟩ => show 768 * h.val + i.val = 768 + i.val; omega
    | ⟨1, _⟩ => show d.val = 0 + d.val; omega
  · replace c0 : ¬ h.val = 0 := c0
    replace c1 : ¬ h.val = 1 := c1
    match b with
    | ⟨0, _⟩ => show 768 * h.val + i.val = 1536 + i.val; omega
    | ⟨1, _⟩ => show d.val = 0 + d.val; omega
end Rows

end Att.Fwd

end
-- ==== Proof.AttFwdArrays.lean ====
/-
  The attention forward kernel's two results as whole arrays, over real queries and keys: what its host operations
  prepare, what a grid point's blocks read of it, the points of a block of queries one after another, and the blocks
  written back after the last.
-/
module

public import proofs.«01_k».proof.Proof.AttFwdPoint
public import proofs.«01_k».proof.Proof.AttHost
public import Idealize.ShloMosaic.Adequacy
public import Idealize.ShloMosaic.Lib.IdealHost
public import Idealize.ShloMosaic.Lib.Tactic

@[expose] public section

set_option maxRecDepth 16384

noncomputable section

namespace Att.Fwd

open Cert.AttIdeal Cert.AttIdeal.Gen Idealize.ShloMosaic.ValueIdx
open Idealize.ShloMosaic.TcCoe
open Idealize.ShloMosaic hiding ix1 ix2 ix3 ix4 eq_ix1 eq_ix2 eq_ix3 eq_ix4 mulf_apply addf_apply subf_apply divf_apply maximumf_apply constant_apply
open Ffn (Mat IsReal)
open Idealize.ShloMosaic.Pipeline (Dat)

attribute [local instance] Cert.AttIdeal.Gen.facts Cert.AttGradIdeal.Gen.facts

variable (m : (ℓ : Loc nD τ sig) → Buf (Elt Ideal) ℓ) (c : Dev nD)

abbrev q0 : Mat 8448 1536 := m ((c : Thread nD τ).loc main_arg0)
abbrev k0 : Mat 8448 512 := m ((c : Thread nD τ).loc main_arg1)
abbrev v0 : Mat 8448 512 := m ((c : Thread nD τ).loc main_arg2)

/-! ## What the host prepares -/

theorem V10_eq : V m c main_v10 = Att.Host.scaled (q0 m c) := by
  unfold V
  after_results
  all_goals rfl

theorem V3_eq : V m c main_v3 = Att.Host.beside (v0 m c) := by
  unfold V
  after_results
  all_goals rfl

/-! ## The blocks a point reads -/

/-- A point's key head, its block of queries and its block of keys. -/
def groupNo (n : ℕ) (hn : n < cfg0.N) : Fin 4 := ⟨n / 121, by have : cfg0.N = 484 := N_0; omega⟩
def blockNo (n : ℕ) : Fin 11 := ⟨n / 11 % 11, Nat.mod_lt _ (by decide)⟩

theorem index0 : ∀ t : Fin grid0.N, win0_0.index t 0 = t.val / 11 % 11 ∧ win0_0.index t 1 = t.val / 121 := by
  decide +kernel
theorem index1 : ∀ t : Fin grid0.N, win0_1.index t 0 = t.val % 11 ∧ win0_1.index t 1 = t.val / 121 := by
  decide +kernel
theorem index2 : ∀ t : Fin grid0.N, win0_2.index t 0 = t.val % 11 ∧ win0_2.index t 1 = t.val / 121 := by
  decide +kernel
theorem index3 : ∀ t : Fin grid0.N, win0_3.index t 0 = t.val / 11 % 11 ∧ win0_3.index t 1 = t.val / 121 := by
  decide +kernel
theorem index4 : ∀ t : Fin grid0.N, win0_4.index t 0 = t.val / 121 ∧ win0_4.index t 1 = t.val / 11 % 11 ∧ win0_4.index t 2 = 0 := by
  decide +kernel

/-- Row `p` of a point's block of queries, in the whole array. -/
def rowQ (n : ℕ) (p : Fin 768) : Fin 8448 := ⟨768 * (n / 11 % 11) + p.val, by omega⟩

theorem iblk0_at (t : Fin cfg0.N) (p : Fin 768) (h : Fin 3) (d : Fin 128) (j : Fin 384) (hj : j.val = 128 * h.val + d.val) :
    iblk m c 0 t (ix2 p j) = V m c main_v10 (ix2 (rowQ t.val p) (qcol (groupNo t.val t.isLt) h d)) := by
  have hi := index0 t
  unfold iblk
  rw [View.read_apply]
  show V m c main_v10 _ = _
  refine congrArg (V m c main_v10) (funext fun a => Fin.ext ?_)
  match a with
  | ⟨0, _⟩ => show win0_0.index t 0 * 768 + 1 * p.val = 768 * (t.val / 11 % 11) + p.val; rw [hi.1]; omega
  | ⟨1, _⟩ =>
    show win0_0.index t 1 * 384 + 1 * j.val = (qcol (groupNo t.val t.isLt) h d).val
    unfold qcol groupNo
    dsimp only
    rw [hi.2]; omega

theorem iblk1_at (t : Fin cfg0.N) (s : Fin 768) (d : Fin 128) :
    iblk m c 1 t (ix2 s d) = k0 m c (ix2 (krow (t.val % 11) s) (kcol (groupNo t.val t.isLt) d)) := by
  have hi := index1 t
  unfold iblk
  rw [View.read_apply]
  show V m c main_arg1 _ = _
  refine congrArg (m ((c : Thread nD τ).loc main_arg1)) (funext fun a => Fin.ext ?_)
  match a with
  | ⟨0, _⟩ =>
    show win0_1.index t 0 * 768 + 1 * s.val = (768 * (t.val % 11) + s.val) % 8448
    rw [hi.1]; omega
  | ⟨1, _⟩ =>
    show win0_1.index t 1 * 128 + 1 * d.val = (kcol (groupNo t.val t.isLt) d).val
    unfold kcol groupNo
    dsimp only
    rw [hi.2]; omega

theorem iblk2_at (t : Fin cfg0.N) (s : Fin 768) (e : Fin 256) :
    iblk m c 2 t (ix2 s e) = colv (v0 m c) (groupNo t.val t.isLt) e (krow (t.val % 11) s) := by
  have hi := index2 t
  unfold iblk
  rw [View.read_apply]
  refine Eq.trans (b := V m c main_v3 (ix2 (krow (t.val % 11) s) (⟨256 * (t.val / 121) + e.val, by have := (groupNo t.val t.isLt).isLt; unfold groupNo at this; dsimp only at this; omega⟩ : Fin 1024))) ?_ ?_
  · show V m c main_v3 _ = _
    refine congrArg (V m c main_v3) (funext fun a => Fin.ext ?_)
    match a with
    | ⟨0, _⟩ =>
      show win0_2.index t 0 * 768 + 1 * s.val = (768 * (t.val % 11) + s.val) % 8448
      rw [hi.1]; omega
    | ⟨1, _⟩ => show win0_2.index t 1 * 256 + 1 * e.val = 256 * (t.val / 121) + e.val; rw [hi.2]; omega
  · rw [V3_eq]
    exact Att.Host.beside_at (v0 m c) (groupNo t.val t.isLt) (krow (t.val % 11) s) e

variable (h0 : ∀ y, IsReal (q0 m c y)) (h1 : ∀ y, IsReal (k0 m c y))

abbrev hq : Heads := heads (q0 m c)
abbrev hk : Group := group (k0 m c)

include h0 in
theorem query_at (t : Fin cfg0.N) (p : Fin 768) (h : Fin 3) (d : Fin 128) (j : Fin 384) (hj : j.val = 128 * h.val + d.val) :
    iblk m c 0 t (ix2 p j) = ((hq m c (groupNo t.val t.isLt) h (rowQ t.val p) d / (√128 * Real.log 2) : ℝ) : EReal) := by
  rw [iblk0_at m c t p h d j hj, V10_eq]
  exact Att.Host.scaled_at (q0 m c) h0 _ h _ d

theorem head_at (x : Vec Ideal S768x384 .bf16) (p : Fin 768) (d : Fin 128) :
    head0 x (ix2 p d) = x (ix2 p ⟨d.val, by omega⟩) ∧ head1 x (ix2 p d) = x (ix2 p ⟨128 + d.val, by omega⟩)
      ∧ head2 x (ix2 p d) = x (ix2 p ⟨256 + d.val, by omega⟩) := by
  refine ⟨congrArg x (funext fun a => Fin.ext ?_), congrArg x (funext fun a => Fin.ext ?_), congrArg x (funext fun a => Fin.ext ?_)⟩
  all_goals
    match a with
    | ⟨0, _⟩ => show 0 + 1 * p.val = p.val; omega
    | ⟨1, _⟩ => first
      | (show 0 + 1 * d.val = d.val; omega)
      | (show 128 + 1 * d.val = 128 + d.val; omega)
      | (show 256 + 1 * d.val = 256 + d.val; omega)

include h0 h1 in
theorem reads_at (t : Fin cfg0.N) :
    Reads (hq m c) (hk m c) (v0 m c) (groupNo t.val t.isLt) (blockNo t.val) (t.val % 11) (iblk m c 0 t) (iblk m c 1 t) (iblk m c 2 t) where
  hQ r d := by
    refine stack_at (fun r d => ((hq m c (groupNo t.val t.isLt) (hd3 r) (row3 (blockNo t.val) r) d / (√128 * Real.log 2) : ℝ) : EReal))
      _ _ _ (fun p d => ?_) (fun p d => ?_) (fun p d => ?_) r d
    · refine ((head_at _ p d).1.trans (query_at m c h0 t p 0 d _ (by show d.val = 128 * 0 + d.val; omega))).trans ?_
      refine congrArg₂ (fun h i => ((hq m c (groupNo t.val t.isLt) h i d / (√128 * Real.log 2) : ℝ) : EReal)) (Fin.ext ?_) (Fin.ext ?_)
      · show 0 = p.val / 768; omega
      · show 768 * (t.val / 11 % 11) + p.val = 768 * (t.val / 11 % 11) + p.val % 768; omega
    · refine ((head_at _ p d).2.1.trans (query_at m c h0 t p 1 d _ (by show 128 + d.val = 128 * 1 + d.val; omega))).trans ?_
      refine congrArg₂ (fun h i => ((hq m c (groupNo t.val t.isLt) h i d / (√128 * Real.log 2) : ℝ) : EReal)) (Fin.ext ?_) (Fin.ext ?_)
      · show 1 = (768 + p.val) / 768; omega
      · show 768 * (t.val / 11 % 11) + p.val = 768 * (t.val / 11 % 11) + (768 + p.val) % 768; omega
    · refine ((head_at _ p d).2.2.trans (query_at m c h0 t p 2 d _ (by show 256 + d.val = 128 * 2 + d.val; omega))).trans ?_
      refine congrArg₂ (fun h i => ((hq m c (groupNo t.val t.isLt) h i d / (√128 * Real.log 2) : ℝ) : EReal)) (Fin.ext ?_) (Fin.ext ?_)
      · show 2 = (1536 + p.val) / 768; omega
      · show 768 * (t.val / 11 % 11) + p.val = 768 * (t.val / 11 % 11) + (1536 + p.val) % 768; omega
  hK s d := (iblk1_at m c t s d).trans (coe_toReal (h1 _)).symm
  hV s e := iblk2_at m c t s e

/-! ## The points of a block of queries -/

include h0 h1 in
/-- After key block `k` of query block `b` the scratch holds the sum over key blocks `0` to `k`. -/
theorem left_at (a : Fin 4) (b : Fin 11) : ∀ (k n : ℕ) (hn : n < cfg0.N), k < 11 → n = 121 * a.val + 11 * b.val + k →
    Left (hq m c) (hk m c) (v0 m c) a b (k + 1) (outsAt0 m c n hn).2.2.1 (outsAt0 m c n hn).2.2.2
  | 0, n, hn, hk, e => by
    have hr := reads_at m c h0 h1 ⟨n, hn⟩
    have ea : groupNo n hn = a := Fin.ext (by show n / 121 = a.val; omega)
    have eb : blockNo n = b := Fin.ext (by show n / 11 % 11 = b.val; omega)
    have en : n % 11 = 0 := by omega
    dsimp only at hr
    rw [ea, eb, en] at hr
    rw [outsAt0_A m c ⟨n, hn⟩ (by dsimp only; omega) (by dsimp only; omega)]
    dsimp only
    rw [num_A, sum_A]
    exact left_one hr
  | k + 1, n, hn, hk, e => by
    have hl := left_at a b k (n - 1) (by omega) (by omega) (by omega)
    have hr := reads_at m c h0 h1 ⟨n, hn⟩
    have ea : groupNo n hn = a := Fin.ext (by show n / 121 = a.val; omega)
    have eb : blockNo n = b := Fin.ext (by show n / 11 % 11 = b.val; omega)
    have en : n % 11 = k + 1 := by omega
    dsimp only at hr
    rw [ea, eb, en] at hr
    by_cases h10 : n % 11 = 10
    · rw [outsAt0_C m c ⟨n, hn⟩ (by dsimp only; omega) h10]
      dsimp only
      rw [num_C, sum_C]
      exact left_next hr hl
    · rw [outsAt0_B m c ⟨n, hn⟩ (by dsimp only; omega) h10]
      dsimp only
      rw [num_B, sum_B]
      exact left_next hr hl

theorem last_eq (t : Fin cfg0.N) (ht : t.val % 11 = 10) :
    (outsAt0 m c t.val t.isLt).1 = meanOut (outsAt0 m c t.val t.isLt).2.2.2
      ∧ (outsAt0 m c t.val t.isLt).2.1 = statOut (outsAt0 m c t.val t.isLt).2.2.2 (outsAt0 m c t.val t.isLt).2.2.1 := by
  rw [outsAt0_C m c t (by omega) ht]
  dsimp only
  rw [num_C, sum_C, mean_C, stat_C]
  exact ⟨rfl, rfl⟩

include h0 h1 in
theorem left_last (t : Fin cfg0.N) (ht : t.val % 11 = 10) :
    Left (hq m c) (hk m c) (v0 m c) (groupNo t.val t.isLt) (blockNo t.val) 11 (outsAt0 m c t.val t.isLt).2.2.1 (outsAt0 m c t.val t.isLt).2.2.2 :=
  left_at m c h0 h1 _ _ 10 t.val t.isLt (by decide) (by
    show t.val = 121 * (t.val / 121) + 11 * (t.val / 11 % 11) + 10
    omega)

include h0 h1 in
theorem mean_last (t : Fin cfg0.N) (ht : t.val % 11 = 10) (i : Fin 768) (j : Fin 384) :
    (outsAt0 m c t.val t.isLt).1 (ix2 i j) = mean (q0 m c) (k0 m c) (v0 m c) (groupNo t.val t.isLt) ⟨j.val / 128, by omega⟩ (rowQ t.val i)
      ⟨j.val % 128, by omega⟩ := by
  rw [(last_eq m c t ht).1, meanOut_at, mean_row (left_last m c h0 h1 t ht)]
  unfold mean
  refine Finset.sum_congr rfl fun s _ => ?_
  refine congrArg₂ (fun h i => (P (hq m c) (hk m c) (groupNo t.val t.isLt) h i s : EReal) * _) (Fin.ext ?_) (Fin.ext ?_)
  · show (768 * (j.val / 128) + i.val) / 768 = j.val / 128; omega
  · show 768 * (t.val / 11 % 11) + (768 * (j.val / 128) + i.val) % 768 = 768 * (t.val / 11 % 11) + i.val; omega

include h0 h1 in
theorem stat_last (t : Fin cfg0.N) (ht : t.val % 11 = 10) (h : Fin 3) (i : Fin 768) (d : Fin 128) :
    (outsAt0 m c t.val t.isLt).2.1 (ix3 h i d) = (lse2 (hq m c) (hk m c) 0 (groupNo t.val t.isLt) h (rowQ t.val i) : EReal) := by
  rw [(last_eq m c t ht).2, statOut_at, stat_row (left_last m c h0 h1 t ht)]
  refine congrArg₂ (fun h i => (lse2 (hq m c) (hk m c) 0 (groupNo t.val t.isLt) h i : EReal)) (Fin.ext ?_) (Fin.ext ?_)
  · show (768 * h.val + i.val) / 768 = h.val; omega
  · show 768 * (t.val / 11 % 11) + (768 * h.val + i.val) % 768 = 768 * (t.val / 11 % 11) + i.val; omega

/-! ## The whole arrays -/

theorem xsize3 : ∀ t : Fin grid0.N, win0_3.xsize (grid0.coords t) 0 = 768 ∧ win0_3.xsize (grid0.coords t) 1 = 384 := by
  decide +kernel
theorem xsize4 : ∀ t : Fin grid0.N, win0_4.xsize (grid0.coords t) 0 = 3 ∧ win0_4.xsize (grid0.coords t) 1 = 768
    ∧ win0_4.xsize (grid0.coords t) 2 = 128 := by
  decide +kernel

/-- The row of a key block of outputs, of an index of the whole. -/
theorem outG_at (i : Fin 8448) (J : Fin 1536) (a : Fin 4) (j : Fin 384) (hJ : J.val = 384 * a.val + j.val) :
    outG (q0 m c) (k0 m c) (v0 m c) (ix2 i J) = mean (q0 m c) (k0 m c) (v0 m c) a ⟨j.val / 128, by omega⟩ i ⟨j.val % 128, by omega⟩ := by
  have h : ∀ (a a' : Fin 4) (h h' : Fin 3) (d d' : Fin 128), a = a' → h = h' → d = d' →
      mean (q0 m c) (k0 m c) (v0 m c) a h i d = mean (q0 m c) (k0 m c) (v0 m c) a' h' i d' := by
    rintro _ _ _ _ _ _ rfl rfl rfl; rfl
  refine h _ _ _ _ _ _ (Fin.ext ?_) (Fin.ext ?_) (Fin.ext ?_)
  · show J.val / 384 = a.val; omega
  · show J.val / 128 % 3 = j.val / 128; omega
  · show J.val % 128 = j.val % 128; omega

theorem statG_at (p : Fin 12) (i : Fin 8448) (d : Fin 128) (a : Fin 4) (h : Fin 3) (hp : p.val = 3 * a.val + h.val) :
    statG (q0 m c) (k0 m c) (ix3 p i d) = (lse2 (hq m c) (hk m c) 0 a h i : EReal) := by
  refine congrArg₂ (fun a h => (lse2 (hq m c) (hk m c) 0 a h i : EReal)) (Fin.ext ?_) (Fin.ext ?_)
  · show p.val / 3 = a.val; omega
  · show p.val % 3 = h.val; omega

include h0 h1 in
theorem flushed3_mean (t : Fin cfg0.N) (hf : (cfg0.win 3).flush t = true) :
    (dats m 0 c).flushed 3 t = ((cfg0.win 3).blk t).view.read (Elt Ideal) (outG (q0 m c) (k0 m c) (v0 m c)) := by
  have hi := index3 t
  rw [Value.flushed3]
  funext i
  rw [View.read_apply]
  have b0 : (i 0).val < 768 := lt_of_lt_of_eq (i 0).isLt (xsize3 t).1
  have b1 : (i 1).val < 384 := lt_of_lt_of_eq (i 1).isLt (xsize3 t).2
  refine Eq.trans (b := (outsAt0 m c t.val t.isLt).1 (ix2 (⟨(i 0).val, b0⟩ : Fin 768) (⟨(i 1).val, b1⟩ : Fin 384)))
    (congrArg _ (funext fun a => Fin.ext (by match a with | ⟨0, _⟩ => rfl | ⟨1, _⟩ => rfl))) ?_
  rw [mean_last m c h0 h1 t ((flush0_3 t).mp hf)]
  refine (outG_at m c (rowQ t.val ⟨(i 0).val, b0⟩) ⟨384 * (t.val / 121) + (i 1).val, by
    have := (groupNo t.val t.isLt).isLt; unfold groupNo at this; dsimp only at this; omega⟩ (groupNo t.val t.isLt) ⟨(i 1).val, b1⟩ rfl).symm.trans ?_
  refine congrArg (outG (q0 m c) (k0 m c) (v0 m c)) (funext fun a => Fin.ext ?_)
  match a with
  | ⟨0, _⟩ => show 768 * (t.val / 11 % 11) + (i 0).val = win0_3.index t 0 * 768 + 1 * (i 0).val; rw [hi.1]; omega
  | ⟨1, _⟩ => show 384 * (t.val / 121) + (i 1).val = win0_3.index t 1 * 384 + 1 * (i 1).val; rw [hi.2]; omega

include h0 h1 in
theorem flushed4_stat (t : Fin cfg0.N) (hf : (cfg0.win 4).flush t = true) :
    (dats m 0 c).flushed 4 t = ((cfg0.win 4).blk t).view.read (Elt Ideal) (statG (q0 m c) (k0 m c)) := by
  have hi := index4 t
  rw [Value.flushed4]
  funext i
  rw [View.read_apply]
  have b0 : (i 0).val < 3 := lt_of_lt_of_eq (i 0).isLt (xsize4 t).1
  have b1 : (i 1).val < 768 := lt_of_lt_of_eq (i 1).isLt (xsize4 t).2.1
  have b2 : (i 2).val < 128 := lt_of_lt_of_eq (i 2).isLt (xsize4 t).2.2
  refine Eq.trans (b := (outsAt0 m c t.val t.isLt).2.1 (ix3 (⟨(i 0).val, b0⟩ : Fin 3) (⟨(i 1).val, b1⟩ : Fin 768) (⟨(i 2).val, b2⟩ : Fin 128)))
    (congrArg _ (funext fun a => Fin.ext (by match a with | ⟨0, _⟩ => rfl | ⟨1, _⟩ => rfl | ⟨2, _⟩ => rfl))) ?_
  rw [stat_last m c h0 h1 t ((flush0_4 t).mp hf)]
  refine (statG_at m c ⟨3 * (t.val / 121) + (i 0).val, by
    have := (groupNo t.val t.isLt).isLt; unfold groupNo at this; dsimp only at this; omega⟩ (rowQ t.val ⟨(i 1).val, b1⟩) ⟨(i 2).val, b2⟩
      (groupNo t.val t.isLt) ⟨(i 0).val, b0⟩ rfl).symm.trans ?_
  refine congrArg (statG (q0 m c) (k0 m c)) (funext fun a => Fin.ext ?_)
  match a with
  | ⟨0, _⟩ => show 3 * (t.val / 121) + (i 0).val = win0_4.index t 0 * 3 + 1 * (i 0).val; rw [hi.1]; omega
  | ⟨1, _⟩ => show 768 * (t.val / 11 % 11) + (i 1).val = win0_4.index t 1 * 768 + 1 * (i 1).val; rw [hi.2.1]; omega
  | ⟨2, _⟩ => show (i 2).val = win0_4.index t 2 * 128 + 1 * (i 2).val; rw [hi.2.2]; omega

include h0 h1 in
theorem final3 : (dats m 0 c).arrAt 3 cfg0.N = outG (q0 m c) (k0 m c) (v0 m c) :=
  (dats m 0 c).arrAt_eq_of_cover 3 _ (flushed3_mean m c h0 h1) fun i => by
    have b0 : (i 0 : Nat) < 8448 := (i 0).isLt
    have b1 : (i 1 : Nat) < 1536 := (i 1).isLt
    have hN : cfg0.N = 484 := N_0
    obtain ⟨t, ht⟩ : ∃ t : Fin cfg0.N, t.val = 121 * ((i 1 : Nat) / 384) + 11 * ((i 0 : Nat) / 768) + 10 :=
      ⟨⟨121 * ((i 1 : Nat) / 384) + 11 * ((i 0 : Nat) / 768) + 10, by omega⟩, rfl⟩
    refine ⟨t, (flush0_3 t).mpr (by omega), ?_⟩
    obtain ⟨a0, a1⟩ := index3 t
    obtain ⟨z0, z1⟩ := xsize3 t
    show i ∈ ((View.whole main_v11_0).slice (win0_3.rect t)).set
    rw [View.set_slice_whole, Rect.mem_set_unit]
    intro a
    match a with
    | ⟨0, _⟩ => show win0_3.index t 0 * 768 ≤ (i 0 : Nat) ∧ (i 0 : Nat) < win0_3.index t 0 * 768 + win0_3.xsize (grid0.coords t) 0
                rw [a0, z0]; omega
    | ⟨1, _⟩ => show win0_3.index t 1 * 384 ≤ (i 1 : Nat) ∧ (i 1 : Nat) < win0_3.index t 1 * 384 + win0_3.xsize (grid0.coords t) 1
                rw [a1, z1]; omega

include h0 h1 in
theorem final4 : (dats m 0 c).arrAt 4 cfg0.N = statG (q0 m c) (k0 m c) :=
  (dats m 0 c).arrAt_eq_of_cover 4 _ (flushed4_stat m c h0 h1) fun i => by
    have b0 : (i 0 : Nat) < 12 := (i 0).isLt
    have b1 : (i 1 : Nat) < 8448 := (i 1).isLt
    have b2 : (i 2 : Nat) < 128 := (i 2).isLt
    have hN : cfg0.N = 484 := N_0
    obtain ⟨t, ht⟩ : ∃ t : Fin cfg0.N, t.val = 121 * ((i 0 : Nat) / 3) + 11 * ((i 1 : Nat) / 768) + 10 :=
      ⟨⟨121 * ((i 0 : Nat) / 3) + 11 * ((i 1 : Nat) / 768) + 10, by omega⟩, rfl⟩
    refine ⟨t, (flush0_4 t).mpr (by omega), ?_⟩
    obtain ⟨a0, a1, a2⟩ := index4 t
    obtain ⟨z0, z1, z2⟩ := xsize4 t
    show i ∈ ((View.whole main_v11_1).slice (win0_4.rect t)).set
    rw [View.set_slice_whole, Rect.mem_set_unit]
    intro a
    match a with
    | ⟨0, _⟩ => show win0_4.index t 0 * 3 ≤ (i 0 : Nat) ∧ (i 0 : Nat) < win0_4.index t 0 * 3 + win0_4.xsize (grid0.coords t) 0
                rw [a0, z0]; omega
    | ⟨1, _⟩ => show win0_4.index t 1 * 768 ≤ (i 1 : Nat) ∧ (i 1 : Nat) < win0_4.index t 1 * 768 + win0_4.xsize (grid0.coords t) 1
                rw [a1, z1]; omega
    | ⟨2, _⟩ => show win0_4.index t 2 * 128 ≤ (i 2 : Nat) ∧ (i 2 : Nat) < win0_4.index t 2 * 128 + win0_4.xsize (grid0.coords t) 2
                rw [a2, z2]; omega

end Att.Fwd

end
-- ==== Proof.AttFwdRef.lean ====
/-
  The attention forward reference read over the extended reals, the queries and keys real: its two results are the
  softmax means of the values and the row statistics.
-/
module

public import proofs.«01_k».proof.Proof.AttFwdSpec
public import proofs.«01_k».proof.Proof.AttHost
public import proofs.«01_k».proof.Proof.Gen.AttReferenceIdeal.Read

@[expose] public section

set_option maxRecDepth 16384

noncomputable section

namespace Att.Fwd

open Cert.AttReferenceIdeal Cert.AttReferenceIdeal.Gen Cert.AttReferenceIdeal.Read Idealize.ShloMosaic.ValueIdx
open Idealize.ShloMosaic hiding ix1 ix2 ix3 ix4 eq_ix1 eq_ix2 eq_ix3 eq_ix4 mulf_apply addf_apply subf_apply maximumf_apply constant_apply
open Ffn (Mat IsReal)
open Att.Ref (top)
open Att.Host (shifted totals logs outs place)

variable (x0 : Mat 8448 1536) (x1 x2 : Mat 8448 512)
variable (h0 : ∀ y, IsReal (x0 y)) (h1 : ∀ y, IsReal (x1 y))

/-! ## The two programs' scores are the same -/

theorem v4_eq : val_main_v4 (F := Ideal) x0 = Cert.AttGradReferenceIdeal.Read.val_main_v4 (F := Ideal) x0 := by
  unfold val_main_v4 val_main_v3 val_main_v0
  unfold Cert.AttGradReferenceIdeal.Read.val_main_v4 Cert.AttGradReferenceIdeal.Read.val_main_v3 Cert.AttGradReferenceIdeal.Read.val_main_v0
  rfl

theorem v6_eq : val_main_v6 (F := Ideal) x1 = Cert.AttGradReferenceIdeal.Read.val_main_v6 (F := Ideal) x1 := by
  unfold val_main_v6 val_main_v5 val_main_v1
  unfold Cert.AttGradReferenceIdeal.Read.val_main_v6 Cert.AttGradReferenceIdeal.Read.val_main_v5 Cert.AttGradReferenceIdeal.Read.val_main_v1
  rfl

theorem v9_eq : val_main_v9 (F := Ideal) = Cert.AttGradReferenceIdeal.Read.val_main_v9 (F := Ideal) := by
  unfold val_main_v9 val_main_v8 val_main_cst
  unfold Cert.AttGradReferenceIdeal.Read.val_main_v9 Cert.AttGradReferenceIdeal.Read.val_main_v8 Cert.AttGradReferenceIdeal.Read.val_main_cst
  rfl

theorem v10_eq : val_main_v10 (F := Ideal) x0 x1 = Cert.AttGradReferenceIdeal.Read.val_main_v10 (F := Ideal) x0 x1 := by
  unfold val_main_v10 val_main_v7
  rw [v4_eq, v6_eq, v9_eq]
  unfold Cert.AttGradReferenceIdeal.Read.val_main_v10 Cert.AttGradReferenceIdeal.Read.val_main_v7
  rfl

theorem v11_eq : val_main_v11 (F := Ideal) x0 x1 = Cert.AttGradReferenceIdeal.Read.val_main_v11 (F := Ideal) x0 x1 := by
  unfold val_main_v11 val_main_cst_0
  rw [v10_eq]
  unfold Cert.AttGradReferenceIdeal.Read.val_main_v11 Cert.AttGradReferenceIdeal.Read.val_main_cst_0
  rfl

/-- The scores formed a second time, for the outputs. -/
theorem v29_eq : val_main_v29 (F := Ideal) x0 x1 = val_main_v10 (F := Ideal) x0 x1 := by
  unfold val_main_v29 val_main_v26 val_main_v28 val_main_v27 val_main_cst_3 val_main_v23 val_main_v25 val_main_v22 val_main_v24
  unfold val_main_v10 val_main_v7 val_main_v9 val_main_v8 val_main_cst val_main_v4 val_main_v6 val_main_v3 val_main_v5
  rfl

theorem v30_eq : val_main_v30 (F := Ideal) x0 x1 = val_main_v11 (F := Ideal) x0 x1 := by
  unfold val_main_v30 val_main_cst_4
  rw [v29_eq]
  unfold val_main_v11 val_main_cst_0
  rfl

theorem v32_eq : val_main_v32 (F := Ideal) x0 x1 = val_main_v11 (F := Ideal) x0 x1 := by
  funext y
  rw [val_main_v32_apply, val_main_v31_apply, val_main_cst_5_apply, Ideal.ofBits_def, Att.Ref.word_neg_inf, Ideal.maximumf_def,
    max_eq_right bot_le, v30_eq]

/-- Over the extended reals a round trip through the narrower format changes nothing. -/
theorem round_trip (x : FVec Ideal S4x3x8448x8448 .f32) : extf .f32 (truncf .bf16 x bitsLt_bf16_f32) bitsLt_bf16_f32 = x := rfl

theorem v45_eq : val_main_v45 (F := Ideal) x0 x1 x2
    = outs (shifted (Cert.AttGradReferenceIdeal.Read.val_main_v10 (F := Ideal) x0 x1) (Cert.AttGradReferenceIdeal.Read.val_main_v11 (F := Ideal) x0 x1))
      (totals (shifted (Cert.AttGradReferenceIdeal.Read.val_main_v10 (F := Ideal) x0 x1) (Cert.AttGradReferenceIdeal.Read.val_main_v11 (F := Ideal) x0 x1)))
      (val_main_v42 (F := Ideal) x2) := by
  unfold val_main_v45 val_main_v44 val_main_v43
  rw [round_trip]
  unfold val_main_v40 val_main_v39 val_main_v38 val_main_v37 val_main_v36 val_main_v35 val_main_v34 val_main_v33 val_main_cst_6
  rw [v32_eq, v29_eq, v10_eq, v11_eq]
  unfold outs totals shifted
  rfl

theorem v50_eq : val_main_v50 (F := Ideal) x0 x1
    = broadcastInDim S12x8448x128 ![0, 1, 2] bcast_S12x8448x1_S12x8448x128_0_1_2
      (shapeCast S12x8448x1 (logs (Cert.AttGradReferenceIdeal.Read.val_main_v11 (F := Ideal) x0 x1)
        (totals (shifted (Cert.AttGradReferenceIdeal.Read.val_main_v10 (F := Ideal) x0 x1)
          (Cert.AttGradReferenceIdeal.Read.val_main_v11 (F := Ideal) x0 x1)))) shapeCasts_S4x3x8448_S12x8448x1) := by
  unfold val_main_v50 val_main_v49 val_main_v21 val_main_v20 val_main_v19 val_main_cst_2 val_main_v18 val_main_v17 val_main_v16 val_main_cst_1
    val_main_v15 val_main_v14 val_main_v13 val_main_v12
  rw [v11_eq, v10_eq]
  unfold logs totals shifted
  rfl

/-- The values by groups. -/
theorem v42_at (a : Fin 4) (s : Fin 8448) (d : Fin 128) : val_main_v42 (F := Ideal) x2 (ix3 a s d) = x2 (ix2 s (kcol a d)) := by
  rw [val_main_v42_apply, val_main_v41_apply, val_main_v2_apply]
  show x2 _ = x2 _
  refine congrArg x2 (funext fun b => Fin.ext ?_)
  match b with
  | ⟨0, _⟩ => show ((s.val * 4 + a.val) * 128 + d.val) / 512 = s.val; omega
  | ⟨1, _⟩ => show ((s.val * 4 + a.val) * 128 + d.val) % 512 = 128 * a.val + d.val; omega

include h0 h1 in
theorem v45_at (a : Fin 4) (h : Fin 3) (i : Fin 8448) (d : Fin 128) :
    val_main_v45 (F := Ideal) x0 x1 x2 (ix4 a h i d) = mean x0 x1 x2 a h i d := by
  rw [v45_eq]
  refine (Att.Host.outs_mul _ _ _ (heads x0) (group x1) (top x0 x1) (Att.Ref.v10_at x0 x1 h0 h1) (Att.Ref.v11_at x0 x1 h0 h1) a h i d).trans ?_
  exact Finset.sum_congr rfl fun s _ => by rw [v42_at]

include h0 h1 in
/-- The reference's outputs. -/
theorem ref_out : val_main_v48 (F := Ideal) x0 x1 x2 = outG x0 x1 x2 := by
  funext y
  obtain ⟨i, j, rfl⟩ : ∃ i j, y = ix2 i j := ⟨y 0, y 1, eq_ix2 y⟩
  rw [val_main_v48_apply, val_main_v47_apply, val_main_v46_apply]
  unfold outG
  rw [← v45_at x0 x1 x2 h0 h1]
  refine congrArg (val_main_v45 (F := Ideal) x0 x1 x2) (funext fun b => Fin.ext ?_)
  have hj := j.isLt
  match b with
  | ⟨0, _⟩ => show (i.val * 1536 + j.val) / 384 % 4 = j.val / 384; omega
  | ⟨1, _⟩ => show (i.val * 1536 + j.val) / 128 % 3 = j.val / 128 % 3; omega
  | ⟨2, _⟩ => show (i.val * 1536 + j.val) / 1536 = i.val; omega
  | ⟨3, _⟩ => show (i.val * 1536 + j.val) % 128 = j.val % 128; omega

include h0 h1 in
/-- The reference's row statistics. -/
theorem ref_stat : val_main_v50 (F := Ideal) x0 x1 = statG x0 x1 := by
  funext y
  obtain ⟨p, i, d, rfl⟩ : ∃ p i d, y = ix3 p i d := ⟨y 0, y 1, y 2, eq_ix3 y⟩
  have hp : p.val < 12 := p.isLt
  obtain ⟨a, h, rfl⟩ : ∃ (a : Fin 4) (h : Fin 3), p = place a h :=
    ⟨⟨p.val / 3, by omega⟩, ⟨p.val % 3, by omega⟩, Fin.ext (by show p.val = 3 * (p.val / 3) + p.val % 3; omega)⟩
  rw [v50_eq]
  refine (Att.Host.stat_at _ a h i d).trans ?_
  refine (Att.Host.logs_at _ _ (heads x0) (group x1) (top x0 x1) (Att.Ref.v10_at x0 x1 h0 h1) (Att.Ref.v11_at x0 x1 h0 h1) a h i).trans ?_
  rw [lse2_shift _ _ _ _ _ _ 0]
  unfold statG
  refine congrArg Real.toEReal ?_
  have ha := a.isLt
  have hh := h.isLt
  refine congrArg₂ (fun a h => lse2 (heads x0) (group x1) 0 a h i) (Fin.ext ?_) (Fin.ext ?_)
  · show a.val = (3 * a.val + h.val) / 3; omega
  · show h.val = (3 * a.val + h.val) % 3; omega

end Att.Fwd

end
-- ==== Proof.AttFwdClaim.lean ====
/-
  Attention's forward call: the kernel's outputs and row statistics are the reference's, over the extended reals, when
  the queries and the keys are finite.
-/
module

public import proofs.«01_k».proof.Defs
public import proofs.«01_k».proof.Proof.Gen.Att
public import proofs.«01_k».proof.Proof.Gen.AttReferenceIdeal.Run
public import proofs.«01_k».proof.Proof.Gen.Pre_att_fwd_finite
public import proofs.«01_k».proof.Proof.FfnFinite
public import proofs.«01_k».proof.Proof.AttFwdArrays
public import proofs.«01_k».proof.Proof.AttFwdRef
public import Idealize.ShloMosaic.Adequacy

@[expose] public section

noncomputable section

namespace Att.Fwd

open Idealize.ShloMosaic Idealize.ShloMosaic.TcCoe Idealize.SL.Sem Ffn

open Cert.Pre_att_fwd_finite in
/-- The precondition read back: every query and every key is a real number. -/
theorem finite_args [Cert.Pre_att_fwd_finite.Facts] (x0 : FVec Ideal S8448x1536 .bf16) (x1 x2 : FVec Ideal S8448x512 .bf16) (j : S_.Idx)
    (h : Cert.Pre_att_fwd_finite.fn (F := Ideal) x0 x1 x2 j = 1#1) : (∀ i, IsReal (x0 i)) ∧ ∀ i, IsReal (x1 i) := by
  unfold Cert.Pre_att_fwd_finite.fn at h
  dsimp only at h
  obtain ⟨e0, e1⟩ := and_one h
  exact ⟨isReal_of_all _ _ _ _ _ j e0, isReal_of_all _ _ _ _ _ j e1⟩

attribute [local instance] Cert.Att.Gen.facts Cert.AttIdeal.Gen.facts Cert.AttReferenceIdeal.Gen.facts Cert.Pre_att_fwd_finite.Gen.facts

theorem algebraic : Cert.algebraic_AttIdeal_AttReferenceIdeal_pre_att_fwd_finite := by
  intro m g m' g' hpre harg
  have hfin := fun c => finite_args _ _ _ (fun k => k.elim0) (congrFun (hpre c) _)
  refine ⟨fun c => outG (q0 m c) (k0 m c) (v0 m c), fun c => statG (q0 m c) (k0 m c), ?_, ?_⟩
  · refine (θ_run _ _ _).mono (fun r h c => ?_) (Cert.AttIdeal.Value.run_blocks m g)
    obtain ⟨a0, a1, ha⟩ := h c
    obtain ⟨f0, f1⟩ := hfin c
    exact ⟨a0.trans (final3 m c f0 f1), a1.trans (final4 m c f0 f1), ha⟩
  · refine (θ_run _ _ _).mono (fun r h c => ?_) (Cert.AttReferenceIdeal.Value.run (F := Ideal) m' g')
    obtain ⟨a0, a1, ha⟩ := h c
    obtain ⟨f0, f1⟩ := hfin c
    obtain ⟨e0, e1, e2⟩ := harg c
    refine ⟨(a0.trans ?_).trans (ref_out _ _ _ f0 f1), (a1.trans ?_).trans (ref_stat _ _ f0 f1), ha⟩
    · exact (Cert.AttReferenceIdeal.Read.val_main_v48_eq _ _ _).trans (by rw [e0, e1, e2])
    · exact (Cert.AttReferenceIdeal.Read.val_main_v50_eq _ _).trans (by rw [e0, e1])

end Att.Fwd

end
-- ==== Proof.Projection.lean ====
/-
  What the two layers' projections share: a wide axis in eight blocks of columns, of any width, and the products that
  are summed over those blocks.
-/
module

public import proofs.«01_k».proof.Proof.FfnBlocks

@[expose] public section

set_option maxRecDepth 16384

noncomputable section

namespace Proj

open Idealize.ShloMosaic Idealize.ShloMosaic.ValueIdx Ffn

theorem hz2 : (![0, 0] : Fin 2 → Nat) = fun _ => 0 := funext fun a => by fin_cases a <;> rfl
theorem hz3 : (![0, 0, 0] : Fin 3 → Nat) = fun _ => 0 := funext fun a => by fin_cases a <;> rfl

section Columns
variable {N n : ℕ} (hN : N = 8 * n)

/-- Column `j` of block `b` among `N = 8 n` columns. -/
def col (b : Fin 8) (j : Fin n) : Fin N := ⟨n * b.val + j.val, by
  have := b.isLt; have := j.isLt
  have : n * b.val ≤ n * 7 := Nat.mul_le_mul_left _ (by omega)
  omega⟩

/-- A sum over all columns is the sum over the eight blocks. -/
theorem sum_col {M : Type} [AddCommMonoid M] (f : Fin N → M) : ∑ k : Fin N, f k = ∑ b : Fin 8, ∑ j : Fin n, f (col hN b j) := by
  subst hN
  rw [← Fintype.sum_prod_type' (fun b j => f (col rfl b j)), ← Equiv.sum_comp (finProdFinEquiv (m := 8) (n := n)) f]
  refine Finset.sum_congr rfl fun p _ => congrArg f (Fin.ext ?_)
  show p.2.val + n * p.1.val = n * p.1.val + p.2.val
  omega

/-- Reshaping `[m, 8 n]` to `[m, 8, n]` and moving the block axis first reads column `n b + j`. -/
theorem split_apply {α : Type} {m : ℕ} (x : (⟨2, ![m, N]⟩ : Shape).Idx → α)
    (hc : (⟨2, ![m, N]⟩ : Shape).ShapeCasts ⟨3, ![m, 8, n]⟩)
    (ht : (⟨3, ![m, 8, n]⟩ : Shape).Transposes [1, 0, 2] ⟨3, ![8, m, n]⟩) (b : Fin 8) (r : Fin m) (j : Fin n) :
    transpose ⟨3, ![8, m, n]⟩ [1, 0, 2] (shapeCast ⟨3, ![m, 8, n]⟩ x hc) ht (ix3 b r j) = x (ix2 r (col hN b j)) :=
  (transpose_apply _ _ ht _ (ix3 r b j) fun c => match c with | ⟨0, _⟩ => rfl | ⟨1, _⟩ => rfl | ⟨2, _⟩ => rfl).trans
    (shapeCast_apply x hc _ _ (by
      rw [Shape.rowMajor_val_three, Shape.rowMajor_val_two]
      show r.val * N + (n * b.val + j.val) = (r.val * 8 + b.val) * n + j.val
      subst hN; ring))

/-- Reshaping `[8 n, m]` to `[8, n, m]` reads row `n b + j`. -/
theorem split_rows_apply {α : Type} {m : ℕ} (x : (⟨2, ![N, m]⟩ : Shape).Idx → α)
    (hc : (⟨2, ![N, m]⟩ : Shape).ShapeCasts ⟨3, ![8, n, m]⟩) (b : Fin 8) (j : Fin n) (r : Fin m) :
    shapeCast ⟨3, ![8, n, m]⟩ x hc (ix3 b j r) = x (ix2 (col hN b j) r) :=
  shapeCast_apply x hc _ _ (by
    rw [Shape.rowMajor_val_three, Shape.rowMajor_val_two]
    show (n * b.val + j.val) * m + r.val = (b.val * n + j.val) * m + r.val
    rw [Nat.mul_comm n])

/-- Block `b`'s share of `x · wᵀ`, where both have the wide axis second (none past the eighth block). -/
def shareN {a c : ℕ} (x : Mat a N) (w : Mat c N) (r : Fin a) (f : Fin c) (b : ℕ) : EReal :=
  if hb : b < 8 then ∑ j : Fin n, x (ix2 r (col hN ⟨b, hb⟩ j)) * w (ix2 f (col hN ⟨b, hb⟩ j)) else 0

/-- All eight blocks together are the whole product. -/
theorem sum_shareN {a c : ℕ} (x : Mat a N) (w : Mat c N) (r : Fin a) (f : Fin c) :
    ∑ b ∈ Finset.range 8, shareN hN x w r f b = mmT x w r f := by
  unfold mmT
  rw [sum_col hN, Finset.sum_range]
  exact Finset.sum_congr rfl fun b _ => dif_pos b.isLt

end Columns

/-- A block number and a position in a grid whose inner axis runs over the eight column blocks. -/
def blkNo (n : ℕ) : Fin 8 := ⟨n % 8, Nat.mod_lt _ (by decide)⟩

/-- A block number in a grid whose inner axis runs over the six row blocks. -/
def rowNo (n : ℕ) : Fin 6 := ⟨n % 6, Nat.mod_lt _ (by decide)⟩

end Proj

end
-- ==== Proof.AdamSpec.lean ====
/-
  One AdamW step at a single weight, on the extended reals, with reference.py's literals as the words they round to.
-/
module

public import proofs.«01_k».proof.Proof.Projection

@[expose] public section

noncomputable section

namespace Adam

open Idealize.ShloMosaic

/-- The first moment's next value, from its last value and the gradient. -/
def newM (m g : EReal) : EReal := Ideal.ofBits .f32 0x3F666666#32 * m + Ideal.ofBits .f32 0x3DCCCCCD#32 * g

/-- The second moment's next value. -/
def newV (v g : EReal) : EReal := Ideal.ofBits .f32 0x3F7FBE77#32 * v + Ideal.ofBits .f32 0x3A83126F#32 * (g * g)

/-- The weight's change, from the weight and both moments' next values. -/
def delta (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

end Adam

end
-- ==== Proof.AdamEvenIn.lean ====
/-
  The update of the even layer's input projection: eight pieces of the gradient and the device's own are added, then one
  AdamW step is taken at each weight. Every grid point writes one block of rows of each of the four results.
-/
module

public import proofs.«01_k».proof.Proof.AdamSpec
public import proofs.«01_k».proof.Defs
public import proofs.«01_k».proof.Proof.Gen.AdamEvenIn
public import proofs.«01_k».proof.Proof.Gen.AdamEvenInIdeal.Value
public import proofs.«01_k».proof.Proof.Gen.AdamEvenInReferenceIdeal.Read
public import proofs.«01_k».proof.Proof.Gen.AdamEvenInReferenceIdeal.Run
public import Idealize.ShloMosaic.Adequacy
public import Idealize.ShloMosaic.Lib.IdealHost
public import Idealize.ShloMosaic.Lib.Tactic

@[expose] public section

set_option maxRecDepth 16384

noncomputable section

namespace Adam.EvenIn

open Cert.AdamEvenInIdeal Cert.AdamEvenInIdeal.Gen Idealize.ShloMosaic Idealize.ShloMosaic.TcCoe Idealize.SL.Sem
open Idealize.ShloMosaic.ValueIdx Ffn Proj
open Idealize.ShloMosaic.Pipeline (Dat)

section Body
variable (x0 : Vec Ideal S8x256x768 .bf16) (x1 x2 x3 : Vec Ideal S256x768 .f32) (x4 : Vec Ideal S256x768 .bf16) (p : Fin 256) (j : Fin 768)

/-- Piece `b` of a block. -/
theorem piece_at (b : Fin 8) (inb : ∀ a, ![b.val, 0, 0] a + S1x256x768.size a ≤ S8x256x768.size a) :
    shapeCast S256x768 (View.ld x0 (Rect.unit (s := S8x256x768) ![b.val, 0, 0] S1x256x768.size inb)) shapeCasts_S1x256x768_S256x768 (ix2 p j)
      = x0 (ix3 b p j) :=
  (shapeCast_1ab_ab_apply (View.ld x0 (Rect.unit (s := S8x256x768) ![b.val, 0, 0] S1x256x768.size inb)) _ p j).trans
    (congrArg x0 (funext fun a => Fin.ext (by
      match a with
      | ⟨0, _⟩ => show b.val + 1 * 0 = b.val; omega
      | ⟨1, _⟩ => show 0 + 1 * p.val = p.val; omega
      | ⟨2, _⟩ => show 0 + 1 * j.val = j.val; omega)))

/-- The gradient: the eight pieces and the device's own, added. -/
theorem grad_at : k0_pay3 (k0_pay7 x0 x1 x2 x3 x4) (k0_pay8 x0 x1 x2 x3 x4) (ix2 p j) = (∑ b : Fin 8, x0 (ix3 b p j)) + x4 (ix2 p j) := by
  unfold k0_pay8
  rw [View.ld_unit_zero (S := S256x768) hz2, Fin.sum_univ_eight,
    ← piece_at x0 p j 0 inb_S8x256x768_S1x256x768_0_0_0,
    ← piece_at x0 p j 1 inb_S8x256x768_S1x256x768_1_0_0,
    ← piece_at x0 p j 2 inb_S8x256x768_S1x256x768_2_0_0,
    ← piece_at x0 p j 3 inb_S8x256x768_S1x256x768_3_0_0,
    ← piece_at x0 p j 4 inb_S8x256x768_S1x256x768_4_0_0,
    ← piece_at x0 p j 5 inb_S8x256x768_S1x256x768_5_0_0,
    ← piece_at x0 p j 6 inb_S8x256x768_S1x256x768_6_0_0,
    ← piece_at x0 p j 7 inb_S8x256x768_S1x256x768_7_0_0]
  rfl

theorem out5_at : out0_5 x0 x1 x2 x3 x4 (ix2 p j) = (∑ b : Fin 8, x0 (ix3 b p j)) + x4 (ix2 p j) := by
  unfold out0_5
  rw [View.canon_unit_zero hz2]
  exact grad_at x0 x1 x2 x3 x4 p j

theorem out7_at : out0_7 x0 x1 x2 x3 x4 (ix2 p j) = newM (x2 (ix2 p j)) ((∑ b : Fin 8, x0 (ix3 b p j)) + x4 (ix2 p j)) := by
  unfold out0_7
  rw [View.canon_unit_zero hz2, View.ld_unit_zero (S := S256x768) hz2]
  exact congrArg (newM (x2 (ix2 p j))) (grad_at x0 x1 x2 x3 x4 p j)

theorem out8_at : out0_8 x0 x1 x2 x3 x4 (ix2 p j) = newV (x3 (ix2 p j)) ((∑ b : Fin 8, x0 (ix3 b p j)) + x4 (ix2 p j)) := by
  unfold out0_8
  rw [View.canon_unit_zero hz2, View.ld_unit_zero (S := S256x768) hz2]
  exact congrArg (newV (x3 (ix2 p j))) (grad_at x0 x1 x2 x3 x4 p j)

theorem out6_at : out0_6 x0 x1 x2 x3 x4 (ix2 p j) = delta (x1 (ix2 p j))
    (newM (x2 (ix2 p j)) ((∑ b : Fin 8, x0 (ix3 b p j)) + x4 (ix2 p j)))
    (newV (x3 (ix2 p j)) ((∑ b : Fin 8, x0 (ix3 b p j)) + x4 (ix2 p j))) := by
  unfold out0_6
  rw [View.canon_unit_zero hz2, View.ld_unit_zero (S := S256x768) hz2 _ x1, View.ld_unit_zero (S := S256x768) hz2 _ x2,
    View.ld_unit_zero (S := S256x768) hz2 _ x3]
  exact congrArg₂ (delta (x1 (ix2 p j))) (congrArg (newM (x2 (ix2 p j))) (grad_at x0 x1 x2 x3 x4 p j))
    (congrArg (newV (x3 (ix2 p j))) (grad_at x0 x1 x2 x3 x4 p j))
end Body

section Blocks
variable (m : (ℓ : Loc nD τ sig) → Buf (Elt Ideal) ℓ) (c : Dev nD)

/-- The gradient's pieces, the device's own piece, the weight and its two moments. -/
abbrev ap : S8x2048x768.Idx → EReal := m ((c : Thread nD τ).loc main_arg0)
abbrev ao : Mat 2048 768 := m ((c : Thread nD τ).loc main_arg1)
abbrev aw : Mat 2048 768 := m ((c : Thread nD τ).loc main_arg2)
abbrev am : Mat 2048 768 := m ((c : Thread nD τ).loc main_arg3)
abbrev av : Mat 2048 768 := m ((c : Thread nD τ).loc main_arg4)

/-- Row `p` of point `n`'s block. -/
def row (n : ℕ) (hn : n < cfg0.N) (p : Fin 256) : Fin 2048 :=
  ⟨256 * n + p.val, by have : cfg0.N = 8 := N_0; have := p.isLt; omega⟩

theorem iblk0_at (t : Fin cfg0.N) (b : Fin 8) (p : Fin 256) (j : Fin 768) :
    iblk m c 0 t (ix3 b p j) = ap m c (ix3 b (row t.val t.isLt p) j) := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * b.val = b.val; rw [hi.1]; omega
  | ⟨1, _⟩ => show win0_0.index t 1 * 256 + 1 * p.val = 256 * t.val + p.val; rw [hi.2.1]; omega
  | ⟨2, _⟩ => show win0_0.index t 2 * 768 + 1 * j.val = j.val; rw [hi.2.2]; omega

theorem iblk1_at (t : Fin cfg0.N) (p : Fin 256) (j : Fin 768) :
    iblk m c 1 t (ix2 p j) = aw m c (ix2 (row t.val t.isLt p) j) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 256 + 1 * p.val = 256 * t.val + p.val; rw [hi.1]; omega
  | ⟨1, _⟩ => show win0_1.index t 1 * 768 + 1 * j.val = j.val; rw [hi.2]; omega

theorem iblk2_at (t : Fin cfg0.N) (p : Fin 256) (j : Fin 768) :
    iblk m c 2 t (ix2 p j) = am m c (ix2 (row t.val t.isLt p) j) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg3 _ = _
  rw [V_main_arg3]
  refine congrArg (m ((c : Thread nD τ).loc main_arg3)) (funext fun a => Fin.ext ?_)
  match a with
  | ⟨0, _⟩ => show win0_2.index t 0 * 256 + 1 * p.val = 256 * t.val + p.val; rw [hi.1]; omega
  | ⟨1, _⟩ => show win0_2.index t 1 * 768 + 1 * j.val = j.val; rw [hi.2]; omega

theorem iblk3_at (t : Fin cfg0.N) (p : Fin 256) (j : Fin 768) :
    iblk m c 3 t (ix2 p j) = av m c (ix2 (row t.val t.isLt p) j) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 256 + 1 * p.val = 256 * t.val + p.val; rw [hi.1]; omega
  | ⟨1, _⟩ => show win0_3.index t 1 * 768 + 1 * j.val = j.val; rw [hi.2]; omega

theorem iblk4_at (t : Fin cfg0.N) (p : Fin 256) (j : Fin 768) :
    iblk m c 4 t (ix2 p j) = ao m c (ix2 (row t.val t.isLt p) j) := by
  have hi : win0_4.index t 0 = t.val ∧ win0_4.index t 1 = 0 :=
    (by decide +kernel : ∀ t : Fin grid0.N, win0_4.index t 0 = t.val ∧ win0_4.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_4.index t 0 * 256 + 1 * p.val = 256 * t.val + p.val; rw [hi.1]; omega
  | ⟨1, _⟩ => show win0_4.index t 1 * 768 + 1 * j.val = j.val; rw [hi.2]; omega

/-- The gradient summed over the pieces, at row `r`, column `f`. -/
def gr (r : Fin 2048) (f : Fin 768) : EReal := (∑ b : Fin 8, ap m c (ix3 b r f)) + ao m c (ix2 r f)

theorem grad_iblk (t : Fin cfg0.N) (p : Fin 256) (j : Fin 768) :
    HAdd.hAdd (α := EReal) (β := EReal) (γ := EReal) (Finset.sum (M := EReal) Finset.univ fun b : Fin 8 => iblk m c 0 t (ix3 b p j))
      (iblk m c 4 t (ix2 p j)) = gr m c (row t.val t.isLt p) j :=
  congrArg₂ (HAdd.hAdd (α := EReal) (β := EReal) (γ := EReal)) (Finset.sum_congr rfl fun b _ => iblk0_at m c t b p j)
    (iblk4_at m c t p j)

/-- The four results at row `r`, column `f`: the gradient, the weight's change, the two moments. -/
def g5 (r : Fin 2048) (f : Fin 768) : EReal := gr m c r f
def g7 (r : Fin 2048) (f : Fin 768) : EReal := newM (am m c (ix2 r f)) (gr m c r f)
def g8 (r : Fin 2048) (f : Fin 768) : EReal := newV (av m c (ix2 r f)) (gr m c r f)
def g6 (r : Fin 2048) (f : Fin 768) : EReal := delta (aw m c (ix2 r f)) (g7 m c r f) (g8 m c r f)

def G5 : S2048x768.Idx → EReal := fun i => g5 m c (i 0) (i 1)

theorem point5 (t : Fin cfg0.N) (p : Fin 256) (j : Fin 768) :
    out0_5 (iblk m c 0 t) (iblk m c 1 t) (iblk m c 2 t) (iblk m c 3 t) (iblk m c 4 t) (ix2 p j) = g5 m c (row t.val t.isLt p) j := by
  refine (out5_at (iblk m c 0 t) (iblk m c 1 t) (iblk m c 2 t) (iblk m c 3 t) (iblk m c 4 t) p j).trans ?_
  exact grad_iblk m c t p j

theorem index5 : ∀ t : Fin grid0.N, win0_5.index t 0 = t.val ∧ win0_5.index t 1 = 0 := by
  decide +kernel

theorem xsize5 : ∀ t : Fin grid0.N, win0_5.xsize (grid0.coords t) 0 = 256 ∧ win0_5.xsize (grid0.coords t) 1 = 768 := by
  decide +kernel

theorem flushed5_eq (t : Fin cfg0.N) : (dats m 0 c).flushed 5 t = ((cfg0.win 5).blk t).view.read (Elt Ideal) (G5 m c) := by
  have hi := index5 t
  rw [Value.flushed5]
  funext i
  rw [View.read_apply]
  have h0 : (i 0).val < 256 := lt_of_lt_of_eq (i 0).isLt (xsize5 t).1
  have h1 : (i 1).val < 768 := lt_of_lt_of_eq (i 1).isLt (xsize5 t).2
  refine Eq.trans (b := out0_5 (iblk m c 0 t) (iblk m c 1 t) (iblk m c 2 t) (iblk m c 3 t) (iblk m c 4 t) (ix2 (⟨(i 0).val, h0⟩ : Fin 256) (⟨(i 1).val, h1⟩ : Fin 768)))
    (congrArg (out0_5 (iblk m c 0 t) (iblk m c 1 t) (iblk m c 2 t) (iblk m c 3 t) (iblk m c 4 t)) (funext fun a => Fin.ext (by match a with | ⟨0, _⟩ => rfl | ⟨1, _⟩ => rfl))) ?_
  rw [point5]
  refine congrArg₂ (g5 m c) (Fin.ext ?_) (Fin.ext ?_)
  · show 256 * t.val + (i 0).val = win0_5.index t 0 * 256 + 1 * (i 0).val; rw [hi.1]; omega
  · show (i 1).val = win0_5.index t 1 * 768 + 1 * (i 1).val; rw [hi.2]; omega

theorem final5 : (dats m 0 c).arrAt 5 cfg0.N = G5 m c :=
  (dats m 0 c).arrAt_eq_of_cover 5 (G5 m c) (fun t _ => flushed5_eq m c t) fun i => by
    have h0 : (i 0 : Nat) < 2048 := (i 0).isLt
    have h1 : (i 1 : Nat) < 768 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_5 t, ?_⟩
    obtain ⟨a0, a1⟩ := index5 t
    obtain ⟨b0, b1⟩ := xsize5 t
    show i ∈ ((View.whole main_v0_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + win0_5.xsize (grid0.coords t) 0
                rw [a0, b0]; omega
    | ⟨1, _⟩ => show win0_5.index t 1 * 768 ≤ (i 1 : Nat) ∧ (i 1 : Nat) < win0_5.index t 1 * 768 + win0_5.xsize (grid0.coords t) 1
                rw [a1, b1]; omega

def G6 : S2048x768.Idx → EReal := fun i => g6 m c (i 0) (i 1)

theorem point6 (t : Fin cfg0.N) (p : Fin 256) (j : Fin 768) :
    out0_6 (iblk m c 0 t) (iblk m c 1 t) (iblk m c 2 t) (iblk m c 3 t) (iblk m c 4 t) (ix2 p j) = g6 m c (row t.val t.isLt p) j := by
  refine (out6_at (iblk m c 0 t) (iblk m c 1 t) (iblk m c 2 t) (iblk m c 3 t) (iblk m c 4 t) p j).trans ?_
  exact (congrArg₂ (delta (iblk m c 1 t (ix2 p j)))
    (congrArg₂ newM (iblk2_at m c t p j) (grad_iblk m c t p j)) (congrArg₂ newV (iblk3_at m c t p j) (grad_iblk m c t p j))).trans
    (congrArg (fun w => delta w (g7 m c (row t.val t.isLt p) j) (g8 m c (row t.val t.isLt p) j)) (iblk1_at m c t p j))

theorem index6 : ∀ t : Fin grid0.N, win0_6.index t 0 = t.val ∧ win0_6.index t 1 = 0 := by
  decide +kernel

theorem xsize6 : ∀ t : Fin grid0.N, win0_6.xsize (grid0.coords t) 0 = 256 ∧ win0_6.xsize (grid0.coords t) 1 = 768 := by
  decide +kernel

theorem flushed6_eq (t : Fin cfg0.N) : (dats m 0 c).flushed 6 t = ((cfg0.win 6).blk t).view.read (Elt Ideal) (G6 m c) := by
  have hi := index6 t
  rw [Value.flushed6]
  funext i
  rw [View.read_apply]
  have h0 : (i 0).val < 256 := lt_of_lt_of_eq (i 0).isLt (xsize6 t).1
  have h1 : (i 1).val < 768 := lt_of_lt_of_eq (i 1).isLt (xsize6 t).2
  refine Eq.trans (b := out0_6 (iblk m c 0 t) (iblk m c 1 t) (iblk m c 2 t) (iblk m c 3 t) (iblk m c 4 t) (ix2 (⟨(i 0).val, h0⟩ : Fin 256) (⟨(i 1).val, h1⟩ : Fin 768)))
    (congrArg (out0_6 (iblk m c 0 t) (iblk m c 1 t) (iblk m c 2 t) (iblk m c 3 t) (iblk m c 4 t)) (funext fun a => Fin.ext (by match a with | ⟨0, _⟩ => rfl | ⟨1, _⟩ => rfl))) ?_
  rw [point6]
  refine congrArg₂ (g6 m c) (Fin.ext ?_) (Fin.ext ?_)
  · show 256 * t.val + (i 0).val = win0_6.index t 0 * 256 + 1 * (i 0).val; rw [hi.1]; omega
  · show (i 1).val = win0_6.index t 1 * 768 + 1 * (i 1).val; rw [hi.2]; omega

theorem final6 : (dats m 0 c).arrAt 6 cfg0.N = G6 m c :=
  (dats m 0 c).arrAt_eq_of_cover 6 (G6 m c) (fun t _ => flushed6_eq m c t) fun i => by
    have h0 : (i 0 : Nat) < 2048 := (i 0).isLt
    have h1 : (i 1 : Nat) < 768 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_6 t, ?_⟩
    obtain ⟨a0, a1⟩ := index6 t
    obtain ⟨b0, b1⟩ := xsize6 t
    show i ∈ ((View.whole main_v0_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + win0_6.xsize (grid0.coords t) 0
                rw [a0, b0]; omega
    | ⟨1, _⟩ => show win0_6.index t 1 * 768 ≤ (i 1 : Nat) ∧ (i 1 : Nat) < win0_6.index t 1 * 768 + win0_6.xsize (grid0.coords t) 1
                rw [a1, b1]; omega

def G7 : S2048x768.Idx → EReal := fun i => g7 m c (i 0) (i 1)

theorem point7 (t : Fin cfg0.N) (p : Fin 256) (j : Fin 768) :
    out0_7 (iblk m c 0 t) (iblk m c 1 t) (iblk m c 2 t) (iblk m c 3 t) (iblk m c 4 t) (ix2 p j) = g7 m c (row t.val t.isLt p) j := by
  refine (out7_at (iblk m c 0 t) (iblk m c 1 t) (iblk m c 2 t) (iblk m c 3 t) (iblk m c 4 t) p j).trans ?_
  exact congrArg₂ newM (iblk2_at m c t p j) (grad_iblk m c t p j)

theorem index7 : ∀ t : Fin grid0.N, win0_7.index t 0 = t.val ∧ win0_7.index t 1 = 0 := by
  decide +kernel

theorem xsize7 : ∀ t : Fin grid0.N, win0_7.xsize (grid0.coords t) 0 = 256 ∧ win0_7.xsize (grid0.coords t) 1 = 768 := by
  decide +kernel

theorem flushed7_eq (t : Fin cfg0.N) : (dats m 0 c).flushed 7 t = ((cfg0.win 7).blk t).view.read (Elt Ideal) (G7 m c) := by
  have hi := index7 t
  rw [Value.flushed7]
  funext i
  rw [View.read_apply]
  have h0 : (i 0).val < 256 := lt_of_lt_of_eq (i 0).isLt (xsize7 t).1
  have h1 : (i 1).val < 768 := lt_of_lt_of_eq (i 1).isLt (xsize7 t).2
  refine Eq.trans (b := out0_7 (iblk m c 0 t) (iblk m c 1 t) (iblk m c 2 t) (iblk m c 3 t) (iblk m c 4 t) (ix2 (⟨(i 0).val, h0⟩ : Fin 256) (⟨(i 1).val, h1⟩ : Fin 768)))
    (congrArg (out0_7 (iblk m c 0 t) (iblk m c 1 t) (iblk m c 2 t) (iblk m c 3 t) (iblk m c 4 t)) (funext fun a => Fin.ext (by match a with | ⟨0, _⟩ => rfl | ⟨1, _⟩ => rfl))) ?_
  rw [point7]
  refine congrArg₂ (g7 m c) (Fin.ext ?_) (Fin.ext ?_)
  · show 256 * t.val + (i 0).val = win0_7.index t 0 * 256 + 1 * (i 0).val; rw [hi.1]; omega
  · show (i 1).val = win0_7.index t 1 * 768 + 1 * (i 1).val; rw [hi.2]; omega

theorem final7 : (dats m 0 c).arrAt 7 cfg0.N = G7 m c :=
  (dats m 0 c).arrAt_eq_of_cover 7 (G7 m c) (fun t _ => flushed7_eq m c t) fun i => by
    have h0 : (i 0 : Nat) < 2048 := (i 0).isLt
    have h1 : (i 1 : Nat) < 768 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_7 t, ?_⟩
    obtain ⟨a0, a1⟩ := index7 t
    obtain ⟨b0, b1⟩ := xsize7 t
    show i ∈ ((View.whole main_v0_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + win0_7.xsize (grid0.coords t) 0
                rw [a0, b0]; omega
    | ⟨1, _⟩ => show win0_7.index t 1 * 768 ≤ (i 1 : Nat) ∧ (i 1 : Nat) < win0_7.index t 1 * 768 + win0_7.xsize (grid0.coords t) 1
                rw [a1, b1]; omega

def G8 : S2048x768.Idx → EReal := fun i => g8 m c (i 0) (i 1)

theorem point8 (t : Fin cfg0.N) (p : Fin 256) (j : Fin 768) :
    out0_8 (iblk m c 0 t) (iblk m c 1 t) (iblk m c 2 t) (iblk m c 3 t) (iblk m c 4 t) (ix2 p j) = g8 m c (row t.val t.isLt p) j := by
  refine (out8_at (iblk m c 0 t) (iblk m c 1 t) (iblk m c 2 t) (iblk m c 3 t) (iblk m c 4 t) p j).trans ?_
  exact congrArg₂ newV (iblk3_at m c t p j) (grad_iblk m c t p j)

theorem index8 : ∀ t : Fin grid0.N, win0_8.index t 0 = t.val ∧ win0_8.index t 1 = 0 := by
  decide +kernel

theorem xsize8 : ∀ t : Fin grid0.N, win0_8.xsize (grid0.coords t) 0 = 256 ∧ win0_8.xsize (grid0.coords t) 1 = 768 := by
  decide +kernel

theorem flushed8_eq (t : Fin cfg0.N) : (dats m 0 c).flushed 8 t = ((cfg0.win 8).blk t).view.read (Elt Ideal) (G8 m c) := by
  have hi := index8 t
  rw [Value.flushed8]
  funext i
  rw [View.read_apply]
  have h0 : (i 0).val < 256 := lt_of_lt_of_eq (i 0).isLt (xsize8 t).1
  have h1 : (i 1).val < 768 := lt_of_lt_of_eq (i 1).isLt (xsize8 t).2
  refine Eq.trans (b := out0_8 (iblk m c 0 t) (iblk m c 1 t) (iblk m c 2 t) (iblk m c 3 t) (iblk m c 4 t) (ix2 (⟨(i 0).val, h0⟩ : Fin 256) (⟨(i 1).val, h1⟩ : Fin 768)))
    (congrArg (out0_8 (iblk m c 0 t) (iblk m c 1 t) (iblk m c 2 t) (iblk m c 3 t) (iblk m c 4 t)) (funext fun a => Fin.ext (by match a with | ⟨0, _⟩ => rfl | ⟨1, _⟩ => rfl))) ?_
  rw [point8]
  refine congrArg₂ (g8 m c) (Fin.ext ?_) (Fin.ext ?_)
  · show 256 * t.val + (i 0).val = win0_8.index t 0 * 256 + 1 * (i 0).val; rw [hi.1]; omega
  · show (i 1).val = win0_8.index t 1 * 768 + 1 * (i 1).val; rw [hi.2]; omega

theorem final8 : (dats m 0 c).arrAt 8 cfg0.N = G8 m c :=
  (dats m 0 c).arrAt_eq_of_cover 8 (G8 m c) (fun t _ => flushed8_eq m c t) fun i => by
    have h0 : (i 0 : Nat) < 2048 := (i 0).isLt
    have h1 : (i 1 : Nat) < 768 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_8 t, ?_⟩
    obtain ⟨a0, a1⟩ := index8 t
    obtain ⟨b0, b1⟩ := xsize8 t
    show i ∈ ((View.whole main_v0_3).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + win0_8.xsize (grid0.coords t) 0
                rw [a0, b0]; omega
    | ⟨1, _⟩ => show win0_8.index t 1 * 768 ≤ (i 1 : Nat) ∧ (i 1 : Nat) < win0_8.index t 1 * 768 + win0_8.xsize (grid0.coords t) 1
                rw [a1, b1]; omega

end Blocks

section Reference
open Cert.AdamEvenInReferenceIdeal.Read

variable (p : S8x2048x768.Idx → EReal) (o w m v : Mat 2048 768)

theorem ref_g (r : Fin 2048) (f : Fin 768) :
    val_main_v3 (F := Ideal) p o (ix2 r f) = (∑ b : Fin 8, p (ix3 b r f)) + o (ix2 r f) := by
  rw [val_main_v3_apply, val_main_v1_apply, val_main_cst_apply]
  refine congrArg₂ (HAdd.hAdd (α := EReal) (β := EReal) (γ := EReal)) ?_ rfl
  refine (congrArg (· + _) Ideal.ofBits_zero_f32).trans ((zero_add _).trans (Finset.sum_congr rfl fun b _ => ?_))
  exact congrArg p (eq_ix3 _)

theorem ref_m (i : S2048x768.Idx) : val_main_v8 (F := Ideal) p o m i = newM (m i) (val_main_v3 (F := Ideal) p o i) := by
  unfold val_main_v8 val_main_v7 val_main_v5
  rfl

theorem ref_v (i : S2048x768.Idx) : val_main_v14 (F := Ideal) p o v i = newV (v i) (val_main_v3 (F := Ideal) p o i) := by
  unfold val_main_v14 val_main_v13 val_main_v11 val_main_v10
  rfl

theorem ref_d (i : S2048x768.Idx) : val_main_v27 (F := Ideal) p o w m v i
    = delta (w i) (val_main_v8 (F := Ideal) p o m i) (val_main_v14 (F := Ideal) p o v i) := by
  unfold val_main_v27 val_main_v25 val_main_v24 val_main_v22 val_main_v21 val_main_v19 val_main_v18 val_main_v16
  rfl
end Reference

section Both
open Cert.AdamEvenInReferenceIdeal.Read
variable (m : (ℓ : Loc nD τ sig) → Buf (Elt Ideal) ℓ) (c : Dev nD)

theorem ref5 : val_main_v3 (F := Ideal) (ap m c) (ao m c) = G5 m c := by
  funext i
  obtain ⟨r, f, rfl⟩ : ∃ (r : Fin 2048) (f : Fin 768), i = ix2 r f := ⟨i 0, i 1, eq_ix2 i⟩
  exact ref_g (ap m c) (ao m c) r f

theorem ref7 : val_main_v8 (F := Ideal) (ap m c) (ao m c) (am m c) = G7 m c := by
  funext i
  obtain ⟨r, f, rfl⟩ : ∃ (r : Fin 2048) (f : Fin 768), i = ix2 r f := ⟨i 0, i 1, eq_ix2 i⟩
  exact (ref_m (ap m c) (ao m c) (am m c) _).trans (congrArg (newM _) (ref_g (ap m c) (ao m c) r f))

theorem ref8 : val_main_v14 (F := Ideal) (ap m c) (ao m c) (av m c) = G8 m c := by
  funext i
  obtain ⟨r, f, rfl⟩ : ∃ (r : Fin 2048) (f : Fin 768), i = ix2 r f := ⟨i 0, i 1, eq_ix2 i⟩
  exact (ref_v (ap m c) (ao m c) (av m c) _).trans (congrArg (newV _) (ref_g (ap m c) (ao m c) r f))

theorem ref6 : val_main_v27 (F := Ideal) (ap m c) (ao m c) (aw m c) (am m c) (av m c) = G6 m c := by
  funext i
  refine (ref_d (ap m c) (ao m c) (aw m c) (am m c) (av m c) i).trans ?_
  rw [ref7, ref8]
  obtain ⟨r, f, rfl⟩ : ∃ (r : Fin 2048) (f : Fin 768), i = ix2 r f := ⟨i 0, i 1, eq_ix2 i⟩
  rfl
end Both

attribute [local instance] Cert.AdamEvenIn.Gen.facts Cert.AdamEvenInIdeal.Gen.facts Cert.AdamEvenInReferenceIdeal.Gen.facts

theorem algebraic : Cert.algebraic_AdamEvenInIdeal_AdamEvenInReferenceIdeal := by
  intro m g m' g' _ harg
  refine ⟨fun c => G5 m c, fun c => G6 m c, fun c => G7 m c, fun c => G8 m c, ?_, ?_⟩
  · refine (θ_run _ _ _).mono (fun r h c => ?_) (Cert.AdamEvenInIdeal.Value.run_blocks m g)
    obtain ⟨h0, h1, h2, h3, ha⟩ := h c
    exact ⟨h0.trans (final5 m c), h1.trans (final6 m c), h2.trans (final7 m c), h3.trans (final8 m c), ha⟩
  · refine (θ_run _ _ _).mono (fun r h c => ?_) (Cert.AdamEvenInReferenceIdeal.Value.run (F := Ideal) m' g')
    obtain ⟨h0, h1, h2, h3, ha⟩ := h c
    obtain ⟨e0, e1, e2, e3, e4⟩ := harg c
    refine ⟨(h0.trans ?_).trans (ref5 m c), (h1.trans ?_).trans (ref6 m c), (h2.trans ?_).trans (ref7 m c),
      (h3.trans ?_).trans (ref8 m c), ha⟩
    · rw [e0, e1]
      exact Cert.AdamEvenInReferenceIdeal.Read.val_main_v3_eq ..
    · rw [e0, e1, e2, e3, e4]
      exact Cert.AdamEvenInReferenceIdeal.Read.val_main_v27_eq ..
    · rw [e0, e1, e3]
      exact Cert.AdamEvenInReferenceIdeal.Read.val_main_v8_eq ..
    · rw [e0, e1, e4]
      exact Cert.AdamEvenInReferenceIdeal.Read.val_main_v14_eq ..

end Adam.EvenIn

end
-- ==== Proof.AdamOddIn.lean ====
/-
  The update of the odd layer's input projection; the same lemmas as the even layer's at its shapes.
-/
module

public import proofs.«01_k».proof.Proof.AdamSpec
public import proofs.«01_k».proof.Defs
public import proofs.«01_k».proof.Proof.Gen.AdamOddIn
public import proofs.«01_k».proof.Proof.Gen.AdamOddInIdeal.Value
public import proofs.«01_k».proof.Proof.Gen.AdamOddInReferenceIdeal.Read
public import proofs.«01_k».proof.Proof.Gen.AdamOddInReferenceIdeal.Run
public import Idealize.ShloMosaic.Adequacy
public import Idealize.ShloMosaic.Lib.IdealHost
public import Idealize.ShloMosaic.Lib.Tactic

@[expose] public section

set_option maxRecDepth 16384

noncomputable section

namespace Adam.OddIn

open Cert.AdamOddInIdeal Cert.AdamOddInIdeal.Gen Idealize.ShloMosaic Idealize.ShloMosaic.TcCoe Idealize.SL.Sem
open Idealize.ShloMosaic.ValueIdx Ffn Proj
open Idealize.ShloMosaic.Pipeline (Dat)

section Body
variable (x0 : Vec Ideal S8x256x384 .bf16) (x1 x2 x3 : Vec Ideal S256x384 .f32) (x4 : Vec Ideal S256x384 .bf16) (p : Fin 256) (j : Fin 384)

/-- Piece `b` of a block. -/
theorem piece_at (b : Fin 8) (inb : ∀ a, ![b.val, 0, 0] a + S1x256x384.size a ≤ S8x256x384.size a) :
    shapeCast S256x384 (View.ld x0 (Rect.unit (s := S8x256x384) ![b.val, 0, 0] S1x256x384.size inb)) shapeCasts_S1x256x384_S256x384 (ix2 p j)
      = x0 (ix3 b p j) :=
  (shapeCast_1ab_ab_apply (View.ld x0 (Rect.unit (s := S8x256x384) ![b.val, 0, 0] S1x256x384.size inb)) _ p j).trans
    (congrArg x0 (funext fun a => Fin.ext (by
      match a with
      | ⟨0, _⟩ => show b.val + 1 * 0 = b.val; omega
      | ⟨1, _⟩ => show 0 + 1 * p.val = p.val; omega
      | ⟨2, _⟩ => show 0 + 1 * j.val = j.val; omega)))

/-- The gradient: the eight pieces and the device's own, added. -/
theorem grad_at : k0_pay3 (k0_pay7 x0 x1 x2 x3 x4) (k0_pay8 x0 x1 x2 x3 x4) (ix2 p j) = (∑ b : Fin 8, x0 (ix3 b p j)) + x4 (ix2 p j) := by
  unfold k0_pay8
  rw [View.ld_unit_zero (S := S256x384) hz2, Fin.sum_univ_eight,
    ← piece_at x0 p j 0 inb_S8x256x384_S1x256x384_0_0_0,
    ← piece_at x0 p j 1 inb_S8x256x384_S1x256x384_1_0_0,
    ← piece_at x0 p j 2 inb_S8x256x384_S1x256x384_2_0_0,
    ← piece_at x0 p j 3 inb_S8x256x384_S1x256x384_3_0_0,
    ← piece_at x0 p j 4 inb_S8x256x384_S1x256x384_4_0_0,
    ← piece_at x0 p j 5 inb_S8x256x384_S1x256x384_5_0_0,
    ← piece_at x0 p j 6 inb_S8x256x384_S1x256x384_6_0_0,
    ← piece_at x0 p j 7 inb_S8x256x384_S1x256x384_7_0_0]
  rfl

theorem out5_at : out0_5 x0 x1 x2 x3 x4 (ix2 p j) = (∑ b : Fin 8, x0 (ix3 b p j)) + x4 (ix2 p j) := by
  unfold out0_5
  rw [View.canon_unit_zero hz2]
  exact grad_at x0 x1 x2 x3 x4 p j

theorem out7_at : out0_7 x0 x1 x2 x3 x4 (ix2 p j) = newM (x2 (ix2 p j)) ((∑ b : Fin 8, x0 (ix3 b p j)) + x4 (ix2 p j)) := by
  unfold out0_7
  rw [View.canon_unit_zero hz2, View.ld_unit_zero (S := S256x384) hz2]
  exact congrArg (newM (x2 (ix2 p j))) (grad_at x0 x1 x2 x3 x4 p j)

theorem out8_at : out0_8 x0 x1 x2 x3 x4 (ix2 p j) = newV (x3 (ix2 p j)) ((∑ b : Fin 8, x0 (ix3 b p j)) + x4 (ix2 p j)) := by
  unfold out0_8
  rw [View.canon_unit_zero hz2, View.ld_unit_zero (S := S256x384) hz2]
  exact congrArg (newV (x3 (ix2 p j))) (grad_at x0 x1 x2 x3 x4 p j)

theorem out6_at : out0_6 x0 x1 x2 x3 x4 (ix2 p j) = delta (x1 (ix2 p j))
    (newM (x2 (ix2 p j)) ((∑ b : Fin 8, x0 (ix3 b p j)) + x4 (ix2 p j)))
    (newV (x3 (ix2 p j)) ((∑ b : Fin 8, x0 (ix3 b p j)) + x4 (ix2 p j))) := by
  unfold out0_6
  rw [View.canon_unit_zero hz2, View.ld_unit_zero (S := S256x384) hz2 _ x1, View.ld_unit_zero (S := S256x384) hz2 _ x2,
    View.ld_unit_zero (S := S256x384) hz2 _ x3]
  exact congrArg₂ (delta (x1 (ix2 p j))) (congrArg (newM (x2 (ix2 p j))) (grad_at x0 x1 x2 x3 x4 p j))
    (congrArg (newV (x3 (ix2 p j))) (grad_at x0 x1 x2 x3 x4 p j))
end Body

section Blocks
variable (m : (ℓ : Loc nD τ sig) → Buf (Elt Ideal) ℓ) (c : Dev nD)

/-- The gradient's pieces, the device's own piece, the weight and its two moments. -/
abbrev ap : S8x2048x384.Idx → EReal := m ((c : Thread nD τ).loc main_arg0)
abbrev ao : Mat 2048 384 := m ((c : Thread nD τ).loc main_arg1)
abbrev aw : Mat 2048 384 := m ((c : Thread nD τ).loc main_arg2)
abbrev am : Mat 2048 384 := m ((c : Thread nD τ).loc main_arg3)
abbrev av : Mat 2048 384 := m ((c : Thread nD τ).loc main_arg4)

/-- Row `p` of point `n`'s block. -/
def row (n : ℕ) (hn : n < cfg0.N) (p : Fin 256) : Fin 2048 :=
  ⟨256 * n + p.val, by have : cfg0.N = 8 := N_0; have := p.isLt; omega⟩

theorem iblk0_at (t : Fin cfg0.N) (b : Fin 8) (p : Fin 256) (j : Fin 384) :
    iblk m c 0 t (ix3 b p j) = ap m c (ix3 b (row t.val t.isLt p) j) := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * b.val = b.val; rw [hi.1]; omega
  | ⟨1, _⟩ => show win0_0.index t 1 * 256 + 1 * p.val = 256 * t.val + p.val; rw [hi.2.1]; omega
  | ⟨2, _⟩ => show win0_0.index t 2 * 384 + 1 * j.val = j.val; rw [hi.2.2]; omega

theorem iblk1_at (t : Fin cfg0.N) (p : Fin 256) (j : Fin 384) :
    iblk m c 1 t (ix2 p j) = aw m c (ix2 (row t.val t.isLt p) j) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 256 + 1 * p.val = 256 * t.val + p.val; rw [hi.1]; omega
  | ⟨1, _⟩ => show win0_1.index t 1 * 384 + 1 * j.val = j.val; rw [hi.2]; omega

theorem iblk2_at (t : Fin cfg0.N) (p : Fin 256) (j : Fin 384) :
    iblk m c 2 t (ix2 p j) = am m c (ix2 (row t.val t.isLt p) j) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg3 _ = _
  rw [V_main_arg3]
  refine congrArg (m ((c : Thread nD τ).loc main_arg3)) (funext fun a => Fin.ext ?_)
  match a with
  | ⟨0, _⟩ => show win0_2.index t 0 * 256 + 1 * p.val = 256 * t.val + p.val; rw [hi.1]; omega
  | ⟨1, _⟩ => show win0_2.index t 1 * 384 + 1 * j.val = j.val; rw [hi.2]; omega

theorem iblk3_at (t : Fin cfg0.N) (p : Fin 256) (j : Fin 384) :
    iblk m c 3 t (ix2 p j) = av m c (ix2 (row t.val t.isLt p) j) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 256 + 1 * p.val = 256 * t.val + p.val; rw [hi.1]; omega
  | ⟨1, _⟩ => show win0_3.index t 1 * 384 + 1 * j.val = j.val; rw [hi.2]; omega

theorem iblk4_at (t : Fin cfg0.N) (p : Fin 256) (j : Fin 384) :
    iblk m c 4 t (ix2 p j) = ao m c (ix2 (row t.val t.isLt p) j) := by
  have hi : win0_4.index t 0 = t.val ∧ win0_4.index t 1 = 0 :=
    (by decide +kernel : ∀ t : Fin grid0.N, win0_4.index t 0 = t.val ∧ win0_4.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_4.index t 0 * 256 + 1 * p.val = 256 * t.val + p.val; rw [hi.1]; omega
  | ⟨1, _⟩ => show win0_4.index t 1 * 384 + 1 * j.val = j.val; rw [hi.2]; omega

/-- The gradient summed over the pieces, at row `r`, column `f`. -/
def gr (r : Fin 2048) (f : Fin 384) : EReal := (∑ b : Fin 8, ap m c (ix3 b r f)) + ao m c (ix2 r f)

theorem grad_iblk (t : Fin cfg0.N) (p : Fin 256) (j : Fin 384) :
    HAdd.hAdd (α := EReal) (β := EReal) (γ := EReal) (Finset.sum (M := EReal) Finset.univ fun b : Fin 8 => iblk m c 0 t (ix3 b p j))
      (iblk m c 4 t (ix2 p j)) = gr m c (row t.val t.isLt p) j :=
  congrArg₂ (HAdd.hAdd (α := EReal) (β := EReal) (γ := EReal)) (Finset.sum_congr rfl fun b _ => iblk0_at m c t b p j)
    (iblk4_at m c t p j)

/-- The four results at row `r`, column `f`: the gradient, the weight's change, the two moments. -/
def g5 (r : Fin 2048) (f : Fin 384) : EReal := gr m c r f
def g7 (r : Fin 2048) (f : Fin 384) : EReal := newM (am m c (ix2 r f)) (gr m c r f)
def g8 (r : Fin 2048) (f : Fin 384) : EReal := newV (av m c (ix2 r f)) (gr m c r f)
def g6 (r : Fin 2048) (f : Fin 384) : EReal := delta (aw m c (ix2 r f)) (g7 m c r f) (g8 m c r f)

def G5 : S2048x384.Idx → EReal := fun i => g5 m c (i 0) (i 1)

theorem point5 (t : Fin cfg0.N) (p : Fin 256) (j : Fin 384) :
    out0_5 (iblk m c 0 t) (iblk m c 1 t) (iblk m c 2 t) (iblk m c 3 t) (iblk m c 4 t) (ix2 p j) = g5 m c (row t.val t.isLt p) j := by
  refine (out5_at (iblk m c 0 t) (iblk m c 1 t) (iblk m c 2 t) (iblk m c 3 t) (iblk m c 4 t) p j).trans ?_
  exact grad_iblk m c t p j

theorem index5 : ∀ t : Fin grid0.N, win0_5.index t 0 = t.val ∧ win0_5.index t 1 = 0 := by
  decide +kernel

theorem xsize5 : ∀ t : Fin grid0.N, win0_5.xsize (grid0.coords t) 0 = 256 ∧ win0_5.xsize (grid0.coords t) 1 = 384 := by
  decide +kernel

theorem flushed5_eq (t : Fin cfg0.N) : (dats m 0 c).flushed 5 t = ((cfg0.win 5).blk t).view.read (Elt Ideal) (G5 m c) := by
  have hi := index5 t
  rw [Value.flushed5]
  funext i
  rw [View.read_apply]
  have h0 : (i 0).val < 256 := lt_of_lt_of_eq (i 0).isLt (xsize5 t).1
  have h1 : (i 1).val < 384 := lt_of_lt_of_eq (i 1).isLt (xsize5 t).2
  refine Eq.trans (b := out0_5 (iblk m c 0 t) (iblk m c 1 t) (iblk m c 2 t) (iblk m c 3 t) (iblk m c 4 t) (ix2 (⟨(i 0).val, h0⟩ : Fin 256) (⟨(i 1).val, h1⟩ : Fin 384)))
    (congrArg (out0_5 (iblk m c 0 t) (iblk m c 1 t) (iblk m c 2 t) (iblk m c 3 t) (iblk m c 4 t)) (funext fun a => Fin.ext (by match a with | ⟨0, _⟩ => rfl | ⟨1, _⟩ => rfl))) ?_
  rw [point5]
  refine congrArg₂ (g5 m c) (Fin.ext ?_) (Fin.ext ?_)
  · show 256 * t.val + (i 0).val = win0_5.index t 0 * 256 + 1 * (i 0).val; rw [hi.1]; omega
  · show (i 1).val = win0_5.index t 1 * 384 + 1 * (i 1).val; rw [hi.2]; omega

theorem final5 : (dats m 0 c).arrAt 5 cfg0.N = G5 m c :=
  (dats m 0 c).arrAt_eq_of_cover 5 (G5 m c) (fun t _ => flushed5_eq m c t) fun i => by
    have h0 : (i 0 : Nat) < 2048 := (i 0).isLt
    have h1 : (i 1 : Nat) < 384 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_5 t, ?_⟩
    obtain ⟨a0, a1⟩ := index5 t
    obtain ⟨b0, b1⟩ := xsize5 t
    show i ∈ ((View.whole main_v0_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + win0_5.xsize (grid0.coords t) 0
                rw [a0, b0]; omega
    | ⟨1, _⟩ => show win0_5.index t 1 * 384 ≤ (i 1 : Nat) ∧ (i 1 : Nat) < win0_5.index t 1 * 384 + win0_5.xsize (grid0.coords t) 1
                rw [a1, b1]; omega

def G6 : S2048x384.Idx → EReal := fun i => g6 m c (i 0) (i 1)

theorem point6 (t : Fin cfg0.N) (p : Fin 256) (j : Fin 384) :
    out0_6 (iblk m c 0 t) (iblk m c 1 t) (iblk m c 2 t) (iblk m c 3 t) (iblk m c 4 t) (ix2 p j) = g6 m c (row t.val t.isLt p) j := by
  refine (out6_at (iblk m c 0 t) (iblk m c 1 t) (iblk m c 2 t) (iblk m c 3 t) (iblk m c 4 t) p j).trans ?_
  exact (congrArg₂ (delta (iblk m c 1 t (ix2 p j)))
    (congrArg₂ newM (iblk2_at m c t p j) (grad_iblk m c t p j)) (congrArg₂ newV (iblk3_at m c t p j) (grad_iblk m c t p j))).trans
    (congrArg (fun w => delta w (g7 m c (row t.val t.isLt p) j) (g8 m c (row t.val t.isLt p) j)) (iblk1_at m c t p j))

theorem index6 : ∀ t : Fin grid0.N, win0_6.index t 0 = t.val ∧ win0_6.index t 1 = 0 := by
  decide +kernel

theorem xsize6 : ∀ t : Fin grid0.N, win0_6.xsize (grid0.coords t) 0 = 256 ∧ win0_6.xsize (grid0.coords t) 1 = 384 := by
  decide +kernel

theorem flushed6_eq (t : Fin cfg0.N) : (dats m 0 c).flushed 6 t = ((cfg0.win 6).blk t).view.read (Elt Ideal) (G6 m c) := by
  have hi := index6 t
  rw [Value.flushed6]
  funext i
  rw [View.read_apply]
  have h0 : (i 0).val < 256 := lt_of_lt_of_eq (i 0).isLt (xsize6 t).1
  have h1 : (i 1).val < 384 := lt_of_lt_of_eq (i 1).isLt (xsize6 t).2
  refine Eq.trans (b := out0_6 (iblk m c 0 t) (iblk m c 1 t) (iblk m c 2 t) (iblk m c 3 t) (iblk m c 4 t) (ix2 (⟨(i 0).val, h0⟩ : Fin 256) (⟨(i 1).val, h1⟩ : Fin 384)))
    (congrArg (out0_6 (iblk m c 0 t) (iblk m c 1 t) (iblk m c 2 t) (iblk m c 3 t) (iblk m c 4 t)) (funext fun a => Fin.ext (by match a with | ⟨0, _⟩ => rfl | ⟨1, _⟩ => rfl))) ?_
  rw [point6]
  refine congrArg₂ (g6 m c) (Fin.ext ?_) (Fin.ext ?_)
  · show 256 * t.val + (i 0).val = win0_6.index t 0 * 256 + 1 * (i 0).val; rw [hi.1]; omega
  · show (i 1).val = win0_6.index t 1 * 384 + 1 * (i 1).val; rw [hi.2]; omega

theorem final6 : (dats m 0 c).arrAt 6 cfg0.N = G6 m c :=
  (dats m 0 c).arrAt_eq_of_cover 6 (G6 m c) (fun t _ => flushed6_eq m c t) fun i => by
    have h0 : (i 0 : Nat) < 2048 := (i 0).isLt
    have h1 : (i 1 : Nat) < 384 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_6 t, ?_⟩
    obtain ⟨a0, a1⟩ := index6 t
    obtain ⟨b0, b1⟩ := xsize6 t
    show i ∈ ((View.whole main_v0_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + win0_6.xsize (grid0.coords t) 0
                rw [a0, b0]; omega
    | ⟨1, _⟩ => show win0_6.index t 1 * 384 ≤ (i 1 : Nat) ∧ (i 1 : Nat) < win0_6.index t 1 * 384 + win0_6.xsize (grid0.coords t) 1
                rw [a1, b1]; omega

def G7 : S2048x384.Idx → EReal := fun i => g7 m c (i 0) (i 1)

theorem point7 (t : Fin cfg0.N) (p : Fin 256) (j : Fin 384) :
    out0_7 (iblk m c 0 t) (iblk m c 1 t) (iblk m c 2 t) (iblk m c 3 t) (iblk m c 4 t) (ix2 p j) = g7 m c (row t.val t.isLt p) j := by
  refine (out7_at (iblk m c 0 t) (iblk m c 1 t) (iblk m c 2 t) (iblk m c 3 t) (iblk m c 4 t) p j).trans ?_
  exact congrArg₂ newM (iblk2_at m c t p j) (grad_iblk m c t p j)

theorem index7 : ∀ t : Fin grid0.N, win0_7.index t 0 = t.val ∧ win0_7.index t 1 = 0 := by
  decide +kernel

theorem xsize7 : ∀ t : Fin grid0.N, win0_7.xsize (grid0.coords t) 0 = 256 ∧ win0_7.xsize (grid0.coords t) 1 = 384 := by
  decide +kernel

theorem flushed7_eq (t : Fin cfg0.N) : (dats m 0 c).flushed 7 t = ((cfg0.win 7).blk t).view.read (Elt Ideal) (G7 m c) := by
  have hi := index7 t
  rw [Value.flushed7]
  funext i
  rw [View.read_apply]
  have h0 : (i 0).val < 256 := lt_of_lt_of_eq (i 0).isLt (xsize7 t).1
  have h1 : (i 1).val < 384 := lt_of_lt_of_eq (i 1).isLt (xsize7 t).2
  refine Eq.trans (b := out0_7 (iblk m c 0 t) (iblk m c 1 t) (iblk m c 2 t) (iblk m c 3 t) (iblk m c 4 t) (ix2 (⟨(i 0).val, h0⟩ : Fin 256) (⟨(i 1).val, h1⟩ : Fin 384)))
    (congrArg (out0_7 (iblk m c 0 t) (iblk m c 1 t) (iblk m c 2 t) (iblk m c 3 t) (iblk m c 4 t)) (funext fun a => Fin.ext (by match a with | ⟨0, _⟩ => rfl | ⟨1, _⟩ => rfl))) ?_
  rw [point7]
  refine congrArg₂ (g7 m c) (Fin.ext ?_) (Fin.ext ?_)
  · show 256 * t.val + (i 0).val = win0_7.index t 0 * 256 + 1 * (i 0).val; rw [hi.1]; omega
  · show (i 1).val = win0_7.index t 1 * 384 + 1 * (i 1).val; rw [hi.2]; omega

theorem final7 : (dats m 0 c).arrAt 7 cfg0.N = G7 m c :=
  (dats m 0 c).arrAt_eq_of_cover 7 (G7 m c) (fun t _ => flushed7_eq m c t) fun i => by
    have h0 : (i 0 : Nat) < 2048 := (i 0).isLt
    have h1 : (i 1 : Nat) < 384 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_7 t, ?_⟩
    obtain ⟨a0, a1⟩ := index7 t
    obtain ⟨b0, b1⟩ := xsize7 t
    show i ∈ ((View.whole main_v0_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + win0_7.xsize (grid0.coords t) 0
                rw [a0, b0]; omega
    | ⟨1, _⟩ => show win0_7.index t 1 * 384 ≤ (i 1 : Nat) ∧ (i 1 : Nat) < win0_7.index t 1 * 384 + win0_7.xsize (grid0.coords t) 1
                rw [a1, b1]; omega

def G8 : S2048x384.Idx → EReal := fun i => g8 m c (i 0) (i 1)

theorem point8 (t : Fin cfg0.N) (p : Fin 256) (j : Fin 384) :
    out0_8 (iblk m c 0 t) (iblk m c 1 t) (iblk m c 2 t) (iblk m c 3 t) (iblk m c 4 t) (ix2 p j) = g8 m c (row t.val t.isLt p) j := by
  refine (out8_at (iblk m c 0 t) (iblk m c 1 t) (iblk m c 2 t) (iblk m c 3 t) (iblk m c 4 t) p j).trans ?_
  exact congrArg₂ newV (iblk3_at m c t p j) (grad_iblk m c t p j)

theorem index8 : ∀ t : Fin grid0.N, win0_8.index t 0 = t.val ∧ win0_8.index t 1 = 0 := by
  decide +kernel

theorem xsize8 : ∀ t : Fin grid0.N, win0_8.xsize (grid0.coords t) 0 = 256 ∧ win0_8.xsize (grid0.coords t) 1 = 384 := by
  decide +kernel

theorem flushed8_eq (t : Fin cfg0.N) : (dats m 0 c).flushed 8 t = ((cfg0.win 8).blk t).view.read (Elt Ideal) (G8 m c) := by
  have hi := index8 t
  rw [Value.flushed8]
  funext i
  rw [View.read_apply]
  have h0 : (i 0).val < 256 := lt_of_lt_of_eq (i 0).isLt (xsize8 t).1
  have h1 : (i 1).val < 384 := lt_of_lt_of_eq (i 1).isLt (xsize8 t).2
  refine Eq.trans (b := out0_8 (iblk m c 0 t) (iblk m c 1 t) (iblk m c 2 t) (iblk m c 3 t) (iblk m c 4 t) (ix2 (⟨(i 0).val, h0⟩ : Fin 256) (⟨(i 1).val, h1⟩ : Fin 384)))
    (congrArg (out0_8 (iblk m c 0 t) (iblk m c 1 t) (iblk m c 2 t) (iblk m c 3 t) (iblk m c 4 t)) (funext fun a => Fin.ext (by match a with | ⟨0, _⟩ => rfl | ⟨1, _⟩ => rfl))) ?_
  rw [point8]
  refine congrArg₂ (g8 m c) (Fin.ext ?_) (Fin.ext ?_)
  · show 256 * t.val + (i 0).val = win0_8.index t 0 * 256 + 1 * (i 0).val; rw [hi.1]; omega
  · show (i 1).val = win0_8.index t 1 * 384 + 1 * (i 1).val; rw [hi.2]; omega

theorem final8 : (dats m 0 c).arrAt 8 cfg0.N = G8 m c :=
  (dats m 0 c).arrAt_eq_of_cover 8 (G8 m c) (fun t _ => flushed8_eq m c t) fun i => by
    have h0 : (i 0 : Nat) < 2048 := (i 0).isLt
    have h1 : (i 1 : Nat) < 384 := (i 1).isLt
    have hN : cfg0.N = 8 := N_0
    obtain ⟨t, ht⟩ : ∃ t : Fin cfg0.N, t.val = (i 0 : Nat) / 256 :=
      ⟨⟨(i 0 : Nat) / 256, by omega⟩, rfl⟩
    refine ⟨t, flush0_8 t, ?_⟩
    obtain ⟨a0, a1⟩ := index8 t
    obtain ⟨b0, b1⟩ := xsize8 t
    show i ∈ ((View.whole main_v0_3).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + win0_8.xsize (grid0.coords t) 0
                rw [a0, b0]; omega
    | ⟨1, _⟩ => show win0_8.index t 1 * 384 ≤ (i 1 : Nat) ∧ (i 1 : Nat) < win0_8.index t 1 * 384 + win0_8.xsize (grid0.coords t) 1
                rw [a1, b1]; omega

end Blocks

section Reference
open Cert.AdamOddInReferenceIdeal.Read

variable (p : S8x2048x384.Idx → EReal) (o w m v : Mat 2048 384)

theorem ref_g (r : Fin 2048) (f : Fin 384) :
    val_main_v3 (F := Ideal) p o (ix2 r f) = (∑ b : Fin 8, p (ix3 b r f)) + o (ix2 r f) := by
  rw [val_main_v3_apply, val_main_v1_apply, val_main_cst_apply]
  refine congrArg₂ (HAdd.hAdd (α := EReal) (β := EReal) (γ := EReal)) ?_ rfl
  refine (congrArg (· + _) Ideal.ofBits_zero_f32).trans ((zero_add _).trans (Finset.sum_congr rfl fun b _ => ?_))
  exact congrArg p (eq_ix3 _)

theorem ref_m (i : S2048x384.Idx) : val_main_v8 (F := Ideal) p o m i = newM (m i) (val_main_v3 (F := Ideal) p o i) := by
  unfold val_main_v8 val_main_v7 val_main_v5
  rfl

theorem ref_v (i : S2048x384.Idx) : val_main_v14 (F := Ideal) p o v i = newV (v i) (val_main_v3 (F := Ideal) p o i) := by
  unfold val_main_v14 val_main_v13 val_main_v11 val_main_v10
  rfl

theorem ref_d (i : S2048x384.Idx) : val_main_v27 (F := Ideal) p o w m v i
    = delta (w i) (val_main_v8 (F := Ideal) p o m i) (val_main_v14 (F := Ideal) p o v i) := by
  unfold val_main_v27 val_main_v25 val_main_v24 val_main_v22 val_main_v21 val_main_v19 val_main_v18 val_main_v16
  rfl
end Reference

section Both
open Cert.AdamOddInReferenceIdeal.Read
variable (m : (ℓ : Loc nD τ sig) → Buf (Elt Ideal) ℓ) (c : Dev nD)

theorem ref5 : val_main_v3 (F := Ideal) (ap m c) (ao m c) = G5 m c := by
  funext i
  obtain ⟨r, f, rfl⟩ : ∃ (r : Fin 2048) (f : Fin 384), i = ix2 r f := ⟨i 0, i 1, eq_ix2 i⟩
  exact ref_g (ap m c) (ao m c) r f

theorem ref7 : val_main_v8 (F := Ideal) (ap m c) (ao m c) (am m c) = G7 m c := by
  funext i
  obtain ⟨r, f, rfl⟩ : ∃ (r : Fin 2048) (f : Fin 384), i = ix2 r f := ⟨i 0, i 1, eq_ix2 i⟩
  exact (ref_m (ap m c) (ao m c) (am m c) _).trans (congrArg (newM _) (ref_g (ap m c) (ao m c) r f))

theorem ref8 : val_main_v14 (F := Ideal) (ap m c) (ao m c) (av m c) = G8 m c := by
  funext i
  obtain ⟨r, f, rfl⟩ : ∃ (r : Fin 2048) (f : Fin 384), i = ix2 r f := ⟨i 0, i 1, eq_ix2 i⟩
  exact (ref_v (ap m c) (ao m c) (av m c) _).trans (congrArg (newV _) (ref_g (ap m c) (ao m c) r f))

theorem ref6 : val_main_v27 (F := Ideal) (ap m c) (ao m c) (aw m c) (am m c) (av m c) = G6 m c := by
  funext i
  refine (ref_d (ap m c) (ao m c) (aw m c) (am m c) (av m c) i).trans ?_
  rw [ref7, ref8]
  obtain ⟨r, f, rfl⟩ : ∃ (r : Fin 2048) (f : Fin 384), i = ix2 r f := ⟨i 0, i 1, eq_ix2 i⟩
  rfl
end Both

attribute [local instance] Cert.AdamOddIn.Gen.facts Cert.AdamOddInIdeal.Gen.facts Cert.AdamOddInReferenceIdeal.Gen.facts

theorem algebraic : Cert.algebraic_AdamOddInIdeal_AdamOddInReferenceIdeal := by
  intro m g m' g' _ harg
  refine ⟨fun c => G5 m c, fun c => G6 m c, fun c => G7 m c, fun c => G8 m c, ?_, ?_⟩
  · refine (θ_run _ _ _).mono (fun r h c => ?_) (Cert.AdamOddInIdeal.Value.run_blocks m g)
    obtain ⟨h0, h1, h2, h3, ha⟩ := h c
    exact ⟨h0.trans (final5 m c), h1.trans (final6 m c), h2.trans (final7 m c), h3.trans (final8 m c), ha⟩
  · refine (θ_run _ _ _).mono (fun r h c => ?_) (Cert.AdamOddInReferenceIdeal.Value.run (F := Ideal) m' g')
    obtain ⟨h0, h1, h2, h3, ha⟩ := h c
    obtain ⟨e0, e1, e2, e3, e4⟩ := harg c
    refine ⟨(h0.trans ?_).trans (ref5 m c), (h1.trans ?_).trans (ref6 m c), (h2.trans ?_).trans (ref7 m c),
      (h3.trans ?_).trans (ref8 m c), ha⟩
    · rw [e0, e1]
      exact Cert.AdamOddInReferenceIdeal.Read.val_main_v3_eq ..
    · rw [e0, e1, e2, e3, e4]
      exact Cert.AdamOddInReferenceIdeal.Read.val_main_v27_eq ..
    · rw [e0, e1, e3]
      exact Cert.AdamOddInReferenceIdeal.Read.val_main_v8_eq ..
    · rw [e0, e1, e4]
      exact Cert.AdamOddInReferenceIdeal.Read.val_main_v14_eq ..

end Adam.OddIn

end
-- ==== Proof.AdamOut.lean ====
/-
  The update of an output projection, whose shapes are the same in both layers; one grid point holds all rows.
-/
module

public import proofs.«01_k».proof.Proof.AdamSpec
public import proofs.«01_k».proof.Defs
public import proofs.«01_k».proof.Proof.Gen.AdamOut
public import proofs.«01_k».proof.Proof.Gen.AdamOutIdeal.Value
public import proofs.«01_k».proof.Proof.Gen.AdamOutReferenceIdeal.Read
public import proofs.«01_k».proof.Proof.Gen.AdamOutReferenceIdeal.Run
public import Idealize.ShloMosaic.Adequacy
public import Idealize.ShloMosaic.Lib.IdealHost
public import Idealize.ShloMosaic.Lib.Tactic

@[expose] public section

set_option maxRecDepth 16384

noncomputable section

namespace Adam.Out

open Cert.AdamOutIdeal Cert.AdamOutIdeal.Gen Idealize.ShloMosaic Idealize.ShloMosaic.TcCoe Idealize.SL.Sem
open Idealize.ShloMosaic.ValueIdx Ffn Proj
open Idealize.ShloMosaic.Pipeline (Dat)

section Body
variable (x0 : Vec Ideal S8x256x2048 .bf16) (x1 x2 x3 : Vec Ideal S256x2048 .f32) (x4 : Vec Ideal S256x2048 .bf16) (p : Fin 256) (j : Fin 2048)

/-- Piece `b` of a block. -/
theorem piece_at (b : Fin 8) (inb : ∀ a, ![b.val, 0, 0] a + S1x256x2048.size a ≤ S8x256x2048.size a) :
    shapeCast S256x2048 (View.ld x0 (Rect.unit (s := S8x256x2048) ![b.val, 0, 0] S1x256x2048.size inb)) shapeCasts_S1x256x2048_S256x2048 (ix2 p j)
      = x0 (ix3 b p j) :=
  (shapeCast_1ab_ab_apply (View.ld x0 (Rect.unit (s := S8x256x2048) ![b.val, 0, 0] S1x256x2048.size inb)) _ p j).trans
    (congrArg x0 (funext fun a => Fin.ext (by
      match a with
      | ⟨0, _⟩ => show b.val + 1 * 0 = b.val; omega
      | ⟨1, _⟩ => show 0 + 1 * p.val = p.val; omega
      | ⟨2, _⟩ => show 0 + 1 * j.val = j.val; omega)))

/-- The gradient: the eight pieces and the device's own, added. -/
theorem grad_at : k0_pay3 (k0_pay7 x0 x1 x2 x3 x4) (k0_pay8 x0 x1 x2 x3 x4) (ix2 p j) = (∑ b : Fin 8, x0 (ix3 b p j)) + x4 (ix2 p j) := by
  unfold k0_pay8
  rw [View.ld_unit_zero (S := S256x2048) hz2, Fin.sum_univ_eight,
    ← piece_at x0 p j 0 inb_S8x256x2048_S1x256x2048_0_0_0,
    ← piece_at x0 p j 1 inb_S8x256x2048_S1x256x2048_1_0_0,
    ← piece_at x0 p j 2 inb_S8x256x2048_S1x256x2048_2_0_0,
    ← piece_at x0 p j 3 inb_S8x256x2048_S1x256x2048_3_0_0,
    ← piece_at x0 p j 4 inb_S8x256x2048_S1x256x2048_4_0_0,
    ← piece_at x0 p j 5 inb_S8x256x2048_S1x256x2048_5_0_0,
    ← piece_at x0 p j 6 inb_S8x256x2048_S1x256x2048_6_0_0,
    ← piece_at x0 p j 7 inb_S8x256x2048_S1x256x2048_7_0_0]
  rfl

theorem out5_at : out0_5 x0 x1 x2 x3 x4 (ix2 p j) = (∑ b : Fin 8, x0 (ix3 b p j)) + x4 (ix2 p j) := by
  unfold out0_5
  rw [View.canon_unit_zero hz2]
  exact grad_at x0 x1 x2 x3 x4 p j

theorem out7_at : out0_7 x0 x1 x2 x3 x4 (ix2 p j) = newM (x2 (ix2 p j)) ((∑ b : Fin 8, x0 (ix3 b p j)) + x4 (ix2 p j)) := by
  unfold out0_7
  rw [View.canon_unit_zero hz2, View.ld_unit_zero (S := S256x2048) hz2]
  exact congrArg (newM (x2 (ix2 p j))) (grad_at x0 x1 x2 x3 x4 p j)

theorem out8_at : out0_8 x0 x1 x2 x3 x4 (ix2 p j) = newV (x3 (ix2 p j)) ((∑ b : Fin 8, x0 (ix3 b p j)) + x4 (ix2 p j)) := by
  unfold out0_8
  rw [View.canon_unit_zero hz2, View.ld_unit_zero (S := S256x2048) hz2]
  exact congrArg (newV (x3 (ix2 p j))) (grad_at x0 x1 x2 x3 x4 p j)

theorem out6_at : out0_6 x0 x1 x2 x3 x4 (ix2 p j) = delta (x1 (ix2 p j))
    (newM (x2 (ix2 p j)) ((∑ b : Fin 8, x0 (ix3 b p j)) + x4 (ix2 p j)))
    (newV (x3 (ix2 p j)) ((∑ b : Fin 8, x0 (ix3 b p j)) + x4 (ix2 p j))) := by
  unfold out0_6
  rw [View.canon_unit_zero hz2, View.ld_unit_zero (S := S256x2048) hz2 _ x1, View.ld_unit_zero (S := S256x2048) hz2 _ x2,
    View.ld_unit_zero (S := S256x2048) hz2 _ x3]
  exact congrArg₂ (delta (x1 (ix2 p j))) (congrArg (newM (x2 (ix2 p j))) (grad_at x0 x1 x2 x3 x4 p j))
    (congrArg (newV (x3 (ix2 p j))) (grad_at x0 x1 x2 x3 x4 p j))
end Body

section Blocks
variable (m : (ℓ : Loc nD τ sig) → Buf (Elt Ideal) ℓ) (c : Dev nD)

/-- The gradient's pieces, the device's own piece, the weight and its two moments. -/
abbrev ap : S8x256x2048.Idx → EReal := m ((c : Thread nD τ).loc main_arg0)
abbrev ao : Mat 256 2048 := m ((c : Thread nD τ).loc main_arg1)
abbrev aw : Mat 256 2048 := m ((c : Thread nD τ).loc main_arg2)
abbrev am : Mat 256 2048 := m ((c : Thread nD τ).loc main_arg3)
abbrev av : Mat 256 2048 := m ((c : Thread nD τ).loc main_arg4)

/-- Row `p` of point `n`'s block. -/
def row (n : ℕ) (hn : n < cfg0.N) (p : Fin 256) : Fin 256 :=
  ⟨256 * n + p.val, by have : cfg0.N = 1 := N_0; have := p.isLt; omega⟩

theorem iblk0_at (t : Fin cfg0.N) (b : Fin 8) (p : Fin 256) (j : Fin 2048) :
    iblk m c 0 t (ix3 b p j) = ap m c (ix3 b (row t.val t.isLt p) j) := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * b.val = b.val; rw [hi.1]; omega
  | ⟨1, _⟩ => show win0_0.index t 1 * 256 + 1 * p.val = 256 * t.val + p.val; rw [hi.2.1]; omega
  | ⟨2, _⟩ => show win0_0.index t 2 * 2048 + 1 * j.val = j.val; rw [hi.2.2]; omega

theorem iblk1_at (t : Fin cfg0.N) (p : Fin 256) (j : Fin 2048) :
    iblk m c 1 t (ix2 p j) = aw m c (ix2 (row t.val t.isLt p) j) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 256 + 1 * p.val = 256 * t.val + p.val; rw [hi.1]; omega
  | ⟨1, _⟩ => show win0_1.index t 1 * 2048 + 1 * j.val = j.val; rw [hi.2]; omega

theorem iblk2_at (t : Fin cfg0.N) (p : Fin 256) (j : Fin 2048) :
    iblk m c 2 t (ix2 p j) = am m c (ix2 (row t.val t.isLt p) j) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg3 _ = _
  rw [V_main_arg3]
  refine congrArg (m ((c : Thread nD τ).loc main_arg3)) (funext fun a => Fin.ext ?_)
  match a with
  | ⟨0, _⟩ => show win0_2.index t 0 * 256 + 1 * p.val = 256 * t.val + p.val; rw [hi.1]; omega
  | ⟨1, _⟩ => show win0_2.index t 1 * 2048 + 1 * j.val = j.val; rw [hi.2]; omega

theorem iblk3_at (t : Fin cfg0.N) (p : Fin 256) (j : Fin 2048) :
    iblk m c 3 t (ix2 p j) = av m c (ix2 (row t.val t.isLt p) j) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 256 + 1 * p.val = 256 * t.val + p.val; rw [hi.1]; omega
  | ⟨1, _⟩ => show win0_3.index t 1 * 2048 + 1 * j.val = j.val; rw [hi.2]; omega

theorem iblk4_at (t : Fin cfg0.N) (p : Fin 256) (j : Fin 2048) :
    iblk m c 4 t (ix2 p j) = ao m c (ix2 (row t.val t.isLt p) j) := by
  have hi : win0_4.index t 0 = t.val ∧ win0_4.index t 1 = 0 :=
    (by decide +kernel : ∀ t : Fin grid0.N, win0_4.index t 0 = t.val ∧ win0_4.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_4.index t 0 * 256 + 1 * p.val = 256 * t.val + p.val; rw [hi.1]; omega
  | ⟨1, _⟩ => show win0_4.index t 1 * 2048 + 1 * j.val = j.val; rw [hi.2]; omega

/-- The gradient summed over the pieces, at row `r`, column `f`. -/
def gr (r : Fin 256) (f : Fin 2048) : EReal := (∑ b : Fin 8, ap m c (ix3 b r f)) + ao m c (ix2 r f)

theorem grad_iblk (t : Fin cfg0.N) (p : Fin 256) (j : Fin 2048) :
    HAdd.hAdd (α := EReal) (β := EReal) (γ := EReal) (Finset.sum (M := EReal) Finset.univ fun b : Fin 8 => iblk m c 0 t (ix3 b p j))
      (iblk m c 4 t (ix2 p j)) = gr m c (row t.val t.isLt p) j :=
  congrArg₂ (HAdd.hAdd (α := EReal) (β := EReal) (γ := EReal)) (Finset.sum_congr rfl fun b _ => iblk0_at m c t b p j)
    (iblk4_at m c t p j)

/-- The four results at row `r`, column `f`: the gradient, the weight's change, the two moments. -/
def g5 (r : Fin 256) (f : Fin 2048) : EReal := gr m c r f
def g7 (r : Fin 256) (f : Fin 2048) : EReal := newM (am m c (ix2 r f)) (gr m c r f)
def g8 (r : Fin 256) (f : Fin 2048) : EReal := newV (av m c (ix2 r f)) (gr m c r f)
def g6 (r : Fin 256) (f : Fin 2048) : EReal := delta (aw m c (ix2 r f)) (g7 m c r f) (g8 m c r f)

def G5 : S256x2048.Idx → EReal := fun i => g5 m c (i 0) (i 1)

theorem point5 (t : Fin cfg0.N) (p : Fin 256) (j : Fin 2048) :
    out0_5 (iblk m c 0 t) (iblk m c 1 t) (iblk m c 2 t) (iblk m c 3 t) (iblk m c 4 t) (ix2 p j) = g5 m c (row t.val t.isLt p) j := by
  refine (out5_at (iblk m c 0 t) (iblk m c 1 t) (iblk m c 2 t) (iblk m c 3 t) (iblk m c 4 t) p j).trans ?_
  exact grad_iblk m c t p j

theorem index5 : ∀ t : Fin grid0.N, win0_5.index t 0 = t.val ∧ win0_5.index t 1 = 0 := by
  decide +kernel

theorem xsize5 : ∀ t : Fin grid0.N, win0_5.xsize (grid0.coords t) 0 = 256 ∧ win0_5.xsize (grid0.coords t) 1 = 2048 := by
  decide +kernel

theorem flushed5_eq (t : Fin cfg0.N) : (dats m 0 c).flushed 5 t = ((cfg0.win 5).blk t).view.read (Elt Ideal) (G5 m c) := by
  have hi := index5 t
  rw [Value.flushed5]
  funext i
  rw [View.read_apply]
  have h0 : (i 0).val < 256 := lt_of_lt_of_eq (i 0).isLt (xsize5 t).1
  have h1 : (i 1).val < 2048 := lt_of_lt_of_eq (i 1).isLt (xsize5 t).2
  refine Eq.trans (b := out0_5 (iblk m c 0 t) (iblk m c 1 t) (iblk m c 2 t) (iblk m c 3 t) (iblk m c 4 t) (ix2 (⟨(i 0).val, h0⟩ : Fin 256) (⟨(i 1).val, h1⟩ : Fin 2048)))
    (congrArg (out0_5 (iblk m c 0 t) (iblk m c 1 t) (iblk m c 2 t) (iblk m c 3 t) (iblk m c 4 t)) (funext fun a => Fin.ext (by match a with | ⟨0, _⟩ => rfl | ⟨1, _⟩ => rfl))) ?_
  rw [point5]
  refine congrArg₂ (g5 m c) (Fin.ext ?_) (Fin.ext ?_)
  · show 256 * t.val + (i 0).val = win0_5.index t 0 * 256 + 1 * (i 0).val; rw [hi.1]; omega
  · show (i 1).val = win0_5.index t 1 * 2048 + 1 * (i 1).val; rw [hi.2]; omega

theorem final5 : (dats m 0 c).arrAt 5 cfg0.N = G5 m c :=
  (dats m 0 c).arrAt_eq_of_cover 5 (G5 m c) (fun t _ => flushed5_eq m c t) fun i => by
    have h0 : (i 0 : Nat) < 256 := (i 0).isLt
    have h1 : (i 1 : Nat) < 2048 := (i 1).isLt
    have hN : cfg0.N = 1 := N_0
    obtain ⟨t, ht⟩ : ∃ t : Fin cfg0.N, t.val = (i 0 : Nat) / 256 :=
      ⟨⟨(i 0 : Nat) / 256, by omega⟩, rfl⟩
    refine ⟨t, flush0_5 t, ?_⟩
    obtain ⟨a0, a1⟩ := index5 t
    obtain ⟨b0, b1⟩ := xsize5 t
    show i ∈ ((View.whole main_v0_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + win0_5.xsize (grid0.coords t) 0
                rw [a0, b0]; omega
    | ⟨1, _⟩ => show win0_5.index t 1 * 2048 ≤ (i 1 : Nat) ∧ (i 1 : Nat) < win0_5.index t 1 * 2048 + win0_5.xsize (grid0.coords t) 1
                rw [a1, b1]; omega

def G6 : S256x2048.Idx → EReal := fun i => g6 m c (i 0) (i 1)

theorem point6 (t : Fin cfg0.N) (p : Fin 256) (j : Fin 2048) :
    out0_6 (iblk m c 0 t) (iblk m c 1 t) (iblk m c 2 t) (iblk m c 3 t) (iblk m c 4 t) (ix2 p j) = g6 m c (row t.val t.isLt p) j := by
  refine (out6_at (iblk m c 0 t) (iblk m c 1 t) (iblk m c 2 t) (iblk m c 3 t) (iblk m c 4 t) p j).trans ?_
  exact (congrArg₂ (delta (iblk m c 1 t (ix2 p j)))
    (congrArg₂ newM (iblk2_at m c t p j) (grad_iblk m c t p j)) (congrArg₂ newV (iblk3_at m c t p j) (grad_iblk m c t p j))).trans
    (congrArg (fun w => delta w (g7 m c (row t.val t.isLt p) j) (g8 m c (row t.val t.isLt p) j)) (iblk1_at m c t p j))

theorem index6 : ∀ t : Fin grid0.N, win0_6.index t 0 = t.val ∧ win0_6.index t 1 = 0 := by
  decide +kernel

theorem xsize6 : ∀ t : Fin grid0.N, win0_6.xsize (grid0.coords t) 0 = 256 ∧ win0_6.xsize (grid0.coords t) 1 = 2048 := by
  decide +kernel

theorem flushed6_eq (t : Fin cfg0.N) : (dats m 0 c).flushed 6 t = ((cfg0.win 6).blk t).view.read (Elt Ideal) (G6 m c) := by
  have hi := index6 t
  rw [Value.flushed6]
  funext i
  rw [View.read_apply]
  have h0 : (i 0).val < 256 := lt_of_lt_of_eq (i 0).isLt (xsize6 t).1
  have h1 : (i 1).val < 2048 := lt_of_lt_of_eq (i 1).isLt (xsize6 t).2
  refine Eq.trans (b := out0_6 (iblk m c 0 t) (iblk m c 1 t) (iblk m c 2 t) (iblk m c 3 t) (iblk m c 4 t) (ix2 (⟨(i 0).val, h0⟩ : Fin 256) (⟨(i 1).val, h1⟩ : Fin 2048)))
    (congrArg (out0_6 (iblk m c 0 t) (iblk m c 1 t) (iblk m c 2 t) (iblk m c 3 t) (iblk m c 4 t)) (funext fun a => Fin.ext (by match a with | ⟨0, _⟩ => rfl | ⟨1, _⟩ => rfl))) ?_
  rw [point6]
  refine congrArg₂ (g6 m c) (Fin.ext ?_) (Fin.ext ?_)
  · show 256 * t.val + (i 0).val = win0_6.index t 0 * 256 + 1 * (i 0).val; rw [hi.1]; omega
  · show (i 1).val = win0_6.index t 1 * 2048 + 1 * (i 1).val; rw [hi.2]; omega

theorem final6 : (dats m 0 c).arrAt 6 cfg0.N = G6 m c :=
  (dats m 0 c).arrAt_eq_of_cover 6 (G6 m c) (fun t _ => flushed6_eq m c t) fun i => by
    have h0 : (i 0 : Nat) < 256 := (i 0).isLt
    have h1 : (i 1 : Nat) < 2048 := (i 1).isLt
    have hN : cfg0.N = 1 := N_0
    obtain ⟨t, ht⟩ : ∃ t : Fin cfg0.N, t.val = (i 0 : Nat) / 256 :=
      ⟨⟨(i 0 : Nat) / 256, by omega⟩, rfl⟩
    refine ⟨t, flush0_6 t, ?_⟩
    obtain ⟨a0, a1⟩ := index6 t
    obtain ⟨b0, b1⟩ := xsize6 t
    show i ∈ ((View.whole main_v0_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + win0_6.xsize (grid0.coords t) 0
                rw [a0, b0]; omega
    | ⟨1, _⟩ => show win0_6.index t 1 * 2048 ≤ (i 1 : Nat) ∧ (i 1 : Nat) < win0_6.index t 1 * 2048 + win0_6.xsize (grid0.coords t) 1
                rw [a1, b1]; omega

def G7 : S256x2048.Idx → EReal := fun i => g7 m c (i 0) (i 1)

theorem point7 (t : Fin cfg0.N) (p : Fin 256) (j : Fin 2048) :
    out0_7 (iblk m c 0 t) (iblk m c 1 t) (iblk m c 2 t) (iblk m c 3 t) (iblk m c 4 t) (ix2 p j) = g7 m c (row t.val t.isLt p) j := by
  refine (out7_at (iblk m c 0 t) (iblk m c 1 t) (iblk m c 2 t) (iblk m c 3 t) (iblk m c 4 t) p j).trans ?_
  exact congrArg₂ newM (iblk2_at m c t p j) (grad_iblk m c t p j)

theorem index7 : ∀ t : Fin grid0.N, win0_7.index t 0 = t.val ∧ win0_7.index t 1 = 0 := by
  decide +kernel

theorem xsize7 : ∀ t : Fin grid0.N, win0_7.xsize (grid0.coords t) 0 = 256 ∧ win0_7.xsize (grid0.coords t) 1 = 2048 := by
  decide +kernel

theorem flushed7_eq (t : Fin cfg0.N) : (dats m 0 c).flushed 7 t = ((cfg0.win 7).blk t).view.read (Elt Ideal) (G7 m c) := by
  have hi := index7 t
  rw [Value.flushed7]
  funext i
  rw [View.read_apply]
  have h0 : (i 0).val < 256 := lt_of_lt_of_eq (i 0).isLt (xsize7 t).1
  have h1 : (i 1).val < 2048 := lt_of_lt_of_eq (i 1).isLt (xsize7 t).2
  refine Eq.trans (b := out0_7 (iblk m c 0 t) (iblk m c 1 t) (iblk m c 2 t) (iblk m c 3 t) (iblk m c 4 t) (ix2 (⟨(i 0).val, h0⟩ : Fin 256) (⟨(i 1).val, h1⟩ : Fin 2048)))
    (congrArg (out0_7 (iblk m c 0 t) (iblk m c 1 t) (iblk m c 2 t) (iblk m c 3 t) (iblk m c 4 t)) (funext fun a => Fin.ext (by match a with | ⟨0, _⟩ => rfl | ⟨1, _⟩ => rfl))) ?_
  rw [point7]
  refine congrArg₂ (g7 m c) (Fin.ext ?_) (Fin.ext ?_)
  · show 256 * t.val + (i 0).val = win0_7.index t 0 * 256 + 1 * (i 0).val; rw [hi.1]; omega
  · show (i 1).val = win0_7.index t 1 * 2048 + 1 * (i 1).val; rw [hi.2]; omega

theorem final7 : (dats m 0 c).arrAt 7 cfg0.N = G7 m c :=
  (dats m 0 c).arrAt_eq_of_cover 7 (G7 m c) (fun t _ => flushed7_eq m c t) fun i => by
    have h0 : (i 0 : Nat) < 256 := (i 0).isLt
    have h1 : (i 1 : Nat) < 2048 := (i 1).isLt
    have hN : cfg0.N = 1 := N_0
    obtain ⟨t, ht⟩ : ∃ t : Fin cfg0.N, t.val = (i 0 : Nat) / 256 :=
      ⟨⟨(i 0 : Nat) / 256, by omega⟩, rfl⟩
    refine ⟨t, flush0_7 t, ?_⟩
    obtain ⟨a0, a1⟩ := index7 t
    obtain ⟨b0, b1⟩ := xsize7 t
    show i ∈ ((View.whole main_v0_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + win0_7.xsize (grid0.coords t) 0
                rw [a0, b0]; omega
    | ⟨1, _⟩ => show win0_7.index t 1 * 2048 ≤ (i 1 : Nat) ∧ (i 1 : Nat) < win0_7.index t 1 * 2048 + win0_7.xsize (grid0.coords t) 1
                rw [a1, b1]; omega

def G8 : S256x2048.Idx → EReal := fun i => g8 m c (i 0) (i 1)

theorem point8 (t : Fin cfg0.N) (p : Fin 256) (j : Fin 2048) :
    out0_8 (iblk m c 0 t) (iblk m c 1 t) (iblk m c 2 t) (iblk m c 3 t) (iblk m c 4 t) (ix2 p j) = g8 m c (row t.val t.isLt p) j := by
  refine (out8_at (iblk m c 0 t) (iblk m c 1 t) (iblk m c 2 t) (iblk m c 3 t) (iblk m c 4 t) p j).trans ?_
  exact congrArg₂ newV (iblk3_at m c t p j) (grad_iblk m c t p j)

theorem index8 : ∀ t : Fin grid0.N, win0_8.index t 0 = t.val ∧ win0_8.index t 1 = 0 := by
  decide +kernel

theorem xsize8 : ∀ t : Fin grid0.N, win0_8.xsize (grid0.coords t) 0 = 256 ∧ win0_8.xsize (grid0.coords t) 1 = 2048 := by
  decide +kernel

theorem flushed8_eq (t : Fin cfg0.N) : (dats m 0 c).flushed 8 t = ((cfg0.win 8).blk t).view.read (Elt Ideal) (G8 m c) := by
  have hi := index8 t
  rw [Value.flushed8]
  funext i
  rw [View.read_apply]
  have h0 : (i 0).val < 256 := lt_of_lt_of_eq (i 0).isLt (xsize8 t).1
  have h1 : (i 1).val < 2048 := lt_of_lt_of_eq (i 1).isLt (xsize8 t).2
  refine Eq.trans (b := out0_8 (iblk m c 0 t) (iblk m c 1 t) (iblk m c 2 t) (iblk m c 3 t) (iblk m c 4 t) (ix2 (⟨(i 0).val, h0⟩ : Fin 256) (⟨(i 1).val, h1⟩ : Fin 2048)))
    (congrArg (out0_8 (iblk m c 0 t) (iblk m c 1 t) (iblk m c 2 t) (iblk m c 3 t) (iblk m c 4 t)) (funext fun a => Fin.ext (by match a with | ⟨0, _⟩ => rfl | ⟨1, _⟩ => rfl))) ?_
  rw [point8]
  refine congrArg₂ (g8 m c) (Fin.ext ?_) (Fin.ext ?_)
  · show 256 * t.val + (i 0).val = win0_8.index t 0 * 256 + 1 * (i 0).val; rw [hi.1]; omega
  · show (i 1).val = win0_8.index t 1 * 2048 + 1 * (i 1).val; rw [hi.2]; omega

theorem final8 : (dats m 0 c).arrAt 8 cfg0.N = G8 m c :=
  (dats m 0 c).arrAt_eq_of_cover 8 (G8 m c) (fun t _ => flushed8_eq m c t) fun i => by
    have h0 : (i 0 : Nat) < 256 := (i 0).isLt
    have h1 : (i 1 : Nat) < 2048 := (i 1).isLt
    have hN : cfg0.N = 1 := N_0
    obtain ⟨t, ht⟩ : ∃ t : Fin cfg0.N, t.val = (i 0 : Nat) / 256 :=
      ⟨⟨(i 0 : Nat) / 256, by omega⟩, rfl⟩
    refine ⟨t, flush0_8 t, ?_⟩
    obtain ⟨a0, a1⟩ := index8 t
    obtain ⟨b0, b1⟩ := xsize8 t
    show i ∈ ((View.whole main_v0_3).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + win0_8.xsize (grid0.coords t) 0
                rw [a0, b0]; omega
    | ⟨1, _⟩ => show win0_8.index t 1 * 2048 ≤ (i 1 : Nat) ∧ (i 1 : Nat) < win0_8.index t 1 * 2048 + win0_8.xsize (grid0.coords t) 1
                rw [a1, b1]; omega

end Blocks

section Reference
open Cert.AdamOutReferenceIdeal.Read

variable (p : S8x256x2048.Idx → EReal) (o w m v : Mat 256 2048)

theorem ref_g (r : Fin 256) (f : Fin 2048) :
    val_main_v3 (F := Ideal) p o (ix2 r f) = (∑ b : Fin 8, p (ix3 b r f)) + o (ix2 r f) := by
  rw [val_main_v3_apply, val_main_v1_apply, val_main_cst_apply]
  refine congrArg₂ (HAdd.hAdd (α := EReal) (β := EReal) (γ := EReal)) ?_ rfl
  refine (congrArg (· + _) Ideal.ofBits_zero_f32).trans ((zero_add _).trans (Finset.sum_congr rfl fun b _ => ?_))
  exact congrArg p (eq_ix3 _)

theorem ref_m (i : S256x2048.Idx) : val_main_v8 (F := Ideal) p o m i = newM (m i) (val_main_v3 (F := Ideal) p o i) := by
  unfold val_main_v8 val_main_v7 val_main_v5
  rfl

theorem ref_v (i : S256x2048.Idx) : val_main_v14 (F := Ideal) p o v i = newV (v i) (val_main_v3 (F := Ideal) p o i) := by
  unfold val_main_v14 val_main_v13 val_main_v11 val_main_v10
  rfl

theorem ref_d (i : S256x2048.Idx) : val_main_v27 (F := Ideal) p o w m v i
    = delta (w i) (val_main_v8 (F := Ideal) p o m i) (val_main_v14 (F := Ideal) p o v i) := by
  unfold val_main_v27 val_main_v25 val_main_v24 val_main_v22 val_main_v21 val_main_v19 val_main_v18 val_main_v16
  rfl
end Reference

section Both
open Cert.AdamOutReferenceIdeal.Read
variable (m : (ℓ : Loc nD τ sig) → Buf (Elt Ideal) ℓ) (c : Dev nD)

theorem ref5 : val_main_v3 (F := Ideal) (ap m c) (ao m c) = G5 m c := by
  funext i
  obtain ⟨r, f, rfl⟩ : ∃ (r : Fin 256) (f : Fin 2048), i = ix2 r f := ⟨i 0, i 1, eq_ix2 i⟩
  exact ref_g (ap m c) (ao m c) r f

theorem ref7 : val_main_v8 (F := Ideal) (ap m c) (ao m c) (am m c) = G7 m c := by
  funext i
  obtain ⟨r, f, rfl⟩ : ∃ (r : Fin 256) (f : Fin 2048), i = ix2 r f := ⟨i 0, i 1, eq_ix2 i⟩
  exact (ref_m (ap m c) (ao m c) (am m c) _).trans (congrArg (newM _) (ref_g (ap m c) (ao m c) r f))

theorem ref8 : val_main_v14 (F := Ideal) (ap m c) (ao m c) (av m c) = G8 m c := by
  funext i
  obtain ⟨r, f, rfl⟩ : ∃ (r : Fin 256) (f : Fin 2048), i = ix2 r f := ⟨i 0, i 1, eq_ix2 i⟩
  exact (ref_v (ap m c) (ao m c) (av m c) _).trans (congrArg (newV _) (ref_g (ap m c) (ao m c) r f))

theorem ref6 : val_main_v27 (F := Ideal) (ap m c) (ao m c) (aw m c) (am m c) (av m c) = G6 m c := by
  funext i
  refine (ref_d (ap m c) (ao m c) (aw m c) (am m c) (av m c) i).trans ?_
  rw [ref7, ref8]
  obtain ⟨r, f, rfl⟩ : ∃ (r : Fin 256) (f : Fin 2048), i = ix2 r f := ⟨i 0, i 1, eq_ix2 i⟩
  rfl
end Both

attribute [local instance] Cert.AdamOut.Gen.facts Cert.AdamOutIdeal.Gen.facts Cert.AdamOutReferenceIdeal.Gen.facts

theorem algebraic : Cert.algebraic_AdamOutIdeal_AdamOutReferenceIdeal := by
  intro m g m' g' _ harg
  refine ⟨fun c => G5 m c, fun c => G6 m c, fun c => G7 m c, fun c => G8 m c, ?_, ?_⟩
  · refine (θ_run _ _ _).mono (fun r h c => ?_) (Cert.AdamOutIdeal.Value.run_blocks m g)
    obtain ⟨h0, h1, h2, h3, ha⟩ := h c
    exact ⟨h0.trans (final5 m c), h1.trans (final6 m c), h2.trans (final7 m c), h3.trans (final8 m c), ha⟩
  · refine (θ_run _ _ _).mono (fun r h c => ?_) (Cert.AdamOutReferenceIdeal.Value.run (F := Ideal) m' g')
    obtain ⟨h0, h1, h2, h3, ha⟩ := h c
    obtain ⟨e0, e1, e2, e3, e4⟩ := harg c
    refine ⟨(h0.trans ?_).trans (ref5 m c), (h1.trans ?_).trans (ref6 m c), (h2.trans ?_).trans (ref7 m c),
      (h3.trans ?_).trans (ref8 m c), ha⟩
    · rw [e0, e1]
      exact Cert.AdamOutReferenceIdeal.Read.val_main_v3_eq ..
    · rw [e0, e1, e2, e3, e4]
      exact Cert.AdamOutReferenceIdeal.Read.val_main_v27_eq ..
    · rw [e0, e1, e3]
      exact Cert.AdamOutReferenceIdeal.Read.val_main_v8_eq ..
    · rw [e0, e1, e4]
      exact Cert.AdamOutReferenceIdeal.Read.val_main_v14_eq ..

end Adam.Out

end
-- ==== Proof.AdamMod.lean ====
/-
  The update of the modulation weight, whose gradient is already whole: one AdamW step at each weight.
-/
module

public import proofs.«01_k».proof.Proof.AdamSpec
public import proofs.«01_k».proof.Defs
public import proofs.«01_k».proof.Proof.Gen.AdamMod
public import proofs.«01_k».proof.Proof.Gen.AdamModIdeal.Value
public import proofs.«01_k».proof.Proof.Gen.AdamModReferenceIdeal.Read
public import proofs.«01_k».proof.Proof.Gen.AdamModReferenceIdeal.Run
public import Idealize.ShloMosaic.Adequacy
public import Idealize.ShloMosaic.Lib.IdealHost
public import Idealize.ShloMosaic.Lib.Tactic

@[expose] public section

set_option maxRecDepth 16384

noncomputable section

namespace Adam.Mod

open Cert.AdamModIdeal Cert.AdamModIdeal.Gen Idealize.ShloMosaic Idealize.ShloMosaic.TcCoe Idealize.SL.Sem
open Idealize.ShloMosaic.ValueIdx Ffn Proj
open Idealize.ShloMosaic.Pipeline (Dat)

section Body
variable (x0 : Vec Ideal S1x256x2304 .f32) (x1 x2 x3 : Vec Ideal S256x2304 .f32) (p : Fin 256) (j : Fin 2304)

/-- The gradient: the one piece. -/
theorem grad_at : k0_pay1 x0 (ix2 p j) = x0 (ix3 0 p j) :=
  shapeCast_1ab_ab_apply x0 _ p j

theorem out4_at : out0_4 x0 x1 x2 x3 (ix2 p j) = x0 (ix3 0 p j) := by
  unfold out0_4
  rw [View.canon_unit_zero hz2, View.ld_unit_zero (S := S1x256x2304) hz3]
  exact grad_at x0 p j

theorem out6_at : out0_6 x0 x1 x2 x3 (ix2 p j) = newM (x2 (ix2 p j)) (x0 (ix3 0 p j)) := by
  unfold out0_6
  rw [View.canon_unit_zero hz2, View.ld_unit_zero (S := S1x256x2304) hz3, View.ld_unit_zero (S := S256x2304) hz2]
  exact congrArg (newM (x2 (ix2 p j))) (grad_at x0 p j)

theorem out7_at : out0_7 x0 x1 x2 x3 (ix2 p j) = newV (x3 (ix2 p j)) (x0 (ix3 0 p j)) := by
  unfold out0_7
  rw [View.canon_unit_zero hz2, View.ld_unit_zero (S := S1x256x2304) hz3, View.ld_unit_zero (S := S256x2304) hz2]
  exact congrArg (newV (x3 (ix2 p j))) (grad_at x0 p j)

theorem out5_at : out0_5 x0 x1 x2 x3 (ix2 p j) = delta (x1 (ix2 p j))
    (newM (x2 (ix2 p j)) (x0 (ix3 0 p j))) (newV (x3 (ix2 p j)) (x0 (ix3 0 p j))) := by
  unfold out0_5
  rw [View.canon_unit_zero hz2, View.ld_unit_zero (S := S1x256x2304) hz3, View.ld_unit_zero (S := S256x2304) hz2 _ x1,
    View.ld_unit_zero (S := S256x2304) hz2 _ x2, View.ld_unit_zero (S := S256x2304) hz2 _ x3]
  exact congrArg₂ (delta (x1 (ix2 p j))) (congrArg (newM (x2 (ix2 p j))) (grad_at x0 p j))
    (congrArg (newV (x3 (ix2 p j))) (grad_at x0 p j))
end Body

section Blocks
variable (m : (ℓ : Loc nD τ sig) → Buf (Elt Ideal) ℓ) (c : Dev nD)

/-- The gradient, the weight and its two moments. -/
abbrev ap : S1x4096x2304.Idx → EReal := m ((c : Thread nD τ).loc main_arg0)
abbrev aw : Mat 4096 2304 := m ((c : Thread nD τ).loc main_arg1)
abbrev am : Mat 4096 2304 := m ((c : Thread nD τ).loc main_arg2)
abbrev av : Mat 4096 2304 := m ((c : Thread nD τ).loc main_arg3)

/-- Row `p` of point `n`'s block. -/
def row (n : ℕ) (hn : n < cfg0.N) (p : Fin 256) : Fin 4096 :=
  ⟨256 * n + p.val, by have : cfg0.N = 16 := N_0; have := p.isLt; omega⟩

theorem iblk0_at (t : Fin cfg0.N) (b : Fin 1) (p : Fin 256) (j : Fin 2304) :
    iblk m c 0 t (ix3 b p j) = ap m c (ix3 b (row t.val t.isLt p) j) := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * b.val = b.val; rw [hi.1]; omega
  | ⟨1, _⟩ => show win0_0.index t 1 * 256 + 1 * p.val = 256 * t.val + p.val; rw [hi.2.1]; omega
  | ⟨2, _⟩ => show win0_0.index t 2 * 2304 + 1 * j.val = j.val; rw [hi.2.2]; omega

theorem iblk1_at (t : Fin cfg0.N) (p : Fin 256) (j : Fin 2304) :
    iblk m c 1 t (ix2 p j) = aw m c (ix2 (row t.val t.isLt p) j) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 256 + 1 * p.val = 256 * t.val + p.val; rw [hi.1]; omega
  | ⟨1, _⟩ => show win0_1.index t 1 * 2304 + 1 * j.val = j.val; rw [hi.2]; omega

theorem iblk2_at (t : Fin cfg0.N) (p : Fin 256) (j : Fin 2304) :
    iblk m c 2 t (ix2 p j) = am m c (ix2 (row t.val t.isLt p) j) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 256 + 1 * p.val = 256 * t.val + p.val; rw [hi.1]; omega
  | ⟨1, _⟩ => show win0_2.index t 1 * 2304 + 1 * j.val = j.val; rw [hi.2]; omega

theorem iblk3_at (t : Fin cfg0.N) (p : Fin 256) (j : Fin 2304) :
    iblk m c 3 t (ix2 p j) = av m c (ix2 (row t.val t.isLt p) j) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 256 + 1 * p.val = 256 * t.val + p.val; rw [hi.1]; omega
  | ⟨1, _⟩ => show win0_3.index t 1 * 2304 + 1 * j.val = j.val; rw [hi.2]; omega

/-- The gradient at row `r`, column `f`. -/
def gr (r : Fin 4096) (f : Fin 2304) : EReal := ap m c (ix3 0 r f)

theorem grad_iblk (t : Fin cfg0.N) (p : Fin 256) (j : Fin 2304) :
    iblk m c 0 t (ix3 0 p j) = gr m c (row t.val t.isLt p) j :=
  iblk0_at m c t 0 p j

/-- The four results at row `r`, column `f`: the gradient, the weight's change, the two moments. -/
def g4 (r : Fin 4096) (f : Fin 2304) : EReal := gr m c r f
def g6 (r : Fin 4096) (f : Fin 2304) : EReal := newM (am m c (ix2 r f)) (gr m c r f)
def g7 (r : Fin 4096) (f : Fin 2304) : EReal := newV (av m c (ix2 r f)) (gr m c r f)
def g5 (r : Fin 4096) (f : Fin 2304) : EReal := delta (aw m c (ix2 r f)) (g6 m c r f) (g7 m c r f)

def G4 : S4096x2304.Idx → EReal := fun i => g4 m c (i 0) (i 1)

theorem point4 (t : Fin cfg0.N) (p : Fin 256) (j : Fin 2304) :
    out0_4 (iblk m c 0 t) (iblk m c 1 t) (iblk m c 2 t) (iblk m c 3 t) (ix2 p j) = g4 m c (row t.val t.isLt p) j := by
  refine (out4_at (iblk m c 0 t) (iblk m c 1 t) (iblk m c 2 t) (iblk m c 3 t) p j).trans ?_
  exact grad_iblk m c t p j

theorem index4 : ∀ t : Fin grid0.N, win0_4.index t 0 = t.val ∧ win0_4.index t 1 = 0 := by
  decide +kernel

theorem xsize4 : ∀ t : Fin grid0.N, win0_4.xsize (grid0.coords t) 0 = 256 ∧ win0_4.xsize (grid0.coords t) 1 = 2304 := by
  decide +kernel

theorem flushed4_eq (t : Fin cfg0.N) : (dats m 0 c).flushed 4 t = ((cfg0.win 4).blk t).view.read (Elt Ideal) (G4 m c) := by
  have hi := index4 t
  rw [Value.flushed4]
  funext i
  rw [View.read_apply]
  have h0 : (i 0).val < 256 := lt_of_lt_of_eq (i 0).isLt (xsize4 t).1
  have h1 : (i 1).val < 2304 := lt_of_lt_of_eq (i 1).isLt (xsize4 t).2
  refine Eq.trans (b := out0_4 (iblk m c 0 t) (iblk m c 1 t) (iblk m c 2 t) (iblk m c 3 t) (ix2 (⟨(i 0).val, h0⟩ : Fin 256) (⟨(i 1).val, h1⟩ : Fin 2304)))
    (congrArg (out0_4 (iblk m c 0 t) (iblk m c 1 t) (iblk m c 2 t) (iblk m c 3 t)) (funext fun a => Fin.ext (by match a with | ⟨0, _⟩ => rfl | ⟨1, _⟩ => rfl))) ?_
  rw [point4]
  refine congrArg₂ (g4 m c) (Fin.ext ?_) (Fin.ext ?_)
  · show 256 * t.val + (i 0).val = win0_4.index t 0 * 256 + 1 * (i 0).val; rw [hi.1]; omega
  · show (i 1).val = win0_4.index t 1 * 2304 + 1 * (i 1).val; rw [hi.2]; omega

theorem final4 : (dats m 0 c).arrAt 4 cfg0.N = G4 m c :=
  (dats m 0 c).arrAt_eq_of_cover 4 (G4 m c) (fun t _ => flushed4_eq m c t) fun i => by
    have h0 : (i 0 : Nat) < 4096 := (i 0).isLt
    have h1 : (i 1 : Nat) < 2304 := (i 1).isLt
    have hN : cfg0.N = 16 := N_0
    obtain ⟨t, ht⟩ : ∃ t : Fin cfg0.N, t.val = (i 0 : Nat) / 256 :=
      ⟨⟨(i 0 : Nat) / 256, by omega⟩, rfl⟩
    refine ⟨t, flush0_4 t, ?_⟩
    obtain ⟨a0, a1⟩ := index4 t
    obtain ⟨b0, b1⟩ := xsize4 t
    show i ∈ ((View.whole main_v0_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + win0_4.xsize (grid0.coords t) 0
                rw [a0, b0]; omega
    | ⟨1, _⟩ => show win0_4.index t 1 * 2304 ≤ (i 1 : Nat) ∧ (i 1 : Nat) < win0_4.index t 1 * 2304 + win0_4.xsize (grid0.coords t) 1
                rw [a1, b1]; omega

def G5 : S4096x2304.Idx → EReal := fun i => g5 m c (i 0) (i 1)

theorem point5 (t : Fin cfg0.N) (p : Fin 256) (j : Fin 2304) :
    out0_5 (iblk m c 0 t) (iblk m c 1 t) (iblk m c 2 t) (iblk m c 3 t) (ix2 p j) = g5 m c (row t.val t.isLt p) j := by
  refine (out5_at (iblk m c 0 t) (iblk m c 1 t) (iblk m c 2 t) (iblk m c 3 t) p j).trans ?_
  exact (congrArg₂ (delta (iblk m c 1 t (ix2 p j)))
    (congrArg₂ newM (iblk2_at m c t p j) (grad_iblk m c t p j)) (congrArg₂ newV (iblk3_at m c t p j) (grad_iblk m c t p j))).trans
    (congrArg (fun w => delta w (g6 m c (row t.val t.isLt p) j) (g7 m c (row t.val t.isLt p) j)) (iblk1_at m c t p j))

theorem index5 : ∀ t : Fin grid0.N, win0_5.index t 0 = t.val ∧ win0_5.index t 1 = 0 := by
  decide +kernel

theorem xsize5 : ∀ t : Fin grid0.N, win0_5.xsize (grid0.coords t) 0 = 256 ∧ win0_5.xsize (grid0.coords t) 1 = 2304 := by
  decide +kernel

theorem flushed5_eq (t : Fin cfg0.N) : (dats m 0 c).flushed 5 t = ((cfg0.win 5).blk t).view.read (Elt Ideal) (G5 m c) := by
  have hi := index5 t
  rw [Value.flushed5]
  funext i
  rw [View.read_apply]
  have h0 : (i 0).val < 256 := lt_of_lt_of_eq (i 0).isLt (xsize5 t).1
  have h1 : (i 1).val < 2304 := lt_of_lt_of_eq (i 1).isLt (xsize5 t).2
  refine Eq.trans (b := out0_5 (iblk m c 0 t) (iblk m c 1 t) (iblk m c 2 t) (iblk m c 3 t) (ix2 (⟨(i 0).val, h0⟩ : Fin 256) (⟨(i 1).val, h1⟩ : Fin 2304)))
    (congrArg (out0_5 (iblk m c 0 t) (iblk m c 1 t) (iblk m c 2 t) (iblk m c 3 t)) (funext fun a => Fin.ext (by match a with | ⟨0, _⟩ => rfl | ⟨1, _⟩ => rfl))) ?_
  rw [point5]
  refine congrArg₂ (g5 m c) (Fin.ext ?_) (Fin.ext ?_)
  · show 256 * t.val + (i 0).val = win0_5.index t 0 * 256 + 1 * (i 0).val; rw [hi.1]; omega
  · show (i 1).val = win0_5.index t 1 * 2304 + 1 * (i 1).val; rw [hi.2]; omega

theorem final5 : (dats m 0 c).arrAt 5 cfg0.N = G5 m c :=
  (dats m 0 c).arrAt_eq_of_cover 5 (G5 m c) (fun t _ => flushed5_eq m c t) fun i => by
    have h0 : (i 0 : Nat) < 4096 := (i 0).isLt
    have h1 : (i 1 : Nat) < 2304 := (i 1).isLt
    have hN : cfg0.N = 16 := N_0
    obtain ⟨t, ht⟩ : ∃ t : Fin cfg0.N, t.val = (i 0 : Nat) / 256 :=
      ⟨⟨(i 0 : Nat) / 256, by omega⟩, rfl⟩
    refine ⟨t, flush0_5 t, ?_⟩
    obtain ⟨a0, a1⟩ := index5 t
    obtain ⟨b0, b1⟩ := xsize5 t
    show i ∈ ((View.whole main_v0_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + win0_5.xsize (grid0.coords t) 0
                rw [a0, b0]; omega
    | ⟨1, _⟩ => show win0_5.index t 1 * 2304 ≤ (i 1 : Nat) ∧ (i 1 : Nat) < win0_5.index t 1 * 2304 + win0_5.xsize (grid0.coords t) 1
                rw [a1, b1]; omega

def G6 : S4096x2304.Idx → EReal := fun i => g6 m c (i 0) (i 1)

theorem point6 (t : Fin cfg0.N) (p : Fin 256) (j : Fin 2304) :
    out0_6 (iblk m c 0 t) (iblk m c 1 t) (iblk m c 2 t) (iblk m c 3 t) (ix2 p j) = g6 m c (row t.val t.isLt p) j := by
  refine (out6_at (iblk m c 0 t) (iblk m c 1 t) (iblk m c 2 t) (iblk m c 3 t) p j).trans ?_
  exact congrArg₂ newM (iblk2_at m c t p j) (grad_iblk m c t p j)

theorem index6 : ∀ t : Fin grid0.N, win0_6.index t 0 = t.val ∧ win0_6.index t 1 = 0 := by
  decide +kernel

theorem xsize6 : ∀ t : Fin grid0.N, win0_6.xsize (grid0.coords t) 0 = 256 ∧ win0_6.xsize (grid0.coords t) 1 = 2304 := by
  decide +kernel

theorem flushed6_eq (t : Fin cfg0.N) : (dats m 0 c).flushed 6 t = ((cfg0.win 6).blk t).view.read (Elt Ideal) (G6 m c) := by
  have hi := index6 t
  rw [Value.flushed6]
  funext i
  rw [View.read_apply]
  have h0 : (i 0).val < 256 := lt_of_lt_of_eq (i 0).isLt (xsize6 t).1
  have h1 : (i 1).val < 2304 := lt_of_lt_of_eq (i 1).isLt (xsize6 t).2
  refine Eq.trans (b := out0_6 (iblk m c 0 t) (iblk m c 1 t) (iblk m c 2 t) (iblk m c 3 t) (ix2 (⟨(i 0).val, h0⟩ : Fin 256) (⟨(i 1).val, h1⟩ : Fin 2304)))
    (congrArg (out0_6 (iblk m c 0 t) (iblk m c 1 t) (iblk m c 2 t) (iblk m c 3 t)) (funext fun a => Fin.ext (by match a with | ⟨0, _⟩ => rfl | ⟨1, _⟩ => rfl))) ?_
  rw [point6]
  refine congrArg₂ (g6 m c) (Fin.ext ?_) (Fin.ext ?_)
  · show 256 * t.val + (i 0).val = win0_6.index t 0 * 256 + 1 * (i 0).val; rw [hi.1]; omega
  · show (i 1).val = win0_6.index t 1 * 2304 + 1 * (i 1).val; rw [hi.2]; omega

theorem final6 : (dats m 0 c).arrAt 6 cfg0.N = G6 m c :=
  (dats m 0 c).arrAt_eq_of_cover 6 (G6 m c) (fun t _ => flushed6_eq m c t) fun i => by
    have h0 : (i 0 : Nat) < 4096 := (i 0).isLt
    have h1 : (i 1 : Nat) < 2304 := (i 1).isLt
    have hN : cfg0.N = 16 := N_0
    obtain ⟨t, ht⟩ : ∃ t : Fin cfg0.N, t.val = (i 0 : Nat) / 256 :=
      ⟨⟨(i 0 : Nat) / 256, by omega⟩, rfl⟩
    refine ⟨t, flush0_6 t, ?_⟩
    obtain ⟨a0, a1⟩ := index6 t
    obtain ⟨b0, b1⟩ := xsize6 t
    show i ∈ ((View.whole main_v0_2).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + win0_6.xsize (grid0.coords t) 0
                rw [a0, b0]; omega
    | ⟨1, _⟩ => show win0_6.index t 1 * 2304 ≤ (i 1 : Nat) ∧ (i 1 : Nat) < win0_6.index t 1 * 2304 + win0_6.xsize (grid0.coords t) 1
                rw [a1, b1]; omega

def G7 : S4096x2304.Idx → EReal := fun i => g7 m c (i 0) (i 1)

theorem point7 (t : Fin cfg0.N) (p : Fin 256) (j : Fin 2304) :
    out0_7 (iblk m c 0 t) (iblk m c 1 t) (iblk m c 2 t) (iblk m c 3 t) (ix2 p j) = g7 m c (row t.val t.isLt p) j := by
  refine (out7_at (iblk m c 0 t) (iblk m c 1 t) (iblk m c 2 t) (iblk m c 3 t) p j).trans ?_
  exact congrArg₂ newV (iblk3_at m c t p j) (grad_iblk m c t p j)

theorem index7 : ∀ t : Fin grid0.N, win0_7.index t 0 = t.val ∧ win0_7.index t 1 = 0 := by
  decide +kernel

theorem xsize7 : ∀ t : Fin grid0.N, win0_7.xsize (grid0.coords t) 0 = 256 ∧ win0_7.xsize (grid0.coords t) 1 = 2304 := by
  decide +kernel

theorem flushed7_eq (t : Fin cfg0.N) : (dats m 0 c).flushed 7 t = ((cfg0.win 7).blk t).view.read (Elt Ideal) (G7 m c) := by
  have hi := index7 t
  rw [Value.flushed7]
  funext i
  rw [View.read_apply]
  have h0 : (i 0).val < 256 := lt_of_lt_of_eq (i 0).isLt (xsize7 t).1
  have h1 : (i 1).val < 2304 := lt_of_lt_of_eq (i 1).isLt (xsize7 t).2
  refine Eq.trans (b := out0_7 (iblk m c 0 t) (iblk m c 1 t) (iblk m c 2 t) (iblk m c 3 t) (ix2 (⟨(i 0).val, h0⟩ : Fin 256) (⟨(i 1).val, h1⟩ : Fin 2304)))
    (congrArg (out0_7 (iblk m c 0 t) (iblk m c 1 t) (iblk m c 2 t) (iblk m c 3 t)) (funext fun a => Fin.ext (by match a with | ⟨0, _⟩ => rfl | ⟨1, _⟩ => rfl))) ?_
  rw [point7]
  refine congrArg₂ (g7 m c) (Fin.ext ?_) (Fin.ext ?_)
  · show 256 * t.val + (i 0).val = win0_7.index t 0 * 256 + 1 * (i 0).val; rw [hi.1]; omega
  · show (i 1).val = win0_7.index t 1 * 2304 + 1 * (i 1).val; rw [hi.2]; omega

theorem final7 : (dats m 0 c).arrAt 7 cfg0.N = G7 m c :=
  (dats m 0 c).arrAt_eq_of_cover 7 (G7 m c) (fun t _ => flushed7_eq m c t) fun i => by
    have h0 : (i 0 : Nat) < 4096 := (i 0).isLt
    have h1 : (i 1 : Nat) < 2304 := (i 1).isLt
    have hN : cfg0.N = 16 := N_0
    obtain ⟨t, ht⟩ : ∃ t : Fin cfg0.N, t.val = (i 0 : Nat) / 256 :=
      ⟨⟨(i 0 : Nat) / 256, by omega⟩, rfl⟩
    refine ⟨t, flush0_7 t, ?_⟩
    obtain ⟨a0, a1⟩ := index7 t
    obtain ⟨b0, b1⟩ := xsize7 t
    show i ∈ ((View.whole main_v0_3).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + win0_7.xsize (grid0.coords t) 0
                rw [a0, b0]; omega
    | ⟨1, _⟩ => show win0_7.index t 1 * 2304 ≤ (i 1 : Nat) ∧ (i 1 : Nat) < win0_7.index t 1 * 2304 + win0_7.xsize (grid0.coords t) 1
                rw [a1, b1]; omega

end Blocks

section Reference
open Cert.AdamModReferenceIdeal.Read

variable (p : S1x4096x2304.Idx → EReal) (w m v : Mat 4096 2304)

theorem ref_g (r : Fin 4096) (f : Fin 2304) : val_main_v0 (F := Ideal) p (ix2 r f) = p (ix3 0 r f) := by
  rw [val_main_v0_apply, val_main_cst_apply]
  refine (congrArg (· + _) Ideal.ofBits_zero_f32).trans ((zero_add _).trans ((Fin.sum_univ_one _).trans ?_))
  exact congrArg p (eq_ix3 _)

theorem ref_m (i : S4096x2304.Idx) : val_main_v5 (F := Ideal) p m i = newM (m i) (val_main_v0 (F := Ideal) p i) := by
  unfold val_main_v5 val_main_v4 val_main_v2
  rfl

theorem ref_v (i : S4096x2304.Idx) : val_main_v11 (F := Ideal) p v i = newV (v i) (val_main_v0 (F := Ideal) p i) := by
  unfold val_main_v11 val_main_v10 val_main_v8 val_main_v7
  rfl

theorem ref_d (i : S4096x2304.Idx) : val_main_v24 (F := Ideal) p w m v i
    = delta (w i) (val_main_v5 (F := Ideal) p m i) (val_main_v11 (F := Ideal) p v i) := by
  unfold val_main_v24 val_main_v22 val_main_v21 val_main_v19 val_main_v18 val_main_v16 val_main_v15 val_main_v13
  rfl
end Reference

section Both
open Cert.AdamModReferenceIdeal.Read
variable (m : (ℓ : Loc nD τ sig) → Buf (Elt Ideal) ℓ) (c : Dev nD)

theorem ref4 : val_main_v0 (F := Ideal) (ap m c) = G4 m c := by
  funext i
  obtain ⟨r, f, rfl⟩ : ∃ (r : Fin 4096) (f : Fin 2304), i = ix2 r f := ⟨i 0, i 1, eq_ix2 i⟩
  exact ref_g (ap m c) r f

theorem ref6 : val_main_v5 (F := Ideal) (ap m c) (am m c) = G6 m c := by
  funext i
  obtain ⟨r, f, rfl⟩ : ∃ (r : Fin 4096) (f : Fin 2304), i = ix2 r f := ⟨i 0, i 1, eq_ix2 i⟩
  exact (ref_m (ap m c) (am m c) _).trans (congrArg (newM _) (ref_g (ap m c) r f))

theorem ref7 : val_main_v11 (F := Ideal) (ap m c) (av m c) = G7 m c := by
  funext i
  obtain ⟨r, f, rfl⟩ : ∃ (r : Fin 4096) (f : Fin 2304), i = ix2 r f := ⟨i 0, i 1, eq_ix2 i⟩
  exact (ref_v (ap m c) (av m c) _).trans (congrArg (newV _) (ref_g (ap m c) r f))

theorem ref5 : val_main_v24 (F := Ideal) (ap m c) (aw m c) (am m c) (av m c) = G5 m c := by
  funext i
  refine (ref_d (ap m c) (aw m c) (am m c) (av m c) i).trans ?_
  rw [ref6, ref7]
  obtain ⟨r, f, rfl⟩ : ∃ (r : Fin 4096) (f : Fin 2304), i = ix2 r f := ⟨i 0, i 1, eq_ix2 i⟩
  rfl
end Both

attribute [local instance] Cert.AdamMod.Gen.facts Cert.AdamModIdeal.Gen.facts Cert.AdamModReferenceIdeal.Gen.facts

theorem algebraic : Cert.algebraic_AdamModIdeal_AdamModReferenceIdeal := by
  intro m g m' g' _ harg
  refine ⟨fun c => G4 m c, fun c => G5 m c, fun c => G6 m c, fun c => G7 m c, ?_, ?_⟩
  · refine (θ_run _ _ _).mono (fun r h c => ?_) (Cert.AdamModIdeal.Value.run_blocks m g)
    obtain ⟨h0, h1, h2, h3, ha⟩ := h c
    exact ⟨h0.trans (final4 m c), h1.trans (final5 m c), h2.trans (final6 m c), h3.trans (final7 m c), ha⟩
  · refine (θ_run _ _ _).mono (fun r h c => ?_) (Cert.AdamModReferenceIdeal.Value.run (F := Ideal) m' g')
    obtain ⟨h0, h1, h2, h3, ha⟩ := h c
    obtain ⟨e0, e1, e2, e3⟩ := harg c
    refine ⟨(h0.trans ?_).trans (ref4 m c), (h1.trans ?_).trans (ref5 m c), (h2.trans ?_).trans (ref6 m c),
      (h3.trans ?_).trans (ref7 m c), ha⟩
    · rw [e0]
      exact Cert.AdamModReferenceIdeal.Read.val_main_v0_eq ..
    · rw [e0, e1, e2, e3]
      exact Cert.AdamModReferenceIdeal.Read.val_main_v24_eq ..
    · rw [e0, e2]
      exact Cert.AdamModReferenceIdeal.Read.val_main_v5_eq ..
    · rw [e0, e3]
      exact Cert.AdamModReferenceIdeal.Read.val_main_v11_eq ..

end Adam.Mod

end
-- ==== Proof.AdamSmall.lean ====
/-
  The update of the seventeen small weights, packed in one array; the same lemmas as the modulation weight's at its shapes.
-/
module

public import proofs.«01_k».proof.Proof.AdamSpec
public import proofs.«01_k».proof.Defs
public import proofs.«01_k».proof.Proof.Gen.AdamSmall
public import proofs.«01_k».proof.Proof.Gen.AdamSmallIdeal.Value
public import proofs.«01_k».proof.Proof.Gen.AdamSmallReferenceIdeal.Read
public import proofs.«01_k».proof.Proof.Gen.AdamSmallReferenceIdeal.Run
public import Idealize.ShloMosaic.Adequacy
public import Idealize.ShloMosaic.Lib.IdealHost
public import Idealize.ShloMosaic.Lib.Tactic

@[expose] public section

set_option maxRecDepth 16384

noncomputable section

namespace Adam.Small

open Cert.AdamSmallIdeal Cert.AdamSmallIdeal.Gen Idealize.ShloMosaic Idealize.ShloMosaic.TcCoe Idealize.SL.Sem
open Idealize.ShloMosaic.ValueIdx Ffn Proj
open Idealize.ShloMosaic.Pipeline (Dat)

section Body
variable (x0 : Vec Ideal S1x240x1024 .f32) (x1 x2 x3 : Vec Ideal S240x1024 .f32) (p : Fin 240) (j : Fin 1024)

/-- The gradient: the one piece. -/
theorem grad_at : k0_pay1 x0 (ix2 p j) = x0 (ix3 0 p j) :=
  shapeCast_1ab_ab_apply x0 _ p j

theorem out4_at : out0_4 x0 x1 x2 x3 (ix2 p j) = x0 (ix3 0 p j) := by
  unfold out0_4
  rw [View.canon_unit_zero hz2, View.ld_unit_zero (S := S1x240x1024) hz3]
  exact grad_at x0 p j

theorem out6_at : out0_6 x0 x1 x2 x3 (ix2 p j) = newM (x2 (ix2 p j)) (x0 (ix3 0 p j)) := by
  unfold out0_6
  rw [View.canon_unit_zero hz2, View.ld_unit_zero (S := S1x240x1024) hz3, View.ld_unit_zero (S := S240x1024) hz2]
  exact congrArg (newM (x2 (ix2 p j))) (grad_at x0 p j)

theorem out7_at : out0_7 x0 x1 x2 x3 (ix2 p j) = newV (x3 (ix2 p j)) (x0 (ix3 0 p j)) := by
  unfold out0_7
  rw [View.canon_unit_zero hz2, View.ld_unit_zero (S := S1x240x1024) hz3, View.ld_unit_zero (S := S240x1024) hz2]
  exact congrArg (newV (x3 (ix2 p j))) (grad_at x0 p j)

theorem out5_at : out0_5 x0 x1 x2 x3 (ix2 p j) = delta (x1 (ix2 p j))
    (newM (x2 (ix2 p j)) (x0 (ix3 0 p j))) (newV (x3 (ix2 p j)) (x0 (ix3 0 p j))) := by
  unfold out0_5
  rw [View.canon_unit_zero hz2, View.ld_unit_zero (S := S1x240x1024) hz3, View.ld_unit_zero (S := S240x1024) hz2 _ x1,
    View.ld_unit_zero (S := S240x1024) hz2 _ x2, View.ld_unit_zero (S := S240x1024) hz2 _ x3]
  exact congrArg₂ (delta (x1 (ix2 p j))) (congrArg (newM (x2 (ix2 p j))) (grad_at x0 p j))
    (congrArg (newV (x3 (ix2 p j))) (grad_at x0 p j))
end Body

section Blocks
variable (m : (ℓ : Loc nD τ sig) → Buf (Elt Ideal) ℓ) (c : Dev nD)

/-- The gradient, the weight and its two moments. -/
abbrev ap : S1x720x1024.Idx → EReal := m ((c : Thread nD τ).loc main_arg0)
abbrev aw : Mat 720 1024 := m ((c : Thread nD τ).loc main_arg1)
abbrev am : Mat 720 1024 := m ((c : Thread nD τ).loc main_arg2)
abbrev av : Mat 720 1024 := m ((c : Thread nD τ).loc main_arg3)

/-- Row `p` of point `n`'s block. -/
def row (n : ℕ) (hn : n < cfg0.N) (p : Fin 240) : Fin 720 :=
  ⟨240 * n + p.val, by have : cfg0.N = 3 := N_0; have := p.isLt; omega⟩

theorem iblk0_at (t : Fin cfg0.N) (b : Fin 1) (p : Fin 240) (j : Fin 1024) :
    iblk m c 0 t (ix3 b p j) = ap m c (ix3 b (row t.val t.isLt p) j) := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * b.val = b.val; rw [hi.1]; omega
  | ⟨1, _⟩ => show win0_0.index t 1 * 240 + 1 * p.val = 240 * t.val + p.val; rw [hi.2.1]; omega
  | ⟨2, _⟩ => show win0_0.index t 2 * 1024 + 1 * j.val = j.val; rw [hi.2.2]; omega

theorem iblk1_at (t : Fin cfg0.N) (p : Fin 240) (j : Fin 1024) :
    iblk m c 1 t (ix2 p j) = aw m c (ix2 (row t.val t.isLt p) j) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 240 + 1 * p.val = 240 * t.val + p.val; rw [hi.1]; omega
  | ⟨1, _⟩ => show win0_1.index t 1 * 1024 + 1 * j.val = j.val; rw [hi.2]; omega

theorem iblk2_at (t : Fin cfg0.N) (p : Fin 240) (j : Fin 1024) :
    iblk m c 2 t (ix2 p j) = am m c (ix2 (row t.val t.isLt p) j) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 240 + 1 * p.val = 240 * t.val + p.val; rw [hi.1]; omega
  | ⟨1, _⟩ => show win0_2.index t 1 * 1024 + 1 * j.val = j.val; rw [hi.2]; omega

theorem iblk3_at (t : Fin cfg0.N) (p : Fin 240) (j : Fin 1024) :
    iblk m c 3 t (ix2 p j) = av m c (ix2 (row t.val t.isLt p) j) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 240 + 1 * p.val = 240 * t.val + p.val; rw [hi.1]; omega
  | ⟨1, _⟩ => show win0_3.index t 1 * 1024 + 1 * j.val = j.val; rw [hi.2]; omega

/-- The gradient at row `r`, column `f`. -/
def gr (r : Fin 720) (f : Fin 1024) : EReal := ap m c (ix3 0 r f)

theorem grad_iblk (t : Fin cfg0.N) (p : Fin 240) (j : Fin 1024) :
    iblk m c 0 t (ix3 0 p j) = gr m c (row t.val t.isLt p) j :=
  iblk0_at m c t 0 p j

/-- The four results at row `r`, column `f`: the gradient, the weight's change, the two moments. -/
def g4 (r : Fin 720) (f : Fin 1024) : EReal := gr m c r f
def g6 (r : Fin 720) (f : Fin 1024) : EReal := newM (am m c (ix2 r f)) (gr m c r f)
def g7 (r : Fin 720) (f : Fin 1024) : EReal := newV (av m c (ix2 r f)) (gr m c r f)
def g5 (r : Fin 720) (f : Fin 1024) : EReal := delta (aw m c (ix2 r f)) (g6 m c r f) (g7 m c r f)

def G4 : S720x1024.Idx → EReal := fun i => g4 m c (i 0) (i 1)

theorem point4 (t : Fin cfg0.N) (p : Fin 240) (j : Fin 1024) :
    out0_4 (iblk m c 0 t) (iblk m c 1 t) (iblk m c 2 t) (iblk m c 3 t) (ix2 p j) = g4 m c (row t.val t.isLt p) j := by
  refine (out4_at (iblk m c 0 t) (iblk m c 1 t) (iblk m c 2 t) (iblk m c 3 t) p j).trans ?_
  exact grad_iblk m c t p j

theorem index4 : ∀ t : Fin grid0.N, win0_4.index t 0 = t.val ∧ win0_4.index t 1 = 0 := by
  decide +kernel

theorem xsize4 : ∀ t : Fin grid0.N, win0_4.xsize (grid0.coords t) 0 = 240 ∧ win0_4.xsize (grid0.coords t) 1 = 1024 := by
  decide +kernel

theorem flushed4_eq (t : Fin cfg0.N) : (dats m 0 c).flushed 4 t = ((cfg0.win 4).blk t).view.read (Elt Ideal) (G4 m c) := by
  have hi := index4 t
  rw [Value.flushed4]
  funext i
  rw [View.read_apply]
  have h0 : (i 0).val < 240 := lt_of_lt_of_eq (i 0).isLt (xsize4 t).1
  have h1 : (i 1).val < 1024 := lt_of_lt_of_eq (i 1).isLt (xsize4 t).2
  refine Eq.trans (b := out0_4 (iblk m c 0 t) (iblk m c 1 t) (iblk m c 2 t) (iblk m c 3 t) (ix2 (⟨(i 0).val, h0⟩ : Fin 240) (⟨(i 1).val, h1⟩ : Fin 1024)))
    (congrArg (out0_4 (iblk m c 0 t) (iblk m c 1 t) (iblk m c 2 t) (iblk m c 3 t)) (funext fun a => Fin.ext (by match a with | ⟨0, _⟩ => rfl | ⟨1, _⟩ => rfl))) ?_
  rw [point4]
  refine congrArg₂ (g4 m c) (Fin.ext ?_) (Fin.ext ?_)
  · show 240 * t.val + (i 0).val = win0_4.index t 0 * 240 + 1 * (i 0).val; rw [hi.1]; omega
  · show (i 1).val = win0_4.index t 1 * 1024 + 1 * (i 1).val; rw [hi.2]; omega

theorem final4 : (dats m 0 c).arrAt 4 cfg0.N = G4 m c :=
  (dats m 0 c).arrAt_eq_of_cover 4 (G4 m c) (fun t _ => flushed4_eq m c t) fun i => by
    have h0 : (i 0 : Nat) < 720 := (i 0).isLt
    have h1 : (i 1 : Nat) < 1024 := (i 1).isLt
    have hN : cfg0.N = 3 := N_0
    obtain ⟨t, ht⟩ : ∃ t : Fin cfg0.N, t.val = (i 0 : Nat) / 240 :=
      ⟨⟨(i 0 : Nat) / 240, by omega⟩, rfl⟩
    refine ⟨t, flush0_4 t, ?_⟩
    obtain ⟨a0, a1⟩ := index4 t
    obtain ⟨b0, b1⟩ := xsize4 t
    show i ∈ ((View.whole main_v0_0).slice (win0_4.rect t)).set
    rw [View.set_slice_whole, Rect.mem_set_unit]
    intro a
    match a with
    | ⟨0, _⟩ => show win0_4.index t 0 * 240 ≤ (i 0 : Nat) ∧ (i 0 : Nat) < win0_4.index t 0 * 240 + win0_4.xsize (grid0.coords t) 0
                rw [a0, b0]; omega
    | ⟨1, _⟩ => show win0_4.index t 1 * 1024 ≤ (i 1 : Nat) ∧ (i 1 : Nat) < win0_4.index t 1 * 1024 + win0_4.xsize (grid0.coords t) 1
                rw [a1, b1]; omega

def G5 : S720x1024.Idx → EReal := fun i => g5 m c (i 0) (i 1)

theorem point5 (t : Fin cfg0.N) (p : Fin 240) (j : Fin 1024) :
    out0_5 (iblk m c 0 t) (iblk m c 1 t) (iblk m c 2 t) (iblk m c 3 t) (ix2 p j) = g5 m c (row t.val t.isLt p) j := by
  refine (out5_at (iblk m c 0 t) (iblk m c 1 t) (iblk m c 2 t) (iblk m c 3 t) p j).trans ?_
  exact (congrArg₂ (delta (iblk m c 1 t (ix2 p j)))
    (congrArg₂ newM (iblk2_at m c t p j) (grad_iblk m c t p j)) (congrArg₂ newV (iblk3_at m c t p j) (grad_iblk m c t p j))).trans
    (congrArg (fun w => delta w (g6 m c (row t.val t.isLt p) j) (g7 m c (row t.val t.isLt p) j)) (iblk1_at m c t p j))

theorem index5 : ∀ t : Fin grid0.N, win0_5.index t 0 = t.val ∧ win0_5.index t 1 = 0 := by
  decide +kernel

theorem xsize5 : ∀ t : Fin grid0.N, win0_5.xsize (grid0.coords t) 0 = 240 ∧ win0_5.xsize (grid0.coords t) 1 = 1024 := by
  decide +kernel

theorem flushed5_eq (t : Fin cfg0.N) : (dats m 0 c).flushed 5 t = ((cfg0.win 5).blk t).view.read (Elt Ideal) (G5 m c) := by
  have hi := index5 t
  rw [Value.flushed5]
  funext i
  rw [View.read_apply]
  have h0 : (i 0).val < 240 := lt_of_lt_of_eq (i 0).isLt (xsize5 t).1
  have h1 : (i 1).val < 1024 := lt_of_lt_of_eq (i 1).isLt (xsize5 t).2
  refine Eq.trans (b := out0_5 (iblk m c 0 t) (iblk m c 1 t) (iblk m c 2 t) (iblk m c 3 t) (ix2 (⟨(i 0).val, h0⟩ : Fin 240) (⟨(i 1).val, h1⟩ : Fin 1024)))
    (congrArg (out0_5 (iblk m c 0 t) (iblk m c 1 t) (iblk m c 2 t) (iblk m c 3 t)) (funext fun a => Fin.ext (by match a with | ⟨0, _⟩ => rfl | ⟨1, _⟩ => rfl))) ?_
  rw [point5]
  refine congrArg₂ (g5 m c) (Fin.ext ?_) (Fin.ext ?_)
  · show 240 * t.val + (i 0).val = win0_5.index t 0 * 240 + 1 * (i 0).val; rw [hi.1]; omega
  · show (i 1).val = win0_5.index t 1 * 1024 + 1 * (i 1).val; rw [hi.2]; omega

theorem final5 : (dats m 0 c).arrAt 5 cfg0.N = G5 m c :=
  (dats m 0 c).arrAt_eq_of_cover 5 (G5 m c) (fun t _ => flushed5_eq m c t) fun i => by
    have h0 : (i 0 : Nat) < 720 := (i 0).isLt
    have h1 : (i 1 : Nat) < 1024 := (i 1).isLt
    have hN : cfg0.N = 3 := N_0
    obtain ⟨t, ht⟩ : ∃ t : Fin cfg0.N, t.val = (i 0 : Nat) / 240 :=
      ⟨⟨(i 0 : Nat) / 240, by omega⟩, rfl⟩
    refine ⟨t, flush0_5 t, ?_⟩
    obtain ⟨a0, a1⟩ := index5 t
    obtain ⟨b0, b1⟩ := xsize5 t
    show i ∈ ((View.whole main_v0_1).slice (win0_5.rect t)).set
    rw [View.set_slice_whole, Rect.mem_set_unit]
    intro a
    match a with
    | ⟨0, _⟩ => show win0_5.index t 0 * 240 ≤ (i 0 : Nat) ∧ (i 0 : Nat) < win0_5.index t 0 * 240 + win0_5.xsize (grid0.coords t) 0
                rw [a0, b0]; omega
    | ⟨1, _⟩ => show win0_5.index t 1 * 1024 ≤ (i 1 : Nat) ∧ (i 1 : Nat) < win0_5.index t 1 * 1024 + win0_5.xsize (grid0.coords t) 1
                rw [a1, b1]; omega

def G6 : S720x1024.Idx → EReal := fun i => g6 m c (i 0) (i 1)

theorem point6 (t : Fin cfg0.N) (p : Fin 240) (j : Fin 1024) :
    out0_6 (iblk m c 0 t) (iblk m c 1 t) (iblk m c 2 t) (iblk m c 3 t) (ix2 p j) = g6 m c (row t.val t.isLt p) j := by
  refine (out6_at (iblk m c 0 t) (iblk m c 1 t) (iblk m c 2 t) (iblk m c 3 t) p j).trans ?_
  exact congrArg₂ newM (iblk2_at m c t p j) (grad_iblk m c t p j)

theorem index6 : ∀ t : Fin grid0.N, win0_6.index t 0 = t.val ∧ win0_6.index t 1 = 0 := by
  decide +kernel

theorem xsize6 : ∀ t : Fin grid0.N, win0_6.xsize (grid0.coords t) 0 = 240 ∧ win0_6.xsize (grid0.coords t) 1 = 1024 := by
  decide +kernel

theorem flushed6_eq (t : Fin cfg0.N) : (dats m 0 c).flushed 6 t = ((cfg0.win 6).blk t).view.read (Elt Ideal) (G6 m c) := by
  have hi := index6 t
  rw [Value.flushed6]
  funext i
  rw [View.read_apply]
  have h0 : (i 0).val < 240 := lt_of_lt_of_eq (i 0).isLt (xsize6 t).1
  have h1 : (i 1).val < 1024 := lt_of_lt_of_eq (i 1).isLt (xsize6 t).2
  refine Eq.trans (b := out0_6 (iblk m c 0 t) (iblk m c 1 t) (iblk m c 2 t) (iblk m c 3 t) (ix2 (⟨(i 0).val, h0⟩ : Fin 240) (⟨(i 1).val, h1⟩ : Fin 1024)))
    (congrArg (out0_6 (iblk m c 0 t) (iblk m c 1 t) (iblk m c 2 t) (iblk m c 3 t)) (funext fun a => Fin.ext (by match a with | ⟨0, _⟩ => rfl | ⟨1, _⟩ => rfl))) ?_
  rw [point6]
  refine congrArg₂ (g6 m c) (Fin.ext ?_) (Fin.ext ?_)
  · show 240 * t.val + (i 0).val = win0_6.index t 0 * 240 + 1 * (i 0).val; rw [hi.1]; omega
  · show (i 1).val = win0_6.index t 1 * 1024 + 1 * (i 1).val; rw [hi.2]; omega

theorem final6 : (dats m 0 c).arrAt 6 cfg0.N = G6 m c :=
  (dats m 0 c).arrAt_eq_of_cover 6 (G6 m c) (fun t _ => flushed6_eq m c t) fun i => by
    have h0 : (i 0 : Nat) < 720 := (i 0).isLt
    have h1 : (i 1 : Nat) < 1024 := (i 1).isLt
    have hN : cfg0.N = 3 := N_0
    obtain ⟨t, ht⟩ : ∃ t : Fin cfg0.N, t.val = (i 0 : Nat) / 240 :=
      ⟨⟨(i 0 : Nat) / 240, by omega⟩, rfl⟩
    refine ⟨t, flush0_6 t, ?_⟩
    obtain ⟨a0, a1⟩ := index6 t
    obtain ⟨b0, b1⟩ := xsize6 t
    show i ∈ ((View.whole main_v0_2).slice (win0_6.rect t)).set
    rw [View.set_slice_whole, Rect.mem_set_unit]
    intro a
    match a with
    | ⟨0, _⟩ => show win0_6.index t 0 * 240 ≤ (i 0 : Nat) ∧ (i 0 : Nat) < win0_6.index t 0 * 240 + win0_6.xsize (grid0.coords t) 0
                rw [a0, b0]; omega
    | ⟨1, _⟩ => show win0_6.index t 1 * 1024 ≤ (i 1 : Nat) ∧ (i 1 : Nat) < win0_6.index t 1 * 1024 + win0_6.xsize (grid0.coords t) 1
                rw [a1, b1]; omega

def G7 : S720x1024.Idx → EReal := fun i => g7 m c (i 0) (i 1)

theorem point7 (t : Fin cfg0.N) (p : Fin 240) (j : Fin 1024) :
    out0_7 (iblk m c 0 t) (iblk m c 1 t) (iblk m c 2 t) (iblk m c 3 t) (ix2 p j) = g7 m c (row t.val t.isLt p) j := by
  refine (out7_at (iblk m c 0 t) (iblk m c 1 t) (iblk m c 2 t) (iblk m c 3 t) p j).trans ?_
  exact congrArg₂ newV (iblk3_at m c t p j) (grad_iblk m c t p j)

theorem index7 : ∀ t : Fin grid0.N, win0_7.index t 0 = t.val ∧ win0_7.index t 1 = 0 := by
  decide +kernel

theorem xsize7 : ∀ t : Fin grid0.N, win0_7.xsize (grid0.coords t) 0 = 240 ∧ win0_7.xsize (grid0.coords t) 1 = 1024 := by
  decide +kernel

theorem flushed7_eq (t : Fin cfg0.N) : (dats m 0 c).flushed 7 t = ((cfg0.win 7).blk t).view.read (Elt Ideal) (G7 m c) := by
  have hi := index7 t
  rw [Value.flushed7]
  funext i
  rw [View.read_apply]
  have h0 : (i 0).val < 240 := lt_of_lt_of_eq (i 0).isLt (xsize7 t).1
  have h1 : (i 1).val < 1024 := lt_of_lt_of_eq (i 1).isLt (xsize7 t).2
  refine Eq.trans (b := out0_7 (iblk m c 0 t) (iblk m c 1 t) (iblk m c 2 t) (iblk m c 3 t) (ix2 (⟨(i 0).val, h0⟩ : Fin 240) (⟨(i 1).val, h1⟩ : Fin 1024)))
    (congrArg (out0_7 (iblk m c 0 t) (iblk m c 1 t) (iblk m c 2 t) (iblk m c 3 t)) (funext fun a => Fin.ext (by match a with | ⟨0, _⟩ => rfl | ⟨1, _⟩ => rfl))) ?_
  rw [point7]
  refine congrArg₂ (g7 m c) (Fin.ext ?_) (Fin.ext ?_)
  · show 240 * t.val + (i 0).val = win0_7.index t 0 * 240 + 1 * (i 0).val; rw [hi.1]; omega
  · show (i 1).val = win0_7.index t 1 * 1024 + 1 * (i 1).val; rw [hi.2]; omega

theorem final7 : (dats m 0 c).arrAt 7 cfg0.N = G7 m c :=
  (dats m 0 c).arrAt_eq_of_cover 7 (G7 m c) (fun t _ => flushed7_eq m c t) fun i => by
    have h0 : (i 0 : Nat) < 720 := (i 0).isLt
    have h1 : (i 1 : Nat) < 1024 := (i 1).isLt
    have hN : cfg0.N = 3 := N_0
    obtain ⟨t, ht⟩ : ∃ t : Fin cfg0.N, t.val = (i 0 : Nat) / 240 :=
      ⟨⟨(i 0 : Nat) / 240, by omega⟩, rfl⟩
    refine ⟨t, flush0_7 t, ?_⟩
    obtain ⟨a0, a1⟩ := index7 t
    obtain ⟨b0, b1⟩ := xsize7 t
    show i ∈ ((View.whole main_v0_3).slice (win0_7.rect t)).set
    rw [View.set_slice_whole, Rect.mem_set_unit]
    intro a
    match a with
    | ⟨0, _⟩ => show win0_7.index t 0 * 240 ≤ (i 0 : Nat) ∧ (i 0 : Nat) < win0_7.index t 0 * 240 + win0_7.xsize (grid0.coords t) 0
                rw [a0, b0]; omega
    | ⟨1, _⟩ => show win0_7.index t 1 * 1024 ≤ (i 1 : Nat) ∧ (i 1 : Nat) < win0_7.index t 1 * 1024 + win0_7.xsize (grid0.coords t) 1
                rw [a1, b1]; omega

end Blocks

section Reference
open Cert.AdamSmallReferenceIdeal.Read

variable (p : S1x720x1024.Idx → EReal) (w m v : Mat 720 1024)

theorem ref_g (r : Fin 720) (f : Fin 1024) : val_main_v0 (F := Ideal) p (ix2 r f) = p (ix3 0 r f) := by
  rw [val_main_v0_apply, val_main_cst_apply]
  refine (congrArg (· + _) Ideal.ofBits_zero_f32).trans ((zero_add _).trans ((Fin.sum_univ_one _).trans ?_))
  exact congrArg p (eq_ix3 _)

theorem ref_m (i : S720x1024.Idx) : val_main_v5 (F := Ideal) p m i = newM (m i) (val_main_v0 (F := Ideal) p i) := by
  unfold val_main_v5 val_main_v4 val_main_v2
  rfl

theorem ref_v (i : S720x1024.Idx) : val_main_v11 (F := Ideal) p v i = newV (v i) (val_main_v0 (F := Ideal) p i) := by
  unfold val_main_v11 val_main_v10 val_main_v8 val_main_v7
  rfl

theorem ref_d (i : S720x1024.Idx) : val_main_v24 (F := Ideal) p w m v i
    = delta (w i) (val_main_v5 (F := Ideal) p m i) (val_main_v11 (F := Ideal) p v i) := by
  unfold val_main_v24 val_main_v22 val_main_v21 val_main_v19 val_main_v18 val_main_v16 val_main_v15 val_main_v13
  rfl
end Reference

section Both
open Cert.AdamSmallReferenceIdeal.Read
variable (m : (ℓ : Loc nD τ sig) → Buf (Elt Ideal) ℓ) (c : Dev nD)

theorem ref4 : val_main_v0 (F := Ideal) (ap m c) = G4 m c := by
  funext i
  obtain ⟨r, f, rfl⟩ : ∃ (r : Fin 720) (f : Fin 1024), i = ix2 r f := ⟨i 0, i 1, eq_ix2 i⟩
  exact ref_g (ap m c) r f

theorem ref6 : val_main_v5 (F := Ideal) (ap m c) (am m c) = G6 m c := by
  funext i
  obtain ⟨r, f, rfl⟩ : ∃ (r : Fin 720) (f : Fin 1024), i = ix2 r f := ⟨i 0, i 1, eq_ix2 i⟩
  exact (ref_m (ap m c) (am m c) _).trans (congrArg (newM _) (ref_g (ap m c) r f))

theorem ref7 : val_main_v11 (F := Ideal) (ap m c) (av m c) = G7 m c := by
  funext i
  obtain ⟨r, f, rfl⟩ : ∃ (r : Fin 720) (f : Fin 1024), i = ix2 r f := ⟨i 0, i 1, eq_ix2 i⟩
  exact (ref_v (ap m c) (av m c) _).trans (congrArg (newV _) (ref_g (ap m c) r f))

theorem ref5 : val_main_v24 (F := Ideal) (ap m c) (aw m c) (am m c) (av m c) = G5 m c := by
  funext i
  refine (ref_d (ap m c) (aw m c) (am m c) (av m c) i).trans ?_
  rw [ref6, ref7]
  obtain ⟨r, f, rfl⟩ : ∃ (r : Fin 720) (f : Fin 1024), i = ix2 r f := ⟨i 0, i 1, eq_ix2 i⟩
  rfl
end Both

attribute [local instance] Cert.AdamSmall.Gen.facts Cert.AdamSmallIdeal.Gen.facts Cert.AdamSmallReferenceIdeal.Gen.facts

theorem algebraic : Cert.algebraic_AdamSmallIdeal_AdamSmallReferenceIdeal := by
  intro m g m' g' _ harg
  refine ⟨fun c => G4 m c, fun c => G5 m c, fun c => G6 m c, fun c => G7 m c, ?_, ?_⟩
  · refine (θ_run _ _ _).mono (fun r h c => ?_) (Cert.AdamSmallIdeal.Value.run_blocks m g)
    obtain ⟨h0, h1, h2, h3, ha⟩ := h c
    exact ⟨h0.trans (final4 m c), h1.trans (final5 m c), h2.trans (final6 m c), h3.trans (final7 m c), ha⟩
  · refine (θ_run _ _ _).mono (fun r h c => ?_) (Cert.AdamSmallReferenceIdeal.Value.run (F := Ideal) m' g')
    obtain ⟨h0, h1, h2, h3, ha⟩ := h c
    obtain ⟨e0, e1, e2, e3⟩ := harg c
    refine ⟨(h0.trans ?_).trans (ref4 m c), (h1.trans ?_).trans (ref5 m c), (h2.trans ?_).trans (ref6 m c),
      (h3.trans ?_).trans (ref7 m c), ha⟩
    · rw [e0]
      exact Cert.AdamSmallReferenceIdeal.Read.val_main_v0_eq ..
    · rw [e0, e1, e2, e3]
      exact Cert.AdamSmallReferenceIdeal.Read.val_main_v24_eq ..
    · rw [e0, e2]
      exact Cert.AdamSmallReferenceIdeal.Read.val_main_v5_eq ..
    · rw [e0, e3]
      exact Cert.AdamSmallReferenceIdeal.Read.val_main_v11_eq ..

end Adam.Small

end
-- ==== Proof.FfnKernel.lean ====
/-
  The SwiGLU gradient kernel over the extended reals: what each grid point leaves in its four output blocks, as the
  plain functions of `FfnSpec` at the rows and columns of that point, and the running sum of the input's gradient
  over the eight hidden blocks of one row block.
-/
module

public import proofs.«01_k».proof.Proof.FfnSpec
public import proofs.«01_k».proof.Proof.Gen.KernelIdeal.Value
public import Idealize.ShloMosaic.Lib.IdealHost
public import Idealize.ShloMosaic.Lib.Tactic

@[expose] public section

set_option maxRecDepth 16384

noncomputable section

namespace Ffn.Kernel

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's terms -/

section Terms
variable (x0 : Vec Ideal S528x2048 .bf16) (x1 x2 : Vec Ideal S1x528x704 .bf16) (x3 x4 : Vec Ideal S1x2048x704 .bf16)
  (x5 : Vec Ideal S1x704x2048 .bf16)

theorem pay4_at (v : Vec Ideal S1x528x704 .bf16) (p : Fin 528) (j : Fin 704) :
    k0_pay4 v (ix2 p j) = v (ix3 (0 : Fin 1) p j) :=
  shapeCast_1ab_ab_apply v shapeCasts_S1x528x704_S528x704 p j

/-- The activation's gradient at a point: a row of `dy` against a row of the block of `w_down`. -/
theorem pay6_at (p : Fin 528) (j : Fin 704) :
    k0_pay6 x0 x5 (ix2 p j) = ∑ k : Fin 2048, x0 (ix2 p k) * x5 (ix3 (0 : Fin 1) j k) := by
  refine (Ideal.matmul_transposedRhs_apply (M := 528) (K := 2048) (N := 704) none x0
    (shapeCast S704x2048 x5 shapeCasts_S1x704x2048_S704x2048) _ p j).trans ?_
  rw [constant_apply, Ideal.ofBits_zero_f32, zero_add]
  exact Finset.sum_congr rfl fun k _ => congrArg (x0 (ix2 p k) * ·) (shapeCast_1ab_ab_apply x5 _ j k)

theorem pay9_at (p : Fin 528) (j : Fin 704) :
    k0_pay9 x1 x0 x5 (ix2 p j)
      = dup (x1 (ix3 (0 : Fin 1) p j)) (∑ k : Fin 2048, x0 (ix2 p k) * x5 (ix3 (0 : Fin 1) j k)) := by
  rw [← pay4_at x1 p j, ← pay6_at x0 x5 p j]
  rfl

theorem pay10_at (p : Fin 528) (j : Fin 704) :
    k0_pay10 x1 x2 x0 x5 (ix2 p j)
      = dgate (x1 (ix3 (0 : Fin 1) p j)) (x2 (ix3 (0 : Fin 1) p j))
          (∑ k : Fin 2048, x0 (ix2 p k) * x5 (ix3 (0 : Fin 1) j k)) := by
  rw [← pay4_at x1 p j, ← pay4_at x2 p j, ← pay6_at x0 x5 p j]
  unfold k0_pay10 dgate dsilu
  simp only [mulf_apply, addf_apply, subf_apply, broadcast_apply, Scalar.ofBits, Ideal.ofBits_def, Ideal.ofBits_one_f32]
  rfl

theorem pay13_at (p : Fin 528) (j : Fin 704) :
    k0_pay13 x1 x2 (ix2 p j) = act (x1 (ix3 (0 : Fin 1) p j)) (x2 (ix3 (0 : Fin 1) p j)) := by
  rw [← pay4_at x1 p j, ← pay4_at x2 p j]
  rfl

/-- The block's share of the input's gradient. -/
theorem pay2_at (u g : FVec Ideal S528x704 .f32) (p : Fin 528) (d : Fin 2048) :
    k0_pay2 u g x3 x4 (ix2 p d)
      = (∑ j : Fin 704, g (ix2 p j) * x3 (ix3 (0 : Fin 1) d j)) + ∑ j : Fin 704, u (ix2 p j) * x4 (ix3 (0 : Fin 1) d j) := by
  refine congrArg₂ (· + ·) ?_ ?_
  · refine (Ideal.matmul_transposedRhs_apply (M := 528) (K := 704) (N := 2048) none (truncf .bf16 g bitsLt_bf16_f32 : FVec Ideal S528x704 .bf16)
      (shapeCast S2048x704 x3 shapeCasts_S1x2048x704_S2048x704) _ p d).trans ?_
    rw [constant_apply, Ideal.ofBits_zero_f32, zero_add]
    exact Finset.sum_congr rfl fun k _ => congrArg (g (ix2 p k) * ·) (shapeCast_1ab_ab_apply x3 _ d k)
  · refine (Ideal.matmul_transposedRhs_apply (M := 528) (K := 704) (N := 2048) none (truncf .bf16 u bitsLt_bf16_f32 : FVec Ideal S528x704 .bf16)
      (shapeCast S2048x704 x4 shapeCasts_S1x2048x704_S2048x704) _ p d).trans ?_
    rw [constant_apply, Ideal.ofBits_zero_f32, zero_add]
    exact Finset.sum_congr rfl fun k _ => congrArg (u (ix2 p k) * ·) (shapeCast_1ab_ab_apply x4 _ d k)
end Terms

/-! ## What each case of the body leaves -/

section Cases
variable (c : Dev nD) (i : grid0.Coords)
  (a2 : Memref sig .tc .vmem S528x2048 .bf16) (h2 : a2.IsWhole) (a3 : Memref sig .tc .vmem S1x528x704 .bf16) (h3 : a3.IsWhole)
  (a4 : Memref sig .tc .vmem S1x528x704 .bf16) (h4 : a4.IsWhole) (a5 : Memref sig .tc .vmem S1x2048x704 .bf16) (h5 : a5.IsWhole)
  (a6 : Memref sig .tc .vmem S1x2048x704 .bf16) (h6 : a6.IsWhole) (a7 : Memref sig .tc .vmem S1x704x2048 .bf16) (h7 : a7.IsWhole)
  (a8 : Memref sig .tc .vmem S528x2048 .f32) (h8 : a8.IsWhole) (a9 : Memref sig .tc .vmem S1x528x704 .bf16) (h9 : a9.IsWhole)
  (a10 : Memref sig .tc .vmem S1x528x704 .bf16) (h10 : a10.IsWhole) (a11 : Memref sig .tc .vmem S1x528x704 .bf16) (h11 : a11.IsWhole)
  (x0 : Vec Ideal S528x2048 .bf16) (x1 x2 : Vec Ideal S1x528x704 .bf16) (x3 x4 : Vec Ideal S1x2048x704 .bf16)
  (x5 : Vec Ideal S1x704x2048 .bf16) (acc : Vec Ideal S528x2048 .f32)

theorem out_A_6 (hc : cond0_0 i) (hd : ¬cond0_1 i) :
    out0_A_6 c i a2 h2 a3 h3 a4 h4 a5 h5 a6 h6 a7 h7 a8 h8 a9 h9 a10 h10 a11 h11 hc hd x0 x1 x2 x3 x4 x5
      = k0_pay2 (k0_pay9 x1 x0 x5) (k0_pay10 x1 x2 x0 x5) x3 x4 := by
  unfold out0_A_6
  rw [View.read_writes_eq_canon _ _ _ (cover0_A_6 c i a2 h2 a3 h3 a4 h4 a5 h5 a6 h6 a7 h7 a8 h8 a9 h9 a10 h10 a11 h11 hc hd x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread,
    View.ld_unit_zero (S := S528x2048) hz2, View.ld_unit_zero (S := S1x528x704) hz3, View.ld_unit_zero (S := S1x2048x704) hz3,
    View.ld_unit_zero (S := S1x704x2048) hz3]

theorem out_B_6 (hc : ¬cond0_0 i) (hd : cond0_1 i) :
    out0_B_6 c i a2 h2 a3 h3 a4 h4 a5 h5 a6 h6 a7 h7 a8 h8 a9 h9 a10 h10 a11 h11 hc hd x0 x1 x2 x3 x4 x5 acc
      = addf acc (k0_pay2 (k0_pay9 x1 x0 x5) (k0_pay10 x1 x2 x0 x5) x3 x4) := by
  unfold out0_B_6
  rw [View.read_writes_eq_canon _ _ _ (cover0_B_6 c i a2 h2 a3 h3 a4 h4 a5 h5 a6 h6 a7 h7 a8 h8 a9 h9 a10 h10 a11 h11 hc hd x0 x1 x2 x3 x4 x5 acc)]
  unfold kernelRun0_B
  dsimp only
  sl_unfold_words
  rw [View.canon_unit_zero hz2]
  unfold k0_pay3
  simp only [View.readAt_eq_ld, h2.read_unread, h3.read_unread, h4.read_unread, h5.read_unread, h6.read_unread, h7.read_unread, h8.read_unread,
    View.ld_unit_zero (S := S528x2048) hz2, View.ld_unit_zero (S := S1x528x704) hz3, View.ld_unit_zero (S := S1x2048x704) hz3,
    View.ld_unit_zero (S := S1x704x2048) hz3, shapeCast_self]
theorem out_A_7 (hc : cond0_0 i) (hd : ¬cond0_1 i) :
    out0_A_7 c i a2 h2 a3 h3 a4 h4 a5 h5 a6 h6 a7 h7 a8 h8 a9 h9 a10 h10 a11 h11 hc hd x0 x1 x2 x3 x4 x5
      = k0_pay11 x1 x2 x0 x5 := by
  unfold out0_A_7
  rw [View.read_writes_eq_canon _ _ _ (cover0_A_7 c i a2 h2 a3 h3 a4 h4 a5 h5 a6 h6 a7 h7 a8 h8 a9 h9 a10 h10 a11 h11 hc hd x0 x1 x2 x3 x4 x5)]
  unfold kernelRun0_A
  dsimp only
  sl_unfold_words
  rw [View.canon_unit_zero hz3]
  simp only [View.readAt_eq_ld, h2.read_unread, h3.read_unread, h4.read_unread, h7.read_unread, View.ld_unit_zero (S := S528x2048) hz2,
    View.ld_unit_zero (S := S1x528x704) hz3, View.ld_unit_zero (S := S1x704x2048) hz3]

theorem out_A_8 (hc : cond0_0 i) (hd : ¬cond0_1 i) :
    out0_A_8 c i a2 h2 a3 h3 a4 h4 a5 h5 a6 h6 a7 h7 a8 h8 a9 h9 a10 h10 a11 h11 hc hd x0 x1 x2 x3 x4 x5
      = k0_pay12 x1 x0 x5 := by
  unfold out0_A_8
  rw [View.read_writes_eq_canon _ _ _ (cover0_A_8 c i a2 h2 a3 h3 a4 h4 a5 h5 a6 h6 a7 h7 a8 h8 a9 h9 a10 h10 a11 h11 hc hd x0 x1 x2 x3 x4 x5)]
  unfold kernelRun0_A
  dsimp only
  sl_unfold_words
  rw [View.canon_unit_zero hz3]
  simp only [View.readAt_eq_ld, h2.read_unread, h3.read_unread, h4.read_unread, h7.read_unread, View.ld_unit_zero (S := S528x2048) hz2,
    View.ld_unit_zero (S := S1x528x704) hz3, View.ld_unit_zero (S := S1x704x2048) hz3]

theorem out_A_9 (hc : cond0_0 i) (hd : ¬cond0_1 i) :
    out0_A_9 c i a2 h2 a3 h3 a4 h4 a5 h5 a6 h6 a7 h7 a8 h8 a9 h9 a10 h10 a11 h11 hc hd x0 x1 x2 x3 x4 x5
      = k0_pay1 (k0_pay13 x1 x2) := by
  unfold out0_A_9
  rw [View.read_writes_eq_canon _ _ _ (cover0_A_9 c i a2 h2 a3 h3 a4 h4 a5 h5 a6 h6 a7 h7 a8 h8 a9 h9 a10 h10 a11 h11 hc hd x0 x1 x2 x3 x4 x5)]
  unfold kernelRun0_A
  dsimp only
  sl_unfold_words
  rw [View.canon_unit_zero hz3]
  simp only [View.readAt_eq_ld, h2.read_unread, h3.read_unread, h4.read_unread, h7.read_unread, View.ld_unit_zero (S := S528x2048) hz2,
    View.ld_unit_zero (S := S1x528x704) hz3, View.ld_unit_zero (S := S1x704x2048) hz3]

theorem out_B_7 (hc : ¬cond0_0 i) (hd : cond0_1 i) :
    out0_B_7 c i a2 h2 a3 h3 a4 h4 a5 h5 a6 h6 a7 h7 a8 h8 a9 h9 a10 h10 a11 h11 hc hd x0 x1 x2 x3 x4 x5 acc
      = k0_pay11 x1 x2 x0 x5 := by
  unfold out0_B_7
  rw [View.read_writes_eq_canon _ _ _ (cover0_B_7 c i a2 h2 a3 h3 a4 h4 a5 h5 a6 h6 a7 h7 a8 h8 a9 h9 a10 h10 a11 h11 hc hd x0 x1 x2 x3 x4 x5 acc)]
  unfold kernelRun0_B
  dsimp only
  sl_unfold_words
  rw [View.canon_unit_zero hz3]
  simp only [View.readAt_eq_ld, h2.read_unread, h3.read_unread, h4.read_unread, h7.read_unread, View.ld_unit_zero (S := S528x2048) hz2,
    View.ld_unit_zero (S := S1x528x704) hz3, View.ld_unit_zero (S := S1x704x2048) hz3]

theorem out_B_8 (hc : ¬cond0_0 i) (hd : cond0_1 i) :
    out0_B_8 c i a2 h2 a3 h3 a4 h4 a5 h5 a6 h6 a7 h7 a8 h8 a9 h9 a10 h10 a11 h11 hc hd x0 x1 x2 x3 x4 x5 acc
      = k0_pay12 x1 x0 x5 := by
  unfold out0_B_8
  rw [View.read_writes_eq_canon _ _ _ (cover0_B_8 c i a2 h2 a3 h3 a4 h4 a5 h5 a6 h6 a7 h7 a8 h8 a9 h9 a10 h10 a11 h11 hc hd x0 x1 x2 x3 x4 x5 acc)]
  unfold kernelRun0_B
  dsimp only
  sl_unfold_words
  rw [View.canon_unit_zero hz3]
  simp only [View.readAt_eq_ld, h2.read_unread, h3.read_unread, h4.read_unread, h7.read_unread, View.ld_unit_zero (S := S528x2048) hz2,
    View.ld_unit_zero (S := S1x528x704) hz3, View.ld_unit_zero (S := S1x704x2048) hz3]

theorem out_B_9 (hc : ¬cond0_0 i) (hd : cond0_1 i) :
    out0_B_9 c i a2 h2 a3 h3 a4 h4 a5 h5 a6 h6 a7 h7 a8 h8 a9 h9 a10 h10 a11 h11 hc hd x0 x1 x2 x3 x4 x5 acc
      = k0_pay1 (k0_pay13 x1 x2) := by
  unfold out0_B_9
  rw [View.read_writes_eq_canon _ _ _ (cover0_B_9 c i a2 h2 a3 h3 a4 h4 a5 h5 a6 h6 a7 h7 a8 h8 a9 h9 a10 h10 a11 h11 hc hd x0 x1 x2 x3 x4 x5 acc)]
  unfold kernelRun0_B
  dsimp only
  sl_unfold_words
  rw [View.canon_unit_zero hz3]
  simp only [View.readAt_eq_ld, h2.read_unread, h3.read_unread, h4.read_unread, h7.read_unread, View.ld_unit_zero (S := S528x2048) hz2,
    View.ld_unit_zero (S := S1x528x704) hz3, View.ld_unit_zero (S := S1x704x2048) hz3]
end Cases

/-! ## The input blocks at a point -/

section Blocks
variable (m : (ℓ : Loc nD τ sig) → Buf (Elt Ideal) ℓ) (c : Dev nD)

/-- The five arguments. -/
abbrev ah : Mat 8448 2048 := m ((c : Thread nD τ).loc main_arg0)
abbrev awg : Mat 2048 5632 := m ((c : Thread nD τ).loc main_arg1)
abbrev awu : Mat 2048 5632 := m ((c : Thread nD τ).loc main_arg2)
abbrev awd : Mat 5632 2048 := m ((c : Thread nD τ).loc main_arg3)
abbrev ady : Mat 8448 2048 := m ((c : Thread nD τ).loc main_arg4)

/-- Row `p` of point `n`'s row block. -/
def row (n : ℕ) (hn : n < cfg0.N) (p : Fin 528) : Fin 8448 :=
  ⟨528 * (n / 8) + p.val, by have : cfg0.N = 128 := N_0; have := p.isLt; omega⟩
/-- Point `n`'s block of hidden columns. -/
def blkNo (n : ℕ) : Fin 8 := ⟨n % 8, Nat.mod_lt _ (by decide)⟩

theorem V5_at (b : Fin 8) (r : Fin 8448) (j : Fin 704) : V m c main_v5 (ix3 b r j) = mm (ah m c) (awg m c) r (col b j) := by
  have e : V m c main_v5 = (truncf (F := Ideal) .bf16 (transpose S8x8448x704 [1, 0, 2] (shapeCast S8448x8x704
      (Host.dotGeneral dot_S8448x2048_S2048x5632_S8448x5632_1_0_0_1_n_n none
        (extf .f32 (m ((c : Thread nD τ).loc main_arg0)) bitsLt_bf16_f32) (extf .f32 (m ((c : Thread nD τ).loc main_arg1)) bitsLt_bf16_f32))
      shapeCasts_S8448x5632_S8448x8x704) transposes_S8448x8x704_S8x8448x704_1_0_2) bitsLt_bf16_f32 : FVec Ideal S8x8448x704 .bf16) := by
    unfold V
    after_results
    all_goals rfl
  rw [e]
  exact (split_apply _ shapeCasts_S8448x5632_S8448x8x704 transposes_S8448x8x704_S8x8448x704_1_0_2 b r j).trans
    (hostprod (φ := .f32) (ah m c) (awg m c) r (col b j))

theorem V11_at (b : Fin 8) (r : Fin 8448) (j : Fin 704) : V m c main_v11 (ix3 b r j) = mm (ah m c) (awu m c) r (col b j) := by
  have e : V m c main_v11 = (truncf (F := Ideal) .bf16 (transpose S8x8448x704 [1, 0, 2] (shapeCast S8448x8x704
      (Host.dotGeneral dot_S8448x2048_S2048x5632_S8448x5632_1_0_0_1_n_n none
        (extf .f32 (m ((c : Thread nD τ).loc main_arg0)) bitsLt_bf16_f32) (extf .f32 (m ((c : Thread nD τ).loc main_arg2)) bitsLt_bf16_f32))
      shapeCasts_S8448x5632_S8448x8x704) transposes_S8448x8x704_S8x8448x704_1_0_2) bitsLt_bf16_f32 : FVec Ideal S8x8448x704 .bf16) := by
    unfold V
    after_results
    all_goals rfl
  rw [e]
  exact (split_apply _ shapeCasts_S8448x5632_S8448x8x704 transposes_S8448x8x704_S8x8448x704_1_0_2 b r j).trans
    (hostprod (φ := .f32) (ah m c) (awu m c) r (col b j))

theorem V13_at (b : Fin 8) (r : Fin 2048) (j : Fin 704) : V m c main_v13 (ix3 b r j) = awg m c (ix2 r (col b j)) := by
  have e : V m c main_v13 = (transpose S8x2048x704 [1, 0, 2] (shapeCast S2048x8x704 (awg m c)
      shapeCasts_S2048x5632_S2048x8x704) transposes_S2048x8x704_S8x2048x704_1_0_2 : S8x2048x704.Idx → EReal) := by
    unfold V
    after_results
    all_goals rfl
  rw [e]
  exact split_apply _ shapeCasts_S2048x5632_S2048x8x704 transposes_S2048x8x704_S8x2048x704_1_0_2 b r j

theorem V15_at (b : Fin 8) (r : Fin 2048) (j : Fin 704) : V m c main_v15 (ix3 b r j) = awu m c (ix2 r (col b j)) := by
  have e : V m c main_v15 = (transpose S8x2048x704 [1, 0, 2] (shapeCast S2048x8x704 (awu m c)
      shapeCasts_S2048x5632_S2048x8x704) transposes_S2048x8x704_S8x2048x704_1_0_2 : S8x2048x704.Idx → EReal) := by
    unfold V
    after_results
    all_goals rfl
  rw [e]
  exact split_apply _ shapeCasts_S2048x5632_S2048x8x704 transposes_S2048x8x704_S8x2048x704_1_0_2 b r j

theorem V16_at (b : Fin 8) (j : Fin 704) (r : Fin 2048) : V m c main_v16 (ix3 b j r) = awd m c (ix2 (col b j) r) := by
  have e : V m c main_v16 = (shapeCast S8x704x2048 (awd m c) shapeCasts_S5632x2048_S8x704x2048 : S8x704x2048.Idx → EReal) := by
    unfold V
    after_results
    all_goals rfl
  rw [e]
  exact split_rows_apply _ shapeCasts_S5632x2048_S8x704x2048 b j r

theorem iblk0_at (t : Fin cfg0.N) (p : Fin 528) (k : Fin 2048) :
    iblk m c 0 t (ix2 p k) = ady m c (ix2 (row t.val t.isLt p) k) := by
  have hi : win0_0.index t 0 = t.val / 8 ∧ win0_0.index t 1 = 0 :=
    (by decide +kernel : ∀ t : Fin grid0.N, win0_0.index t 0 = t.val / 8 ∧ win0_0.index t 1 = 0) t
  unfold iblk
  rw [View.read_apply]
  show V m c main_arg4 _ = _
  rw [V_main_arg4]
  refine congrArg (m ((c : Thread nD τ).loc main_arg4)) (funext fun a => Fin.ext ?_)
  match a with
  | ⟨0, _⟩ => show win0_0.index t 0 * 528 + 1 * p.val = 528 * (t.val / 8) + p.val; rw [hi.1]; omega
  | ⟨1, _⟩ => show win0_0.index t 1 * 2048 + 1 * k.val = k.val; rw [hi.2]; omega

theorem iblk1_at (t : Fin cfg0.N) (u : Fin 1) (p : Fin 528) (j : Fin 704) :
    iblk m c 1 t (ix3 u p j) = mm (ah m c) (awg m c) (row t.val t.isLt p) (col (blkNo t.val) j) := by
  have hi : win0_1.index t 0 = t.val % 8 ∧ win0_1.index t 1 = t.val / 8 ∧ win0_1.index t 2 = 0 :=
    (by decide +kernel : ∀ t : Fin grid0.N, win0_1.index t 0 = t.val % 8 ∧ win0_1.index t 1 = t.val / 8 ∧ win0_1.index t 2 = 0) t
  rw [← V5_at]
  unfold iblk
  rw [View.read_apply]
  show V m c main_v5 _ = _
  refine congrArg (V m c main_v5) (funext fun a => Fin.ext ?_)
  match a with
  | ⟨0, _⟩ => show win0_1.index t 0 * 1 + 1 * u.val = t.val % 8; rw [hi.1]; omega
  | ⟨1, _⟩ => show win0_1.index t 1 * 528 + 1 * p.val = 528 * (t.val / 8) + p.val; rw [hi.2.1]; omega
  | ⟨2, _⟩ => show win0_1.index t 2 * 704 + 1 * j.val = j.val; rw [hi.2.2]; omega

theorem iblk2_at (t : Fin cfg0.N) (u : Fin 1) (p : Fin 528) (j : Fin 704) :
    iblk m c 2 t (ix3 u p j) = mm (ah m c) (awu m c) (row t.val t.isLt p) (col (blkNo t.val) j) := by
  have hi : win0_2.index t 0 = t.val % 8 ∧ win0_2.index t 1 = t.val / 8 ∧ win0_2.index t 2 = 0 :=
    (by decide +kernel : ∀ t : Fin grid0.N, win0_2.index t 0 = t.val % 8 ∧ win0_2.index t 1 = t.val / 8 ∧ win0_2.index t 2 = 0) t
  rw [← V11_at]
  unfold iblk
  rw [View.read_apply]
  show V m c main_v11 _ = _
  refine congrArg (V m c main_v11) (funext fun a => Fin.ext ?_)
  match a with
  | ⟨0, _⟩ => show win0_2.index t 0 * 1 + 1 * u.val = t.val % 8; rw [hi.1]; omega
  | ⟨1, _⟩ => show win0_2.index t 1 * 528 + 1 * p.val = 528 * (t.val / 8) + p.val; rw [hi.2.1]; omega
  | ⟨2, _⟩ => show win0_2.index t 2 * 704 + 1 * j.val = j.val; rw [hi.2.2]; omega

theorem iblk3_at (t : Fin cfg0.N) (u : Fin 1) (d : Fin 2048) (j : Fin 704) :
    iblk m c 3 t (ix3 u d j) = awg m c (ix2 d (col (blkNo t.val) j)) := by
  have hi : win0_3.index t 0 = t.val % 8 ∧ win0_3.index t 1 = 0 ∧ win0_3.index t 2 = 0 :=
    (by decide +kernel : ∀ t : Fin grid0.N, win0_3.index t 0 = t.val % 8 ∧ win0_3.index t 1 = 0 ∧ win0_3.index t 2 = 0) t
  rw [← V13_at]
  unfold iblk
  rw [View.read_apply]
  show V m c main_v13 _ = _
  refine congrArg (V m c main_v13) (funext fun a => Fin.ext ?_)
  match a with
  | ⟨0, _⟩ => show win0_3.index t 0 * 1 + 1 * u.val = t.val % 8; rw [hi.1]; omega
  | ⟨1, _⟩ => show win0_3.index t 1 * 2048 + 1 * d.val = d.val; rw [hi.2.1]; omega
  | ⟨2, _⟩ => show win0_3.index t 2 * 704 + 1 * j.val = j.val; rw [hi.2.2]; omega

theorem iblk4_at (t : Fin cfg0.N) (u : Fin 1) (d : Fin 2048) (j : Fin 704) :
    iblk m c 4 t (ix3 u d j) = awu m c (ix2 d (col (blkNo t.val) j)) := by
  have hi : win0_4.index t 0 = t.val % 8 ∧ win0_4.index t 1 = 0 ∧ win0_4.index t 2 = 0 :=
    (by decide +kernel : ∀ t : Fin grid0.N, win0_4.index t 0 = t.val % 8 ∧ win0_4.index t 1 = 0 ∧ win0_4.index t 2 = 0) t
  rw [← V15_at]
  unfold iblk
  rw [View.read_apply]
  show V m c main_v15 _ = _
  refine congrArg (V m c main_v15) (funext fun a => Fin.ext ?_)
  match a with
  | ⟨0, _⟩ => show win0_4.index t 0 * 1 + 1 * u.val = t.val % 8; rw [hi.1]; omega
  | ⟨1, _⟩ => show win0_4.index t 1 * 2048 + 1 * d.val = d.val; rw [hi.2.1]; omega
  | ⟨2, _⟩ => show win0_4.index t 2 * 704 + 1 * j.val = j.val; rw [hi.2.2]; omega

theorem iblk5_at (t : Fin cfg0.N) (u : Fin 1) (d : Fin 704) (j : Fin 2048) :
    iblk m c 5 t (ix3 u d j) = awd m c (ix2 (col (blkNo t.val) d) j) := by
  have hi : win0_5.index t 0 = t.val % 8 ∧ win0_5.index t 1 = 0 ∧ win0_5.index t 2 = 0 :=
    (by decide +kernel : ∀ t : Fin grid0.N, win0_5.index t 0 = t.val % 8 ∧ win0_5.index t 1 = 0 ∧ win0_5.index t 2 = 0) t
  rw [← V16_at]
  unfold iblk
  rw [View.read_apply]
  show V m c main_v16 _ = _
  refine congrArg (V m c main_v16) (funext fun a => Fin.ext ?_)
  match a with
  | ⟨0, _⟩ => show win0_5.index t 0 * 1 + 1 * u.val = t.val % 8; rw [hi.1]; omega
  | ⟨1, _⟩ => show win0_5.index t 1 * 704 + 1 * d.val = d.val; rw [hi.2.1]; omega
  | ⟨2, _⟩ => show win0_5.index t 2 * 2048 + 1 * j.val = j.val; rw [hi.2.2]; omega

/-! ## What a point leaves -/

/-- The activation's gradient at a point. -/
theorem da_at (t : Fin cfg0.N) (p : Fin 528) (j : Fin 704) :
    (∑ k : Fin 2048, HMul.hMul (α := EReal) (β := EReal) (γ := EReal) (iblk m c 0 t (ix2 p k)) (iblk m c 5 t (ix3 (0 : Fin 1) j k)))
      = mmT (ady m c) (awd m c) (row t.val t.isLt p) (col (blkNo t.val) j) :=
  Finset.sum_congr rfl fun k _ => congrArg₂ (HMul.hMul (α := EReal) (β := EReal) (γ := EReal)) (iblk0_at m c t p k) (iblk5_at m c t 0 j k)

theorem du_at (t : Fin cfg0.N) (p : Fin 528) (j : Fin 704) :
    k0_pay9 (iblk m c 1 t) (iblk m c 0 t) (iblk m c 5 t) (ix2 p j)
      = DU (ah m c) (awg m c) (awd m c) (ady m c) (row t.val t.isLt p) (col (blkNo t.val) j) := by
  rw [pay9_at]
  exact congrArg₂ dup (iblk1_at m c t 0 p j) (da_at m c t p j)

theorem dg_at (t : Fin cfg0.N) (p : Fin 528) (j : Fin 704) :
    k0_pay10 (iblk m c 1 t) (iblk m c 2 t) (iblk m c 0 t) (iblk m c 5 t) (ix2 p j)
      = DG (ah m c) (awg m c) (awu m c) (awd m c) (ady m c) (row t.val t.isLt p) (col (blkNo t.val) j) := by
  rw [pay10_at]
  unfold DG
  rw [← iblk1_at m c t 0 p j, ← iblk2_at m c t 0 p j]
  exact congrArg _ (da_at m c t p j)

theorem a_at (t : Fin cfg0.N) (p : Fin 528) (j : Fin 704) :
    k0_pay13 (iblk m c 1 t) (iblk m c 2 t) (ix2 p j)
      = A (ah m c) (awg m c) (awu m c) (row t.val t.isLt p) (col (blkNo t.val) j) := by
  rw [pay13_at]
  exact congrArg₂ act (iblk1_at m c t 0 p j) (iblk2_at m c t 0 p j)

theorem share_at (t : Fin cfg0.N) (p : Fin 528) (d : Fin 2048) :
    k0_pay2 (k0_pay9 (iblk m c 1 t) (iblk m c 0 t) (iblk m c 5 t))
        (k0_pay10 (iblk m c 1 t) (iblk m c 2 t) (iblk m c 0 t) (iblk m c 5 t)) (iblk m c 3 t) (iblk m c 4 t) (ix2 p d)
      = DHb (ah m c) (awg m c) (awu m c) (awd m c) (ady m c) (blkNo t.val) (row t.val t.isLt p) d := by
  rw [pay2_at]
  exact congrArg₂ (· + ·)
    (Finset.sum_congr rfl fun j _ => congrArg₂ (· * ·) (dg_at m c t p j) (iblk3_at m c t 0 d j))
    (Finset.sum_congr rfl fun j _ => congrArg₂ (· * ·) (du_at m c t p j) (iblk4_at m c t 0 d j))

/-- The three results written whole by every point: in both cases of the body the same blocks. -/
theorem outs_at (t : Fin cfg0.N) :
    (outsAt0 m c t.val t.isLt).2 = (k0_pay11 (iblk m c 1 t) (iblk m c 2 t) (iblk m c 0 t) (iblk m c 5 t),
      k0_pay12 (iblk m c 1 t) (iblk m c 0 t) (iblk m c 5 t), k0_pay1 (k0_pay13 (iblk m c 1 t) (iblk m c 2 t))) := by
  by_cases h0 : t.val % 8 = 0
  · rw [outsAt0_A m c t h0 (by omega)]
    dsimp only
    rw [out_A_7, out_A_8, out_A_9]
  · rw [outsAt0_B m c t h0 (by omega)]
    dsimp only
    rw [out_B_7, out_B_8, out_B_9]

/-- Block `b`'s share, for any natural `b` (none past the eighth). -/
def shareN (r : Fin 8448) (d : Fin 2048) (b : ℕ) : EReal :=
  if hb : b < 8 then DHb (ah m c) (awg m c) (awu m c) (awd m c) (ady m c) ⟨b, hb⟩ r d else 0

/-- The running sum of the input's gradient: after point `8 i + k`, blocks `0` to `k`. -/
theorem acc_at (i : ℕ) (p : Fin 528) (d : Fin 2048) : ∀ (k n : ℕ) (hn : n < cfg0.N), k < 8 → n = 8 * i + k →
    (outsAt0 m c n hn).1 (ix2 p d) = ∑ b ∈ Finset.range (k + 1), shareN m c (row n hn p) d b
  | 0, n, hn, _, e => by
    rw [outsAt0_A m c ⟨n, hn⟩ (by dsimp only; omega) (by dsimp only; omega)]
    dsimp only
    rw [out_A_6, share_at, Finset.sum_range_one]
    have hb : blkNo n = ⟨0, by decide⟩ := Fin.ext (by show n % 8 = 0; omega)
    show DHb _ _ _ _ _ (blkNo n) _ _ = _
    rw [hb]
    rfl
  | k + 1, n, hn, hk, e => by
    have h1 := acc_at i p d k (n - 1) (by omega) (by omega) (by omega)
    have hrow : row (n - 1) (by omega) p = row n hn p := Fin.ext (by
      show 528 * ((n - 1) / 8) + p.val = 528 * (n / 8) + p.val
      have : (n - 1) / 8 = n / 8 := by omega
      rw [this])
    rw [outsAt0_B m c ⟨n, hn⟩ (by dsimp only; omega) (by dsimp only; omega)]
    dsimp only
    rw [out_B_6, addf_apply, share_at, Finset.sum_range_succ, h1, hrow]
    refine congrArg (_ + ·) ?_
    have hb : blkNo n = ⟨k + 1, hk⟩ := Fin.ext (by show n % 8 = k + 1; omega)
    show DHb _ _ _ _ _ (blkNo n) _ _ = _
    rw [hb, shareN, dif_pos hk]

/-- At the last block of a row block the sum is complete. -/
theorem acc_last (t : Fin cfg0.N) (ht : t.val % 8 = 7) (p : Fin 528) (d : Fin 2048) :
    (outsAt0 m c t.val t.isLt).1 (ix2 p d)
      = DH (ah m c) (awg m c) (awu m c) (awd m c) (ady m c) (row t.val t.isLt p) d := by
  rw [acc_at m c (t.val / 8) p d 7 t.val t.isLt (by decide) (by omega), Finset.sum_range]
  exact Finset.sum_congr rfl fun b _ => dif_pos b.isLt

end Blocks

end Ffn.Kernel

end
-- ==== Proof.FfnArrays.lean ====
/-
  The SwiGLU gradient kernel's four result arrays over the extended reals: each is one function of the arguments,
  index by index. Every block of an array is written back by the point of its row block and hidden block, and those
  blocks fill the array.
-/
module

public import proofs.«01_k».proof.Proof.FfnKernel

@[expose] public section

set_option maxRecDepth 16384

noncomputable section

namespace Ffn.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The gradient of the input, as contents of its array. -/
def G6 : S8448x2048.Idx → EReal := fun i => DH (ah m c) (awg m c) (awu m c) (awd m c) (ady m c) (i 0) (i 1)

/-- The gradient of the gate's product, in blocks of its columns. -/
def G7 : S8x8448x704.Idx → EReal := fun i => DG (ah m c) (awg m c) (awu m c) (awd m c) (ady m c) (i 1) (col (i 0) (i 2))

/-- The gradient of the up projection's product. -/
def G8 : S8x8448x704.Idx → EReal := fun i => DU (ah m c) (awg m c) (awd m c) (ady m c) (i 1) (col (i 0) (i 2))

/-- The activation. -/
def G9 : S8x8448x704.Idx → EReal := fun i => A (ah m c) (awg m c) (awu m c) (i 1) (col (i 0) (i 2))

/-- A `[1, 528, 704]` block that holds `f` row by row and column by column, read where the array holds `f`. -/
theorem block_eq (f : Fin 8448 → Fin 5632 → EReal) (t : Fin cfg0.N) (X : FVec Ideal S528x704 .f32)
    (hX : ∀ p j, X (ix2 p j) = f (row t.val t.isLt p) (col (blkNo t.val) j)) (y : S1x528x704.Idx) (z : S8x8448x704.Idx)
    (h0 : (z 0).val = t.val % 8) (h1 : (z 1).val = 528 * (t.val / 8) + (y 1).val) (h2 : (z 2).val = (y 2).val) :
    shapeCast S1x528x704 X shapeCasts_S528x704_S1x528x704 y = f (z 1) (col (z 0) (z 2)) := by
  have e : shapeCast S1x528x704 X shapeCasts_S528x704_S1x528x704 y = X (ix2 (y 1 : Fin 528) (y 2 : Fin 704)) :=
    (congrArg (shapeCast S1x528x704 X shapeCasts_S528x704_S1x528x704) (eq_ix3 y)).trans
      (shapeCast_ab_1ab_apply X shapeCasts_S528x704_S1x528x704 (y 0) (y 1) (y 2))
  refine e.trans ((hX (y 1) (y 2)).trans ?_)
  refine congrArg₂ f (Fin.ext h1.symm) ?_
  rw [show blkNo t.val = z 0 from Fin.ext h0.symm, show (y 2 : Fin 704) = z 2 from Fin.ext h2.symm]

theorem index6 : ∀ t : Fin grid0.N, win0_6.index t 0 = t.val / 8 ∧ win0_6.index t 1 = 0 := by
  decide +kernel

theorem xsize6 : ∀ t : Fin grid0.N, win0_6.xsize (grid0.coords t) 0 = 528 ∧ win0_6.xsize (grid0.coords t) 1 = 2048 := by
  decide +kernel

theorem flushed6_eq (t : Fin cfg0.N) (hf : (cfg0.win 6).flush t = true) :
    (dats m 0 c).flushed 6 t = ((cfg0.win 6).blk t).view.read (Elt Ideal) (G6 m c) := by
  have hi := index6 t
  rw [Value.flushed6]
  funext i
  rw [View.read_apply]
  have h0 : (i 0).val < 528 := lt_of_lt_of_eq (i 0).isLt (xsize6 t).1
  have h1 : (i 1).val < 2048 := lt_of_lt_of_eq (i 1).isLt (xsize6 t).2
  refine Eq.trans (b := (outsAt0 m c t.val t.isLt).1 (ix2 (⟨(i 0).val, h0⟩ : Fin 528) (⟨(i 1).val, h1⟩ : Fin 2048)))
    (congrArg _ (funext fun a => Fin.ext (by match a with | ⟨0, _⟩ => rfl | ⟨1, _⟩ => rfl))) ?_
  rw [acc_last m c t ((flush0_6 t).mp hf)]
  refine congrArg₂ (DH (ah m c) (awg m c) (awu m c) (awd m c) (ady m c)) (Fin.ext ?_) (Fin.ext ?_)
  · show 528 * (t.val / 8) + (i 0).val = win0_6.index t 0 * 528 + 1 * (i 0).val; rw [hi.1]; omega
  · show (i 1).val = win0_6.index t 1 * 2048 + 1 * (i 1).val; rw [hi.2]; omega

theorem final6 : (dats m 0 c).arrAt 6 cfg0.N = G6 m c :=
  (dats m 0 c).arrAt_eq_of_cover 6 (G6 m c) (flushed6_eq m c) fun i => by
    have h0 : (i 0 : Nat) < 8448 := (i 0).isLt
    have h1 : (i 1 : Nat) < 2048 := (i 1).isLt
    have hN : cfg0.N = 128 := N_0
    obtain ⟨t, ht⟩ : ∃ t : Fin cfg0.N, t.val = 8 * ((i 0 : Nat) / 528) + 7 := ⟨⟨8 * ((i 0 : Nat) / 528) + 7, by omega⟩, rfl⟩
    refine ⟨t, (flush0_6 t).mpr (by omega), ?_⟩
    obtain ⟨a0, a1⟩ := index6 t
    obtain ⟨b0, b1⟩ := xsize6 t
    show i ∈ ((View.whole main_v17_0).slice (win0_6.rect t)).set
    rw [View.set_slice_whole, Rect.mem_set_unit]
    intro a
    match a with
    | ⟨0, _⟩ => show win0_6.index t 0 * 528 ≤ (i 0 : Nat) ∧ (i 0 : Nat) < win0_6.index t 0 * 528 + win0_6.xsize (grid0.coords t) 0
                rw [a0, b0]; omega
    | ⟨1, _⟩ => show win0_6.index t 1 * 2048 ≤ (i 1 : Nat) ∧ (i 1 : Nat) < win0_6.index t 1 * 2048 + win0_6.xsize (grid0.coords t) 1
                rw [a1, b1]; omega

theorem index7 : ∀ t : Fin grid0.N, win0_7.index t 0 = t.val % 8 ∧ win0_7.index t 1 = t.val / 8 ∧ win0_7.index t 2 = 0 := by
  decide +kernel

theorem xsize7 : ∀ t : Fin grid0.N, win0_7.xsize (grid0.coords t) 0 = 1 ∧ win0_7.xsize (grid0.coords t) 1 = 528
    ∧ win0_7.xsize (grid0.coords t) 2 = 704 := by
  decide +kernel

theorem flushed7_eq (t : Fin cfg0.N) : (dats m 0 c).flushed 7 t = ((cfg0.win 7).blk t).view.read (Elt Ideal) (G7 m c) := by
  have hi := index7 t
  rw [Value.flushed7, outs_at]
  funext i
  rw [View.read_apply]
  refine block_eq (DG (ah m c) (awg m c) (awu m c) (awd m c) (ady m c)) t _ (dg_at m c t) _ _ ?_ ?_ ?_
  · have h0 : (i 0).val < 1 := lt_of_lt_of_eq (i 0).isLt (xsize7 t).1
    show win0_7.index t 0 * 1 + 1 * (i 0).val = t.val % 8; rw [hi.1]; omega
  · show win0_7.index t 1 * 528 + 1 * (i 1).val = 528 * (t.val / 8) + (i 1).val; rw [hi.2.1]; omega
  · show win0_7.index t 2 * 704 + 1 * (i 2).val = (i 2).val; rw [hi.2.2]; omega

theorem final7 : (dats m 0 c).arrAt 7 cfg0.N = G7 m c :=
  (dats m 0 c).arrAt_eq_of_cover 7 (G7 m c) (fun t _ => flushed7_eq m c t) fun i => by
    have h0 : (i 0 : Nat) < 8 := (i 0).isLt
    have h1 : (i 1 : Nat) < 8448 := (i 1).isLt
    have h2 : (i 2 : Nat) < 704 := (i 2).isLt
    have hN : cfg0.N = 128 := N_0
    obtain ⟨t, ht⟩ : ∃ t : Fin cfg0.N, t.val = 8 * ((i 1 : Nat) / 528) + (i 0 : Nat) := ⟨⟨8 * ((i 1 : Nat) / 528) + (i 0 : Nat), by omega⟩, rfl⟩
    refine ⟨t, flush0_7 t, ?_⟩
    obtain ⟨a0, a1, a2⟩ := index7 t
    obtain ⟨b0, b1, b2⟩ := xsize7 t
    show i ∈ ((View.whole main_v17_1).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + win0_7.xsize (grid0.coords t) 0
                rw [a0, b0]; omega
    | ⟨1, _⟩ => show win0_7.index t 1 * 528 ≤ (i 1 : Nat) ∧ (i 1 : Nat) < win0_7.index t 1 * 528 + win0_7.xsize (grid0.coords t) 1
                rw [a1, b1]; omega
    | ⟨2, _⟩ => show win0_7.index t 2 * 704 ≤ (i 2 : Nat) ∧ (i 2 : Nat) < win0_7.index t 2 * 704 + win0_7.xsize (grid0.coords t) 2
                rw [a2, b2]; omega

theorem index8 : ∀ t : Fin grid0.N, win0_8.index t 0 = t.val % 8 ∧ win0_8.index t 1 = t.val / 8 ∧ win0_8.index t 2 = 0 := by
  decide +kernel

theorem xsize8 : ∀ t : Fin grid0.N, win0_8.xsize (grid0.coords t) 0 = 1 ∧ win0_8.xsize (grid0.coords t) 1 = 528
    ∧ win0_8.xsize (grid0.coords t) 2 = 704 := by
  decide +kernel

theorem flushed8_eq (t : Fin cfg0.N) : (dats m 0 c).flushed 8 t = ((cfg0.win 8).blk t).view.read (Elt Ideal) (G8 m c) := by
  have hi := index8 t
  rw [Value.flushed8, outs_at]
  funext i
  rw [View.read_apply]
  refine block_eq (DU (ah m c) (awg m c) (awd m c) (ady m c)) t _ (du_at m c t) _ _ ?_ ?_ ?_
  · have h0 : (i 0).val < 1 := lt_of_lt_of_eq (i 0).isLt (xsize8 t).1
    show win0_8.index t 0 * 1 + 1 * (i 0).val = t.val % 8; rw [hi.1]; omega
  · show win0_8.index t 1 * 528 + 1 * (i 1).val = 528 * (t.val / 8) + (i 1).val; rw [hi.2.1]; omega
  · show win0_8.index t 2 * 704 + 1 * (i 2).val = (i 2).val; rw [hi.2.2]; omega

theorem final8 : (dats m 0 c).arrAt 8 cfg0.N = G8 m c :=
  (dats m 0 c).arrAt_eq_of_cover 8 (G8 m c) (fun t _ => flushed8_eq m c t) fun i => by
    have h0 : (i 0 : Nat) < 8 := (i 0).isLt
    have h1 : (i 1 : Nat) < 8448 := (i 1).isLt
    have h2 : (i 2 : Nat) < 704 := (i 2).isLt
    have hN : cfg0.N = 128 := N_0
    obtain ⟨t, ht⟩ : ∃ t : Fin cfg0.N, t.val = 8 * ((i 1 : Nat) / 528) + (i 0 : Nat) := ⟨⟨8 * ((i 1 : Nat) / 528) + (i 0 : Nat), by omega⟩, rfl⟩
    refine ⟨t, flush0_8 t, ?_⟩
    obtain ⟨a0, a1, a2⟩ := index8 t
    obtain ⟨b0, b1, b2⟩ := xsize8 t
    show i ∈ ((View.whole main_v17_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + win0_8.xsize (grid0.coords t) 0
                rw [a0, b0]; omega
    | ⟨1, _⟩ => show win0_8.index t 1 * 528 ≤ (i 1 : Nat) ∧ (i 1 : Nat) < win0_8.index t 1 * 528 + win0_8.xsize (grid0.coords t) 1
                rw [a1, b1]; omega
    | ⟨2, _⟩ => show win0_8.index t 2 * 704 ≤ (i 2 : Nat) ∧ (i 2 : Nat) < win0_8.index t 2 * 704 + win0_8.xsize (grid0.coords t) 2
                rw [a2, b2]; omega

theorem index9 : ∀ t : Fin grid0.N, win0_9.index t 0 = t.val % 8 ∧ win0_9.index t 1 = t.val / 8 ∧ win0_9.index t 2 = 0 := by
  decide +kernel

theorem xsize9 : ∀ t : Fin grid0.N, win0_9.xsize (grid0.coords t) 0 = 1 ∧ win0_9.xsize (grid0.coords t) 1 = 528
    ∧ win0_9.xsize (grid0.coords t) 2 = 704 := by
  decide +kernel

theorem flushed9_eq (t : Fin cfg0.N) : (dats m 0 c).flushed 9 t = ((cfg0.win 9).blk t).view.read (Elt Ideal) (G9 m c) := by
  have hi := index9 t
  rw [Value.flushed9, outs_at]
  funext i
  rw [View.read_apply]
  refine block_eq (A (ah m c) (awg m c) (awu m c)) t _ (a_at m c t) _ _ ?_ ?_ ?_
  · have h0 : (i 0).val < 1 := lt_of_lt_of_eq (i 0).isLt (xsize9 t).1
    show win0_9.index t 0 * 1 + 1 * (i 0).val = t.val % 8; rw [hi.1]; omega
  · show win0_9.index t 1 * 528 + 1 * (i 1).val = 528 * (t.val / 8) + (i 1).val; rw [hi.2.1]; omega
  · show win0_9.index t 2 * 704 + 1 * (i 2).val = (i 2).val; rw [hi.2.2]; omega

theorem final9 : (dats m 0 c).arrAt 9 cfg0.N = G9 m c :=
  (dats m 0 c).arrAt_eq_of_cover 9 (G9 m c) (fun t _ => flushed9_eq m c t) fun i => by
    have h0 : (i 0 : Nat) < 8 := (i 0).isLt
    have h1 : (i 1 : Nat) < 8448 := (i 1).isLt
    have h2 : (i 2 : Nat) < 704 := (i 2).isLt
    have hN : cfg0.N = 128 := N_0
    obtain ⟨t, ht⟩ : ∃ t : Fin cfg0.N, t.val = 8 * ((i 1 : Nat) / 528) + (i 0 : Nat) := ⟨⟨8 * ((i 1 : Nat) / 528) + (i 0 : Nat), by omega⟩, rfl⟩
    refine ⟨t, flush0_9 t, ?_⟩
    obtain ⟨a0, a1, a2⟩ := index9 t
    obtain ⟨b0, b1, b2⟩ := xsize9 t
    show i ∈ ((View.whole main_v17_3).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + win0_9.xsize (grid0.coords t) 0
                rw [a0, b0]; omega
    | ⟨1, _⟩ => show win0_9.index t 1 * 528 ≤ (i 1 : Nat) ∧ (i 1 : Nat) < win0_9.index t 1 * 528 + win0_9.xsize (grid0.coords t) 1
                rw [a1, b1]; omega
    | ⟨2, _⟩ => show win0_9.index t 2 * 704 ≤ (i 2 : Nat) ∧ (i 2 : Nat) < win0_9.index t 2 * 704 + win0_9.xsize (grid0.coords t) 2
                rw [a2, b2]; omega

end Ffn.Kernel

end
-- ==== Proof.FfnRef.lean ====
/-
  The SwiGLU gradient reference read at an index over the extended reals: its four results are the plain functions of
  `FfnSpec`. The gate's derivative is the one place the two forms differ by a distributive law, so that result and the
  input's gradient ask the five arguments to be real.
-/
module

public import proofs.«01_k».proof.Proof.FfnSpec
public import proofs.«01_k».proof.Proof.Gen.ReferenceIdeal.Read
public import Idealize.ShloMosaic.Lib.IdealHost

@[expose] public section

set_option maxRecDepth 16384

noncomputable section

namespace Ffn.Ref

open Cert.ReferenceIdeal Cert.ReferenceIdeal.Gen Cert.ReferenceIdeal.Read Idealize.ShloMosaic Idealize.ShloMosaic.ValueIdx

variable (h : Mat 8448 2048) (wg wu : Mat 2048 5632) (wd : Mat 5632 2048) (dy : Mat 8448 2048)

theorem v5_at (r : Fin 8448) (f : Fin 5632) : val_main_v5 (F := Ideal) h wg (ix2 r f) = mm h wg r f := by
  rw [val_main_v5_apply]
  refine Finset.sum_congr rfl fun k _ => ?_
  have el : lidx_main_v5 (ix2 r f) k = ix2 r k := eq_ix2 _
  have er : ridx_main_v5 (ix2 r f) k = ix2 k f := eq_ix2 _
  rw [el, er]
  rfl

theorem v7_at (r : Fin 8448) (f : Fin 5632) : val_main_v7 (F := Ideal) h wu (ix2 r f) = mm h wu r f := by
  rw [val_main_v7_apply]
  refine Finset.sum_congr rfl fun k _ => ?_
  have el : lidx_main_v7 (ix2 r f) k = ix2 r k := eq_ix2 _
  have er : ridx_main_v7 (ix2 r f) k = ix2 k f := eq_ix2 _
  rw [el, er]
  rfl

theorem v10_at (r : Fin 8448) (f : Fin 5632) : val_main_v10 (F := Ideal) wd dy (ix2 r f) = mmT dy wd r f := by
  rw [val_main_v10_apply]
  refine Finset.sum_congr rfl fun k _ => ?_
  have el : lidx_main_v10 (ix2 r f) k = ix2 r k := eq_ix2 _
  have er : ridx_main_v10 (ix2 r f) k = ix2 f k := eq_ix2 _
  rw [el, er]
  rfl

theorem v17_at (r : Fin 8448) (f : Fin 5632) : val_main_v17 (F := Ideal) h wg (ix2 r f) = mm h wg r f := v5_at h wg r f
theorem v18_at (r : Fin 8448) (f : Fin 5632) : val_main_v18 (F := Ideal) h wu (ix2 r f) = mm h wu r f := v7_at h wu r f

theorem v22_at (r : Fin 8448) (f : Fin 5632) : val_main_v22 (F := Ideal) wd dy (ix2 r f) = mmT dy wd r f := by
  rw [val_main_v22_apply]
  refine Finset.sum_congr rfl fun k _ => ?_
  have el : lidx_main_v22 (ix2 r f) k = ix2 r k := eq_ix2 _
  have er : idx_main_v21 (ridx_main_v22 (ix2 r f) k) = ix2 f k := eq_ix2 _
  rw [val_main_v21_apply, el, er]
  rfl

/-- The logistic function spelled out by the host. -/
theorem v6_2_at (i : S8448x5632.Idx) : val_main_v6_2 (F := Ideal) h wg i = Ideal.logistic (val_main_v5 (F := Ideal) h wg i) := by
  rw [val_main_v6_2_apply, val_main_call0_v4_apply, val_main_call0_v3_apply, val_main_call0_v2_apply, val_main_call0_cst_apply,
    val_main_call0_cst_0_apply, val_main_call0_v1_apply, val_main_call0_v0_apply, Ideal.ofBits_def, Ideal.ofBits_one_f32]
  rfl

theorem v6_1_at (i : S8448x5632.Idx) : val_main_v6_1 (F := Ideal) h wg i
    = Ideal.logistic (val_main_v5 (F := Ideal) h wg i) * (1 - Ideal.logistic (val_main_v5 (F := Ideal) h wg i)) := by
  rw [val_main_v6_1_apply, val_main_call0_v7_apply, val_main_call0_v6_apply, val_main_call0_cst_1_apply, Ideal.ofBits_def,
    Ideal.ofBits_one_f32, v6_2_at]
  rfl

theorem v6_0_at (i : S8448x5632.Idx) : val_main_v6_0 (F := Ideal) h wg i
    = val_main_v5 (F := Ideal) h wg i * Ideal.logistic (val_main_v5 (F := Ideal) h wg i) := by
  rw [val_main_v6_0_apply, v6_2_at]
  rfl

/-- The second call of the gate is the first. -/
theorem v19_0_eq (i : S8448x5632.Idx) : val_main_v19_0 (F := Ideal) h wg i = val_main_v6_0 (F := Ideal) h wg i := rfl

theorem v11_at (r : Fin 8448) (f : Fin 5632) : val_main_v11 (F := Ideal) h wg wd dy (ix2 r f) = DU h wg wd dy r f := by
  rw [val_main_v11_apply, v6_0_at, v5_at, v10_at]
  exact mul_comm _ _

theorem v23_at (r : Fin 8448) (f : Fin 5632) : val_main_v23 (F := Ideal) h wg wd dy (ix2 r f) = DU h wg wd dy r f := by
  rw [val_main_v23_apply, v19_0_eq, v6_0_at, v5_at, v22_at]
  exact mul_comm _ _

theorem v20_at (r : Fin 8448) (f : Fin 5632) : val_main_v20 (F := Ideal) h wg wu (ix2 r f) = A h wg wu r f := by
  rw [val_main_v20_apply, v19_0_eq, v6_0_at, v5_at, v18_at]
  rfl

section Real
variable {h wg wu wd dy} (hh : ∀ i, IsReal (h i)) (hg : ∀ i, IsReal (wg i)) (hu : ∀ i, IsReal (wu i)) (hd : ∀ i, IsReal (wd i))
  (hy : ∀ i, IsReal (dy i))
include hh hg hu hd hy

theorem v14_at (r : Fin 8448) (f : Fin 5632) : val_main_v14 (F := Ideal) h wg wu wd dy (ix2 r f) = DG h wg wu wd dy r f := by
  rw [val_main_v14_apply, val_main_call1_v1_apply, val_main_call1_v2_apply, val_main_call1_v0_apply, val_main_v12_apply, v6_1_at,
    v6_2_at, v5_at, v7_at, v10_at]
  exact (dgate_eq (isReal_mm h wg hh hg r f) (isReal_mm h wu hh hu r f) (isReal_mmT dy wd hy hd r f)).symm

theorem v25_at (r : Fin 8448) (f : Fin 5632) : val_main_v25 (F := Ideal) h wg wu wd dy (ix2 r f) = DG h wg wu wd dy r f := by
  rw [val_main_v25_apply, val_main_call3_v1_apply, val_main_call3_v2_apply, val_main_call3_v0_apply, val_main_v24_apply,
    show val_main_v19_1 (F := Ideal) h wg (ix2 r f) = val_main_v6_1 (F := Ideal) h wg (ix2 r f) from rfl,
    show val_main_v19_2 (F := Ideal) h wg (ix2 r f) = val_main_v6_2 (F := Ideal) h wg (ix2 r f) from rfl,
    v6_1_at, v6_2_at, v17_at, v5_at, v18_at, v22_at]
  exact (dgate_eq (isReal_mm h wg hh hg r f) (isReal_mm h wu hh hu r f) (isReal_mmT dy wd hy hd r f)).symm

/-- The reference's first result: the input's gradient. -/
theorem v16_at (r : Fin 8448) (d : Fin 2048) : val_main_v16 (F := Ideal) h wg wu wd dy (ix2 r d) = DH h wg wu wd dy r d := by
  rw [val_main_v16_apply, DH_eq, val_main_v13_apply, val_main_v15_apply, Ideal.addf_def]
  refine congrArg₂ (· + ·) (Finset.sum_congr rfl fun k _ => ?_) (Finset.sum_congr rfl fun k _ => ?_)
  · have el : lidx_main_v13 (ix2 r d) k = ix2 r k := eq_ix2 _
    have er : ridx_main_v13 (ix2 r d) k = ix2 d k := eq_ix2 _
    rw [el, er, v11_at]
    rfl
  · have el : lidx_main_v15 (ix2 r d) k = ix2 r k := eq_ix2 _
    have er : ridx_main_v15 (ix2 r d) k = ix2 d k := eq_ix2 _
    rw [el, er, v14_at hh hg hu hd hy]
    rfl

/-- The second: the gate product's gradient, in blocks. -/
theorem v28_at (b : Fin 8) (r : Fin 8448) (j : Fin 704) :
    val_main_v28 (F := Ideal) h wg wu wd dy (ix3 b r j) = DG h wg wu wd dy r (col b j) :=
  (split_apply (val_main_v25 (F := Ideal) h wg wu wd dy) shapeCasts_S8448x5632_S8448x8x704 transposes_S8448x8x704_S8x8448x704_1_0_2
    b r j).trans (v25_at hh hg hu hd hy r _)
end Real

/-- The third: the up product's gradient, in blocks. -/
theorem v31_at (b : Fin 8) (r : Fin 8448) (j : Fin 704) :
    val_main_v31 (F := Ideal) h wg wd dy (ix3 b r j) = DU h wg wd dy r (col b j) :=
  (split_apply (val_main_v23 (F := Ideal) h wg wd dy) shapeCasts_S8448x5632_S8448x8x704 transposes_S8448x8x704_S8x8448x704_1_0_2
    b r j).trans (v23_at h wg wd dy r _)

/-- The fourth: the activation, in blocks. -/
theorem v34_at (b : Fin 8) (r : Fin 8448) (j : Fin 704) :
    val_main_v34 (F := Ideal) h wg wu (ix3 b r j) = A h wg wu r (col b j) :=
  (split_apply (val_main_v20 (F := Ideal) h wg wu) shapeCasts_S8448x5632_S8448x8x704 transposes_S8448x8x704_S8x8448x704_1_0_2
    b r j).trans (v20_at h wg wu r _)

end Ffn.Ref

end
-- ==== Proof.FfnClaim.lean ====
/-
  The SwiGLU gradient: the kernel's four results are the reference's, over the extended reals, when the arguments
  are finite.
-/
module

public import proofs.«01_k».proof.Defs
public import proofs.«01_k».proof.Proof.Gen.Kernel
public import proofs.«01_k».proof.Proof.FfnArrays
public import proofs.«01_k».proof.Proof.FfnFinite
public import proofs.«01_k».proof.Proof.FfnRef
public import proofs.«01_k».proof.Proof.Gen.ReferenceIdeal.Run
public import Idealize.ShloMosaic.Adequacy

@[expose] public section

noncomputable section

namespace Ffn

open Idealize.ShloMosaic Idealize.ShloMosaic.TcCoe Idealize.SL.Sem Idealize.ShloMosaic.ValueIdx
open Ffn.Kernel

section Values
open Cert.ReferenceIdeal.Read

variable (m : (ℓ : Loc Cert.KernelIdeal.nD Cert.KernelIdeal.τ Cert.KernelIdeal.sig) → Buf (Elt Ideal) ℓ) (c : Dev Cert.KernelIdeal.nD)

theorem ref_dh (hh : ∀ i, IsReal (ah m c i)) (hg : ∀ i, IsReal (awg m c i)) (hu : ∀ i, IsReal (awu m c i))
    (hd : ∀ i, IsReal (awd m c i)) (hy : ∀ i, IsReal (ady m c i)) :
    val_main_v16 (F := Ideal) (ah m c) (awg m c) (awu m c) (awd m c) (ady m c) = G6 m c := by
  funext i
  obtain ⟨r, d, rfl⟩ : ∃ (r : Fin 8448) (d : Fin 2048), i = ix2 r d := ⟨i 0, i 1, eq_ix2 i⟩
  exact Ref.v16_at hh hg hu hd hy r d

theorem ref_dg (hh : ∀ i, IsReal (ah m c i)) (hg : ∀ i, IsReal (awg m c i)) (hu : ∀ i, IsReal (awu m c i))
    (hd : ∀ i, IsReal (awd m c i)) (hy : ∀ i, IsReal (ady m c i)) :
    val_main_v28 (F := Ideal) (ah m c) (awg m c) (awu m c) (awd m c) (ady m c) = G7 m c := by
  funext i
  obtain ⟨b, r, j, rfl⟩ : ∃ (b : Fin 8) (r : Fin 8448) (j : Fin 704), i = ix3 b r j := ⟨i 0, i 1, i 2, eq_ix3 i⟩
  exact Ref.v28_at hh hg hu hd hy b r j

theorem ref_du : val_main_v31 (F := Ideal) (ah m c) (awg m c) (awd m c) (ady m c) = G8 m c := by
  funext i
  obtain ⟨b, r, j, rfl⟩ : ∃ (b : Fin 8) (r : Fin 8448) (j : Fin 704), i = ix3 b r j := ⟨i 0, i 1, i 2, eq_ix3 i⟩
  exact Ref.v31_at (ah m c) (awg m c) (awd m c) (ady m c) b r j

theorem ref_a : val_main_v34 (F := Ideal) (ah m c) (awg m c) (awu m c) = G9 m c := by
  funext i
  obtain ⟨b, r, j, rfl⟩ : ∃ (b : Fin 8) (r : Fin 8448) (j : Fin 704), i = ix3 b r j := ⟨i 0, i 1, i 2, eq_ix3 i⟩
  exact Ref.v34_at (ah m c) (awg m c) (awu m c) b r j

end Values

attribute [local instance] Cert.Kernel.Gen.facts Cert.KernelIdeal.Gen.facts Cert.ReferenceIdeal.Gen.facts Cert.Pre_finite.Gen.facts

theorem algebraic : Cert.algebraic_KernelIdeal_ReferenceIdeal_pre_finite := by
  intro m g m' g' hpre harg
  have hfin := fun c => finite_args _ _ _ _ _ (fun k => k.elim0) (congrFun (hpre c) _)
  refine ⟨fun c => G6 m c, fun c => G7 m c, fun c => G8 m c, fun c => G9 m c, ?_, ?_⟩
  · refine (θ_run _ _ _).mono (fun r h c => ?_) (Cert.KernelIdeal.Value.run_blocks m g)
    obtain ⟨h0, h1, h2, h3, ha⟩ := h c
    exact ⟨h0.trans (final6 m c), h1.trans (final7 m c), h2.trans (final8 m c), h3.trans (final9 m c), ha⟩
  · refine (θ_run _ _ _).mono (fun r h c => ?_) (Cert.ReferenceIdeal.Value.run (F := Ideal) m' g')
    obtain ⟨h0, h1, h2, h3, ha⟩ := h c
    obtain ⟨f0, f1, f2, f3, f4⟩ := hfin c
    obtain ⟨e0, e1, e2, e3, e4⟩ := harg c
    refine ⟨(h0.trans ?_).trans (ref_dh m c f0 f1 f2 f3 f4), (h1.trans ?_).trans (ref_dg m c f0 f1 f2 f3 f4),
      (h2.trans ?_).trans (ref_du m c), (h3.trans ?_).trans (ref_a m c), ha⟩
    · rw [e0, e1, e2, e3, e4]; exact Cert.ReferenceIdeal.Read.val_main_v16_eq ..
    · rw [e0, e1, e2, e3, e4]; exact Cert.ReferenceIdeal.Read.val_main_v28_eq ..
    · rw [e0, e1, e3, e4]; exact Cert.ReferenceIdeal.Read.val_main_v31_eq ..
    · rw [e0, e1, e2]; exact Cert.ReferenceIdeal.Read.val_main_v34_eq ..

end Ffn

end
-- ==== Proof.FfnForward.lean ====
/-
  The SwiGLU block's forward pass over the extended reals: each grid point's three output blocks as plain functions of
  the arguments, the running sum of the result over the eight hidden blocks of one row block, the three whole arrays,
  and the reference's results, which are the same functions.
-/
module

public import proofs.«01_k».proof.Defs
public import proofs.«01_k».proof.Proof.FfnSpec
public import proofs.«01_k».proof.Proof.Gen.Forward
public import proofs.«01_k».proof.Proof.Gen.ForwardIdeal.Value
public import proofs.«01_k».proof.Proof.Gen.ForwardReferenceIdeal.Read
public import proofs.«01_k».proof.Proof.Gen.ForwardReferenceIdeal.Run
public import Idealize.ShloMosaic.Lib.IdealHost
public import Idealize.ShloMosaic.Lib.Tactic
public import Idealize.ShloMosaic.Adequacy

@[expose] public section

set_option maxRecDepth 16384

noncomputable section

namespace Ffn.Forward

open Cert.ForwardIdeal Cert.ForwardIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- Hidden block `b`'s share of the result. -/
def share (h : Mat 8448 2048) (wg wu : Mat 2048 5632) (wd : Mat 5632 2048) (b : Fin 8) (r : Fin 8448) (d : Fin 2048) : EReal :=
  ∑ j : Fin 704, A h wg wu r (col b j) * wd (ix2 (col b j) d)

/-- The block's result: all hidden columns. -/
def Y (h : Mat 8448 2048) (wg wu : Mat 2048 5632) (wd : Mat 5632 2048) (r : Fin 8448) (d : Fin 2048) : EReal :=
  ∑ f : Fin 5632, A h wg wu r f * wd (ix2 f d)

/-! ## The body's terms -/

section Cases
variable (c : Dev nD) (i : grid0.Coords)
  (a2 : Memref sig .tc .vmem S768x2048 .bf16) (h2 : a2.IsWhole) (a3 : Memref sig .tc .vmem S1x2048x704 .bf16) (h3 : a3.IsWhole)
  (a4 : Memref sig .tc .vmem S1x2048x704 .bf16) (h4 : a4.IsWhole) (a5 : Memref sig .tc .vmem S1x704x2048 .bf16) (h5 : a5.IsWhole)
  (a6 : Memref sig .tc .vmem S768x2048 .f32) (h6 : a6.IsWhole) (a7 : Memref sig .tc .vmem S1x768x704 .bf16) (h7 : a7.IsWhole)
  (a8 : Memref sig .tc .vmem S1x768x704 .bf16) (h8 : a8.IsWhole)
  (x0 : Vec Ideal S768x2048 .bf16) (x1 x2 : Vec Ideal S1x2048x704 .bf16) (x3 : Vec Ideal S1x704x2048 .bf16)
  (acc : Vec Ideal S768x2048 .f32)

theorem pay1_at (p : Fin 768) (j : Fin 704) :
    k0_pay1 x0 x1 (ix2 p j) = ∑ k : Fin 2048, x0 (ix2 p k) * x1 (ix3 (0 : Fin 1) k j) := by
  refine (Ideal.matmul_plain_apply (M := 768) (K := 2048) (N := 704) (φ₁ := .bf16) (φ₂ := .bf16) none x0
    (shapeCast S2048x704 x1 shapeCasts_S1x2048x704_S2048x704) _ p j).trans ?_
  rw [constant_apply, Ideal.ofBits_zero_f32, zero_add]
  exact Finset.sum_congr rfl fun k _ => congrArg (x0 (ix2 p k) * ·) (shapeCast_1ab_ab_apply x1 _ k j)

/-- The two hidden products are the same product of different weights. -/
theorem pay2_eq : k0_pay2 x0 x2 = k0_pay1 x0 x2 := rfl

theorem pay5_at (p : Fin 768) (d : Fin 2048) :
    k0_pay5 x0 x1 x2 x3 (ix2 p d)
      = ∑ j : Fin 704, act (k0_pay1 x0 x1 (ix2 p j)) (k0_pay2 x0 x2 (ix2 p j)) * x3 (ix3 (0 : Fin 1) j d) := by
  unfold k0_pay5
  generalize k0_pay1 x0 x1 = g
  generalize k0_pay2 x0 x2 = u
  refine (Ideal.matmul_plain_apply (M := 768) (K := 704) (N := 2048) none
    (truncf .bf16 (mulf (mulf (extf .f32 g bitsLt_bf16_f32) (logistic (extf .f32 g bitsLt_bf16_f32))) (extf .f32 u bitsLt_bf16_f32))
      bitsLt_bf16_f32 : FVec Ideal S768x704 .bf16) (shapeCast S704x2048 x3 shapeCasts_S1x704x2048_S704x2048) _ p d).trans ?_
  rw [constant_apply, Ideal.ofBits_zero_f32, zero_add]
  exact Finset.sum_congr rfl fun j _ => congrArg (act (g (ix2 p j)) (u (ix2 p j)) * ·) (shapeCast_1ab_ab_apply x3 _ j d)

theorem out_A_4 (hc : cond0_0 i) (hd : ¬cond0_1 i) :
    out0_A_4 c i a2 h2 a3 h3 a4 h4 a5 h5 a6 h6 a7 h7 a8 h8 hc hd x0 x1 x2 x3 = k0_pay5 x0 x1 x2 x3 := by
  unfold out0_A_4
  rw [View.read_writes_eq_canon _ _ _ (cover0_A_4 c i a2 h2 a3 h3 a4 h4 a5 h5 a6 h6 a7 h7 a8 h8 hc hd x0 x1 x2 x3)]
  unfold kernelRun0_A
  dsimp only
  sl_unfold_words
  rw [View.canon_unit_zero hz2]
  simp only [View.readAt_eq_ld, h2.read_unread, h3.read_unread, h4.read_unread, h5.read_unread, h6.read_unread,
    View.ld_unit_zero (S := S768x2048) hz2, View.ld_unit_zero (S := S1x2048x704) hz3, View.ld_unit_zero (S := S1x704x2048) hz3, shapeCast_self]

theorem out_A_5 (hc : cond0_0 i) (hd : ¬cond0_1 i) :
    out0_A_5 c i a2 h2 a3 h3 a4 h4 a5 h5 a6 h6 a7 h7 a8 h8 hc hd x0 x1 x2 x3 = k0_pay3 x0 x1 := by
  unfold out0_A_5
  rw [View.read_writes_eq_canon _ _ _ (cover0_A_5 c i a2 h2 a3 h3 a4 h4 a5 h5 a6 h6 a7 h7 a8 h8 hc hd x0 x1 x2 x3)]
  unfold kernelRun0_A
  dsimp only
  sl_unfold_words
  rw [View.canon_unit_zero hz3]
  simp only [View.readAt_eq_ld, h2.read_unread, h3.read_unread, h4.read_unread, h5.read_unread, h6.read_unread,
    View.ld_unit_zero (S := S768x2048) hz2, View.ld_unit_zero (S := S1x2048x704) hz3, View.ld_unit_zero (S := S1x704x2048) hz3, shapeCast_self]

theorem out_A_6 (hc : cond0_0 i) (hd : ¬cond0_1 i) :
    out0_A_6 c i a2 h2 a3 h3 a4 h4 a5 h5 a6 h6 a7 h7 a8 h8 hc hd x0 x1 x2 x3 = k0_pay4 x0 x2 := by
  unfold out0_A_6
  rw [View.read_writes_eq_canon _ _ _ (cover0_A_6 c i a2 h2 a3 h3 a4 h4 a5 h5 a6 h6 a7 h7 a8 h8 hc hd x0 x1 x2 x3)]
  unfold kernelRun0_A
  dsimp only
  sl_unfold_words
  rw [View.canon_unit_zero hz3]
  simp only [View.readAt_eq_ld, h2.read_unread, h3.read_unread, h4.read_unread, h5.read_unread, h6.read_unread,
    View.ld_unit_zero (S := S768x2048) hz2, View.ld_unit_zero (S := S1x2048x704) hz3, View.ld_unit_zero (S := S1x704x2048) hz3, shapeCast_self]

theorem out_B_4 (hc : ¬cond0_0 i) (hd : cond0_1 i) :
    out0_B_4 c i a2 h2 a3 h3 a4 h4 a5 h5 a6 h6 a7 h7 a8 h8 hc hd x0 x1 x2 x3 acc = addf acc (k0_pay5 x0 x1 x2 x3) := by
  unfold out0_B_4
  rw [View.read_writes_eq_canon _ _ _ (cover0_B_4 c i a2 h2 a3 h3 a4 h4 a5 h5 a6 h6 a7 h7 a8 h8 hc hd x0 x1 x2 x3 acc)]
  unfold kernelRun0_B
  dsimp only
  sl_unfold_words
  rw [View.canon_unit_zero hz2]
  unfold k0_pay6
  simp only [View.readAt_eq_ld, h2.read_unread, h3.read_unread, h4.read_unread, h5.read_unread, h6.read_unread,
    View.ld_unit_zero (S := S768x2048) hz2, View.ld_unit_zero (S := S1x2048x704) hz3, View.ld_unit_zero (S := S1x704x2048) hz3, shapeCast_self]

theorem out_B_5 (hc : ¬cond0_0 i) (hd : cond0_1 i) :
    out0_B_5 c i a2 h2 a3 h3 a4 h4 a5 h5 a6 h6 a7 h7 a8 h8 hc hd x0 x1 x2 x3 acc = k0_pay3 x0 x1 := by
  unfold out0_B_5
  rw [View.read_writes_eq_canon _ _ _ (cover0_B_5 c i a2 h2 a3 h3 a4 h4 a5 h5 a6 h6 a7 h7 a8 h8 hc hd x0 x1 x2 x3 acc)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S768x2048) hz2, View.ld_unit_zero (S := S1x2048x704) hz3, View.ld_unit_zero (S := S1x704x2048) hz3, shapeCast_self]

theorem out_B_6 (hc : ¬cond0_0 i) (hd : cond0_1 i) :
    out0_B_6 c i a2 h2 a3 h3 a4 h4 a5 h5 a6 h6 a7 h7 a8 h8 hc hd x0 x1 x2 x3 acc = k0_pay4 x0 x2 := by
  unfold out0_B_6
  rw [View.read_writes_eq_canon _ _ _ (cover0_B_6 c i a2 h2 a3 h3 a4 h4 a5 h5 a6 h6 a7 h7 a8 h8 hc hd x0 x1 x2 x3 acc)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S768x2048) hz2, View.ld_unit_zero (S := S1x2048x704) hz3, View.ld_unit_zero (S := S1x704x2048) hz3, shapeCast_self]
end Cases

/-! ## The input blocks at a point -/

section Blocks
variable (m : (ℓ : Loc nD τ sig) → Buf (Elt Ideal) ℓ) (c : Dev nD)

/-- The four arguments. -/
abbrev ah : Mat 8448 2048 := m ((c : Thread nD τ).loc main_arg0)
abbrev awg : Mat 2048 5632 := m ((c : Thread nD τ).loc main_arg1)
abbrev awu : Mat 2048 5632 := m ((c : Thread nD τ).loc main_arg2)
abbrev awd : Mat 5632 2048 := m ((c : Thread nD τ).loc main_arg3)

/-- Row `p` of point `n`'s row block. -/
def row (n : ℕ) (hn : n < cfg0.N) (p : Fin 768) : Fin 8448 :=
  ⟨768 * (n / 8) + p.val, by have : cfg0.N = 88 := N_0; have := p.isLt; omega⟩
/-- Point `n`'s block of hidden columns. -/
def blkNo (n : ℕ) : Fin 8 := ⟨n % 8, Nat.mod_lt _ (by decide)⟩

theorem V1_at (b : Fin 8) (r : Fin 2048) (j : Fin 704) : V m c main_v1 (ix3 b r j) = awg m c (ix2 r (col b j)) := by
  have e : V m c main_v1 = (transpose S8x2048x704 [1, 0, 2] (shapeCast S2048x8x704 (awg m c)
      shapeCasts_S2048x5632_S2048x8x704) transposes_S2048x8x704_S8x2048x704_1_0_2 : S8x2048x704.Idx → EReal) := by
    unfold V
    after_results
    all_goals rfl
  rw [e]
  exact split_apply _ shapeCasts_S2048x5632_S2048x8x704 transposes_S2048x8x704_S8x2048x704_1_0_2 b r j

theorem V3_at (b : Fin 8) (r : Fin 2048) (j : Fin 704) : V m c main_v3 (ix3 b r j) = awu m c (ix2 r (col b j)) := by
  have e : V m c main_v3 = (transpose S8x2048x704 [1, 0, 2] (shapeCast S2048x8x704 (awu m c)
      shapeCasts_S2048x5632_S2048x8x704) transposes_S2048x8x704_S8x2048x704_1_0_2 : S8x2048x704.Idx → EReal) := by
    unfold V
    after_results
    all_goals rfl
  rw [e]
  exact split_apply _ shapeCasts_S2048x5632_S2048x8x704 transposes_S2048x8x704_S8x2048x704_1_0_2 b r j

theorem V4_at (b : Fin 8) (j : Fin 704) (r : Fin 2048) : V m c main_v4 (ix3 b j r) = awd m c (ix2 (col b j) r) := by
  have e : V m c main_v4 = (shapeCast S8x704x2048 (awd m c) shapeCasts_S5632x2048_S8x704x2048 : S8x704x2048.Idx → EReal) := by
    unfold V
    after_results
    all_goals rfl
  rw [e]
  exact split_rows_apply _ shapeCasts_S5632x2048_S8x704x2048 b j r

theorem iblk0_at (t : Fin cfg0.N) (p : Fin 768) (k : Fin 2048) :
    iblk m c 0 t (ix2 p k) = ah m c (ix2 (row t.val t.isLt p) k) := by
  have hi : win0_0.index t 0 = t.val / 8 ∧ win0_0.index t 1 = 0 :=
    (by decide +kernel : ∀ t : Fin grid0.N, win0_0.index t 0 = t.val / 8 ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * p.val = 768 * (t.val / 8) + p.val; rw [hi.1]; omega
  | ⟨1, _⟩ => show win0_0.index t 1 * 2048 + 1 * k.val = k.val; rw [hi.2]; omega

theorem iblk1_at (t : Fin cfg0.N) (u : Fin 1) (d : Fin 2048) (j : Fin 704) :
    iblk m c 1 t (ix3 u d j) = awg m c (ix2 d (col (blkNo t.val) j)) := by
  have hi : win0_1.index t 0 = t.val % 8 ∧ win0_1.index t 1 = 0 ∧ win0_1.index t 2 = 0 :=
    (by decide +kernel : ∀ t : Fin grid0.N, win0_1.index t 0 = t.val % 8 ∧ win0_1.index t 1 = 0 ∧ win0_1.index t 2 = 0) t
  rw [← V1_at]
  unfold iblk
  rw [View.read_apply]
  show V m c main_v1 _ = _
  refine congrArg (V m c main_v1) (funext fun a => Fin.ext ?_)
  match a with
  | ⟨0, _⟩ => show win0_1.index t 0 * 1 + 1 * u.val = t.val % 8; rw [hi.1]; omega
  | ⟨1, _⟩ => show win0_1.index t 1 * 2048 + 1 * d.val = d.val; rw [hi.2.1]; omega
  | ⟨2, _⟩ => show win0_1.index t 2 * 704 + 1 * j.val = j.val; rw [hi.2.2]; omega

theorem iblk2_at (t : Fin cfg0.N) (u : Fin 1) (d : Fin 2048) (j : Fin 704) :
    iblk m c 2 t (ix3 u d j) = awu m c (ix2 d (col (blkNo t.val) j)) := by
  have hi : win0_2.index t 0 = t.val % 8 ∧ win0_2.index t 1 = 0 ∧ win0_2.index t 2 = 0 :=
    (by decide +kernel : ∀ t : Fin grid0.N, win0_2.index t 0 = t.val % 8 ∧ win0_2.index t 1 = 0 ∧ win0_2.index t 2 = 0) t
  rw [← V3_at]
  unfold iblk
  rw [View.read_apply]
  show V m c main_v3 _ = _
  refine congrArg (V m c main_v3) (funext fun a => Fin.ext ?_)
  match a with
  | ⟨0, _⟩ => show win0_2.index t 0 * 1 + 1 * u.val = t.val % 8; rw [hi.1]; omega
  | ⟨1, _⟩ => show win0_2.index t 1 * 2048 + 1 * d.val = d.val; rw [hi.2.1]; omega
  | ⟨2, _⟩ => show win0_2.index t 2 * 704 + 1 * j.val = j.val; rw [hi.2.2]; omega

theorem iblk3_at (t : Fin cfg0.N) (u : Fin 1) (d : Fin 704) (j : Fin 2048) :
    iblk m c 3 t (ix3 u d j) = awd m c (ix2 (col (blkNo t.val) d) j) := by
  have hi : win0_3.index t 0 = t.val % 8 ∧ win0_3.index t 1 = 0 ∧ win0_3.index t 2 = 0 :=
    (by decide +kernel : ∀ t : Fin grid0.N, win0_3.index t 0 = t.val % 8 ∧ win0_3.index t 1 = 0 ∧ win0_3.index t 2 = 0) t
  rw [← V4_at]
  unfold iblk
  rw [View.read_apply]
  show V m c main_v4 _ = _
  refine congrArg (V m c main_v4) (funext fun a => Fin.ext ?_)
  match a with
  | ⟨0, _⟩ => show win0_3.index t 0 * 1 + 1 * u.val = t.val % 8; rw [hi.1]; omega
  | ⟨1, _⟩ => show win0_3.index t 1 * 704 + 1 * d.val = d.val; rw [hi.2.1]; omega
  | ⟨2, _⟩ => show win0_3.index t 2 * 2048 + 1 * j.val = j.val; rw [hi.2.2]; omega

/-! ## What a point leaves -/

theorem g_at (t : Fin cfg0.N) (p : Fin 768) (j : Fin 704) :
    k0_pay1 (iblk m c 0 t) (iblk m c 1 t) (ix2 p j) = mm (ah m c) (awg m c) (row t.val t.isLt p) (col (blkNo t.val) j) := by
  rw [pay1_at]
  exact Finset.sum_congr rfl fun k _ =>
    congrArg₂ (HMul.hMul (α := EReal) (β := EReal) (γ := EReal)) (iblk0_at m c t p k) (iblk1_at m c t 0 k j)

theorem u_at (t : Fin cfg0.N) (p : Fin 768) (j : Fin 704) :
    k0_pay2 (iblk m c 0 t) (iblk m c 2 t) (ix2 p j) = mm (ah m c) (awu m c) (row t.val t.isLt p) (col (blkNo t.val) j) := by
  rw [pay2_eq, pay1_at]
  exact Finset.sum_congr rfl fun k _ =>
    congrArg₂ (HMul.hMul (α := EReal) (β := EReal) (γ := EReal)) (iblk0_at m c t p k) (iblk2_at m c t 0 k j)

theorem share_at (t : Fin cfg0.N) (p : Fin 768) (d : Fin 2048) :
    k0_pay5 (iblk m c 0 t) (iblk m c 1 t) (iblk m c 2 t) (iblk m c 3 t) (ix2 p d)
      = share (ah m c) (awg m c) (awu m c) (awd m c) (blkNo t.val) (row t.val t.isLt p) d := by
  rw [pay5_at]
  exact Finset.sum_congr rfl fun j _ => congrArg₂ (HMul.hMul (α := EReal) (β := EReal) (γ := EReal))
    (congrArg₂ act (g_at m c t p j) (u_at m c t p j)) (iblk3_at m c t 0 j d)

/-- The two hidden products are written whole by every point: in both cases of the body the same blocks. -/
theorem outs_at (t : Fin cfg0.N) :
    (outsAt0 m c t.val t.isLt).2 = (k0_pay3 (iblk m c 0 t) (iblk m c 1 t), k0_pay4 (iblk m c 0 t) (iblk m c 2 t)) := by
  by_cases h0 : t.val % 8 = 0
  · rw [outsAt0_A m c t h0 (by omega)]
    dsimp only
    rw [out_A_5, out_A_6]
  · rw [outsAt0_B m c t h0 (by omega)]
    dsimp only
    rw [out_B_5, out_B_6]

/-- Block `b`'s share, for any natural `b` (none past the eighth). -/
def shareN (r : Fin 8448) (d : Fin 2048) (b : ℕ) : EReal :=
  if hb : b < 8 then share (ah m c) (awg m c) (awu m c) (awd m c) ⟨b, hb⟩ r d else 0

/-- After point `8 i + k` the result's block holds hidden blocks `0` to `k`. -/
theorem acc_at (i : ℕ) (p : Fin 768) (d : Fin 2048) : ∀ (k n : ℕ) (hn : n < cfg0.N), k < 8 → n = 8 * i + k →
    (outsAt0 m c n hn).1 (ix2 p d) = ∑ b ∈ Finset.range (k + 1), shareN m c (row n hn p) d b
  | 0, n, hn, _, e => by
    rw [outsAt0_A m c ⟨n, hn⟩ (by dsimp only; omega) (by dsimp only; omega)]
    dsimp only
    rw [out_A_4, share_at, Finset.sum_range_one]
    have hb : blkNo n = ⟨0, by decide⟩ := Fin.ext (by show n % 8 = 0; omega)
    show share _ _ _ _ (blkNo n) _ _ = _
    rw [hb]
    rfl
  | k + 1, n, hn, hk, e => by
    have h1 := acc_at i p d k (n - 1) (by omega) (by omega) (by omega)
    have hrow : row (n - 1) (by omega) p = row n hn p := Fin.ext (by
      show 768 * ((n - 1) / 8) + p.val = 768 * (n / 8) + p.val
      have : (n - 1) / 8 = n / 8 := by omega
      rw [this])
    rw [outsAt0_B m c ⟨n, hn⟩ (by dsimp only; omega) (by dsimp only; omega)]
    dsimp only
    rw [out_B_4, addf_apply, share_at, Finset.sum_range_succ, h1, hrow]
    refine congrArg (_ + ·) ?_
    have hb : blkNo n = ⟨k + 1, hk⟩ := Fin.ext (by show n % 8 = k + 1; omega)
    show share _ _ _ _ (blkNo n) _ _ = _
    rw [hb, shareN, dif_pos hk]

/-- At the last hidden block the result is complete. -/
theorem acc_last (t : Fin cfg0.N) (ht : t.val % 8 = 7) (p : Fin 768) (d : Fin 2048) :
    (outsAt0 m c t.val t.isLt).1 (ix2 p d) = Y (ah m c) (awg m c) (awu m c) (awd m c) (row t.val t.isLt p) d := by
  rw [acc_at m c (t.val / 8) p d 7 t.val t.isLt (by decide) (by omega), Finset.sum_range, Y, sum_col]
  exact Finset.sum_congr rfl fun b _ => dif_pos b.isLt

/-! ## The whole arrays -/

/-- The result. -/
def G4 : S8448x2048.Idx → EReal := fun i => Y (ah m c) (awg m c) (awu m c) (awd m c) (i 0) (i 1)

/-- A hidden product, in blocks of its columns. -/
def hid (w : Mat 2048 5632) : S8x8448x704.Idx → EReal := fun i => mm (ah m c) w (i 1) (col (i 0) (i 2))

/-- A `[1, 768, 704]` block that holds `f` row by row and column by column, read where the array holds `f`. -/
theorem block_eq (f : Fin 8448 → Fin 5632 → EReal) (t : Fin cfg0.N) (X : FVec Ideal S768x704 .bf16)
    (hX : ∀ p j, X (ix2 p j) = f (row t.val t.isLt p) (col (blkNo t.val) j)) (y : S1x768x704.Idx) (z : S8x8448x704.Idx)
    (h0 : (z 0).val = t.val % 8) (h1 : (z 1).val = 768 * (t.val / 8) + (y 1).val) (h2 : (z 2).val = (y 2).val) :
    shapeCast S1x768x704 X shapeCasts_S768x704_S1x768x704 y = f (z 1) (col (z 0) (z 2)) := by
  have e : shapeCast S1x768x704 X shapeCasts_S768x704_S1x768x704 y = X (ix2 (y 1 : Fin 768) (y 2 : Fin 704)) :=
    (congrArg (shapeCast S1x768x704 X shapeCasts_S768x704_S1x768x704) (eq_ix3 y)).trans
      (shapeCast_ab_1ab_apply X shapeCasts_S768x704_S1x768x704 (y 0) (y 1) (y 2))
  refine e.trans ((hX (y 1) (y 2)).trans ?_)
  refine congrArg₂ f (Fin.ext h1.symm) ?_
  rw [show blkNo t.val = z 0 from Fin.ext h0.symm, show (y 2 : Fin 704) = z 2 from Fin.ext h2.symm]

theorem index4 : ∀ t : Fin grid0.N, win0_4.index t 0 = t.val / 8 ∧ win0_4.index t 1 = 0 := by
  decide +kernel

theorem xsize4 : ∀ t : Fin grid0.N, win0_4.xsize (grid0.coords t) 0 = 768 ∧ win0_4.xsize (grid0.coords t) 1 = 2048 := by
  decide +kernel

theorem flushed4_eq (t : Fin cfg0.N) (hf : (cfg0.win 4).flush t = true) :
    (dats m 0 c).flushed 4 t = ((cfg0.win 4).blk t).view.read (Elt Ideal) (G4 m c) := by
  have hi := index4 t
  rw [Value.flushed4]
  funext i
  rw [View.read_apply]
  have h0 : (i 0).val < 768 := lt_of_lt_of_eq (i 0).isLt (xsize4 t).1
  have h1 : (i 1).val < 2048 := lt_of_lt_of_eq (i 1).isLt (xsize4 t).2
  refine Eq.trans (b := (outsAt0 m c t.val t.isLt).1 (ix2 (⟨(i 0).val, h0⟩ : Fin 768) (⟨(i 1).val, h1⟩ : Fin 2048)))
    (congrArg _ (funext fun a => Fin.ext (by match a with | ⟨0, _⟩ => rfl | ⟨1, _⟩ => rfl))) ?_
  rw [acc_last m c t ((flush0_4 t).mp hf)]
  refine congrArg₂ (Y (ah m c) (awg m c) (awu m c) (awd m c)) (Fin.ext ?_) (Fin.ext ?_)
  · show 768 * (t.val / 8) + (i 0).val = win0_4.index t 0 * 768 + 1 * (i 0).val; rw [hi.1]; omega
  · show (i 1).val = win0_4.index t 1 * 2048 + 1 * (i 1).val; rw [hi.2]; omega

theorem final4 : (dats m 0 c).arrAt 4 cfg0.N = G4 m c :=
  (dats m 0 c).arrAt_eq_of_cover 4 (G4 m c) (flushed4_eq m c) fun i => by
    have h0 : (i 0 : Nat) < 8448 := (i 0).isLt
    have h1 : (i 1 : Nat) < 2048 := (i 1).isLt
    have hN : cfg0.N = 88 := N_0
    obtain ⟨t, ht⟩ : ∃ t : Fin cfg0.N, t.val = 8 * ((i 0 : Nat) / 768) + 7 := ⟨⟨8 * ((i 0 : Nat) / 768) + 7, by omega⟩, rfl⟩
    refine ⟨t, (flush0_4 t).mpr (by omega), ?_⟩
    obtain ⟨a0, a1⟩ := index4 t
    obtain ⟨b0, b1⟩ := xsize4 t
    show i ∈ ((View.whole main_v5_0).slice (win0_4.rect t)).set
    rw [View.set_slice_whole, Rect.mem_set_unit]
    intro a
    match a with
    | ⟨0, _⟩ => show win0_4.index t 0 * 768 ≤ (i 0 : Nat) ∧ (i 0 : Nat) < win0_4.index t 0 * 768 + win0_4.xsize (grid0.coords t) 0
                rw [a0, b0]; omega
    | ⟨1, _⟩ => show win0_4.index t 1 * 2048 ≤ (i 1 : Nat) ∧ (i 1 : Nat) < win0_4.index t 1 * 2048 + win0_4.xsize (grid0.coords t) 1
                rw [a1, b1]; omega

theorem index5 : ∀ t : Fin grid0.N, win0_5.index t 0 = t.val % 8 ∧ win0_5.index t 1 = t.val / 8 ∧ win0_5.index t 2 = 0 := by
  decide +kernel

theorem xsize5 : ∀ t : Fin grid0.N, win0_5.xsize (grid0.coords t) 0 = 1 ∧ win0_5.xsize (grid0.coords t) 1 = 768
    ∧ win0_5.xsize (grid0.coords t) 2 = 704 := by
  decide +kernel

theorem flushed5_eq (t : Fin cfg0.N) : (dats m 0 c).flushed 5 t = ((cfg0.win 5).blk t).view.read (Elt Ideal) (hid m c (awg m c)) := by
  have hi := index5 t
  rw [Value.flushed5, outs_at]
  funext i
  rw [View.read_apply]
  refine block_eq (mm (ah m c) (awg m c)) t _ (g_at m c t) _ _ ?_ ?_ ?_
  · have h0 : (i 0).val < 1 := lt_of_lt_of_eq (i 0).isLt (xsize5 t).1
    show win0_5.index t 0 * 1 + 1 * (i 0).val = t.val % 8; rw [hi.1]; omega
  · show win0_5.index t 1 * 768 + 1 * (i 1).val = 768 * (t.val / 8) + (i 1).val; rw [hi.2.1]; omega
  · show win0_5.index t 2 * 704 + 1 * (i 2).val = (i 2).val; rw [hi.2.2]; omega

theorem final5 : (dats m 0 c).arrAt 5 cfg0.N = hid m c (awg m c) :=
  (dats m 0 c).arrAt_eq_of_cover 5 (hid m c (awg m c)) (fun t _ => flushed5_eq m c t) fun i => by
    have h0 : (i 0 : Nat) < 8 := (i 0).isLt
    have h1 : (i 1 : Nat) < 8448 := (i 1).isLt
    have h2 : (i 2 : Nat) < 704 := (i 2).isLt
    have hN : cfg0.N = 88 := N_0
    obtain ⟨t, ht⟩ : ∃ t : Fin cfg0.N, t.val = 8 * ((i 1 : Nat) / 768) + (i 0 : Nat) := ⟨⟨8 * ((i 1 : Nat) / 768) + (i 0 : Nat), by omega⟩, rfl⟩
    refine ⟨t, flush0_5 t, ?_⟩
    obtain ⟨a0, a1, a2⟩ := index5 t
    obtain ⟨b0, b1, b2⟩ := xsize5 t
    show i ∈ ((View.whole main_v5_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + win0_5.xsize (grid0.coords t) 0
                rw [a0, b0]; omega
    | ⟨1, _⟩ => show win0_5.index t 1 * 768 ≤ (i 1 : Nat) ∧ (i 1 : Nat) < win0_5.index t 1 * 768 + win0_5.xsize (grid0.coords t) 1
                rw [a1, b1]; omega
    | ⟨2, _⟩ => show win0_5.index t 2 * 704 ≤ (i 2 : Nat) ∧ (i 2 : Nat) < win0_5.index t 2 * 704 + win0_5.xsize (grid0.coords t) 2
                rw [a2, b2]; omega

theorem index6 : ∀ t : Fin grid0.N, win0_6.index t 0 = t.val % 8 ∧ win0_6.index t 1 = t.val / 8 ∧ win0_6.index t 2 = 0 := by
  decide +kernel

theorem xsize6 : ∀ t : Fin grid0.N, win0_6.xsize (grid0.coords t) 0 = 1 ∧ win0_6.xsize (grid0.coords t) 1 = 768
    ∧ win0_6.xsize (grid0.coords t) 2 = 704 := by
  decide +kernel

theorem flushed6_eq (t : Fin cfg0.N) : (dats m 0 c).flushed 6 t = ((cfg0.win 6).blk t).view.read (Elt Ideal) (hid m c (awu m c)) := by
  have hi := index6 t
  rw [Value.flushed6, outs_at]
  funext i
  rw [View.read_apply]
  refine block_eq (mm (ah m c) (awu m c)) t _ (u_at m c t) _ _ ?_ ?_ ?_
  · have h0 : (i 0).val < 1 := lt_of_lt_of_eq (i 0).isLt (xsize6 t).1
    show win0_6.index t 0 * 1 + 1 * (i 0).val = t.val % 8; rw [hi.1]; omega
  · show win0_6.index t 1 * 768 + 1 * (i 1).val = 768 * (t.val / 8) + (i 1).val; rw [hi.2.1]; omega
  · show win0_6.index t 2 * 704 + 1 * (i 2).val = (i 2).val; rw [hi.2.2]; omega

theorem final6 : (dats m 0 c).arrAt 6 cfg0.N = hid m c (awu m c) :=
  (dats m 0 c).arrAt_eq_of_cover 6 (hid m c (awu m c)) (fun t _ => flushed6_eq m c t) fun i => by
    have h0 : (i 0 : Nat) < 8 := (i 0).isLt
    have h1 : (i 1 : Nat) < 8448 := (i 1).isLt
    have h2 : (i 2 : Nat) < 704 := (i 2).isLt
    have hN : cfg0.N = 88 := N_0
    obtain ⟨t, ht⟩ : ∃ t : Fin cfg0.N, t.val = 8 * ((i 1 : Nat) / 768) + (i 0 : Nat) := ⟨⟨8 * ((i 1 : Nat) / 768) + (i 0 : Nat), by omega⟩, rfl⟩
    refine ⟨t, flush0_6 t, ?_⟩
    obtain ⟨a0, a1, a2⟩ := index6 t
    obtain ⟨b0, b1, b2⟩ := xsize6 t
    show i ∈ ((View.whole main_v5_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + win0_6.xsize (grid0.coords t) 0
                rw [a0, b0]; omega
    | ⟨1, _⟩ => show win0_6.index t 1 * 768 ≤ (i 1 : Nat) ∧ (i 1 : Nat) < win0_6.index t 1 * 768 + win0_6.xsize (grid0.coords t) 1
                rw [a1, b1]; omega
    | ⟨2, _⟩ => show win0_6.index t 2 * 704 ≤ (i 2 : Nat) ∧ (i 2 : Nat) < win0_6.index t 2 * 704 + win0_6.xsize (grid0.coords t) 2
                rw [a2, b2]; omega

end Blocks

/-! ## The reference -/

section Reference
open Cert.ForwardReferenceIdeal.Read
variable (h : Mat 8448 2048) (wg wu : Mat 2048 5632) (wd : Mat 5632 2048)

theorem v4_at (r : Fin 8448) (f : Fin 5632) : val_main_v4 (F := Ideal) h wg (ix2 r f) = mm h wg r f := by
  rw [val_main_v4_apply]
  refine Finset.sum_congr rfl fun k _ => ?_
  have el : lidx_main_v4 (ix2 r f) k = ix2 r k := eq_ix2 _
  have er : ridx_main_v4 (ix2 r f) k = ix2 k f := eq_ix2 _
  rw [el, er]
  rfl

theorem v6_at (r : Fin 8448) (f : Fin 5632) : val_main_v6 (F := Ideal) h wu (ix2 r f) = mm h wu r f := v4_at h wu r f

theorem v7_at (r : Fin 8448) (f : Fin 5632) : val_main_v7 (F := Ideal) h wg wu (ix2 r f) = A h wg wu r f := by
  rw [val_main_v7_apply, val_main_v5_apply, val_main_call0_v5_apply, val_main_call0_v4_apply, val_main_call0_v3_apply,
    val_main_call0_v2_apply, val_main_call0_cst_apply, val_main_call0_cst_0_apply, val_main_call0_v1_apply,
    val_main_call0_v0_apply, Ideal.ofBits_def, Ideal.ofBits_one_f32, v4_at, v6_at]
  rfl

theorem v8_at (r : Fin 8448) (d : Fin 2048) : val_main_v8 (F := Ideal) h wg wu wd (ix2 r d) = Y h wg wu wd r d := by
  rw [val_main_v8_apply]
  refine Finset.sum_congr rfl fun f _ => ?_
  have el : lidx_main_v8 (ix2 r d) f = ix2 r f := eq_ix2 _
  have er : ridx_main_v8 (ix2 r d) f = ix2 f d := eq_ix2 _
  rw [el, er, v7_at]
  rfl

theorem v12_at (b : Fin 8) (r : Fin 8448) (j : Fin 704) : val_main_v12 (F := Ideal) h wg (ix3 b r j) = mm h wg r (col b j) :=
  (split_apply (val_main_v9 (F := Ideal) h wg) Cert.ForwardReferenceIdeal.Gen.facts.shapeCasts_S8448x5632_S8448x8x704
    Cert.ForwardReferenceIdeal.Gen.facts.transposes_S8448x8x704_S8x8448x704_1_0_2
    b r j).trans (v4_at h wg r _)

theorem v16_at (b : Fin 8) (r : Fin 8448) (j : Fin 704) : val_main_v16 (F := Ideal) h wu (ix3 b r j) = mm h wu r (col b j) :=
  v12_at h wu b r j
end Reference

section Values
open Cert.ForwardReferenceIdeal.Read
variable (m : (ℓ : Loc Cert.ForwardIdeal.nD Cert.ForwardIdeal.τ Cert.ForwardIdeal.sig) → Buf (Elt Ideal) ℓ) (c : Dev Cert.ForwardIdeal.nD)

theorem ref_y : val_main_v8 (F := Ideal) (ah m c) (awg m c) (awu m c) (awd m c) = G4 m c := by
  funext i
  obtain ⟨r, d, rfl⟩ : ∃ (r : Fin 8448) (d : Fin 2048), i = ix2 r d := ⟨i 0, i 1, eq_ix2 i⟩
  exact v8_at (ah m c) (awg m c) (awu m c) (awd m c) r d

theorem ref_g : val_main_v12 (F := Ideal) (ah m c) (awg m c) = hid m c (awg m c) := by
  funext i
  obtain ⟨b, r, j, rfl⟩ : ∃ (b : Fin 8) (r : Fin 8448) (j : Fin 704), i = ix3 b r j := ⟨i 0, i 1, i 2, eq_ix3 i⟩
  exact v12_at (ah m c) (awg m c) b r j

theorem ref_u : val_main_v16 (F := Ideal) (ah m c) (awu m c) = hid m c (awu m c) := by
  funext i
  obtain ⟨b, r, j, rfl⟩ : ∃ (b : Fin 8) (r : Fin 8448) (j : Fin 704), i = ix3 b r j := ⟨i 0, i 1, i 2, eq_ix3 i⟩
  exact v16_at (ah m c) (awu m c) b r j
end Values

attribute [local instance] Cert.Forward.Gen.facts Cert.ForwardIdeal.Gen.facts Cert.ForwardReferenceIdeal.Gen.facts

theorem algebraic : Cert.algebraic_ForwardIdeal_ForwardReferenceIdeal := by
  intro m g m' g' _ harg
  refine ⟨fun c => G4 m c, fun c => hid m c (awg m c), fun c => hid m c (awu m c), ?_, ?_⟩
  · refine (θ_run _ _ _).mono (fun r h c => ?_) (Cert.ForwardIdeal.Value.run_blocks m g)
    obtain ⟨h0, h1, h2, ha⟩ := h c
    exact ⟨h0.trans (final4 m c), h1.trans (final5 m c), h2.trans (final6 m c), ha⟩
  · refine (θ_run _ _ _).mono (fun r h c => ?_) (Cert.ForwardReferenceIdeal.Value.run (F := Ideal) m' g')
    obtain ⟨h0, h1, h2, ha⟩ := h c
    obtain ⟨e0, e1, e2, e3⟩ := harg c
    refine ⟨(h0.trans ?_).trans (ref_y m c), (h1.trans ?_).trans (ref_g m c), (h2.trans ?_).trans (ref_u m c), ha⟩
    · rw [e0, e1, e2, e3]; exact Cert.ForwardReferenceIdeal.Read.val_main_v8_eq ..
    · rw [e0, e1]; exact Cert.ForwardReferenceIdeal.Read.val_main_v12_eq ..
    · rw [e0, e2]; exact Cert.ForwardReferenceIdeal.Read.val_main_v16_eq ..

end Ffn.Forward

end
-- ==== Proof.FfnWgradIn.lean ====
/-
  The weight gradient of the SwiGLU block's two input projections over the extended reals: the kernel's running sum over
  six blocks of rows is the reference's product over all of them.
-/
module

public import proofs.«01_k».proof.Proof.FfnBlocks
public import proofs.«01_k».proof.Defs
public import proofs.«01_k».proof.Proof.Gen.WgradIn
public import proofs.«01_k».proof.Proof.Gen.WgradInIdeal.Value
public import proofs.«01_k».proof.Proof.Gen.WgradInReferenceIdeal.Read
public import proofs.«01_k».proof.Proof.Gen.WgradInReferenceIdeal.Run
public import Idealize.ShloMosaic.Adequacy
public import Idealize.ShloMosaic.Lib.IdealHost
public import Idealize.ShloMosaic.Lib.Tactic

@[expose] public section

set_option maxRecDepth 16384

noncomputable section

namespace Ffn.WgradIn

open Cert.WgradInIdeal Cert.WgradInIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's terms -/

section Cases
variable (c : Dev nD) (i : grid0.Coords)
  (a2 : Memref sig .tc .vmem S2048x1408 .bf16) (h2 : a2.IsWhole) (a3 : Memref sig .tc .vmem S1x1408x704 .bf16) (h3 : a3.IsWhole)
  (a4 : Memref sig .tc .vmem S1x2048x704 .bf16) (h4 : a4.IsWhole) (a5 : Memref sig .tc .vmem S2048x704 .f32) (h5 : a5.IsWhole)
  (x0 : Vec Ideal S2048x1408 .bf16) (x1 : Vec Ideal S1x1408x704 .bf16) (acc : Vec Ideal S2048x704 .f32)

/-- A row block's share at a point. -/
theorem pay1_at (d : Fin 2048) (j : Fin 704) :
    k0_pay1 x0 x1 (ix2 d j) = ∑ p : Fin 1408, x0 (ix2 d p) * x1 (ix3 (0 : Fin 1) p j) := by
  unfold k0_pay1
  rw [shapeCast_self]
  refine (Ideal.matmul_plain_apply (M := 2048) (K := 1408) (N := 704) none x0
    (shapeCast S1408x704 x1 shapeCasts_S1x1408x704_S1408x704) _ d j).trans ?_
  rw [constant_apply, Ideal.ofBits_zero_f32, zero_add]
  exact Finset.sum_congr rfl fun p _ => congrArg (x0 (ix2 d p) * ·) (shapeCast_1ab_ab_apply x1 _ p j)

/-- The block written back is the scratch. -/
theorem pay4_at (u : Fin 1) (d : Fin 2048) (j : Fin 704) : k0_pay4 acc (ix3 u d j) = acc (ix2 d j) :=
  shapeCast_ab_1ab_apply (truncf .bf16 acc bitsLt_bf16_f32 : FVec Ideal S2048x704 .bf16) shapeCasts_S2048x704_S1x2048x704 u d j

theorem sout_A (hc : cond0_0 i) (hd : ¬cond0_1 i) (he : ¬cond0_2 i) :
    sout0_A_0 c i a2 h2 a3 h3 a4 h4 a5 h5 hc hd he x0 x1 = k0_pay1 x0 x1 := by
  unfold sout0_A_0
  rw [View.read_writes_eq_canon _ _ _ (scover0_A_0 c i a2 h2 a3 h3 a4 h4 a5 h5 hc hd he x0 x1)]
  unfold kernelRun0_A
  dsimp only
  sl_unfold_words
  rw [View.canon_unit_zero hz2]
  unfold k0_pay2
  simp only [View.readAt_eq_ld, h2.read_unread, h3.read_unread, View.ld_unit_zero (S := S2048x1408) hz2,
    View.ld_unit_zero (S := S1x1408x704) hz3, shapeCast_self]

theorem sout_B (hc : ¬cond0_0 i) (hd : cond0_1 i) (he : ¬cond0_2 i) :
    sout0_B_0 c i a2 h2 a3 h3 a4 h4 a5 h5 hc hd he x0 x1 acc = addf acc (k0_pay1 x0 x1) := by
  unfold sout0_B_0
  rw [View.read_writes_eq_canon _ _ _ (scover0_B_0 c i a2 h2 a3 h3 a4 h4 a5 h5 hc hd he x0 x1 acc)]
  unfold kernelRun0_B
  dsimp only
  sl_unfold_words
  rw [View.canon_unit_zero hz2]
  unfold k0_pay3
  simp only [View.readAt_eq_ld, h2.read_unread, h3.read_unread, h5.read_unread, View.ld_unit_zero (S := S2048x1408) hz2,
    View.ld_unit_zero (S := S1x1408x704) hz3, View.ld_unit_zero (S := S2048x704) hz2, shapeCast_self]

theorem out_C (hc : ¬cond0_0 i) (hd : cond0_1 i) (he : cond0_2 i) :
    out0_C_2 c i a2 h2 a3 h3 a4 h4 a5 h5 hc hd he x0 x1 acc = k0_pay4 (addf acc (k0_pay1 x0 x1)) := by
  unfold out0_C_2
  rw [View.read_writes_eq_canon _ _ _ (cover0_C_2 c i a2 h2 a3 h3 a4 h4 a5 h5 hc hd he x0 x1 acc)]
  unfold kernelRun0_C
  dsimp only
  sl_unfold_words
  rw [View.canon_unit_zero hz3]
  unfold k0_pay3
  simp only [View.readAt_eq_ld, h2.read_unread, h3.read_unread, h5.read_unread, View.ld_unit_zero (S := S2048x1408) hz2,
    View.ld_unit_zero (S := S1x1408x704) hz3, View.ld_unit_zero (S := S2048x704) hz2, shapeCast_self]
  exact congrArg k0_pay4 (View.readCov_cons_toLoadRect ..)

theorem sout_C (hc : ¬cond0_0 i) (hd : cond0_1 i) (he : cond0_2 i) :
    sout0_C_0 c i a2 h2 a3 h3 a4 h4 a5 h5 hc hd he x0 x1 acc = addf acc (k0_pay1 x0 x1) := by
  unfold sout0_C_0
  rw [View.read_writes_eq_canon _ _ _ (scover0_C_0 c i a2 h2 a3 h3 a4 h4 a5 h5 hc hd he x0 x1 acc)]
  unfold kernelRun0_C
  dsimp only
  sl_unfold_words
  rw [View.canon_unit_zero hz2]
  unfold k0_pay3
  simp only [View.readAt_eq_ld, h2.read_unread, h3.read_unread, h5.read_unread, View.ld_unit_zero (S := S2048x1408) hz2,
    View.ld_unit_zero (S := S1x1408x704) hz3, View.ld_unit_zero (S := S2048x704) hz2, shapeCast_self]
end Cases

/-! ## The input blocks at a point -/

section Blocks
variable (m : (ℓ : Loc nD τ sig) → Buf (Elt Ideal) ℓ) (c : Dev nD)

/-- The product's input and the cotangent of its result. -/
abbrev ah : Mat 8448 2048 := m ((c : Thread nD τ).loc main_arg0)
abbrev act : Mat 8448 5632 := m ((c : Thread nD τ).loc main_arg2)

/-- Point `n`'s block of rows and block of hidden columns. -/
def rowNo (n : ℕ) : Fin 6 := ⟨n % 6, Nat.mod_lt _ (by decide)⟩
def colNo (n : ℕ) (hn : n < cfg0.N) : Fin 8 := ⟨n / 6, by have : cfg0.N = 48 := N_0; omega⟩

theorem V0_at (d : Fin 2048) (r : Fin 8448) : V m c main_v0 (ix2 d r) = ah m c (ix2 r d) := by
  have e : V m c main_v0 = (transpose S2048x8448 [1, 0] (ah m c) transposes_S8448x2048_S2048x8448_1_0 : S2048x8448.Idx → EReal) := by
    unfold V
    after_results
    all_goals rfl
  rw [e]
  exact transpose_apply _ _ _ _ (ix2 r d) fun a => match a with | ⟨0, _⟩ => rfl | ⟨1, _⟩ => rfl

theorem V2_at (b : Fin 8) (r : Fin 8448) (j : Fin 704) : V m c main_v2 (ix3 b r j) = act m c (ix2 r (col b j)) := by
  have e : V m c main_v2 = (transpose S8x8448x704 [1, 0, 2] (shapeCast S8448x8x704 (act m c)
      shapeCasts_S8448x5632_S8448x8x704) transposes_S8448x8x704_S8x8448x704_1_0_2 : S8x8448x704.Idx → EReal) := by
    unfold V
    after_results
    all_goals rfl
  rw [e]
  exact split_apply _ shapeCasts_S8448x5632_S8448x8x704 transposes_S8448x8x704_S8x8448x704_1_0_2 b r j

theorem iblk0_at (t : Fin cfg0.N) (d : Fin 2048) (p : Fin 1408) :
    iblk m c 0 t (ix2 d p) = ah m c (ix2 (rowB (rowNo t.val) p) d) := by
  have hi : win0_0.index t 0 = 0 ∧ win0_0.index t 1 = t.val % 6 :=
    (by decide +kernel : ∀ t : Fin grid0.N, win0_0.index t 0 = 0 ∧ win0_0.index t 1 = t.val % 6) t
  rw [← V0_at]
  unfold iblk
  rw [View.read_apply]
  show V m c main_v0 _ = _
  refine congrArg (V m c main_v0) (funext fun a => Fin.ext ?_)
  match a with
  | ⟨0, _⟩ => show win0_0.index t 0 * 2048 + 1 * d.val = d.val; rw [hi.1]; omega
  | ⟨1, _⟩ => show win0_0.index t 1 * 1408 + 1 * p.val = 1408 * (t.val % 6) + p.val; rw [hi.2]; omega

theorem iblk1_at (t : Fin cfg0.N) (u : Fin 1) (p : Fin 1408) (j : Fin 704) :
    iblk m c 1 t (ix3 u p j) = act m c (ix2 (rowB (rowNo t.val) p) (col (colNo t.val t.isLt) j)) := by
  have hi : win0_1.index t 0 = t.val / 6 ∧ win0_1.index t 1 = t.val % 6 ∧ win0_1.index t 2 = 0 :=
    (by decide +kernel : ∀ t : Fin grid0.N, win0_1.index t 0 = t.val / 6 ∧ win0_1.index t 1 = t.val % 6 ∧ win0_1.index t 2 = 0) t
  rw [← V2_at]
  unfold iblk
  rw [View.read_apply]
  show V m c main_v2 _ = _
  refine congrArg (V m c main_v2) (funext fun a => Fin.ext ?_)
  match a with
  | ⟨0, _⟩ => show win0_1.index t 0 * 1 + 1 * u.val = t.val / 6; rw [hi.1]; omega
  | ⟨1, _⟩ => show win0_1.index t 1 * 1408 + 1 * p.val = 1408 * (t.val % 6) + p.val; rw [hi.2.1]; omega
  | ⟨2, _⟩ => show win0_1.index t 2 * 704 + 1 * j.val = j.val; rw [hi.2.2]; omega

/-! ## The running sum -/

theorem share_at (t : Fin cfg0.N) (d : Fin 2048) (j : Fin 704) :
    k0_pay1 (iblk m c 0 t) (iblk m c 1 t) (ix2 d j)
      = tmmB (ah m c) (act m c) (rowNo t.val) d (col (colNo t.val t.isLt) j) := by
  rw [pay1_at]
  exact Finset.sum_congr rfl fun p _ =>
    congrArg₂ (HMul.hMul (α := EReal) (β := EReal) (γ := EReal)) (iblk0_at m c t d p) (iblk1_at m c t 0 p j)

theorem share_at' (n : ℕ) (hn : n < cfg0.N) (b : Fin 8) (k : ℕ) (hk : k < 6) (e : n = 6 * b.val + k) (d : Fin 2048) (j : Fin 704) :
    k0_pay1 (iblk m c 0 ⟨n, hn⟩) (iblk m c 1 ⟨n, hn⟩) (ix2 d j) = tmmN (ah m c) (act m c) d (col b j) k := by
  rw [share_at, tmmN, dif_pos hk]
  have h1 : rowNo n = ⟨k, hk⟩ := Fin.ext (by show n % 6 = k; omega)
  have h2 : colNo n hn = b := Fin.ext (by show n / 6 = b.val; omega)
  dsimp only
  rw [h1, h2]

/-- After point `6 b + k` the scratch holds row blocks `0` to `k`. -/
theorem acc_at (b : Fin 8) (d : Fin 2048) (j : Fin 704) : ∀ (k n : ℕ) (hn : n < cfg0.N), k < 6 → n = 6 * b.val + k →
    (outsAt0 m c n hn).2 (ix2 d j) = ∑ q ∈ Finset.range (k + 1), tmmN (ah m c) (act m c) d (col b j) q
  | 0, n, hn, hk, e => by
    rw [outsAt0_A m c ⟨n, hn⟩ (by dsimp only; omega) (by dsimp only; omega) (by dsimp only; omega)]
    dsimp only
    rw [sout_A, Finset.sum_range_one]
    exact share_at' m c n hn b 0 hk e d j
  | k + 1, n, hn, hk, e => by
    have h1 := acc_at b d j k (n - 1) (by omega) (by omega) (by omega)
    by_cases h5 : n % 6 = 5
    · rw [outsAt0_C m c ⟨n, hn⟩ (by dsimp only; omega) (by dsimp only; omega) h5]
      dsimp only
      rw [sout_C, addf_apply, Finset.sum_range_succ, h1]
      exact congrArg (_ + ·) (share_at' m c n hn b (k + 1) hk e d j)
    · rw [outsAt0_B m c ⟨n, hn⟩ (by dsimp only; omega) (by dsimp only; omega) h5]
      dsimp only
      rw [sout_B, addf_apply, Finset.sum_range_succ, h1]
      exact congrArg (_ + ·) (share_at' m c n hn b (k + 1) hk e d j)

/-- The block written back at the last row block of a hidden block. -/
theorem out_last (t : Fin cfg0.N) (ht : t.val % 6 = 5) (u : Fin 1) (d : Fin 2048) (j : Fin 704) :
    (outsAt0 m c t.val t.isLt).1 (ix3 u d j) = tmm (ah m c) (act m c) d (col (colNo t.val t.isLt) j) := by
  have h1 := acc_at m c (colNo t.val t.isLt) d j 5 t.val t.isLt (by decide) (by show t.val = 6 * (t.val / 6) + 5; omega)
  rw [sum_tmmN, outsAt0_C m c t (by omega) (by omega) ht] at h1
  rw [outsAt0_C m c t (by omega) (by omega) ht]
  dsimp only at h1 ⊢
  rw [sout_C] at h1
  rw [out_C, ← h1]
  exact pay4_at _ u d j

/-! ## The whole array -/

/-- The weight's gradient, in blocks of its columns. -/
def G2 : S8x2048x704.Idx → EReal := fun i => tmm (ah m c) (act m c) (i 1) (col (i 0) (i 2))

theorem index2 : ∀ t : Fin grid0.N, win0_2.index t 0 = t.val / 6 ∧ win0_2.index t 1 = 0 ∧ win0_2.index t 2 = 0 := by
  decide +kernel

theorem xsize2 : ∀ t : Fin grid0.N, win0_2.xsize (grid0.coords t) 0 = 1 ∧ win0_2.xsize (grid0.coords t) 1 = 2048
    ∧ win0_2.xsize (grid0.coords t) 2 = 704 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1 := lt_of_lt_of_eq (i 0).isLt (xsize2 t).1
  have h1 : (i 1).val < 2048 := lt_of_lt_of_eq (i 1).isLt (xsize2 t).2.1
  have h2 : (i 2).val < 704 := lt_of_lt_of_eq (i 2).isLt (xsize2 t).2.2
  refine Eq.trans (b := (outsAt0 m c t.val t.isLt).1 (ix3 (⟨(i 0).val, h0⟩ : Fin 1) (⟨(i 1).val, h1⟩ : Fin 2048) (⟨(i 2).val, h2⟩ : Fin 704)))
    (congrArg _ (funext fun a => Fin.ext (by match a with | ⟨0, _⟩ => rfl | ⟨1, _⟩ => rfl | ⟨2, _⟩ => rfl))) ?_
  rw [out_last m c t ((flush0_2 t).mp hf)]
  refine congrArg₂ (tmm (ah m c) (act m c)) (Fin.ext ?_) (congrArg₂ col (Fin.ext ?_) (Fin.ext ?_))
  · show (i 1).val = win0_2.index t 1 * 2048 + 1 * (i 1).val; rw [hi.2.1]; omega
  · show t.val / 6 = win0_2.index t 0 * 1 + 1 * (i 0).val; rw [hi.1]; omega
  · show (i 2).val = win0_2.index t 2 * 704 + 1 * (i 2).val; rw [hi.2.2]; omega

theorem final2 : (dats m 0 c).arrAt 2 cfg0.N = G2 m c :=
  (dats m 0 c).arrAt_eq_of_cover 2 (G2 m c) (flushed2_eq m c) fun i => by
    have h0 : (i 0 : Nat) < 8 := (i 0).isLt
    have h1 : (i 1 : Nat) < 2048 := (i 1).isLt
    have h2 : (i 2 : Nat) < 704 := (i 2).isLt
    have hN : cfg0.N = 48 := N_0
    obtain ⟨t, ht⟩ : ∃ t : Fin cfg0.N, t.val = 6 * (i 0 : Nat) + 5 := ⟨⟨6 * (i 0 : Nat) + 5, by omega⟩, rfl⟩
    refine ⟨t, (flush0_2 t).mpr (by omega), ?_⟩
    obtain ⟨a0, a1, a2⟩ := index2 t
    obtain ⟨b0, b1, b2⟩ := xsize2 t
    show i ∈ ((View.whole main_v3).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
    | ⟨2, _⟩ => show win0_2.index t 2 * 704 ≤ (i 2 : Nat) ∧ (i 2 : Nat) < win0_2.index t 2 * 704 + win0_2.xsize (grid0.coords t) 2
                rw [a2, b2]; omega
end Blocks

/-! ## The reference -/

section Reference
open Cert.WgradInReferenceIdeal.Read

theorem ref_at (h : Mat 8448 2048) (ct : Mat 8448 5632) (b : Fin 8) (d : Fin 2048) (j : Fin 704) :
    val_main_v8 (F := Ideal) h ct (ix3 b d j) = tmm h ct d (col b j) := by
  rw [val_main_v8_apply, val_main_v7_apply, val_main_v6_apply, val_main_v5_apply, val_main_v4_apply]
  refine Finset.sum_congr rfl fun k _ => ?_
  have e1 : idx_main_v6 (idx_main_v7 (ix3 b d j)) = ix2 d (col b j) := by
    funext a; apply Fin.ext
    have := b.isLt; have := d.isLt; have := j.isLt
    match a with
    | ⟨0, _⟩ => show ((d.val * 8 + b.val) * 704 + j.val) / 5632 = d.val; omega
    | ⟨1, _⟩ => show ((d.val * 8 + b.val) * 704 + j.val) % 5632 = 704 * b.val + j.val; omega
  rw [e1]
  have e2 : lidx_main_v4 (idx_main_v5 (ix2 d (col b j))) k = ix2 k (col b j) := eq_ix2 _
  have e3 : ridx_main_v4 (idx_main_v5 (ix2 d (col b j))) k = ix2 k d := eq_ix2 _
  rw [e2, e3]
  exact mul_comm _ _

theorem ref_eq (m : (ℓ : Loc Cert.WgradInIdeal.nD Cert.WgradInIdeal.τ Cert.WgradInIdeal.sig) → Buf (Elt Ideal) ℓ)
    (c : Dev Cert.WgradInIdeal.nD) : val_main_v8 (F := Ideal) (ah m c) (act m c) = G2 m c := by
  funext i
  obtain ⟨b, d, j, rfl⟩ : ∃ (b : Fin 8) (d : Fin 2048) (j : Fin 704), i = ix3 b d j := ⟨i 0, i 1, i 2, eq_ix3 i⟩
  exact ref_at (ah m c) (act m c) b d j
end Reference

attribute [local instance] Cert.WgradIn.Gen.facts Cert.WgradInIdeal.Gen.facts Cert.WgradInReferenceIdeal.Gen.facts

theorem algebraic : Cert.algebraic_WgradInIdeal_WgradInReferenceIdeal := by
  intro m g m' g' _ harg
  refine ⟨fun c => G2 m c, ?_, ?_⟩
  · refine (θ_run _ _ _).mono (fun r h c => ?_) (Cert.WgradInIdeal.Value.run_blocks m g)
    obtain ⟨h0, ha⟩ := h c
    exact ⟨h0.trans (final2 m c), ha⟩
  · refine (θ_run _ _ _).mono (fun r h c => ?_) (Cert.WgradInReferenceIdeal.Value.run (F := Ideal) m' g')
    obtain ⟨h0, ha⟩ := h c
    obtain ⟨e0, e1, e2⟩ := harg c
    refine ⟨(h0.trans ?_).trans (ref_eq m c), ha⟩
    rw [e0, e2]
    exact Cert.WgradInReferenceIdeal.Read.val_main_v8_eq ..

end Ffn.WgradIn

end
-- ==== Proof.FfnWgradOut.lean ====
/-
  The weight gradient of the SwiGLU block's output projection over the extended reals: the kernel's running sum over
  six blocks of rows is the reference's product over all of them.
-/
module

public import proofs.«01_k».proof.Proof.FfnBlocks
public import proofs.«01_k».proof.Defs
public import proofs.«01_k».proof.Proof.Gen.WgradOut
public import proofs.«01_k».proof.Proof.Gen.WgradOutIdeal.Value
public import proofs.«01_k».proof.Proof.Gen.WgradOutReferenceIdeal.Read
public import proofs.«01_k».proof.Proof.Gen.WgradOutReferenceIdeal.Run
public import Idealize.ShloMosaic.Adequacy
public import Idealize.ShloMosaic.Lib.IdealHost
public import Idealize.ShloMosaic.Lib.Tactic

@[expose] public section

set_option maxRecDepth 16384

noncomputable section

namespace Ffn.WgradOut

open Cert.WgradOutIdeal Cert.WgradOutIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's terms -/

section Cases
variable (c : Dev nD) (i : grid0.Coords)
  (a2 : Memref sig .tc .vmem S1x1408x704 .bf16) (h2 : a2.IsWhole) (a3 : Memref sig .tc .vmem S1408x2048 .bf16) (h3 : a3.IsWhole)
  (a4 : Memref sig .tc .vmem S1x704x2048 .bf16) (h4 : a4.IsWhole) (a5 : Memref sig .tc .vmem S704x2048 .f32) (h5 : a5.IsWhole)
  (x0 : Vec Ideal S1x1408x704 .bf16) (x1 : Vec Ideal S1408x2048 .bf16) (acc : Vec Ideal S704x2048 .f32)

/-- A row block's share at a point. -/
theorem pay1_at (j : Fin 704) (d : Fin 2048) :
    k0_pay1 x0 x1 (ix2 j d) = ∑ p : Fin 1408, x0 (ix3 (0 : Fin 1) p j) * x1 (ix2 p d) := by
  refine (matmul_firstAxes_apply (M := 704) (K := 1408) (N := 2048) facts.dot_S1408x704_S1408x2048_S704x2048_0_0_1_1_n_n_wf none
    (shapeCast S1408x704 x0 shapeCasts_S1x1408x704_S1408x704) x1 _ j d).trans ?_
  rw [constant_apply, Ideal.ofBits_zero_f32, zero_add]
  exact Finset.sum_congr rfl fun p _ => congrArg (· * x1 (ix2 p d)) (shapeCast_1ab_ab_apply x0 _ p j)

/-- The block written back is the scratch. -/
theorem pay4_at (u : Fin 1) (j : Fin 704) (d : Fin 2048) : k0_pay4 acc (ix3 u j d) = acc (ix2 j d) :=
  shapeCast_ab_1ab_apply (truncf .bf16 acc bitsLt_bf16_f32 : FVec Ideal S704x2048 .bf16) shapeCasts_S704x2048_S1x704x2048 u j d

theorem sout_A (hc : cond0_0 i) (hd : ¬cond0_1 i) (he : ¬cond0_2 i) :
    sout0_A_0 c i a2 h2 a3 h3 a4 h4 a5 h5 hc hd he x0 x1 = k0_pay1 x0 x1 := by
  unfold sout0_A_0
  rw [View.read_writes_eq_canon _ _ _ (scover0_A_0 c i a2 h2 a3 h3 a4 h4 a5 h5 hc hd he x0 x1)]
  unfold kernelRun0_A
  dsimp only
  sl_unfold_words
  rw [View.canon_unit_zero hz2]
  unfold k0_pay2
  simp only [View.readAt_eq_ld, h2.read_unread, h3.read_unread, View.ld_unit_zero (S := S1408x2048) hz2,
    View.ld_unit_zero (S := S1x1408x704) hz3, shapeCast_self]

theorem sout_B (hc : ¬cond0_0 i) (hd : cond0_1 i) (he : ¬cond0_2 i) :
    sout0_B_0 c i a2 h2 a3 h3 a4 h4 a5 h5 hc hd he x0 x1 acc = addf acc (k0_pay1 x0 x1) := by
  unfold sout0_B_0
  rw [View.read_writes_eq_canon _ _ _ (scover0_B_0 c i a2 h2 a3 h3 a4 h4 a5 h5 hc hd he x0 x1 acc)]
  unfold kernelRun0_B
  dsimp only
  sl_unfold_words
  rw [View.canon_unit_zero hz2]
  unfold k0_pay3
  simp only [View.readAt_eq_ld, h2.read_unread, h3.read_unread, h5.read_unread, View.ld_unit_zero (S := S1408x2048) hz2,
    View.ld_unit_zero (S := S1x1408x704) hz3, View.ld_unit_zero (S := S704x2048) hz2, shapeCast_self]

theorem out_C (hc : ¬cond0_0 i) (hd : cond0_1 i) (he : cond0_2 i) :
    out0_C_2 c i a2 h2 a3 h3 a4 h4 a5 h5 hc hd he x0 x1 acc = k0_pay4 (addf acc (k0_pay1 x0 x1)) := by
  unfold out0_C_2
  rw [View.read_writes_eq_canon _ _ _ (cover0_C_2 c i a2 h2 a3 h3 a4 h4 a5 h5 hc hd he x0 x1 acc)]
  unfold kernelRun0_C
  dsimp only
  sl_unfold_words
  rw [View.canon_unit_zero hz3]
  unfold k0_pay3
  simp only [View.readAt_eq_ld, h2.read_unread, h3.read_unread, h5.read_unread, View.ld_unit_zero (S := S1408x2048) hz2,
    View.ld_unit_zero (S := S1x1408x704) hz3, View.ld_unit_zero (S := S704x2048) hz2, shapeCast_self]
  exact congrArg k0_pay4 (View.readCov_cons_toLoadRect ..)

theorem sout_C (hc : ¬cond0_0 i) (hd : cond0_1 i) (he : cond0_2 i) :
    sout0_C_0 c i a2 h2 a3 h3 a4 h4 a5 h5 hc hd he x0 x1 acc = addf acc (k0_pay1 x0 x1) := by
  unfold sout0_C_0
  rw [View.read_writes_eq_canon _ _ _ (scover0_C_0 c i a2 h2 a3 h3 a4 h4 a5 h5 hc hd he x0 x1 acc)]
  unfold kernelRun0_C
  dsimp only
  sl_unfold_words
  rw [View.canon_unit_zero hz2]
  unfold k0_pay3
  simp only [View.readAt_eq_ld, h2.read_unread, h3.read_unread, h5.read_unread, View.ld_unit_zero (S := S1408x2048) hz2,
    View.ld_unit_zero (S := S1x1408x704) hz3, View.ld_unit_zero (S := S704x2048) hz2, shapeCast_self]
end Cases

/-! ## The input blocks at a point -/

section Blocks
variable (m : (ℓ : Loc nD τ sig) → Buf (Elt Ideal) ℓ) (c : Dev nD)

/-- The product's input and the cotangent of its result. -/
abbrev ah : Mat 8448 5632 := m ((c : Thread nD τ).loc main_arg0)
abbrev act : Mat 8448 2048 := m ((c : Thread nD τ).loc main_arg2)

/-- Point `n`'s block of rows and block of hidden columns. -/
def rowNo (n : ℕ) : Fin 6 := ⟨n % 6, Nat.mod_lt _ (by decide)⟩
def colNo (n : ℕ) (hn : n < cfg0.N) : Fin 8 := ⟨n / 6, by have : cfg0.N = 48 := N_0; omega⟩

theorem V1_at (b : Fin 8) (r : Fin 8448) (j : Fin 704) : V m c main_v1 (ix3 b r j) = ah m c (ix2 r (col b j)) := by
  have e : V m c main_v1 = (transpose S8x8448x704 [1, 0, 2] (shapeCast S8448x8x704 (ah m c)
      shapeCasts_S8448x5632_S8448x8x704) transposes_S8448x8x704_S8x8448x704_1_0_2 : S8x8448x704.Idx → EReal) := by
    unfold V
    after_results
    all_goals rfl
  rw [e]
  exact split_apply _ shapeCasts_S8448x5632_S8448x8x704 transposes_S8448x8x704_S8x8448x704_1_0_2 b r j

theorem iblk0_at (t : Fin cfg0.N) (u : Fin 1) (p : Fin 1408) (j : Fin 704) :
    iblk m c 0 t (ix3 u p j) = ah m c (ix2 (rowB (rowNo t.val) p) (col (colNo t.val t.isLt) j)) := by
  have hi : win0_0.index t 0 = t.val / 6 ∧ win0_0.index t 1 = t.val % 6 ∧ win0_0.index t 2 = 0 :=
    (by decide +kernel : ∀ t : Fin grid0.N, win0_0.index t 0 = t.val / 6 ∧ win0_0.index t 1 = t.val % 6 ∧ win0_0.index t 2 = 0) t
  rw [← V1_at]
  unfold iblk
  rw [View.read_apply]
  show V m c main_v1 _ = _
  refine congrArg (V m c main_v1) (funext fun a => Fin.ext ?_)
  match a with
  | ⟨0, _⟩ => show win0_0.index t 0 * 1 + 1 * u.val = t.val / 6; rw [hi.1]; omega
  | ⟨1, _⟩ => show win0_0.index t 1 * 1408 + 1 * p.val = 1408 * (t.val % 6) + p.val; rw [hi.2.1]; omega
  | ⟨2, _⟩ => show win0_0.index t 2 * 704 + 1 * j.val = j.val; rw [hi.2.2]; omega

theorem iblk1_at (t : Fin cfg0.N) (p : Fin 1408) (d : Fin 2048) :
    iblk m c 1 t (ix2 p d) = act m c (ix2 (rowB (rowNo t.val) p) d) := by
  have hi : win0_1.index t 0 = t.val % 6 ∧ win0_1.index t 1 = 0 :=
    (by decide +kernel : ∀ t : Fin grid0.N, win0_1.index t 0 = t.val % 6 ∧ win0_1.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 1408 + 1 * p.val = 1408 * (t.val % 6) + p.val; rw [hi.1]; omega
  | ⟨1, _⟩ => show win0_1.index t 1 * 2048 + 1 * d.val = d.val; rw [hi.2]; omega

/-! ## The running sum -/

theorem share_at (t : Fin cfg0.N) (j : Fin 704) (d : Fin 2048) :
    k0_pay1 (iblk m c 0 t) (iblk m c 1 t) (ix2 j d)
      = tmmB (ah m c) (act m c) (rowNo t.val) (col (colNo t.val t.isLt) j) d := by
  rw [pay1_at]
  exact Finset.sum_congr rfl fun p _ =>
    congrArg₂ (HMul.hMul (α := EReal) (β := EReal) (γ := EReal)) (iblk0_at m c t 0 p j) (iblk1_at m c t p d)

theorem share_at' (n : ℕ) (hn : n < cfg0.N) (b : Fin 8) (k : ℕ) (hk : k < 6) (e : n = 6 * b.val + k) (j : Fin 704) (d : Fin 2048) :
    k0_pay1 (iblk m c 0 ⟨n, hn⟩) (iblk m c 1 ⟨n, hn⟩) (ix2 j d) = tmmN (ah m c) (act m c) (col b j) d k := by
  rw [share_at, tmmN, dif_pos hk]
  have h1 : rowNo n = ⟨k, hk⟩ := Fin.ext (by show n % 6 = k; omega)
  have h2 : colNo n hn = b := Fin.ext (by show n / 6 = b.val; omega)
  dsimp only
  rw [h1, h2]

/-- After point `6 b + k` the scratch holds row blocks `0` to `k`. -/
theorem acc_at (b : Fin 8) (j : Fin 704) (d : Fin 2048) : ∀ (k n : ℕ) (hn : n < cfg0.N), k < 6 → n = 6 * b.val + k →
    (outsAt0 m c n hn).2 (ix2 j d) = ∑ q ∈ Finset.range (k + 1), tmmN (ah m c) (act m c) (col b j) d q
  | 0, n, hn, hk, e => by
    rw [outsAt0_A m c ⟨n, hn⟩ (by dsimp only; omega) (by dsimp only; omega) (by dsimp only; omega)]
    dsimp only
    rw [sout_A, Finset.sum_range_one]
    exact share_at' m c n hn b 0 hk e j d
  | k + 1, n, hn, hk, e => by
    have h1 := acc_at b j d k (n - 1) (by omega) (by omega) (by omega)
    by_cases h5 : n % 6 = 5
    · rw [outsAt0_C m c ⟨n, hn⟩ (by dsimp only; omega) (by dsimp only; omega) h5]
      dsimp only
      rw [sout_C, addf_apply, Finset.sum_range_succ, h1]
      exact congrArg (_ + ·) (share_at' m c n hn b (k + 1) hk e j d)
    · rw [outsAt0_B m c ⟨n, hn⟩ (by dsimp only; omega) (by dsimp only; omega) h5]
      dsimp only
      rw [sout_B, addf_apply, Finset.sum_range_succ, h1]
      exact congrArg (_ + ·) (share_at' m c n hn b (k + 1) hk e j d)

/-- The block written back at the last row block of a hidden block. -/
theorem out_last (t : Fin cfg0.N) (ht : t.val % 6 = 5) (u : Fin 1) (j : Fin 704) (d : Fin 2048) :
    (outsAt0 m c t.val t.isLt).1 (ix3 u j d) = tmm (ah m c) (act m c) (col (colNo t.val t.isLt) j) d := by
  have h1 := acc_at m c (colNo t.val t.isLt) j d 5 t.val t.isLt (by decide) (by show t.val = 6 * (t.val / 6) + 5; omega)
  rw [sum_tmmN, outsAt0_C m c t (by omega) (by omega) ht] at h1
  rw [outsAt0_C m c t (by omega) (by omega) ht]
  dsimp only at h1 ⊢
  rw [sout_C] at h1
  rw [out_C, ← h1]
  exact pay4_at _ u j d

/-! ## The whole array -/

/-- The weight's gradient, in blocks of its rows. -/
def G2 : S8x704x2048.Idx → EReal := fun i => tmm (ah m c) (act m c) (col (i 0) (i 1)) (i 2)

theorem index2 : ∀ t : Fin grid0.N, win0_2.index t 0 = t.val / 6 ∧ win0_2.index t 1 = 0 ∧ win0_2.index t 2 = 0 := by
  decide +kernel

theorem xsize2 : ∀ t : Fin grid0.N, win0_2.xsize (grid0.coords t) 0 = 1 ∧ win0_2.xsize (grid0.coords t) 1 = 704
    ∧ win0_2.xsize (grid0.coords t) 2 = 2048 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1 := lt_of_lt_of_eq (i 0).isLt (xsize2 t).1
  have h1 : (i 1).val < 704 := lt_of_lt_of_eq (i 1).isLt (xsize2 t).2.1
  have h2 : (i 2).val < 2048 := lt_of_lt_of_eq (i 2).isLt (xsize2 t).2.2
  refine Eq.trans (b := (outsAt0 m c t.val t.isLt).1 (ix3 (⟨(i 0).val, h0⟩ : Fin 1) (⟨(i 1).val, h1⟩ : Fin 704) (⟨(i 2).val, h2⟩ : Fin 2048)))
    (congrArg _ (funext fun a => Fin.ext (by match a with | ⟨0, _⟩ => rfl | ⟨1, _⟩ => rfl | ⟨2, _⟩ => rfl))) ?_
  rw [out_last m c t ((flush0_2 t).mp hf)]
  refine congrArg₂ (tmm (ah m c) (act m c)) (congrArg₂ col (Fin.ext ?_) (Fin.ext ?_)) (Fin.ext ?_)
  · show t.val / 6 = win0_2.index t 0 * 1 + 1 * (i 0).val; rw [hi.1]; omega
  · show (i 1).val = win0_2.index t 1 * 704 + 1 * (i 1).val; rw [hi.2.1]; omega
  · show (i 2).val = win0_2.index t 2 * 2048 + 1 * (i 2).val; rw [hi.2.2]; omega

theorem final2 : (dats m 0 c).arrAt 2 cfg0.N = G2 m c :=
  (dats m 0 c).arrAt_eq_of_cover 2 (G2 m c) (flushed2_eq m c) fun i => by
    have h0 : (i 0 : Nat) < 8 := (i 0).isLt
    have h1 : (i 1 : Nat) < 704 := (i 1).isLt
    have h2 : (i 2 : Nat) < 2048 := (i 2).isLt
    have hN : cfg0.N = 48 := N_0
    obtain ⟨t, ht⟩ : ∃ t : Fin cfg0.N, t.val = 6 * (i 0 : Nat) + 5 := ⟨⟨6 * (i 0 : Nat) + 5, by omega⟩, rfl⟩
    refine ⟨t, (flush0_2 t).mpr (by omega), ?_⟩
    obtain ⟨a0, a1, a2⟩ := index2 t
    obtain ⟨b0, b1, b2⟩ := xsize2 t
    show i ∈ ((View.whole main_v2).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [a0, b0]; omega
    | ⟨1, _⟩ => show win0_2.index t 1 * 704 ≤ (i 1 : Nat) ∧ (i 1 : Nat) < win0_2.index t 1 * 704 + win0_2.xsize (grid0.coords t) 1
                rw [a1, b1]; omega
    | ⟨2, _⟩ => show win0_2.index t 2 * 2048 ≤ (i 2 : Nat) ∧ (i 2 : Nat) < win0_2.index t 2 * 2048 + win0_2.xsize (grid0.coords t) 2
                rw [a2, b2]; omega
end Blocks

/-! ## The reference -/

section Reference
open Cert.WgradOutReferenceIdeal.Read

theorem ref_at (x : Mat 8448 5632) (ct : Mat 8448 2048) (b : Fin 8) (j : Fin 704) (d : Fin 2048) :
    val_main_v7 (F := Ideal) x ct (ix3 b j d) = tmm x ct (col b j) d := by
  rw [val_main_v7_apply, val_main_v6_apply, val_main_v5_apply, val_main_v4_apply]
  refine Finset.sum_congr rfl fun k _ => ?_
  have e1 : idx_main_v6 (ix3 b j d) = ix2 (col b j) d := by
    funext a; apply Fin.ext
    have := b.isLt; have := d.isLt; have := j.isLt
    match a with
    | ⟨0, _⟩ => show ((b.val * 704 + j.val) * 2048 + d.val) / 2048 = 704 * b.val + j.val; omega
    | ⟨1, _⟩ => show ((b.val * 704 + j.val) * 2048 + d.val) % 2048 = d.val; omega
  rw [e1]
  have e2 : lidx_main_v4 (idx_main_v5 (ix2 (col b j) d)) k = ix2 k d := eq_ix2 _
  have e3 : ridx_main_v4 (idx_main_v5 (ix2 (col b j) d)) k = ix2 k (col b j) := eq_ix2 _
  rw [e2, e3]
  exact mul_comm _ _

theorem ref_eq (m : (ℓ : Loc Cert.WgradOutIdeal.nD Cert.WgradOutIdeal.τ Cert.WgradOutIdeal.sig) → Buf (Elt Ideal) ℓ)
    (c : Dev Cert.WgradOutIdeal.nD) : val_main_v7 (F := Ideal) (ah m c) (act m c) = G2 m c := by
  funext i
  obtain ⟨b, j, d, rfl⟩ : ∃ (b : Fin 8) (j : Fin 704) (d : Fin 2048), i = ix3 b j d := ⟨i 0, i 1, i 2, eq_ix3 i⟩
  exact ref_at (ah m c) (act m c) b j d
end Reference

attribute [local instance] Cert.WgradOut.Gen.facts Cert.WgradOutIdeal.Gen.facts Cert.WgradOutReferenceIdeal.Gen.facts

theorem algebraic : Cert.algebraic_WgradOutIdeal_WgradOutReferenceIdeal := by
  intro m g m' g' _ harg
  refine ⟨fun c => G2 m c, ?_, ?_⟩
  · refine (θ_run _ _ _).mono (fun r h c => ?_) (Cert.WgradOutIdeal.Value.run_blocks m g)
    obtain ⟨h0, ha⟩ := h c
    exact ⟨h0.trans (final2 m c), ha⟩
  · refine (θ_run _ _ _).mono (fun r h c => ?_) (Cert.WgradOutReferenceIdeal.Value.run (F := Ideal) m' g')
    obtain ⟨h0, ha⟩ := h c
    obtain ⟨e0, e1, e2⟩ := harg c
    refine ⟨(h0.trans ?_).trans (ref_eq m c), ha⟩
    rw [e0, e2]
    exact Cert.WgradOutReferenceIdeal.Read.val_main_v7_eq ..

end Ffn.WgradOut

end
-- ==== Proof.InEven.lean ====
/-
  The even layer's input projection: every grid point writes one block of rows and columns of the product.
-/
module

public import proofs.«01_k».proof.Proof.Projection
public import proofs.«01_k».proof.Defs
public import proofs.«01_k».proof.Proof.Gen.InEven
public import proofs.«01_k».proof.Proof.Gen.InEvenIdeal.Value
public import proofs.«01_k».proof.Proof.Gen.InEvenReferenceIdeal.Read
public import proofs.«01_k».proof.Proof.Gen.InEvenReferenceIdeal.Run
public import Idealize.ShloMosaic.Adequacy
public import Idealize.ShloMosaic.Lib.IdealHost
public import Idealize.ShloMosaic.Lib.Tactic

@[expose] public section

set_option maxRecDepth 16384

noncomputable section

namespace Proj.InEven

open Cert.InEvenIdeal Cert.InEvenIdeal.Gen Idealize.ShloMosaic Idealize.ShloMosaic.TcCoe Idealize.SL.Sem
open Idealize.ShloMosaic.ValueIdx Ffn
open Idealize.ShloMosaic.Pipeline (Dat)

/-- Column `j` of block `b` among the 6144. -/
abbrev colE (b : Fin 8) (j : Fin 768) : Fin 6144 := Proj.col (N := 6144) rfl b j

theorem out2_at (x0 : Vec Ideal S1408x2048 .bf16) (x1 : Vec Ideal S1x2048x768 .bf16) (p : Fin 1408) (j : Fin 768) :
    out0_2 x0 x1 (ix2 p j) = ∑ k : Fin 2048, x0 (ix2 p k) * x1 (ix3 (0 : Fin 1) k j) := by
  unfold out0_2
  rw [View.canon_unit_zero hz2, View.ld_unit_zero (S := S1408x2048) hz2, View.ld_unit_zero (S := S1x2048x768) hz3]
  refine (Ideal.matmul_plain_apply (M := 1408) (K := 2048) (N := 768) (φ₁ := .bf16) (φ₂ := .bf16) none x0
    (shapeCast S2048x768 x1 shapeCasts_S1x2048x768_S2048x768) _ p j).trans ?_
  rw [constant_apply, Ideal.ofBits_zero_f32, zero_add]
  exact Finset.sum_congr rfl fun k _ => congrArg (x0 (ix2 p k) * ·) (shapeCast_1ab_ab_apply x1 _ k j)

section Blocks
variable (m : (ℓ : Loc nD τ sig) → Buf (Elt Ideal) ℓ) (c : Dev nD)

/-- The layer's input and the weight. -/
abbrev ah : Mat 8448 2048 := m ((c : Thread nD τ).loc main_arg0)
abbrev aw : Mat 2048 6144 := m ((c : Thread nD τ).loc main_arg1)

/-- Point `n`'s block of rows. -/
def rblk (n : ℕ) (hn : n < cfg0.N) : Fin 6 := ⟨n / 8, by have : cfg0.N = 48 := N_0; omega⟩

theorem V1_at (b : Fin 8) (r : Fin 2048) (j : Fin 768) : V m c main_v1 (ix3 b r j) = aw m c (ix2 r (colE b j)) := by
  have e : V m c main_v1 = (transpose S8x2048x768 [1, 0, 2] (shapeCast S2048x8x768 (aw m c)
      shapeCasts_S2048x6144_S2048x8x768) transposes_S2048x8x768_S8x2048x768_1_0_2 : S8x2048x768.Idx → EReal) := by
    unfold V
    after_results
    all_goals rfl
  rw [e]
  exact split_apply rfl _ shapeCasts_S2048x6144_S2048x8x768 transposes_S2048x8x768_S8x2048x768_1_0_2 b r j

theorem iblk0_at (t : Fin cfg0.N) (p : Fin 1408) (k : Fin 2048) :
    iblk m c 0 t (ix2 p k) = ah m c (ix2 (rowB (rblk t.val t.isLt) p) k) := by
  have hi : win0_0.index t 0 = t.val / 8 ∧ win0_0.index t 1 = 0 :=
    (by decide +kernel : ∀ t : Fin grid0.N, win0_0.index t 0 = t.val / 8 ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1408 + 1 * p.val = 1408 * (t.val / 8) + p.val; rw [hi.1]; omega
  | ⟨1, _⟩ => show win0_0.index t 1 * 2048 + 1 * k.val = k.val; rw [hi.2]; omega

theorem iblk1_at (t : Fin cfg0.N) (u : Fin 1) (d : Fin 2048) (j : Fin 768) :
    iblk m c 1 t (ix3 u d j) = aw m c (ix2 d (colE (blkNo t.val) j)) := by
  have hi : win0_1.index t 0 = t.val % 8 ∧ win0_1.index t 1 = 0 ∧ win0_1.index t 2 = 0 :=
    (by decide +kernel : ∀ t : Fin grid0.N, win0_1.index t 0 = t.val % 8 ∧ win0_1.index t 1 = 0 ∧ win0_1.index t 2 = 0) t
  rw [← V1_at]
  unfold iblk
  rw [View.read_apply]
  show V m c main_v1 _ = _
  refine congrArg (V m c main_v1) (funext fun a => Fin.ext ?_)
  match a with
  | ⟨0, _⟩ => show win0_1.index t 0 * 1 + 1 * u.val = t.val % 8; rw [hi.1]; omega
  | ⟨1, _⟩ => show win0_1.index t 1 * 2048 + 1 * d.val = d.val; rw [hi.2.1]; omega
  | ⟨2, _⟩ => show win0_1.index t 2 * 768 + 1 * j.val = j.val; rw [hi.2.2]; omega

/-- The projection. -/
def G2 : S8448x6144.Idx → EReal := fun i => mm (ah m c) (aw m c) (i 0) (i 1)

theorem index2 : ∀ t : Fin grid0.N, win0_2.index t 0 = t.val / 8 ∧ win0_2.index t 1 = t.val % 8 := by
  decide +kernel

theorem xsize2 : ∀ t : Fin grid0.N, win0_2.xsize (grid0.coords t) 0 = 1408 ∧ win0_2.xsize (grid0.coords t) 1 = 768 := by
  decide +kernel

theorem flushed2_eq (t : Fin cfg0.N) : (dats m 0 c).flushed 2 t = ((cfg0.win 2).blk t).view.read (Elt Ideal) (G2 m c) := by
  have hi := index2 t
  rw [Value.flushed2]
  funext i
  rw [View.read_apply]
  have h0 : (i 0).val < 1408 := lt_of_lt_of_eq (i 0).isLt (xsize2 t).1
  have h1 : (i 1).val < 768 := lt_of_lt_of_eq (i 1).isLt (xsize2 t).2
  refine Eq.trans (b := out0_2 (iblk m c 0 t) (iblk m c 1 t) (ix2 (⟨(i 0).val, h0⟩ : Fin 1408) (⟨(i 1).val, h1⟩ : Fin 768)))
    (congrArg (out0_2 (iblk m c 0 t) (iblk m c 1 t)) (funext fun a => Fin.ext (by match a with | ⟨0, _⟩ => rfl | ⟨1, _⟩ => rfl))) ?_
  rw [out2_at]
  refine (Finset.sum_congr rfl fun k _ => congrArg₂ (HMul.hMul (α := EReal) (β := EReal) (γ := EReal))
    (iblk0_at m c t _ k) (iblk1_at m c t 0 k _)).trans ?_
  refine congrArg₂ (mm (ah m c) (aw m c)) (Fin.ext ?_) (Fin.ext ?_)
  · show 1408 * (t.val / 8) + (i 0).val = win0_2.index t 0 * 1408 + 1 * (i 0).val; rw [hi.1]; omega
  · show 768 * (t.val % 8) + (i 1).val = win0_2.index t 1 * 768 + 1 * (i 1).val; rw [hi.2]; omega

theorem final2 : (dats m 0 c).arrAt 2 cfg0.N = G2 m c :=
  (dats m 0 c).arrAt_eq_of_cover 2 (G2 m c) (fun t _ => flushed2_eq m c t) fun i => by
    have h0 : (i 0 : Nat) < 8448 := (i 0).isLt
    have h1 : (i 1 : Nat) < 6144 := (i 1).isLt
    have hN : cfg0.N = 48 := N_0
    obtain ⟨t, ht⟩ : ∃ t : Fin cfg0.N, t.val = 8 * ((i 0 : Nat) / 1408) + (i 1 : Nat) / 768 :=
      ⟨⟨8 * ((i 0 : Nat) / 1408) + (i 1 : Nat) / 768, by omega⟩, rfl⟩
    refine ⟨t, flush0_2 t, ?_⟩
    obtain ⟨a0, a1⟩ := index2 t
    obtain ⟨b0, b1⟩ := xsize2 t
    show i ∈ ((View.whole main_v2).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + win0_2.xsize (grid0.coords t) 0
                rw [a0, b0]; omega
    | ⟨1, _⟩ => show win0_2.index t 1 * 768 ≤ (i 1 : Nat) ∧ (i 1 : Nat) < win0_2.index t 1 * 768 + win0_2.xsize (grid0.coords t) 1
                rw [a1, b1]; omega
end Blocks

section Reference
open Cert.InEvenReferenceIdeal.Read

theorem ref_at (h : Mat 8448 2048) (w : Mat 2048 6144) (r : Fin 8448) (f : Fin 6144) :
    val_main_v2 (F := Ideal) h w (ix2 r f) = mm h w r f := by
  rw [val_main_v2_apply]
  refine Finset.sum_congr rfl fun k _ => ?_
  have el : lidx_main_v2 (ix2 r f) k = ix2 r k := eq_ix2 _
  have er : ridx_main_v2 (ix2 r f) k = ix2 k f := eq_ix2 _
  rw [el, er]
  rfl

theorem ref_eq (m : (ℓ : Loc Cert.InEvenIdeal.nD Cert.InEvenIdeal.τ Cert.InEvenIdeal.sig) → Buf (Elt Ideal) ℓ)
    (c : Dev Cert.InEvenIdeal.nD) : val_main_v2 (F := Ideal) (ah m c) (aw m c) = G2 m c := by
  funext i
  obtain ⟨r, f, rfl⟩ : ∃ (r : Fin 8448) (f : Fin 6144), i = ix2 r f := ⟨i 0, i 1, eq_ix2 i⟩
  exact ref_at (ah m c) (aw m c) r f
end Reference

attribute [local instance] Cert.InEven.Gen.facts Cert.InEvenIdeal.Gen.facts Cert.InEvenReferenceIdeal.Gen.facts

theorem algebraic : Cert.algebraic_InEvenIdeal_InEvenReferenceIdeal := by
  intro m g m' g' _ harg
  refine ⟨fun c => G2 m c, ?_, ?_⟩
  · refine (θ_run _ _ _).mono (fun r h c => ?_) (Cert.InEvenIdeal.Value.run_blocks m g)
    obtain ⟨h0, ha⟩ := h c
    exact ⟨h0.trans (final2 m c), ha⟩
  · refine (θ_run _ _ _).mono (fun r h c => ?_) (Cert.InEvenReferenceIdeal.Value.run (F := Ideal) m' g')
    obtain ⟨h0, ha⟩ := h c
    obtain ⟨e0, e1⟩ := harg c
    refine ⟨(h0.trans ?_).trans (ref_eq m c), ha⟩
    rw [e0, e1]
    exact Cert.InEvenReferenceIdeal.Read.val_main_v2_eq ..

end Proj.InEven

end
-- ==== Proof.InOdd.lean ====
/-
  The odd layer's input projection: every grid point writes one block of rows and columns of the product.
-/
module

public import proofs.«01_k».proof.Proof.Projection
public import proofs.«01_k».proof.Defs
public import proofs.«01_k».proof.Proof.Gen.InOdd
public import proofs.«01_k».proof.Proof.Gen.InOddIdeal.Value
public import proofs.«01_k».proof.Proof.Gen.InOddReferenceIdeal.Read
public import proofs.«01_k».proof.Proof.Gen.InOddReferenceIdeal.Run
public import Idealize.ShloMosaic.Adequacy
public import Idealize.ShloMosaic.Lib.IdealHost
public import Idealize.ShloMosaic.Lib.Tactic

@[expose] public section

set_option maxRecDepth 16384

noncomputable section

namespace Proj.InOdd

open Cert.InOddIdeal Cert.InOddIdeal.Gen Idealize.ShloMosaic Idealize.ShloMosaic.TcCoe Idealize.SL.Sem
open Idealize.ShloMosaic.ValueIdx Ffn
open Idealize.ShloMosaic.Pipeline (Dat)

/-- Column `j` of block `b` among the 3072. -/
abbrev colO (b : Fin 8) (j : Fin 384) : Fin 3072 := Proj.col (N := 3072) rfl b j

theorem out2_at (x0 : Vec Ideal S1408x2048 .bf16) (x1 : Vec Ideal S1x2048x384 .bf16) (p : Fin 1408) (j : Fin 384) :
    out0_2 x0 x1 (ix2 p j) = ∑ k : Fin 2048, x0 (ix2 p k) * x1 (ix3 (0 : Fin 1) k j) := by
  unfold out0_2
  rw [View.canon_unit_zero hz2, View.ld_unit_zero (S := S1408x2048) hz2, View.ld_unit_zero (S := S1x2048x384) hz3]
  refine (Ideal.matmul_plain_apply (M := 1408) (K := 2048) (N := 384) (φ₁ := .bf16) (φ₂ := .bf16) none x0
    (shapeCast S2048x384 x1 shapeCasts_S1x2048x384_S2048x384) _ p j).trans ?_
  rw [constant_apply, Ideal.ofBits_zero_f32, zero_add]
  exact Finset.sum_congr rfl fun k _ => congrArg (x0 (ix2 p k) * ·) (shapeCast_1ab_ab_apply x1 _ k j)

section Blocks
variable (m : (ℓ : Loc nD τ sig) → Buf (Elt Ideal) ℓ) (c : Dev nD)

/-- The layer's input and the weight. -/
abbrev ah : Mat 8448 2048 := m ((c : Thread nD τ).loc main_arg0)
abbrev aw : Mat 2048 3072 := m ((c : Thread nD τ).loc main_arg1)

/-- Point `n`'s block of rows. -/
def rblk (n : ℕ) (hn : n < cfg0.N) : Fin 6 := ⟨n / 8, by have : cfg0.N = 48 := N_0; omega⟩

theorem V1_at (b : Fin 8) (r : Fin 2048) (j : Fin 384) : V m c main_v1 (ix3 b r j) = aw m c (ix2 r (colO b j)) := by
  have e : V m c main_v1 = (transpose S8x2048x384 [1, 0, 2] (shapeCast S2048x8x384 (aw m c)
      shapeCasts_S2048x3072_S2048x8x384) transposes_S2048x8x384_S8x2048x384_1_0_2 : S8x2048x384.Idx → EReal) := by
    unfold V
    after_results
    all_goals rfl
  rw [e]
  exact split_apply rfl _ shapeCasts_S2048x3072_S2048x8x384 transposes_S2048x8x384_S8x2048x384_1_0_2 b r j

theorem iblk0_at (t : Fin cfg0.N) (p : Fin 1408) (k : Fin 2048) :
    iblk m c 0 t (ix2 p k) = ah m c (ix2 (rowB (rblk t.val t.isLt) p) k) := by
  have hi : win0_0.index t 0 = t.val / 8 ∧ win0_0.index t 1 = 0 :=
    (by decide +kernel : ∀ t : Fin grid0.N, win0_0.index t 0 = t.val / 8 ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1408 + 1 * p.val = 1408 * (t.val / 8) + p.val; rw [hi.1]; omega
  | ⟨1, _⟩ => show win0_0.index t 1 * 2048 + 1 * k.val = k.val; rw [hi.2]; omega

theorem iblk1_at (t : Fin cfg0.N) (u : Fin 1) (d : Fin 2048) (j : Fin 384) :
    iblk m c 1 t (ix3 u d j) = aw m c (ix2 d (colO (blkNo t.val) j)) := by
  have hi : win0_1.index t 0 = t.val % 8 ∧ win0_1.index t 1 = 0 ∧ win0_1.index t 2 = 0 :=
    (by decide +kernel : ∀ t : Fin grid0.N, win0_1.index t 0 = t.val % 8 ∧ win0_1.index t 1 = 0 ∧ win0_1.index t 2 = 0) t
  rw [← V1_at]
  unfold iblk
  rw [View.read_apply]
  show V m c main_v1 _ = _
  refine congrArg (V m c main_v1) (funext fun a => Fin.ext ?_)
  match a with
  | ⟨0, _⟩ => show win0_1.index t 0 * 1 + 1 * u.val = t.val % 8; rw [hi.1]; omega
  | ⟨1, _⟩ => show win0_1.index t 1 * 2048 + 1 * d.val = d.val; rw [hi.2.1]; omega
  | ⟨2, _⟩ => show win0_1.index t 2 * 384 + 1 * j.val = j.val; rw [hi.2.2]; omega

/-- The projection. -/
def G2 : S8448x3072.Idx → EReal := fun i => mm (ah m c) (aw m c) (i 0) (i 1)

theorem index2 : ∀ t : Fin grid0.N, win0_2.index t 0 = t.val / 8 ∧ win0_2.index t 1 = t.val % 8 := by
  decide +kernel

theorem xsize2 : ∀ t : Fin grid0.N, win0_2.xsize (grid0.coords t) 0 = 1408 ∧ win0_2.xsize (grid0.coords t) 1 = 384 := by
  decide +kernel

theorem flushed2_eq (t : Fin cfg0.N) : (dats m 0 c).flushed 2 t = ((cfg0.win 2).blk t).view.read (Elt Ideal) (G2 m c) := by
  have hi := index2 t
  rw [Value.flushed2]
  funext i
  rw [View.read_apply]
  have h0 : (i 0).val < 1408 := lt_of_lt_of_eq (i 0).isLt (xsize2 t).1
  have h1 : (i 1).val < 384 := lt_of_lt_of_eq (i 1).isLt (xsize2 t).2
  refine Eq.trans (b := out0_2 (iblk m c 0 t) (iblk m c 1 t) (ix2 (⟨(i 0).val, h0⟩ : Fin 1408) (⟨(i 1).val, h1⟩ : Fin 384)))
    (congrArg (out0_2 (iblk m c 0 t) (iblk m c 1 t)) (funext fun a => Fin.ext (by match a with | ⟨0, _⟩ => rfl | ⟨1, _⟩ => rfl))) ?_
  rw [out2_at]
  refine (Finset.sum_congr rfl fun k _ => congrArg₂ (HMul.hMul (α := EReal) (β := EReal) (γ := EReal))
    (iblk0_at m c t _ k) (iblk1_at m c t 0 k _)).trans ?_
  refine congrArg₂ (mm (ah m c) (aw m c)) (Fin.ext ?_) (Fin.ext ?_)
  · show 1408 * (t.val / 8) + (i 0).val = win0_2.index t 0 * 1408 + 1 * (i 0).val; rw [hi.1]; omega
  · show 384 * (t.val % 8) + (i 1).val = win0_2.index t 1 * 384 + 1 * (i 1).val; rw [hi.2]; omega

theorem final2 : (dats m 0 c).arrAt 2 cfg0.N = G2 m c :=
  (dats m 0 c).arrAt_eq_of_cover 2 (G2 m c) (fun t _ => flushed2_eq m c t) fun i => by
    have h0 : (i 0 : Nat) < 8448 := (i 0).isLt
    have h1 : (i 1 : Nat) < 3072 := (i 1).isLt
    have hN : cfg0.N = 48 := N_0
    obtain ⟨t, ht⟩ : ∃ t : Fin cfg0.N, t.val = 8 * ((i 0 : Nat) / 1408) + (i 1 : Nat) / 384 :=
      ⟨⟨8 * ((i 0 : Nat) / 1408) + (i 1 : Nat) / 384, by omega⟩, rfl⟩
    refine ⟨t, flush0_2 t, ?_⟩
    obtain ⟨a0, a1⟩ := index2 t
    obtain ⟨b0, b1⟩ := xsize2 t
    show i ∈ ((View.whole main_v2).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + win0_2.xsize (grid0.coords t) 0
                rw [a0, b0]; omega
    | ⟨1, _⟩ => show win0_2.index t 1 * 384 ≤ (i 1 : Nat) ∧ (i 1 : Nat) < win0_2.index t 1 * 384 + win0_2.xsize (grid0.coords t) 1
                rw [a1, b1]; omega
end Blocks

section Reference
open Cert.InOddReferenceIdeal.Read

theorem ref_at (h : Mat 8448 2048) (w : Mat 2048 3072) (r : Fin 8448) (f : Fin 3072) :
    val_main_v2 (F := Ideal) h w (ix2 r f) = mm h w r f := by
  rw [val_main_v2_apply]
  refine Finset.sum_congr rfl fun k _ => ?_
  have el : lidx_main_v2 (ix2 r f) k = ix2 r k := eq_ix2 _
  have er : ridx_main_v2 (ix2 r f) k = ix2 k f := eq_ix2 _
  rw [el, er]
  rfl

theorem ref_eq (m : (ℓ : Loc Cert.InOddIdeal.nD Cert.InOddIdeal.τ Cert.InOddIdeal.sig) → Buf (Elt Ideal) ℓ)
    (c : Dev Cert.InOddIdeal.nD) : val_main_v2 (F := Ideal) (ah m c) (aw m c) = G2 m c := by
  funext i
  obtain ⟨r, f, rfl⟩ : ∃ (r : Fin 8448) (f : Fin 3072), i = ix2 r f := ⟨i 0, i 1, eq_ix2 i⟩
  exact ref_at (ah m c) (aw m c) r f
end Reference

attribute [local instance] Cert.InOdd.Gen.facts Cert.InOddIdeal.Gen.facts Cert.InOddReferenceIdeal.Gen.facts

theorem algebraic : Cert.algebraic_InOddIdeal_InOddReferenceIdeal := by
  intro m g m' g' _ harg
  refine ⟨fun c => G2 m c, ?_, ?_⟩
  · refine (θ_run _ _ _).mono (fun r h c => ?_) (Cert.InOddIdeal.Value.run_blocks m g)
    obtain ⟨h0, ha⟩ := h c
    exact ⟨h0.trans (final2 m c), ha⟩
  · refine (θ_run _ _ _).mono (fun r h c => ?_) (Cert.InOddReferenceIdeal.Value.run (F := Ideal) m' g')
    obtain ⟨h0, ha⟩ := h c
    obtain ⟨e0, e1⟩ := harg c
    refine ⟨(h0.trans ?_).trans (ref_eq m c), ha⟩
    rw [e0, e1]
    exact Cert.InOddReferenceIdeal.Read.val_main_v2_eq ..

end Proj.InOdd

end
-- ==== Proof.InEvenGrad.lean ====
/-
  The gradient of the even layer's input projection at its input: one row block's result is summed over the eight
  blocks of columns.
-/
module

public import proofs.«01_k».proof.Proof.Projection
public import proofs.«01_k».proof.Defs
public import proofs.«01_k».proof.Proof.Gen.InEvenGrad
public import proofs.«01_k».proof.Proof.Gen.InEvenGradIdeal.Value
public import proofs.«01_k».proof.Proof.Gen.InEvenGradReferenceIdeal.Read
public import proofs.«01_k».proof.Proof.Gen.InEvenGradReferenceIdeal.Run
public import Idealize.ShloMosaic.Adequacy
public import Idealize.ShloMosaic.Lib.IdealHost
public import Idealize.ShloMosaic.Lib.Tactic

@[expose] public section

set_option maxRecDepth 16384

noncomputable section

namespace Proj.InEvenGrad

open Cert.InEvenGradIdeal Cert.InEvenGradIdeal.Gen Idealize.ShloMosaic Idealize.ShloMosaic.TcCoe Idealize.SL.Sem
open Idealize.ShloMosaic.ValueIdx Ffn
open Idealize.ShloMosaic.Pipeline (Dat)

/-- Column `j` of block `b` among the 6144. -/
abbrev colE (b : Fin 8) (j : Fin 768) : Fin 6144 := Proj.col (N := 6144) rfl b j

section Cases
variable (c : Dev nD) (i : grid0.Coords)
  (a2 : Memref sig .tc .vmem S1408x768 .f32) (h2 : a2.IsWhole) (a3 : Memref sig .tc .vmem S1x2048x768 .bf16) (h3 : a3.IsWhole)
  (a4 : Memref sig .tc .vmem S1408x2048 .f32) (h4 : a4.IsWhole)
  (x0 : Vec Ideal S1408x768 .f32) (x1 : Vec Ideal S1x2048x768 .bf16) (acc : Vec Ideal S1408x2048 .f32)

theorem pay1_at (p : Fin 1408) (d : Fin 2048) :
    k0_pay1 x0 x1 (ix2 p d) = ∑ j : Fin 768, x0 (ix2 p j) * x1 (ix3 (0 : Fin 1) d j) := by
  refine (Ideal.matmul_transposedRhs_apply (M := 1408) (K := 768) (N := 2048) none
    (truncf .bf16 x0 bitsLt_bf16_f32 : FVec Ideal S1408x768 .bf16)
    (shapeCast S2048x768 x1 shapeCasts_S1x2048x768_S2048x768) _ p d).trans ?_
  rw [constant_apply, Ideal.ofBits_zero_f32, zero_add]
  exact Finset.sum_congr rfl fun j _ => congrArg (x0 (ix2 p j) * ·) (shapeCast_1ab_ab_apply x1 _ d j)

theorem out_A (hc : cond0_0 i) (hd : ¬cond0_1 i) : out0_A_2 c i a2 h2 a3 h3 a4 h4 hc hd x0 x1 = k0_pay1 x0 x1 := by
  unfold out0_A_2
  rw [View.read_writes_eq_canon _ _ _ (cover0_A_2 c i a2 h2 a3 h3 a4 h4 hc hd x0 x1)]
  unfold kernelRun0_A
  dsimp only
  sl_unfold_words
  rw [View.canon_unit_zero hz2]
  simp only [View.readAt_eq_ld, h2.read_unread, h3.read_unread, View.ld_unit_zero (S := S1408x768) hz2,
    View.ld_unit_zero (S := S1x2048x768) hz3, shapeCast_self]

theorem out_B (hc : ¬cond0_0 i) (hd : cond0_1 i) :
    out0_B_2 c i a2 h2 a3 h3 a4 h4 hc hd x0 x1 acc = addf acc (k0_pay1 x0 x1) := by
  unfold out0_B_2
  rw [View.read_writes_eq_canon _ _ _ (cover0_B_2 c i a2 h2 a3 h3 a4 h4 hc hd x0 x1 acc)]
  unfold kernelRun0_B
  dsimp only
  sl_unfold_words
  rw [View.canon_unit_zero hz2]
  unfold k0_pay2
  simp only [View.readAt_eq_ld, h2.read_unread, h3.read_unread, h4.read_unread, View.ld_unit_zero (S := S1408x768) hz2,
    View.ld_unit_zero (S := S1x2048x768) hz3, View.ld_unit_zero (S := S1408x2048) hz2, shapeCast_self]
end Cases

section Blocks
variable (m : (ℓ : Loc nD τ sig) → Buf (Elt Ideal) ℓ) (c : Dev nD)

/-- The weight and the cotangent of the projection. -/
abbrev aw : Mat 2048 6144 := m ((c : Thread nD τ).loc main_arg1)
abbrev act : Mat 8448 6144 := m ((c : Thread nD τ).loc main_arg2)

/-- Point `n`'s block of rows. -/
def rblk (n : ℕ) (hn : n < cfg0.N) : Fin 6 := ⟨n / 8, by have : cfg0.N = 48 := N_0; omega⟩

theorem V1_at (b : Fin 8) (r : Fin 2048) (j : Fin 768) : V m c main_v1 (ix3 b r j) = aw m c (ix2 r (colE b j)) := by
  have e : V m c main_v1 = (transpose S8x2048x768 [1, 0, 2] (shapeCast S2048x8x768 (aw m c)
      shapeCasts_S2048x6144_S2048x8x768) transposes_S2048x8x768_S8x2048x768_1_0_2 : S8x2048x768.Idx → EReal) := by
    unfold V
    after_results
    all_goals rfl
  rw [e]
  exact split_apply rfl _ shapeCasts_S2048x6144_S2048x8x768 transposes_S2048x8x768_S8x2048x768_1_0_2 b r j

theorem iblk0_at (t : Fin cfg0.N) (p : Fin 1408) (j : Fin 768) :
    iblk m c 0 t (ix2 p j) = act m c (ix2 (rowB (rblk t.val t.isLt) p) (colE (blkNo t.val) j)) := by
  have hi : win0_0.index t 0 = t.val / 8 ∧ win0_0.index t 1 = t.val % 8 :=
    (by decide +kernel : ∀ t : Fin grid0.N, win0_0.index t 0 = t.val / 8 ∧ win0_0.index t 1 = t.val % 8) t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 1408 + 1 * p.val = 1408 * (t.val / 8) + p.val; rw [hi.1]; omega
  | ⟨1, _⟩ => show win0_0.index t 1 * 768 + 1 * j.val = 768 * (t.val % 8) + j.val; rw [hi.2]; omega

theorem iblk1_at (t : Fin cfg0.N) (u : Fin 1) (d : Fin 2048) (j : Fin 768) :
    iblk m c 1 t (ix3 u d j) = aw m c (ix2 d (colE (blkNo t.val) j)) := by
  have hi : win0_1.index t 0 = t.val % 8 ∧ win0_1.index t 1 = 0 ∧ win0_1.index t 2 = 0 :=
    (by decide +kernel : ∀ t : Fin grid0.N, win0_1.index t 0 = t.val % 8 ∧ win0_1.index t 1 = 0 ∧ win0_1.index t 2 = 0) t
  rw [← V1_at]
  unfold iblk
  rw [View.read_apply]
  show V m c main_v1 _ = _
  refine congrArg (V m c main_v1) (funext fun a => Fin.ext ?_)
  match a with
  | ⟨0, _⟩ => show win0_1.index t 0 * 1 + 1 * u.val = t.val % 8; rw [hi.1]; omega
  | ⟨1, _⟩ => show win0_1.index t 1 * 2048 + 1 * d.val = d.val; rw [hi.2.1]; omega
  | ⟨2, _⟩ => show win0_1.index t 2 * 768 + 1 * j.val = j.val; rw [hi.2.2]; omega

theorem share_at (t : Fin cfg0.N) (b : Fin 8) (hb : t.val % 8 = b.val) (p : Fin 1408) (d : Fin 2048) :
    k0_pay1 (iblk m c 0 t) (iblk m c 1 t) (ix2 p d)
      = shareN (n := 768) rfl (act m c) (aw m c) (rowB (rblk t.val t.isLt) p) d b.val := by
  have h : blkNo t.val = b := Fin.ext hb
  rw [pay1_at, shareN, dif_pos b.isLt, ← h]
  exact Finset.sum_congr rfl fun j _ =>
    congrArg₂ (HMul.hMul (α := EReal) (β := EReal) (γ := EReal)) (iblk0_at m c t p j) (iblk1_at m c t 0 d j)

/-- After point `8 i + k` the result's block holds column blocks `0` to `k`. -/
theorem acc_at (i : ℕ) (p : Fin 1408) (d : Fin 2048) : ∀ (k n : ℕ) (hn : n < cfg0.N), k < 8 → n = 8 * i + k →
    outsAt0 m c n hn (ix2 p d)
      = ∑ b ∈ Finset.range (k + 1), shareN (n := 768) rfl (act m c) (aw m c) (rowB (rblk n hn) p) d b
  | 0, n, hn, _, e => by
    rw [outsAt0_A m c ⟨n, hn⟩ (by dsimp only; omega) (by dsimp only; omega), out_A, Finset.sum_range_one]
    exact share_at m c ⟨n, hn⟩ 0 (by show n % 8 = 0; omega) p d
  | k + 1, n, hn, hk, e => by
    have h1 := acc_at i p d k (n - 1) (by omega) (by omega) (by omega)
    have hrow : rblk (n - 1) (by omega) = rblk n hn := Fin.ext (by show (n - 1) / 8 = n / 8; omega)
    rw [outsAt0_B m c ⟨n, hn⟩ (by dsimp only; omega) (by dsimp only; omega), out_B, addf_apply, Finset.sum_range_succ, h1, hrow]
    exact congrArg (_ + ·) (share_at m c ⟨n, hn⟩ ⟨k + 1, hk⟩ (by show n % 8 = k + 1; omega) p d)

/-- At the last column block the result is complete. -/
theorem acc_last (t : Fin cfg0.N) (ht : t.val % 8 = 7) (p : Fin 1408) (d : Fin 2048) :
    outsAt0 m c t.val t.isLt (ix2 p d) = mmT (act m c) (aw m c) (rowB (rblk t.val t.isLt) p) d :=
  (acc_at m c (t.val / 8) p d 7 t.val t.isLt (by decide) (by omega)).trans (sum_shareN rfl _ _ _ _)

/-- The gradient at the projection's input. -/
def G2 : S8448x2048.Idx → EReal := fun i => mmT (act m c) (aw m c) (i 0) (i 1)

theorem index2 : ∀ t : Fin grid0.N, win0_2.index t 0 = t.val / 8 ∧ win0_2.index t 1 = 0 := by
  decide +kernel

theorem xsize2 : ∀ t : Fin grid0.N, win0_2.xsize (grid0.coords t) 0 = 1408 ∧ win0_2.xsize (grid0.coords t) 1 = 2048 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1408 := lt_of_lt_of_eq (i 0).isLt (xsize2 t).1
  have h1 : (i 1).val < 2048 := lt_of_lt_of_eq (i 1).isLt (xsize2 t).2
  refine Eq.trans (b := outsAt0 m c t.val t.isLt (ix2 (⟨(i 0).val, h0⟩ : Fin 1408) (⟨(i 1).val, h1⟩ : Fin 2048)))
    (congrArg (outsAt0 m c t.val t.isLt) (funext fun a => Fin.ext (by match a with | ⟨0, _⟩ => rfl | ⟨1, _⟩ => rfl))) ?_
  rw [acc_last m c t ((flush0_2 t).mp hf)]
  refine congrArg₂ (mmT (act m c) (aw m c)) (Fin.ext ?_) (Fin.ext ?_)
  · show 1408 * (t.val / 8) + (i 0).val = win0_2.index t 0 * 1408 + 1 * (i 0).val; rw [hi.1]; omega
  · show (i 1).val = win0_2.index t 1 * 2048 + 1 * (i 1).val; rw [hi.2]; omega

theorem final2 : (dats m 0 c).arrAt 2 cfg0.N = G2 m c :=
  (dats m 0 c).arrAt_eq_of_cover 2 (G2 m c) (flushed2_eq m c) fun i => by
    have h0 : (i 0 : Nat) < 8448 := (i 0).isLt
    have h1 : (i 1 : Nat) < 2048 := (i 1).isLt
    have hN : cfg0.N = 48 := N_0
    obtain ⟨t, ht⟩ : ∃ t : Fin cfg0.N, t.val = 8 * ((i 0 : Nat) / 1408) + 7 := ⟨⟨8 * ((i 0 : Nat) / 1408) + 7, by omega⟩, rfl⟩
    refine ⟨t, (flush0_2 t).mpr (by omega), ?_⟩
    obtain ⟨a0, a1⟩ := index2 t
    obtain ⟨b0, b1⟩ := xsize2 t
    show i ∈ ((View.whole main_v2).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
end Blocks

section Reference
open Cert.InEvenGradReferenceIdeal.Read

theorem ref_at (w : Mat 2048 6144) (ct : Mat 8448 6144) (r : Fin 8448) (d : Fin 2048) :
    val_main_v3 (F := Ideal) w ct (ix2 r d) = mmT ct w r d := by
  rw [val_main_v3_apply]
  refine Finset.sum_congr rfl fun k _ => ?_
  have el : lidx_main_v3 (ix2 r d) k = ix2 r k := eq_ix2 _
  have er : ridx_main_v3 (ix2 r d) k = ix2 d k := eq_ix2 _
  rw [el, er]
  rfl

theorem ref_eq (m : (ℓ : Loc Cert.InEvenGradIdeal.nD Cert.InEvenGradIdeal.τ Cert.InEvenGradIdeal.sig) → Buf (Elt Ideal) ℓ)
    (c : Dev Cert.InEvenGradIdeal.nD) : val_main_v3 (F := Ideal) (aw m c) (act m c) = G2 m c := by
  funext i
  obtain ⟨r, d, rfl⟩ : ∃ (r : Fin 8448) (d : Fin 2048), i = ix2 r d := ⟨i 0, i 1, eq_ix2 i⟩
  exact ref_at (aw m c) (act m c) r d
end Reference

attribute [local instance] Cert.InEvenGrad.Gen.facts Cert.InEvenGradIdeal.Gen.facts Cert.InEvenGradReferenceIdeal.Gen.facts

theorem algebraic : Cert.algebraic_InEvenGradIdeal_InEvenGradReferenceIdeal := by
  intro m g m' g' _ harg
  refine ⟨fun c => G2 m c, ?_, ?_⟩
  · refine (θ_run _ _ _).mono (fun r h c => ?_) (Cert.InEvenGradIdeal.Value.run_blocks m g)
    obtain ⟨h0, ha⟩ := h c
    exact ⟨h0.trans (final2 m c), ha⟩
  · refine (θ_run _ _ _).mono (fun r h c => ?_) (Cert.InEvenGradReferenceIdeal.Value.run (F := Ideal) m' g')
    obtain ⟨h0, ha⟩ := h c
    obtain ⟨e0, e1, e2⟩ := harg c
    refine ⟨(h0.trans ?_).trans (ref_eq m c), ha⟩
    rw [e1, e2]
    exact Cert.InEvenGradReferenceIdeal.Read.val_main_v3_eq ..

end Proj.InEvenGrad

end
-- ==== Proof.InOddGrad.lean ====
/-
  The gradient of the odd layer's input projection at its input: one row block's result is summed over the eight
  blocks of columns.
-/
module

public import proofs.«01_k».proof.Proof.Projection
public import proofs.«01_k».proof.Defs
public import proofs.«01_k».proof.Proof.Gen.InOddGrad
public import proofs.«01_k».proof.Proof.Gen.InOddGradIdeal.Value
public import proofs.«01_k».proof.Proof.Gen.InOddGradReferenceIdeal.Read
public import proofs.«01_k».proof.Proof.Gen.InOddGradReferenceIdeal.Run
public import Idealize.ShloMosaic.Adequacy
public import Idealize.ShloMosaic.Lib.IdealHost
public import Idealize.ShloMosaic.Lib.Tactic

@[expose] public section

set_option maxRecDepth 16384

noncomputable section

namespace Proj.InOddGrad

open Cert.InOddGradIdeal Cert.InOddGradIdeal.Gen Idealize.ShloMosaic Idealize.ShloMosaic.TcCoe Idealize.SL.Sem
open Idealize.ShloMosaic.ValueIdx Ffn
open Idealize.ShloMosaic.Pipeline (Dat)

/-- Column `j` of block `b` among the 3072. -/
abbrev colO (b : Fin 8) (j : Fin 384) : Fin 3072 := Proj.col (N := 3072) rfl b j

section Cases
variable (c : Dev nD) (i : grid0.Coords)
  (a2 : Memref sig .tc .vmem S1408x384 .f32) (h2 : a2.IsWhole) (a3 : Memref sig .tc .vmem S1x2048x384 .bf16) (h3 : a3.IsWhole)
  (a4 : Memref sig .tc .vmem S1408x2048 .f32) (h4 : a4.IsWhole)
  (x0 : Vec Ideal S1408x384 .f32) (x1 : Vec Ideal S1x2048x384 .bf16) (acc : Vec Ideal S1408x2048 .f32)

theorem pay1_at (p : Fin 1408) (d : Fin 2048) :
    k0_pay1 x0 x1 (ix2 p d) = ∑ j : Fin 384, x0 (ix2 p j) * x1 (ix3 (0 : Fin 1) d j) := by
  refine (Ideal.matmul_transposedRhs_apply (M := 1408) (K := 384) (N := 2048) none
    (truncf .bf16 x0 bitsLt_bf16_f32 : FVec Ideal S1408x384 .bf16)
    (shapeCast S2048x384 x1 shapeCasts_S1x2048x384_S2048x384) _ p d).trans ?_
  rw [constant_apply, Ideal.ofBits_zero_f32, zero_add]
  exact Finset.sum_congr rfl fun j _ => congrArg (x0 (ix2 p j) * ·) (shapeCast_1ab_ab_apply x1 _ d j)

theorem out_A (hc : cond0_0 i) (hd : ¬cond0_1 i) : out0_A_2 c i a2 h2 a3 h3 a4 h4 hc hd x0 x1 = k0_pay1 x0 x1 := by
  unfold out0_A_2
  rw [View.read_writes_eq_canon _ _ _ (cover0_A_2 c i a2 h2 a3 h3 a4 h4 hc hd x0 x1)]
  unfold kernelRun0_A
  dsimp only
  sl_unfold_words
  rw [View.canon_unit_zero hz2]
  simp only [View.readAt_eq_ld, h2.read_unread, h3.read_unread, View.ld_unit_zero (S := S1408x384) hz2,
    View.ld_unit_zero (S := S1x2048x384) hz3, shapeCast_self]

theorem out_B (hc : ¬cond0_0 i) (hd : cond0_1 i) :
    out0_B_2 c i a2 h2 a3 h3 a4 h4 hc hd x0 x1 acc = addf acc (k0_pay1 x0 x1) := by
  unfold out0_B_2
  rw [View.read_writes_eq_canon _ _ _ (cover0_B_2 c i a2 h2 a3 h3 a4 h4 hc hd x0 x1 acc)]
  unfold kernelRun0_B
  dsimp only
  sl_unfold_words
  rw [View.canon_unit_zero hz2]
  unfold k0_pay2
  simp only [View.readAt_eq_ld, h2.read_unread, h3.read_unread, h4.read_unread, View.ld_unit_zero (S := S1408x384) hz2,
    View.ld_unit_zero (S := S1x2048x384) hz3, View.ld_unit_zero (S := S1408x2048) hz2, shapeCast_self]
end Cases

section Blocks
variable (m : (ℓ : Loc nD τ sig) → Buf (Elt Ideal) ℓ) (c : Dev nD)

/-- The weight and the cotangent of the projection. -/
abbrev aw : Mat 2048 3072 := m ((c : Thread nD τ).loc main_arg1)
abbrev act : Mat 8448 3072 := m ((c : Thread nD τ).loc main_arg2)

/-- Point `n`'s block of rows. -/
def rblk (n : ℕ) (hn : n < cfg0.N) : Fin 6 := ⟨n / 8, by have : cfg0.N = 48 := N_0; omega⟩

theorem V1_at (b : Fin 8) (r : Fin 2048) (j : Fin 384) : V m c main_v1 (ix3 b r j) = aw m c (ix2 r (colO b j)) := by
  have e : V m c main_v1 = (transpose S8x2048x384 [1, 0, 2] (shapeCast S2048x8x384 (aw m c)
      shapeCasts_S2048x3072_S2048x8x384) transposes_S2048x8x384_S8x2048x384_1_0_2 : S8x2048x384.Idx → EReal) := by
    unfold V
    after_results
    all_goals rfl
  rw [e]
  exact split_apply rfl _ shapeCasts_S2048x3072_S2048x8x384 transposes_S2048x8x384_S8x2048x384_1_0_2 b r j

theorem iblk0_at (t : Fin cfg0.N) (p : Fin 1408) (j : Fin 384) :
    iblk m c 0 t (ix2 p j) = act m c (ix2 (rowB (rblk t.val t.isLt) p) (colO (blkNo t.val) j)) := by
  have hi : win0_0.index t 0 = t.val / 8 ∧ win0_0.index t 1 = t.val % 8 :=
    (by decide +kernel : ∀ t : Fin grid0.N, win0_0.index t 0 = t.val / 8 ∧ win0_0.index t 1 = t.val % 8) t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 1408 + 1 * p.val = 1408 * (t.val / 8) + p.val; rw [hi.1]; omega
  | ⟨1, _⟩ => show win0_0.index t 1 * 384 + 1 * j.val = 384 * (t.val % 8) + j.val; rw [hi.2]; omega

theorem iblk1_at (t : Fin cfg0.N) (u : Fin 1) (d : Fin 2048) (j : Fin 384) :
    iblk m c 1 t (ix3 u d j) = aw m c (ix2 d (colO (blkNo t.val) j)) := by
  have hi : win0_1.index t 0 = t.val % 8 ∧ win0_1.index t 1 = 0 ∧ win0_1.index t 2 = 0 :=
    (by decide +kernel : ∀ t : Fin grid0.N, win0_1.index t 0 = t.val % 8 ∧ win0_1.index t 1 = 0 ∧ win0_1.index t 2 = 0) t
  rw [← V1_at]
  unfold iblk
  rw [View.read_apply]
  show V m c main_v1 _ = _
  refine congrArg (V m c main_v1) (funext fun a => Fin.ext ?_)
  match a with
  | ⟨0, _⟩ => show win0_1.index t 0 * 1 + 1 * u.val = t.val % 8; rw [hi.1]; omega
  | ⟨1, _⟩ => show win0_1.index t 1 * 2048 + 1 * d.val = d.val; rw [hi.2.1]; omega
  | ⟨2, _⟩ => show win0_1.index t 2 * 384 + 1 * j.val = j.val; rw [hi.2.2]; omega

theorem share_at (t : Fin cfg0.N) (b : Fin 8) (hb : t.val % 8 = b.val) (p : Fin 1408) (d : Fin 2048) :
    k0_pay1 (iblk m c 0 t) (iblk m c 1 t) (ix2 p d)
      = shareN (n := 384) rfl (act m c) (aw m c) (rowB (rblk t.val t.isLt) p) d b.val := by
  have h : blkNo t.val = b := Fin.ext hb
  rw [pay1_at, shareN, dif_pos b.isLt, ← h]
  exact Finset.sum_congr rfl fun j _ =>
    congrArg₂ (HMul.hMul (α := EReal) (β := EReal) (γ := EReal)) (iblk0_at m c t p j) (iblk1_at m c t 0 d j)

/-- After point `8 i + k` the result's block holds column blocks `0` to `k`. -/
theorem acc_at (i : ℕ) (p : Fin 1408) (d : Fin 2048) : ∀ (k n : ℕ) (hn : n < cfg0.N), k < 8 → n = 8 * i + k →
    outsAt0 m c n hn (ix2 p d)
      = ∑ b ∈ Finset.range (k + 1), shareN (n := 384) rfl (act m c) (aw m c) (rowB (rblk n hn) p) d b
  | 0, n, hn, _, e => by
    rw [outsAt0_A m c ⟨n, hn⟩ (by dsimp only; omega) (by dsimp only; omega), out_A, Finset.sum_range_one]
    exact share_at m c ⟨n, hn⟩ 0 (by show n % 8 = 0; omega) p d
  | k + 1, n, hn, hk, e => by
    have h1 := acc_at i p d k (n - 1) (by omega) (by omega) (by omega)
    have hrow : rblk (n - 1) (by omega) = rblk n hn := Fin.ext (by show (n - 1) / 8 = n / 8; omega)
    rw [outsAt0_B m c ⟨n, hn⟩ (by dsimp only; omega) (by dsimp only; omega), out_B, addf_apply, Finset.sum_range_succ, h1, hrow]
    exact congrArg (_ + ·) (share_at m c ⟨n, hn⟩ ⟨k + 1, hk⟩ (by show n % 8 = k + 1; omega) p d)

/-- At the last column block the result is complete. -/
theorem acc_last (t : Fin cfg0.N) (ht : t.val % 8 = 7) (p : Fin 1408) (d : Fin 2048) :
    outsAt0 m c t.val t.isLt (ix2 p d) = mmT (act m c) (aw m c) (rowB (rblk t.val t.isLt) p) d :=
  (acc_at m c (t.val / 8) p d 7 t.val t.isLt (by decide) (by omega)).trans (sum_shareN rfl _ _ _ _)

/-- The gradient at the projection's input. -/
def G2 : S8448x2048.Idx → EReal := fun i => mmT (act m c) (aw m c) (i 0) (i 1)

theorem index2 : ∀ t : Fin grid0.N, win0_2.index t 0 = t.val / 8 ∧ win0_2.index t 1 = 0 := by
  decide +kernel

theorem xsize2 : ∀ t : Fin grid0.N, win0_2.xsize (grid0.coords t) 0 = 1408 ∧ win0_2.xsize (grid0.coords t) 1 = 2048 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1408 := lt_of_lt_of_eq (i 0).isLt (xsize2 t).1
  have h1 : (i 1).val < 2048 := lt_of_lt_of_eq (i 1).isLt (xsize2 t).2
  refine Eq.trans (b := outsAt0 m c t.val t.isLt (ix2 (⟨(i 0).val, h0⟩ : Fin 1408) (⟨(i 1).val, h1⟩ : Fin 2048)))
    (congrArg (outsAt0 m c t.val t.isLt) (funext fun a => Fin.ext (by match a with | ⟨0, _⟩ => rfl | ⟨1, _⟩ => rfl))) ?_
  rw [acc_last m c t ((flush0_2 t).mp hf)]
  refine congrArg₂ (mmT (act m c) (aw m c)) (Fin.ext ?_) (Fin.ext ?_)
  · show 1408 * (t.val / 8) + (i 0).val = win0_2.index t 0 * 1408 + 1 * (i 0).val; rw [hi.1]; omega
  · show (i 1).val = win0_2.index t 1 * 2048 + 1 * (i 1).val; rw [hi.2]; omega

theorem final2 : (dats m 0 c).arrAt 2 cfg0.N = G2 m c :=
  (dats m 0 c).arrAt_eq_of_cover 2 (G2 m c) (flushed2_eq m c) fun i => by
    have h0 : (i 0 : Nat) < 8448 := (i 0).isLt
    have h1 : (i 1 : Nat) < 2048 := (i 1).isLt
    have hN : cfg0.N = 48 := N_0
    obtain ⟨t, ht⟩ : ∃ t : Fin cfg0.N, t.val = 8 * ((i 0 : Nat) / 1408) + 7 := ⟨⟨8 * ((i 0 : Nat) / 1408) + 7, by omega⟩, rfl⟩
    refine ⟨t, (flush0_2 t).mpr (by omega), ?_⟩
    obtain ⟨a0, a1⟩ := index2 t
    obtain ⟨b0, b1⟩ := xsize2 t
    show i ∈ ((View.whole main_v2).slice (win0_2.rect t)).set
    rw [View.set_slice_whole, Rect.mem_set_unit]
    intro a
    match a with
    | ⟨0, _⟩ => show win0_2.index t 0 * 1408 ≤ (i 0 : Nat) ∧ (i 0 : Nat) < win0_2.index t 0 * 1408 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
end Blocks

section Reference
open Cert.InOddGradReferenceIdeal.Read

theorem ref_at (w : Mat 2048 3072) (ct : Mat 8448 3072) (r : Fin 8448) (d : Fin 2048) :
    val_main_v3 (F := Ideal) w ct (ix2 r d) = mmT ct w r d := by
  rw [val_main_v3_apply]
  refine Finset.sum_congr rfl fun k _ => ?_
  have el : lidx_main_v3 (ix2 r d) k = ix2 r k := eq_ix2 _
  have er : ridx_main_v3 (ix2 r d) k = ix2 d k := eq_ix2 _
  rw [el, er]
  rfl

theorem ref_eq (m : (ℓ : Loc Cert.InOddGradIdeal.nD Cert.InOddGradIdeal.τ Cert.InOddGradIdeal.sig) → Buf (Elt Ideal) ℓ)
    (c : Dev Cert.InOddGradIdeal.nD) : val_main_v3 (F := Ideal) (aw m c) (act m c) = G2 m c := by
  funext i
  obtain ⟨r, d, rfl⟩ : ∃ (r : Fin 8448) (d : Fin 2048), i = ix2 r d := ⟨i 0, i 1, eq_ix2 i⟩
  exact ref_at (aw m c) (act m c) r d
end Reference

attribute [local instance] Cert.InOddGrad.Gen.facts Cert.InOddGradIdeal.Gen.facts Cert.InOddGradReferenceIdeal.Gen.facts

theorem algebraic : Cert.algebraic_InOddGradIdeal_InOddGradReferenceIdeal := by
  intro m g m' g' _ harg
  refine ⟨fun c => G2 m c, ?_, ?_⟩
  · refine (θ_run _ _ _).mono (fun r h c => ?_) (Cert.InOddGradIdeal.Value.run_blocks m g)
    obtain ⟨h0, ha⟩ := h c
    exact ⟨h0.trans (final2 m c), ha⟩
  · refine (θ_run _ _ _).mono (fun r h c => ?_) (Cert.InOddGradReferenceIdeal.Value.run (F := Ideal) m' g')
    obtain ⟨h0, ha⟩ := h c
    obtain ⟨e0, e1, e2⟩ := harg c
    refine ⟨(h0.trans ?_).trans (ref_eq m c), ha⟩
    rw [e1, e2]
    exact Cert.InOddGradReferenceIdeal.Read.val_main_v3_eq ..

end Proj.InOddGrad

end
-- ==== Proof.InEvenWgrad.lean ====
/-
  The weight gradient of the even layer's input projection: the kernel's running sum over six blocks of rows is the
  reference's product over all of them.
-/
module

public import proofs.«01_k».proof.Proof.Projection
public import proofs.«01_k».proof.Defs
public import proofs.«01_k».proof.Proof.Gen.InEvenWgrad
public import proofs.«01_k».proof.Proof.Gen.InEvenWgradIdeal.Value
public import proofs.«01_k».proof.Proof.Gen.InEvenWgradReferenceIdeal.Read
public import proofs.«01_k».proof.Proof.Gen.InEvenWgradReferenceIdeal.Run
public import Idealize.ShloMosaic.Adequacy
public import Idealize.ShloMosaic.Lib.IdealHost
public import Idealize.ShloMosaic.Lib.Tactic

@[expose] public section

set_option maxRecDepth 16384

noncomputable section

namespace Proj.InEvenWgrad

open Cert.InEvenWgradIdeal Cert.InEvenWgradIdeal.Gen Idealize.ShloMosaic Idealize.ShloMosaic.TcCoe Idealize.SL.Sem
open Idealize.ShloMosaic.ValueIdx Ffn
open Idealize.ShloMosaic.Pipeline (Dat)

/-- Column `j` of block `b` among the 6144. -/
abbrev colE (b : Fin 8) (j : Fin 768) : Fin 6144 := Proj.col (N := 6144) rfl b j

/-! ## The body's terms -/

section Cases
variable (c : Dev nD) (i : grid0.Coords)
  (a2 : Memref sig .tc .vmem S2048x1408 .bf16) (h2 : a2.IsWhole) (a3 : Memref sig .tc .vmem S1408x768 .f32) (h3 : a3.IsWhole)
  (a4 : Memref sig .tc .vmem S1x2048x768 .bf16) (h4 : a4.IsWhole) (a5 : Memref sig .tc .vmem S2048x768 .f32) (h5 : a5.IsWhole)
  (x0 : Vec Ideal S2048x1408 .bf16) (x1 : Vec Ideal S1408x768 .f32) (acc : Vec Ideal S2048x768 .f32)

/-- A row block's share at a point. -/
theorem pay1_at (d : Fin 2048) (j : Fin 768) :
    k0_pay1 x0 x1 (ix2 d j) = ∑ p : Fin 1408, x0 (ix2 d p) * x1 (ix2 p j) := by
  unfold k0_pay1
  rw [shapeCast_self]
  refine (Ideal.matmul_plain_apply (M := 2048) (K := 1408) (N := 768) (φ₁ := .bf16) none x0
    (truncf .bf16 x1 bitsLt_bf16_f32 : FVec Ideal S1408x768 .bf16) _ d j).trans ?_
  rw [constant_apply, Ideal.ofBits_zero_f32, zero_add]
  rfl

/-- The block written back is the scratch. -/
theorem pay4_at (u : Fin 1) (d : Fin 2048) (j : Fin 768) : k0_pay4 acc (ix3 u d j) = acc (ix2 d j) :=
  shapeCast_ab_1ab_apply (truncf .bf16 acc bitsLt_bf16_f32 : FVec Ideal S2048x768 .bf16) shapeCasts_S2048x768_S1x2048x768 u d j

theorem sout_A (hc : cond0_0 i) (hd : ¬cond0_1 i) (he : ¬cond0_2 i) :
    sout0_A_0 c i a2 h2 a3 h3 a4 h4 a5 h5 hc hd he x0 x1 = k0_pay1 x0 x1 := by
  unfold sout0_A_0
  rw [View.read_writes_eq_canon _ _ _ (scover0_A_0 c i a2 h2 a3 h3 a4 h4 a5 h5 hc hd he x0 x1)]
  unfold kernelRun0_A
  dsimp only
  sl_unfold_words
  rw [View.canon_unit_zero hz2]
  unfold k0_pay2
  simp only [View.readAt_eq_ld, h2.read_unread, h3.read_unread, View.ld_unit_zero (S := S2048x1408) hz2,
    View.ld_unit_zero (S := S1408x768) hz2, shapeCast_self]

theorem sout_B (hc : ¬cond0_0 i) (hd : cond0_1 i) (he : ¬cond0_2 i) :
    sout0_B_0 c i a2 h2 a3 h3 a4 h4 a5 h5 hc hd he x0 x1 acc = addf acc (k0_pay1 x0 x1) := by
  unfold sout0_B_0
  rw [View.read_writes_eq_canon _ _ _ (scover0_B_0 c i a2 h2 a3 h3 a4 h4 a5 h5 hc hd he x0 x1 acc)]
  unfold kernelRun0_B
  dsimp only
  sl_unfold_words
  rw [View.canon_unit_zero hz2]
  unfold k0_pay3
  simp only [View.readAt_eq_ld, h2.read_unread, h3.read_unread, h5.read_unread, View.ld_unit_zero (S := S2048x1408) hz2,
    View.ld_unit_zero (S := S1408x768) hz2, View.ld_unit_zero (S := S2048x768) hz2, shapeCast_self]

theorem out_C (hc : ¬cond0_0 i) (hd : cond0_1 i) (he : cond0_2 i) :
    out0_C_2 c i a2 h2 a3 h3 a4 h4 a5 h5 hc hd he x0 x1 acc = k0_pay4 (addf acc (k0_pay1 x0 x1)) := by
  unfold out0_C_2
  rw [View.read_writes_eq_canon _ _ _ (cover0_C_2 c i a2 h2 a3 h3 a4 h4 a5 h5 hc hd he x0 x1 acc)]
  unfold kernelRun0_C
  dsimp only
  sl_unfold_words
  rw [View.canon_unit_zero hz3]
  unfold k0_pay3
  simp only [View.readAt_eq_ld, h2.read_unread, h3.read_unread, h5.read_unread, View.ld_unit_zero (S := S2048x1408) hz2,
    View.ld_unit_zero (S := S1408x768) hz2, View.ld_unit_zero (S := S2048x768) hz2, shapeCast_self]
  exact congrArg k0_pay4 (View.readCov_cons_toLoadRect ..)

theorem sout_C (hc : ¬cond0_0 i) (hd : cond0_1 i) (he : cond0_2 i) :
    sout0_C_0 c i a2 h2 a3 h3 a4 h4 a5 h5 hc hd he x0 x1 acc = addf acc (k0_pay1 x0 x1) := by
  unfold sout0_C_0
  rw [View.read_writes_eq_canon _ _ _ (scover0_C_0 c i a2 h2 a3 h3 a4 h4 a5 h5 hc hd he x0 x1 acc)]
  unfold kernelRun0_C
  dsimp only
  sl_unfold_words
  rw [View.canon_unit_zero hz2]
  unfold k0_pay3
  simp only [View.readAt_eq_ld, h2.read_unread, h3.read_unread, h5.read_unread, View.ld_unit_zero (S := S2048x1408) hz2,
    View.ld_unit_zero (S := S1408x768) hz2, View.ld_unit_zero (S := S2048x768) hz2, shapeCast_self]
end Cases

/-! ## The input blocks at a point -/

section Blocks
variable (m : (ℓ : Loc nD τ sig) → Buf (Elt Ideal) ℓ) (c : Dev nD)

/-- The product's input and the cotangent of its result. -/
abbrev ah : Mat 8448 2048 := m ((c : Thread nD τ).loc main_arg0)
abbrev act : Mat 8448 6144 := m ((c : Thread nD τ).loc main_arg2)

/-- Point `n`'s block of columns. -/
def colNo (n : ℕ) (hn : n < cfg0.N) : Fin 8 := ⟨n / 6, by have : cfg0.N = 48 := N_0; omega⟩

theorem V0_at (d : Fin 2048) (r : Fin 8448) : V m c main_v0 (ix2 d r) = ah m c (ix2 r d) := by
  have e : V m c main_v0 = (transpose S2048x8448 [1, 0] (ah m c) transposes_S8448x2048_S2048x8448_1_0 : S2048x8448.Idx → EReal) := by
    unfold V
    after_results
    all_goals rfl
  rw [e]
  exact transpose_apply _ _ _ _ (ix2 r d) fun a => match a with | ⟨0, _⟩ => rfl | ⟨1, _⟩ => rfl

theorem iblk0_at (t : Fin cfg0.N) (d : Fin 2048) (p : Fin 1408) :
    iblk m c 0 t (ix2 d p) = ah m c (ix2 (rowB (rowNo t.val) p) d) := by
  have hi : win0_0.index t 0 = 0 ∧ win0_0.index t 1 = t.val % 6 :=
    (by decide +kernel : ∀ t : Fin grid0.N, win0_0.index t 0 = 0 ∧ win0_0.index t 1 = t.val % 6) t
  rw [← V0_at]
  unfold iblk
  rw [View.read_apply]
  show V m c main_v0 _ = _
  refine congrArg (V m c main_v0) (funext fun a => Fin.ext ?_)
  match a with
  | ⟨0, _⟩ => show win0_0.index t 0 * 2048 + 1 * d.val = d.val; rw [hi.1]; omega
  | ⟨1, _⟩ => show win0_0.index t 1 * 1408 + 1 * p.val = 1408 * (t.val % 6) + p.val; rw [hi.2]; omega

theorem iblk1_at (t : Fin cfg0.N) (p : Fin 1408) (j : Fin 768) :
    iblk m c 1 t (ix2 p j) = act m c (ix2 (rowB (rowNo t.val) p) (colE (colNo t.val t.isLt) j)) := by
  have hi : win0_1.index t 0 = t.val % 6 ∧ win0_1.index t 1 = t.val / 6 :=
    (by decide +kernel : ∀ t : Fin grid0.N, win0_1.index t 0 = t.val % 6 ∧ win0_1.index t 1 = t.val / 6) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 1408 + 1 * p.val = 1408 * (t.val % 6) + p.val; rw [hi.1]; omega
  | ⟨1, _⟩ => show win0_1.index t 1 * 768 + 1 * j.val = 768 * (t.val / 6) + j.val; rw [hi.2]; omega

/-! ## The running sum -/

theorem share_at (t : Fin cfg0.N) (d : Fin 2048) (j : Fin 768) :
    k0_pay1 (iblk m c 0 t) (iblk m c 1 t) (ix2 d j)
      = tmmB (ah m c) (act m c) (rowNo t.val) d (colE (colNo t.val t.isLt) j) := by
  rw [pay1_at]
  exact Finset.sum_congr rfl fun p _ =>
    congrArg₂ (HMul.hMul (α := EReal) (β := EReal) (γ := EReal)) (iblk0_at m c t d p) (iblk1_at m c t p j)

theorem share_at' (n : ℕ) (hn : n < cfg0.N) (b : Fin 8) (k : ℕ) (hk : k < 6) (e : n = 6 * b.val + k) (d : Fin 2048) (j : Fin 768) :
    k0_pay1 (iblk m c 0 ⟨n, hn⟩) (iblk m c 1 ⟨n, hn⟩) (ix2 d j) = tmmN (ah m c) (act m c) d (colE b j) k := by
  rw [share_at, tmmN, dif_pos hk]
  have h1 : rowNo n = ⟨k, hk⟩ := Fin.ext (by show n % 6 = k; omega)
  have h2 : colNo n hn = b := Fin.ext (by show n / 6 = b.val; omega)
  dsimp only
  rw [h1, h2]

/-- After point `6 b + k` the scratch holds row blocks `0` to `k`. -/
theorem acc_at (b : Fin 8) (d : Fin 2048) (j : Fin 768) : ∀ (k n : ℕ) (hn : n < cfg0.N), k < 6 → n = 6 * b.val + k →
    (outsAt0 m c n hn).2 (ix2 d j) = ∑ q ∈ Finset.range (k + 1), tmmN (ah m c) (act m c) d (colE b j) q
  | 0, n, hn, hk, e => by
    rw [outsAt0_A m c ⟨n, hn⟩ (by dsimp only; omega) (by dsimp only; omega) (by dsimp only; omega)]
    dsimp only
    rw [sout_A, Finset.sum_range_one]
    exact share_at' m c n hn b 0 hk e d j
  | k + 1, n, hn, hk, e => by
    have h1 := acc_at b d j k (n - 1) (by omega) (by omega) (by omega)
    by_cases h5 : n % 6 = 5
    · rw [outsAt0_C m c ⟨n, hn⟩ (by dsimp only; omega) (by dsimp only; omega) h5]
      dsimp only
      rw [sout_C, addf_apply, Finset.sum_range_succ, h1]
      exact congrArg (_ + ·) (share_at' m c n hn b (k + 1) hk e d j)
    · rw [outsAt0_B m c ⟨n, hn⟩ (by dsimp only; omega) (by dsimp only; omega) h5]
      dsimp only
      rw [sout_B, addf_apply, Finset.sum_range_succ, h1]
      exact congrArg (_ + ·) (share_at' m c n hn b (k + 1) hk e d j)

/-- The block written back at the last row block of a column block. -/
theorem out_last (t : Fin cfg0.N) (ht : t.val % 6 = 5) (u : Fin 1) (d : Fin 2048) (j : Fin 768) :
    (outsAt0 m c t.val t.isLt).1 (ix3 u d j) = tmm (ah m c) (act m c) d (colE (colNo t.val t.isLt) j) := by
  have h1 := acc_at m c (colNo t.val t.isLt) d j 5 t.val t.isLt (by decide) (by show t.val = 6 * (t.val / 6) + 5; omega)
  rw [sum_tmmN, outsAt0_C m c t (by omega) (by omega) ht] at h1
  rw [outsAt0_C m c t (by omega) (by omega) ht]
  dsimp only at h1 ⊢
  rw [sout_C] at h1
  rw [out_C, ← h1]
  exact pay4_at _ u d j

/-! ## The whole array -/

/-- The weight's gradient, in blocks of its columns. -/
def G2 : S8x2048x768.Idx → EReal := fun i => tmm (ah m c) (act m c) (i 1) (colE (i 0) (i 2))

theorem index2 : ∀ t : Fin grid0.N, win0_2.index t 0 = t.val / 6 ∧ win0_2.index t 1 = 0 ∧ win0_2.index t 2 = 0 := by
  decide +kernel

theorem xsize2 : ∀ t : Fin grid0.N, win0_2.xsize (grid0.coords t) 0 = 1 ∧ win0_2.xsize (grid0.coords t) 1 = 2048
    ∧ win0_2.xsize (grid0.coords t) 2 = 768 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1 := lt_of_lt_of_eq (i 0).isLt (xsize2 t).1
  have h1 : (i 1).val < 2048 := lt_of_lt_of_eq (i 1).isLt (xsize2 t).2.1
  have h2 : (i 2).val < 768 := lt_of_lt_of_eq (i 2).isLt (xsize2 t).2.2
  refine Eq.trans (b := (outsAt0 m c t.val t.isLt).1 (ix3 (⟨(i 0).val, h0⟩ : Fin 1) (⟨(i 1).val, h1⟩ : Fin 2048) (⟨(i 2).val, h2⟩ : Fin 768)))
    (congrArg _ (funext fun a => Fin.ext (by match a with | ⟨0, _⟩ => rfl | ⟨1, _⟩ => rfl | ⟨2, _⟩ => rfl))) ?_
  rw [out_last m c t ((flush0_2 t).mp hf)]
  refine congrArg₂ (tmm (ah m c) (act m c)) (Fin.ext ?_) (congrArg₂ colE (Fin.ext ?_) (Fin.ext ?_))
  · show (i 1).val = win0_2.index t 1 * 2048 + 1 * (i 1).val; rw [hi.2.1]; omega
  · show t.val / 6 = win0_2.index t 0 * 1 + 1 * (i 0).val; rw [hi.1]; omega
  · show (i 2).val = win0_2.index t 2 * 768 + 1 * (i 2).val; rw [hi.2.2]; omega

theorem final2 : (dats m 0 c).arrAt 2 cfg0.N = G2 m c :=
  (dats m 0 c).arrAt_eq_of_cover 2 (G2 m c) (flushed2_eq m c) fun i => by
    have h0 : (i 0 : Nat) < 8 := (i 0).isLt
    have h1 : (i 1 : Nat) < 2048 := (i 1).isLt
    have h2 : (i 2 : Nat) < 768 := (i 2).isLt
    have hN : cfg0.N = 48 := N_0
    obtain ⟨t, ht⟩ : ∃ t : Fin cfg0.N, t.val = 6 * (i 0 : Nat) + 5 := ⟨⟨6 * (i 0 : Nat) + 5, by omega⟩, rfl⟩
    refine ⟨t, (flush0_2 t).mpr (by omega), ?_⟩
    obtain ⟨a0, a1, a2⟩ := index2 t
    obtain ⟨b0, b1, b2⟩ := xsize2 t
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
    | ⟨2, _⟩ => show win0_2.index t 2 * 768 ≤ (i 2 : Nat) ∧ (i 2 : Nat) < win0_2.index t 2 * 768 + win0_2.xsize (grid0.coords t) 2
                rw [a2, b2]; omega
end Blocks

/-! ## The reference -/

section Reference
open Cert.InEvenWgradReferenceIdeal.Read

theorem v4_at (h : Mat 8448 2048) (ct : Mat 8448 6144) (d : Fin 2048) (f : Fin 6144) :
    val_main_v4 (F := Ideal) h ct (ix2 d f) = tmm h ct d f := by
  rw [val_main_v4_apply, val_main_v3_apply]
  refine Finset.sum_congr rfl fun k _ => ?_
  have el : lidx_main_v3 (idx_main_v4 (ix2 d f)) k = ix2 k f := eq_ix2 _
  have er : ridx_main_v3 (idx_main_v4 (ix2 d f)) k = ix2 k d := eq_ix2 _
  rw [el, er]
  exact mul_comm _ _

theorem ref_at (h : Mat 8448 2048) (ct : Mat 8448 6144) (b : Fin 8) (d : Fin 2048) (j : Fin 768) :
    val_main_v7 (F := Ideal) h ct (ix3 b d j) = tmm h ct d (colE b j) :=
  (split_apply (N := 6144) (n := 768) rfl (val_main_v4 (F := Ideal) h ct) Cert.InEvenWgradReferenceIdeal.Gen.facts.shapeCasts_S2048x6144_S2048x8x768
    Cert.InEvenWgradReferenceIdeal.Gen.facts.transposes_S2048x8x768_S8x2048x768_1_0_2 b d j).trans (v4_at h ct d _)

theorem ref_eq (m : (ℓ : Loc Cert.InEvenWgradIdeal.nD Cert.InEvenWgradIdeal.τ Cert.InEvenWgradIdeal.sig) → Buf (Elt Ideal) ℓ)
    (c : Dev Cert.InEvenWgradIdeal.nD) : val_main_v7 (F := Ideal) (ah m c) (act m c) = G2 m c := by
  funext i
  obtain ⟨b, d, j, rfl⟩ : ∃ (b : Fin 8) (d : Fin 2048) (j : Fin 768), i = ix3 b d j := ⟨i 0, i 1, i 2, eq_ix3 i⟩
  exact ref_at (ah m c) (act m c) b d j
end Reference

attribute [local instance] Cert.InEvenWgrad.Gen.facts Cert.InEvenWgradIdeal.Gen.facts Cert.InEvenWgradReferenceIdeal.Gen.facts

theorem algebraic : Cert.algebraic_InEvenWgradIdeal_InEvenWgradReferenceIdeal := by
  intro m g m' g' _ harg
  refine ⟨fun c => G2 m c, ?_, ?_⟩
  · refine (θ_run _ _ _).mono (fun r h c => ?_) (Cert.InEvenWgradIdeal.Value.run_blocks m g)
    obtain ⟨h0, ha⟩ := h c
    exact ⟨h0.trans (final2 m c), ha⟩
  · refine (θ_run _ _ _).mono (fun r h c => ?_) (Cert.InEvenWgradReferenceIdeal.Value.run (F := Ideal) m' g')
    obtain ⟨h0, ha⟩ := h c
    obtain ⟨e0, e1, e2⟩ := harg c
    refine ⟨(h0.trans ?_).trans (ref_eq m c), ha⟩
    rw [e0, e2]
    exact Cert.InEvenWgradReferenceIdeal.Read.val_main_v7_eq ..

end Proj.InEvenWgrad

end
-- ==== Proof.InOddWgrad.lean ====
/-
  The weight gradient of the odd layer's input projection: the kernel's running sum over six blocks of rows is the
  reference's product over all of them.
-/
module

public import proofs.«01_k».proof.Proof.Projection
public import proofs.«01_k».proof.Defs
public import proofs.«01_k».proof.Proof.Gen.InOddWgrad
public import proofs.«01_k».proof.Proof.Gen.InOddWgradIdeal.Value
public import proofs.«01_k».proof.Proof.Gen.InOddWgradReferenceIdeal.Read
public import proofs.«01_k».proof.Proof.Gen.InOddWgradReferenceIdeal.Run
public import Idealize.ShloMosaic.Adequacy
public import Idealize.ShloMosaic.Lib.IdealHost
public import Idealize.ShloMosaic.Lib.Tactic

@[expose] public section

set_option maxRecDepth 16384

noncomputable section

namespace Proj.InOddWgrad

open Cert.InOddWgradIdeal Cert.InOddWgradIdeal.Gen Idealize.ShloMosaic Idealize.ShloMosaic.TcCoe Idealize.SL.Sem
open Idealize.ShloMosaic.ValueIdx Ffn
open Idealize.ShloMosaic.Pipeline (Dat)

/-- Column `j` of block `b` among the 3072. -/
abbrev colO (b : Fin 8) (j : Fin 384) : Fin 3072 := Proj.col (N := 3072) rfl b j

/-! ## The body's terms -/

section Cases
variable (c : Dev nD) (i : grid0.Coords)
  (a2 : Memref sig .tc .vmem S2048x1408 .bf16) (h2 : a2.IsWhole) (a3 : Memref sig .tc .vmem S1408x384 .f32) (h3 : a3.IsWhole)
  (a4 : Memref sig .tc .vmem S1x2048x384 .bf16) (h4 : a4.IsWhole) (a5 : Memref sig .tc .vmem S2048x384 .f32) (h5 : a5.IsWhole)
  (x0 : Vec Ideal S2048x1408 .bf16) (x1 : Vec Ideal S1408x384 .f32) (acc : Vec Ideal S2048x384 .f32)

/-- A row block's share at a point. -/
theorem pay1_at (d : Fin 2048) (j : Fin 384) :
    k0_pay1 x0 x1 (ix2 d j) = ∑ p : Fin 1408, x0 (ix2 d p) * x1 (ix2 p j) := by
  unfold k0_pay1
  rw [shapeCast_self]
  refine (Ideal.matmul_plain_apply (M := 2048) (K := 1408) (N := 384) (φ₁ := .bf16) none x0
    (truncf .bf16 x1 bitsLt_bf16_f32 : FVec Ideal S1408x384 .bf16) _ d j).trans ?_
  rw [constant_apply, Ideal.ofBits_zero_f32, zero_add]
  rfl

/-- The block written back is the scratch. -/
theorem pay4_at (u : Fin 1) (d : Fin 2048) (j : Fin 384) : k0_pay4 acc (ix3 u d j) = acc (ix2 d j) :=
  shapeCast_ab_1ab_apply (truncf .bf16 acc bitsLt_bf16_f32 : FVec Ideal S2048x384 .bf16) shapeCasts_S2048x384_S1x2048x384 u d j

theorem sout_A (hc : cond0_0 i) (hd : ¬cond0_1 i) (he : ¬cond0_2 i) :
    sout0_A_0 c i a2 h2 a3 h3 a4 h4 a5 h5 hc hd he x0 x1 = k0_pay1 x0 x1 := by
  unfold sout0_A_0
  rw [View.read_writes_eq_canon _ _ _ (scover0_A_0 c i a2 h2 a3 h3 a4 h4 a5 h5 hc hd he x0 x1)]
  unfold kernelRun0_A
  dsimp only
  sl_unfold_words
  rw [View.canon_unit_zero hz2]
  unfold k0_pay2
  simp only [View.readAt_eq_ld, h2.read_unread, h3.read_unread, View.ld_unit_zero (S := S2048x1408) hz2,
    View.ld_unit_zero (S := S1408x384) hz2, shapeCast_self]

theorem sout_B (hc : ¬cond0_0 i) (hd : cond0_1 i) (he : ¬cond0_2 i) :
    sout0_B_0 c i a2 h2 a3 h3 a4 h4 a5 h5 hc hd he x0 x1 acc = addf acc (k0_pay1 x0 x1) := by
  unfold sout0_B_0
  rw [View.read_writes_eq_canon _ _ _ (scover0_B_0 c i a2 h2 a3 h3 a4 h4 a5 h5 hc hd he x0 x1 acc)]
  unfold kernelRun0_B
  dsimp only
  sl_unfold_words
  rw [View.canon_unit_zero hz2]
  unfold k0_pay3
  simp only [View.readAt_eq_ld, h2.read_unread, h3.read_unread, h5.read_unread, View.ld_unit_zero (S := S2048x1408) hz2,
    View.ld_unit_zero (S := S1408x384) hz2, View.ld_unit_zero (S := S2048x384) hz2, shapeCast_self]

theorem out_C (hc : ¬cond0_0 i) (hd : cond0_1 i) (he : cond0_2 i) :
    out0_C_2 c i a2 h2 a3 h3 a4 h4 a5 h5 hc hd he x0 x1 acc = k0_pay4 (addf acc (k0_pay1 x0 x1)) := by
  unfold out0_C_2
  rw [View.read_writes_eq_canon _ _ _ (cover0_C_2 c i a2 h2 a3 h3 a4 h4 a5 h5 hc hd he x0 x1 acc)]
  unfold kernelRun0_C
  dsimp only
  sl_unfold_words
  rw [View.canon_unit_zero hz3]
  unfold k0_pay3
  simp only [View.readAt_eq_ld, h2.read_unread, h3.read_unread, h5.read_unread, View.ld_unit_zero (S := S2048x1408) hz2,
    View.ld_unit_zero (S := S1408x384) hz2, View.ld_unit_zero (S := S2048x384) hz2, shapeCast_self]
  exact congrArg k0_pay4 (View.readCov_cons_toLoadRect ..)

theorem sout_C (hc : ¬cond0_0 i) (hd : cond0_1 i) (he : cond0_2 i) :
    sout0_C_0 c i a2 h2 a3 h3 a4 h4 a5 h5 hc hd he x0 x1 acc = addf acc (k0_pay1 x0 x1) := by
  unfold sout0_C_0
  rw [View.read_writes_eq_canon _ _ _ (scover0_C_0 c i a2 h2 a3 h3 a4 h4 a5 h5 hc hd he x0 x1 acc)]
  unfold kernelRun0_C
  dsimp only
  sl_unfold_words
  rw [View.canon_unit_zero hz2]
  unfold k0_pay3
  simp only [View.readAt_eq_ld, h2.read_unread, h3.read_unread, h5.read_unread, View.ld_unit_zero (S := S2048x1408) hz2,
    View.ld_unit_zero (S := S1408x384) hz2, View.ld_unit_zero (S := S2048x384) hz2, shapeCast_self]
end Cases

/-! ## The input blocks at a point -/

section Blocks
variable (m : (ℓ : Loc nD τ sig) → Buf (Elt Ideal) ℓ) (c : Dev nD)

/-- The product's input and the cotangent of its result. -/
abbrev ah : Mat 8448 2048 := m ((c : Thread nD τ).loc main_arg0)
abbrev act : Mat 8448 3072 := m ((c : Thread nD τ).loc main_arg2)

/-- Point `n`'s block of columns. -/
def colNo (n : ℕ) (hn : n < cfg0.N) : Fin 8 := ⟨n / 6, by have : cfg0.N = 48 := N_0; omega⟩

theorem V0_at (d : Fin 2048) (r : Fin 8448) : V m c main_v0 (ix2 d r) = ah m c (ix2 r d) := by
  have e : V m c main_v0 = (transpose S2048x8448 [1, 0] (ah m c) transposes_S8448x2048_S2048x8448_1_0 : S2048x8448.Idx → EReal) := by
    unfold V
    after_results
    all_goals rfl
  rw [e]
  exact transpose_apply _ _ _ _ (ix2 r d) fun a => match a with | ⟨0, _⟩ => rfl | ⟨1, _⟩ => rfl

theorem iblk0_at (t : Fin cfg0.N) (d : Fin 2048) (p : Fin 1408) :
    iblk m c 0 t (ix2 d p) = ah m c (ix2 (rowB (rowNo t.val) p) d) := by
  have hi : win0_0.index t 0 = 0 ∧ win0_0.index t 1 = t.val % 6 :=
    (by decide +kernel : ∀ t : Fin grid0.N, win0_0.index t 0 = 0 ∧ win0_0.index t 1 = t.val % 6) t
  rw [← V0_at]
  unfold iblk
  rw [View.read_apply]
  show V m c main_v0 _ = _
  refine congrArg (V m c main_v0) (funext fun a => Fin.ext ?_)
  match a with
  | ⟨0, _⟩ => show win0_0.index t 0 * 2048 + 1 * d.val = d.val; rw [hi.1]; omega
  | ⟨1, _⟩ => show win0_0.index t 1 * 1408 + 1 * p.val = 1408 * (t.val % 6) + p.val; rw [hi.2]; omega

theorem iblk1_at (t : Fin cfg0.N) (p : Fin 1408) (j : Fin 384) :
    iblk m c 1 t (ix2 p j) = act m c (ix2 (rowB (rowNo t.val) p) (colO (colNo t.val t.isLt) j)) := by
  have hi : win0_1.index t 0 = t.val % 6 ∧ win0_1.index t 1 = t.val / 6 :=
    (by decide +kernel : ∀ t : Fin grid0.N, win0_1.index t 0 = t.val % 6 ∧ win0_1.index t 1 = t.val / 6) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 1408 + 1 * p.val = 1408 * (t.val % 6) + p.val; rw [hi.1]; omega
  | ⟨1, _⟩ => show win0_1.index t 1 * 384 + 1 * j.val = 384 * (t.val / 6) + j.val; rw [hi.2]; omega

/-! ## The running sum -/

theorem share_at (t : Fin cfg0.N) (d : Fin 2048) (j : Fin 384) :
    k0_pay1 (iblk m c 0 t) (iblk m c 1 t) (ix2 d j)
      = tmmB (ah m c) (act m c) (rowNo t.val) d (colO (colNo t.val t.isLt) j) := by
  rw [pay1_at]
  exact Finset.sum_congr rfl fun p _ =>
    congrArg₂ (HMul.hMul (α := EReal) (β := EReal) (γ := EReal)) (iblk0_at m c t d p) (iblk1_at m c t p j)

theorem share_at' (n : ℕ) (hn : n < cfg0.N) (b : Fin 8) (k : ℕ) (hk : k < 6) (e : n = 6 * b.val + k) (d : Fin 2048) (j : Fin 384) :
    k0_pay1 (iblk m c 0 ⟨n, hn⟩) (iblk m c 1 ⟨n, hn⟩) (ix2 d j) = tmmN (ah m c) (act m c) d (colO b j) k := by
  rw [share_at, tmmN, dif_pos hk]
  have h1 : rowNo n = ⟨k, hk⟩ := Fin.ext (by show n % 6 = k; omega)
  have h2 : colNo n hn = b := Fin.ext (by show n / 6 = b.val; omega)
  dsimp only
  rw [h1, h2]

/-- After point `6 b + k` the scratch holds row blocks `0` to `k`. -/
theorem acc_at (b : Fin 8) (d : Fin 2048) (j : Fin 384) : ∀ (k n : ℕ) (hn : n < cfg0.N), k < 6 → n = 6 * b.val + k →
    (outsAt0 m c n hn).2 (ix2 d j) = ∑ q ∈ Finset.range (k + 1), tmmN (ah m c) (act m c) d (colO b j) q
  | 0, n, hn, hk, e => by
    rw [outsAt0_A m c ⟨n, hn⟩ (by dsimp only; omega) (by dsimp only; omega) (by dsimp only; omega)]
    dsimp only
    rw [sout_A, Finset.sum_range_one]
    exact share_at' m c n hn b 0 hk e d j
  | k + 1, n, hn, hk, e => by
    have h1 := acc_at b d j k (n - 1) (by omega) (by omega) (by omega)
    by_cases h5 : n % 6 = 5
    · rw [outsAt0_C m c ⟨n, hn⟩ (by dsimp only; omega) (by dsimp only; omega) h5]
      dsimp only
      rw [sout_C, addf_apply, Finset.sum_range_succ, h1]
      exact congrArg (_ + ·) (share_at' m c n hn b (k + 1) hk e d j)
    · rw [outsAt0_B m c ⟨n, hn⟩ (by dsimp only; omega) (by dsimp only; omega) h5]
      dsimp only
      rw [sout_B, addf_apply, Finset.sum_range_succ, h1]
      exact congrArg (_ + ·) (share_at' m c n hn b (k + 1) hk e d j)

/-- The block written back at the last row block of a column block. -/
theorem out_last (t : Fin cfg0.N) (ht : t.val % 6 = 5) (u : Fin 1) (d : Fin 2048) (j : Fin 384) :
    (outsAt0 m c t.val t.isLt).1 (ix3 u d j) = tmm (ah m c) (act m c) d (colO (colNo t.val t.isLt) j) := by
  have h1 := acc_at m c (colNo t.val t.isLt) d j 5 t.val t.isLt (by decide) (by show t.val = 6 * (t.val / 6) + 5; omega)
  rw [sum_tmmN, outsAt0_C m c t (by omega) (by omega) ht] at h1
  rw [outsAt0_C m c t (by omega) (by omega) ht]
  dsimp only at h1 ⊢
  rw [sout_C] at h1
  rw [out_C, ← h1]
  exact pay4_at _ u d j

/-! ## The whole array -/

/-- The weight's gradient, in blocks of its columns. -/
def G2 : S8x2048x384.Idx → EReal := fun i => tmm (ah m c) (act m c) (i 1) (colO (i 0) (i 2))

theorem index2 : ∀ t : Fin grid0.N, win0_2.index t 0 = t.val / 6 ∧ win0_2.index t 1 = 0 ∧ win0_2.index t 2 = 0 := by
  decide +kernel

theorem xsize2 : ∀ t : Fin grid0.N, win0_2.xsize (grid0.coords t) 0 = 1 ∧ win0_2.xsize (grid0.coords t) 1 = 2048
    ∧ win0_2.xsize (grid0.coords t) 2 = 384 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1 := lt_of_lt_of_eq (i 0).isLt (xsize2 t).1
  have h1 : (i 1).val < 2048 := lt_of_lt_of_eq (i 1).isLt (xsize2 t).2.1
  have h2 : (i 2).val < 384 := lt_of_lt_of_eq (i 2).isLt (xsize2 t).2.2
  refine Eq.trans (b := (outsAt0 m c t.val t.isLt).1 (ix3 (⟨(i 0).val, h0⟩ : Fin 1) (⟨(i 1).val, h1⟩ : Fin 2048) (⟨(i 2).val, h2⟩ : Fin 384)))
    (congrArg _ (funext fun a => Fin.ext (by match a with | ⟨0, _⟩ => rfl | ⟨1, _⟩ => rfl | ⟨2, _⟩ => rfl))) ?_
  rw [out_last m c t ((flush0_2 t).mp hf)]
  refine congrArg₂ (tmm (ah m c) (act m c)) (Fin.ext ?_) (congrArg₂ colO (Fin.ext ?_) (Fin.ext ?_))
  · show (i 1).val = win0_2.index t 1 * 2048 + 1 * (i 1).val; rw [hi.2.1]; omega
  · show t.val / 6 = win0_2.index t 0 * 1 + 1 * (i 0).val; rw [hi.1]; omega
  · show (i 2).val = win0_2.index t 2 * 384 + 1 * (i 2).val; rw [hi.2.2]; omega

theorem final2 : (dats m 0 c).arrAt 2 cfg0.N = G2 m c :=
  (dats m 0 c).arrAt_eq_of_cover 2 (G2 m c) (flushed2_eq m c) fun i => by
    have h0 : (i 0 : Nat) < 8 := (i 0).isLt
    have h1 : (i 1 : Nat) < 2048 := (i 1).isLt
    have h2 : (i 2 : Nat) < 384 := (i 2).isLt
    have hN : cfg0.N = 48 := N_0
    obtain ⟨t, ht⟩ : ∃ t : Fin cfg0.N, t.val = 6 * (i 0 : Nat) + 5 := ⟨⟨6 * (i 0 : Nat) + 5, by omega⟩, rfl⟩
    refine ⟨t, (flush0_2 t).mpr (by omega), ?_⟩
    obtain ⟨a0, a1, a2⟩ := index2 t
    obtain ⟨b0, b1, b2⟩ := xsize2 t
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
    | ⟨2, _⟩ => show win0_2.index t 2 * 384 ≤ (i 2 : Nat) ∧ (i 2 : Nat) < win0_2.index t 2 * 384 + win0_2.xsize (grid0.coords t) 2
                rw [a2, b2]; omega
end Blocks

/-! ## The reference -/

section Reference
open Cert.InOddWgradReferenceIdeal.Read

theorem v4_at (h : Mat 8448 2048) (ct : Mat 8448 3072) (d : Fin 2048) (f : Fin 3072) :
    val_main_v4 (F := Ideal) h ct (ix2 d f) = tmm h ct d f := by
  rw [val_main_v4_apply, val_main_v3_apply]
  refine Finset.sum_congr rfl fun k _ => ?_
  have el : lidx_main_v3 (idx_main_v4 (ix2 d f)) k = ix2 k f := eq_ix2 _
  have er : ridx_main_v3 (idx_main_v4 (ix2 d f)) k = ix2 k d := eq_ix2 _
  rw [el, er]
  exact mul_comm _ _

theorem ref_at (h : Mat 8448 2048) (ct : Mat 8448 3072) (b : Fin 8) (d : Fin 2048) (j : Fin 384) :
    val_main_v7 (F := Ideal) h ct (ix3 b d j) = tmm h ct d (colO b j) :=
  (split_apply (N := 3072) (n := 384) rfl (val_main_v4 (F := Ideal) h ct) Cert.InOddWgradReferenceIdeal.Gen.facts.shapeCasts_S2048x3072_S2048x8x384
    Cert.InOddWgradReferenceIdeal.Gen.facts.transposes_S2048x8x384_S8x2048x384_1_0_2 b d j).trans (v4_at h ct d _)

theorem ref_eq (m : (ℓ : Loc Cert.InOddWgradIdeal.nD Cert.InOddWgradIdeal.τ Cert.InOddWgradIdeal.sig) → Buf (Elt Ideal) ℓ)
    (c : Dev Cert.InOddWgradIdeal.nD) : val_main_v7 (F := Ideal) (ah m c) (act m c) = G2 m c := by
  funext i
  obtain ⟨b, d, j, rfl⟩ : ∃ (b : Fin 8) (d : Fin 2048) (j : Fin 384), i = ix3 b d j := ⟨i 0, i 1, i 2, eq_ix3 i⟩
  exact ref_at (ah m c) (act m c) b d j
end Reference

attribute [local instance] Cert.InOddWgrad.Gen.facts Cert.InOddWgradIdeal.Gen.facts Cert.InOddWgradReferenceIdeal.Gen.facts

theorem algebraic : Cert.algebraic_InOddWgradIdeal_InOddWgradReferenceIdeal := by
  intro m g m' g' _ harg
  refine ⟨fun c => G2 m c, ?_, ?_⟩
  · refine (θ_run _ _ _).mono (fun r h c => ?_) (Cert.InOddWgradIdeal.Value.run_blocks m g)
    obtain ⟨h0, ha⟩ := h c
    exact ⟨h0.trans (final2 m c), ha⟩
  · refine (θ_run _ _ _).mono (fun r h c => ?_) (Cert.InOddWgradReferenceIdeal.Value.run (F := Ideal) m' g')
    obtain ⟨h0, ha⟩ := h c
    obtain ⟨e0, e1, e2⟩ := harg c
    refine ⟨(h0.trans ?_).trans (ref_eq m c), ha⟩
    rw [e0, e2]
    exact Cert.InOddWgradReferenceIdeal.Read.val_main_v7_eq ..

end Proj.InOddWgrad

end
-- ==== Proof.Out.lean ====
/-
  The output projection, whose shapes are the same in both layers: every grid point writes one block of rows.
-/
module

public import proofs.«01_k».proof.Proof.Projection
public import proofs.«01_k».proof.Defs
public import proofs.«01_k».proof.Proof.Gen.Out
public import proofs.«01_k».proof.Proof.Gen.OutIdeal.Value
public import proofs.«01_k».proof.Proof.Gen.OutReferenceIdeal.Read
public import proofs.«01_k».proof.Proof.Gen.OutReferenceIdeal.Run
public import Idealize.ShloMosaic.Adequacy
public import Idealize.ShloMosaic.Lib.IdealHost
public import Idealize.ShloMosaic.Lib.Tactic

@[expose] public section

set_option maxRecDepth 16384

noncomputable section

namespace Proj.Out

open Cert.OutIdeal Cert.OutIdeal.Gen Idealize.ShloMosaic Idealize.ShloMosaic.TcCoe Idealize.SL.Sem
open Idealize.ShloMosaic.ValueIdx Ffn
open Idealize.ShloMosaic.Pipeline (Dat)

theorem out2_at (x0 : Vec Ideal S768x2048 .bf16) (x1 : Vec Ideal S2048x2048 .bf16) (p : Fin 768) (j : Fin 2048) :
    out0_2 x0 x1 (ix2 p j) = ∑ k : Fin 2048, x0 (ix2 p k) * x1 (ix2 k j) := by
  unfold out0_2
  rw [View.canon_unit_zero hz2, View.ld_unit_zero (S := S768x2048) hz2, View.ld_unit_zero (S := S2048x2048) hz2]
  refine (Ideal.matmul_plain_apply (M := 768) (K := 2048) (N := 2048) (φ₁ := .bf16) (φ₂ := .bf16) none x0 x1 _ p j).trans ?_
  rw [constant_apply, Ideal.ofBits_zero_f32, zero_add]

section Blocks
variable (m : (ℓ : Loc nD τ sig) → Buf (Elt Ideal) ℓ) (c : Dev nD)

/-- The layer's input and the weight. -/
abbrev ah : Mat 8448 2048 := m ((c : Thread nD τ).loc main_arg0)
abbrev aw : Mat 2048 2048 := m ((c : Thread nD τ).loc main_arg1)

/-- Row `p` of point `n`'s block. -/
def row (n : ℕ) (hn : n < cfg0.N) (p : Fin 768) : Fin 8448 :=
  ⟨768 * n + p.val, by have : cfg0.N = 11 := N_0; have := p.isLt; omega⟩

theorem iblk0_at (t : Fin cfg0.N) (p : Fin 768) (k : Fin 2048) :
    iblk m c 0 t (ix2 p k) = ah m c (ix2 (row t.val t.isLt p) k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 768 + 1 * p.val = 768 * t.val + p.val; rw [hi.1]; omega
  | ⟨1, _⟩ => show win0_0.index t 1 * 2048 + 1 * k.val = k.val; rw [hi.2]; omega

theorem iblk1_at (t : Fin cfg0.N) (k j : Fin 2048) : iblk m c 1 t (ix2 k j) = aw m c (ix2 k j) := by
  have hi : win0_1.index t 0 = 0 ∧ win0_1.index t 1 = 0 :=
    (by decide +kernel : ∀ t : Fin grid0.N, win0_1.index t 0 = 0 ∧ win0_1.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * k.val = k.val; rw [hi.1]; omega
  | ⟨1, _⟩ => show win0_1.index t 1 * 2048 + 1 * j.val = j.val; rw [hi.2]; omega

/-- The projection. -/
def G2 : S8448x2048.Idx → EReal := fun i => mm (ah m c) (aw m c) (i 0) (i 1)

theorem index2 : ∀ t : Fin grid0.N, win0_2.index t 0 = t.val ∧ win0_2.index t 1 = 0 := by
  decide +kernel

theorem xsize2 : ∀ t : Fin grid0.N, win0_2.xsize (grid0.coords t) 0 = 768 ∧ win0_2.xsize (grid0.coords t) 1 = 2048 := by
  decide +kernel

theorem flushed2_eq (t : Fin cfg0.N) : (dats m 0 c).flushed 2 t = ((cfg0.win 2).blk t).view.read (Elt Ideal) (G2 m c) := by
  have hi := index2 t
  rw [Value.flushed2]
  funext i
  rw [View.read_apply]
  have h0 : (i 0).val < 768 := lt_of_lt_of_eq (i 0).isLt (xsize2 t).1
  have h1 : (i 1).val < 2048 := lt_of_lt_of_eq (i 1).isLt (xsize2 t).2
  refine Eq.trans (b := out0_2 (iblk m c 0 t) (iblk m c 1 t) (ix2 (⟨(i 0).val, h0⟩ : Fin 768) (⟨(i 1).val, h1⟩ : Fin 2048)))
    (congrArg (out0_2 (iblk m c 0 t) (iblk m c 1 t)) (funext fun a => Fin.ext (by match a with | ⟨0, _⟩ => rfl | ⟨1, _⟩ => rfl))) ?_
  rw [out2_at]
  refine (Finset.sum_congr rfl fun k _ => congrArg₂ (HMul.hMul (α := EReal) (β := EReal) (γ := EReal))
    (iblk0_at m c t _ k) (iblk1_at m c t k _)).trans ?_
  refine congrArg₂ (mm (ah m c) (aw m c)) (Fin.ext ?_) (Fin.ext ?_)
  · show 768 * t.val + (i 0).val = win0_2.index t 0 * 768 + 1 * (i 0).val; rw [hi.1]; omega
  · show (i 1).val = win0_2.index t 1 * 2048 + 1 * (i 1).val; rw [hi.2]; omega

theorem final2 : (dats m 0 c).arrAt 2 cfg0.N = G2 m c :=
  (dats m 0 c).arrAt_eq_of_cover 2 (G2 m c) (fun t _ => flushed2_eq m c t) fun i => by
    have h0 : (i 0 : Nat) < 8448 := (i 0).isLt
    have h1 : (i 1 : Nat) < 2048 := (i 1).isLt
    have hN : cfg0.N = 11 := N_0
    obtain ⟨t, ht⟩ : ∃ t : Fin cfg0.N, t.val = (i 0 : Nat) / 768 :=
      ⟨⟨(i 0 : Nat) / 768, by omega⟩, rfl⟩
    refine ⟨t, flush0_2 t, ?_⟩
    obtain ⟨a0, a1⟩ := index2 t
    obtain ⟨b0, b1⟩ := xsize2 t
    show i ∈ ((View.whole main_v0).slice (win0_2.rect t)).set
    rw [View.set_slice_whole, Rect.mem_set_unit]
    intro a
    match a with
    | ⟨0, _⟩ => show win0_2.index t 0 * 768 ≤ (i 0 : Nat) ∧ (i 0 : Nat) < win0_2.index t 0 * 768 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
end Blocks

section Reference
open Cert.OutReferenceIdeal.Read

theorem ref_at (h : Mat 8448 2048) (w : Mat 2048 2048) (r : Fin 8448) (f : Fin 2048) :
    val_main_v2 (F := Ideal) h w (ix2 r f) = mm h w r f := by
  rw [val_main_v2_apply]
  refine Finset.sum_congr rfl fun k _ => ?_
  have el : lidx_main_v2 (ix2 r f) k = ix2 r k := eq_ix2 _
  have er : ridx_main_v2 (ix2 r f) k = ix2 k f := eq_ix2 _
  rw [el, er]
  rfl

theorem ref_eq (m : (ℓ : Loc Cert.OutIdeal.nD Cert.OutIdeal.τ Cert.OutIdeal.sig) → Buf (Elt Ideal) ℓ)
    (c : Dev Cert.OutIdeal.nD) : val_main_v2 (F := Ideal) (ah m c) (aw m c) = G2 m c := by
  funext i
  obtain ⟨r, f, rfl⟩ : ∃ (r : Fin 8448) (f : Fin 2048), i = ix2 r f := ⟨i 0, i 1, eq_ix2 i⟩
  exact ref_at (ah m c) (aw m c) r f
end Reference

attribute [local instance] Cert.Out.Gen.facts Cert.OutIdeal.Gen.facts Cert.OutReferenceIdeal.Gen.facts

theorem algebraic : Cert.algebraic_OutIdeal_OutReferenceIdeal := by
  intro m g m' g' _ harg
  refine ⟨fun c => G2 m c, ?_, ?_⟩
  · refine (θ_run _ _ _).mono (fun r h c => ?_) (Cert.OutIdeal.Value.run_blocks m g)
    obtain ⟨h0, ha⟩ := h c
    exact ⟨h0.trans (final2 m c), ha⟩
  · refine (θ_run _ _ _).mono (fun r h c => ?_) (Cert.OutReferenceIdeal.Value.run (F := Ideal) m' g')
    obtain ⟨h0, ha⟩ := h c
    obtain ⟨e0, e1⟩ := harg c
    refine ⟨(h0.trans ?_).trans (ref_eq m c), ha⟩
    rw [e0, e1]
    exact Cert.OutReferenceIdeal.Read.val_main_v2_eq ..

end Proj.Out

end
-- ==== Proof.OutGrad.lean ====
/-
  The gradient of the output projection at its input, whose shapes are the same in both layers: every grid point writes
  one block of rows.
-/
module

public import proofs.«01_k».proof.Proof.Projection
public import proofs.«01_k».proof.Defs
public import proofs.«01_k».proof.Proof.Gen.OutGrad
public import proofs.«01_k».proof.Proof.Gen.OutGradIdeal.Value
public import proofs.«01_k».proof.Proof.Gen.OutGradReferenceIdeal.Read
public import proofs.«01_k».proof.Proof.Gen.OutGradReferenceIdeal.Run
public import Idealize.ShloMosaic.Adequacy
public import Idealize.ShloMosaic.Lib.IdealHost
public import Idealize.ShloMosaic.Lib.Tactic

@[expose] public section

set_option maxRecDepth 16384

noncomputable section

namespace Proj.OutGrad

open Cert.OutGradIdeal Cert.OutGradIdeal.Gen Idealize.ShloMosaic Idealize.ShloMosaic.TcCoe Idealize.SL.Sem
open Idealize.ShloMosaic.ValueIdx Ffn
open Idealize.ShloMosaic.Pipeline (Dat)

theorem out2_at (x0 : Vec Ideal S768x2048 .bf16) (x1 : Vec Ideal S2048x2048 .bf16) (p : Fin 768) (j : Fin 2048) :
    out0_2 x0 x1 (ix2 p j) = ∑ k : Fin 2048, x0 (ix2 p k) * x1 (ix2 j k) := by
  unfold out0_2
  rw [View.canon_unit_zero hz2, View.ld_unit_zero (S := S768x2048) hz2, View.ld_unit_zero (S := S2048x2048) hz2]
  refine (Ideal.matmul_transposedRhs_apply (M := 768) (K := 2048) (N := 2048) (φ₁ := .bf16) (φ₂ := .bf16) none x0 x1 _ p j).trans ?_
  rw [constant_apply, Ideal.ofBits_zero_f32, zero_add]

section Blocks
variable (m : (ℓ : Loc nD τ sig) → Buf (Elt Ideal) ℓ) (c : Dev nD)

/-- The weight and the cotangent of the projection. -/
abbrev act : Mat 8448 2048 := m ((c : Thread nD τ).loc main_arg2)
abbrev aw : Mat 2048 2048 := m ((c : Thread nD τ).loc main_arg1)

/-- Row `p` of point `n`'s block. -/
def row (n : ℕ) (hn : n < cfg0.N) (p : Fin 768) : Fin 8448 :=
  ⟨768 * n + p.val, by have : cfg0.N = 11 := N_0; have := p.isLt; omega⟩

theorem iblk0_at (t : Fin cfg0.N) (p : Fin 768) (k : Fin 2048) :
    iblk m c 0 t (ix2 p k) = act m c (ix2 (row t.val t.isLt p) k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 768 + 1 * p.val = 768 * t.val + p.val; rw [hi.1]; omega
  | ⟨1, _⟩ => show win0_0.index t 1 * 2048 + 1 * k.val = k.val; rw [hi.2]; omega

theorem iblk1_at (t : Fin cfg0.N) (k j : Fin 2048) : iblk m c 1 t (ix2 k j) = aw m c (ix2 k j) := by
  have hi : win0_1.index t 0 = 0 ∧ win0_1.index t 1 = 0 :=
    (by decide +kernel : ∀ t : Fin grid0.N, win0_1.index t 0 = 0 ∧ win0_1.index t 1 = 0) t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * k.val = k.val; rw [hi.1]; omega
  | ⟨1, _⟩ => show win0_1.index t 1 * 2048 + 1 * j.val = j.val; rw [hi.2]; omega

/-- The gradient at the projection's input. -/
def G2 : S8448x2048.Idx → EReal := fun i => mmT (act m c) (aw m c) (i 0) (i 1)

theorem index2 : ∀ t : Fin grid0.N, win0_2.index t 0 = t.val ∧ win0_2.index t 1 = 0 := by
  decide +kernel

theorem xsize2 : ∀ t : Fin grid0.N, win0_2.xsize (grid0.coords t) 0 = 768 ∧ win0_2.xsize (grid0.coords t) 1 = 2048 := by
  decide +kernel

theorem flushed2_eq (t : Fin cfg0.N) : (dats m 0 c).flushed 2 t = ((cfg0.win 2).blk t).view.read (Elt Ideal) (G2 m c) := by
  have hi := index2 t
  rw [Value.flushed2]
  funext i
  rw [View.read_apply]
  have h0 : (i 0).val < 768 := lt_of_lt_of_eq (i 0).isLt (xsize2 t).1
  have h1 : (i 1).val < 2048 := lt_of_lt_of_eq (i 1).isLt (xsize2 t).2
  refine Eq.trans (b := out0_2 (iblk m c 0 t) (iblk m c 1 t) (ix2 (⟨(i 0).val, h0⟩ : Fin 768) (⟨(i 1).val, h1⟩ : Fin 2048)))
    (congrArg (out0_2 (iblk m c 0 t) (iblk m c 1 t)) (funext fun a => Fin.ext (by match a with | ⟨0, _⟩ => rfl | ⟨1, _⟩ => rfl))) ?_
  rw [out2_at]
  refine (Finset.sum_congr rfl fun k _ => congrArg₂ (HMul.hMul (α := EReal) (β := EReal) (γ := EReal))
    (iblk0_at m c t _ k) (iblk1_at m c t _ k)).trans ?_
  refine congrArg₂ (mmT (act m c) (aw m c)) (Fin.ext ?_) (Fin.ext ?_)
  · show 768 * t.val + (i 0).val = win0_2.index t 0 * 768 + 1 * (i 0).val; rw [hi.1]; omega
  · show (i 1).val = win0_2.index t 1 * 2048 + 1 * (i 1).val; rw [hi.2]; omega

theorem final2 : (dats m 0 c).arrAt 2 cfg0.N = G2 m c :=
  (dats m 0 c).arrAt_eq_of_cover 2 (G2 m c) (fun t _ => flushed2_eq m c t) fun i => by
    have h0 : (i 0 : Nat) < 8448 := (i 0).isLt
    have h1 : (i 1 : Nat) < 2048 := (i 1).isLt
    have hN : cfg0.N = 11 := N_0
    obtain ⟨t, ht⟩ : ∃ t : Fin cfg0.N, t.val = (i 0 : Nat) / 768 :=
      ⟨⟨(i 0 : Nat) / 768, by omega⟩, rfl⟩
    refine ⟨t, flush0_2 t, ?_⟩
    obtain ⟨a0, a1⟩ := index2 t
    obtain ⟨b0, b1⟩ := xsize2 t
    show i ∈ ((View.whole main_v0).slice (win0_2.rect t)).set
    rw [View.set_slice_whole, Rect.mem_set_unit]
    intro a
    match a with
    | ⟨0, _⟩ => show win0_2.index t 0 * 768 ≤ (i 0 : Nat) ∧ (i 0 : Nat) < win0_2.index t 0 * 768 + win0_2.xsize (grid0.coords t) 0
                rw [a0, b0]; omega
    | ⟨1, _⟩ => show win0_2.index t 1 * 2048 ≤ (i 1 : Nat) ∧ (i 1 : Nat) < win0_2.index t 1 * 2048 + win0_2.xsize (grid0.coords t) 1
                rw [a1, b1]; omega
end Blocks

section Reference
open Cert.OutGradReferenceIdeal.Read

theorem ref_at (w : Mat 2048 2048) (ct : Mat 8448 2048) (r : Fin 8448) (f : Fin 2048) :
    val_main_v4 (F := Ideal) w ct (ix2 r f) = mmT ct w r f := by
  rw [val_main_v4_apply]
  refine Finset.sum_congr rfl fun k _ => ?_
  have el : lidx_main_v4 (ix2 r f) k = ix2 r k := eq_ix2 _
  have er : ridx_main_v4 (ix2 r f) k = ix2 f k := eq_ix2 _
  rw [el, er]
  rfl

theorem ref_eq (m : (ℓ : Loc Cert.OutGradIdeal.nD Cert.OutGradIdeal.τ Cert.OutGradIdeal.sig) → Buf (Elt Ideal) ℓ)
    (c : Dev Cert.OutGradIdeal.nD) : val_main_v4 (F := Ideal) (aw m c) (act m c) = G2 m c := by
  funext i
  obtain ⟨r, f, rfl⟩ : ∃ (r : Fin 8448) (f : Fin 2048), i = ix2 r f := ⟨i 0, i 1, eq_ix2 i⟩
  exact ref_at (aw m c) (act m c) r f
end Reference

attribute [local instance] Cert.OutGrad.Gen.facts Cert.OutGradIdeal.Gen.facts Cert.OutGradReferenceIdeal.Gen.facts

theorem algebraic : Cert.algebraic_OutGradIdeal_OutGradReferenceIdeal := by
  intro m g m' g' _ harg
  refine ⟨fun c => G2 m c, ?_, ?_⟩
  · refine (θ_run _ _ _).mono (fun r h c => ?_) (Cert.OutGradIdeal.Value.run_blocks m g)
    obtain ⟨h0, ha⟩ := h c
    exact ⟨h0.trans (final2 m c), ha⟩
  · refine (θ_run _ _ _).mono (fun r h c => ?_) (Cert.OutGradReferenceIdeal.Value.run (F := Ideal) m' g')
    obtain ⟨h0, ha⟩ := h c
    obtain ⟨e0, e1, e2⟩ := harg c
    refine ⟨(h0.trans ?_).trans (ref_eq m c), ha⟩
    rw [e1, e2]
    exact Cert.OutGradReferenceIdeal.Read.val_main_v4_eq ..

end Proj.OutGrad

end
-- ==== Proof.OutWgrad.lean ====
/-
  The weight gradient of the output projection, whose shapes are the same in both layers: the kernel's running sum over
  six blocks of rows is the reference's product over all of them.
-/
module

public import proofs.«01_k».proof.Proof.Projection
public import proofs.«01_k».proof.Defs
public import proofs.«01_k».proof.Proof.Gen.OutWgrad
public import proofs.«01_k».proof.Proof.Gen.OutWgradIdeal.Value
public import proofs.«01_k».proof.Proof.Gen.OutWgradReferenceIdeal.Read
public import proofs.«01_k».proof.Proof.Gen.OutWgradReferenceIdeal.Run
public import Idealize.ShloMosaic.Adequacy
public import Idealize.ShloMosaic.Lib.IdealHost
public import Idealize.ShloMosaic.Lib.Tactic

@[expose] public section

set_option maxRecDepth 16384

noncomputable section

namespace Proj.OutWgrad

open Cert.OutWgradIdeal Cert.OutWgradIdeal.Gen Idealize.ShloMosaic Idealize.ShloMosaic.TcCoe Idealize.SL.Sem
open Idealize.ShloMosaic.ValueIdx Ffn
open Idealize.ShloMosaic.Pipeline (Dat)

/-- Row `j` of block `b` among the weight's 2048. -/
abbrev colE (b : Fin 8) (j : Fin 256) : Fin 2048 := Proj.col (N := 2048) rfl b j

/-! ## The body's terms -/

section Cases
variable (c : Dev nD) (i : grid0.Coords)
  (a2 : Memref sig .tc .vmem S1408x256 .bf16) (h2 : a2.IsWhole) (a3 : Memref sig .tc .vmem S1408x2048 .bf16) (h3 : a3.IsWhole)
  (a4 : Memref sig .tc .vmem S1x256x2048 .bf16) (h4 : a4.IsWhole) (a5 : Memref sig .tc .vmem S256x2048 .f32) (h5 : a5.IsWhole)
  (x0 : Vec Ideal S1408x256 .bf16) (x1 : Vec Ideal S1408x2048 .bf16) (acc : Vec Ideal S256x2048 .f32)

/-- A row block's share at a point. -/
theorem pay1_at (j : Fin 256) (d : Fin 2048) :
    k0_pay1 x0 x1 (ix2 j d) = ∑ p : Fin 1408, x0 (ix2 p j) * x1 (ix2 p d) := by
  refine (matmul_firstAxes_apply (M := 256) (K := 1408) (N := 2048) (φ₁ := .bf16) (φ₂ := .bf16)
    facts.dot_S1408x256_S1408x2048_S256x2048_0_0_1_1_n_n_wf none x0 x1 _ j d).trans ?_
  rw [constant_apply, Ideal.ofBits_zero_f32, zero_add]

/-- The block written back is the scratch. -/
theorem pay4_at (u : Fin 1) (j : Fin 256) (d : Fin 2048) : k0_pay4 acc (ix3 u j d) = acc (ix2 j d) :=
  shapeCast_ab_1ab_apply (truncf .bf16 acc bitsLt_bf16_f32 : FVec Ideal S256x2048 .bf16) shapeCasts_S256x2048_S1x256x2048 u j d

theorem sout_A (hc : cond0_0 i) (hd : ¬cond0_1 i) (he : ¬cond0_2 i) :
    sout0_A_0 c i a2 h2 a3 h3 a4 h4 a5 h5 hc hd he x0 x1 = k0_pay1 x0 x1 := by
  unfold sout0_A_0
  rw [View.read_writes_eq_canon _ _ _ (scover0_A_0 c i a2 h2 a3 h3 a4 h4 a5 h5 hc hd he x0 x1)]
  unfold kernelRun0_A
  dsimp only
  sl_unfold_words
  rw [View.canon_unit_zero hz2]
  unfold k0_pay2
  simp only [View.readAt_eq_ld, h2.read_unread, h3.read_unread, View.ld_unit_zero (S := S1408x2048) hz2,
    View.ld_unit_zero (S := S1408x256) hz2, shapeCast_self]

theorem sout_B (hc : ¬cond0_0 i) (hd : cond0_1 i) (he : ¬cond0_2 i) :
    sout0_B_0 c i a2 h2 a3 h3 a4 h4 a5 h5 hc hd he x0 x1 acc = addf acc (k0_pay1 x0 x1) := by
  unfold sout0_B_0
  rw [View.read_writes_eq_canon _ _ _ (scover0_B_0 c i a2 h2 a3 h3 a4 h4 a5 h5 hc hd he x0 x1 acc)]
  unfold kernelRun0_B
  dsimp only
  sl_unfold_words
  rw [View.canon_unit_zero hz2]
  unfold k0_pay3
  simp only [View.readAt_eq_ld, h2.read_unread, h3.read_unread, h5.read_unread, View.ld_unit_zero (S := S1408x2048) hz2,
    View.ld_unit_zero (S := S1408x256) hz2, View.ld_unit_zero (S := S256x2048) hz2, shapeCast_self]

theorem out_C (hc : ¬cond0_0 i) (hd : cond0_1 i) (he : cond0_2 i) :
    out0_C_2 c i a2 h2 a3 h3 a4 h4 a5 h5 hc hd he x0 x1 acc = k0_pay4 (addf acc (k0_pay1 x0 x1)) := by
  unfold out0_C_2
  rw [View.read_writes_eq_canon _ _ _ (cover0_C_2 c i a2 h2 a3 h3 a4 h4 a5 h5 hc hd he x0 x1 acc)]
  unfold kernelRun0_C
  dsimp only
  sl_unfold_words
  rw [View.canon_unit_zero hz3]
  unfold k0_pay3
  simp only [View.readAt_eq_ld, h2.read_unread, h3.read_unread, h5.read_unread, View.ld_unit_zero (S := S1408x2048) hz2,
    View.ld_unit_zero (S := S1408x256) hz2, View.ld_unit_zero (S := S256x2048) hz2, shapeCast_self]
  exact congrArg k0_pay4 (View.readCov_cons_toLoadRect ..)

theorem sout_C (hc : ¬cond0_0 i) (hd : cond0_1 i) (he : cond0_2 i) :
    sout0_C_0 c i a2 h2 a3 h3 a4 h4 a5 h5 hc hd he x0 x1 acc = addf acc (k0_pay1 x0 x1) := by
  unfold sout0_C_0
  rw [View.read_writes_eq_canon _ _ _ (scover0_C_0 c i a2 h2 a3 h3 a4 h4 a5 h5 hc hd he x0 x1 acc)]
  unfold kernelRun0_C
  dsimp only
  sl_unfold_words
  rw [View.canon_unit_zero hz2]
  unfold k0_pay3
  simp only [View.readAt_eq_ld, h2.read_unread, h3.read_unread, h5.read_unread, View.ld_unit_zero (S := S1408x2048) hz2,
    View.ld_unit_zero (S := S1408x256) hz2, View.ld_unit_zero (S := S256x2048) hz2, shapeCast_self]
end Cases

/-! ## The input blocks at a point -/

section Blocks
variable (m : (ℓ : Loc nD τ sig) → Buf (Elt Ideal) ℓ) (c : Dev nD)

/-- The product's input and the cotangent of its result. -/
abbrev ah : Mat 8448 2048 := m ((c : Thread nD τ).loc main_arg0)
abbrev act : Mat 8448 2048 := m ((c : Thread nD τ).loc main_arg2)

/-- Point `n`'s block of the weight's rows. -/
def colNo (n : ℕ) (hn : n < cfg0.N) : Fin 8 := ⟨n / 6, by have : cfg0.N = 48 := N_0; omega⟩

theorem iblk0_at (t : Fin cfg0.N) (p : Fin 1408) (j : Fin 256) :
    iblk m c 0 t (ix2 p j) = ah m c (ix2 (rowB (rowNo t.val) p) (colE (colNo t.val t.isLt) j)) := by
  have hi : win0_0.index t 0 = t.val % 6 ∧ win0_0.index t 1 = t.val / 6 :=
    (by decide +kernel : ∀ t : Fin grid0.N, win0_0.index t 0 = t.val % 6 ∧ win0_0.index t 1 = t.val / 6) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1408 + 1 * p.val = 1408 * (t.val % 6) + p.val; rw [hi.1]; omega
  | ⟨1, _⟩ => show win0_0.index t 1 * 256 + 1 * j.val = 256 * (t.val / 6) + j.val; rw [hi.2]; omega

theorem iblk1_at (t : Fin cfg0.N) (p : Fin 1408) (d : Fin 2048) :
    iblk m c 1 t (ix2 p d) = act m c (ix2 (rowB (rowNo t.val) p) d) := by
  have hi : win0_1.index t 0 = t.val % 6 ∧ win0_1.index t 1 = 0 :=
    (by decide +kernel : ∀ t : Fin grid0.N, win0_1.index t 0 = t.val % 6 ∧ win0_1.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_1.index t 0 * 1408 + 1 * p.val = 1408 * (t.val % 6) + p.val; rw [hi.1]; omega
  | ⟨1, _⟩ => show win0_1.index t 1 * 2048 + 1 * d.val = d.val; rw [hi.2]; omega

/-! ## The running sum -/

theorem share_at (t : Fin cfg0.N) (j : Fin 256) (d : Fin 2048) :
    k0_pay1 (iblk m c 0 t) (iblk m c 1 t) (ix2 j d)
      = tmmB (ah m c) (act m c) (rowNo t.val) (colE (colNo t.val t.isLt) j) d := by
  rw [pay1_at]
  exact Finset.sum_congr rfl fun p _ =>
    congrArg₂ (HMul.hMul (α := EReal) (β := EReal) (γ := EReal)) (iblk0_at m c t p j) (iblk1_at m c t p d)

theorem share_at' (n : ℕ) (hn : n < cfg0.N) (b : Fin 8) (k : ℕ) (hk : k < 6) (e : n = 6 * b.val + k) (j : Fin 256) (d : Fin 2048) :
    k0_pay1 (iblk m c 0 ⟨n, hn⟩) (iblk m c 1 ⟨n, hn⟩) (ix2 j d) = tmmN (ah m c) (act m c) (colE b j) d k := by
  rw [share_at, tmmN, dif_pos hk]
  have h1 : rowNo n = ⟨k, hk⟩ := Fin.ext (by show n % 6 = k; omega)
  have h2 : colNo n hn = b := Fin.ext (by show n / 6 = b.val; omega)
  dsimp only
  rw [h1, h2]

/-- After point `6 b + k` the scratch holds row blocks `0` to `k`. -/
theorem acc_at (b : Fin 8) (j : Fin 256) (d : Fin 2048) : ∀ (k n : ℕ) (hn : n < cfg0.N), k < 6 → n = 6 * b.val + k →
    (outsAt0 m c n hn).2 (ix2 j d) = ∑ q ∈ Finset.range (k + 1), tmmN (ah m c) (act m c) (colE b j) d q
  | 0, n, hn, hk, e => by
    rw [outsAt0_A m c ⟨n, hn⟩ (by dsimp only; omega) (by dsimp only; omega) (by dsimp only; omega)]
    dsimp only
    rw [sout_A, Finset.sum_range_one]
    exact share_at' m c n hn b 0 hk e j d
  | k + 1, n, hn, hk, e => by
    have h1 := acc_at b j d k (n - 1) (by omega) (by omega) (by omega)
    by_cases h5 : n % 6 = 5
    · rw [outsAt0_C m c ⟨n, hn⟩ (by dsimp only; omega) (by dsimp only; omega) h5]
      dsimp only
      rw [sout_C, addf_apply, Finset.sum_range_succ, h1]
      exact congrArg (_ + ·) (share_at' m c n hn b (k + 1) hk e j d)
    · rw [outsAt0_B m c ⟨n, hn⟩ (by dsimp only; omega) (by dsimp only; omega) h5]
      dsimp only
      rw [sout_B, addf_apply, Finset.sum_range_succ, h1]
      exact congrArg (_ + ·) (share_at' m c n hn b (k + 1) hk e j d)

/-- The block written back at the last row block of a weight block. -/
theorem out_last (t : Fin cfg0.N) (ht : t.val % 6 = 5) (u : Fin 1) (j : Fin 256) (d : Fin 2048) :
    (outsAt0 m c t.val t.isLt).1 (ix3 u j d) = tmm (ah m c) (act m c) (colE (colNo t.val t.isLt) j) d := by
  have h1 := acc_at m c (colNo t.val t.isLt) j d 5 t.val t.isLt (by decide) (by show t.val = 6 * (t.val / 6) + 5; omega)
  rw [sum_tmmN, outsAt0_C m c t (by omega) (by omega) ht] at h1
  rw [outsAt0_C m c t (by omega) (by omega) ht]
  dsimp only at h1 ⊢
  rw [sout_C] at h1
  rw [out_C, ← h1]
  exact pay4_at _ u j d

/-! ## The whole array -/

/-- The weight's gradient, in blocks of its rows. -/
def G2 : S8x256x2048.Idx → EReal := fun i => tmm (ah m c) (act m c) (colE (i 0) (i 1)) (i 2)

theorem index2 : ∀ t : Fin grid0.N, win0_2.index t 0 = t.val / 6 ∧ win0_2.index t 1 = 0 ∧ win0_2.index t 2 = 0 := by
  decide +kernel

theorem xsize2 : ∀ t : Fin grid0.N, win0_2.xsize (grid0.coords t) 0 = 1 ∧ win0_2.xsize (grid0.coords t) 1 = 256
    ∧ win0_2.xsize (grid0.coords t) 2 = 2048 := by
  decide +kernel

theorem flushed2_eq (t : Fin cfg0.N) (hf : (cfg0.win 2).flush t = true) :
    (dats m 0 c).flushed 2 t = ((cfg0.win 2).blk t).view.read (Elt Ideal) (G2 m c) := by
  have hi := index2 t
  rw [Value.flushed2]
  funext i
  rw [View.read_apply]
  have h0 : (i 0).val < 1 := lt_of_lt_of_eq (i 0).isLt (xsize2 t).1
  have h1 : (i 1).val < 256 := lt_of_lt_of_eq (i 1).isLt (xsize2 t).2.1
  have h2 : (i 2).val < 2048 := lt_of_lt_of_eq (i 2).isLt (xsize2 t).2.2
  refine Eq.trans (b := (outsAt0 m c t.val t.isLt).1 (ix3 (⟨(i 0).val, h0⟩ : Fin 1) (⟨(i 1).val, h1⟩ : Fin 256) (⟨(i 2).val, h2⟩ : Fin 2048)))
    (congrArg _ (funext fun a => Fin.ext (by match a with | ⟨0, _⟩ => rfl | ⟨1, _⟩ => rfl | ⟨2, _⟩ => rfl))) ?_
  rw [out_last m c t ((flush0_2 t).mp hf)]
  refine congrArg₂ (tmm (ah m c) (act m c)) (congrArg₂ colE (Fin.ext ?_) (Fin.ext ?_)) (Fin.ext ?_)
  · show t.val / 6 = win0_2.index t 0 * 1 + 1 * (i 0).val; rw [hi.1]; omega
  · show (i 1).val = win0_2.index t 1 * 256 + 1 * (i 1).val; rw [hi.2.1]; omega
  · show (i 2).val = win0_2.index t 2 * 2048 + 1 * (i 2).val; rw [hi.2.2]; omega

theorem final2 : (dats m 0 c).arrAt 2 cfg0.N = G2 m c :=
  (dats m 0 c).arrAt_eq_of_cover 2 (G2 m c) (flushed2_eq m c) fun i => by
    have h0 : (i 0 : Nat) < 8 := (i 0).isLt
    have h1 : (i 1 : Nat) < 256 := (i 1).isLt
    have h2 : (i 2 : Nat) < 2048 := (i 2).isLt
    have hN : cfg0.N = 48 := N_0
    obtain ⟨t, ht⟩ : ∃ t : Fin cfg0.N, t.val = 6 * (i 0 : Nat) + 5 := ⟨⟨6 * (i 0 : Nat) + 5, by omega⟩, rfl⟩
    refine ⟨t, (flush0_2 t).mpr (by omega), ?_⟩
    obtain ⟨a0, a1, a2⟩ := index2 t
    obtain ⟨b0, b1, b2⟩ := xsize2 t
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + win0_2.xsize (grid0.coords t) 0
                rw [a0, b0]; omega
    | ⟨1, _⟩ => show win0_2.index t 1 * 256 ≤ (i 1 : Nat) ∧ (i 1 : Nat) < win0_2.index t 1 * 256 + win0_2.xsize (grid0.coords t) 1
                rw [a1, b1]; omega
    | ⟨2, _⟩ => show win0_2.index t 2 * 2048 ≤ (i 2 : Nat) ∧ (i 2 : Nat) < win0_2.index t 2 * 2048 + win0_2.xsize (grid0.coords t) 2
                rw [a2, b2]; omega
end Blocks

/-! ## The reference -/

section Reference
open Cert.OutWgradReferenceIdeal.Read

theorem ref_at (x : Mat 8448 2048) (ct : Mat 8448 2048) (b : Fin 8) (j : Fin 256) (d : Fin 2048) :
    val_main_v7 (F := Ideal) x ct (ix3 b j d) = tmm x ct (colE b j) d := by
  rw [val_main_v7_apply, val_main_v6_apply, val_main_v5_apply, val_main_v4_apply]
  refine Finset.sum_congr rfl fun k _ => ?_
  have e1 : idx_main_v6 (ix3 b j d) = ix2 (colE b j) d := by
    funext a; apply Fin.ext
    have := b.isLt; have := d.isLt; have := j.isLt
    match a with
    | ⟨0, _⟩ => show ((b.val * 256 + j.val) * 2048 + d.val) / 2048 = 256 * b.val + j.val; omega
    | ⟨1, _⟩ => show ((b.val * 256 + j.val) * 2048 + d.val) % 2048 = d.val; omega
  rw [e1]
  have e2 : lidx_main_v4 (idx_main_v5 (ix2 (colE b j) d)) k = ix2 k d := eq_ix2 _
  have e3 : ridx_main_v4 (idx_main_v5 (ix2 (colE b j) d)) k = ix2 k (colE b j) := eq_ix2 _
  rw [e2, e3]
  exact mul_comm _ _

theorem ref_eq (m : (ℓ : Loc Cert.OutWgradIdeal.nD Cert.OutWgradIdeal.τ Cert.OutWgradIdeal.sig) → Buf (Elt Ideal) ℓ)
    (c : Dev Cert.OutWgradIdeal.nD) : val_main_v7 (F := Ideal) (ah m c) (act m c) = G2 m c := by
  funext i
  obtain ⟨b, j, d, rfl⟩ : ∃ (b : Fin 8) (j : Fin 256) (d : Fin 2048), i = ix3 b j d := ⟨i 0, i 1, i 2, eq_ix3 i⟩
  exact ref_at (ah m c) (act m c) b j d
end Reference

attribute [local instance] Cert.OutWgrad.Gen.facts Cert.OutWgradIdeal.Gen.facts Cert.OutWgradReferenceIdeal.Gen.facts

theorem algebraic : Cert.algebraic_OutWgradIdeal_OutWgradReferenceIdeal := by
  intro m g m' g' _ harg
  refine ⟨fun c => G2 m c, ?_, ?_⟩
  · refine (θ_run _ _ _).mono (fun r h c => ?_) (Cert.OutWgradIdeal.Value.run_blocks m g)
    obtain ⟨h0, ha⟩ := h c
    exact ⟨h0.trans (final2 m c), ha⟩
  · refine (θ_run _ _ _).mono (fun r h c => ?_) (Cert.OutWgradReferenceIdeal.Value.run (F := Ideal) m' g')
    obtain ⟨h0, ha⟩ := h c
    obtain ⟨e0, e1, e2⟩ := harg c
    refine ⟨(h0.trans ?_).trans (ref_eq m c), ha⟩
    rw [e0, e2]
    exact Cert.OutWgradReferenceIdeal.Read.val_main_v7_eq ..

end Proj.OutWgrad

end
-- ==== Proof.lean ====
/-
  The certificate: the training step's feed-forward blocks, the two layers' projections and the attention, forward and backward,
  and the updates of the weights other than the feed-forward blocks'.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardIdeal.Value
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.WgradIn
public import proofs.«01_k».proof.Proof.Gen.WgradIn.Skeleton
public import proofs.«01_k».proof.Proof.Gen.WgradIn.Launch
public import proofs.«01_k».proof.Proof.Gen.WgradIn.Points
public import proofs.«01_k».proof.Proof.Gen.WgradIn.Frame
public import proofs.«01_k».proof.Proof.Gen.WgradInIdeal
public import proofs.«01_k».proof.Proof.Gen.WgradInIdeal.Skeleton
public import proofs.«01_k».proof.Proof.Gen.WgradInIdeal.Launch
public import proofs.«01_k».proof.Proof.Gen.WgradInIdeal.Points
public import proofs.«01_k».proof.Proof.Gen.WgradInIdeal.Frame
public import proofs.«01_k».proof.Proof.Gen.WgradInIdeal.Value
public import proofs.«01_k».proof.Proof.Gen.WgradInReferenceIdeal
public import proofs.«01_k».proof.Proof.Gen.WgradInReferenceIdeal.Run
public import proofs.«01_k».proof.Proof.Gen.WgradInReferenceIdeal.Read
public import proofs.«01_k».proof.Proof.Gen.WgradOut
public import proofs.«01_k».proof.Proof.Gen.WgradOut.Skeleton
public import proofs.«01_k».proof.Proof.Gen.WgradOut.Launch
public import proofs.«01_k».proof.Proof.Gen.WgradOut.Points
public import proofs.«01_k».proof.Proof.Gen.WgradOut.Frame
public import proofs.«01_k».proof.Proof.Gen.WgradOutIdeal
public import proofs.«01_k».proof.Proof.Gen.WgradOutIdeal.Skeleton
public import proofs.«01_k».proof.Proof.Gen.WgradOutIdeal.Launch
public import proofs.«01_k».proof.Proof.Gen.WgradOutIdeal.Points
public import proofs.«01_k».proof.Proof.Gen.WgradOutIdeal.Frame
public import proofs.«01_k».proof.Proof.Gen.WgradOutIdeal.Value
public import proofs.«01_k».proof.Proof.Gen.WgradOutReferenceIdeal
public import proofs.«01_k».proof.Proof.Gen.WgradOutReferenceIdeal.Run
public import proofs.«01_k».proof.Proof.Gen.WgradOutReferenceIdeal.Read
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenIdeal.Value
public import proofs.«01_k».proof.Proof.Gen.InEvenReferenceIdeal
public import proofs.«01_k».proof.Proof.Gen.InEvenReferenceIdeal.Run
public import proofs.«01_k».proof.Proof.Gen.InEvenReferenceIdeal.Read
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddIdeal.Value
public import proofs.«01_k».proof.Proof.Gen.InOddReferenceIdeal
public import proofs.«01_k».proof.Proof.Gen.InOddReferenceIdeal.Run
public import proofs.«01_k».proof.Proof.Gen.InOddReferenceIdeal.Read
public import proofs.«01_k».proof.Proof.Gen.InEvenGrad
public import proofs.«01_k».proof.Proof.Gen.InEvenGrad.Skeleton
public import proofs.«01_k».proof.Proof.Gen.InEvenGrad.Launch
public import proofs.«01_k».proof.Proof.Gen.InEvenGrad.Points
public import proofs.«01_k».proof.Proof.Gen.InEvenGrad.Frame
public import proofs.«01_k».proof.Proof.Gen.InEvenGradIdeal
public import proofs.«01_k».proof.Proof.Gen.InEvenGradIdeal.Skeleton
public import proofs.«01_k».proof.Proof.Gen.InEvenGradIdeal.Launch
public import proofs.«01_k».proof.Proof.Gen.InEvenGradIdeal.Points
public import proofs.«01_k».proof.Proof.Gen.InEvenGradIdeal.Frame
public import proofs.«01_k».proof.Proof.Gen.InEvenGradIdeal.Value
public import proofs.«01_k».proof.Proof.Gen.InEvenGradReferenceIdeal
public import proofs.«01_k».proof.Proof.Gen.InEvenGradReferenceIdeal.Run
public import proofs.«01_k».proof.Proof.Gen.InEvenGradReferenceIdeal.Read
public import proofs.«01_k».proof.Proof.Gen.InOddGrad
public import proofs.«01_k».proof.Proof.Gen.InOddGrad.Skeleton
public import proofs.«01_k».proof.Proof.Gen.InOddGrad.Launch
public import proofs.«01_k».proof.Proof.Gen.InOddGrad.Points
public import proofs.«01_k».proof.Proof.Gen.InOddGrad.Frame
public import proofs.«01_k».proof.Proof.Gen.InOddGradIdeal
public import proofs.«01_k».proof.Proof.Gen.InOddGradIdeal.Skeleton
public import proofs.«01_k».proof.Proof.Gen.InOddGradIdeal.Launch
public import proofs.«01_k».proof.Proof.Gen.InOddGradIdeal.Points
public import proofs.«01_k».proof.Proof.Gen.InOddGradIdeal.Frame
public import proofs.«01_k».proof.Proof.Gen.InOddGradIdeal.Value
public import proofs.«01_k».proof.Proof.Gen.InOddGradReferenceIdeal
public import proofs.«01_k».proof.Proof.Gen.InOddGradReferenceIdeal.Run
public import proofs.«01_k».proof.Proof.Gen.InOddGradReferenceIdeal.Read
public import proofs.«01_k».proof.Proof.Gen.InEvenWgrad
public import proofs.«01_k».proof.Proof.Gen.InEvenWgrad.Skeleton
public import proofs.«01_k».proof.Proof.Gen.InEvenWgrad.Launch
public import proofs.«01_k».proof.Proof.Gen.InEvenWgrad.Points
public import proofs.«01_k».proof.Proof.Gen.InEvenWgrad.Frame
public import proofs.«01_k».proof.Proof.Gen.InEvenWgradIdeal
public import proofs.«01_k».proof.Proof.Gen.InEvenWgradIdeal.Skeleton
public import proofs.«01_k».proof.Proof.Gen.InEvenWgradIdeal.Launch
public import proofs.«01_k».proof.Proof.Gen.InEvenWgradIdeal.Points
public import proofs.«01_k».proof.Proof.Gen.InEvenWgradIdeal.Frame
public import proofs.«01_k».proof.Proof.Gen.InEvenWgradIdeal.Value
public import proofs.«01_k».proof.Proof.Gen.InEvenWgradReferenceIdeal
public import proofs.«01_k».proof.Proof.Gen.InEvenWgradReferenceIdeal.Run
public import proofs.«01_k».proof.Proof.Gen.InEvenWgradReferenceIdeal.Read
public import proofs.«01_k».proof.Proof.Gen.InOddWgrad
public import proofs.«01_k».proof.Proof.Gen.InOddWgrad.Skeleton
public import proofs.«01_k».proof.Proof.Gen.InOddWgrad.Launch
public import proofs.«01_k».proof.Proof.Gen.InOddWgrad.Points
public import proofs.«01_k».proof.Proof.Gen.InOddWgrad.Frame
public import proofs.«01_k».proof.Proof.Gen.InOddWgradIdeal
public import proofs.«01_k».proof.Proof.Gen.InOddWgradIdeal.Skeleton
public import proofs.«01_k».proof.Proof.Gen.InOddWgradIdeal.Launch
public import proofs.«01_k».proof.Proof.Gen.InOddWgradIdeal.Points
public import proofs.«01_k».proof.Proof.Gen.InOddWgradIdeal.Frame
public import proofs.«01_k».proof.Proof.Gen.InOddWgradIdeal.Value
public import proofs.«01_k».proof.Proof.Gen.InOddWgradReferenceIdeal
public import proofs.«01_k».proof.Proof.Gen.InOddWgradReferenceIdeal.Run
public import proofs.«01_k».proof.Proof.Gen.InOddWgradReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGradReferenceIdeal
public import proofs.«01_k».proof.Proof.Gen.OutGradReferenceIdeal.Run
public import proofs.«01_k».proof.Proof.Gen.OutGradReferenceIdeal.Read
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradIdeal.Value
public import proofs.«01_k».proof.Proof.Gen.OutWgradReferenceIdeal
public import proofs.«01_k».proof.Proof.Gen.OutWgradReferenceIdeal.Run
public import proofs.«01_k».proof.Proof.Gen.OutWgradReferenceIdeal.Read
public import proofs.«01_k».proof.Proof.Gen.AttGrad
public import proofs.«01_k».proof.Proof.Gen.AttGrad.Skeleton
public import proofs.«01_k».proof.Proof.Gen.AttGrad.Launch
public import proofs.«01_k».proof.Proof.Gen.AttGrad.Points
public import proofs.«01_k».proof.Proof.Gen.AttGrad.Frame
public import proofs.«01_k».proof.Proof.Gen.AttGradIdeal
public import proofs.«01_k».proof.Proof.Gen.AttGradIdeal.Skeleton
public import proofs.«01_k».proof.Proof.Gen.AttGradIdeal.Launch
public import proofs.«01_k».proof.Proof.Gen.AttGradIdeal.Points
public import proofs.«01_k».proof.Proof.Gen.AttGradIdeal.Frame
public import proofs.«01_k».proof.Proof.Gen.AttGradReferenceIdeal
public import proofs.«01_k».proof.Proof.AttRaw
public import proofs.«01_k».proof.Proof.AttFrame
public import proofs.«01_k».proof.Proof.Gen.AttGradReferenceIdeal.Run
public import proofs.«01_k».proof.Proof.Gen.AttGradReferenceIdeal.Read
public import proofs.«01_k».proof.Proof.Gen.Pre_att_finite
public import proofs.«01_k».proof.Proof.AttClaim
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttIdeal.Value
public import proofs.«01_k».proof.Proof.Gen.AttReferenceIdeal
public import proofs.«01_k».proof.Proof.Gen.AttReferenceIdeal.Run
public import proofs.«01_k».proof.Proof.Gen.AttReferenceIdeal.Read
public import proofs.«01_k».proof.Proof.Gen.Pre_att_fwd_finite
public import proofs.«01_k».proof.Proof.AttFwdClaim
public import proofs.«01_k».proof.Proof.Gen.AdamEvenIn
public import proofs.«01_k».proof.Proof.Gen.AdamEvenIn.Skeleton
public import proofs.«01_k».proof.Proof.Gen.AdamEvenIn.Launch
public import proofs.«01_k».proof.Proof.Gen.AdamEvenIn.Points
public import proofs.«01_k».proof.Proof.Gen.AdamEvenIn.Frame
public import proofs.«01_k».proof.Proof.Gen.AdamEvenInIdeal
public import proofs.«01_k».proof.Proof.Gen.AdamEvenInIdeal.Skeleton
public import proofs.«01_k».proof.Proof.Gen.AdamEvenInIdeal.Launch
public import proofs.«01_k».proof.Proof.Gen.AdamEvenInIdeal.Points
public import proofs.«01_k».proof.Proof.Gen.AdamEvenInIdeal.Frame
public import proofs.«01_k».proof.Proof.Gen.AdamEvenInIdeal.Value
public import proofs.«01_k».proof.Proof.Gen.AdamEvenInReferenceIdeal
public import proofs.«01_k».proof.Proof.Gen.AdamEvenInReferenceIdeal.Run
public import proofs.«01_k».proof.Proof.Gen.AdamEvenInReferenceIdeal.Read
public import proofs.«01_k».proof.Proof.AdamEvenIn
public import proofs.«01_k».proof.Proof.Gen.AdamOddIn
public import proofs.«01_k».proof.Proof.Gen.AdamOddIn.Skeleton
public import proofs.«01_k».proof.Proof.Gen.AdamOddIn.Launch
public import proofs.«01_k».proof.Proof.Gen.AdamOddIn.Points
public import proofs.«01_k».proof.Proof.Gen.AdamOddIn.Frame
public import proofs.«01_k».proof.Proof.Gen.AdamOddInIdeal
public import proofs.«01_k».proof.Proof.Gen.AdamOddInIdeal.Skeleton
public import proofs.«01_k».proof.Proof.Gen.AdamOddInIdeal.Launch
public import proofs.«01_k».proof.Proof.Gen.AdamOddInIdeal.Points
public import proofs.«01_k».proof.Proof.Gen.AdamOddInIdeal.Frame
public import proofs.«01_k».proof.Proof.Gen.AdamOddInIdeal.Value
public import proofs.«01_k».proof.Proof.Gen.AdamOddInReferenceIdeal
public import proofs.«01_k».proof.Proof.Gen.AdamOddInReferenceIdeal.Run
public import proofs.«01_k».proof.Proof.Gen.AdamOddInReferenceIdeal.Read
public import proofs.«01_k».proof.Proof.AdamOddIn
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.AdamOut
public import proofs.«01_k».proof.Proof.Gen.AdamMod
public import proofs.«01_k».proof.Proof.Gen.AdamMod.Skeleton
public import proofs.«01_k».proof.Proof.Gen.AdamMod.Launch
public import proofs.«01_k».proof.Proof.Gen.AdamMod.Points
public import proofs.«01_k».proof.Proof.Gen.AdamMod.Frame
public import proofs.«01_k».proof.Proof.Gen.AdamModIdeal
public import proofs.«01_k».proof.Proof.Gen.AdamModIdeal.Skeleton
public import proofs.«01_k».proof.Proof.Gen.AdamModIdeal.Launch
public import proofs.«01_k».proof.Proof.Gen.AdamModIdeal.Points
public import proofs.«01_k».proof.Proof.Gen.AdamModIdeal.Frame
public import proofs.«01_k».proof.Proof.Gen.AdamModIdeal.Value
public import proofs.«01_k».proof.Proof.Gen.AdamModReferenceIdeal
public import proofs.«01_k».proof.Proof.Gen.AdamModReferenceIdeal.Run
public import proofs.«01_k».proof.Proof.Gen.AdamModReferenceIdeal.Read
public import proofs.«01_k».proof.Proof.AdamMod
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.AdamSmall
public import proofs.«01_k».proof.Proof.FfnClaim
public import proofs.«01_k».proof.Proof.FfnForward
public import proofs.«01_k».proof.Proof.FfnWgradIn
public import proofs.«01_k».proof.Proof.FfnWgradOut
public import proofs.«01_k».proof.Proof.InEven
public import proofs.«01_k».proof.Proof.InOdd
public import proofs.«01_k».proof.Proof.InEvenGrad
public import proofs.«01_k».proof.Proof.InOddGrad
public import proofs.«01_k».proof.Proof.InEvenWgrad
public import proofs.«01_k».proof.Proof.InOddWgrad
public import proofs.«01_k».proof.Proof.Out
public import proofs.«01_k».proof.Proof.OutGrad
public import proofs.«01_k».proof.Proof.OutWgrad
public import Idealize.ShloMosaic.Adequacy
public import Idealize.ShloMosaic.Init

@[expose] public section

noncomputable section

namespace Cert.Proof

open Idealize.ShloMosaic Idealize.SL.Sem Cert.Kernel

/-- The reference runs, and leaves its arguments as they were; it declares no semaphore. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The forward reference likewise. -/
theorem frame_forward_ref : Cert.quiescent_ForwardReferenceIdeal (hForwardReferenceIdeal := Cert.ForwardReferenceIdeal.Gen.facts) := fun m ρ _ =>
  (θ_run Cert.ForwardReferenceIdeal.defs _ _).mono
    (fun r h => ⟨fun c => (h c).2.2.2, Idealize.ShloMosaic.sem_eq_zero_of_no_sems (by decide) r.2⟩)
    (Cert.ForwardReferenceIdeal.Value.run (F := Ideal) m ρ)

/-- The input projections' weight-gradient reference likewise. -/
theorem frame_wgrad_in_ref : Cert.quiescent_WgradInReferenceIdeal (hWgradInReferenceIdeal := Cert.WgradInReferenceIdeal.Gen.facts) := fun m ρ _ =>
  (θ_run Cert.WgradInReferenceIdeal.defs _ _).mono
    (fun r h => ⟨fun c => (h c).2, Idealize.ShloMosaic.sem_eq_zero_of_no_sems (by decide) r.2⟩)
    (Cert.WgradInReferenceIdeal.Value.run (F := Ideal) m ρ)

/-- The output projection's weight-gradient reference likewise. -/
theorem frame_wgrad_out_ref : Cert.quiescent_WgradOutReferenceIdeal (hWgradOutReferenceIdeal := Cert.WgradOutReferenceIdeal.Gen.facts) := fun m ρ _ =>
  (θ_run Cert.WgradOutReferenceIdeal.defs _ _).mono
    (fun r h => ⟨fun c => (h c).2, Idealize.ShloMosaic.sem_eq_zero_of_no_sems (by decide) r.2⟩)
    (Cert.WgradOutReferenceIdeal.Value.run (F := Ideal) m ρ)

/-- The reference of the even layer's input projection likewise. -/
theorem frame_in_even_ref : Cert.quiescent_InEvenReferenceIdeal (hInEvenReferenceIdeal := Cert.InEvenReferenceIdeal.Gen.facts) := fun m ρ _ =>
  (θ_run Cert.InEvenReferenceIdeal.defs _ _).mono
    (fun r h => ⟨fun c => (h c).2, Idealize.ShloMosaic.sem_eq_zero_of_no_sems (by decide) r.2⟩)
    (Cert.InEvenReferenceIdeal.Value.run (F := Ideal) m ρ)

/-- The reference of the odd layer's input projection likewise. -/
theorem frame_in_odd_ref : Cert.quiescent_InOddReferenceIdeal (hInOddReferenceIdeal := Cert.InOddReferenceIdeal.Gen.facts) := fun m ρ _ =>
  (θ_run Cert.InOddReferenceIdeal.defs _ _).mono
    (fun r h => ⟨fun c => (h c).2, Idealize.ShloMosaic.sem_eq_zero_of_no_sems (by decide) r.2⟩)
    (Cert.InOddReferenceIdeal.Value.run (F := Ideal) m ρ)

/-- The reference of the gradient of the even layer's input projection likewise. -/
theorem frame_in_even_grad_ref : Cert.quiescent_InEvenGradReferenceIdeal (hInEvenGradReferenceIdeal := Cert.InEvenGradReferenceIdeal.Gen.facts) := fun m ρ _ =>
  (θ_run Cert.InEvenGradReferenceIdeal.defs _ _).mono
    (fun r h => ⟨fun c => (h c).2, Idealize.ShloMosaic.sem_eq_zero_of_no_sems (by decide) r.2⟩)
    (Cert.InEvenGradReferenceIdeal.Value.run (F := Ideal) m ρ)

/-- The reference of the gradient of the odd layer's input projection likewise. -/
theorem frame_in_odd_grad_ref : Cert.quiescent_InOddGradReferenceIdeal (hInOddGradReferenceIdeal := Cert.InOddGradReferenceIdeal.Gen.facts) := fun m ρ _ =>
  (θ_run Cert.InOddGradReferenceIdeal.defs _ _).mono
    (fun r h => ⟨fun c => (h c).2, Idealize.ShloMosaic.sem_eq_zero_of_no_sems (by decide) r.2⟩)
    (Cert.InOddGradReferenceIdeal.Value.run (F := Ideal) m ρ)

/-- The reference of the weight gradient of the even layer's input projection likewise. -/
theorem frame_in_even_wgrad_ref : Cert.quiescent_InEvenWgradReferenceIdeal (hInEvenWgradReferenceIdeal := Cert.InEvenWgradReferenceIdeal.Gen.facts) := fun m ρ _ =>
  (θ_run Cert.InEvenWgradReferenceIdeal.defs _ _).mono
    (fun r h => ⟨fun c => (h c).2, Idealize.ShloMosaic.sem_eq_zero_of_no_sems (by decide) r.2⟩)
    (Cert.InEvenWgradReferenceIdeal.Value.run (F := Ideal) m ρ)

/-- The reference of the weight gradient of the odd layer's input projection likewise. -/
theorem frame_in_odd_wgrad_ref : Cert.quiescent_InOddWgradReferenceIdeal (hInOddWgradReferenceIdeal := Cert.InOddWgradReferenceIdeal.Gen.facts) := fun m ρ _ =>
  (θ_run Cert.InOddWgradReferenceIdeal.defs _ _).mono
    (fun r h => ⟨fun c => (h c).2, Idealize.ShloMosaic.sem_eq_zero_of_no_sems (by decide) r.2⟩)
    (Cert.InOddWgradReferenceIdeal.Value.run (F := Ideal) m ρ)

/-- The reference of the output projection likewise. -/
theorem frame_out_ref : Cert.quiescent_OutReferenceIdeal (hOutReferenceIdeal := Cert.OutReferenceIdeal.Gen.facts) := fun m ρ _ =>
  (θ_run Cert.OutReferenceIdeal.defs _ _).mono
    (fun r h => ⟨fun c => (h c).2, Idealize.ShloMosaic.sem_eq_zero_of_no_sems (by decide) r.2⟩)
    (Cert.OutReferenceIdeal.Value.run (F := Ideal) m ρ)

/-- The reference of the gradient of the output projection likewise. -/
theorem frame_out_grad_ref : Cert.quiescent_OutGradReferenceIdeal (hOutGradReferenceIdeal := Cert.OutGradReferenceIdeal.Gen.facts) := fun m ρ _ =>
  (θ_run Cert.OutGradReferenceIdeal.defs _ _).mono
    (fun r h => ⟨fun c => (h c).2, Idealize.ShloMosaic.sem_eq_zero_of_no_sems (by decide) r.2⟩)
    (Cert.OutGradReferenceIdeal.Value.run (F := Ideal) m ρ)

/-- The reference of the weight gradient of the output projection likewise. -/
theorem frame_out_wgrad_ref : Cert.quiescent_OutWgradReferenceIdeal (hOutWgradReferenceIdeal := Cert.OutWgradReferenceIdeal.Gen.facts) := fun m ρ _ =>
  (θ_run Cert.OutWgradReferenceIdeal.defs _ _).mono
    (fun r h => ⟨fun c => (h c).2, Idealize.ShloMosaic.sem_eq_zero_of_no_sems (by decide) r.2⟩)
    (Cert.OutWgradReferenceIdeal.Value.run (F := Ideal) m ρ)

/-- The attention gradient's reference likewise. -/
theorem frame_att_grad_ref : Cert.quiescent_AttGradReferenceIdeal (hAttGradReferenceIdeal := Cert.AttGradReferenceIdeal.Gen.facts) := fun m ρ _ =>
  (θ_run Cert.AttGradReferenceIdeal.defs _ _).mono
    (fun r h => ⟨fun c => (h c).2.2.2, Idealize.ShloMosaic.sem_eq_zero_of_no_sems (by decide) r.2⟩)
    (Cert.AttGradReferenceIdeal.Value.run (F := Ideal) m ρ)

/-- The attention forward pass's reference likewise. -/
theorem frame_att_ref : Cert.quiescent_AttReferenceIdeal (hAttReferenceIdeal := Cert.AttReferenceIdeal.Gen.facts) := fun m ρ _ =>
  (θ_run Cert.AttReferenceIdeal.defs _ _).mono
    (fun r h => ⟨fun c => (h c).2.2, Idealize.ShloMosaic.sem_eq_zero_of_no_sems (by decide) r.2⟩)
    (Cert.AttReferenceIdeal.Value.run (F := Ideal) m ρ)

/-- The reference of the even input projection's update likewise. -/
theorem frame_AdamEvenIn_ref : Cert.quiescent_AdamEvenInReferenceIdeal (hAdamEvenInReferenceIdeal := Cert.AdamEvenInReferenceIdeal.Gen.facts) := fun m ρ _ =>
  (θ_run Cert.AdamEvenInReferenceIdeal.defs _ _).mono
    (fun r h => ⟨fun c => (h c).2.2.2.2, Idealize.ShloMosaic.sem_eq_zero_of_no_sems (by decide) r.2⟩)
    (Cert.AdamEvenInReferenceIdeal.Value.run (F := Ideal) m ρ)

/-- The reference of the odd input projection's update likewise. -/
theorem frame_AdamOddIn_ref : Cert.quiescent_AdamOddInReferenceIdeal (hAdamOddInReferenceIdeal := Cert.AdamOddInReferenceIdeal.Gen.facts) := fun m ρ _ =>
  (θ_run Cert.AdamOddInReferenceIdeal.defs _ _).mono
    (fun r h => ⟨fun c => (h c).2.2.2.2, Idealize.ShloMosaic.sem_eq_zero_of_no_sems (by decide) r.2⟩)
    (Cert.AdamOddInReferenceIdeal.Value.run (F := Ideal) m ρ)

/-- The reference of the output projections' update likewise. -/
theorem frame_AdamOut_ref : Cert.quiescent_AdamOutReferenceIdeal (hAdamOutReferenceIdeal := Cert.AdamOutReferenceIdeal.Gen.facts) := fun m ρ _ =>
  (θ_run Cert.AdamOutReferenceIdeal.defs _ _).mono
    (fun r h => ⟨fun c => (h c).2.2.2.2, Idealize.ShloMosaic.sem_eq_zero_of_no_sems (by decide) r.2⟩)
    (Cert.AdamOutReferenceIdeal.Value.run (F := Ideal) m ρ)

/-- The reference of the modulation's update likewise. -/
theorem frame_AdamMod_ref : Cert.quiescent_AdamModReferenceIdeal (hAdamModReferenceIdeal := Cert.AdamModReferenceIdeal.Gen.facts) := fun m ρ _ =>
  (θ_run Cert.AdamModReferenceIdeal.defs _ _).mono
    (fun r h => ⟨fun c => (h c).2.2.2.2, Idealize.ShloMosaic.sem_eq_zero_of_no_sems (by decide) r.2⟩)
    (Cert.AdamModReferenceIdeal.Value.run (F := Ideal) m ρ)

/-- The reference of the small weights' update likewise. -/
theorem frame_AdamSmall_ref : Cert.quiescent_AdamSmallReferenceIdeal (hAdamSmallReferenceIdeal := Cert.AdamSmallReferenceIdeal.Gen.facts) := fun m ρ _ =>
  (θ_run Cert.AdamSmallReferenceIdeal.defs _ _).mono
    (fun r h => ⟨fun c => (h c).2.2.2.2, Idealize.ShloMosaic.sem_eq_zero_of_no_sems (by decide) r.2⟩)
    (Cert.AdamSmallReferenceIdeal.Value.run (F := Ideal) m ρ)

/-- The two literals the attention gradient names are the words nearest their terms. -/
theorem preserves_att_grad : Cert.preserves_AttGrad_AttGradIdeal :=
  ⟨IdealRules.named_const.statement Cert.AttGradIdeal.κ "ln2" .f32 0x3F317218#32 _ rfl,
    IdealRules.named_const.statement Cert.AttGradIdeal.κ "scale" .f32 0x3DB504F3#32 _ rfl⟩

/-- The literal the attention forward pass names is the word nearest its term. -/
theorem preserves_att : Cert.preserves_Att_AttIdeal :=
  IdealRules.named_const.statement Cert.AttIdeal.κ "ln2" .f32 0x3F317218#32 _ rfl

theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.WgradIn.Gen.facts, Cert.WgradInIdeal.Gen.facts, Cert.WgradInReferenceIdeal.Gen.facts,
  Cert.WgradOut.Gen.facts, Cert.WgradOutIdeal.Gen.facts, Cert.WgradOutReferenceIdeal.Gen.facts,
  Cert.InEven.Gen.facts, Cert.InEvenIdeal.Gen.facts, Cert.InEvenReferenceIdeal.Gen.facts,
  Cert.InOdd.Gen.facts, Cert.InOddIdeal.Gen.facts, Cert.InOddReferenceIdeal.Gen.facts,
  Cert.InEvenGrad.Gen.facts, Cert.InEvenGradIdeal.Gen.facts, Cert.InEvenGradReferenceIdeal.Gen.facts,
  Cert.InOddGrad.Gen.facts, Cert.InOddGradIdeal.Gen.facts, Cert.InOddGradReferenceIdeal.Gen.facts,
  Cert.InEvenWgrad.Gen.facts, Cert.InEvenWgradIdeal.Gen.facts, Cert.InEvenWgradReferenceIdeal.Gen.facts,
  Cert.InOddWgrad.Gen.facts, Cert.InOddWgradIdeal.Gen.facts, Cert.InOddWgradReferenceIdeal.Gen.facts,
  Cert.Out.Gen.facts, Cert.OutIdeal.Gen.facts, Cert.OutReferenceIdeal.Gen.facts,
  Cert.OutGrad.Gen.facts, Cert.OutGradIdeal.Gen.facts, Cert.OutGradReferenceIdeal.Gen.facts,
  Cert.OutWgrad.Gen.facts, Cert.OutWgradIdeal.Gen.facts, Cert.OutWgradReferenceIdeal.Gen.facts,
  Cert.AttGrad.Gen.facts, Cert.AttGradIdeal.Gen.facts, Cert.AttGradReferenceIdeal.Gen.facts,
  Cert.Att.Gen.facts, Cert.AttIdeal.Gen.facts, Cert.AttReferenceIdeal.Gen.facts,
  Cert.AdamEvenIn.Gen.facts, Cert.AdamEvenInIdeal.Gen.facts, Cert.AdamEvenInReferenceIdeal.Gen.facts,
  Cert.AdamOddIn.Gen.facts, Cert.AdamOddInIdeal.Gen.facts, Cert.AdamOddInReferenceIdeal.Gen.facts,
  Cert.AdamOut.Gen.facts, Cert.AdamOutIdeal.Gen.facts, Cert.AdamOutReferenceIdeal.Gen.facts,
  Cert.AdamMod.Gen.facts, Cert.AdamModIdeal.Gen.facts, Cert.AdamModReferenceIdeal.Gen.facts,
  Cert.AdamSmall.Gen.facts, Cert.AdamSmallIdeal.Gen.facts, Cert.AdamSmallReferenceIdeal.Gen.facts,
  Cert.Pre_finite.Gen.facts, Cert.Pre_att_finite.Gen.facts, Cert.Pre_att_fwd_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Forward.Gen.frame m ρ, fun m ρ _ => Cert.ForwardIdeal.Gen.frame m ρ, frame_forward_ref,
  fun m ρ _ => Cert.WgradIn.Gen.frame m ρ, fun m ρ _ => Cert.WgradInIdeal.Gen.frame m ρ, frame_wgrad_in_ref,
  fun m ρ _ => Cert.WgradOut.Gen.frame m ρ, fun m ρ _ => Cert.WgradOutIdeal.Gen.frame m ρ, frame_wgrad_out_ref,
  fun m ρ _ => Cert.InEven.Gen.frame m ρ, fun m ρ _ => Cert.InEvenIdeal.Gen.frame m ρ, frame_in_even_ref,
  fun m ρ _ => Cert.InOdd.Gen.frame m ρ, fun m ρ _ => Cert.InOddIdeal.Gen.frame m ρ, frame_in_odd_ref,
  fun m ρ _ => Cert.InEvenGrad.Gen.frame m ρ, fun m ρ _ => Cert.InEvenGradIdeal.Gen.frame m ρ, frame_in_even_grad_ref,
  fun m ρ _ => Cert.InOddGrad.Gen.frame m ρ, fun m ρ _ => Cert.InOddGradIdeal.Gen.frame m ρ, frame_in_odd_grad_ref,
  fun m ρ _ => Cert.InEvenWgrad.Gen.frame m ρ, fun m ρ _ => Cert.InEvenWgradIdeal.Gen.frame m ρ, frame_in_even_wgrad_ref,
  fun m ρ _ => Cert.InOddWgrad.Gen.frame m ρ, fun m ρ _ => Cert.InOddWgradIdeal.Gen.frame m ρ, frame_in_odd_wgrad_ref,
  fun m ρ _ => Cert.Out.Gen.frame m ρ, fun m ρ _ => Cert.OutIdeal.Gen.frame m ρ, frame_out_ref,
  fun m ρ _ => Cert.OutGrad.Gen.frame m ρ, fun m ρ _ => Cert.OutGradIdeal.Gen.frame m ρ, frame_out_grad_ref,
  fun m ρ _ => Cert.OutWgrad.Gen.frame m ρ, fun m ρ _ => Cert.OutWgradIdeal.Gen.frame m ρ, frame_out_wgrad_ref,
  fun m ρ _ => Cert.AttGrad.Hand.frame m ρ, fun m ρ _ => Cert.AttGradIdeal.Hand.frame m ρ,
  fun m ρ _ => Cert.AttGradIdeal.Hand.frame m ρ, frame_att_grad_ref, fun m ρ _ => frame_att_grad_ref m ρ trivial,
  fun m ρ _ => Cert.Att.Gen.frame m ρ, fun m ρ _ => Cert.AttIdeal.Gen.frame m ρ,
  fun m ρ _ => Cert.AttIdeal.Gen.frame m ρ, frame_att_ref, fun m ρ _ => frame_att_ref m ρ trivial,
  fun m ρ _ => Cert.AdamEvenIn.Gen.frame m ρ, fun m ρ _ => Cert.AdamEvenInIdeal.Gen.frame m ρ, frame_AdamEvenIn_ref,
  fun m ρ _ => Cert.AdamOddIn.Gen.frame m ρ, fun m ρ _ => Cert.AdamOddInIdeal.Gen.frame m ρ, frame_AdamOddIn_ref,
  fun m ρ _ => Cert.AdamOut.Gen.frame m ρ, fun m ρ _ => Cert.AdamOutIdeal.Gen.frame m ρ, frame_AdamOut_ref,
  fun m ρ _ => Cert.AdamMod.Gen.frame m ρ, fun m ρ _ => Cert.AdamModIdeal.Gen.frame m ρ, frame_AdamMod_ref,
  fun m ρ _ => Cert.AdamSmall.Gen.frame m ρ, fun m ρ _ => Cert.AdamSmallIdeal.Gen.frame m ρ, frame_AdamSmall_ref,
  trivial, Ffn.algebraic, trivial, Ffn.Forward.algebraic, trivial, Ffn.WgradIn.algebraic, trivial, Ffn.WgradOut.algebraic,
  trivial, Proj.InEven.algebraic, trivial, Proj.InOdd.algebraic, trivial, Proj.InEvenGrad.algebraic,
  trivial, Proj.InOddGrad.algebraic, trivial, Proj.InEvenWgrad.algebraic, trivial, Proj.InOddWgrad.algebraic,
  trivial, Proj.Out.algebraic, trivial, Proj.OutGrad.algebraic, trivial, Proj.OutWgrad.algebraic,
  preserves_att_grad, Att.algebraic, preserves_att, Att.Fwd.algebraic,
  trivial, Adam.EvenIn.algebraic,
  trivial, Adam.OddIn.algebraic,
  trivial, Adam.Out.algebraic,
  trivial, Adam.Mod.algebraic,
  trivial, Adam.Small.algebraic⟩

end Cert.Proof

end
